-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_dact_finite [hPre_dact_finite : Cert.Pre_dact_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_dact_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_dact_finite [hPre_dact_finite : Cert.Pre_dact_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_dact_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_up_finite [hPre_up_finite : Cert.Pre_up_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_up_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_up_finite [hPre_up_finite : Cert.Pre_up_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_up_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_scores_finite [hPre_scores_finite : Cert.Pre_scores_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_scores_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_scores_finite [hPre_scores_finite : Cert.Pre_scores_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_scores_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_attend_finite [hPre_attend_finite : Cert.Pre_attend_finite.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_attend_finite.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_attend_finite [hPre_attend_finite : Cert.Pre_attend_finite.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_attend_finite.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2))) = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_attend_finite [hPre_attend_finite : Cert.Pre_attend_finite.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_attend_finite.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_attend_finite [hPre_attend_finite : Cert.Pre_attend_finite.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_attend_finite.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_dact_finite [hPre_dact_finite : Cert.Pre_dact_finite.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_dact_finite.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2)) (m ((c.tc : Thread Cert.Kernel26Ideal.nD Cert.Kernel26Ideal.τ).loc Cert.Kernel26Ideal.main_arg3)) (m ((c.tc : Thread Cert.Kernel26Ideal.nD Cert.Kernel26Ideal.τ).loc Cert.Kernel26Ideal.main_arg4))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_dact_finite [hPre_dact_finite : Cert.Pre_dact_finite.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_dact_finite.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2)) (m ((c.tc : Thread Cert.Reference26Ideal.nD Cert.Reference26Ideal.τ).loc Cert.Reference26Ideal.main_arg3)) (m ((c.tc : Thread Cert.Reference26Ideal.nD Cert.Reference26Ideal.τ).loc Cert.Reference26Ideal.main_arg4))) = (fun _ => 1#1)

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_up_finite [hPre_up_finite : Cert.Pre_up_finite.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_up_finite.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_up_finite [hPre_up_finite : Cert.Pre_up_finite.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_up_finite.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_dact_finite [hKernel2Ideal : Cert.Kernel2Ideal.Facts] [hPre_dact_finite : Cert.Pre_dact_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_dact_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_dact_finite [hReference2Ideal : Cert.Reference2Ideal.Facts] [hPre_dact_finite : Cert.Pre_dact_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_dact_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_up_finite [hKernel5Ideal : Cert.Kernel5Ideal.Facts] [hPre_up_finite : Cert.Pre_up_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_up_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_up_finite [hReference5Ideal : Cert.Reference5Ideal.Facts] [hPre_up_finite : Cert.Pre_up_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_up_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_scores_finite [hKernel6Ideal : Cert.Kernel6Ideal.Facts] [hPre_scores_finite : Cert.Pre_scores_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_scores_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_scores_finite [hReference6Ideal : Cert.Reference6Ideal.Facts] [hPre_scores_finite : Cert.Pre_scores_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_scores_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Kernel13Ideal_pre_attend_finite [hKernel13Ideal : Cert.Kernel13Ideal.Facts] [hPre_attend_finite : Cert.Pre_attend_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_attend_finite m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Reference13Ideal_pre_attend_finite [hReference13Ideal : Cert.Reference13Ideal.Facts] [hPre_attend_finite : Cert.Pre_attend_finite.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_attend_finite m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Kernel14Ideal_pre_attend_finite [hKernel14Ideal : Cert.Kernel14Ideal.Facts] [hPre_attend_finite : Cert.Pre_attend_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_attend_finite m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Reference14Ideal_pre_attend_finite [hReference14Ideal : Cert.Reference14Ideal.Facts] [hPre_attend_finite : Cert.Pre_attend_finite.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_attend_finite m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Kernel26Ideal_pre_dact_finite [hKernel26Ideal : Cert.Kernel26Ideal.Facts] [hPre_dact_finite : Cert.Pre_dact_finite.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_dact_finite m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Reference26Ideal_pre_dact_finite [hReference26Ideal : Cert.Reference26Ideal.Facts] [hPre_dact_finite : Cert.Pre_dact_finite.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_dact_finite m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Kernel29Ideal_pre_up_finite [hKernel29Ideal : Cert.Kernel29Ideal.Facts] [hPre_up_finite : Cert.Pre_up_finite.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_up_finite m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_up_finite [hReference29Ideal : Cert.Reference29Ideal.Facts] [hPre_up_finite : Cert.Pre_up_finite.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_up_finite m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3)
      ∧ r.2.mem ((c.tc : Thread Cert.Kernel37.nD Cert.Kernel37.τ).loc Cert.Kernel37.main_arg4) = m ((c.tc : Thread Cert.Kernel37.nD Cert.Kernel37.τ).loc Cert.Kernel37.main_arg4))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
      ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3)
      ∧ r.2.mem ((c.tc : Thread Cert.Reference37Ideal.nD Cert.Reference37Ideal.τ).loc Cert.Reference37Ideal.main_arg4) = m ((c.tc : Thread Cert.Reference37Ideal.nD Cert.Reference37Ideal.τ).loc Cert.Reference37Ideal.main_arg4))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3)
      ∧ r.2.mem ((c.tc : Thread Cert.Kernel38.nD Cert.Kernel38.τ).loc Cert.Kernel38.main_arg4) = m ((c.tc : Thread Cert.Kernel38.nD Cert.Kernel38.τ).loc Cert.Kernel38.main_arg4)
      ∧ r.2.mem ((c.tc : Thread Cert.Kernel38.nD Cert.Kernel38.τ).loc Cert.Kernel38.main_arg5) = m ((c.tc : Thread Cert.Kernel38.nD Cert.Kernel38.τ).loc Cert.Kernel38.main_arg5))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
      ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
      ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3)
      ∧ r.2.mem ((c.tc : Thread Cert.Reference38Ideal.nD Cert.Reference38Ideal.τ).loc Cert.Reference38Ideal.main_arg4) = m ((c.tc : Thread Cert.Reference38Ideal.nD Cert.Reference38Ideal.τ).loc Cert.Reference38Ideal.main_arg4)
      ∧ r.2.mem ((c.tc : Thread Cert.Reference38Ideal.nD Cert.Reference38Ideal.τ).loc Cert.Reference38Ideal.main_arg5) = m ((c.tc : Thread Cert.Reference38Ideal.nD Cert.Reference38Ideal.τ).loc Cert.Reference38Ideal.main_arg5))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_v161) = v2 c
          ∧ r.2.mem ((c.tc : Thread Cert.ReferenceIdeal.nD Cert.ReferenceIdeal.τ).loc Cert.ReferenceIdeal.main_v162) = v3 c
          ∧ r.2.mem ((c.tc : Thread Cert.ReferenceIdeal.nD Cert.ReferenceIdeal.τ).loc Cert.ReferenceIdeal.main_v163) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_dact_finite [hKernel2Ideal : Cert.Kernel2Ideal.Facts] [hReference2Ideal : Cert.Reference2Ideal.Facts] [hPre_dact_finite : Cert.Pre_dact_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_dact_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v20_0)) (v1 : (c : Dev Cert.Kernel2Ideal.nD) → Buf (Elt Ideal) ((c.tc : Thread Cert.Kernel2Ideal.nD Cert.Kernel2Ideal.τ).loc Cert.Kernel2Ideal.main_v20_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v20_0) = v0 c
          ∧ r.2.mem ((c.tc : Thread Cert.Kernel2Ideal.nD Cert.Kernel2Ideal.τ).loc Cert.Kernel2Ideal.main_v20_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v22) = v0 c
          ∧ r.2.mem ((c.tc : Thread Cert.Reference2Ideal.nD Cert.Reference2Ideal.τ).loc Cert.Reference2Ideal.main_v23) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v15) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal_pre_up_finite [hKernel5Ideal : Cert.Kernel5Ideal.Facts] [hReference5Ideal : Cert.Reference5Ideal.Facts] [hPre_up_finite : Cert.Pre_up_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_up_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_v19) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_scores_finite [hKernel6Ideal : Cert.Kernel6Ideal.Facts] [hReference6Ideal : Cert.Reference6Ideal.Facts] [hPre_scores_finite : Cert.Pre_scores_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_scores_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v94) = v1 c
          ∧ r.2.mem ((c.tc : Thread Cert.Reference6Ideal.nD Cert.Reference6Ideal.τ).loc Cert.Reference6Ideal.main_v95) = v2 c
          ∧ r.2.mem ((c.tc : Thread Cert.Reference6Ideal.nD Cert.Reference6Ideal.τ).loc Cert.Reference6Ideal.main_v96) = v3 c
          ∧ r.2.mem ((c.tc : Thread Cert.Reference6Ideal.nD Cert.Reference6Ideal.τ).loc Cert.Reference6Ideal.main_v97) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v165) = v0 c
          ∧ r.2.mem ((c.tc : Thread Cert.Reference7Ideal.nD Cert.Reference7Ideal.τ).loc Cert.Reference7Ideal.main_v137) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v18) = v0 c
          ∧ r.2.mem ((c.tc : Thread Cert.Reference12Ideal.nD Cert.Reference12Ideal.τ).loc Cert.Reference12Ideal.main_v19) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal_pre_attend_finite [hKernel13Ideal : Cert.Kernel13Ideal.Facts] [hReference13Ideal : Cert.Reference13Ideal.Facts] [hPre_attend_finite : Cert.Pre_attend_finite.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_attend_finite m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v59) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal_pre_attend_finite [hKernel14Ideal : Cert.Kernel14Ideal.Facts] [hReference14Ideal : Cert.Reference14Ideal.Facts] [hPre_attend_finite : Cert.Pre_attend_finite.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_attend_finite m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v40) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v2) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v14) = v0 c
          ∧ r.2.mem ((c.tc : Thread Cert.Reference25Ideal.nD Cert.Reference25Ideal.τ).loc Cert.Reference25Ideal.main_v15) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal_pre_dact_finite [hKernel26Ideal : Cert.Kernel26Ideal.Facts] [hReference26Ideal : Cert.Reference26Ideal.Facts] [hPre_dact_finite : Cert.Pre_dact_finite.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_dact_finite m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v20_0)) (v1 : (c : Dev Cert.Kernel26Ideal.nD) → Buf (Elt Ideal) ((c.tc : Thread Cert.Kernel26Ideal.nD Cert.Kernel26Ideal.τ).loc Cert.Kernel26Ideal.main_v20_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v20_0) = v0 c
          ∧ r.2.mem ((c.tc : Thread Cert.Kernel26Ideal.nD Cert.Kernel26Ideal.τ).loc Cert.Kernel26Ideal.main_v20_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v22) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v15) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal_pre_up_finite [hKernel29Ideal : Cert.Kernel29Ideal.Facts] [hReference29Ideal : Cert.Reference29Ideal.Facts] [hPre_up_finite : Cert.Pre_up_finite.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_up_finite m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v17) = v0 c
          ∧ r.2.mem ((c.tc : Thread Cert.Reference29Ideal.nD Cert.Reference29Ideal.τ).loc Cert.Reference29Ideal.main_v18) = v1 c
          ∧ r.2.mem ((c.tc : Thread Cert.Reference29Ideal.nD Cert.Reference29Ideal.τ).loc Cert.Reference29Ideal.main_v19) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v18) = v0 c
          ∧ r.2.mem ((c.tc : Thread Cert.Reference30Ideal.nD Cert.Reference30Ideal.τ).loc Cert.Reference30Ideal.main_v19) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v74) = v0 c
          ∧ r.2.mem ((c.tc : Thread Cert.Reference31Ideal.nD Cert.Reference31Ideal.τ).loc Cert.Reference31Ideal.main_v56) = v1 c
          ∧ r.2.mem ((c.tc : Thread Cert.Reference31Ideal.nD Cert.Reference31Ideal.τ).loc Cert.Reference31Ideal.main_v37) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v66) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v36) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v36) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v36) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0_0)) (v1 : (c : Dev Cert.Kernel36Ideal.nD) → Buf (Elt Ideal) ((c.tc : Thread Cert.Kernel36Ideal.nD Cert.Kernel36Ideal.τ).loc Cert.Kernel36Ideal.main_v0_1)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0_0) = v0 c
          ∧ r.2.mem ((c.tc : Thread Cert.Kernel36Ideal.nD Cert.Kernel36Ideal.τ).loc Cert.Kernel36Ideal.main_v0_1) = v1 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v27) = v0 c
          ∧ r.2.mem ((c.tc : Thread Cert.Reference36Ideal.nD Cert.Reference36Ideal.τ).loc Cert.Reference36Ideal.main_v28) = v1 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)
      ∧ m' ((c.tc : Thread Cert.Reference37Ideal.nD Cert.Reference37Ideal.τ).loc Cert.Reference37Ideal.main_arg4) = m ((c.tc : Thread Cert.Kernel37Ideal.nD Cert.Kernel37Ideal.τ).loc Cert.Kernel37Ideal.main_arg4)) →
    ∃ (v0 : (c : Dev Cert.Kernel37Ideal.nD) → Buf (Elt Ideal) ((c.tc : Thread Cert.Kernel37Ideal.nD Cert.Kernel37Ideal.τ).loc Cert.Kernel37Ideal.main_v4)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v4) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3)
          ∧ r.2.mem ((c.tc : Thread Cert.Kernel37Ideal.nD Cert.Kernel37Ideal.τ).loc Cert.Kernel37Ideal.main_arg4) = m ((c.tc : Thread Cert.Kernel37Ideal.nD Cert.Kernel37Ideal.τ).loc Cert.Kernel37Ideal.main_arg4))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v41) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3)
          ∧ r.2.mem ((c.tc : Thread Cert.Reference37Ideal.nD Cert.Reference37Ideal.τ).loc Cert.Reference37Ideal.main_arg4) = m' ((c.tc : Thread Cert.Reference37Ideal.nD Cert.Reference37Ideal.τ).loc Cert.Reference37Ideal.main_arg4))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)
      ∧ m' ((c.tc : Thread Cert.Reference38Ideal.nD Cert.Reference38Ideal.τ).loc Cert.Reference38Ideal.main_arg4) = m ((c.tc : Thread Cert.Kernel38Ideal.nD Cert.Kernel38Ideal.τ).loc Cert.Kernel38Ideal.main_arg4)
      ∧ m' ((c.tc : Thread Cert.Reference38Ideal.nD Cert.Reference38Ideal.τ).loc Cert.Reference38Ideal.main_arg5) = m ((c.tc : Thread Cert.Kernel38Ideal.nD Cert.Kernel38Ideal.τ).loc Cert.Kernel38Ideal.main_arg5)) →
    ∃ (v0 : (c : Dev Cert.Kernel38Ideal.nD) → Buf (Elt Ideal) ((c.tc : Thread Cert.Kernel38Ideal.nD Cert.Kernel38Ideal.τ).loc Cert.Kernel38Ideal.main_v4)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3)
          ∧ r.2.mem ((c.tc : Thread Cert.Kernel38Ideal.nD Cert.Kernel38Ideal.τ).loc Cert.Kernel38Ideal.main_arg4) = m ((c.tc : Thread Cert.Kernel38Ideal.nD Cert.Kernel38Ideal.τ).loc Cert.Kernel38Ideal.main_arg4)
          ∧ r.2.mem ((c.tc : Thread Cert.Kernel38Ideal.nD Cert.Kernel38Ideal.τ).loc Cert.Kernel38Ideal.main_arg5) = m ((c.tc : Thread Cert.Kernel38Ideal.nD Cert.Kernel38Ideal.τ).loc Cert.Kernel38Ideal.main_arg5))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v42) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3)
          ∧ r.2.mem ((c.tc : Thread Cert.Reference38Ideal.nD Cert.Reference38Ideal.τ).loc Cert.Reference38Ideal.main_arg4) = m' ((c.tc : Thread Cert.Reference38Ideal.nD Cert.Reference38Ideal.τ).loc Cert.Reference38Ideal.main_arg4)
          ∧ r.2.mem ((c.tc : Thread Cert.Reference38Ideal.nD Cert.Reference38Ideal.τ).loc Cert.Reference38Ideal.main_arg5) = m' ((c.tc : Thread Cert.Reference38Ideal.nD Cert.Reference38Ideal.τ).loc Cert.Reference38Ideal.main_arg5))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v4_0)) (v1 : (c : Dev Cert.Kernel39Ideal.nD) → Buf (Elt Ideal) ((c.tc : Thread Cert.Kernel39Ideal.nD Cert.Kernel39Ideal.τ).loc Cert.Kernel39Ideal.main_v4_1)) (v2 : (c : Dev Cert.Kernel39Ideal.nD) → Buf (Elt Ideal) ((c.tc : Thread Cert.Kernel39Ideal.nD Cert.Kernel39Ideal.τ).loc Cert.Kernel39Ideal.main_v4_2)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v4_0) = v0 c
          ∧ r.2.mem ((c.tc : Thread Cert.Kernel39Ideal.nD Cert.Kernel39Ideal.τ).loc Cert.Kernel39Ideal.main_v4_1) = v1 c
          ∧ r.2.mem ((c.tc : Thread Cert.Kernel39Ideal.nD Cert.Kernel39Ideal.τ).loc Cert.Kernel39Ideal.main_v4_2) = v2 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v24) = v0 c
          ∧ r.2.mem ((c.tc : Thread Cert.Reference39Ideal.nD Cert.Reference39Ideal.τ).loc Cert.Reference39Ideal.main_v25) = v1 c
          ∧ r.2.mem ((c.tc : Thread Cert.Reference39Ideal.nD Cert.Reference39Ideal.τ).loc Cert.Reference39Ideal.main_v26) = v2 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hPre_scores_finite : Cert.Pre_scores_finite.Facts) (hPre_dact_finite : Cert.Pre_dact_finite.Facts) (hPre_up_finite : Cert.Pre_up_finite.Facts) (hPre_attend_finite : Cert.Pre_attend_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Kernel2Ideal_pre_dact_finite (hKernel2Ideal := hKernel2Ideal) (hPre_dact_finite := hPre_dact_finite)
    ∧ quiescent_Reference2Ideal (hReference2Ideal := hReference2Ideal)
    ∧ quiescent_Reference2Ideal_pre_dact_finite (hReference2Ideal := hReference2Ideal) (hPre_dact_finite := hPre_dact_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_up_finite (hKernel5Ideal := hKernel5Ideal) (hPre_up_finite := hPre_up_finite)
    ∧ quiescent_Reference5Ideal (hReference5Ideal := hReference5Ideal)
    ∧ quiescent_Reference5Ideal_pre_up_finite (hReference5Ideal := hReference5Ideal) (hPre_up_finite := hPre_up_finite)
    ∧ quiescent_Kernel6 (hKernel6 := hKernel6)
    ∧ quiescent_Kernel6Ideal (hKernel6Ideal := hKernel6Ideal)
    ∧ quiescent_Kernel6Ideal_pre_scores_finite (hKernel6Ideal := hKernel6Ideal) (hPre_scores_finite := hPre_scores_finite)
    ∧ quiescent_Reference6Ideal (hReference6Ideal := hReference6Ideal)
    ∧ quiescent_Reference6Ideal_pre_scores_finite (hReference6Ideal := hReference6Ideal) (hPre_scores_finite := hPre_scores_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_attend_finite (hKernel13Ideal := hKernel13Ideal) (hPre_attend_finite := hPre_attend_finite)
    ∧ quiescent_Reference13Ideal (hReference13Ideal := hReference13Ideal)
    ∧ quiescent_Reference13Ideal_pre_attend_finite (hReference13Ideal := hReference13Ideal) (hPre_attend_finite := hPre_attend_finite)
    ∧ quiescent_Kernel14 (hKernel14 := hKernel14)
    ∧ quiescent_Kernel14Ideal (hKernel14Ideal := hKernel14Ideal)
    ∧ quiescent_Kernel14Ideal_pre_attend_finite (hKernel14Ideal := hKernel14Ideal) (hPre_attend_finite := hPre_attend_finite)
    ∧ quiescent_Reference14Ideal (hReference14Ideal := hReference14Ideal)
    ∧ quiescent_Reference14Ideal_pre_attend_finite (hReference14Ideal := hReference14Ideal) (hPre_attend_finite := hPre_attend_finite)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_dact_finite (hKernel26Ideal := hKernel26Ideal) (hPre_dact_finite := hPre_dact_finite)
    ∧ quiescent_Reference26Ideal (hReference26Ideal := hReference26Ideal)
    ∧ quiescent_Reference26Ideal_pre_dact_finite (hReference26Ideal := hReference26Ideal) (hPre_dact_finite := hPre_dact_finite)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_up_finite (hKernel29Ideal := hKernel29Ideal) (hPre_up_finite := hPre_up_finite)
    ∧ quiescent_Reference29Ideal (hReference29Ideal := hReference29Ideal)
    ∧ quiescent_Reference29Ideal_pre_up_finite (hReference29Ideal := hReference29Ideal) (hPre_up_finite := hPre_up_finite)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal_pre_dact_finite (hKernel2Ideal := hKernel2Ideal) (hReference2Ideal := hReference2Ideal) (hPre_dact_finite := hPre_dact_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_up_finite (hKernel5Ideal := hKernel5Ideal) (hReference5Ideal := hReference5Ideal) (hPre_up_finite := hPre_up_finite)
    ∧ preserves_Kernel6_Kernel6Ideal
    ∧ algebraic_Kernel6Ideal_Reference6Ideal_pre_scores_finite (hKernel6Ideal := hKernel6Ideal) (hReference6Ideal := hReference6Ideal) (hPre_scores_finite := hPre_scores_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_attend_finite (hKernel13Ideal := hKernel13Ideal) (hReference13Ideal := hReference13Ideal) (hPre_attend_finite := hPre_attend_finite)
    ∧ preserves_Kernel14_Kernel14Ideal
    ∧ algebraic_Kernel14Ideal_Reference14Ideal_pre_attend_finite (hKernel14Ideal := hKernel14Ideal) (hReference14Ideal := hReference14Ideal) (hPre_attend_finite := hPre_attend_finite)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_dact_finite (hKernel26Ideal := hKernel26Ideal) (hReference26Ideal := hReference26Ideal) (hPre_dact_finite := hPre_dact_finite)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_up_finite (hKernel29Ideal := hKernel29Ideal) (hReference29Ideal := hReference29Ideal) (hPre_up_finite := hPre_up_finite)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
-- ==== Pre_attend_finite.lean ====
abbrev S4608x2048 : Shape := ⟨2, ![4608, 2048]⟩
abbrev S_ : Shape := ⟨0, ![]⟩

class Facts : Prop where
  bcast_S_S4608x2048 : S_.BroadcastsInDim S4608x2048 (![] : Fin 0 → Fin S4608x2048.rank)

variable [Facts]

def fn {F : FTy → Type} [FloatOps F] (main_arg0 : FVec F S4608x2048 .bf16) (main_arg1 : FVec F S4608x2048 .bf16) (main_arg2 : FVec F S4608x2048 .bf16) : IVec S4608x2048 1 :=
  let main_v0 : FVec F S4608x2048 .bf16 := Host.absf main_arg0
  let main_cst : FVec F S_ .bf16 := constant S_ .bf16 0x7F80#16
  let main_v1 : FVec F S4608x2048 .bf16 := broadcastInDim S4608x2048 ![] bcast_S_S4608x2048 main_cst
  let main_v2 : IVec S4608x2048 1 := cmpf .olt main_v0 main_v1
  let main_v3 : FVec F S4608x2048 .bf16 := Host.absf main_arg1
  let main_cst_0 : FVec F S_ .bf16 := constant S_ .bf16 0x7F80#16
  let main_v4 : FVec F S4608x2048 .bf16 := broadcastInDim S4608x2048 ![] bcast_S_S4608x2048 main_cst_0
  let main_v5 : IVec S4608x2048 1 := cmpf .olt main_v3 main_v4
  let main_v6 : IVec S4608x2048 1 := andi main_v2 main_v5
  main_v6
-- ==== Pre_dact_finite.lean ====
abbrev S4608x1024 : Shape := ⟨2, ![4608, 1024]⟩
abbrev S2x2816x1024 : Shape := ⟨3, ![2, 2816, 1024]⟩
abbrev S_ : Shape := ⟨0, ![]⟩

class Facts : Prop where
  bcast_S_S4608x1024 : S_.BroadcastsInDim S4608x1024 (![] : Fin 0 → Fin S4608x1024.rank)
  reducesTo_S4608x1024_S_d0_1 : S4608x1024.ReducesTo [0, 1] S_
  h_S_ : 0 < S_.numel
  bcast_S_S2x2816x1024 : S_.BroadcastsInDim S2x2816x1024 (![] : Fin 0 → Fin S2x2816x1024.rank)
  reducesTo_S2x2816x1024_S_d0_1_2 : S2x2816x1024.ReducesTo [0, 1, 2] S_

variable [Facts]

def fn_part1 {F : FTy → Type} [FloatOps F] (main_v13 : IVec S_ 1) (main_v16 : IVec S2x2816x1024 1) : IVec S_ 1 :=
  let main_c_5 : IVec S_ 1 := constantI S_ 1 1#1
  let main_v17 : IVec S_ 1 := (fun x v => Host.reduce IntOp.andi x v reducesTo_S2x2816x1024_S_d0_1_2 h_S_) main_v16 main_c_5
  let main_v18 : IVec S_ 1 := andi main_v13 main_v17
  main_v18

def fn {F : FTy → Type} [FloatOps F] (main_arg0 : FVec F S4608x1024 .bf16) (main_arg1 : FVec F S4608x1024 .bf16) (main_arg2 : FVec F S2x2816x1024 .bf16) (main_arg3 : FVec F S2x2816x1024 .bf16) (main_arg4 : FVec F S2x2816x1024 .bf16) : IVec S_ 1 :=
  let main_v0 : FVec F S4608x1024 .bf16 := Host.absf main_arg0
  let main_cst : FVec F S_ .bf16 := constant S_ .bf16 0x7F80#16
  let main_v1 : FVec F S4608x1024 .bf16 := broadcastInDim S4608x1024 ![] bcast_S_S4608x1024 main_cst
  let main_v2 : IVec S4608x1024 1 := cmpf .olt main_v0 main_v1
  let main_c : IVec S_ 1 := constantI S_ 1 1#1
  let main_v3 : IVec S_ 1 := (fun x v => Host.reduce IntOp.andi x v reducesTo_S4608x1024_S_d0_1 h_S_) main_v2 main_c
  let main_v4 : FVec F S4608x1024 .bf16 := Host.absf main_arg1
  let main_cst_0 : FVec F S_ .bf16 := constant S_ .bf16 0x7F80#16
  let main_v5 : FVec F S4608x1024 .bf16 := broadcastInDim S4608x1024 ![] bcast_S_S4608x1024 main_cst_0
  let main_v6 : IVec S4608x1024 1 := cmpf .olt main_v4 main_v5
  let main_c_1 : IVec S_ 1 := constantI S_ 1 1#1
  let main_v7 : IVec S_ 1 := (fun x v => Host.reduce IntOp.andi x v reducesTo_S4608x1024_S_d0_1 h_S_) main_v6 main_c_1
  let main_v8 : IVec S_ 1 := andi main_v3 main_v7
  let main_v9 : FVec F S2x2816x1024 .bf16 := Host.absf main_arg3
  let main_cst_2 : FVec F S_ .bf16 := constant S_ .bf16 0x7F80#16
  let main_v10 : FVec F S2x2816x1024 .bf16 := broadcastInDim S2x2816x1024 ![] bcast_S_S2x2816x1024 main_cst_2
  let main_v11 : IVec S2x2816x1024 1 := cmpf .olt main_v9 main_v10
  let main_c_3 : IVec S_ 1 := constantI S_ 1 1#1
  let main_v12 : IVec S_ 1 := (fun x v => Host.reduce IntOp.andi x v reducesTo_S2x2816x1024_S_d0_1_2 h_S_) main_v11 main_c_3
  let main_v13 : IVec S_ 1 := andi main_v8 main_v12
  let main_v14 : FVec F S2x2816x1024 .bf16 := Host.absf main_arg4
  let main_cst_4 : FVec F S_ .bf16 := constant S_ .bf16 0x7F80#16
  let main_v15 : FVec F S2x2816x1024 .bf16 := broadcastInDim S2x2816x1024 ![] bcast_S_S2x2816x1024 main_cst_4
  let main_v16 : IVec S2x2816x1024 1 := cmpf .olt main_v14 main_v15
  fn_part1 (F := F) main_v13 main_v16
-- ==== Pre_scores_finite.lean ====
abbrev S4608x2048 : Shape := ⟨2, ![4608, 2048]⟩
abbrev S4608x1024 : Shape := ⟨2, ![4608, 1024]⟩
abbrev S_ : Shape := ⟨0, ![]⟩

class Facts : Prop where
  bcast_S_S4608x2048 : S_.BroadcastsInDim S4608x2048 (![] : Fin 0 → Fin S4608x2048.rank)

variable [Facts]

def fn {F : FTy → Type} [FloatOps F] (main_arg0 : FVec F S4608x2048 .bf16) (main_arg1 : FVec F S4608x2048 .bf16) (main_arg2 : FVec F S4608x2048 .bf16) (main_arg3 : FVec F S4608x1024 .bf16) : IVec S4608x2048 1 :=
  let main_v0 : FVec F S4608x2048 .bf16 := Host.absf main_arg0
  let main_cst : FVec F S_ .bf16 := constant S_ .bf16 0x7F80#16
  let main_v1 : FVec F S4608x2048 .bf16 := broadcastInDim S4608x2048 ![] bcast_S_S4608x2048 main_cst
  let main_v2 : IVec S4608x2048 1 := cmpf .olt main_v0 main_v1
  let main_v3 : FVec F S4608x2048 .bf16 := Host.absf main_arg1
  let main_cst_0 : FVec F S_ .bf16 := constant S_ .bf16 0x7F80#16
  let main_v4 : FVec F S4608x2048 .bf16 := broadcastInDim S4608x2048 ![] bcast_S_S4608x2048 main_cst_0
  let main_v5 : IVec S4608x2048 1 := cmpf .olt main_v3 main_v4
  let main_v6 : IVec S4608x2048 1 := andi main_v2 main_v5
  main_v6
-- ==== Pre_up_finite.lean ====
abbrev S4608x1024 : Shape := ⟨2, ![4608, 1024]⟩
abbrev S2x2816x1024 : Shape := ⟨3, ![2, 2816, 1024]⟩
abbrev S_ : Shape := ⟨0, ![]⟩

class Facts : Prop where
  bcast_S_S4608x1024 : S_.BroadcastsInDim S4608x1024 (![] : Fin 0 → Fin S4608x1024.rank)
  reducesTo_S4608x1024_S_d0_1 : S4608x1024.ReducesTo [0, 1] S_
  h_S_ : 0 < S_.numel
  bcast_S_S2x2816x1024 : S_.BroadcastsInDim S2x2816x1024 (![] : Fin 0 → Fin S2x2816x1024.rank)
  reducesTo_S2x2816x1024_S_d0_1_2 : S2x2816x1024.ReducesTo [0, 1, 2] S_

variable [Facts]

def fn {F : FTy → Type} [FloatOps F] (main_arg0 : FVec F S4608x1024 .bf16) (main_arg1 : FVec F S2x2816x1024 .bf16) (main_arg2 : FVec F S2x2816x1024 .bf16) : IVec S_ 1 :=
  let main_v0 : FVec F S4608x1024 .bf16 := Host.absf main_arg0
  let main_cst : FVec F S_ .bf16 := constant S_ .bf16 0x7F80#16
  let main_v1 : FVec F S4608x1024 .bf16 := broadcastInDim S4608x1024 ![] bcast_S_S4608x1024 main_cst
  let main_v2 : IVec S4608x1024 1 := cmpf .olt main_v0 main_v1
  let main_c : IVec S_ 1 := constantI S_ 1 1#1
  let main_v3 : IVec S_ 1 := (fun x v => Host.reduce IntOp.andi x v reducesTo_S4608x1024_S_d0_1 h_S_) main_v2 main_c
  let main_v4 : FVec F S2x2816x1024 .bf16 := Host.absf main_arg2
  let main_cst_0 : FVec F S_ .bf16 := constant S_ .bf16 0x7F80#16
  let main_v5 : FVec F S2x2816x1024 .bf16 := broadcastInDim S2x2816x1024 ![] bcast_S_S2x2816x1024 main_cst_0
  let main_v6 : IVec S2x2816x1024 1 := cmpf .olt main_v4 main_v5
  let main_c_1 : IVec S_ 1 := constantI S_ 1 1#1
  let main_v7 : IVec S_ 1 := (fun x v => Host.reduce IntOp.andi x v reducesTo_S2x2816x1024_S_d0_1_2 h_S_) main_v6 main_c_1
  let main_v8 : IVec S_ 1 := andi main_v3 main_v7
  main_v8
-- ==== Kernel.lean ====
abbrev S4608x2048 : Shape := ⟨2, ![4608, 2048]⟩
abbrev S4608x1024 : Shape := ⟨2, ![4608, 1024]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S256x256 : Shape := ⟨2, ![256, 256]⟩
abbrev S2048x256 : Shape := ⟨2, ![2048, 256]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 26
  | .smem => 0
  | _ => 0

abbrev bufTy : (tb : Table) → Fin (tcTables nBuf tb) → BufTy
  | .hbm, ⟨0, _⟩ => ⟨S4608x2048, .bf16⟩
  | .hbm, ⟨1, _⟩ => ⟨S4608x2048, .bf16⟩
  | .hbm, ⟨2, _⟩ => ⟨S4608x2048, .bf16⟩
  | .hbm, ⟨3, _⟩ => ⟨S4608x1024, .bf16⟩
  | .hbm, ⟨4, _⟩ => ⟨S4608x2048, .bf16⟩
  | .hbm, ⟨5, _⟩ => ⟨S4096x2048, .bf16⟩
  | .hbm, ⟨6, _⟩ => ⟨S512x2048, .bf16⟩
  | .hbm, ⟨7, _⟩ => ⟨S4096x1024, .bf16⟩
  | .hbm, ⟨8, _⟩ => ⟨S512x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | .local _ .vmem, ⟨12, _⟩ => ⟨S256x256, .bf16⟩
  | .local _ .vmem, ⟨13, _⟩ => ⟨S256x256, .bf16⟩
  | .local _ .vmem, ⟨14, _⟩ => ⟨S2048x256, .bf16⟩
  | .local _ .vmem, ⟨15, _⟩ => ⟨S2048x256, .bf16⟩
  | .local _ .vmem, ⟨16, _⟩ => ⟨S256x256, .bf16⟩
  | .local _ .vmem, ⟨17, _⟩ => ⟨S256x256, .bf16⟩
  | .local _ .vmem, ⟨18, _⟩ => ⟨S2048x128, .bf16⟩
  | .local _ .vmem, ⟨19, _⟩ => ⟨S2048x128, .bf16⟩
  | .local _ .vmem, ⟨20, _⟩ => ⟨S256x128, .bf16⟩
  | .local _ .vmem, ⟨21, _⟩ => ⟨S256x128, .bf16⟩
  | .local _ .vmem, ⟨22, _⟩ => ⟨S2048x256, .f32⟩
  | .local _ .vmem, ⟨23, _⟩ => ⟨S256x256, .f32⟩
  | .local _ .vmem, ⟨24, _⟩ => ⟨S2048x128, .f32⟩
  | .local _ .vmem, ⟨25, _⟩ => ⟨S256x128, .f32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .slt arg2 c8_i32
  let v12 : BitVec 32 := Scalar.extui v11
  let c0_i32_10 : BitVec 32 := 0#32
  let v13 : BitVec 1 := Scalar.cmpi .ne v12 c0_i32_10
  v13

def k0_cond3 (i : grid0.Coords) : BitVec 1 :=
  let arg2 : BitVec 32 := BitVec.ofNat 32 (i 2).val
  let c8_i32_11 : BitVec 32 := 8#32
  let v14 : BitVec 1 := Scalar.cmpi .eq arg2 c8_i32_11
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== ReferenceIdeal.lean ====
abbrev S4608x2048 : Shape := ⟨2, ![4608, 2048]⟩
abbrev S4608x1024 : Shape := ⟨2, ![4608, 1024]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S2x2048x8x256 : Shape := ⟨4, ![2, 2048, 8, 256]⟩
abbrev S2x8x2048x256 : Shape := ⟨4, ![2, 8, 2048, 256]⟩
abbrev S2x256x8x256 : Shape := ⟨4, ![2, 256, 8, 256]⟩
abbrev S2x8x256x256 : Shape := ⟨4, ![2, 8, 256, 256]⟩
abbrev S2x2048x8x128 : Shape := ⟨4, ![2, 2048, 8, 128]⟩
abbrev S2x8x2048x128 : Shape := ⟨4, ![2, 8, 2048, 128]⟩
abbrev S2x256x8x128 : Shape := ⟨4, ![2, 256, 8, 128]⟩
abbrev S2x8x256x128 : Shape := ⟨4, ![2, 8, 256, 128]⟩
abbrev S2x8x2304x256 : Shape := ⟨4, ![2, 8, 2304, 256]⟩
abbrev S2x8x2304x128 : Shape := ⟨4, ![2, 8, 2304, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x256 : Shape := ⟨3, ![2, 8, 256]⟩
abbrev S2x8x256x1 : Shape := ⟨4, ![2, 8, 256, 1]⟩
abbrev S2x8x128x256 : Shape := ⟨4, ![2, 8, 128, 256]⟩
abbrev S2x8x128x2304 : Shape := ⟨4, ![2, 8, 128, 2304]⟩

abbrev nBuf : Space → Nat
  | .hbm => 198
  | .vmem => 0
  | .smem => 0
  | _ => 0

abbrev hbmTy0_0 (i : Nat) : BufTy := match i % 128 with
  | 0 => ⟨S4608x2048, .bf16⟩
  | 1 => ⟨S4608x2048, .bf16⟩
  | 2 => ⟨S4608x2048, .bf16⟩
  | 3 => ⟨S4608x1024, .bf16⟩
  | 4 => ⟨S4608x2048, .f32⟩
  | 5 => ⟨S4608x2048, .f32⟩
  | 6 => ⟨S4608x2048, .f32⟩
  | 7 => ⟨S4608x1024, .f32⟩
  | 8 => ⟨S4608x1024, .f32⟩
  | 9 => ⟨S4096x2048, .f32⟩
  | 10 => ⟨S512x2048, .f32⟩
  | 11 => ⟨S4096x1024, .f32⟩
  | 12 => ⟨S512x1024, .f32⟩
  | 13 => ⟨S4096x2048, .f32⟩
  | 14 => ⟨S2x2048x8x256, .f32⟩
  | 15 => ⟨S2x8x2048x256, .f32⟩
  | 16 => ⟨S512x2048, .f32⟩
  | 17 => ⟨S2x256x8x256, .f32⟩
  | 18 => ⟨S2x8x256x256, .f32⟩
  | 19 => ⟨S2x2048x8x256, .f32⟩
  | 20 => ⟨S2x8x2048x256, .f32⟩
  | 21 => ⟨S2x256x8x256, .f32⟩
  | 22 => ⟨S2x8x256x256, .f32⟩
  | 23 => ⟨S2x2048x8x128, .f32⟩
  | 24 => ⟨S2x8x2048x128, .f32⟩
  | 25 => ⟨S2x256x8x128, .f32⟩
  | 26 => ⟨S2x8x256x128, .f32⟩
  | 27 => ⟨S2x8x2304x256, .f32⟩
  | 28 => ⟨S2x8x2304x128, .f32⟩
  | 29 => ⟨S2x8x2048x2304, .f32⟩
  | 30 => ⟨S_, .f32⟩
  | 31 => ⟨S2x8x2048x2304, .f32⟩
  | 32 => ⟨S2x8x2048x2304, .f32⟩
  | 33 => ⟨S_, .f32⟩
  | 34 => ⟨S2x8x2048, .f32⟩
  | 35 => ⟨S2x8x2048x1, .f32⟩
  | 36 => ⟨S2x8x2048x2304, .f32⟩
  | 37 => ⟨S2x8x2048x2304, .i1⟩
  | 38 => ⟨S2x8x2048x2304, .f32⟩
  | 39 => ⟨S_, .f32⟩
  | 40 => ⟨S2x8x2048, .f32⟩
  | 41 => ⟨S_, .f32⟩
  | 42 => ⟨S2x8x2048, .f32⟩
  | 43 => ⟨S2x8x2048, .f32⟩
  | 44 => ⟨S_, .f32⟩
  | 45 => ⟨S2x8x2048, .f32⟩
  | 46 => ⟨S2x8x2048, .i1⟩
  | 47 => ⟨S_, .f32⟩
  | 48 => ⟨S2x8x2048, .f32⟩
  | 49 => ⟨S2x8x2048, .i1⟩
  | 50 => ⟨S_, .f32⟩
  | 51 => ⟨S2x8x2048, .f32⟩
  | 52 => ⟨S_, .f32⟩
  | 53 => ⟨S2x8x2048, .f32⟩
  | 54 => ⟨S_, .f32⟩
  | 55 => ⟨S2x8x2048, .f32⟩
  | 56 => ⟨S2x8x2048, .f32⟩
  | 57 => ⟨S2x8x2048, .f32⟩
  | 58 => ⟨S2x8x2048x1, .f32⟩
  | 59 => ⟨S2x8x2048x2304, .f32⟩
  | 60 => ⟨S2x8x2048x2304, .f32⟩
  | 61 => ⟨S2x8x2048x2304, .f32⟩
  | 62 => ⟨S_, .f32⟩
  | 63 => ⟨S2x8x2048, .f32⟩
  | 64 => ⟨S2x8x2048x1, .f32⟩
  | 65 => ⟨S2x8x2048x2304, .f32⟩
  | 66 => ⟨S2x8x2048x2304, .f32⟩
  | 67 => ⟨S2x8x2048x1, .f32⟩
  | 68 => ⟨S_, .f32⟩
  | 69 => ⟨S2x8x2048x1, .f32⟩
  | 70 => ⟨S2x8x2048x1, .f32⟩
  | 71 => ⟨S2x8x2048x128, .f32⟩
  | 72 => ⟨S2x8x256x256, .f32⟩
  | 73 => ⟨S_, .f32⟩
  | 74 => ⟨S2x8x256x256, .f32⟩
  | 75 => ⟨S2x8x256x256, .f32⟩
  | 76 => ⟨S_, .f32⟩
  | 77 => ⟨S2x8x256, .f32⟩
  | 78 => ⟨S2x8x256x1, .f32⟩
  | 79 => ⟨S2x8x256x256, .f32⟩
  | 80 => ⟨S2x8x256x256, .i1⟩
  | 81 => ⟨S2x8x256x256, .f32⟩
  | 82 => ⟨S_, .f32⟩
  | 83 => ⟨S2x8x256, .f32⟩
  | 84 => ⟨S_, .f32⟩
  | 85 => ⟨S2x8x256, .f32⟩
  | 86 => ⟨S2x8x256, .f32⟩
  | 87 => ⟨S_, .f32⟩
  | 88 => ⟨S2x8x256, .f32⟩
  | 89 => ⟨S2x8x256, .i1⟩
  | 90 => ⟨S_, .f32⟩
  | 91 => ⟨S2x8x256, .f32⟩
  | 92 => ⟨S2x8x256, .i1⟩
  | 93 => ⟨S_, .f32⟩
  | 94 => ⟨S2x8x256, .f32⟩
  | 95 => ⟨S_, .f32⟩
  | 96 => ⟨S2x8x256, .f32⟩
  | 97 => ⟨S_, .f32⟩
  | 98 => ⟨S2x8x256, .f32⟩
  | 99 => ⟨S2x8x256, .f32⟩
  | 100 => ⟨S2x8x256, .f32⟩
  | 101 => ⟨S2x8x256x1, .f32⟩
  | 102 => ⟨S2x8x256x256, .f32⟩
  | 103 => ⟨S2x8x256x256, .f32⟩
  | 104 => ⟨S2x8x256x256, .f32⟩
  | 105 => ⟨S_, .f32⟩
  | 106 => ⟨S2x8x256, .f32⟩
  | 107 => ⟨S2x8x256x1, .f32⟩
  | 108 => ⟨S2x8x256x256, .f32⟩
  | 109 => ⟨S2x8x256x256, .f32⟩
  | 110 => ⟨S2x8x256x1, .f32⟩
  | 111 => ⟨S_, .f32⟩
  | 112 => ⟨S2x8x256x1, .f32⟩
  | 113 => ⟨S2x8x256x1, .f32⟩
  | 114 => ⟨S2x8x256x128, .f32⟩
  | 115 => ⟨S2x2048x8x128, .f32⟩
  | 116 => ⟨S4096x1024, .f32⟩
  | 117 => ⟨S2x256x8x128, .f32⟩
  | 118 => ⟨S512x1024, .f32⟩
  | 119 => ⟨S4608x1024, .f32⟩
  | 120 => ⟨S4096x1024, .f32⟩
  | 121 => ⟨S512x1024, .f32⟩
  | 122 => ⟨S2x256x8x128, .f32⟩
  | 123 => ⟨S2x8x256x128, .f32⟩
  | 124 => ⟨S2x2048x8x128, .f32⟩
  | 125 => ⟨S2x8x2048x128, .f32⟩
  | 126 => ⟨S2x8x128x256, .f32⟩
  | 127 => ⟨S2x8x256x128, .f32⟩
  | _ => ⟨S4608x2048, .bf16⟩

abbrev hbmTy0_1 (i : Nat) : BufTy := match i % 128 with
  | 0 => ⟨S2x8x256x256, .f32⟩
  | 1 => ⟨S2x8x256x256, .f32⟩
  | 2 => ⟨S2x8x256x256, .f32⟩
  | 3 => ⟨S2x8x256x256, .f32⟩
  | 4 => ⟨S_, .f32⟩
  | 5 => ⟨S2x8x256, .f32⟩
  | 6 => ⟨S2x8x256x1, .f32⟩
  | 7 => ⟨S2x8x256x1, .f32⟩
  | 8 => ⟨S2x8x256x256, .f32⟩
  | 9 => ⟨S2x8x256x256, .f32⟩
  | 10 => ⟨S_, .f32⟩
  | 11 => ⟨S2x8x256, .f32⟩
  | 12 => ⟨S2x8x256x256, .f32⟩
  | 13 => ⟨S2x8x256x256, .f32⟩
  | 14 => ⟨S2x8x256x256, .f32⟩
  | 15 => ⟨S_, .f32⟩
  | 16 => ⟨S2x8x256x256, .f32⟩
  | 17 => ⟨S2x8x256x256, .f32⟩
  | 18 => ⟨S2x8x256x256, .f32⟩
  | 19 => ⟨S2x8x256x256, .f32⟩
  | 20 => ⟨S2x8x128x2304, .f32⟩
  | 21 => ⟨S2x8x2304x128, .f32⟩
  | 22 => ⟨S2x8x2048x2304, .f32⟩
  | 23 => ⟨S2x8x2048x2304, .f32⟩
  | 24 => ⟨S2x8x2048x2304, .f32⟩
  | 25 => ⟨S2x8x2048x2304, .f32⟩
  | 26 => ⟨S_, .f32⟩
  | 27 => ⟨S2x8x2048, .f32⟩
  | 28 => ⟨S2x8x2048x1, .f32⟩
  | 29 => ⟨S2x8x2048x1, .f32⟩
  | 30 => ⟨S2x8x2048x2304, .f32⟩
  | 31 => ⟨S2x8x2048x2304, .f32⟩
  | 32 => ⟨S_, .f32⟩
  | 33 => ⟨S2x8x2048, .f32⟩
  | 34 => ⟨S2x8x2048x2304, .f32⟩
  | 35 => ⟨S2x8x2048x2304, .f32⟩
  | 36 => ⟨S2x8x2048x2304, .f32⟩
  | 37 => ⟨S_, .f32⟩
  | 38 => ⟨S2x8x2048x2304, .f32⟩
  | 39 => ⟨S2x8x2048x2304, .f32⟩
  | 40 => ⟨S2x8x2304x256, .f32⟩
  | 41 => ⟨S2x8x2048x256, .f32⟩
  | 42 => ⟨S2x8x256x128, .f32⟩
  | 43 => ⟨S2x8x2048x128, .f32⟩
  | 44 => ⟨S2x8x256x128, .f32⟩
  | 45 => ⟨S2x8x256x256, .f32⟩
  | 46 => ⟨S2x8x2048x256, .f32⟩
  | 47 => ⟨S2x8x256x256, .f32⟩
  | 48 => ⟨S2x256x8x128, .f32⟩
  | 49 => ⟨S512x1024, .f32⟩
  | 50 => ⟨S2x2048x8x128, .f32⟩
  | 51 => ⟨S4096x1024, .f32⟩
  | 52 => ⟨S2x256x8x256, .f32⟩
  | 53 => ⟨S512x2048, .f32⟩
  | 54 => ⟨S2x2048x8x256, .f32⟩
  | 55 => ⟨S4096x2048, .f32⟩
  | 56 => ⟨S2x256x8x256, .f32⟩
  | 57 => ⟨S512x2048, .f32⟩
  | 58 => ⟨S_, .f32⟩
  | 59 => ⟨S4608x2048, .f32⟩
  | 60 => ⟨S2x2048x8x256, .f32⟩
  | 61 => ⟨S4096x2048, .f32⟩
  | 62 => ⟨S_, .f32⟩
  | 63 => ⟨S4608x2048, .f32⟩
  | 64 => ⟨S4608x2048, .f32⟩
  | 65 => ⟨S4608x2048, .bf16⟩
  | 66 => ⟨S4096x2048, .bf16⟩
  | 67 => ⟨S512x2048, .bf16⟩
  | 68 => ⟨S4096x1024, .bf16⟩
  | 69 => ⟨S512x1024, .bf16⟩
  | _ => ⟨S4608x2048, .bf16⟩

abbrev hbmTy (i : Nat) : BufTy := match i / 128 with
  | 0 => hbmTy0_0 i
  | 1 => hbmTy0_1 i
  | _ => ⟨S4608x2048, .bf16⟩

abbrev bufTy : (tb : Table) → Fin (tcTables nBuf tb) → BufTy
  | .hbm, ⟨i, _⟩ => hbmTy i
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_1 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_cst_6 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_9 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_cst_14 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_cst_17 : Ref sig .tc := ⟨.hbm, 95, rfl⟩
abbrev main_v73 : Ref sig .tc := ⟨.hbm, 96, rfl⟩
abbrev main_cst_18 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_19 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_20 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_cst_21 : Ref sig .tc := ⟨.hbm, 132, rfl⟩
abbrev main_v106 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_22 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_23 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_24 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_cst_25 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_cst_26 : Ref sig .tc := ⟨.hbm, 165, rfl⟩
abbrev main_v134 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_27 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_cst_28 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩

abbrev nD : Nat := 1
abbrev τ : Topo := Topo.v7x

variable {F : FTy → Type} [FloatOps F]
-- ==== Kernel2.lean ====
abbrev S4608x1024 : Shape := ⟨2, ![4608, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4608x2816 : Shape := ⟨2, ![4608, 2816]⟩
abbrev S_ : Shape := ⟨0, ![]⟩
abbrev S1536x1024 : Shape := ⟨2, ![1536, 1024]⟩
abbrev S1x256x1024 : Shape := ⟨3, ![1, 256, 1024]⟩
abbrev S1536x256 : Shape := ⟨2, ![1536, 256]⟩
abbrev S256x1024 : Shape := ⟨2, ![256, 1024]⟩

abbrev nBuf : Space → Nat
  | .hbm => 43
  | .vmem => 12
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S2x2816x1024, .bf16⟩
  | .hbm, ⟨3, _⟩ => ⟨S2x2816x1024, .bf16⟩
  | .hbm, ⟨4, _⟩ => ⟨S2x2816x1024, .bf16⟩
  | .hbm, ⟨5, _⟩ => ⟨S4608x1024, .f32⟩
  | .hbm, ⟨6, _⟩ => ⟨S1x2816x1024, .bf16⟩
  | .hbm, ⟨7, _⟩ => ⟨S2816x1024, .bf16⟩
  | .hbm, ⟨8, _⟩ => ⟨S1024x2816, .bf16⟩
  | .hbm, ⟨9, _⟩ => ⟨S1024x2816, .f32⟩
  | .hbm, ⟨10, _⟩ => ⟨S1x2816x1024, .bf16⟩
  | .hbm, ⟨11, _⟩ => ⟨S2816x1024, .bf16⟩
  | .hbm, ⟨12, _⟩ => ⟨S1024x2816, .bf16⟩
  | .hbm, ⟨13, _⟩ => ⟨S1024x2816, .f32⟩
  | .hbm, ⟨14, _⟩ => ⟨S4608x2816, .f32⟩
  | .hbm, ⟨15, _⟩ => ⟨S4608x2816, .f32⟩
  | .hbm, ⟨16, _⟩ => ⟨S4608x2816, .f32⟩
  | .hbm, ⟨17, _⟩ => ⟨S4608x2816, .f32⟩
  | .hbm, ⟨18, _⟩ => ⟨S_, .f32⟩
  | .hbm, ⟨19, _⟩ => ⟨S4608x2816, .f32⟩
  | .hbm, ⟨20, _⟩ => ⟨S4608x2816, .f32⟩
  | .hbm, ⟨21, _⟩ => ⟨S_, .f32⟩
  | .hbm, ⟨22, _⟩ => ⟨S4608x2816, .f32⟩
  | .hbm, ⟨23, _⟩ => ⟨S4608x2816, .f32⟩
  | .hbm, ⟨24, _⟩ => ⟨S_, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S4608x2816, .f32⟩
  | .hbm, ⟨29, _⟩ => ⟨S4608x2816, .f32⟩
  | .hbm, ⟨30, _⟩ => ⟨S_, .f32⟩
  | .hbm, ⟨31, _⟩ => ⟨S4608x2816, .f32⟩
  | .hbm, ⟨32, _⟩ => ⟨S4608x2816, .f32⟩
  | .hbm, ⟨33, _⟩ => ⟨S4608x2816, .f32⟩
  | .hbm, ⟨34, _⟩ => ⟨S4608x2816, .f32⟩
  | .hbm, ⟨35, _⟩ => ⟨S4608x2816, .f32⟩
  | .hbm, ⟨36, _⟩ => ⟨S4608x2816, .f32⟩
  | .hbm, ⟨37, _⟩ => ⟨S4608x2816, .f32⟩
  | .hbm, ⟨38, _⟩ => ⟨S4608x2816, .bf16⟩
  | .hbm, ⟨39, _⟩ => ⟨S4608x2816, .bf16⟩
  | .hbm, ⟨40, _⟩ => ⟨S4608x2816, .bf16⟩
  | .hbm, ⟨41, _⟩ => ⟨S4608x2816, .bf16⟩
  | .hbm, ⟨42, _⟩ => ⟨S4608x2816, .bf16⟩
  | .local _ .vmem, ⟨0, _⟩ => ⟨S1536x1024, .bf16⟩
  | .local _ .vmem, ⟨1, _⟩ => ⟨S1536x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1536x256, .bf16⟩
  | .local _ .vmem, ⟨5, _⟩ => ⟨S1536x256, .bf16⟩
  | .local _ .vmem, ⟨6, _⟩ => ⟨S1536x256, .bf16⟩
  | .local _ .vmem, ⟨7, _⟩ => ⟨S1536x256, .bf16⟩
  | .local _ .vmem, ⟨8, _⟩ => ⟨S1536x256, .bf16⟩
  | .local _ .vmem, ⟨9, _⟩ => ⟨S1536x256, .bf16⟩
  | .local _ .vmem, ⟨10, _⟩ => ⟨S1536x256, .bf16⟩
  | .local _ .vmem, ⟨11, _⟩ => ⟨S1536x256, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v11_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v11_1 : Ref sig .tc := ⟨.hbm, 27, rfl⟩
abbrev main_v11_0 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4608x1024 : Shape := ⟨2, ![4608, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4608x2816 : Shape := ⟨2, ![4608, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S2x2816x1024, .bf16⟩
  | .hbm, ⟨3, _⟩ => ⟨S2x2816x1024, .bf16⟩
  | .hbm, ⟨4, _⟩ => ⟨S2x2816x1024, .bf16⟩
  | .hbm, ⟨5, _⟩ => ⟨S1x2816x1024, .bf16⟩
  | .hbm, ⟨6, _⟩ => ⟨S2816x1024, .bf16⟩
  | .hbm, ⟨7, _⟩ => ⟨S1024x2816, .bf16⟩
  | .hbm, ⟨8, _⟩ => ⟨S1x2816x1024, .bf16⟩
  | .hbm, ⟨9, _⟩ => ⟨S2816x1024, .bf16⟩
  | .hbm, ⟨10, _⟩ => ⟨S1024x2816, .bf16⟩
  | .hbm, ⟨11, _⟩ => ⟨S1x2816x1024, .bf16⟩
  | .hbm, ⟨12, _⟩ => ⟨S2816x1024, .bf16⟩
  | .hbm, ⟨13, _⟩ => ⟨S4608x1024, .f32⟩
  | .hbm, ⟨14, _⟩ => ⟨S4608x1024, .f32⟩
  | .hbm, ⟨15, _⟩ => ⟨S1024x2816, .f32⟩
  | .hbm, ⟨16, _⟩ => ⟨S1024x2816, .f32⟩
  | .hbm, ⟨17, _⟩ => ⟨S2816x1024, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x2816, .f32⟩
  | .hbm, ⟨22, _⟩ => ⟨S_, .f32⟩
  | .hbm, ⟨23, _⟩ => ⟨S4608x2816, .f32⟩
  | .hbm, ⟨24, _⟩ => ⟨S4608x2816, .f32⟩
  | .hbm, ⟨25, _⟩ => ⟨S_, .f32⟩
  | .hbm, ⟨26, _⟩ => ⟨S4608x2816, .f32⟩
  | .hbm, ⟨27, _⟩ => ⟨S4608x2816, .f32⟩
  | .hbm, ⟨28, _⟩ => ⟨S_, .f32⟩
  | .hbm, ⟨29, _⟩ => ⟨S4608x2816, .f32⟩
  | .hbm, ⟨30, _⟩ => ⟨S4608x2816, .f32⟩
  | .hbm, ⟨31, _⟩ => ⟨S4608x2816, .f32⟩
  | .hbm, ⟨32, _⟩ => ⟨S4608x2816, .f32⟩
  | .hbm, ⟨33, _⟩ => ⟨S4608x2816, .f32⟩
  | .hbm, ⟨34, _⟩ => ⟨S4608x1024, .f32⟩
  | .hbm, ⟨35, _⟩ => ⟨S4608x2816, .f32⟩
  | .hbm, ⟨36, _⟩ => ⟨S4608x2816, .f32⟩
  | .hbm, ⟨37, _⟩ => ⟨S4608x2816, .f32⟩
  | .hbm, ⟨38, _⟩ => ⟨S4608x2816, .f32⟩
  | .hbm, ⟨39, _⟩ => ⟨S4608x2816, .f32⟩
  | .hbm, ⟨40, _⟩ => ⟨S4608x2816, .f32⟩
  | .hbm, ⟨41, _⟩ => ⟨S4608x2816, .f32⟩
  | .hbm, ⟨42, _⟩ => ⟨S4608x2816, .bf16⟩
  | .hbm, ⟨43, _⟩ => ⟨S4608x2816, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v15_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v15_1 : Ref sig .tc := ⟨.hbm, 31, rfl⟩
abbrev main_v15_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Kernel3.lean ====
abbrev S4608x2816 : Shape := ⟨2, ![4608, 2816]⟩
abbrev S4608x1024 : Shape := ⟨2, ![4608, 1024]⟩
abbrev S2x2816x1024 : Shape := ⟨3, ![2, 2816, 1024]⟩
abbrev S1536x1408 : Shape := ⟨2, ![1536, 1408]⟩
abbrev S1536x1024 : Shape := ⟨2, ![1536, 1024]⟩
abbrev S1x1408x1024 : Shape := ⟨3, ![1, 1408, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S2x2816x1024, .f32⟩
  | .hbm, ⟨3, _⟩ => ⟨S2x2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1x1408x1024, .f32⟩
  | .local _ .vmem, ⟨5, _⟩ => ⟨S1x1408x1024, .f32⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4608x2816 : Shape := ⟨2, ![4608, 2816]⟩
abbrev S4608x1024 : Shape := ⟨2, ![4608, 1024]⟩
abbrev S2x2816x1024 : Shape := ⟨3, ![2, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S2x2816x1024, .f32⟩
  | .hbm, ⟨3, _⟩ => ⟨S4608x2816, .f32⟩
  | .hbm, ⟨4, _⟩ => ⟨S4608x1024, .f32⟩
  | .hbm, ⟨5, _⟩ => ⟨S_, .f32⟩
  | .hbm, ⟨6, _⟩ => ⟨S2816x1024, .f32⟩
  | .hbm, ⟨7, _⟩ => ⟨S4608x1024, .f32⟩
  | .hbm, ⟨8, _⟩ => ⟨S1024x2816, .f32⟩
  | .hbm, ⟨9, _⟩ => ⟨S2816x1024, .f32⟩
  | .hbm, ⟨10, _⟩ => ⟨S1x2816x1024, .f32⟩
  | .hbm, ⟨11, _⟩ => ⟨S1x2816x1024, .f32⟩
  | .hbm, ⟨12, _⟩ => ⟨S2x2816x1024, .f32⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel4.lean ====
abbrev S4608x2816 : Shape := ⟨2, ![4608, 2816]⟩
abbrev S2x2816x1024 : Shape := ⟨3, ![2, 2816, 1024]⟩
abbrev S4608x1024 : Shape := ⟨2, ![4608, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4608x2816, .bf16⟩
  | .hbm, ⟨1, _⟩ => ⟨S4608x2816, .bf16⟩
  | .hbm, ⟨2, _⟩ => ⟨S2x2816x1024, .bf16⟩
  | .hbm, ⟨3, _⟩ => ⟨S2x2816x1024, .bf16⟩
  | .hbm, ⟨4, _⟩ => ⟨S4608x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S4608x2816 : Shape := ⟨2, ![4608, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S_ : Shape := ⟨0, ![]⟩
abbrev S4608x1024 : Shape := ⟨2, ![4608, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S4608x2816, .bf16⟩
  | .hbm, ⟨2, _⟩ => ⟨S2x2816x1024, .bf16⟩
  | .hbm, ⟨3, _⟩ => ⟨S2x2816x1024, .bf16⟩
  | .hbm, ⟨4, _⟩ => ⟨S1x2816x1024, .bf16⟩
  | .hbm, ⟨5, _⟩ => ⟨S2816x1024, .bf16⟩
  | .hbm, ⟨6, _⟩ => ⟨S1024x2816, .bf16⟩
  | .hbm, ⟨7, _⟩ => ⟨S1x2816x1024, .bf16⟩
  | .hbm, ⟨8, _⟩ => ⟨S2816x1024, .bf16⟩
  | .hbm, ⟨9, _⟩ => ⟨S1024x2816, .bf16⟩
  | .hbm, ⟨10, _⟩ => ⟨S4608x2816, .f32⟩
  | .hbm, ⟨11, _⟩ => ⟨S4608x2816, .f32⟩
  | .hbm, ⟨12, _⟩ => ⟨S1024x2816, .f32⟩
  | .hbm, ⟨13, _⟩ => ⟨S1024x2816, .f32⟩
  | .hbm, ⟨14, _⟩ => ⟨S_, .f32⟩
  | .hbm, ⟨15, _⟩ => ⟨S4608x1024, .f32⟩
  | .hbm, ⟨16, _⟩ => ⟨S4608x2816, .f32⟩
  | .hbm, ⟨17, _⟩ => ⟨S4608x2816, .f32⟩
  | .hbm, ⟨18, _⟩ => ⟨S4608x1024, .f32⟩
  | .hbm, ⟨19, _⟩ => ⟨S4608x1024, .f32⟩
  | .hbm, ⟨20, _⟩ => ⟨S4608x1024, .f32⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel5.lean ====
abbrev S4608x1024 : Shape := ⟨2, ![4608, 1024]⟩
abbrev S2x2816x1024 : Shape := ⟨3, ![2, 2816, 1024]⟩
abbrev S4608x2816 : Shape := ⟨2, ![4608, 2816]⟩
abbrev S1536x1024 : Shape := ⟨2, ![1536, 1024]⟩
abbrev S1x256x1024 : Shape := ⟨3, ![1, 256, 1024]⟩
abbrev S1536x256 : Shape := ⟨2, ![1536, 256]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4608x1024, .bf16⟩
  | .hbm, ⟨1, _⟩ => ⟨S2x2816x1024, .bf16⟩
  | .hbm, ⟨2, _⟩ => ⟨S2x2816x1024, .bf16⟩
  | .hbm, ⟨3, _⟩ => ⟨S4608x2816, .bf16⟩
  | .hbm, ⟨4, _⟩ => ⟨S4608x2816, .bf16⟩
  | .hbm, ⟨5, _⟩ => ⟨S4608x2816, .bf16⟩
  | .local _ .vmem, ⟨0, _⟩ => ⟨S1536x1024, .bf16⟩
  | .local _ .vmem, ⟨1, _⟩ => ⟨S1536x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1536x256, .bf16⟩
  | .local _ .vmem, ⟨7, _⟩ => ⟨S1536x256, .bf16⟩
  | .local _ .vmem, ⟨8, _⟩ => ⟨S1536x256, .bf16⟩
  | .local _ .vmem, ⟨9, _⟩ => ⟨S1536x256, .bf16⟩
  | .local _ .vmem, ⟨10, _⟩ => ⟨S1536x256, .bf16⟩
  | .local _ .vmem, ⟨11, _⟩ => ⟨S1536x256, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4608x1024 : Shape := ⟨2, ![4608, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4608x2816 : Shape := ⟨2, ![4608, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S2x2816x1024, .bf16⟩
  | .hbm, ⟨2, _⟩ => ⟨S2x2816x1024, .bf16⟩
  | .hbm, ⟨3, _⟩ => ⟨S1x2816x1024, .bf16⟩
  | .hbm, ⟨4, _⟩ => ⟨S2816x1024, .bf16⟩
  | .hbm, ⟨5, _⟩ => ⟨S1024x2816, .bf16⟩
  | .hbm, ⟨6, _⟩ => ⟨S1x2816x1024, .bf16⟩
  | .hbm, ⟨7, _⟩ => ⟨S2816x1024, .bf16⟩
  | .hbm, ⟨8, _⟩ => ⟨S1024x2816, .bf16⟩
  | .hbm, ⟨9, _⟩ => ⟨S4608x1024, .f32⟩
  | .hbm, ⟨10, _⟩ => ⟨S1024x2816, .f32⟩
  | .hbm, ⟨11, _⟩ => ⟨S1024x2816, .f32⟩
  | .hbm, ⟨12, _⟩ => ⟨S4608x2816, .f32⟩
  | .hbm, ⟨13, _⟩ => ⟨S4608x2816, .f32⟩
  | .hbm, ⟨14, _⟩ => ⟨S4608x2816, .f32⟩
  | .hbm, ⟨15, _⟩ => ⟨S4608x2816, .f32⟩
  | .hbm, ⟨16, _⟩ => ⟨S_, .f32⟩
  | .hbm, ⟨17, _⟩ => ⟨S4608x2816, .f32⟩
  | .hbm, ⟨18, _⟩ => ⟨S4608x2816, .f32⟩
  | .hbm, ⟨19, _⟩ => ⟨S_, .f32⟩
  | .hbm, ⟨20, _⟩ => ⟨S4608x2816, .f32⟩
  | .hbm, ⟨21, _⟩ => ⟨S4608x2816, .f32⟩
  | .hbm, ⟨22, _⟩ => ⟨S_, .f32⟩
  | .hbm, ⟨23, _⟩ => ⟨S4608x2816, .f32⟩
  | .hbm, ⟨24, _⟩ => ⟨S4608x2816, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S_, .f32⟩
  | .hbm, ⟨29, _⟩ => ⟨S4608x2816, .f32⟩
  | .hbm, ⟨30, _⟩ => ⟨S4608x2816, .f32⟩
  | .hbm, ⟨31, _⟩ => ⟨S4608x2816, .f32⟩
  | .hbm, ⟨32, _⟩ => ⟨S4608x2816, .f32⟩
  | .hbm, ⟨33, _⟩ => ⟨S4608x2816, .f32⟩
  | .hbm, ⟨34, _⟩ => ⟨S4608x2816, .f32⟩
  | .hbm, ⟨35, _⟩ => ⟨S4608x2816, .f32⟩
  | .hbm, ⟨36, _⟩ => ⟨S4608x2816, .bf16⟩
  | .hbm, ⟨37, _⟩ => ⟨S4608x2816, .bf16⟩
  | .hbm, ⟨38, _⟩ => ⟨S4608x2816, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v11_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v11_1 : Ref sig .tc := ⟨.hbm, 25, rfl⟩
abbrev main_v11_0 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Kernel6.lean ====
abbrev S4608x2048 : Shape := ⟨2, ![4608, 2048]⟩
abbrev S4608x1024 : Shape := ⟨2, ![4608, 1024]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S256x256 : Shape := ⟨2, ![256, 256]⟩
abbrev S2048x256 : Shape := ⟨2, ![2048, 256]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 26
  | .smem => 0
  | _ => 0

abbrev bufTy : (tb : Table) → Fin (tcTables nBuf tb) → BufTy
  | .hbm, ⟨0, _⟩ => ⟨S4608x2048, .bf16⟩
  | .hbm, ⟨1, _⟩ => ⟨S4608x2048, .bf16⟩
  | .hbm, ⟨2, _⟩ => ⟨S4608x2048, .bf16⟩
  | .hbm, ⟨3, _⟩ => ⟨S4608x1024, .bf16⟩
  | .hbm, ⟨4, _⟩ => ⟨S4608x2048, .bf16⟩
  | .hbm, ⟨5, _⟩ => ⟨S4096x2048, .bf16⟩
  | .hbm, ⟨6, _⟩ => ⟨S512x2048, .bf16⟩
  | .hbm, ⟨7, _⟩ => ⟨S4096x1024, .bf16⟩
  | .hbm, ⟨8, _⟩ => ⟨S512x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | .local _ .vmem, ⟨12, _⟩ => ⟨S256x256, .bf16⟩
  | .local _ .vmem, ⟨13, _⟩ => ⟨S256x256, .bf16⟩
  | .local _ .vmem, ⟨14, _⟩ => ⟨S2048x256, .bf16⟩
  | .local _ .vmem, ⟨15, _⟩ => ⟨S2048x256, .bf16⟩
  | .local _ .vmem, ⟨16, _⟩ => ⟨S256x256, .bf16⟩
  | .local _ .vmem, ⟨17, _⟩ => ⟨S256x256, .bf16⟩
  | .local _ .vmem, ⟨18, _⟩ => ⟨S2048x128, .bf16⟩
  | .local _ .vmem, ⟨19, _⟩ => ⟨S2048x128, .bf16⟩
  | .local _ .vmem, ⟨20, _⟩ => ⟨S256x128, .bf16⟩
  | .local _ .vmem, ⟨21, _⟩ => ⟨S256x128, .bf16⟩
  | .local _ .vmem, ⟨22, _⟩ => ⟨S2048x256, .f32⟩
  | .local _ .vmem, ⟨23, _⟩ => ⟨S256x256, .f32⟩
  | .local _ .vmem, ⟨24, _⟩ => ⟨S2048x128, .f32⟩
  | .local _ .vmem, ⟨25, _⟩ => ⟨S256x128, .f32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 8, 9], ![false, false, false]⟩

def k0_cond2 (i : grid0.Coords) : BitVec 1 :=
  let arg2 : BitVec 32 := BitVec.ofNat 32 (i 2).val
  let c8_i32 : BitVec 32 := 8#32
  let v11 : BitVec 1 := Scalar.cmpi .slt arg2 c8_i32
  let v12 : BitVec 32 := Scalar.extui v11
  let c0_i32_10 : BitVec 32 := 0#32
  let v13 : BitVec 1 := Scalar.cmpi .ne v12 c0_i32_10
  v13

def k0_cond3 (i : grid0.Coords) : BitVec 1 :=
  let arg2 : BitVec 32 := BitVec.ofNat 32 (i 2).val
  let c8_i32_11 : BitVec 32 := 8#32
  let v14 : BitVec 1 := Scalar.cmpi .eq arg2 c8_i32_11
  let v15 : BitVec 32 := Scalar.extui v14
  let c0_i32_12 : BitVec 32 := 0#32
  let v16 : BitVec 1 := Scalar.cmpi .ne v15 c0_i32_12
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== Reference6Ideal.lean ====
abbrev S4608x2048 : Shape := ⟨2, ![4608, 2048]⟩
abbrev S4608x1024 : Shape := ⟨2, ![4608, 1024]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S2x2048x8x256 : Shape := ⟨4, ![2, 2048, 8, 256]⟩
abbrev S2x8x2048x256 : Shape := ⟨4, ![2, 8, 2048, 256]⟩
abbrev S2x256x8x256 : Shape := ⟨4, ![2, 256, 8, 256]⟩
abbrev S2x8x256x256 : Shape := ⟨4, ![2, 8, 256, 256]⟩
abbrev S2x2048x8x128 : Shape := ⟨4, ![2, 2048, 8, 128]⟩
abbrev S2x8x2048x128 : Shape := ⟨4, ![2, 8, 2048, 128]⟩
abbrev S2x256x8x128 : Shape := ⟨4, ![2, 256, 8, 128]⟩
abbrev S2x8x256x128 : Shape := ⟨4, ![2, 8, 256, 128]⟩
abbrev S2x8x2304x256 : Shape := ⟨4, ![2, 8, 2304, 256]⟩
abbrev S2x8x2304x128 : Shape := ⟨4, ![2, 8, 2304, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x128x2304 : Shape := ⟨4, ![2, 8, 128, 2304]⟩

abbrev nBuf : Space → Nat
  | .hbm => 117
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S4608x2048, .bf16⟩
  | .hbm, ⟨2, _⟩ => ⟨S4608x2048, .bf16⟩
  | .hbm, ⟨3, _⟩ => ⟨S4608x1024, .bf16⟩
  | .hbm, ⟨4, _⟩ => ⟨S4608x2048, .f32⟩
  | .hbm, ⟨5, _⟩ => ⟨S4608x2048, .f32⟩
  | .hbm, ⟨6, _⟩ => ⟨S4608x2048, .f32⟩
  | .hbm, ⟨7, _⟩ => ⟨S4608x1024, .f32⟩
  | .hbm, ⟨8, _⟩ => ⟨S4608x1024, .f32⟩
  | .hbm, ⟨9, _⟩ => ⟨S4096x2048, .f32⟩
  | .hbm, ⟨10, _⟩ => ⟨S512x2048, .f32⟩
  | .hbm, ⟨11, _⟩ => ⟨S4096x1024, .f32⟩
  | .hbm, ⟨12, _⟩ => ⟨S512x1024, .f32⟩
  | .hbm, ⟨13, _⟩ => ⟨S4096x2048, .f32⟩
  | .hbm, ⟨14, _⟩ => ⟨S2x2048x8x256, .f32⟩
  | .hbm, ⟨15, _⟩ => ⟨S2x8x2048x256, .f32⟩
  | .hbm, ⟨16, _⟩ => ⟨S2x2048x8x256, .f32⟩
  | .hbm, ⟨17, _⟩ => ⟨S2x8x2048x256, .f32⟩
  | .hbm, ⟨18, _⟩ => ⟨S2x256x8x256, .f32⟩
  | .hbm, ⟨19, _⟩ => ⟨S2x8x256x256, .f32⟩
  | .hbm, ⟨20, _⟩ => ⟨S2x2048x8x128, .f32⟩
  | .hbm, ⟨21, _⟩ => ⟨S2x8x2048x128, .f32⟩
  | .hbm, ⟨22, _⟩ => ⟨S2x256x8x128, .f32⟩
  | .hbm, ⟨23, _⟩ => ⟨S2x8x256x128, .f32⟩
  | .hbm, ⟨24, _⟩ => ⟨S2x8x2304x256, .f32⟩
  | .hbm, ⟨25, _⟩ => ⟨S2x8x2304x128, .f32⟩
  | .hbm, ⟨26, _⟩ => ⟨S2x8x2048x2304, .f32⟩
  | .hbm, ⟨27, _⟩ => ⟨S_, .f32⟩
  | .hbm, ⟨28, _⟩ => ⟨S2x8x2048x2304, .f32⟩
  | .hbm, ⟨29, _⟩ => ⟨S2x8x2048x2304, .f32⟩
  | .hbm, ⟨30, _⟩ => ⟨S_, .f32⟩
  | .hbm, ⟨31, _⟩ => ⟨S2x8x2048, .f32⟩
  | .hbm, ⟨32, _⟩ => ⟨S2x8x2048x1, .f32⟩
  | .hbm, ⟨33, _⟩ => ⟨S2x8x2048x2304, .f32⟩
  | .hbm, ⟨34, _⟩ => ⟨S2x8x2048x2304, .i1⟩
  | .hbm, ⟨35, _⟩ => ⟨S2x8x2048x2304, .f32⟩
  | .hbm, ⟨36, _⟩ => ⟨S_, .f32⟩
  | .hbm, ⟨37, _⟩ => ⟨S2x8x2048, .f32⟩
  | .hbm, ⟨38, _⟩ => ⟨S_, .f32⟩
  | .hbm, ⟨39, _⟩ => ⟨S2x8x2048, .f32⟩
  | .hbm, ⟨40, _⟩ => ⟨S2x8x2048, .f32⟩
  | .hbm, ⟨41, _⟩ => ⟨S_, .f32⟩
  | .hbm, ⟨42, _⟩ => ⟨S2x8x2048, .f32⟩
  | .hbm, ⟨43, _⟩ => ⟨S2x8x2048, .i1⟩
  | .hbm, ⟨44, _⟩ => ⟨S_, .f32⟩
  | .hbm, ⟨45, _⟩ => ⟨S2x8x2048, .f32⟩
  | .hbm, ⟨46, _⟩ => ⟨S2x8x2048, .i1⟩
  | .hbm, ⟨47, _⟩ => ⟨S_, .f32⟩
  | .hbm, ⟨48, _⟩ => ⟨S2x8x2048, .f32⟩
  | .hbm, ⟨49, _⟩ => ⟨S_, .f32⟩
  | .hbm, ⟨50, _⟩ => ⟨S2x8x2048, .f32⟩
  | .hbm, ⟨51, _⟩ => ⟨S_, .f32⟩
  | .hbm, ⟨52, _⟩ => ⟨S2x8x2048, .f32⟩
  | .hbm, ⟨53, _⟩ => ⟨S2x8x2048, .f32⟩
  | .hbm, ⟨54, _⟩ => ⟨S2x8x2048, .f32⟩
  | .hbm, ⟨55, _⟩ => ⟨S2x8x2048x1, .f32⟩
  | .hbm, ⟨56, _⟩ => ⟨S2x8x2048x2304, .f32⟩
  | .hbm, ⟨57, _⟩ => ⟨S2x8x2048x2304, .f32⟩
  | .hbm, ⟨58, _⟩ => ⟨S2x8x2048x2304, .f32⟩
  | .hbm, ⟨59, _⟩ => ⟨S_, .f32⟩
  | .hbm, ⟨60, _⟩ => ⟨S2x8x2048, .f32⟩
  | .hbm, ⟨61, _⟩ => ⟨S2x8x2048x1, .f32⟩
  | .hbm, ⟨62, _⟩ => ⟨S2x8x2048x2304, .f32⟩
  | .hbm, ⟨63, _⟩ => ⟨S2x8x2048x2304, .f32⟩
  | .hbm, ⟨64, _⟩ => ⟨S2x8x2048x1, .f32⟩
  | .hbm, ⟨65, _⟩ => ⟨S_, .f32⟩
  | .hbm, ⟨66, _⟩ => ⟨S2x8x2048x1, .f32⟩
  | .hbm, ⟨67, _⟩ => ⟨S2x8x2048x1, .f32⟩
  | .hbm, ⟨68, _⟩ => ⟨S2x8x2048x128, .f32⟩
  | .hbm, ⟨69, _⟩ => ⟨S2x2048x8x128, .f32⟩
  | .hbm, ⟨70, _⟩ => ⟨S4096x1024, .f32⟩
  | .hbm, ⟨71, _⟩ => ⟨S4096x1024, .f32⟩
  | .hbm, ⟨72, _⟩ => ⟨S2x2048x8x128, .f32⟩
  | .hbm, ⟨73, _⟩ => ⟨S2x8x2048x128, .f32⟩
  | .hbm, ⟨74, _⟩ => ⟨S2x8x128x2304, .f32⟩
  | .hbm, ⟨75, _⟩ => ⟨S2x8x2304x128, .f32⟩
  | .hbm, ⟨76, _⟩ => ⟨S2x8x2048x2304, .f32⟩
  | .hbm, ⟨77, _⟩ => ⟨S2x8x2048x2304, .f32⟩
  | .hbm, ⟨78, _⟩ => ⟨S2x8x2048x2304, .f32⟩
  | .hbm, ⟨79, _⟩ => ⟨S2x8x2048x2304, .f32⟩
  | .hbm, ⟨80, _⟩ => ⟨S_, .f32⟩
  | .hbm, ⟨81, _⟩ => ⟨S2x8x2048, .f32⟩
  | .hbm, ⟨82, _⟩ => ⟨S2x8x2048x1, .f32⟩
  | .hbm, ⟨83, _⟩ => ⟨S2x8x2048x1, .f32⟩
  | .hbm, ⟨84, _⟩ => ⟨S2x8x2048x2304, .f32⟩
  | .hbm, ⟨85, _⟩ => ⟨S2x8x2048x2304, .f32⟩
  | .hbm, ⟨86, _⟩ => ⟨S_, .f32⟩
  | .hbm, ⟨87, _⟩ => ⟨S2x8x2048, .f32⟩
  | .hbm, ⟨88, _⟩ => ⟨S2x8x2048x2304, .f32⟩
  | .hbm, ⟨89, _⟩ => ⟨S2x8x2048x2304, .f32⟩
  | .hbm, ⟨90, _⟩ => ⟨S2x8x2048x2304, .f32⟩
  | .hbm, ⟨91, _⟩ => ⟨S_, .f32⟩
  | .hbm, ⟨92, _⟩ => ⟨S2x8x2048x2304, .f32⟩
  | .hbm, ⟨93, _⟩ => ⟨S2x8x2048x2304, .f32⟩
  | .hbm, ⟨94, _⟩ => ⟨S2x8x2304x256, .f32⟩
  | .hbm, ⟨95, _⟩ => ⟨S2x8x2048x256, .f32⟩
  | .hbm, ⟨96, _⟩ => ⟨S2x8x256x128, .f32⟩
  | .hbm, ⟨97, _⟩ => ⟨S2x8x2048x128, .f32⟩
  | .hbm, ⟨98, _⟩ => ⟨S2x8x256x256, .f32⟩
  | .hbm, ⟨99, _⟩ => ⟨S2x8x2048x256, .f32⟩
  | .hbm, ⟨100, _⟩ => ⟨S2x256x8x128, .f32⟩
  | .hbm, ⟨101, _⟩ => ⟨S512x1024, .f32⟩
  | .hbm, ⟨102, _⟩ => ⟨S2x2048x8x128, .f32⟩
  | .hbm, ⟨103, _⟩ => ⟨S4096x1024, .f32⟩
  | .hbm, ⟨104, _⟩ => ⟨S2x256x8x256, .f32⟩
  | .hbm, ⟨105, _⟩ => ⟨S512x2048, .f32⟩
  | .hbm, ⟨106, _⟩ => ⟨S2x2048x8x256, .f32⟩
  | .hbm, ⟨107, _⟩ => ⟨S4096x2048, .f32⟩
  | .hbm, ⟨108, _⟩ => ⟨S2x2048x8x256, .f32⟩
  | .hbm, ⟨109, _⟩ => ⟨S4096x2048, .f32⟩
  | .hbm, ⟨110, _⟩ => ⟨S_, .f32⟩
  | .hbm, ⟨111, _⟩ => ⟨S4608x2048, .f32⟩
  | .hbm, ⟨112, _⟩ => ⟨S4608x2048, .bf16⟩
  | .hbm, ⟨113, _⟩ => ⟨S4096x2048, .bf16⟩
  | .hbm, ⟨114, _⟩ => ⟨S512x2048, .bf16⟩
  | .hbm, ⟨115, _⟩ => ⟨S4096x1024, .bf16⟩
  | .hbm, ⟨116, _⟩ => ⟨S512x1024, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst : Ref sig .tc := ⟨.hbm, 27, rfl⟩
abbrev main_v23 : Ref sig .tc := ⟨.hbm, 28, rfl⟩
abbrev main_v24 : Ref sig .tc := ⟨.hbm, 29, rfl⟩
abbrev main_cst_0 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_cst_7 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_10 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_11 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_12 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_cst_13 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩

abbrev nD : Nat := 1
abbrev τ : Topo := Topo.v7x

variable {F : FTy → Type} [FloatOps F]
-- ==== Kernel7.lean ====
abbrev S4608x3072 : Shape := ⟨2, ![4608, 3072]⟩
abbrev S4608x1024 : Shape := ⟨2, ![4608, 1024]⟩
abbrev S3x1024 : Shape := ⟨2, ![3, 1024]⟩
abbrev S256x768 : Shape := ⟨2, ![256, 768]⟩
abbrev S16x768 : Shape := ⟨2, ![16, 768]⟩
abbrev S256x256 : Shape := ⟨2, ![256, 256]⟩
abbrev S16x256 : Shape := ⟨2, ![16, 256]⟩
abbrev S3x256 : Shape := ⟨2, ![3, 256]⟩
abbrev S1x256 : Shape := ⟨2, ![1, 256]⟩
abbrev S256 : Shape := ⟨1, ![256]⟩

abbrev nBuf : Space → Nat
  | .hbm => 5
  | .vmem => 18
  | .smem => 0
  | _ => 0

abbrev bufTy : (tb : Table) → Fin (tcTables nBuf tb) → BufTy
  | .hbm, ⟨0, _⟩ => ⟨S4608x3072, .bf16⟩
  | .hbm, ⟨1, _⟩ => ⟨S4608x1024, .bf16⟩
  | .hbm, ⟨2, _⟩ => ⟨S3x1024, .f32⟩
  | .hbm, ⟨3, _⟩ => ⟨S4608x3072, .bf16⟩
  | .hbm, ⟨4, _⟩ => ⟨S3x1024, .f32⟩
  | .local _ .vmem, ⟨0, _⟩ => ⟨S256x768, .bf16⟩
  | .local _ .vmem, ⟨1, _⟩ => ⟨S256x768, .bf16⟩
  | .local _ .vmem, ⟨2, _⟩ => ⟨S16x768, .bf16⟩
  | .local _ .vmem, ⟨3, _⟩ => ⟨S16x768, .bf16⟩
  | .local _ .vmem, ⟨4, _⟩ => ⟨S16x768, .bf16⟩
  | .local _ .vmem, ⟨5, _⟩ => ⟨S16x768, .bf16⟩
  | .local _ .vmem, ⟨6, _⟩ => ⟨S256x256, .bf16⟩
  | .local _ .vmem, ⟨7, _⟩ => ⟨S256x256, .bf16⟩
  | .local _ .vmem, ⟨8, _⟩ => ⟨S16x256, .bf16⟩
  | .local _ .vmem, ⟨9, _⟩ => ⟨S16x256, .bf16⟩
  | .local _ .vmem, ⟨10, _⟩ => ⟨S16x256, .bf16⟩
  | .local _ .vmem, ⟨11, _⟩ => ⟨S16x256, .bf16⟩
  | .local _ .vmem, ⟨12, _⟩ => ⟨S3x256, .f32⟩
  | .local _ .vmem, ⟨13, _⟩ => ⟨S3x256, .f32⟩
  | .local _ .vmem, ⟨14, _⟩ => ⟨S256x768, .bf16⟩
  | .local _ .vmem, ⟨15, _⟩ => ⟨S256x768, .bf16⟩
  | .local _ .vmem, ⟨16, _⟩ => ⟨S3x256, .f32⟩
  | .local _ .vmem, ⟨17, _⟩ => ⟨S3x256, .f32⟩
  | _, _ => ⟨S4608x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c287_i32 : BitVec 32 := 287#32
  let v2 : BitVec 32 := Scalar.minsi v1 c287_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c287_i32 : BitVec 32 := 287#32
  let v2 : BitVec 32 := Scalar.minsi v1 c287_i32
  let c0_i32 : BitVec 32 := 0#32
  ![v2.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference7Ideal.lean ====
abbrev S4608x3072 : Shape := ⟨2, ![4608, 3072]⟩
abbrev S4608x1024 : Shape := ⟨2, ![4608, 1024]⟩
abbrev S3x1024 : Shape := ⟨2, ![3, 1024]⟩
abbrev S4608x4x3x256 : Shape := ⟨4, ![4608, 4, 3, 256]⟩
abbrev S4608x4x1x256 : Shape := ⟨4, ![4608, 4, 1, 256]⟩
abbrev S4608x4x256 : Shape := ⟨3, ![4608, 4, 256]⟩
abbrev S4096x1024 : Shape := ⟨2, ![4096, 1024]⟩
abbrev S2x2048x1024 : Shape := ⟨3, ![2, 2048, 1024]⟩
abbrev S512x1024 : Shape := ⟨2, ![512, 1024]⟩
abbrev S2x256x1024 : Shape := ⟨3, ![2, 256, 1024]⟩
abbrev S2x1x1024 : Shape := ⟨3, ![2, 1, 1024]⟩
abbrev S_ : Shape := ⟨0, ![]⟩
abbrev S2x2047x1024 : Shape := ⟨3, ![2, 2047, 1024]⟩
abbrev S1x1024 : Shape := ⟨2, ![1, 1024]⟩
abbrev S1024 : Shape := ⟨1, ![1024]⟩
abbrev S1x1x1024 : Shape := ⟨3, ![1, 1, 1024]⟩
abbrev S2x255x1024 : Shape := ⟨3, ![2, 255, 1024]⟩

abbrev nBuf : Space → Nat
  | .hbm => 202
  | .vmem => 0
  | .smem => 0
  | _ => 0

abbrev hbmTy0_0 (i : Nat) : BufTy := match i % 128 with
  | 0 => ⟨S4608x3072, .bf16⟩
  | 1 => ⟨S4608x1024, .bf16⟩
  | 2 => ⟨S3x1024, .f32⟩
  | 3 => ⟨S4608x3072, .f32⟩
  | 4 => ⟨S4608x4x3x256, .f32⟩
  | 5 => ⟨S4608x4x1x256, .f32⟩
  | 6 => ⟨S4608x4x256, .f32⟩
  | 7 => ⟨S4608x1024, .f32⟩
  | 8 => ⟨S4608x4x1x256, .f32⟩
  | 9 => ⟨S4608x4x256, .f32⟩
  | 10 => ⟨S4608x1024, .f32⟩
  | 11 => ⟨S4608x4x1x256, .f32⟩
  | 12 => ⟨S4608x4x256, .f32⟩
  | 13 => ⟨S4608x1024, .f32⟩
  | 14 => ⟨S4608x1024, .f32⟩
  | 15 => ⟨S4096x1024, .f32⟩
  | 16 => ⟨S2x2048x1024, .f32⟩
  | 17 => ⟨S512x1024, .f32⟩
  | 18 => ⟨S2x256x1024, .f32⟩
  | 19 => ⟨S2x1x1024, .f32⟩
  | 20 => ⟨S_, .f32⟩
  | 21 => ⟨S2x1x1024, .f32⟩
  | 22 => ⟨S2x2047x1024, .f32⟩
  | 23 => ⟨S2x2048x1024, .f32⟩
  | 24 => ⟨S_, .f32⟩
  | 25 => ⟨S2x1x1024, .f32⟩
  | 26 => ⟨S2x2047x1024, .f32⟩
  | 27 => ⟨S2x2048x1024, .f32⟩
  | 28 => ⟨S_, .f32⟩
  | 29 => ⟨S2x1x1024, .f32⟩
  | 30 => ⟨S1x1024, .f32⟩
  | 31 => ⟨S1024, .f32⟩
  | 32 => ⟨S1x1x1024, .f32⟩
  | 33 => ⟨S2x2048x1024, .f32⟩
  | 34 => ⟨S2x2048x1024, .f32⟩
  | 35 => ⟨S1x1024, .f32⟩
  | 36 => ⟨S1024, .f32⟩
  | 37 => ⟨S1x1x1024, .f32⟩
  | 38 => ⟨S2x2048x1024, .f32⟩
  | 39 => ⟨S2x2048x1024, .f32⟩
  | 40 => ⟨S2x2048x1024, .f32⟩
  | 41 => ⟨S1x1024, .f32⟩
  | 42 => ⟨S1024, .f32⟩
  | 43 => ⟨S1x1x1024, .f32⟩
  | 44 => ⟨S2x2048x1024, .f32⟩
  | 45 => ⟨S2x2048x1024, .f32⟩
  | 46 => ⟨S2x2048x1024, .f32⟩
  | 47 => ⟨S4096x1024, .f32⟩
  | 48 => ⟨S2x1x1024, .f32⟩
  | 49 => ⟨S_, .f32⟩
  | 50 => ⟨S2x1x1024, .f32⟩
  | 51 => ⟨S2x255x1024, .f32⟩
  | 52 => ⟨S2x256x1024, .f32⟩
  | 53 => ⟨S_, .f32⟩
  | 54 => ⟨S2x1x1024, .f32⟩
  | 55 => ⟨S2x255x1024, .f32⟩
  | 56 => ⟨S2x256x1024, .f32⟩
  | 57 => ⟨S_, .f32⟩
  | 58 => ⟨S2x1x1024, .f32⟩
  | 59 => ⟨S1x1024, .f32⟩
  | 60 => ⟨S1024, .f32⟩
  | 61 => ⟨S1x1x1024, .f32⟩
  | 62 => ⟨S2x256x1024, .f32⟩
  | 63 => ⟨S2x256x1024, .f32⟩
  | 64 => ⟨S1x1024, .f32⟩
  | 65 => ⟨S1024, .f32⟩
  | 66 => ⟨S1x1x1024, .f32⟩
  | 67 => ⟨S2x256x1024, .f32⟩
  | 68 => ⟨S2x256x1024, .f32⟩
  | 69 => ⟨S2x256x1024, .f32⟩
  | 70 => ⟨S1x1024, .f32⟩
  | 71 => ⟨S1024, .f32⟩
  | 72 => ⟨S1x1x1024, .f32⟩
  | 73 => ⟨S2x256x1024, .f32⟩
  | 74 => ⟨S2x256x1024, .f32⟩
  | 75 => ⟨S2x256x1024, .f32⟩
  | 76 => ⟨S512x1024, .f32⟩
  | 77 => ⟨S4608x1024, .f32⟩
  | 78 => ⟨S4608x1024, .f32⟩
  | 79 => ⟨S4608x1024, .f32⟩
  | 80 => ⟨S4608x1024, .f32⟩
  | 81 => ⟨S4608x1024, .f32⟩
  | 82 => ⟨S4096x1024, .f32⟩
  | 83 => ⟨S512x1024, .f32⟩
  | 84 => ⟨S2x256x1024, .f32⟩
  | 85 => ⟨S2x256x1024, .f32⟩
  | 86 => ⟨S2x256x1024, .f32⟩
  | 87 => ⟨S2x256x1024, .f32⟩
  | 88 => ⟨S_, .f32⟩
  | 89 => ⟨S1024, .f32⟩
  | 90 => ⟨S1x1x1024, .f32⟩
  | 91 => ⟨S_, .f32⟩
  | 92 => ⟨S1024, .f32⟩
  | 93 => ⟨S1x1024, .f32⟩
  | 94 => ⟨S_, .f32⟩
  | 95 => ⟨S3x1024, .f32⟩
  | 96 => ⟨S2x256x1024, .f32⟩
  | 97 => ⟨S2x256x1024, .f32⟩
  | 98 => ⟨S2x256x1024, .f32⟩
  | 99 => ⟨S_, .f32⟩
  | 100 => ⟨S1024, .f32⟩
  | 101 => ⟨S1x1x1024, .f32⟩
  | 102 => ⟨S_, .f32⟩
  | 103 => ⟨S1024, .f32⟩
  | 104 => ⟨S1x1024, .f32⟩
  | 105 => ⟨S_, .f32⟩
  | 106 => ⟨S3x1024, .f32⟩
  | 107 => ⟨S3x1024, .f32⟩
  | 108 => ⟨S2x256x1024, .f32⟩
  | 109 => ⟨S2x256x1024, .f32⟩
  | 110 => ⟨S2x256x1024, .f32⟩
  | 111 => ⟨S_, .f32⟩
  | 112 => ⟨S1024, .f32⟩
  | 113 => ⟨S1x1x1024, .f32⟩
  | 114 => ⟨S_, .f32⟩
  | 115 => ⟨S1024, .f32⟩
  | 116 => ⟨S1x1024, .f32⟩
  | 117 => ⟨S_, .f32⟩
  | 118 => ⟨S3x1024, .f32⟩
  | 119 => ⟨S3x1024, .f32⟩
  | 120 => ⟨S2x255x1024, .f32⟩
  | 121 => ⟨S2x1x1024, .f32⟩
  | 122 => ⟨S_, .f32⟩
  | 123 => ⟨S2x256x1024, .f32⟩
  | 124 => ⟨S2x256x1024, .f32⟩
  | 125 => ⟨S2x1x1024, .f32⟩
  | 126 => ⟨S2x255x1024, .f32⟩
  | 127 => ⟨S_, .f32⟩
  | _ => ⟨S4608x3072, .bf16⟩

abbrev hbmTy0_1 (i : Nat) : BufTy := match i % 128 with
  | 0 => ⟨S2x256x1024, .f32⟩
  | 1 => ⟨S2x256x1024, .f32⟩
  | 2 => ⟨S2x2048x1024, .f32⟩
  | 3 => ⟨S2x2048x1024, .f32⟩
  | 4 => ⟨S2x2048x1024, .f32⟩
  | 5 => ⟨S2x2048x1024, .f32⟩
  | 6 => ⟨S_, .f32⟩
  | 7 => ⟨S1024, .f32⟩
  | 8 => ⟨S1x1x1024, .f32⟩
  | 9 => ⟨S_, .f32⟩
  | 10 => ⟨S1024, .f32⟩
  | 11 => ⟨S1x1024, .f32⟩
  | 12 => ⟨S_, .f32⟩
  | 13 => ⟨S3x1024, .f32⟩
  | 14 => ⟨S3x1024, .f32⟩
  | 15 => ⟨S2x2048x1024, .f32⟩
  | 16 => ⟨S2x2048x1024, .f32⟩
  | 17 => ⟨S2x2048x1024, .f32⟩
  | 18 => ⟨S_, .f32⟩
  | 19 => ⟨S1024, .f32⟩
  | 20 => ⟨S1x1x1024, .f32⟩
  | 21 => ⟨S_, .f32⟩
  | 22 => ⟨S1024, .f32⟩
  | 23 => ⟨S1x1024, .f32⟩
  | 24 => ⟨S_, .f32⟩
  | 25 => ⟨S3x1024, .f32⟩
  | 26 => ⟨S3x1024, .f32⟩
  | 27 => ⟨S2x2048x1024, .f32⟩
  | 28 => ⟨S2x2048x1024, .f32⟩
  | 29 => ⟨S2x2048x1024, .f32⟩
  | 30 => ⟨S_, .f32⟩
  | 31 => ⟨S1024, .f32⟩
  | 32 => ⟨S1x1x1024, .f32⟩
  | 33 => ⟨S_, .f32⟩
  | 34 => ⟨S1024, .f32⟩
  | 35 => ⟨S1x1024, .f32⟩
  | 36 => ⟨S_, .f32⟩
  | 37 => ⟨S3x1024, .f32⟩
  | 38 => ⟨S3x1024, .f32⟩
  | 39 => ⟨S2x2047x1024, .f32⟩
  | 40 => ⟨S2x1x1024, .f32⟩
  | 41 => ⟨S_, .f32⟩
  | 42 => ⟨S2x2048x1024, .f32⟩
  | 43 => ⟨S2x2048x1024, .f32⟩
  | 44 => ⟨S2x1x1024, .f32⟩
  | 45 => ⟨S2x2047x1024, .f32⟩
  | 46 => ⟨S_, .f32⟩
  | 47 => ⟨S2x2048x1024, .f32⟩
  | 48 => ⟨S2x2048x1024, .f32⟩
  | 49 => ⟨S512x1024, .f32⟩
  | 50 => ⟨S_, .f32⟩
  | 51 => ⟨S4608x1024, .f32⟩
  | 52 => ⟨S4096x1024, .f32⟩
  | 53 => ⟨S_, .f32⟩
  | 54 => ⟨S4608x1024, .f32⟩
  | 55 => ⟨S4608x1024, .f32⟩
  | 56 => ⟨S4608x1024, .f32⟩
  | 57 => ⟨S4608x1024, .f32⟩
  | 58 => ⟨S4608x4x256, .f32⟩
  | 59 => ⟨S4608x4x1x256, .f32⟩
  | 60 => ⟨S_, .f32⟩
  | 61 => ⟨S4608x4x3x256, .f32⟩
  | 62 => ⟨S4608x4x256, .f32⟩
  | 63 => ⟨S4608x4x1x256, .f32⟩
  | 64 => ⟨S_, .f32⟩
  | 65 => ⟨S4608x4x3x256, .f32⟩
  | 66 => ⟨S4608x4x3x256, .f32⟩
  | 67 => ⟨S4608x4x256, .f32⟩
  | 68 => ⟨S4608x4x1x256, .f32⟩
  | 69 => ⟨S_, .f32⟩
  | 70 => ⟨S4608x4x3x256, .f32⟩
  | 71 => ⟨S4608x4x3x256, .f32⟩
  | 72 => ⟨S4608x3072, .f32⟩
  | 73 => ⟨S4608x3072, .bf16⟩
  | _ => ⟨S4608x3072, .bf16⟩

abbrev hbmTy (i : Nat) : BufTy := match i / 128 with
  | 0 => hbmTy0_0 i
  | 1 => hbmTy0_1 i
  | _ => ⟨S4608x3072, .bf16⟩

abbrev bufTy : (tb : Table) → Fin (tcTables nBuf tb) → BufTy
  | .hbm, ⟨i, _⟩ => hbmTy i
  | _, _ => ⟨S4608x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_2 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_3 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_cst_5 : Ref sig .tc := ⟨.hbm, 88, rfl⟩
abbrev main_v79 : Ref sig .tc := ⟨.hbm, 89, rfl⟩
abbrev main_v80 : Ref sig .tc := ⟨.hbm, 90, rfl⟩
abbrev main_cst_6 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_8 : Ref sig .tc := ⟨.hbm, 99, rfl⟩
abbrev main_v87 : Ref sig .tc := ⟨.hbm, 100, rfl⟩
abbrev main_v88 : Ref sig .tc := ⟨.hbm, 101, rfl⟩
abbrev main_cst_9 : Ref sig .tc := ⟨.hbm, 102, rfl⟩
abbrev main_v89 : Ref sig .tc := ⟨.hbm, 103, rfl⟩
abbrev main_v90 : Ref sig .tc := ⟨.hbm, 104, rfl⟩
abbrev main_cst_10 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_cst_11 : Ref sig .tc := ⟨.hbm, 111, rfl⟩
abbrev main_v96 : Ref sig .tc := ⟨.hbm, 112, rfl⟩
abbrev main_v97 : Ref sig .tc := ⟨.hbm, 113, rfl⟩
abbrev main_cst_12 : Ref sig .tc := ⟨.hbm, 114, rfl⟩
abbrev main_v98 : Ref sig .tc := ⟨.hbm, 115, rfl⟩
abbrev main_v99 : Ref sig .tc := ⟨.hbm, 116, rfl⟩
abbrev main_cst_13 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_14 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_cst_15 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_16 : Ref sig .tc := ⟨.hbm, 134, rfl⟩
abbrev main_v114 : Ref sig .tc := ⟨.hbm, 135, rfl⟩
abbrev main_v115 : Ref sig .tc := ⟨.hbm, 136, rfl⟩
abbrev main_cst_17 : Ref sig .tc := ⟨.hbm, 137, rfl⟩
abbrev main_v116 : Ref sig .tc := ⟨.hbm, 138, rfl⟩
abbrev main_v117 : Ref sig .tc := ⟨.hbm, 139, rfl⟩
abbrev main_cst_18 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_cst_19 : Ref sig .tc := ⟨.hbm, 146, rfl⟩
abbrev main_v123 : Ref sig .tc := ⟨.hbm, 147, rfl⟩
abbrev main_v124 : Ref sig .tc := ⟨.hbm, 148, rfl⟩
abbrev main_cst_20 : Ref sig .tc := ⟨.hbm, 149, rfl⟩
abbrev main_v125 : Ref sig .tc := ⟨.hbm, 150, rfl⟩
abbrev main_v126 : Ref sig .tc := ⟨.hbm, 151, rfl⟩
abbrev main_cst_21 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_22 : Ref sig .tc := ⟨.hbm, 158, rfl⟩
abbrev main_v132 : Ref sig .tc := ⟨.hbm, 159, rfl⟩
abbrev main_v133 : Ref sig .tc := ⟨.hbm, 160, rfl⟩
abbrev main_cst_23 : Ref sig .tc := ⟨.hbm, 161, rfl⟩
abbrev main_v134 : Ref sig .tc := ⟨.hbm, 162, rfl⟩
abbrev main_v135 : Ref sig .tc := ⟨.hbm, 163, rfl⟩
abbrev main_cst_24 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_25 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_cst_26 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_cst_27 : Ref sig .tc := ⟨.hbm, 178, rfl⟩
abbrev main_v147 : Ref sig .tc := ⟨.hbm, 179, rfl⟩
abbrev main_v148 : Ref sig .tc := ⟨.hbm, 180, rfl⟩
abbrev main_cst_28 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_v154 : Ref sig .tc := ⟨.hbm, 187, rfl⟩
abbrev main_cst_29 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_cst_30 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_cst_31 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩

abbrev nD : Nat := 1
abbrev τ : Topo := Topo.v7x

variable {F : FTy → Type} [FloatOps F]
-- ==== Kernel8.lean ====
abbrev S4608x1024 : Shape := ⟨2, ![4608, 1024]⟩
abbrev S1024x1024 : Shape := ⟨2, ![1024, 1024]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S4608x1024, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1536x1024, .bf16⟩
  | .local _ .vmem, ⟨4, _⟩ => ⟨S1536x1024, .bf16⟩
  | .local _ .vmem, ⟨5, _⟩ => ⟨S1536x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4608x1024 : Shape := ⟨2, ![4608, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S4608x1024, .f32⟩
  | .hbm, ⟨3, _⟩ => ⟨S1024x1024, .f32⟩
  | .hbm, ⟨4, _⟩ => ⟨S_, .f32⟩
  | .hbm, ⟨5, _⟩ => ⟨S4608x1024, .f32⟩
  | .hbm, ⟨6, _⟩ => ⟨S4608x1024, .f32⟩
  | .hbm, ⟨7, _⟩ => ⟨S4608x1024, .f32⟩
  | .hbm, ⟨8, _⟩ => ⟨S4608x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4608x1024 : Shape := ⟨2, ![4608, 1024]⟩
abbrev S1024x1024 : Shape := ⟨2, ![1024, 1024]⟩
abbrev S1536x1024 : Shape := ⟨2, ![1536, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S1024x1024, .f32⟩
  | .local _ .vmem, ⟨0, _⟩ => ⟨S1536x1024, .bf16⟩
  | .local _ .vmem, ⟨1, _⟩ => ⟨S1536x1024, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S4608x1024 : Shape := ⟨2, ![4608, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S4608x1024, .f32⟩
  | .hbm, ⟨3, _⟩ => ⟨S4608x1024, .f32⟩
  | .hbm, ⟨4, _⟩ => ⟨S_, .f32⟩
  | .hbm, ⟨5, _⟩ => ⟨S1024x1024, .f32⟩
  | .hbm, ⟨6, _⟩ => ⟨S4608x1024, .f32⟩
  | .hbm, ⟨7, _⟩ => ⟨S1024x1024, .f32⟩
  | .hbm, ⟨8, _⟩ => ⟨S1024x1024, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4608x3072 : Shape := ⟨2, ![4608, 3072]⟩
abbrev S1024x3072 : Shape := ⟨2, ![1024, 3072]⟩
abbrev S4608x1024 : Shape := ⟨2, ![4608, 1024]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x3072, .bf16⟩
  | .hbm, ⟨1, _⟩ => ⟨S1024x3072, .bf16⟩
  | .hbm, ⟨2, _⟩ => ⟨S4608x1024, .f32⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | .local _ .vmem, ⟨5, _⟩ => ⟨S1536x1024, .f32⟩
  | .local _ .vmem, ⟨6, _⟩ => ⟨S1536x1024, .f32⟩
  | _, _ => ⟨S4608x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4608x3072 : Shape := ⟨2, ![4608, 3072]⟩
abbrev S1024x3072 : Shape := ⟨2, ![1024, 3072]⟩
abbrev S_ : Shape := ⟨0, ![]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4608x3072, .bf16⟩
  | .hbm, ⟨1, _⟩ => ⟨S1024x3072, .bf16⟩
  | .hbm, ⟨2, _⟩ => ⟨S4608x3072, .f32⟩
  | .hbm, ⟨3, _⟩ => ⟨S1024x3072, .f32⟩
  | .hbm, ⟨4, _⟩ => ⟨S_, .f32⟩
  | .hbm, ⟨5, _⟩ => ⟨S4608x1024, .f32⟩
  | .hbm, ⟨6, _⟩ => ⟨S4608x3072, .f32⟩
  | .hbm, ⟨7, _⟩ => ⟨S4608x1024, .f32⟩
  | _, _ => ⟨S4608x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S4608x1024 : Shape := ⟨2, ![4608, 1024]⟩
abbrev S4608x3072 : Shape := ⟨2, ![4608, 3072]⟩
abbrev S1024x3072 : Shape := ⟨2, ![1024, 3072]⟩
abbrev S768x512 : Shape := ⟨2, ![768, 512]⟩
abbrev S768x3072 : Shape := ⟨2, ![768, 3072]⟩
abbrev S512x3072 : Shape := ⟨2, ![512, 3072]⟩

abbrev nBuf : Space → Nat
  | .hbm => 3
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S4608x3072, .bf16⟩
  | .hbm, ⟨2, _⟩ => ⟨S1024x3072, .f32⟩
  | .local _ .vmem, ⟨0, _⟩ => ⟨S768x512, .bf16⟩
  | .local _ .vmem, ⟨1, _⟩ => ⟨S768x512, .bf16⟩
  | .local _ .vmem, ⟨2, _⟩ => ⟨S768x3072, .bf16⟩
  | .local _ .vmem, ⟨3, _⟩ => ⟨S768x3072, .bf16⟩
  | .local _ .vmem, ⟨4, _⟩ => ⟨S512x3072, .f32⟩
  | .local _ .vmem, ⟨5, _⟩ => ⟨S512x3072, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S768x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S4608x1024 : Shape := ⟨2, ![4608, 1024]⟩
abbrev S4608x3072 : Shape := ⟨2, ![4608, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x3072, .bf16⟩
  | .hbm, ⟨2, _⟩ => ⟨S4608x1024, .f32⟩
  | .hbm, ⟨3, _⟩ => ⟨S4608x3072, .f32⟩
  | .hbm, ⟨4, _⟩ => ⟨S_, .f32⟩
  | .hbm, ⟨5, _⟩ => ⟨S1024x3072, .f32⟩
  | .hbm, ⟨6, _⟩ => ⟨S4608x3072, .f32⟩
  | .hbm, ⟨7, _⟩ => ⟨S3072x1024, .f32⟩
  | .hbm, ⟨8, _⟩ => ⟨S1024x3072, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4608x2816 : Shape := ⟨2, ![4608, 2816]⟩
abbrev S2x2816x1024 : Shape := ⟨3, ![2, 2816, 1024]⟩
abbrev S4608x1024 : Shape := ⟨2, ![4608, 1024]⟩
abbrev S3x9x1x1024 : Shape := ⟨4, ![3, 9, 1, 1024]⟩
abbrev S512x2816 : Shape := ⟨2, ![512, 2816]⟩
abbrev S1x2816x1024 : Shape := ⟨3, ![1, 2816, 1024]⟩
abbrev S512x1024 : Shape := ⟨2, ![512, 1024]⟩
abbrev S1x1x1x1024 : Shape := ⟨4, ![1, 1, 1, 1024]⟩
abbrev S2816x1024 : Shape := ⟨2, ![2816, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4608x2816, .bf16⟩
  | .hbm, ⟨1, _⟩ => ⟨S2x2816x1024, .bf16⟩
  | .hbm, ⟨2, _⟩ => ⟨S4608x1024, .f32⟩
  | .hbm, ⟨3, _⟩ => ⟨S3x9x1x1024, .f32⟩
  | .hbm, ⟨4, _⟩ => ⟨S4608x1024, .f32⟩
  | .hbm, ⟨5, _⟩ => ⟨S4608x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c2_i32_4 : BitVec 32 := 2#32
  let c0_i32_5 : BitVec 32 := 0#32
  let c0_i32_6 : BitVec 32 := 0#32
  ![v18.toNat, c2_i32_4.toNat, c0_i32_5.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S4608x2816 : Shape := ⟨2, ![4608, 2816]⟩
abbrev S2x2816x1024 : Shape := ⟨3, ![2, 2816, 1024]⟩
abbrev S4608x1024 : Shape := ⟨2, ![4608, 1024]⟩
abbrev S3x9x1x1024 : Shape := ⟨4, ![3, 9, 1, 1024]⟩
abbrev S1x2816x1024 : Shape := ⟨3, ![1, 2816, 1024]⟩
abbrev S2816x1024 : Shape := ⟨2, ![2816, 1024]⟩
abbrev S1x1x1x1024 : Shape := ⟨4, ![1, 1, 1, 1024]⟩
abbrev S1x1024 : Shape := ⟨2, ![1, 1024]⟩
abbrev S2048x1024 : Shape := ⟨2, ![2048, 1024]⟩
abbrev S512x1024 : Shape := ⟨2, ![512, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S2x2816x1024, .bf16⟩
  | .hbm, ⟨2, _⟩ => ⟨S4608x1024, .f32⟩
  | .hbm, ⟨3, _⟩ => ⟨S3x9x1x1024, .f32⟩
  | .hbm, ⟨4, _⟩ => ⟨S4608x2816, .f32⟩
  | .hbm, ⟨5, _⟩ => ⟨S1x2816x1024, .bf16⟩
  | .hbm, ⟨6, _⟩ => ⟨S2816x1024, .bf16⟩
  | .hbm, ⟨7, _⟩ => ⟨S2816x1024, .f32⟩
  | .hbm, ⟨8, _⟩ => ⟨S4608x1024, .f32⟩
  | .hbm, ⟨9, _⟩ => ⟨S1x1x1x1024, .f32⟩
  | .hbm, ⟨10, _⟩ => ⟨S1x1024, .f32⟩
  | .hbm, ⟨11, _⟩ => ⟨S2048x1024, .f32⟩
  | .hbm, ⟨12, _⟩ => ⟨S1x1x1x1024, .f32⟩
  | .hbm, ⟨13, _⟩ => ⟨S1x1024, .f32⟩
  | .hbm, ⟨14, _⟩ => ⟨S2048x1024, .f32⟩
  | .hbm, ⟨15, _⟩ => ⟨S1x1x1x1024, .f32⟩
  | .hbm, ⟨16, _⟩ => ⟨S1x1024, .f32⟩
  | .hbm, ⟨17, _⟩ => ⟨S512x1024, .f32⟩
  | .hbm, ⟨18, _⟩ => ⟨S4608x1024, .f32⟩
  | .hbm, ⟨19, _⟩ => ⟨S_, .f32⟩
  | .hbm, ⟨20, _⟩ => ⟨S4608x1024, .f32⟩
  | .hbm, ⟨21, _⟩ => ⟨S4608x1024, .f32⟩
  | .hbm, ⟨22, _⟩ => ⟨S4608x1024, .f32⟩
  | .hbm, ⟨23, _⟩ => ⟨S4608x1024, .f32⟩
  | .hbm, ⟨24, _⟩ => ⟨S4608x1024, .bf16⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel13.lean ====
abbrev S4608x2048 : Shape := ⟨2, ![4608, 2048]⟩
abbrev S4608x1024 : Shape := ⟨2, ![4608, 1024]⟩
abbrev S256x256 : Shape := ⟨2, ![256, 256]⟩
abbrev S2048x256 : Shape := ⟨2, ![2048, 256]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S4608x2048, .bf16⟩
  | .hbm, ⟨1, _⟩ => ⟨S4608x2048, .bf16⟩
  | .hbm, ⟨2, _⟩ => ⟨S4608x2048, .bf16⟩
  | .hbm, ⟨3, _⟩ => ⟨S4608x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 9], ![false, false, false]⟩

def k0_cond1 (i : grid0.Coords) : BitVec 1 :=
  let arg2 : BitVec 32 := BitVec.ofNat 32 (i 2).val
  let c8_i32 : BitVec 32 := 8#32
  let v5 : BitVec 1 := Scalar.cmpi .slt arg2 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg2 : BitVec 32 := BitVec.ofNat 32 (i 2).val
  let c8_i32_4 : BitVec 32 := 8#32
  let v8 : BitVec 1 := Scalar.cmpi .eq arg2 c8_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference13Ideal.lean ====
abbrev S4608x2048 : Shape := ⟨2, ![4608, 2048]⟩
abbrev S4608x1024 : Shape := ⟨2, ![4608, 1024]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S2x2048x8x256 : Shape := ⟨4, ![2, 2048, 8, 256]⟩
abbrev S2x8x2048x256 : Shape := ⟨4, ![2, 8, 2048, 256]⟩
abbrev S2x256x8x256 : Shape := ⟨4, ![2, 256, 8, 256]⟩
abbrev S2x8x256x256 : Shape := ⟨4, ![2, 8, 256, 256]⟩
abbrev S2x2048x8x128 : Shape := ⟨4, ![2, 2048, 8, 128]⟩
abbrev S2x8x2048x128 : Shape := ⟨4, ![2, 8, 2048, 128]⟩
abbrev S2x256x8x128 : Shape := ⟨4, ![2, 256, 8, 128]⟩
abbrev S2x8x256x128 : Shape := ⟨4, ![2, 8, 256, 128]⟩
abbrev S2x8x2304x256 : Shape := ⟨4, ![2, 8, 2304, 256]⟩
abbrev S2x8x2304x128 : Shape := ⟨4, ![2, 8, 2304, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩
abbrev S2x8x256 : Shape := ⟨3, ![2, 8, 256]⟩
abbrev S2x8x256x1 : Shape := ⟨4, ![2, 8, 256, 1]⟩

abbrev nBuf : Space → Nat
  | .hbm => 71
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S4608x2048, .bf16⟩
  | .hbm, ⟨2, _⟩ => ⟨S4608x2048, .bf16⟩
  | .hbm, ⟨3, _⟩ => ⟨S4608x1024, .bf16⟩
  | .hbm, ⟨4, _⟩ => ⟨S4608x2048, .f32⟩
  | .hbm, ⟨5, _⟩ => ⟨S4608x2048, .f32⟩
  | .hbm, ⟨6, _⟩ => ⟨S4608x1024, .f32⟩
  | .hbm, ⟨7, _⟩ => ⟨S4096x2048, .f32⟩
  | .hbm, ⟨8, _⟩ => ⟨S512x2048, .f32⟩
  | .hbm, ⟨9, _⟩ => ⟨S4096x1024, .f32⟩
  | .hbm, ⟨10, _⟩ => ⟨S512x1024, .f32⟩
  | .hbm, ⟨11, _⟩ => ⟨S4096x2048, .f32⟩
  | .hbm, ⟨12, _⟩ => ⟨S2x2048x8x256, .f32⟩
  | .hbm, ⟨13, _⟩ => ⟨S2x8x2048x256, .f32⟩
  | .hbm, ⟨14, _⟩ => ⟨S512x2048, .f32⟩
  | .hbm, ⟨15, _⟩ => ⟨S2x256x8x256, .f32⟩
  | .hbm, ⟨16, _⟩ => ⟨S2x8x256x256, .f32⟩
  | .hbm, ⟨17, _⟩ => ⟨S2x2048x8x256, .f32⟩
  | .hbm, ⟨18, _⟩ => ⟨S2x8x2048x256, .f32⟩
  | .hbm, ⟨19, _⟩ => ⟨S2x256x8x256, .f32⟩
  | .hbm, ⟨20, _⟩ => ⟨S2x8x256x256, .f32⟩
  | .hbm, ⟨21, _⟩ => ⟨S2x2048x8x128, .f32⟩
  | .hbm, ⟨22, _⟩ => ⟨S2x8x2048x128, .f32⟩
  | .hbm, ⟨23, _⟩ => ⟨S2x256x8x128, .f32⟩
  | .hbm, ⟨24, _⟩ => ⟨S2x8x256x128, .f32⟩
  | .hbm, ⟨25, _⟩ => ⟨S2x8x2304x256, .f32⟩
  | .hbm, ⟨26, _⟩ => ⟨S2x8x2304x128, .f32⟩
  | .hbm, ⟨27, _⟩ => ⟨S2x8x2048x2304, .f32⟩
  | .hbm, ⟨28, _⟩ => ⟨S_, .f32⟩
  | .hbm, ⟨29, _⟩ => ⟨S2x8x2048x2304, .f32⟩
  | .hbm, ⟨30, _⟩ => ⟨S2x8x2048x2304, .f32⟩
  | .hbm, ⟨31, _⟩ => ⟨S_, .f32⟩
  | .hbm, ⟨32, _⟩ => ⟨S2x8x2048, .f32⟩
  | .hbm, ⟨33, _⟩ => ⟨S_, .f32⟩
  | .hbm, ⟨34, _⟩ => ⟨S2x8x2048, .f32⟩
  | .hbm, ⟨35, _⟩ => ⟨S2x8x2048, .f32⟩
  | .hbm, ⟨36, _⟩ => ⟨S2x8x2048x1, .f32⟩
  | .hbm, ⟨37, _⟩ => ⟨S2x8x2048x2304, .f32⟩
  | .hbm, ⟨38, _⟩ => ⟨S2x8x2048x2304, .f32⟩
  | .hbm, ⟨39, _⟩ => ⟨S2x8x2048x2304, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2304, .f32⟩
  | .hbm, ⟨44, _⟩ => ⟨S2x8x2048x2304, .f32⟩
  | .hbm, ⟨45, _⟩ => ⟨S2x8x2048x128, .f32⟩
  | .hbm, ⟨46, _⟩ => ⟨S2x8x256x256, .f32⟩
  | .hbm, ⟨47, _⟩ => ⟨S_, .f32⟩
  | .hbm, ⟨48, _⟩ => ⟨S2x8x256x256, .f32⟩
  | .hbm, ⟨49, _⟩ => ⟨S2x8x256x256, .f32⟩
  | .hbm, ⟨50, _⟩ => ⟨S_, .f32⟩
  | .hbm, ⟨51, _⟩ => ⟨S2x8x256, .f32⟩
  | .hbm, ⟨52, _⟩ => ⟨S_, .f32⟩
  | .hbm, ⟨53, _⟩ => ⟨S2x8x256, .f32⟩
  | .hbm, ⟨54, _⟩ => ⟨S2x8x256, .f32⟩
  | .hbm, ⟨55, _⟩ => ⟨S2x8x256x1, .f32⟩
  | .hbm, ⟨56, _⟩ => ⟨S2x8x256x256, .f32⟩
  | .hbm, ⟨57, _⟩ => ⟨S2x8x256x256, .f32⟩
  | .hbm, ⟨58, _⟩ => ⟨S2x8x256x256, .f32⟩
  | .hbm, ⟨59, _⟩ => ⟨S_, .f32⟩
  | .hbm, ⟨60, _⟩ => ⟨S2x8x256, .f32⟩
  | .hbm, ⟨61, _⟩ => ⟨S2x8x256x1, .f32⟩
  | .hbm, ⟨62, _⟩ => ⟨S2x8x256x256, .f32⟩
  | .hbm, ⟨63, _⟩ => ⟨S2x8x256x256, .f32⟩
  | .hbm, ⟨64, _⟩ => ⟨S2x8x256x128, .f32⟩
  | .hbm, ⟨65, _⟩ => ⟨S2x2048x8x128, .f32⟩
  | .hbm, ⟨66, _⟩ => ⟨S4096x1024, .f32⟩
  | .hbm, ⟨67, _⟩ => ⟨S2x256x8x128, .f32⟩
  | .hbm, ⟨68, _⟩ => ⟨S512x1024, .f32⟩
  | .hbm, ⟨69, _⟩ => ⟨S4608x1024, .f32⟩
  | .hbm, ⟨70, _⟩ => ⟨S4608x1024, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_2 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_v41 : Ref sig .tc := ⟨.hbm, 49, rfl⟩
abbrev main_cst_4 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_6 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩

abbrev nD : Nat := 1
abbrev τ : Topo := Topo.v7x

variable {F : FTy → Type} [FloatOps F]
-- ==== Kernel14.lean ====
abbrev S4608x2048 : Shape := ⟨2, ![4608, 2048]⟩
abbrev S4608x1024 : Shape := ⟨2, ![4608, 1024]⟩
abbrev S256x256 : Shape := ⟨2, ![256, 256]⟩
abbrev S2048x256 : Shape := ⟨2, ![2048, 256]⟩
abbrev S256x128 : Shape := ⟨2, ![256, 128]⟩
abbrev S2048x128 : Shape := ⟨2, ![2048, 128]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 12
  | .smem => 0
  | _ => 0

abbrev bufTy : (tb : Table) → Fin (tcTables nBuf tb) → BufTy
  | .hbm, ⟨0, _⟩ => ⟨S4608x2048, .bf16⟩
  | .hbm, ⟨1, _⟩ => ⟨S4608x2048, .bf16⟩
  | .hbm, ⟨2, _⟩ => ⟨S4608x2048, .bf16⟩
  | .hbm, ⟨3, _⟩ => ⟨S4608x1024, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S256x128, .bf16⟩
  | .local _ .vmem, ⟨11, _⟩ => ⟨S256x128, .bf16⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 9], ![false, false, false]⟩

def k0_cond1 (i : grid0.Coords) : BitVec 1 :=
  let arg2 : BitVec 32 := BitVec.ofNat 32 (i 2).val
  let c8_i32 : BitVec 32 := 8#32
  let v5 : BitVec 1 := Scalar.cmpi .slt arg2 c8_i32
  let v6 : BitVec 32 := Scalar.extui v5
  let c0_i32 : BitVec 32 := 0#32
  let v7 : BitVec 1 := Scalar.cmpi .ne v6 c0_i32
  v7

def k0_cond2 (i : grid0.Coords) : BitVec 1 :=
  let arg2 : BitVec 32 := BitVec.ofNat 32 (i 2).val
  let c8_i32_4 : BitVec 32 := 8#32
  let v8 : BitVec 1 := Scalar.cmpi .eq arg2 c8_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c8_i32 : BitVec 32 := 8#32
  let v1 : BitVec 32 := Scalar.addi c8_i32 arg1
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 1 := Scalar.cmpi .slt arg2 c8_i32
  let c8_i32_0 : BitVec 32 := 8#32
  let v1 : BitVec 32 := Scalar.muli arg0 c8_i32_0
  let v2 : BitVec 32 := Scalar.addi v1 arg2
  let c16_i32 : BitVec 32 := 16#32
  let v3 : BitVec 32 := Scalar.addi c16_i32 arg0
  let v4 : BitVec 32 := Scalar.select v0 v2 v3
  let c0_i32 : BitVec 32 := 0#32
  ![v4.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference14Ideal.lean ====
abbrev S4608x2048 : Shape := ⟨2, ![4608, 2048]⟩
abbrev S4608x1024 : Shape := ⟨2, ![4608, 1024]⟩
abbrev S4096x2048 : Shape := ⟨2, ![4096, 2048]⟩
abbrev S512x2048 : Shape := ⟨2, ![512, 2048]⟩
abbrev S4096x1024 : Shape := ⟨2, ![4096, 1024]⟩
abbrev S512x1024 : Shape := ⟨2, ![512, 1024]⟩
abbrev S2x2048x8x256 : Shape := ⟨4, ![2, 2048, 8, 256]⟩
abbrev S2x8x2048x256 : Shape := ⟨4, ![2, 8, 2048, 256]⟩
abbrev S2x256x8x256 : Shape := ⟨4, ![2, 256, 8, 256]⟩
abbrev S2x8x256x256 : Shape := ⟨4, ![2, 8, 256, 256]⟩
abbrev S2x2048x8x128 : Shape := ⟨4, ![2, 2048, 8, 128]⟩
abbrev S2x8x2048x128 : Shape := ⟨4, ![2, 8, 2048, 128]⟩
abbrev S2x256x8x128 : Shape := ⟨4, ![2, 256, 8, 128]⟩
abbrev S2x8x256x128 : Shape := ⟨4, ![2, 8, 256, 128]⟩
abbrev S2x8x2304x256 : Shape := ⟨4, ![2, 8, 2304, 256]⟩
abbrev S2x8x2304x128 : Shape := ⟨4, ![2, 8, 2304, 128]⟩
abbrev S2x8x2048x2304 : Shape := ⟨4, ![2, 8, 2048, 2304]⟩
abbrev S_ : Shape := ⟨0, ![]⟩
abbrev S2x8x2048 : Shape := ⟨3, ![2, 8, 2048]⟩
abbrev S2x8x2048x1 : Shape := ⟨4, ![2, 8, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S4608x2048, .bf16⟩
  | .hbm, ⟨2, _⟩ => ⟨S4608x2048, .bf16⟩
  | .hbm, ⟨3, _⟩ => ⟨S4608x1024, .bf16⟩
  | .hbm, ⟨4, _⟩ => ⟨S4608x2048, .f32⟩
  | .hbm, ⟨5, _⟩ => ⟨S4608x2048, .f32⟩
  | .hbm, ⟨6, _⟩ => ⟨S4608x1024, .f32⟩
  | .hbm, ⟨7, _⟩ => ⟨S4096x2048, .f32⟩
  | .hbm, ⟨8, _⟩ => ⟨S512x2048, .f32⟩
  | .hbm, ⟨9, _⟩ => ⟨S4096x1024, .f32⟩
  | .hbm, ⟨10, _⟩ => ⟨S512x1024, .f32⟩
  | .hbm, ⟨11, _⟩ => ⟨S4096x2048, .f32⟩
  | .hbm, ⟨12, _⟩ => ⟨S2x2048x8x256, .f32⟩
  | .hbm, ⟨13, _⟩ => ⟨S2x8x2048x256, .f32⟩
  | .hbm, ⟨14, _⟩ => ⟨S2x2048x8x256, .f32⟩
  | .hbm, ⟨15, _⟩ => ⟨S2x8x2048x256, .f32⟩
  | .hbm, ⟨16, _⟩ => ⟨S2x256x8x256, .f32⟩
  | .hbm, ⟨17, _⟩ => ⟨S2x8x256x256, .f32⟩
  | .hbm, ⟨18, _⟩ => ⟨S2x2048x8x128, .f32⟩
  | .hbm, ⟨19, _⟩ => ⟨S2x8x2048x128, .f32⟩
  | .hbm, ⟨20, _⟩ => ⟨S2x256x8x128, .f32⟩
  | .hbm, ⟨21, _⟩ => ⟨S2x8x256x128, .f32⟩
  | .hbm, ⟨22, _⟩ => ⟨S2x8x2304x256, .f32⟩
  | .hbm, ⟨23, _⟩ => ⟨S2x8x2304x128, .f32⟩
  | .hbm, ⟨24, _⟩ => ⟨S2x8x2048x2304, .f32⟩
  | .hbm, ⟨25, _⟩ => ⟨S_, .f32⟩
  | .hbm, ⟨26, _⟩ => ⟨S2x8x2048x2304, .f32⟩
  | .hbm, ⟨27, _⟩ => ⟨S2x8x2048x2304, .f32⟩
  | .hbm, ⟨28, _⟩ => ⟨S_, .f32⟩
  | .hbm, ⟨29, _⟩ => ⟨S2x8x2048, .f32⟩
  | .hbm, ⟨30, _⟩ => ⟨S_, .f32⟩
  | .hbm, ⟨31, _⟩ => ⟨S2x8x2048, .f32⟩
  | .hbm, ⟨32, _⟩ => ⟨S2x8x2048, .f32⟩
  | .hbm, ⟨33, _⟩ => ⟨S2x8x2048x1, .f32⟩
  | .hbm, ⟨34, _⟩ => ⟨S2x8x2048x2304, .f32⟩
  | .hbm, ⟨35, _⟩ => ⟨S2x8x2048x2304, .f32⟩
  | .hbm, ⟨36, _⟩ => ⟨S2x8x2048x2304, .f32⟩
  | .hbm, ⟨37, _⟩ => ⟨S_, .f32⟩
  | .hbm, ⟨38, _⟩ => ⟨S2x8x2048, .f32⟩
  | .hbm, ⟨39, _⟩ => ⟨S2x8x2048x1, .f32⟩
  | .hbm, ⟨40, _⟩ => ⟨S2x8x2048x2304, .f32⟩
  | .hbm, ⟨41, _⟩ => ⟨S2x8x2048x2304, .f32⟩
  | .hbm, ⟨42, _⟩ => ⟨S2x8x2048x128, .f32⟩
  | .hbm, ⟨43, _⟩ => ⟨S2x2048x8x128, .f32⟩
  | .hbm, ⟨44, _⟩ => ⟨S4096x1024, .f32⟩
  | .hbm, ⟨45, _⟩ => ⟨S_, .f32⟩
  | .hbm, ⟨46, _⟩ => ⟨S512x1024, .f32⟩
  | .hbm, ⟨47, _⟩ => ⟨S4608x1024, .f32⟩
  | .hbm, ⟨48, _⟩ => ⟨S4608x1024, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst : Ref sig .tc := ⟨.hbm, 25, rfl⟩
abbrev main_v22 : Ref sig .tc := ⟨.hbm, 26, rfl⟩
abbrev main_v23 : Ref sig .tc := ⟨.hbm, 27, rfl⟩
abbrev main_cst_0 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩

abbrev nD : Nat := 1
abbrev τ : Topo := Topo.v7x

variable {F : FTy → Type} [FloatOps F]
-- ==== Kernel15.lean ====
abbrev S4608x2048 : Shape := ⟨2, ![4608, 2048]⟩
abbrev S256x2048 : Shape := ⟨2, ![256, 2048]⟩
abbrev S4608x256 : Shape := ⟨2, ![4608, 256]⟩
abbrev S1536x1024 : Shape := ⟨2, ![1536, 1024]⟩
abbrev S256x1024 : Shape := ⟨2, ![256, 1024]⟩
abbrev S1536x256 : Shape := ⟨2, ![1536, 256]⟩

abbrev nBuf : Space → Nat
  | .hbm => 3
  | .vmem => 7
  | .smem => 0
  | _ => 0

abbrev bufTy : (tb : Table) → Fin (tcTables nBuf tb) → BufTy
  | .hbm, ⟨0, _⟩ => ⟨S4608x2048, .bf16⟩
  | .hbm, ⟨1, _⟩ => ⟨S256x2048, .bf16⟩
  | .hbm, ⟨2, _⟩ => ⟨S4608x256, .bf16⟩
  | .local _ .vmem, ⟨0, _⟩ => ⟨S1536x1024, .bf16⟩
  | .local _ .vmem, ⟨1, _⟩ => ⟨S1536x1024, .bf16⟩
  | .local _ .vmem, ⟨2, _⟩ => ⟨S256x1024, .bf16⟩
  | .local _ .vmem, ⟨3, _⟩ => ⟨S256x1024, .bf16⟩
  | .local _ .vmem, ⟨4, _⟩ => ⟨S1536x256, .bf16⟩
  | .local _ .vmem, ⟨5, _⟩ => ⟨S1536x256, .bf16⟩
  | .local _ .vmem, ⟨6, _⟩ => ⟨S1536x256, .f32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4608x2048 : Shape := ⟨2, ![4608, 2048]⟩
abbrev S256x2048 : Shape := ⟨2, ![256, 2048]⟩
abbrev S_ : Shape := ⟨0, ![]⟩
abbrev S4608x256 : Shape := ⟨2, ![4608, 256]⟩

abbrev nBuf : Space → Nat
  | .hbm => 9
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S256x2048, .bf16⟩
  | .hbm, ⟨2, _⟩ => ⟨S4608x2048, .f32⟩
  | .hbm, ⟨3, _⟩ => ⟨S256x2048, .f32⟩
  | .hbm, ⟨4, _⟩ => ⟨S_, .f32⟩
  | .hbm, ⟨5, _⟩ => ⟨S4608x256, .f32⟩
  | .hbm, ⟨6, _⟩ => ⟨S4608x2048, .f32⟩
  | .hbm, ⟨7, _⟩ => ⟨S4608x256, .f32⟩
  | .hbm, ⟨8, _⟩ => ⟨S4608x256, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S4608x256 : Shape := ⟨2, ![4608, 256]⟩
abbrev S4608x2048 : Shape := ⟨2, ![4608, 2048]⟩
abbrev S256x2048 : Shape := ⟨2, ![256, 2048]⟩
abbrev S1536x256 : Shape := ⟨2, ![1536, 256]⟩
abbrev S1536x2048 : Shape := ⟨2, ![1536, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4608x256, .bf16⟩
  | .hbm, ⟨1, _⟩ => ⟨S4608x2048, .bf16⟩
  | .hbm, ⟨2, _⟩ => ⟨S256x2048, .f32⟩
  | .local _ .vmem, ⟨0, _⟩ => ⟨S1536x256, .bf16⟩
  | .local _ .vmem, ⟨1, _⟩ => ⟨S1536x256, .bf16⟩
  | .local _ .vmem, ⟨2, _⟩ => ⟨S1536x2048, .bf16⟩
  | .local _ .vmem, ⟨3, _⟩ => ⟨S1536x2048, .bf16⟩
  | .local _ .vmem, ⟨4, _⟩ => ⟨S256x2048, .f32⟩
  | _, _ => ⟨S4608x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference16Ideal.lean ====
abbrev S4608x256 : Shape := ⟨2, ![4608, 256]⟩
abbrev S4608x2048 : Shape := ⟨2, ![4608, 2048]⟩
abbrev S_ : Shape := ⟨0, ![]⟩
abbrev S256x2048 : Shape := ⟨2, ![256, 2048]⟩
abbrev S2048x256 : Shape := ⟨2, ![2048, 256]⟩

abbrev nBuf : Space → Nat
  | .hbm => 9
  | .vmem => 0
  | .smem => 0
  | _ => 0

abbrev bufTy : (tb : Table) → Fin (tcTables nBuf tb) → BufTy
  | .hbm, ⟨0, _⟩ => ⟨S4608x256, .bf16⟩
  | .hbm, ⟨1, _⟩ => ⟨S4608x2048, .bf16⟩
  | .hbm, ⟨2, _⟩ => ⟨S4608x256, .f32⟩
  | .hbm, ⟨3, _⟩ => ⟨S4608x2048, .f32⟩
  | .hbm, ⟨4, _⟩ => ⟨S_, .f32⟩
  | .hbm, ⟨5, _⟩ => ⟨S256x2048, .f32⟩
  | .hbm, ⟨6, _⟩ => ⟨S4608x2048, .f32⟩
  | .hbm, ⟨7, _⟩ => ⟨S2048x256, .f32⟩
  | .hbm, ⟨8, _⟩ => ⟨S256x2048, .f32⟩
  | _, _ => ⟨S4608x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S4608x2048 : Shape := ⟨2, ![4608, 2048]⟩
abbrev S128x2048 : Shape := ⟨2, ![128, 2048]⟩
abbrev S4608x128 : Shape := ⟨2, ![4608, 128]⟩
abbrev S1536x1024 : Shape := ⟨2, ![1536, 1024]⟩
abbrev S128x1024 : Shape := ⟨2, ![128, 1024]⟩
abbrev S1536x128 : Shape := ⟨2, ![1536, 128]⟩

abbrev nBuf : Space → Nat
  | .hbm => 3
  | .vmem => 7
  | .smem => 0
  | _ => 0

abbrev bufTy : (tb : Table) → Fin (tcTables nBuf tb) → BufTy
  | .hbm, ⟨0, _⟩ => ⟨S4608x2048, .bf16⟩
  | .hbm, ⟨1, _⟩ => ⟨S128x2048, .bf16⟩
  | .hbm, ⟨2, _⟩ => ⟨S4608x128, .bf16⟩
  | .local _ .vmem, ⟨0, _⟩ => ⟨S1536x1024, .bf16⟩
  | .local _ .vmem, ⟨1, _⟩ => ⟨S1536x1024, .bf16⟩
  | .local _ .vmem, ⟨2, _⟩ => ⟨S128x1024, .bf16⟩
  | .local _ .vmem, ⟨3, _⟩ => ⟨S128x1024, .bf16⟩
  | .local _ .vmem, ⟨4, _⟩ => ⟨S1536x128, .bf16⟩
  | .local _ .vmem, ⟨5, _⟩ => ⟨S1536x128, .bf16⟩
  | .local _ .vmem, ⟨6, _⟩ => ⟨S1536x128, .f32⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4608x2048 : Shape := ⟨2, ![4608, 2048]⟩
abbrev S128x2048 : Shape := ⟨2, ![128, 2048]⟩
abbrev S_ : Shape := ⟨0, ![]⟩
abbrev S4608x128 : Shape := ⟨2, ![4608, 128]⟩

abbrev nBuf : Space → Nat
  | .hbm => 9
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S128x2048, .bf16⟩
  | .hbm, ⟨2, _⟩ => ⟨S4608x2048, .f32⟩
  | .hbm, ⟨3, _⟩ => ⟨S128x2048, .f32⟩
  | .hbm, ⟨4, _⟩ => ⟨S_, .f32⟩
  | .hbm, ⟨5, _⟩ => ⟨S4608x128, .f32⟩
  | .hbm, ⟨6, _⟩ => ⟨S4608x2048, .f32⟩
  | .hbm, ⟨7, _⟩ => ⟨S4608x128, .f32⟩
  | .hbm, ⟨8, _⟩ => ⟨S4608x128, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S4608x128 : Shape := ⟨2, ![4608, 128]⟩
abbrev S4608x2048 : Shape := ⟨2, ![4608, 2048]⟩
abbrev S128x2048 : Shape := ⟨2, ![128, 2048]⟩
abbrev S1536x128 : Shape := ⟨2, ![1536, 128]⟩
abbrev S1536x2048 : Shape := ⟨2, ![1536, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4608x128, .bf16⟩
  | .hbm, ⟨1, _⟩ => ⟨S4608x2048, .bf16⟩
  | .hbm, ⟨2, _⟩ => ⟨S128x2048, .f32⟩
  | .local _ .vmem, ⟨0, _⟩ => ⟨S1536x128, .bf16⟩
  | .local _ .vmem, ⟨1, _⟩ => ⟨S1536x128, .bf16⟩
  | .local _ .vmem, ⟨2, _⟩ => ⟨S1536x2048, .bf16⟩
  | .local _ .vmem, ⟨3, _⟩ => ⟨S1536x2048, .bf16⟩
  | .local _ .vmem, ⟨4, _⟩ => ⟨S128x2048, .f32⟩
  | _, _ => ⟨S4608x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference18Ideal.lean ====
abbrev S4608x128 : Shape := ⟨2, ![4608, 128]⟩
abbrev S4608x2048 : Shape := ⟨2, ![4608, 2048]⟩
abbrev S_ : Shape := ⟨0, ![]⟩
abbrev S128x2048 : Shape := ⟨2, ![128, 2048]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S4608x128, .bf16⟩
  | .hbm, ⟨1, _⟩ => ⟨S4608x2048, .bf16⟩
  | .hbm, ⟨2, _⟩ => ⟨S4608x128, .f32⟩
  | .hbm, ⟨3, _⟩ => ⟨S4608x2048, .f32⟩
  | .hbm, ⟨4, _⟩ => ⟨S_, .f32⟩
  | .hbm, ⟨5, _⟩ => ⟨S128x2048, .f32⟩
  | .hbm, ⟨6, _⟩ => ⟨S4608x2048, .f32⟩
  | .hbm, ⟨7, _⟩ => ⟨S2048x128, .f32⟩
  | .hbm, ⟨8, _⟩ => ⟨S128x2048, .f32⟩
  | _, _ => ⟨S4608x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4608x512 : Shape := ⟨2, ![4608, 512]⟩
abbrev S1024x512 : Shape := ⟨2, ![1024, 512]⟩
abbrev S4608x1024 : Shape := ⟨2, ![4608, 1024]⟩
abbrev S1536x512 : Shape := ⟨2, ![1536, 512]⟩
abbrev S1536x1024 : Shape := ⟨2, ![1536, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4608x512, .bf16⟩
  | .hbm, ⟨1, _⟩ => ⟨S1024x512, .bf16⟩
  | .hbm, ⟨2, _⟩ => ⟨S4608x1024, .f32⟩
  | .local _ .vmem, ⟨0, _⟩ => ⟨S1536x512, .bf16⟩
  | .local _ .vmem, ⟨1, _⟩ => ⟨S1536x512, .bf16⟩
  | .local _ .vmem, ⟨2, _⟩ => ⟨S1024x512, .bf16⟩
  | .local _ .vmem, ⟨3, _⟩ => ⟨S1536x1024, .f32⟩
  | .local _ .vmem, ⟨4, _⟩ => ⟨S1536x1024, .f32⟩
  | .local _ .vmem, ⟨5, _⟩ => ⟨S1536x1024, .f32⟩
  | _, _ => ⟨S4608x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4608x512 : Shape := ⟨2, ![4608, 512]⟩
abbrev S1024x512 : Shape := ⟨2, ![1024, 512]⟩
abbrev S_ : Shape := ⟨0, ![]⟩
abbrev S4608x1024 : Shape := ⟨2, ![4608, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4608x512, .bf16⟩
  | .hbm, ⟨1, _⟩ => ⟨S1024x512, .bf16⟩
  | .hbm, ⟨2, _⟩ => ⟨S4608x512, .f32⟩
  | .hbm, ⟨3, _⟩ => ⟨S1024x512, .f32⟩
  | .hbm, ⟨4, _⟩ => ⟨S_, .f32⟩
  | .hbm, ⟨5, _⟩ => ⟨S4608x1024, .f32⟩
  | .hbm, ⟨6, _⟩ => ⟨S4608x512, .f32⟩
  | .hbm, ⟨7, _⟩ => ⟨S4608x1024, .f32⟩
  | _, _ => ⟨S4608x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel20.lean ====
abbrev S4608x1024 : Shape := ⟨2, ![4608, 1024]⟩
abbrev S4608x512 : Shape := ⟨2, ![4608, 512]⟩
abbrev S1024x512 : Shape := ⟨2, ![1024, 512]⟩
abbrev S1536x1024 : Shape := ⟨2, ![1536, 1024]⟩
abbrev S1536x512 : Shape := ⟨2, ![1536, 512]⟩

abbrev nBuf : Space → Nat
  | .hbm => 3
  | .vmem => 5
  | .smem => 0
  | _ => 0

abbrev bufTy : (tb : Table) → Fin (tcTables nBuf tb) → BufTy
  | .hbm, ⟨0, _⟩ => ⟨S4608x1024, .bf16⟩
  | .hbm, ⟨1, _⟩ => ⟨S4608x512, .bf16⟩
  | .hbm, ⟨2, _⟩ => ⟨S1024x512, .f32⟩
  | .local _ .vmem, ⟨0, _⟩ => ⟨S1536x1024, .bf16⟩
  | .local _ .vmem, ⟨1, _⟩ => ⟨S1536x1024, .bf16⟩
  | .local _ .vmem, ⟨2, _⟩ => ⟨S1536x512, .bf16⟩
  | .local _ .vmem, ⟨3, _⟩ => ⟨S1536x512, .bf16⟩
  | .local _ .vmem, ⟨4, _⟩ => ⟨S1024x512, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference20Ideal.lean ====
abbrev S4608x1024 : Shape := ⟨2, ![4608, 1024]⟩
abbrev S4608x512 : Shape := ⟨2, ![4608, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x512, .bf16⟩
  | .hbm, ⟨2, _⟩ => ⟨S4608x1024, .f32⟩
  | .hbm, ⟨3, _⟩ => ⟨S4608x512, .f32⟩
  | .hbm, ⟨4, _⟩ => ⟨S_, .f32⟩
  | .hbm, ⟨5, _⟩ => ⟨S1024x512, .f32⟩
  | .hbm, ⟨6, _⟩ => ⟨S4608x512, .f32⟩
  | .hbm, ⟨7, _⟩ => ⟨S512x1024, .f32⟩
  | .hbm, ⟨8, _⟩ => ⟨S1024x512, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel21.lean ====
abbrev S4608x1024 : Shape := ⟨2, ![4608, 1024]⟩
abbrev S1024x3072 : Shape := ⟨2, ![1024, 3072]⟩
abbrev S4608x3072 : Shape := ⟨2, ![4608, 3072]⟩
abbrev S1536x1024 : Shape := ⟨2, ![1536, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S1024x3072, .bf16⟩
  | .hbm, ⟨2, _⟩ => ⟨S4608x3072, .bf16⟩
  | .local _ .vmem, ⟨0, _⟩ => ⟨S1536x1024, .bf16⟩
  | .local _ .vmem, ⟨1, _⟩ => ⟨S1536x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4608x1024 : Shape := ⟨2, ![4608, 1024]⟩
abbrev S1024x3072 : Shape := ⟨2, ![1024, 3072]⟩
abbrev S4608x3072 : Shape := ⟨2, ![4608, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x3072, .bf16⟩
  | .hbm, ⟨2, _⟩ => ⟨S4608x1024, .f32⟩
  | .hbm, ⟨3, _⟩ => ⟨S1024x3072, .f32⟩
  | .hbm, ⟨4, _⟩ => ⟨S4608x3072, .f32⟩
  | .hbm, ⟨5, _⟩ => ⟨S4608x3072, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel22.lean ====
abbrev S4608x1024 : Shape := ⟨2, ![4608, 1024]⟩
abbrev S1024x512 : Shape := ⟨2, ![1024, 512]⟩
abbrev S4608x512 : Shape := ⟨2, ![4608, 512]⟩
abbrev S1536x1024 : Shape := ⟨2, ![1536, 1024]⟩
abbrev S1536x512 : Shape := ⟨2, ![1536, 512]⟩

abbrev nBuf : Space → Nat
  | .hbm => 3
  | .vmem => 6
  | .smem => 0
  | _ => 0

abbrev bufTy : (tb : Table) → Fin (tcTables nBuf tb) → BufTy
  | .hbm, ⟨0, _⟩ => ⟨S4608x1024, .bf16⟩
  | .hbm, ⟨1, _⟩ => ⟨S1024x512, .bf16⟩
  | .hbm, ⟨2, _⟩ => ⟨S4608x512, .f32⟩
  | .local _ .vmem, ⟨0, _⟩ => ⟨S1536x1024, .bf16⟩
  | .local _ .vmem, ⟨1, _⟩ => ⟨S1536x1024, .bf16⟩
  | .local _ .vmem, ⟨2, _⟩ => ⟨S1024x512, .bf16⟩
  | .local _ .vmem, ⟨3, _⟩ => ⟨S1536x512, .f32⟩
  | .local _ .vmem, ⟨4, _⟩ => ⟨S1536x512, .f32⟩
  | .local _ .vmem, ⟨5, _⟩ => ⟨S1536x512, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1536x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4608x1024 : Shape := ⟨2, ![4608, 1024]⟩
abbrev S1024x512 : Shape := ⟨2, ![1024, 512]⟩
abbrev S4608x512 : Shape := ⟨2, ![4608, 512]⟩

abbrev nBuf : Space → Nat
  | .hbm => 5
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x512, .bf16⟩
  | .hbm, ⟨2, _⟩ => ⟨S4608x1024, .f32⟩
  | .hbm, ⟨3, _⟩ => ⟨S1024x512, .f32⟩
  | .hbm, ⟨4, _⟩ => ⟨S4608x512, .f32⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel23.lean ====
abbrev S4608x256 : Shape := ⟨2, ![4608, 256]⟩
abbrev S256x2048 : Shape := ⟨2, ![256, 2048]⟩
abbrev S4608x2048 : Shape := ⟨2, ![4608, 2048]⟩
abbrev S1536x256 : Shape := ⟨2, ![1536, 256]⟩
abbrev S256x1024 : Shape := ⟨2, ![256, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x256, .bf16⟩
  | .hbm, ⟨1, _⟩ => ⟨S256x2048, .bf16⟩
  | .hbm, ⟨2, _⟩ => ⟨S4608x2048, .bf16⟩
  | .local _ .vmem, ⟨0, _⟩ => ⟨S1536x256, .bf16⟩
  | .local _ .vmem, ⟨1, _⟩ => ⟨S1536x256, .bf16⟩
  | .local _ .vmem, ⟨2, _⟩ => ⟨S256x1024, .bf16⟩
  | .local _ .vmem, ⟨3, _⟩ => ⟨S256x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4608x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4608x256 : Shape := ⟨2, ![4608, 256]⟩
abbrev S256x2048 : Shape := ⟨2, ![256, 2048]⟩
abbrev S4608x2048 : Shape := ⟨2, ![4608, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4608x256, .bf16⟩
  | .hbm, ⟨1, _⟩ => ⟨S256x2048, .bf16⟩
  | .hbm, ⟨2, _⟩ => ⟨S4608x256, .f32⟩
  | .hbm, ⟨3, _⟩ => ⟨S256x2048, .f32⟩
  | .hbm, ⟨4, _⟩ => ⟨S4608x2048, .f32⟩
  | .hbm, ⟨5, _⟩ => ⟨S4608x2048, .bf16⟩
  | _, _ => ⟨S4608x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S4608x128 : Shape := ⟨2, ![4608, 128]⟩
abbrev S128x2048 : Shape := ⟨2, ![128, 2048]⟩
abbrev S4608x2048 : Shape := ⟨2, ![4608, 2048]⟩
abbrev S1536x128 : Shape := ⟨2, ![1536, 128]⟩
abbrev S128x1024 : Shape := ⟨2, ![128, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x128, .bf16⟩
  | .hbm, ⟨1, _⟩ => ⟨S128x2048, .bf16⟩
  | .hbm, ⟨2, _⟩ => ⟨S4608x2048, .bf16⟩
  | .local _ .vmem, ⟨0, _⟩ => ⟨S1536x128, .bf16⟩
  | .local _ .vmem, ⟨1, _⟩ => ⟨S1536x128, .bf16⟩
  | .local _ .vmem, ⟨2, _⟩ => ⟨S128x1024, .bf16⟩
  | .local _ .vmem, ⟨3, _⟩ => ⟨S128x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S4608x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4608x128 : Shape := ⟨2, ![4608, 128]⟩
abbrev S128x2048 : Shape := ⟨2, ![128, 2048]⟩
abbrev S4608x2048 : Shape := ⟨2, ![4608, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4608x128, .bf16⟩
  | .hbm, ⟨1, _⟩ => ⟨S128x2048, .bf16⟩
  | .hbm, ⟨2, _⟩ => ⟨S4608x128, .f32⟩
  | .hbm, ⟨3, _⟩ => ⟨S128x2048, .f32⟩
  | .hbm, ⟨4, _⟩ => ⟨S4608x2048, .f32⟩
  | .hbm, ⟨5, _⟩ => ⟨S4608x2048, .bf16⟩
  | _, _ => ⟨S4608x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S4608x1024 : Shape := ⟨2, ![4608, 1024]⟩
abbrev S1024x1024 : Shape := ⟨2, ![1024, 1024]⟩
abbrev S3x9x1x1024 : Shape := ⟨4, ![3, 9, 1, 1024]⟩
abbrev S512x1024 : Shape := ⟨2, ![512, 1024]⟩
abbrev S1x1x1x1024 : Shape := ⟨4, ![1, 1, 1, 1024]⟩
abbrev S1x1024 : Shape := ⟨2, ![1, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S4608x1024, .f32⟩
  | .hbm, ⟨3, _⟩ => ⟨S3x9x1x1024, .f32⟩
  | .hbm, ⟨4, _⟩ => ⟨S4608x1024, .f32⟩
  | .hbm, ⟨5, _⟩ => ⟨S4608x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![9, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c5_i32 : BitVec 32 := 5#32
  let c0_i32_4 : BitVec 32 := 0#32
  let c0_i32_5 : BitVec 32 := 0#32
  ![v18.toNat, c5_i32.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference25Ideal.lean ====
abbrev S4608x1024 : Shape := ⟨2, ![4608, 1024]⟩
abbrev S1024x1024 : Shape := ⟨2, ![1024, 1024]⟩
abbrev S3x9x1x1024 : Shape := ⟨4, ![3, 9, 1, 1024]⟩
abbrev S1x1x1x1024 : Shape := ⟨4, ![1, 1, 1, 1024]⟩
abbrev S1x1024 : Shape := ⟨2, ![1, 1024]⟩
abbrev S2048x1024 : Shape := ⟨2, ![2048, 1024]⟩
abbrev S512x1024 : Shape := ⟨2, ![512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S1024x1024, .bf16⟩
  | .hbm, ⟨2, _⟩ => ⟨S4608x1024, .f32⟩
  | .hbm, ⟨3, _⟩ => ⟨S3x9x1x1024, .f32⟩
  | .hbm, ⟨4, _⟩ => ⟨S4608x1024, .f32⟩
  | .hbm, ⟨5, _⟩ => ⟨S1024x1024, .f32⟩
  | .hbm, ⟨6, _⟩ => ⟨S4608x1024, .f32⟩
  | .hbm, ⟨7, _⟩ => ⟨S1x1x1x1024, .f32⟩
  | .hbm, ⟨8, _⟩ => ⟨S1x1024, .f32⟩
  | .hbm, ⟨9, _⟩ => ⟨S2048x1024, .f32⟩
  | .hbm, ⟨10, _⟩ => ⟨S1x1x1x1024, .f32⟩
  | .hbm, ⟨11, _⟩ => ⟨S1x1024, .f32⟩
  | .hbm, ⟨12, _⟩ => ⟨S2048x1024, .f32⟩
  | .hbm, ⟨13, _⟩ => ⟨S1x1x1x1024, .f32⟩
  | .hbm, ⟨14, _⟩ => ⟨S1x1024, .f32⟩
  | .hbm, ⟨15, _⟩ => ⟨S512x1024, .f32⟩
  | .hbm, ⟨16, _⟩ => ⟨S4608x1024, .f32⟩
  | .hbm, ⟨17, _⟩ => ⟨S4608x1024, .f32⟩
  | .hbm, ⟨18, _⟩ => ⟨S4608x1024, .f32⟩
  | .hbm, ⟨19, _⟩ => ⟨S4608x1024, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel26.lean ====
abbrev S4608x1024 : Shape := ⟨2, ![4608, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4608x2816 : Shape := ⟨2, ![4608, 2816]⟩
abbrev S_ : Shape := ⟨0, ![]⟩
abbrev S1536x1024 : Shape := ⟨2, ![1536, 1024]⟩
abbrev S1x256x1024 : Shape := ⟨3, ![1, 256, 1024]⟩
abbrev S1536x256 : Shape := ⟨2, ![1536, 256]⟩
abbrev S256x1024 : Shape := ⟨2, ![256, 1024]⟩

abbrev nBuf : Space → Nat
  | .hbm => 43
  | .vmem => 12
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S2x2816x1024, .bf16⟩
  | .hbm, ⟨3, _⟩ => ⟨S2x2816x1024, .bf16⟩
  | .hbm, ⟨4, _⟩ => ⟨S2x2816x1024, .bf16⟩
  | .hbm, ⟨5, _⟩ => ⟨S4608x1024, .f32⟩
  | .hbm, ⟨6, _⟩ => ⟨S1x2816x1024, .bf16⟩
  | .hbm, ⟨7, _⟩ => ⟨S2816x1024, .bf16⟩
  | .hbm, ⟨8, _⟩ => ⟨S1024x2816, .bf16⟩
  | .hbm, ⟨9, _⟩ => ⟨S1024x2816, .f32⟩
  | .hbm, ⟨10, _⟩ => ⟨S1x2816x1024, .bf16⟩
  | .hbm, ⟨11, _⟩ => ⟨S2816x1024, .bf16⟩
  | .hbm, ⟨12, _⟩ => ⟨S1024x2816, .bf16⟩
  | .hbm, ⟨13, _⟩ => ⟨S1024x2816, .f32⟩
  | .hbm, ⟨14, _⟩ => ⟨S4608x2816, .f32⟩
  | .hbm, ⟨15, _⟩ => ⟨S4608x2816, .f32⟩
  | .hbm, ⟨16, _⟩ => ⟨S4608x2816, .f32⟩
  | .hbm, ⟨17, _⟩ => ⟨S4608x2816, .f32⟩
  | .hbm, ⟨18, _⟩ => ⟨S_, .f32⟩
  | .hbm, ⟨19, _⟩ => ⟨S4608x2816, .f32⟩
  | .hbm, ⟨20, _⟩ => ⟨S4608x2816, .f32⟩
  | .hbm, ⟨21, _⟩ => ⟨S_, .f32⟩
  | .hbm, ⟨22, _⟩ => ⟨S4608x2816, .f32⟩
  | .hbm, ⟨23, _⟩ => ⟨S4608x2816, .f32⟩
  | .hbm, ⟨24, _⟩ => ⟨S_, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S4608x2816, .f32⟩
  | .hbm, ⟨29, _⟩ => ⟨S4608x2816, .f32⟩
  | .hbm, ⟨30, _⟩ => ⟨S_, .f32⟩
  | .hbm, ⟨31, _⟩ => ⟨S4608x2816, .f32⟩
  | .hbm, ⟨32, _⟩ => ⟨S4608x2816, .f32⟩
  | .hbm, ⟨33, _⟩ => ⟨S4608x2816, .f32⟩
  | .hbm, ⟨34, _⟩ => ⟨S4608x2816, .f32⟩
  | .hbm, ⟨35, _⟩ => ⟨S4608x2816, .f32⟩
  | .hbm, ⟨36, _⟩ => ⟨S4608x2816, .f32⟩
  | .hbm, ⟨37, _⟩ => ⟨S4608x2816, .f32⟩
  | .hbm, ⟨38, _⟩ => ⟨S4608x2816, .bf16⟩
  | .hbm, ⟨39, _⟩ => ⟨S4608x2816, .bf16⟩
  | .hbm, ⟨40, _⟩ => ⟨S4608x2816, .bf16⟩
  | .hbm, ⟨41, _⟩ => ⟨S4608x2816, .bf16⟩
  | .hbm, ⟨42, _⟩ => ⟨S4608x2816, .bf16⟩
  | .local _ .vmem, ⟨0, _⟩ => ⟨S1536x1024, .bf16⟩
  | .local _ .vmem, ⟨1, _⟩ => ⟨S1536x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1536x256, .bf16⟩
  | .local _ .vmem, ⟨5, _⟩ => ⟨S1536x256, .bf16⟩
  | .local _ .vmem, ⟨6, _⟩ => ⟨S1536x256, .bf16⟩
  | .local _ .vmem, ⟨7, _⟩ => ⟨S1536x256, .bf16⟩
  | .local _ .vmem, ⟨8, _⟩ => ⟨S1536x256, .bf16⟩
  | .local _ .vmem, ⟨9, _⟩ => ⟨S1536x256, .bf16⟩
  | .local _ .vmem, ⟨10, _⟩ => ⟨S1536x256, .bf16⟩
  | .local _ .vmem, ⟨11, _⟩ => ⟨S1536x256, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_v11_2 : Ref sig .tc := ⟨.hbm, 23, rfl⟩
abbrev main_call0_cst_1 : Ref sig .tc := ⟨.hbm, 24, rfl⟩
abbrev main_call0_v6 : Ref sig .tc := ⟨.hbm, 25, rfl⟩
abbrev main_call0_v7 : Ref sig .tc := ⟨.hbm, 26, rfl⟩
abbrev main_v11_1 : Ref sig .tc := ⟨.hbm, 27, rfl⟩
abbrev main_v11_0 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20_0 : Ref sig .tc := ⟨.hbm, 41, rfl⟩
abbrev main_v20_1 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1536x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference26Ideal.lean ====
abbrev S4608x1024 : Shape := ⟨2, ![4608, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4608x2816 : Shape := ⟨2, ![4608, 2816]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S4608x1024, .bf16⟩
  | .hbm, ⟨2, _⟩ => ⟨S2x2816x1024, .bf16⟩
  | .hbm, ⟨3, _⟩ => ⟨S2x2816x1024, .bf16⟩
  | .hbm, ⟨4, _⟩ => ⟨S2x2816x1024, .bf16⟩
  | .hbm, ⟨5, _⟩ => ⟨S1x2816x1024, .bf16⟩
  | .hbm, ⟨6, _⟩ => ⟨S2816x1024, .bf16⟩
  | .hbm, ⟨7, _⟩ => ⟨S1024x2816, .bf16⟩
  | .hbm, ⟨8, _⟩ => ⟨S1x2816x1024, .bf16⟩
  | .hbm, ⟨9, _⟩ => ⟨S2816x1024, .bf16⟩
  | .hbm, ⟨10, _⟩ => ⟨S1024x2816, .bf16⟩
  | .hbm, ⟨11, _⟩ => ⟨S1x2816x1024, .bf16⟩
  | .hbm, ⟨12, _⟩ => ⟨S2816x1024, .bf16⟩
  | .hbm, ⟨13, _⟩ => ⟨S4608x1024, .f32⟩
  | .hbm, ⟨14, _⟩ => ⟨S4608x1024, .f32⟩
  | .hbm, ⟨15, _⟩ => ⟨S1024x2816, .f32⟩
  | .hbm, ⟨16, _⟩ => ⟨S1024x2816, .f32⟩
  | .hbm, ⟨17, _⟩ => ⟨S2816x1024, .f32⟩
  | .hbm, ⟨18, _⟩ => ⟨S4608x2816, .f32⟩
  | .hbm, ⟨19, _⟩ => ⟨S4608x2816, .f32⟩
  | .hbm, ⟨20, _⟩ => ⟨S4608x2816, .f32⟩
  | .hbm, ⟨21, _⟩ => ⟨S4608x2816, .f32⟩
  | .hbm, ⟨22, _⟩ => ⟨S_, .f32⟩
  | .hbm, ⟨23, _⟩ => ⟨S4608x2816, .f32⟩
  | .hbm, ⟨24, _⟩ => ⟨S4608x2816, .f32⟩
  | .hbm, ⟨25, _⟩ => ⟨S_, .f32⟩
  | .hbm, ⟨26, _⟩ => ⟨S4608x2816, .f32⟩
  | .hbm, ⟨27, _⟩ => ⟨S4608x2816, .f32⟩
  | .hbm, ⟨28, _⟩ => ⟨S_, .f32⟩
  | .hbm, ⟨29, _⟩ => ⟨S4608x2816, .f32⟩
  | .hbm, ⟨30, _⟩ => ⟨S4608x2816, .f32⟩
  | .hbm, ⟨31, _⟩ => ⟨S4608x2816, .f32⟩
  | .hbm, ⟨32, _⟩ => ⟨S4608x2816, .f32⟩
  | .hbm, ⟨33, _⟩ => ⟨S4608x2816, .f32⟩
  | .hbm, ⟨34, _⟩ => ⟨S4608x1024, .f32⟩
  | .hbm, ⟨35, _⟩ => ⟨S4608x2816, .f32⟩
  | .hbm, ⟨36, _⟩ => ⟨S4608x2816, .f32⟩
  | .hbm, ⟨37, _⟩ => ⟨S4608x2816, .f32⟩
  | .hbm, ⟨38, _⟩ => ⟨S4608x2816, .f32⟩
  | .hbm, ⟨39, _⟩ => ⟨S4608x2816, .f32⟩
  | .hbm, ⟨40, _⟩ => ⟨S4608x2816, .f32⟩
  | .hbm, ⟨41, _⟩ => ⟨S4608x2816, .f32⟩
  | .hbm, ⟨42, _⟩ => ⟨S4608x2816, .bf16⟩
  | .hbm, ⟨43, _⟩ => ⟨S4608x2816, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v15_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v15_1 : Ref sig .tc := ⟨.hbm, 31, rfl⟩
abbrev main_v15_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩

abbrev nD : Nat := 1
abbrev τ : Topo := Topo.v7x

variable {F : FTy → Type} [FloatOps F]
-- ==== Kernel27.lean ====
abbrev S4608x2816 : Shape := ⟨2, ![4608, 2816]⟩
abbrev S4608x1024 : Shape := ⟨2, ![4608, 1024]⟩
abbrev S2x2816x1024 : Shape := ⟨3, ![2, 2816, 1024]⟩
abbrev S1536x1408 : Shape := ⟨2, ![1536, 1408]⟩
abbrev S1536x1024 : Shape := ⟨2, ![1536, 1024]⟩
abbrev S1x1408x1024 : Shape := ⟨3, ![1, 1408, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S2x2816x1024, .f32⟩
  | .hbm, ⟨3, _⟩ => ⟨S2x2816x1024, .f32⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1x1408x1024, .f32⟩
  | .local _ .vmem, ⟨5, _⟩ => ⟨S1x1408x1024, .f32⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg1 : BitVec 32 := BitVec.ofNat 32 (i 1).val
  let c0_i32_4 : BitVec 32 := 0#32
  let v6 : BitVec 1 := Scalar.cmpi .sgt arg1 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference27Ideal.lean ====
abbrev S4608x2816 : Shape := ⟨2, ![4608, 2816]⟩
abbrev S4608x1024 : Shape := ⟨2, ![4608, 1024]⟩
abbrev S2x2816x1024 : Shape := ⟨3, ![2, 2816, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S2x2816x1024, .f32⟩
  | .hbm, ⟨3, _⟩ => ⟨S4608x2816, .f32⟩
  | .hbm, ⟨4, _⟩ => ⟨S4608x1024, .f32⟩
  | .hbm, ⟨5, _⟩ => ⟨S_, .f32⟩
  | .hbm, ⟨6, _⟩ => ⟨S2816x1024, .f32⟩
  | .hbm, ⟨7, _⟩ => ⟨S4608x1024, .f32⟩
  | .hbm, ⟨8, _⟩ => ⟨S1024x2816, .f32⟩
  | .hbm, ⟨9, _⟩ => ⟨S2816x1024, .f32⟩
  | .hbm, ⟨10, _⟩ => ⟨S1x2816x1024, .f32⟩
  | .hbm, ⟨11, _⟩ => ⟨S1x2816x1024, .f32⟩
  | .hbm, ⟨12, _⟩ => ⟨S2x2816x1024, .f32⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel28.lean ====
abbrev S4608x2816 : Shape := ⟨2, ![4608, 2816]⟩
abbrev S2x2816x1024 : Shape := ⟨3, ![2, 2816, 1024]⟩
abbrev S4608x1024 : Shape := ⟨2, ![4608, 1024]⟩
abbrev S512x2816 : Shape := ⟨2, ![512, 2816]⟩
abbrev S1x2816x1024 : Shape := ⟨3, ![1, 2816, 1024]⟩
abbrev S512x1024 : Shape := ⟨2, ![512, 1024]⟩
abbrev S2816x1024 : Shape := ⟨2, ![2816, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4608x2816, .bf16⟩
  | .hbm, ⟨1, _⟩ => ⟨S4608x2816, .bf16⟩
  | .hbm, ⟨2, _⟩ => ⟨S2x2816x1024, .bf16⟩
  | .hbm, ⟨3, _⟩ => ⟨S2x2816x1024, .bf16⟩
  | .hbm, ⟨4, _⟩ => ⟨S4608x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S1x2816x1024, .bf16⟩
  | .local _ .vmem, ⟨5, _⟩ => ⟨S1x2816x1024, .bf16⟩
  | .local _ .vmem, ⟨6, _⟩ => ⟨S512x1024, .f32⟩
  | .local _ .vmem, ⟨7, _⟩ => ⟨S512x1024, .f32⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference28Ideal.lean ====
abbrev S4608x2816 : Shape := ⟨2, ![4608, 2816]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S_ : Shape := ⟨0, ![]⟩
abbrev S4608x1024 : Shape := ⟨2, ![4608, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S4608x2816, .bf16⟩
  | .hbm, ⟨2, _⟩ => ⟨S2x2816x1024, .bf16⟩
  | .hbm, ⟨3, _⟩ => ⟨S2x2816x1024, .bf16⟩
  | .hbm, ⟨4, _⟩ => ⟨S1x2816x1024, .bf16⟩
  | .hbm, ⟨5, _⟩ => ⟨S2816x1024, .bf16⟩
  | .hbm, ⟨6, _⟩ => ⟨S1024x2816, .bf16⟩
  | .hbm, ⟨7, _⟩ => ⟨S1x2816x1024, .bf16⟩
  | .hbm, ⟨8, _⟩ => ⟨S2816x1024, .bf16⟩
  | .hbm, ⟨9, _⟩ => ⟨S1024x2816, .bf16⟩
  | .hbm, ⟨10, _⟩ => ⟨S4608x2816, .f32⟩
  | .hbm, ⟨11, _⟩ => ⟨S4608x2816, .f32⟩
  | .hbm, ⟨12, _⟩ => ⟨S1024x2816, .f32⟩
  | .hbm, ⟨13, _⟩ => ⟨S1024x2816, .f32⟩
  | .hbm, ⟨14, _⟩ => ⟨S_, .f32⟩
  | .hbm, ⟨15, _⟩ => ⟨S4608x1024, .f32⟩
  | .hbm, ⟨16, _⟩ => ⟨S4608x2816, .f32⟩
  | .hbm, ⟨17, _⟩ => ⟨S4608x2816, .f32⟩
  | .hbm, ⟨18, _⟩ => ⟨S4608x1024, .f32⟩
  | .hbm, ⟨19, _⟩ => ⟨S4608x1024, .f32⟩
  | .hbm, ⟨20, _⟩ => ⟨S4608x1024, .f32⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel29.lean ====
abbrev S4608x1024 : Shape := ⟨2, ![4608, 1024]⟩
abbrev S2x2816x1024 : Shape := ⟨3, ![2, 2816, 1024]⟩
abbrev S4608x2816 : Shape := ⟨2, ![4608, 2816]⟩
abbrev S1536x1024 : Shape := ⟨2, ![1536, 1024]⟩
abbrev S1x256x1024 : Shape := ⟨3, ![1, 256, 1024]⟩
abbrev S1536x256 : Shape := ⟨2, ![1536, 256]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4608x1024, .bf16⟩
  | .hbm, ⟨1, _⟩ => ⟨S2x2816x1024, .bf16⟩
  | .hbm, ⟨2, _⟩ => ⟨S2x2816x1024, .bf16⟩
  | .hbm, ⟨3, _⟩ => ⟨S4608x2816, .bf16⟩
  | .hbm, ⟨4, _⟩ => ⟨S4608x2816, .bf16⟩
  | .hbm, ⟨5, _⟩ => ⟨S4608x2816, .bf16⟩
  | .local _ .vmem, ⟨0, _⟩ => ⟨S1536x1024, .bf16⟩
  | .local _ .vmem, ⟨1, _⟩ => ⟨S1536x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1536x256, .bf16⟩
  | .local _ .vmem, ⟨7, _⟩ => ⟨S1536x256, .bf16⟩
  | .local _ .vmem, ⟨8, _⟩ => ⟨S1536x256, .bf16⟩
  | .local _ .vmem, ⟨9, _⟩ => ⟨S1536x256, .bf16⟩
  | .local _ .vmem, ⟨10, _⟩ => ⟨S1536x256, .bf16⟩
  | .local _ .vmem, ⟨11, _⟩ => ⟨S1536x256, .bf16⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference29Ideal.lean ====
abbrev S4608x1024 : Shape := ⟨2, ![4608, 1024]⟩
abbrev S2x2816x1024 : Shape := ⟨3, ![2, 2816, 1024]⟩
abbrev S1x2816x1024 : Shape := ⟨3, ![1, 2816, 1024]⟩
abbrev S2816x1024 : Shape := ⟨2, ![2816, 1024]⟩
abbrev S1024x2816 : Shape := ⟨2, ![1024, 2816]⟩
abbrev S4608x2816 : Shape := ⟨2, ![4608, 2816]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S2x2816x1024, .bf16⟩
  | .hbm, ⟨2, _⟩ => ⟨S2x2816x1024, .bf16⟩
  | .hbm, ⟨3, _⟩ => ⟨S1x2816x1024, .bf16⟩
  | .hbm, ⟨4, _⟩ => ⟨S2816x1024, .bf16⟩
  | .hbm, ⟨5, _⟩ => ⟨S1024x2816, .bf16⟩
  | .hbm, ⟨6, _⟩ => ⟨S1x2816x1024, .bf16⟩
  | .hbm, ⟨7, _⟩ => ⟨S2816x1024, .bf16⟩
  | .hbm, ⟨8, _⟩ => ⟨S1024x2816, .bf16⟩
  | .hbm, ⟨9, _⟩ => ⟨S4608x1024, .f32⟩
  | .hbm, ⟨10, _⟩ => ⟨S1024x2816, .f32⟩
  | .hbm, ⟨11, _⟩ => ⟨S1024x2816, .f32⟩
  | .hbm, ⟨12, _⟩ => ⟨S4608x2816, .f32⟩
  | .hbm, ⟨13, _⟩ => ⟨S4608x2816, .f32⟩
  | .hbm, ⟨14, _⟩ => ⟨S4608x2816, .f32⟩
  | .hbm, ⟨15, _⟩ => ⟨S4608x2816, .f32⟩
  | .hbm, ⟨16, _⟩ => ⟨S_, .f32⟩
  | .hbm, ⟨17, _⟩ => ⟨S4608x2816, .f32⟩
  | .hbm, ⟨18, _⟩ => ⟨S4608x2816, .f32⟩
  | .hbm, ⟨19, _⟩ => ⟨S_, .f32⟩
  | .hbm, ⟨20, _⟩ => ⟨S4608x2816, .f32⟩
  | .hbm, ⟨21, _⟩ => ⟨S4608x2816, .f32⟩
  | .hbm, ⟨22, _⟩ => ⟨S_, .f32⟩
  | .hbm, ⟨23, _⟩ => ⟨S4608x2816, .f32⟩
  | .hbm, ⟨24, _⟩ => ⟨S4608x2816, .f32⟩
  | .hbm, ⟨25, _⟩ => ⟨S4608x2816, .f32⟩
  | .hbm, ⟨26, _⟩ => ⟨S4608x2816, .f32⟩
  | .hbm, ⟨27, _⟩ => ⟨S4608x2816, .f32⟩
  | .hbm, ⟨28, _⟩ => ⟨S_, .f32⟩
  | .hbm, ⟨29, _⟩ => ⟨S4608x2816, .f32⟩
  | .hbm, ⟨30, _⟩ => ⟨S4608x2816, .f32⟩
  | .hbm, ⟨31, _⟩ => ⟨S4608x2816, .f32⟩
  | .hbm, ⟨32, _⟩ => ⟨S4608x2816, .f32⟩
  | .hbm, ⟨33, _⟩ => ⟨S4608x2816, .f32⟩
  | .hbm, ⟨34, _⟩ => ⟨S4608x2816, .f32⟩
  | .hbm, ⟨35, _⟩ => ⟨S4608x2816, .f32⟩
  | .hbm, ⟨36, _⟩ => ⟨S4608x2816, .bf16⟩
  | .hbm, ⟨37, _⟩ => ⟨S4608x2816, .bf16⟩
  | .hbm, ⟨38, _⟩ => ⟨S4608x2816, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v11_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v11_1 : Ref sig .tc := ⟨.hbm, 25, rfl⟩
abbrev main_v11_0 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Kernel30.lean ====
abbrev S4608x2816 : Shape := ⟨2, ![4608, 2816]⟩
abbrev S2x2816x1024 : Shape := ⟨3, ![2, 2816, 1024]⟩
abbrev S4608x1024 : Shape := ⟨2, ![4608, 1024]⟩
abbrev S3x9x1x1024 : Shape := ⟨4, ![3, 9, 1, 1024]⟩
abbrev S512x2816 : Shape := ⟨2, ![512, 2816]⟩
abbrev S1x2816x1024 : Shape := ⟨3, ![1, 2816, 1024]⟩
abbrev S512x1024 : Shape := ⟨2, ![512, 1024]⟩
abbrev S1x1x1x1024 : Shape := ⟨4, ![1, 1, 1, 1024]⟩
abbrev S2816x1024 : Shape := ⟨2, ![2816, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4608x2816, .bf16⟩
  | .hbm, ⟨1, _⟩ => ⟨S2x2816x1024, .bf16⟩
  | .hbm, ⟨2, _⟩ => ⟨S4608x1024, .f32⟩
  | .hbm, ⟨3, _⟩ => ⟨S3x9x1x1024, .f32⟩
  | .hbm, ⟨4, _⟩ => ⟨S4608x1024, .f32⟩
  | .hbm, ⟨5, _⟩ => ⟨S4608x1024, .bf16⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 4 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c8_i32 : BitVec 32 := 8#32
  let c0_i32_4 : BitVec 32 := 0#32
  let c0_i32_5 : BitVec 32 := 0#32
  ![v18.toNat, c8_i32.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference30Ideal.lean ====
abbrev S4608x2816 : Shape := ⟨2, ![4608, 2816]⟩
abbrev S2x2816x1024 : Shape := ⟨3, ![2, 2816, 1024]⟩
abbrev S4608x1024 : Shape := ⟨2, ![4608, 1024]⟩
abbrev S3x9x1x1024 : Shape := ⟨4, ![3, 9, 1, 1024]⟩
abbrev S1x2816x1024 : Shape := ⟨3, ![1, 2816, 1024]⟩
abbrev S2816x1024 : Shape := ⟨2, ![2816, 1024]⟩
abbrev S1x1x1x1024 : Shape := ⟨4, ![1, 1, 1, 1024]⟩
abbrev S1x1024 : Shape := ⟨2, ![1, 1024]⟩
abbrev S2048x1024 : Shape := ⟨2, ![2048, 1024]⟩
abbrev S512x1024 : Shape := ⟨2, ![512, 1024]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S2x2816x1024, .bf16⟩
  | .hbm, ⟨2, _⟩ => ⟨S4608x1024, .f32⟩
  | .hbm, ⟨3, _⟩ => ⟨S3x9x1x1024, .f32⟩
  | .hbm, ⟨4, _⟩ => ⟨S1x2816x1024, .bf16⟩
  | .hbm, ⟨5, _⟩ => ⟨S2816x1024, .bf16⟩
  | .hbm, ⟨6, _⟩ => ⟨S4608x2816, .f32⟩
  | .hbm, ⟨7, _⟩ => ⟨S2816x1024, .f32⟩
  | .hbm, ⟨8, _⟩ => ⟨S4608x1024, .f32⟩
  | .hbm, ⟨9, _⟩ => ⟨S1x1x1x1024, .f32⟩
  | .hbm, ⟨10, _⟩ => ⟨S1x1024, .f32⟩
  | .hbm, ⟨11, _⟩ => ⟨S2048x1024, .f32⟩
  | .hbm, ⟨12, _⟩ => ⟨S1x1x1x1024, .f32⟩
  | .hbm, ⟨13, _⟩ => ⟨S1x1024, .f32⟩
  | .hbm, ⟨14, _⟩ => ⟨S2048x1024, .f32⟩
  | .hbm, ⟨15, _⟩ => ⟨S1x1x1x1024, .f32⟩
  | .hbm, ⟨16, _⟩ => ⟨S1x1024, .f32⟩
  | .hbm, ⟨17, _⟩ => ⟨S512x1024, .f32⟩
  | .hbm, ⟨18, _⟩ => ⟨S4608x1024, .f32⟩
  | .hbm, ⟨19, _⟩ => ⟨S_, .f32⟩
  | .hbm, ⟨20, _⟩ => ⟨S4608x1024, .f32⟩
  | .hbm, ⟨21, _⟩ => ⟨S4608x1024, .f32⟩
  | .hbm, ⟨22, _⟩ => ⟨S4608x1024, .f32⟩
  | .hbm, ⟨23, _⟩ => ⟨S4608x1024, .f32⟩
  | .hbm, ⟨24, _⟩ => ⟨S4608x1024, .bf16⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel31.lean ====
abbrev S4608x512 : Shape := ⟨2, ![4608, 512]⟩
abbrev S1x256 : Shape := ⟨2, ![1, 256]⟩
abbrev S1x128 : Shape := ⟨2, ![1, 128]⟩
abbrev S4608x256 : Shape := ⟨2, ![4608, 256]⟩
abbrev S4608x128 : Shape := ⟨2, ![4608, 128]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S256 : Shape := ⟨1, ![256]⟩
abbrev S128 : Shape := ⟨1, ![128]⟩

abbrev nBuf : Space → Nat
  | .hbm => 9
  | .vmem => 14
  | .smem => 0
  | _ => 0

abbrev bufTy : (tb : Table) → Fin (tcTables nBuf tb) → BufTy
  | .hbm, ⟨0, _⟩ => ⟨S4608x512, .f32⟩
  | .hbm, ⟨1, _⟩ => ⟨S1x256, .f32⟩
  | .hbm, ⟨2, _⟩ => ⟨S1x128, .f32⟩
  | .hbm, ⟨3, _⟩ => ⟨S4608x256, .bf16⟩
  | .hbm, ⟨4, _⟩ => ⟨S4608x128, .bf16⟩
  | .hbm, ⟨5, _⟩ => ⟨S4608x128, .f32⟩
  | .hbm, ⟨6, _⟩ => ⟨S4608x512, .bf16⟩
  | .hbm, ⟨7, _⟩ => ⟨S1x256, .f32⟩
  | .hbm, ⟨8, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x128, .f32⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S1x256, .f32⟩
  | .local _ .vmem, ⟨13, _⟩ => ⟨S1x128, .f32⟩
  | _, _ => ⟨S4608x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference31Ideal.lean ====
abbrev S4608x512 : Shape := ⟨2, ![4608, 512]⟩
abbrev S1x256 : Shape := ⟨2, ![1, 256]⟩
abbrev S1x128 : Shape := ⟨2, ![1, 128]⟩
abbrev S4608x256 : Shape := ⟨2, ![4608, 256]⟩
abbrev S4608x128 : Shape := ⟨2, ![4608, 128]⟩
abbrev S_ : Shape := ⟨0, ![]⟩
abbrev S4608 : Shape := ⟨1, ![4608]⟩
abbrev S4608x1 : Shape := ⟨2, ![4608, 1]⟩
abbrev S128 : Shape := ⟨1, ![128]⟩
abbrev S256 : Shape := ⟨1, ![256]⟩

abbrev nBuf : Space → Nat
  | .hbm => 97
  | .vmem => 0
  | .smem => 0
  | _ => 0

abbrev bufTy : (tb : Table) → Fin (tcTables nBuf tb) → BufTy
  | .hbm, ⟨0, _⟩ => ⟨S4608x512, .f32⟩
  | .hbm, ⟨1, _⟩ => ⟨S1x256, .f32⟩
  | .hbm, ⟨2, _⟩ => ⟨S1x128, .f32⟩
  | .hbm, ⟨3, _⟩ => ⟨S4608x256, .bf16⟩
  | .hbm, ⟨4, _⟩ => ⟨S4608x128, .bf16⟩
  | .hbm, ⟨5, _⟩ => ⟨S4608x128, .f32⟩
  | .hbm, ⟨6, _⟩ => ⟨S4608x256, .f32⟩
  | .hbm, ⟨7, _⟩ => ⟨S4608x128, .f32⟩
  | .hbm, ⟨8, _⟩ => ⟨S4608x256, .f32⟩
  | .hbm, ⟨9, _⟩ => ⟨S4608x128, .f32⟩
  | .hbm, ⟨10, _⟩ => ⟨S4608x128, .f32⟩
  | .hbm, ⟨11, _⟩ => ⟨S4608x256, .f32⟩
  | .hbm, ⟨12, _⟩ => ⟨S_, .f32⟩
  | .hbm, ⟨13, _⟩ => ⟨S4608, .f32⟩
  | .hbm, ⟨14, _⟩ => ⟨S4608x1, .f32⟩
  | .hbm, ⟨15, _⟩ => ⟨S_, .f32⟩
  | .hbm, ⟨16, _⟩ => ⟨S4608x1, .f32⟩
  | .hbm, ⟨17, _⟩ => ⟨S4608x1, .f32⟩
  | .hbm, ⟨18, _⟩ => ⟨S_, .f32⟩
  | .hbm, ⟨19, _⟩ => ⟨S4608x1, .f32⟩
  | .hbm, ⟨20, _⟩ => ⟨S4608x1, .f32⟩
  | .hbm, ⟨21, _⟩ => ⟨S4608x1, .f32⟩
  | .hbm, ⟨22, _⟩ => ⟨S4608x1, .f32⟩
  | .hbm, ⟨23, _⟩ => ⟨S_, .f32⟩
  | .hbm, ⟨24, _⟩ => ⟨S4608x1, .f32⟩
  | .hbm, ⟨25, _⟩ => ⟨S4608x1, .f32⟩
  | .hbm, ⟨26, _⟩ => ⟨S4608x256, .f32⟩
  | .hbm, ⟨27, _⟩ => ⟨S4608x256, .f32⟩
  | .hbm, ⟨28, _⟩ => ⟨S4608x256, .f32⟩
  | .hbm, ⟨29, _⟩ => ⟨S4608x256, .f32⟩
  | .hbm, ⟨30, _⟩ => ⟨S4608x128, .f32⟩
  | .hbm, ⟨31, _⟩ => ⟨S_, .f32⟩
  | .hbm, ⟨32, _⟩ => ⟨S4608, .f32⟩
  | .hbm, ⟨33, _⟩ => ⟨S4608x1, .f32⟩
  | .hbm, ⟨34, _⟩ => ⟨S_, .f32⟩
  | .hbm, ⟨35, _⟩ => ⟨S4608x1, .f32⟩
  | .hbm, ⟨36, _⟩ => ⟨S4608x1, .f32⟩
  | .hbm, ⟨37, _⟩ => ⟨S_, .f32⟩
  | .hbm, ⟨38, _⟩ => ⟨S4608x1, .f32⟩
  | .hbm, ⟨39, _⟩ => ⟨S4608x1, .f32⟩
  | .hbm, ⟨40, _⟩ => ⟨S4608x1, .f32⟩
  | .hbm, ⟨41, _⟩ => ⟨S4608x1, .f32⟩
  | .hbm, ⟨42, _⟩ => ⟨S_, .f32⟩
  | .hbm, ⟨43, _⟩ => ⟨S4608x1, .f32⟩
  | .hbm, ⟨44, _⟩ => ⟨S4608x1, .f32⟩
  | .hbm, ⟨45, _⟩ => ⟨S4608x128, .f32⟩
  | .hbm, ⟨46, _⟩ => ⟨S4608x128, .f32⟩
  | .hbm, ⟨47, _⟩ => ⟨S4608x128, .f32⟩
  | .hbm, ⟨48, _⟩ => ⟨S4608x128, .f32⟩
  | .hbm, ⟨49, _⟩ => ⟨S4608x128, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S4608x128, .f32⟩
  | .hbm, ⟨54, _⟩ => ⟨S4608x128, .f32⟩
  | .hbm, ⟨55, _⟩ => ⟨S4608x128, .f32⟩
  | .hbm, ⟨56, _⟩ => ⟨S_, .f32⟩
  | .hbm, ⟨57, _⟩ => ⟨S4608, .f32⟩
  | .hbm, ⟨58, _⟩ => ⟨S4608x1, .f32⟩
  | .hbm, ⟨59, _⟩ => ⟨S4608x128, .f32⟩
  | .hbm, ⟨60, _⟩ => ⟨S4608x128, .f32⟩
  | .hbm, ⟨61, _⟩ => ⟨S4608x1, .f32⟩
  | .hbm, ⟨62, _⟩ => ⟨S_, .f32⟩
  | .hbm, ⟨63, _⟩ => ⟨S4608x1, .f32⟩
  | .hbm, ⟨64, _⟩ => ⟨S4608x1, .f32⟩
  | .hbm, ⟨65, _⟩ => ⟨S_, .f32⟩
  | .hbm, ⟨66, _⟩ => ⟨S4608, .f32⟩
  | .hbm, ⟨67, _⟩ => ⟨S4608x128, .f32⟩
  | .hbm, ⟨68, _⟩ => ⟨S4608x128, .f32⟩
  | .hbm, ⟨69, _⟩ => ⟨S4608x128, .f32⟩
  | .hbm, ⟨70, _⟩ => ⟨S4608x128, .f32⟩
  | .hbm, ⟨71, _⟩ => ⟨S4608x128, .f32⟩
  | .hbm, ⟨72, _⟩ => ⟨S4608x256, .f32⟩
  | .hbm, ⟨73, _⟩ => ⟨S_, .f32⟩
  | .hbm, ⟨74, _⟩ => ⟨S256, .f32⟩
  | .hbm, ⟨75, _⟩ => ⟨S1x256, .f32⟩
  | .hbm, ⟨76, _⟩ => ⟨S4608x256, .f32⟩
  | .hbm, ⟨77, _⟩ => ⟨S4608x256, .f32⟩
  | .hbm, ⟨78, _⟩ => ⟨S4608x256, .f32⟩
  | .hbm, ⟨79, _⟩ => ⟨S_, .f32⟩
  | .hbm, ⟨80, _⟩ => ⟨S4608, .f32⟩
  | .hbm, ⟨81, _⟩ => ⟨S4608x1, .f32⟩
  | .hbm, ⟨82, _⟩ => ⟨S4608x256, .f32⟩
  | .hbm, ⟨83, _⟩ => ⟨S4608x256, .f32⟩
  | .hbm, ⟨84, _⟩ => ⟨S4608x1, .f32⟩
  | .hbm, ⟨85, _⟩ => ⟨S_, .f32⟩
  | .hbm, ⟨86, _⟩ => ⟨S4608x1, .f32⟩
  | .hbm, ⟨87, _⟩ => ⟨S4608x1, .f32⟩
  | .hbm, ⟨88, _⟩ => ⟨S_, .f32⟩
  | .hbm, ⟨89, _⟩ => ⟨S4608, .f32⟩
  | .hbm, ⟨90, _⟩ => ⟨S4608x256, .f32⟩
  | .hbm, ⟨91, _⟩ => ⟨S4608x256, .f32⟩
  | .hbm, ⟨92, _⟩ => ⟨S4608x256, .f32⟩
  | .hbm, ⟨93, _⟩ => ⟨S4608x256, .f32⟩
  | .hbm, ⟨94, _⟩ => ⟨S4608x256, .f32⟩
  | .hbm, ⟨95, _⟩ => ⟨S4608x512, .f32⟩
  | .hbm, ⟨96, _⟩ => ⟨S4608x512, .bf16⟩
  | _, _ => ⟨S4608x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩

abbrev nD : Nat := 1
abbrev τ : Topo := Topo.v7x

variable {F : FTy → Type} [FloatOps F]
-- ==== Kernel32.lean ====
abbrev S4608x3072 : Shape := ⟨2, ![4608, 3072]⟩
abbrev S3x1024 : Shape := ⟨2, ![3, 1024]⟩
abbrev S4608x1024 : Shape := ⟨2, ![4608, 1024]⟩
abbrev S256x768 : Shape := ⟨2, ![256, 768]⟩
abbrev S16x768 : Shape := ⟨2, ![16, 768]⟩
abbrev S3x256 : Shape := ⟨2, ![3, 256]⟩
abbrev S256x256 : Shape := ⟨2, ![256, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S4608x3072, .bf16⟩
  | .hbm, ⟨1, _⟩ => ⟨S3x1024, .f32⟩
  | .hbm, ⟨2, _⟩ => ⟨S4608x1024, .bf16⟩
  | .local _ .vmem, ⟨0, _⟩ => ⟨S256x768, .bf16⟩
  | .local _ .vmem, ⟨1, _⟩ => ⟨S256x768, .bf16⟩
  | .local _ .vmem, ⟨2, _⟩ => ⟨S16x768, .bf16⟩
  | .local _ .vmem, ⟨3, _⟩ => ⟨S16x768, .bf16⟩
  | .local _ .vmem, ⟨4, _⟩ => ⟨S16x768, .bf16⟩
  | .local _ .vmem, ⟨5, _⟩ => ⟨S16x768, .bf16⟩
  | .local _ .vmem, ⟨6, _⟩ => ⟨S3x256, .f32⟩
  | .local _ .vmem, ⟨7, _⟩ => ⟨S3x256, .f32⟩
  | .local _ .vmem, ⟨8, _⟩ => ⟨S256x256, .bf16⟩
  | .local _ .vmem, ⟨9, _⟩ => ⟨S256x256, .bf16⟩
  | _, _ => ⟨S4608x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c287_i32 : BitVec 32 := 287#32
  let v2 : BitVec 32 := Scalar.minsi v1 c287_i32
  let c0_i32 : BitVec 32 := 0#32
  ![v2.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference32Ideal.lean ====
abbrev S4608x3072 : Shape := ⟨2, ![4608, 3072]⟩
abbrev S3x1024 : Shape := ⟨2, ![3, 1024]⟩
abbrev S4608x4x3x256 : Shape := ⟨4, ![4608, 4, 3, 256]⟩
abbrev S4608x4x1x256 : Shape := ⟨4, ![4608, 4, 1, 256]⟩
abbrev S4608x4x256 : Shape := ⟨3, ![4608, 4, 256]⟩
abbrev S4608x1024 : Shape := ⟨2, ![4608, 1024]⟩
abbrev S4096x1024 : Shape := ⟨2, ![4096, 1024]⟩
abbrev S2x2048x1024 : Shape := ⟨3, ![2, 2048, 1024]⟩
abbrev S512x1024 : Shape := ⟨2, ![512, 1024]⟩
abbrev S2x256x1024 : Shape := ⟨3, ![2, 256, 1024]⟩
abbrev S2x1x1024 : Shape := ⟨3, ![2, 1, 1024]⟩
abbrev S_ : Shape := ⟨0, ![]⟩
abbrev S2x2047x1024 : Shape := ⟨3, ![2, 2047, 1024]⟩
abbrev S1x1024 : Shape := ⟨2, ![1, 1024]⟩
abbrev S1024 : Shape := ⟨1, ![1024]⟩
abbrev S1x1x1024 : Shape := ⟨3, ![1, 1, 1024]⟩
abbrev S2x255x1024 : Shape := ⟨3, ![2, 255, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4608x3072, .bf16⟩
  | .hbm, ⟨1, _⟩ => ⟨S3x1024, .f32⟩
  | .hbm, ⟨2, _⟩ => ⟨S4608x3072, .f32⟩
  | .hbm, ⟨3, _⟩ => ⟨S4608x4x3x256, .f32⟩
  | .hbm, ⟨4, _⟩ => ⟨S4608x4x1x256, .f32⟩
  | .hbm, ⟨5, _⟩ => ⟨S4608x4x256, .f32⟩
  | .hbm, ⟨6, _⟩ => ⟨S4608x1024, .f32⟩
  | .hbm, ⟨7, _⟩ => ⟨S4608x4x1x256, .f32⟩
  | .hbm, ⟨8, _⟩ => ⟨S4608x4x256, .f32⟩
  | .hbm, ⟨9, _⟩ => ⟨S4608x1024, .f32⟩
  | .hbm, ⟨10, _⟩ => ⟨S4608x4x1x256, .f32⟩
  | .hbm, ⟨11, _⟩ => ⟨S4608x4x256, .f32⟩
  | .hbm, ⟨12, _⟩ => ⟨S4608x1024, .f32⟩
  | .hbm, ⟨13, _⟩ => ⟨S4608x1024, .f32⟩
  | .hbm, ⟨14, _⟩ => ⟨S4096x1024, .f32⟩
  | .hbm, ⟨15, _⟩ => ⟨S2x2048x1024, .f32⟩
  | .hbm, ⟨16, _⟩ => ⟨S512x1024, .f32⟩
  | .hbm, ⟨17, _⟩ => ⟨S2x256x1024, .f32⟩
  | .hbm, ⟨18, _⟩ => ⟨S2x1x1024, .f32⟩
  | .hbm, ⟨19, _⟩ => ⟨S_, .f32⟩
  | .hbm, ⟨20, _⟩ => ⟨S2x1x1024, .f32⟩
  | .hbm, ⟨21, _⟩ => ⟨S2x2047x1024, .f32⟩
  | .hbm, ⟨22, _⟩ => ⟨S2x2048x1024, .f32⟩
  | .hbm, ⟨23, _⟩ => ⟨S2x2047x1024, .f32⟩
  | .hbm, ⟨24, _⟩ => ⟨S2x2048x1024, .f32⟩
  | .hbm, ⟨25, _⟩ => ⟨S1x1024, .f32⟩
  | .hbm, ⟨26, _⟩ => ⟨S1024, .f32⟩
  | .hbm, ⟨27, _⟩ => ⟨S1x1x1024, .f32⟩
  | .hbm, ⟨28, _⟩ => ⟨S2x2048x1024, .f32⟩
  | .hbm, ⟨29, _⟩ => ⟨S2x2048x1024, .f32⟩
  | .hbm, ⟨30, _⟩ => ⟨S1x1024, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S1x1024, .f32⟩
  | .hbm, ⟨37, _⟩ => ⟨S1024, .f32⟩
  | .hbm, ⟨38, _⟩ => ⟨S1x1x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S4096x1024, .f32⟩
  | .hbm, ⟨43, _⟩ => ⟨S2x1x1024, .f32⟩
  | .hbm, ⟨44, _⟩ => ⟨S_, .f32⟩
  | .hbm, ⟨45, _⟩ => ⟨S2x1x1024, .f32⟩
  | .hbm, ⟨46, _⟩ => ⟨S2x255x1024, .f32⟩
  | .hbm, ⟨47, _⟩ => ⟨S2x256x1024, .f32⟩
  | .hbm, ⟨48, _⟩ => ⟨S2x255x1024, .f32⟩
  | .hbm, ⟨49, _⟩ => ⟨S2x256x1024, .f32⟩
  | .hbm, ⟨50, _⟩ => ⟨S1x1024, .f32⟩
  | .hbm, ⟨51, _⟩ => ⟨S1024, .f32⟩
  | .hbm, ⟨52, _⟩ => ⟨S1x1x1024, .f32⟩
  | .hbm, ⟨53, _⟩ => ⟨S2x256x1024, .f32⟩
  | .hbm, ⟨54, _⟩ => ⟨S2x256x1024, .f32⟩
  | .hbm, ⟨55, _⟩ => ⟨S1x1024, .f32⟩
  | .hbm, ⟨56, _⟩ => ⟨S1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S2x256x1024, .f32⟩
  | .hbm, ⟨61, _⟩ => ⟨S1x1024, .f32⟩
  | .hbm, ⟨62, _⟩ => ⟨S1024, .f32⟩
  | .hbm, ⟨63, _⟩ => ⟨S1x1x1024, .f32⟩
  | .hbm, ⟨64, _⟩ => ⟨S2x256x1024, .f32⟩
  | .hbm, ⟨65, _⟩ => ⟨S2x256x1024, .f32⟩
  | .hbm, ⟨66, _⟩ => ⟨S2x256x1024, .f32⟩
  | .hbm, ⟨67, _⟩ => ⟨S512x1024, .f32⟩
  | .hbm, ⟨68, _⟩ => ⟨S4608x1024, .f32⟩
  | .hbm, ⟨69, _⟩ => ⟨S4608x1024, .f32⟩
  | .hbm, ⟨70, _⟩ => ⟨S4608x1024, .bf16⟩
  | _, _ => ⟨S4608x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_cst_0 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩

abbrev nD : Nat := 1
abbrev τ : Topo := Topo.v7x

variable {F : FTy → Type} [FloatOps F]
-- ==== Kernel33.lean ====
abbrev S4608x1024 : Shape := ⟨2, ![4608, 1024]⟩
abbrev S1x1024 : Shape := ⟨2, ![1, 1024]⟩
abbrev S3x9x1x1024 : Shape := ⟨4, ![3, 9, 1, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S4608x1024, .f32⟩
  | .hbm, ⟨1, _⟩ => ⟨S1x1024, .f32⟩
  | .hbm, ⟨2, _⟩ => ⟨S3x9x1x1024, .f32⟩
  | .hbm, ⟨3, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .bf16⟩
  | .local _ .vmem, ⟨8, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c0_i32_4 : BitVec 32 := 0#32
  let c0_i32_5 : BitVec 32 := 0#32
  let c0_i32_6 : BitVec 32 := 0#32
  let c0_i32_7 : BitVec 32 := 0#32
  ![v18.toNat, c0_i32_4.toNat, c0_i32_5.toNat, c0_i32_6.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c1_i32_4 : BitVec 32 := 1#32
  let c0_i32_5 : BitVec 32 := 0#32
  let c0_i32_6 : BitVec 32 := 0#32
  let c0_i32_7 : BitVec 32 := 0#32
  ![v18.toNat, c1_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference33Ideal.lean ====
abbrev S4608x1024 : Shape := ⟨2, ![4608, 1024]⟩
abbrev S1x1024 : Shape := ⟨2, ![1, 1024]⟩
abbrev S3x9x1x1024 : Shape := ⟨4, ![3, 9, 1, 1024]⟩
abbrev S1x1x1x1024 : Shape := ⟨4, ![1, 1, 1, 1024]⟩
abbrev S2048x1024 : Shape := ⟨2, ![2048, 1024]⟩
abbrev S512x1024 : Shape := ⟨2, ![512, 1024]⟩
abbrev S_ : Shape := ⟨0, ![]⟩
abbrev S4608 : Shape := ⟨1, ![4608]⟩
abbrev S4608x1 : Shape := ⟨2, ![4608, 1]⟩

abbrev nBuf : Space → Nat
  | .hbm => 44
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1x1024, .f32⟩
  | .hbm, ⟨2, _⟩ => ⟨S3x9x1x1024, .f32⟩
  | .hbm, ⟨3, _⟩ => ⟨S1x1x1x1024, .f32⟩
  | .hbm, ⟨4, _⟩ => ⟨S1x1024, .f32⟩
  | .hbm, ⟨5, _⟩ => ⟨S1x1x1x1024, .f32⟩
  | .hbm, ⟨6, _⟩ => ⟨S1x1024, .f32⟩
  | .hbm, ⟨7, _⟩ => ⟨S1x1x1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S512x1024, .f32⟩
  | .hbm, ⟨12, _⟩ => ⟨S4608x1024, .f32⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S1x1x1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S512x1024, .f32⟩
  | .hbm, ⟨22, _⟩ => ⟨S4608x1024, .f32⟩
  | .hbm, ⟨23, _⟩ => ⟨S4608x1024, .f32⟩
  | .hbm, ⟨24, _⟩ => ⟨S_, .f32⟩
  | .hbm, ⟨25, _⟩ => ⟨S4608, .f32⟩
  | .hbm, ⟨26, _⟩ => ⟨S4608x1, .f32⟩
  | .hbm, ⟨27, _⟩ => ⟨S_, .f32⟩
  | .hbm, ⟨28, _⟩ => ⟨S4608x1, .f32⟩
  | .hbm, ⟨29, _⟩ => ⟨S4608x1, .f32⟩
  | .hbm, ⟨30, _⟩ => ⟨S_, .f32⟩
  | .hbm, ⟨31, _⟩ => ⟨S4608x1, .f32⟩
  | .hbm, ⟨32, _⟩ => ⟨S4608x1, .f32⟩
  | .hbm, ⟨33, _⟩ => ⟨S4608x1, .f32⟩
  | .hbm, ⟨34, _⟩ => ⟨S4608x1024, .f32⟩
  | .hbm, ⟨35, _⟩ => ⟨S4608x1024, .f32⟩
  | .hbm, ⟨36, _⟩ => ⟨S4608x1024, .f32⟩
  | .hbm, ⟨37, _⟩ => ⟨S4608x1024, .f32⟩
  | .hbm, ⟨38, _⟩ => ⟨S_, .f32⟩
  | .hbm, ⟨39, _⟩ => ⟨S4608x1024, .f32⟩
  | .hbm, ⟨40, _⟩ => ⟨S4608x1024, .f32⟩
  | .hbm, ⟨41, _⟩ => ⟨S4608x1024, .f32⟩
  | .hbm, ⟨42, _⟩ => ⟨S4608x1024, .f32⟩
  | .hbm, ⟨43, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel34.lean ====
abbrev S4608x1024 : Shape := ⟨2, ![4608, 1024]⟩
abbrev S1x1024 : Shape := ⟨2, ![1, 1024]⟩
abbrev S3x9x1x1024 : Shape := ⟨4, ![3, 9, 1, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S4608x1024, .f32⟩
  | .hbm, ⟨1, _⟩ => ⟨S1x1024, .f32⟩
  | .hbm, ⟨2, _⟩ => ⟨S3x9x1x1024, .f32⟩
  | .hbm, ⟨3, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .bf16⟩
  | .local _ .vmem, ⟨8, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c3_i32 : BitVec 32 := 3#32
  let c0_i32_4 : BitVec 32 := 0#32
  let c0_i32_5 : BitVec 32 := 0#32
  let c0_i32_6 : BitVec 32 := 0#32
  ![v18.toNat, c3_i32.toNat, c0_i32_4.toNat, c0_i32_5.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c4_i32 : BitVec 32 := 4#32
  let c0_i32_4 : BitVec 32 := 0#32
  let c0_i32_5 : BitVec 32 := 0#32
  let c0_i32_6 : BitVec 32 := 0#32
  ![v18.toNat, c4_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference34Ideal.lean ====
abbrev S4608x1024 : Shape := ⟨2, ![4608, 1024]⟩
abbrev S1x1024 : Shape := ⟨2, ![1, 1024]⟩
abbrev S3x9x1x1024 : Shape := ⟨4, ![3, 9, 1, 1024]⟩
abbrev S1x1x1x1024 : Shape := ⟨4, ![1, 1, 1, 1024]⟩
abbrev S2048x1024 : Shape := ⟨2, ![2048, 1024]⟩
abbrev S512x1024 : Shape := ⟨2, ![512, 1024]⟩
abbrev S_ : Shape := ⟨0, ![]⟩
abbrev S4608 : Shape := ⟨1, ![4608]⟩
abbrev S4608x1 : Shape := ⟨2, ![4608, 1]⟩

abbrev nBuf : Space → Nat
  | .hbm => 44
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1x1024, .f32⟩
  | .hbm, ⟨2, _⟩ => ⟨S3x9x1x1024, .f32⟩
  | .hbm, ⟨3, _⟩ => ⟨S1x1x1x1024, .f32⟩
  | .hbm, ⟨4, _⟩ => ⟨S1x1024, .f32⟩
  | .hbm, ⟨5, _⟩ => ⟨S1x1x1x1024, .f32⟩
  | .hbm, ⟨6, _⟩ => ⟨S1x1024, .f32⟩
  | .hbm, ⟨7, _⟩ => ⟨S1x1x1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S512x1024, .f32⟩
  | .hbm, ⟨12, _⟩ => ⟨S4608x1024, .f32⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S1x1x1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S512x1024, .f32⟩
  | .hbm, ⟨22, _⟩ => ⟨S4608x1024, .f32⟩
  | .hbm, ⟨23, _⟩ => ⟨S4608x1024, .f32⟩
  | .hbm, ⟨24, _⟩ => ⟨S_, .f32⟩
  | .hbm, ⟨25, _⟩ => ⟨S4608, .f32⟩
  | .hbm, ⟨26, _⟩ => ⟨S4608x1, .f32⟩
  | .hbm, ⟨27, _⟩ => ⟨S_, .f32⟩
  | .hbm, ⟨28, _⟩ => ⟨S4608x1, .f32⟩
  | .hbm, ⟨29, _⟩ => ⟨S4608x1, .f32⟩
  | .hbm, ⟨30, _⟩ => ⟨S_, .f32⟩
  | .hbm, ⟨31, _⟩ => ⟨S4608x1, .f32⟩
  | .hbm, ⟨32, _⟩ => ⟨S4608x1, .f32⟩
  | .hbm, ⟨33, _⟩ => ⟨S4608x1, .f32⟩
  | .hbm, ⟨34, _⟩ => ⟨S4608x1024, .f32⟩
  | .hbm, ⟨35, _⟩ => ⟨S4608x1024, .f32⟩
  | .hbm, ⟨36, _⟩ => ⟨S4608x1024, .f32⟩
  | .hbm, ⟨37, _⟩ => ⟨S4608x1024, .f32⟩
  | .hbm, ⟨38, _⟩ => ⟨S_, .f32⟩
  | .hbm, ⟨39, _⟩ => ⟨S4608x1024, .f32⟩
  | .hbm, ⟨40, _⟩ => ⟨S4608x1024, .f32⟩
  | .hbm, ⟨41, _⟩ => ⟨S4608x1024, .f32⟩
  | .hbm, ⟨42, _⟩ => ⟨S4608x1024, .f32⟩
  | .hbm, ⟨43, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel35.lean ====
abbrev S4608x1024 : Shape := ⟨2, ![4608, 1024]⟩
abbrev S1x1024 : Shape := ⟨2, ![1, 1024]⟩
abbrev S3x9x1x1024 : Shape := ⟨4, ![3, 9, 1, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 4
  | .vmem => 9
  | .smem => 0
  | _ => 0

abbrev bufTy : (tb : Table) → Fin (tcTables nBuf tb) → BufTy
  | .hbm, ⟨0, _⟩ => ⟨S4608x1024, .f32⟩
  | .hbm, ⟨1, _⟩ => ⟨S1x1024, .f32⟩
  | .hbm, ⟨2, _⟩ => ⟨S3x9x1x1024, .f32⟩
  | .hbm, ⟨3, _⟩ => ⟨S4608x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .bf16⟩
  | .local _ .vmem, ⟨8, _⟩ => ⟨S512x1024, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c6_i32 : BitVec 32 := 6#32
  let c0_i32_4 : BitVec 32 := 0#32
  let c0_i32_5 : BitVec 32 := 0#32
  let c0_i32_6 : BitVec 32 := 0#32
  ![v18.toNat, c6_i32.toNat, c0_i32_4.toNat, c0_i32_5.toNat]

def cc0_transform_3 (i : grid0.Coords) : Fin 4 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.minsi v17 c2_i32
  let c7_i32 : BitVec 32 := 7#32
  let c0_i32_4 : BitVec 32 := 0#32
  let c0_i32_5 : BitVec 32 := 0#32
  let c0_i32_6 : BitVec 32 := 0#32
  ![v18.toNat, c7_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference35Ideal.lean ====
abbrev S4608x1024 : Shape := ⟨2, ![4608, 1024]⟩
abbrev S1x1024 : Shape := ⟨2, ![1, 1024]⟩
abbrev S3x9x1x1024 : Shape := ⟨4, ![3, 9, 1, 1024]⟩
abbrev S1x1x1x1024 : Shape := ⟨4, ![1, 1, 1, 1024]⟩
abbrev S2048x1024 : Shape := ⟨2, ![2048, 1024]⟩
abbrev S512x1024 : Shape := ⟨2, ![512, 1024]⟩
abbrev S_ : Shape := ⟨0, ![]⟩
abbrev S4608 : Shape := ⟨1, ![4608]⟩
abbrev S4608x1 : Shape := ⟨2, ![4608, 1]⟩

abbrev nBuf : Space → Nat
  | .hbm => 44
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S1x1024, .f32⟩
  | .hbm, ⟨2, _⟩ => ⟨S3x9x1x1024, .f32⟩
  | .hbm, ⟨3, _⟩ => ⟨S1x1x1x1024, .f32⟩
  | .hbm, ⟨4, _⟩ => ⟨S1x1024, .f32⟩
  | .hbm, ⟨5, _⟩ => ⟨S1x1x1x1024, .f32⟩
  | .hbm, ⟨6, _⟩ => ⟨S1x1024, .f32⟩
  | .hbm, ⟨7, _⟩ => ⟨S1x1x1x1024, .f32⟩
  | .hbm, ⟨8, _⟩ => ⟨S1x1024, .f32⟩
  | .hbm, ⟨9, _⟩ => ⟨S2048x1024, .f32⟩
  | .hbm, ⟨10, _⟩ => ⟨S2048x1024, .f32⟩
  | .hbm, ⟨11, _⟩ => ⟨S512x1024, .f32⟩
  | .hbm, ⟨12, _⟩ => ⟨S4608x1024, .f32⟩
  | .hbm, ⟨13, _⟩ => ⟨S1x1x1x1024, .f32⟩
  | .hbm, ⟨14, _⟩ => ⟨S1x1024, .f32⟩
  | .hbm, ⟨15, _⟩ => ⟨S1x1x1x1024, .f32⟩
  | .hbm, ⟨16, _⟩ => ⟨S1x1024, .f32⟩
  | .hbm, ⟨17, _⟩ => ⟨S1x1x1x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S512x1024, .f32⟩
  | .hbm, ⟨22, _⟩ => ⟨S4608x1024, .f32⟩
  | .hbm, ⟨23, _⟩ => ⟨S4608x1024, .f32⟩
  | .hbm, ⟨24, _⟩ => ⟨S_, .f32⟩
  | .hbm, ⟨25, _⟩ => ⟨S4608, .f32⟩
  | .hbm, ⟨26, _⟩ => ⟨S4608x1, .f32⟩
  | .hbm, ⟨27, _⟩ => ⟨S_, .f32⟩
  | .hbm, ⟨28, _⟩ => ⟨S4608x1, .f32⟩
  | .hbm, ⟨29, _⟩ => ⟨S4608x1, .f32⟩
  | .hbm, ⟨30, _⟩ => ⟨S_, .f32⟩
  | .hbm, ⟨31, _⟩ => ⟨S4608x1, .f32⟩
  | .hbm, ⟨32, _⟩ => ⟨S4608x1, .f32⟩
  | .hbm, ⟨33, _⟩ => ⟨S4608x1, .f32⟩
  | .hbm, ⟨34, _⟩ => ⟨S4608x1024, .f32⟩
  | .hbm, ⟨35, _⟩ => ⟨S4608x1024, .f32⟩
  | .hbm, ⟨36, _⟩ => ⟨S4608x1024, .f32⟩
  | .hbm, ⟨37, _⟩ => ⟨S4608x1024, .f32⟩
  | .hbm, ⟨38, _⟩ => ⟨S_, .f32⟩
  | .hbm, ⟨39, _⟩ => ⟨S4608x1024, .f32⟩
  | .hbm, ⟨40, _⟩ => ⟨S4608x1024, .f32⟩
  | .hbm, ⟨41, _⟩ => ⟨S4608x1024, .f32⟩
  | .hbm, ⟨42, _⟩ => ⟨S4608x1024, .f32⟩
  | .hbm, ⟨43, _⟩ => ⟨S4608x1024, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Kernel36.lean ====
abbrev S4608x512 : Shape := ⟨2, ![4608, 512]⟩
abbrev S1x256 : Shape := ⟨2, ![1, 256]⟩
abbrev S1x128 : Shape := ⟨2, ![1, 128]⟩
abbrev S4608x256 : Shape := ⟨2, ![4608, 256]⟩
abbrev S4608x128 : Shape := ⟨2, ![4608, 128]⟩
abbrev S512x512 : Shape := ⟨2, ![512, 512]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4608x512, .f32⟩
  | .hbm, ⟨1, _⟩ => ⟨S1x256, .f32⟩
  | .hbm, ⟨2, _⟩ => ⟨S1x128, .f32⟩
  | .hbm, ⟨3, _⟩ => ⟨S4608x256, .bf16⟩
  | .hbm, ⟨4, _⟩ => ⟨S4608x128, .bf16⟩
  | .local _ .vmem, ⟨0, _⟩ => ⟨S512x512, .f32⟩
  | .local _ .vmem, ⟨1, _⟩ => ⟨S512x512, .f32⟩
  | .local _ .vmem, ⟨2, _⟩ => ⟨S1x256, .f32⟩
  | .local _ .vmem, ⟨3, _⟩ => ⟨S1x128, .f32⟩
  | .local _ .vmem, ⟨4, _⟩ => ⟨S512x256, .bf16⟩
  | .local _ .vmem, ⟨5, _⟩ => ⟨S512x256, .bf16⟩
  | .local _ .vmem, ⟨6, _⟩ => ⟨S512x128, .bf16⟩
  | .local _ .vmem, ⟨7, _⟩ => ⟨S512x128, .bf16⟩
  | _, _ => ⟨S4608x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference36Ideal.lean ====
abbrev S4608x512 : Shape := ⟨2, ![4608, 512]⟩
abbrev S1x256 : Shape := ⟨2, ![1, 256]⟩
abbrev S1x128 : Shape := ⟨2, ![1, 128]⟩
abbrev S4608x256 : Shape := ⟨2, ![4608, 256]⟩
abbrev S4608x128 : Shape := ⟨2, ![4608, 128]⟩
abbrev S_ : Shape := ⟨0, ![]⟩
abbrev S4608 : Shape := ⟨1, ![4608]⟩
abbrev S4608x1 : Shape := ⟨2, ![4608, 1]⟩

abbrev nBuf : Space → Nat
  | .hbm => 38
  | .vmem => 0
  | .smem => 0
  | _ => 0

abbrev bufTy : (tb : Table) → Fin (tcTables nBuf tb) → BufTy
  | .hbm, ⟨0, _⟩ => ⟨S4608x512, .f32⟩
  | .hbm, ⟨1, _⟩ => ⟨S1x256, .f32⟩
  | .hbm, ⟨2, _⟩ => ⟨S1x128, .f32⟩
  | .hbm, ⟨3, _⟩ => ⟨S4608x256, .f32⟩
  | .hbm, ⟨4, _⟩ => ⟨S4608x128, .f32⟩
  | .hbm, ⟨5, _⟩ => ⟨S4608x128, .f32⟩
  | .hbm, ⟨6, _⟩ => ⟨S4608x256, .f32⟩
  | .hbm, ⟨7, _⟩ => ⟨S_, .f32⟩
  | .hbm, ⟨8, _⟩ => ⟨S4608, .f32⟩
  | .hbm, ⟨9, _⟩ => ⟨S4608x1, .f32⟩
  | .hbm, ⟨10, _⟩ => ⟨S_, .f32⟩
  | .hbm, ⟨11, _⟩ => ⟨S4608x1, .f32⟩
  | .hbm, ⟨12, _⟩ => ⟨S4608x1, .f32⟩
  | .hbm, ⟨13, _⟩ => ⟨S_, .f32⟩
  | .hbm, ⟨14, _⟩ => ⟨S4608x1, .f32⟩
  | .hbm, ⟨15, _⟩ => ⟨S4608x1, .f32⟩
  | .hbm, ⟨16, _⟩ => ⟨S4608x1, .f32⟩
  | .hbm, ⟨17, _⟩ => ⟨S4608x256, .f32⟩
  | .hbm, ⟨18, _⟩ => ⟨S4608x256, .f32⟩
  | .hbm, ⟨19, _⟩ => ⟨S4608x256, .f32⟩
  | .hbm, ⟨20, _⟩ => ⟨S4608x256, .f32⟩
  | .hbm, ⟨21, _⟩ => ⟨S4608x128, .f32⟩
  | .hbm, ⟨22, _⟩ => ⟨S_, .f32⟩
  | .hbm, ⟨23, _⟩ => ⟨S4608, .f32⟩
  | .hbm, ⟨24, _⟩ => ⟨S4608x1, .f32⟩
  | .hbm, ⟨25, _⟩ => ⟨S_, .f32⟩
  | .hbm, ⟨26, _⟩ => ⟨S4608x1, .f32⟩
  | .hbm, ⟨27, _⟩ => ⟨S4608x1, .f32⟩
  | .hbm, ⟨28, _⟩ => ⟨S_, .f32⟩
  | .hbm, ⟨29, _⟩ => ⟨S4608x1, .f32⟩
  | .hbm, ⟨30, _⟩ => ⟨S4608x1, .f32⟩
  | .hbm, ⟨31, _⟩ => ⟨S4608x1, .f32⟩
  | .hbm, ⟨32, _⟩ => ⟨S4608x128, .f32⟩
  | .hbm, ⟨33, _⟩ => ⟨S4608x128, .f32⟩
  | .hbm, ⟨34, _⟩ => ⟨S4608x128, .f32⟩
  | .hbm, ⟨35, _⟩ => ⟨S4608x128, .f32⟩
  | .hbm, ⟨36, _⟩ => ⟨S4608x256, .bf16⟩
  | .hbm, ⟨37, _⟩ => ⟨S4608x128, .bf16⟩
  | _, _ => ⟨S4608x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel37.lean ====
abbrev S4608x2048 : Shape := ⟨2, ![4608, 2048]⟩
abbrev S1x128 : Shape := ⟨2, ![1, 128]⟩
abbrev S4608x32 : Shape := ⟨2, ![4608, 32]⟩
abbrev S_ : Shape := ⟨0, ![]⟩
abbrev S4608x64 : Shape := ⟨2, ![4608, 64]⟩
abbrev S4608x128 : Shape := ⟨2, ![4608, 128]⟩
abbrev S512x1024 : Shape := ⟨2, ![512, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 11
  | .vmem => 12
  | .smem => 0
  | _ => 0

abbrev bufTy : (tb : Table) → Fin (tcTables nBuf tb) → BufTy
  | .hbm, ⟨0, _⟩ => ⟨S4608x2048, .bf16⟩
  | .hbm, ⟨1, _⟩ => ⟨S1x128, .f32⟩
  | .hbm, ⟨2, _⟩ => ⟨S1x128, .f32⟩
  | .hbm, ⟨3, _⟩ => ⟨S4608x32, .f32⟩
  | .hbm, ⟨4, _⟩ => ⟨S4608x32, .f32⟩
  | .hbm, ⟨5, _⟩ => ⟨S_, .f32⟩
  | .hbm, ⟨6, _⟩ => ⟨S4608x64, .f32⟩
  | .hbm, ⟨7, _⟩ => ⟨S4608x128, .f32⟩
  | .hbm, ⟨8, _⟩ => ⟨S4608x32, .f32⟩
  | .hbm, ⟨9, _⟩ => ⟨S4608x128, .f32⟩
  | .hbm, ⟨10, _⟩ => ⟨S4608x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S512x2048, .bf16⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S4608x2048 : Shape := ⟨2, ![4608, 2048]⟩
abbrev S1x128 : Shape := ⟨2, ![1, 128]⟩
abbrev S4608x32 : Shape := ⟨2, ![4608, 32]⟩
abbrev S4608x1024 : Shape := ⟨2, ![4608, 1024]⟩
abbrev S4608x8x128 : Shape := ⟨3, ![4608, 8, 128]⟩
abbrev S4608x8x256 : Shape := ⟨3, ![4608, 8, 256]⟩
abbrev S_ : Shape := ⟨0, ![]⟩
abbrev S4608x8 : Shape := ⟨2, ![4608, 8]⟩
abbrev S4608x8x1 : Shape := ⟨3, ![4608, 8, 1]⟩
abbrev S1x256 : Shape := ⟨2, ![1, 256]⟩
abbrev S1x1x256 : Shape := ⟨3, ![1, 1, 256]⟩
abbrev S4608x1x32 : Shape := ⟨3, ![4608, 1, 32]⟩
abbrev S4608x8x32 : Shape := ⟨3, ![4608, 8, 32]⟩
abbrev S4608x8x64 : Shape := ⟨3, ![4608, 8, 64]⟩

abbrev nBuf : Space → Nat
  | .hbm => 51
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S1x128, .f32⟩
  | .hbm, ⟨2, _⟩ => ⟨S1x128, .f32⟩
  | .hbm, ⟨3, _⟩ => ⟨S4608x32, .f32⟩
  | .hbm, ⟨4, _⟩ => ⟨S4608x32, .f32⟩
  | .hbm, ⟨5, _⟩ => ⟨S4608x2048, .f32⟩
  | .hbm, ⟨6, _⟩ => ⟨S4608x1024, .f32⟩
  | .hbm, ⟨7, _⟩ => ⟨S4608x1024, .f32⟩
  | .hbm, ⟨8, _⟩ => ⟨S4608x8x128, .f32⟩
  | .hbm, ⟨9, _⟩ => ⟨S4608x8x128, .f32⟩
  | .hbm, ⟨10, _⟩ => ⟨S4608x8x256, .f32⟩
  | .hbm, ⟨11, _⟩ => ⟨S4608x8x256, .f32⟩
  | .hbm, ⟨12, _⟩ => ⟨S_, .f32⟩
  | .hbm, ⟨13, _⟩ => ⟨S4608x8, .f32⟩
  | .hbm, ⟨14, _⟩ => ⟨S4608x8x1, .f32⟩
  | .hbm, ⟨15, _⟩ => ⟨S_, .f32⟩
  | .hbm, ⟨16, _⟩ => ⟨S4608x8x1, .f32⟩
  | .hbm, ⟨17, _⟩ => ⟨S4608x8x1, .f32⟩
  | .hbm, ⟨18, _⟩ => ⟨S_, .f32⟩
  | .hbm, ⟨19, _⟩ => ⟨S4608x8x1, .f32⟩
  | .hbm, ⟨20, _⟩ => ⟨S4608x8x1, .f32⟩
  | .hbm, ⟨21, _⟩ => ⟨S4608x8x1, .f32⟩
  | .hbm, ⟨22, _⟩ => ⟨S4608x8x256, .f32⟩
  | .hbm, ⟨23, _⟩ => ⟨S4608x8x256, .f32⟩
  | .hbm, ⟨24, _⟩ => ⟨S1x256, .f32⟩
  | .hbm, ⟨25, _⟩ => ⟨S1x1x256, .f32⟩
  | .hbm, ⟨26, _⟩ => ⟨S4608x8x256, .f32⟩
  | .hbm, ⟨27, _⟩ => ⟨S4608x8x256, .f32⟩
  | .hbm, ⟨28, _⟩ => ⟨S4608x8x128, .f32⟩
  | .hbm, ⟨29, _⟩ => ⟨S4608x8x128, .f32⟩
  | .hbm, ⟨30, _⟩ => ⟨S4608x1x32, .f32⟩
  | .hbm, ⟨31, _⟩ => ⟨S4608x1x32, .f32⟩
  | .hbm, ⟨32, _⟩ => ⟨S4608x8x32, .f32⟩
  | .hbm, ⟨33, _⟩ => ⟨S4608x8x32, .f32⟩
  | .hbm, ⟨34, _⟩ => ⟨S4608x8x64, .f32⟩
  | .hbm, ⟨35, _⟩ => ⟨S4608x8x32, .f32⟩
  | .hbm, ⟨36, _⟩ => ⟨S4608x8x32, .f32⟩
  | .hbm, ⟨37, _⟩ => ⟨S4608x8x32, .f32⟩
  | .hbm, ⟨38, _⟩ => ⟨S4608x8x32, .f32⟩
  | .hbm, ⟨39, _⟩ => ⟨S4608x8x32, .f32⟩
  | .hbm, ⟨40, _⟩ => ⟨S4608x8x32, .f32⟩
  | .hbm, ⟨41, _⟩ => ⟨S4608x8x32, .f32⟩
  | .hbm, ⟨42, _⟩ => ⟨S4608x8x32, .f32⟩
  | .hbm, ⟨43, _⟩ => ⟨S4608x8x32, .f32⟩
  | .hbm, ⟨44, _⟩ => ⟨S4608x8x32, .f32⟩
  | .hbm, ⟨45, _⟩ => ⟨S_, .f32⟩
  | .hbm, ⟨46, _⟩ => ⟨S4608x8x64, .f32⟩
  | .hbm, ⟨47, _⟩ => ⟨S4608x8x128, .f32⟩
  | .hbm, ⟨48, _⟩ => ⟨S4608x8x256, .f32⟩
  | .hbm, ⟨49, _⟩ => ⟨S4608x2048, .f32⟩
  | .hbm, ⟨50, _⟩ => ⟨S4608x2048, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩

abbrev nD : Nat := 1
abbrev τ : Topo := Topo.v7x

variable {F : FTy → Type} [FloatOps F]
-- ==== Kernel38.lean ====
abbrev S4608x2048 : Shape := ⟨2, ![4608, 2048]⟩
abbrev S4608x512 : Shape := ⟨2, ![4608, 512]⟩
abbrev S1x128 : Shape := ⟨2, ![1, 128]⟩
abbrev S4608x32 : Shape := ⟨2, ![4608, 32]⟩
abbrev S_ : Shape := ⟨0, ![]⟩
abbrev S4608x64 : Shape := ⟨2, ![4608, 64]⟩
abbrev S4608x128 : Shape := ⟨2, ![4608, 128]⟩
abbrev S512x1024 : Shape := ⟨2, ![512, 1024]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S4608x2048, .bf16⟩
  | .hbm, ⟨1, _⟩ => ⟨S4608x512, .f32⟩
  | .hbm, ⟨2, _⟩ => ⟨S1x128, .f32⟩
  | .hbm, ⟨3, _⟩ => ⟨S1x128, .f32⟩
  | .hbm, ⟨4, _⟩ => ⟨S4608x32, .f32⟩
  | .hbm, ⟨5, _⟩ => ⟨S4608x32, .f32⟩
  | .hbm, ⟨6, _⟩ => ⟨S_, .f32⟩
  | .hbm, ⟨7, _⟩ => ⟨S4608x64, .f32⟩
  | .hbm, ⟨8, _⟩ => ⟨S4608x128, .f32⟩
  | .hbm, ⟨9, _⟩ => ⟨S4608x32, .f32⟩
  | .hbm, ⟨10, _⟩ => ⟨S4608x128, .f32⟩
  | .hbm, ⟨11, _⟩ => ⟨S4608x2048, .bf16⟩
  | .local _ .vmem, ⟨0, _⟩ => ⟨S512x1024, .bf16⟩
  | .local _ .vmem, ⟨1, _⟩ => ⟨S512x1024, .bf16⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S512x2048, .bf16⟩
  | _, _ => ⟨S4608x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference38Ideal.lean ====
abbrev S4608x2048 : Shape := ⟨2, ![4608, 2048]⟩
abbrev S4608x512 : Shape := ⟨2, ![4608, 512]⟩
abbrev S1x128 : Shape := ⟨2, ![1, 128]⟩
abbrev S4608x32 : Shape := ⟨2, ![4608, 32]⟩
abbrev S4608x1024 : Shape := ⟨2, ![4608, 1024]⟩
abbrev S4608x8x128 : Shape := ⟨3, ![4608, 8, 128]⟩
abbrev S4608x128 : Shape := ⟨2, ![4608, 128]⟩
abbrev S4608x1x128 : Shape := ⟨3, ![4608, 1, 128]⟩
abbrev S4608x8x256 : Shape := ⟨3, ![4608, 8, 256]⟩
abbrev S_ : Shape := ⟨0, ![]⟩
abbrev S4608x8 : Shape := ⟨2, ![4608, 8]⟩
abbrev S4608x8x1 : Shape := ⟨3, ![4608, 8, 1]⟩
abbrev S1x256 : Shape := ⟨2, ![1, 256]⟩
abbrev S1x1x256 : Shape := ⟨3, ![1, 1, 256]⟩
abbrev S4608x1x32 : Shape := ⟨3, ![4608, 1, 32]⟩
abbrev S4608x8x32 : Shape := ⟨3, ![4608, 8, 32]⟩
abbrev S4608x8x64 : Shape := ⟨3, ![4608, 8, 64]⟩

abbrev nBuf : Space → Nat
  | .hbm => 53
  | .vmem => 0
  | .smem => 0
  | _ => 0

abbrev bufTy : (tb : Table) → Fin (tcTables nBuf tb) → BufTy
  | .hbm, ⟨0, _⟩ => ⟨S4608x2048, .bf16⟩
  | .hbm, ⟨1, _⟩ => ⟨S4608x512, .f32⟩
  | .hbm, ⟨2, _⟩ => ⟨S1x128, .f32⟩
  | .hbm, ⟨3, _⟩ => ⟨S1x128, .f32⟩
  | .hbm, ⟨4, _⟩ => ⟨S4608x32, .f32⟩
  | .hbm, ⟨5, _⟩ => ⟨S4608x32, .f32⟩
  | .hbm, ⟨6, _⟩ => ⟨S4608x1024, .bf16⟩
  | .hbm, ⟨7, _⟩ => ⟨S4608x1024, .f32⟩
  | .hbm, ⟨8, _⟩ => ⟨S4608x8x128, .f32⟩
  | .hbm, ⟨9, _⟩ => ⟨S4608x128, .f32⟩
  | .hbm, ⟨10, _⟩ => ⟨S4608x1x128, .f32⟩
  | .hbm, ⟨11, _⟩ => ⟨S4608x8x128, .f32⟩
  | .hbm, ⟨12, _⟩ => ⟨S4608x8x256, .f32⟩
  | .hbm, ⟨13, _⟩ => ⟨S4608x8x256, .f32⟩
  | .hbm, ⟨14, _⟩ => ⟨S_, .f32⟩
  | .hbm, ⟨15, _⟩ => ⟨S4608x8, .f32⟩
  | .hbm, ⟨16, _⟩ => ⟨S4608x8x1, .f32⟩
  | .hbm, ⟨17, _⟩ => ⟨S_, .f32⟩
  | .hbm, ⟨18, _⟩ => ⟨S4608x8x1, .f32⟩
  | .hbm, ⟨19, _⟩ => ⟨S4608x8x1, .f32⟩
  | .hbm, ⟨20, _⟩ => ⟨S_, .f32⟩
  | .hbm, ⟨21, _⟩ => ⟨S4608x8x1, .f32⟩
  | .hbm, ⟨22, _⟩ => ⟨S4608x8x1, .f32⟩
  | .hbm, ⟨23, _⟩ => ⟨S4608x8x1, .f32⟩
  | .hbm, ⟨24, _⟩ => ⟨S4608x8x256, .f32⟩
  | .hbm, ⟨25, _⟩ => ⟨S4608x8x256, .f32⟩
  | .hbm, ⟨26, _⟩ => ⟨S1x256, .f32⟩
  | .hbm, ⟨27, _⟩ => ⟨S1x1x256, .f32⟩
  | .hbm, ⟨28, _⟩ => ⟨S4608x8x256, .f32⟩
  | .hbm, ⟨29, _⟩ => ⟨S4608x8x256, .f32⟩
  | .hbm, ⟨30, _⟩ => ⟨S4608x8x128, .f32⟩
  | .hbm, ⟨31, _⟩ => ⟨S4608x8x128, .f32⟩
  | .hbm, ⟨32, _⟩ => ⟨S4608x1x32, .f32⟩
  | .hbm, ⟨33, _⟩ => ⟨S4608x1x32, .f32⟩
  | .hbm, ⟨34, _⟩ => ⟨S4608x8x32, .f32⟩
  | .hbm, ⟨35, _⟩ => ⟨S4608x8x32, .f32⟩
  | .hbm, ⟨36, _⟩ => ⟨S4608x8x64, .f32⟩
  | .hbm, ⟨37, _⟩ => ⟨S4608x8x32, .f32⟩
  | .hbm, ⟨38, _⟩ => ⟨S4608x8x32, .f32⟩
  | .hbm, ⟨39, _⟩ => ⟨S4608x8x32, .f32⟩
  | .hbm, ⟨40, _⟩ => ⟨S4608x8x32, .f32⟩
  | .hbm, ⟨41, _⟩ => ⟨S4608x8x32, .f32⟩
  | .hbm, ⟨42, _⟩ => ⟨S4608x8x32, .f32⟩
  | .hbm, ⟨43, _⟩ => ⟨S4608x8x32, .f32⟩
  | .hbm, ⟨44, _⟩ => ⟨S4608x8x32, .f32⟩
  | .hbm, ⟨45, _⟩ => ⟨S4608x8x32, .f32⟩
  | .hbm, ⟨46, _⟩ => ⟨S4608x8x32, .f32⟩
  | .hbm, ⟨47, _⟩ => ⟨S_, .f32⟩
  | .hbm, ⟨48, _⟩ => ⟨S4608x8x64, .f32⟩
  | .hbm, ⟨49, _⟩ => ⟨S4608x8x128, .f32⟩
  | .hbm, ⟨50, _⟩ => ⟨S4608x8x256, .f32⟩
  | .hbm, ⟨51, _⟩ => ⟨S4608x2048, .f32⟩
  | .hbm, ⟨52, _⟩ => ⟨S4608x2048, .bf16⟩
  | _, _ => ⟨S4608x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_2 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== Kernel39.lean ====
abbrev S4x1024x1152 : Shape := ⟨3, ![4, 1024, 1152]⟩
abbrev S4096x1152 : Shape := ⟨2, ![4096, 1152]⟩
abbrev S512x1152 : Shape := ⟨2, ![512, 1152]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S4x1024x1152, .f32⟩
  | .hbm, ⟨4, _⟩ => ⟨S4096x1152, .f32⟩
  | .hbm, ⟨5, _⟩ => ⟨S4096x1152, .f32⟩
  | .hbm, ⟨6, _⟩ => ⟨S4096x1152, .f32⟩
  | .hbm, ⟨7, _⟩ => ⟨S4096x1152, .f32⟩
  | .hbm, ⟨8, _⟩ => ⟨S4096x1152, .f32⟩
  | .hbm, ⟨9, _⟩ => ⟨S4096x1152, .f32⟩
  | .hbm, ⟨10, _⟩ => ⟨S4096x1152, .f32⟩
  | .local _ .vmem, ⟨0, _⟩ => ⟨S512x1152, .f32⟩
  | .local _ .vmem, ⟨1, _⟩ => ⟨S512x1152, .f32⟩
  | .local _ .vmem, ⟨2, _⟩ => ⟨S512x1152, .f32⟩
  | .local _ .vmem, ⟨3, _⟩ => ⟨S512x1152, .f32⟩
  | .local _ .vmem, ⟨4, _⟩ => ⟨S512x1152, .f32⟩
  | .local _ .vmem, ⟨5, _⟩ => ⟨S512x1152, .f32⟩
  | .local _ .vmem, ⟨6, _⟩ => ⟨S512x1152, .f32⟩
  | .local _ .vmem, ⟨7, _⟩ => ⟨S512x1152, .f32⟩
  | .local _ .vmem, ⟨8, _⟩ => ⟨S512x1152, .f32⟩
  | .local _ .vmem, ⟨9, _⟩ => ⟨S512x1152, .f32⟩
  | .local _ .vmem, ⟨10, _⟩ => ⟨S512x1152, .f32⟩
  | .local _ .vmem, ⟨11, _⟩ => ⟨S512x1152, .f32⟩
  | .local _ .vmem, ⟨12, _⟩ => ⟨S512x1152, .f32⟩
  | .local _ .vmem, ⟨13, _⟩ => ⟨S512x1152, .f32⟩
  | _, _ => ⟨S4x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference39Ideal.lean ====
abbrev S4x1024x1152 : Shape := ⟨3, ![4, 1024, 1152]⟩
abbrev S_ : Shape := ⟨0, ![]⟩
abbrev S4096x1152 : Shape := ⟨2, ![4096, 1152]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1152, .f32⟩
  | .hbm, ⟨1, _⟩ => ⟨S4x1024x1152, .f32⟩
  | .hbm, ⟨2, _⟩ => ⟨S4x1024x1152, .f32⟩
  | .hbm, ⟨3, _⟩ => ⟨S4x1024x1152, .f32⟩
  | .hbm, ⟨4, _⟩ => ⟨S_, .f32⟩
  | .hbm, ⟨5, _⟩ => ⟨S4x1024x1152, .f32⟩
  | .hbm, ⟨6, _⟩ => ⟨S4x1024x1152, .f32⟩
  | .hbm, ⟨7, _⟩ => ⟨S_, .f32⟩
  | .hbm, ⟨8, _⟩ => ⟨S4x1024x1152, .f32⟩
  | .hbm, ⟨9, _⟩ => ⟨S4x1024x1152, .f32⟩
  | .hbm, ⟨10, _⟩ => ⟨S4x1024x1152, .f32⟩
  | .hbm, ⟨11, _⟩ => ⟨S_, .f32⟩
  | .hbm, ⟨12, _⟩ => ⟨S4x1024x1152, .f32⟩
  | .hbm, ⟨13, _⟩ => ⟨S4x1024x1152, .f32⟩
  | .hbm, ⟨14, _⟩ => ⟨S4x1024x1152, .f32⟩
  | .hbm, ⟨15, _⟩ => ⟨S_, .f32⟩
  | .hbm, ⟨16, _⟩ => ⟨S4x1024x1152, .f32⟩
  | .hbm, ⟨17, _⟩ => ⟨S4x1024x1152, .f32⟩
  | .hbm, ⟨18, _⟩ => ⟨S4x1024x1152, .f32⟩
  | .hbm, ⟨19, _⟩ => ⟨S_, .f32⟩
  | .hbm, ⟨20, _⟩ => ⟨S4x1024x1152, .f32⟩
  | .hbm, ⟨21, _⟩ => ⟨S4x1024x1152, .f32⟩
  | .hbm, ⟨22, _⟩ => ⟨S_, .f32⟩
  | .hbm, ⟨23, _⟩ => ⟨S4x1024x1152, .f32⟩
  | .hbm, ⟨24, _⟩ => ⟨S4x1024x1152, .f32⟩
  | .hbm, ⟨25, _⟩ => ⟨S4x1024x1152, .f32⟩
  | .hbm, ⟨26, _⟩ => ⟨S_, .f32⟩
  | .hbm, ⟨27, _⟩ => ⟨S4x1024x1152, .f32⟩
  | .hbm, ⟨28, _⟩ => ⟨S4x1024x1152, .f32⟩
  | .hbm, ⟨29, _⟩ => ⟨S4x1024x1152, .f32⟩
  | .hbm, ⟨30, _⟩ => ⟨S_, .f32⟩
  | .hbm, ⟨31, _⟩ => ⟨S4x1024x1152, .f32⟩
  | .hbm, ⟨32, _⟩ => ⟨S4x1024x1152, .f32⟩
  | .hbm, ⟨33, _⟩ => ⟨S4x1024x1152, .f32⟩
  | .hbm, ⟨34, _⟩ => ⟨S_, .f32⟩
  | .hbm, ⟨35, _⟩ => ⟨S4x1024x1152, .f32⟩
  | .hbm, ⟨36, _⟩ => ⟨S4x1024x1152, .f32⟩
  | .hbm, ⟨37, _⟩ => ⟨S4096x1152, .f32⟩
  | .hbm, ⟨38, _⟩ => ⟨S4096x1152, .f32⟩
  | .hbm, ⟨39, _⟩ => ⟨S4096x1152, .f32⟩
  | _, _ => ⟨S4x1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Model.lean ====
/- The softmax row and its gradient over the extended reals: what one query row of the attention gives, and the two
   ways in which its gradient is written. No program is named here. -/
module

public import Idealize.ShloMosaic.Lib.Pointwise

@[expose] public section

noncomputable section

namespace Cert.Attn

open Idealize.ShloMosaic

/-- The scale of the scores, as both programs print it. -/
def scale : EReal := Ideal.ofBits .f32 0x3D93CD3A#32

/-- The pattern of minus infinity denotes the bottom of the extended reals. -/
theorem ofBits_ninf : Ideal.ofBits .f32 0xFF800000#32 = (⊥ : EReal) := by
  simp [Ideal.ofBits, Ideal.ieee]

/-- The scale is a real number. -/
theorem scale_real : ∃ r : ℝ, scale = (r : EReal) := by
  unfold scale
  simp [Ideal.ofBits, Ideal.ieee]
  exact ⟨_, rfl⟩

/-- The largest entry of a row. -/
def rowMax {n : ℕ} (s : Fin n → EReal) : EReal := Finset.univ.fold max ⊥ s

/-- The exponential of an entry's distance to the largest. -/
def smE {n : ℕ} (s : Fin n → EReal) (k : Fin n) : EReal := Ideal.exp (s k - rowMax s)

/-- The probability of an entry: its exponential times one over the sum of all. -/
def smP {n : ℕ} (s : Fin n → EReal) (k : Fin n) : EReal := smE s k * Ideal.div 1 (∑ j, smE s j)

/-- The gradient by a score, from the scores and the gradient by the probabilities. -/
def smD {n : ℕ} (s dp : Fin n → EReal) (k : Fin n) : EReal :=
  smP s k * (dp k - ∑ j, smP s j * dp j) * scale

theorem rowMax_eq_sup {n : ℕ} (s : Fin n → EReal) : rowMax s = Finset.univ.sup s := rfl

/-- A nonempty row of real numbers has a real largest entry. -/
theorem rowMax_real {n : ℕ} (hn : 0 < n) (s : Fin n → EReal) (hs : ∀ k, ∃ r : ℝ, s k = (r : EReal)) :
    ∃ r : ℝ, rowMax s = (r : EReal) := by
  obtain ⟨k, -, hk⟩ := Finset.exists_mem_eq_sup (Finset.univ : Finset (Fin n)) ⟨⟨0, hn⟩, Finset.mem_univ _⟩ s
  rw [rowMax_eq_sup, hk]
  exact hs k

/-- The exponentials of a row of real numbers are positive real numbers. -/
theorem smE_real {n : ℕ} (s : Fin n → EReal) (hs : ∀ k, ∃ r : ℝ, s k = (r : EReal)) (k : Fin n) :
    ∃ r : ℝ, 0 < r ∧ smE s k = (r : EReal) := by
  obtain ⟨M, hM⟩ := rowMax_real (Fin.pos k) s hs
  obtain ⟨x, hx⟩ := hs k
  refine ⟨Real.exp (x - M), Real.exp_pos _, ?_⟩
  unfold smE
  rw [hx, hM, ← EReal.coe_sub]
  rfl

theorem coe_sum {n : ℕ} (r : Fin n → ℝ) : ((∑ k, r k : ℝ) : EReal) = ∑ k, (r k : EReal) := by
  induction (Finset.univ : Finset (Fin n)) using Finset.induction_on with
  | empty => simp
  | insert a s ha ih => rw [Finset.sum_insert ha, Finset.sum_insert ha, EReal.coe_add, ih]

/-- A real factor that is not negative goes into a sum. -/
theorem mul_sum_coe {n : ℕ} {a : ℝ} (ha : 0 ≤ a) (f : Fin n → EReal) :
    (a : EReal) * ∑ k, f k = ∑ k, (a : EReal) * f k := by
  induction (Finset.univ : Finset (Fin n)) using Finset.induction_on with
  | empty => simp
  | insert x s hx ih =>
      rw [Finset.sum_insert hx, Finset.sum_insert hx,
        EReal.left_distrib_of_nonneg_of_ne_top (EReal.coe_nonneg.mpr ha) (EReal.coe_ne_top a), ih]

/-- The sum of a row's exponentials is a positive real number. -/
theorem sum_smE_real {n : ℕ} (hn : 0 < n) (s : Fin n → EReal) (hs : ∀ k, ∃ r : ℝ, s k = (r : EReal)) :
    ∃ D : ℝ, 0 < D ∧ ∑ j, smE s j = (D : EReal) := by
  choose r hr he using smE_real s hs
  refine ⟨∑ j, r j, Finset.sum_pos (fun j _ => hr j) ⟨⟨0, hn⟩, Finset.mem_univ _⟩, ?_⟩
  rw [coe_sum]
  exact Finset.sum_congr rfl fun j _ => he j

/-- The probability as a quotient. -/
theorem div_eq_smP {n : ℕ} (s : Fin n → EReal) (hs : ∀ k, ∃ r : ℝ, s k = (r : EReal)) (k : Fin n) :
    Ideal.div (smE s k) (∑ j, smE s j) = smP s k := by
  obtain ⟨D, hD, hd⟩ := sum_smE_real (Fin.pos k) s hs
  unfold smP
  rw [hd, Ideal.div_coe hD.ne', Ideal.div_coe hD.ne', one_mul]

/-- The gradient by a score as differentiation writes it: the quotient's two partial derivatives, the exponential's
    derivative and the scale. -/
theorem grad_eq_smD {n : ℕ} (s dp : Fin n → EReal) (hs : ∀ k, ∃ r : ℝ, s k = (r : EReal)) (k : Fin n) :
    (Ideal.div (dp k) (∑ j, smE s j)
        + -(∑ j, dp j * Ideal.div 1 ((∑ i, smE s i) * (∑ i, smE s i)) * smE s j)) * smE s k * scale
      = smD s dp k := by
  obtain ⟨D, hD, hd⟩ := sum_smE_real (Fin.pos k) s hs
  unfold smD smP
  rw [hd, ← EReal.coe_mul, Ideal.div_coe hD.ne', Ideal.div_coe hD.ne', Ideal.div_coe (mul_pos hD hD).ne',
    one_mul, one_mul]
  have ha : (0 : ℝ) < 1 / D := one_div_pos.mpr hD
  have hDD : (1 / (D * D) : ℝ) = (1 / D) * (1 / D) := by field_simp
  rw [hDD, EReal.coe_mul]
  generalize (1 / D : ℝ) = a at ha
  congr 1
  have h1 : (∑ j, dp j * ((a : EReal) * (a : EReal)) * smE s j) = (a : EReal) * ∑ j, smE s j * (a : EReal) * dp j := by
    rw [mul_sum_coe ha.le]
    refine Finset.sum_congr rfl fun j _ => ?_
    ac_rfl
  rw [h1, ← mul_neg, mul_comm (dp k) (a : EReal),
    ← EReal.left_distrib_of_nonneg_of_ne_top (EReal.coe_nonneg.mpr ha.le) (EReal.coe_ne_top a), sub_eq_add_neg]
  ac_rfl

/-- A row over the 256 context keys followed by the 2048 latent keys. -/
def cat {α : Type} (f : Fin 256 → α) (g : Fin 2048 → α) (k : Fin 2304) : α :=
  if h : k.val < 256 then f ⟨k.val, h⟩ else g ⟨k.val - 256, by have := k.isLt; omega⟩

/-- The context key's place among all keys. -/
def keyC (k : Fin 256) : Fin 2304 := ⟨k.val, by omega⟩
/-- The latent key's place among all keys. -/
def keyL (k : Fin 2048) : Fin 2304 := ⟨256 + k.val, by omega⟩

@[simp] theorem cat_keyC {α : Type} (f : Fin 256 → α) (g : Fin 2048 → α) (k : Fin 256) : cat f g (keyC k) = f k :=
  dif_pos k.isLt

@[simp] theorem cat_keyL {α : Type} (f : Fin 256 → α) (g : Fin 2048 → α) (k : Fin 2048) : cat f g (keyL k) = g k := by
  unfold cat
  rw [dif_neg (by simp only [keyL]; omega)]
  congr 1
  apply Fin.ext
  simp only [keyL]
  omega

theorem forall_key {P : Fin 2304 → Prop} (hc : ∀ k, P (keyC k)) (hl : ∀ k, P (keyL k)) (k : Fin 2304) : P k := by
  by_cases h : k.val < 256
  · exact hc ⟨k.val, h⟩
  · have e : k = keyL ⟨k.val - 256, by have := k.isLt; omega⟩ := by
      apply Fin.ext; simp only [keyL]; omega
    rw [e]; exact hl _

/-- A sum over all keys is the sum over the context keys plus that over the latent keys. -/
theorem sum_key (F : Fin 2304 → EReal) : ∑ k, F k = ∑ k, F (keyC k) + ∑ k, F (keyL k) :=
  Fin.sum_univ_add (a := 256) (b := 2048) F

/-- The largest over all keys is the larger of the two parts' largest. -/
theorem rowMax_key (s : Fin 2304 → EReal) :
    rowMax s = max (rowMax fun k => s (keyC k)) (rowMax fun k => s (keyL k)) := by
  simp only [rowMax_eq_sup]
  apply le_antisymm
  · refine Finset.sup_le fun k _ => ?_
    refine forall_key (P := fun k => s k ≤ max (Finset.univ.sup fun k => s (keyC k))
      (Finset.univ.sup fun k => s (keyL k))) (fun k => ?_) (fun k => ?_) k
    · exact le_max_of_le_left (Finset.le_sup (f := fun k => s (keyC k)) (Finset.mem_univ k))
    · exact le_max_of_le_right (Finset.le_sup (f := fun k => s (keyL k)) (Finset.mem_univ k))
  · refine max_le (Finset.sup_le fun k _ => ?_) (Finset.sup_le fun k _ => ?_)
    · exact Finset.le_sup (f := s) (Finset.mem_univ (keyC k))
    · exact Finset.le_sup (f := s) (Finset.mem_univ (keyL k))

/-- A sum of products of real numbers is a real number. -/
theorem dot_real {n : ℕ} (f g : Fin n → EReal) (hf : ∀ k, ∃ r : ℝ, f k = (r : EReal))
    (hg : ∀ k, ∃ r : ℝ, g k = (r : EReal)) : ∃ r : ℝ, (∑ k, f k * g k) = (r : EReal) := by
  choose a ha using hf
  choose b hb using hg
  refine ⟨∑ k, a k * b k, ?_⟩
  rw [coe_sum]
  refine Finset.sum_congr rfl fun k _ => ?_
  rw [ha, hb, EReal.coe_mul]

end Cert.Attn

end
-- ==== Proof.KPay.lean ====
/- The values the attention's backward kernel computes at one grid point, entry by entry: its named payloads read at an
   index, over the blocks' entries. -/
module

public import proofs.«01_k».proof.Proof.Gen.KernelIdeal.Skeleton
public import proofs.«01_k».proof.Proof.Model
public import Idealize.ShloMosaic.Lib.Pointwise

@[expose] public section

set_option maxRecDepth 16384

noncomputable section

namespace Cert.Attn

open Idealize.ShloMosaic Cert.KernelIdeal Cert.KernelIdeal.Gen

/-- The scores of a block's query against a block of context keys. -/
theorem pay5_apply (q k : Vec Ideal S256x256 .bf16) (i j : Fin 256) :
    k0_pay5 q k (ix2 i j) = (∑ d : Fin 256, q (ix2 i d) * k (ix2 j d)) * scale := by
  unfold k0_pay5
  pointwise
  rfl

/-- The gradient by the probabilities of the context keys. -/
theorem pay6_apply (o v : Vec Ideal S256x128 .bf16) (i j : Fin 256) :
    k0_pay6 o v (ix2 i j) = ∑ d : Fin 128, o (ix2 i d) * v (ix2 j d) := by
  unfold k0_pay6
  pointwise

/-- The scores of a block's query against the latent keys. -/
theorem pay12_apply (q : Vec Ideal S256x256 .bf16) (k : Vec Ideal S2048x256 .bf16) (i : Fin 256) (j : Fin 2048) :
    k0_pay12 q k (ix2 i j) = (∑ d : Fin 256, q (ix2 i d) * k (ix2 j d)) * scale := by
  unfold k0_pay12
  pointwise
  rfl

/-- The gradient by the probabilities of the latent keys. -/
theorem pay19_apply (o : Vec Ideal S256x128 .bf16) (v : Vec Ideal S2048x128 .bf16) (i : Fin 256) (j : Fin 2048) :
    k0_pay19 o v (ix2 i j) = ∑ d : Fin 128, o (ix2 i d) * v (ix2 j d) := by
  unfold k0_pay19
  pointwise

/-- A query's row over all keys, from the two blocks that hold its parts. -/
def srow (s : FVec Ideal S256x256 .f32) (sl : FVec Ideal S256x2048 .f32) (i : Fin 256) : Fin 2304 → EReal :=
  cat (fun k => s (ix2 i k)) (fun k => sl (ix2 i k))

section latent
variable (q : Vec Ideal S256x256 .bf16) (o : Vec Ideal S256x128 .bf16) (s dp : FVec Ideal S256x256 .f32)
  (k : Vec Ideal S2048x256 .bf16) (v : Vec Ideal S2048x128 .bf16)

/-- The largest score of a latent query. -/
theorem pay13_apply (i : Fin 256) (z : Fin 1) :
    k0_pay13 q s k (ix2 i z) = rowMax (srow s (k0_pay12 q k) i) := by
  unfold k0_pay13
  pointwise
  rw [rowMax_key, ofBits_ninf]
  simp only [srow, cat_keyC, cat_keyL]
  rfl

theorem pay14_apply (i : Fin 256) (j : Fin 256) :
    k0_pay14 q s k (ix2 i j) = smE (srow s (k0_pay12 q k) i) (keyC j) := by
  unfold k0_pay14
  pointwise
  rw [pay13_apply]
  simp only [smE, srow, cat_keyC]

theorem pay15_apply (i : Fin 256) (j : Fin 2048) :
    k0_pay15 q s k (ix2 i j) = smE (srow s (k0_pay12 q k) i) (keyL j) := by
  unfold k0_pay15
  pointwise
  rw [pay13_apply]
  simp only [smE, srow, cat_keyL]

/-- One over the sum of a latent query's exponentials. -/
theorem pay16_apply (i : Fin 256) (z : Fin 1) :
    k0_pay16 q s k (ix2 i z) = Ideal.div 1 (∑ j, smE (srow s (k0_pay12 q k) i) j) := by
  unfold k0_pay16
  pointwise
  rw [sum_key]
  simp only [pay14_apply, pay15_apply]

theorem pay17_apply (i : Fin 256) (j : Fin 256) :
    k0_pay17 q s k (ix2 i j) = smP (srow s (k0_pay12 q k) i) (keyC j) := by
  unfold k0_pay17
  pointwise
  rw [pay14_apply, pay16_apply]
  rfl

theorem pay18_apply (i : Fin 256) (j : Fin 2048) :
    k0_pay18 q s k (ix2 i j) = smP (srow s (k0_pay12 q k) i) (keyL j) := by
  unfold k0_pay18
  pointwise
  rw [pay15_apply, pay16_apply]
  rfl

/-- The sum of a latent query's probabilities times their gradients. -/
theorem pay20_apply (i : Fin 256) (z : Fin 1) :
    k0_pay20 q o s dp k v (ix2 i z)
      = ∑ j, smP (srow s (k0_pay12 q k) i) j * srow dp (k0_pay19 o v) i j := by
  unfold k0_pay20
  pointwise
  rw [sum_key]
  simp only [pay17_apply, pay18_apply, srow, cat_keyC, cat_keyL]

/-- The gradient by a latent query's score at a latent key. -/
theorem pay21_apply (i : Fin 256) (j : Fin 2048) :
    k0_pay21 q o s dp k v (ix2 i j) = smD (srow s (k0_pay12 q k) i) (srow dp (k0_pay19 o v) i) (keyL j) := by
  unfold k0_pay21
  pointwise
  rw [pay18_apply, pay20_apply]
  simp only [smD, srow, cat_keyL]
  rfl

/-- The gradient by a latent query's score at a context key. -/
theorem pay24_apply (i : Fin 256) (j : Fin 256) :
    k0_pay24 dp (k0_pay17 q s k) (k0_pay20 q o s dp k v) (ix2 i j)
      = smD (srow s (k0_pay12 q k) i) (srow dp (k0_pay19 o v) i) (keyC j) := by
  unfold k0_pay24
  pointwise
  rw [pay17_apply, pay20_apply]
  simp only [smD, srow, cat_keyC]
  rfl

/-- What a latent point adds to the latent keys' gradient. -/
theorem pay22_apply (ds : FVec Ideal S256x2048 .bf16) (a : Vec Ideal S2048x256 .f32) (j : Fin 2048) (d : Fin 256) :
    k0_pay22 q ds a (constant S2048x256 .f32 0x00000000#32) (ix2 j d)
      = a (ix2 j d) + ∑ i : Fin 256, ds (ix2 i j) * q (ix2 i d) := by
  unfold k0_pay22
  pointwise

/-- What a latent point adds to the latent values' gradient. -/
theorem pay23_apply (p : FVec Ideal S256x2048 .f32) (a : Vec Ideal S2048x128 .f32) (j : Fin 2048) (d : Fin 128) :
    k0_pay23 o p a (ix2 j d) = a (ix2 j d) + ∑ i : Fin 256, p (ix2 i j) * o (ix2 i d) := by
  unfold k0_pay23
  pointwise

/-- What a latent point adds to the context keys' gradient. -/
theorem pay25_apply (p : FVec Ideal S256x256 .f32) (δ : FVec Ideal S256x1 .f32) (a : Vec Ideal S256x256 .f32)
    (j d : Fin 256) :
    k0_pay25 q dp p δ a (ix2 j d) = a (ix2 j d) + ∑ i : Fin 256, k0_pay24 dp p δ (ix2 i j) * q (ix2 i d) := by
  unfold k0_pay25
  pointwise

/-- What a latent point adds to the context values' gradient. -/
theorem pay26_apply (p : FVec Ideal S256x256 .f32) (a : Vec Ideal S256x128 .f32) (j : Fin 256) (d : Fin 128) :
    k0_pay26 o p a (ix2 j d) = a (ix2 j d) + ∑ i : Fin 256, p (ix2 i j) * o (ix2 i d) := by
  unfold k0_pay26
  pointwise

/-- The context keys' part of a latent query's gradient. -/
theorem pay27_apply (p : FVec Ideal S256x256 .f32) (δ : FVec Ideal S256x1 .f32) (kc : Vec Ideal S256x256 .bf16)
    (i d : Fin 256) :
    k0_pay27 dp p δ kc (ix2 i d) = ∑ j : Fin 256, k0_pay24 dp p δ (ix2 i j) * kc (ix2 j d) := by
  unfold k0_pay27
  pointwise

/-- A latent query's gradient: the context keys' part and the latent keys'. -/
theorem pay7_apply (ds : FVec Ideal S256x2048 .bf16) (x : FVec Ideal S256x256 .f32) (i d : Fin 256) :
    k0_pay7 ds x k (ix2 i d) = x (ix2 i d) + ∑ j : Fin 2048, ds (ix2 i j) * k (ix2 j d) := by
  unfold k0_pay7
  pointwise

end latent

section context
variable (q kc : Vec Ideal S256x256 .bf16) (o : Vec Ideal S256x128 .bf16) (s dp : FVec Ideal S256x256 .f32)

/-- A context query's probabilities. -/
theorem pay28_apply (i j : Fin 256) : k0_pay28 s (ix2 i j) = smP (fun k => s (ix2 i k)) j := by
  unfold k0_pay28
  pointwise
  simp only [ofBits_ninf]
  rfl

/-- The gradient by a context query's score. -/
theorem pay29_apply (i j : Fin 256) :
    k0_pay29 s dp (ix2 i j) = smD (fun k => s (ix2 i k)) (fun k => dp (ix2 i k)) j := by
  unfold k0_pay29
  pointwise
  simp only [pay28_apply]
  rfl

/-- What the context point adds to the context keys' gradient. -/
theorem pay30_apply (a : Vec Ideal S256x256 .f32) (j d : Fin 256) :
    k0_pay30 q s dp a (ix2 j d) = a (ix2 j d) + ∑ i : Fin 256, k0_pay29 s dp (ix2 i j) * q (ix2 i d) := by
  unfold k0_pay30
  pointwise

/-- What the context point adds to the context values' gradient. -/
theorem pay31_apply (a : Vec Ideal S256x128 .f32) (j : Fin 256) (d : Fin 128) :
    k0_pay31 o s a (ix2 j d) = a (ix2 j d) + ∑ i : Fin 256, k0_pay28 s (ix2 i j) * o (ix2 i d) := by
  unfold k0_pay31
  pointwise

/-- A context query's gradient. -/
theorem pay32_apply (i d : Fin 256) :
    k0_pay32 s dp kc (ix2 i d) = ∑ j : Fin 256, k0_pay29 s dp (ix2 i j) * kc (ix2 j d) := by
  unfold k0_pay32
  pointwise

end context

theorem pay1_apply (i : S2048x256.Idx) : k0_pay1 (F := Ideal) i = 0 := by
  unfold k0_pay1
  pointwise
theorem pay2_apply (i : S256x256.Idx) : k0_pay2 (F := Ideal) i = 0 := by
  unfold k0_pay2
  pointwise
theorem pay3_apply (i : S2048x128.Idx) : k0_pay3 (F := Ideal) i = 0 := by
  unfold k0_pay3
  pointwise
theorem pay4_apply (i : S256x128.Idx) : k0_pay4 (F := Ideal) i = 0 := by
  unfold k0_pay4
  pointwise
theorem pay8_eq (x : Vec Ideal S2048x256 .f32) (i : S2048x256.Idx) : k0_pay8 x i = x i := by
  unfold k0_pay8
  pointwise
theorem pay9_eq (x : Vec Ideal S256x256 .f32) (i : S256x256.Idx) : k0_pay9 x i = x i := by
  unfold k0_pay9
  pointwise
theorem pay10_eq (x : Vec Ideal S2048x128 .f32) (i : S2048x128.Idx) : k0_pay10 x i = x i := by
  unfold k0_pay10
  pointwise
theorem pay11_eq (x : Vec Ideal S256x128 .f32) (i : S256x128.Idx) : k0_pay11 x i = x i := by
  unfold k0_pay11
  pointwise

end Cert.Attn

end
-- ==== Proof.KPoint.lean ====
/- What one grid point of the attention's backward kernel leaves: its output blocks and its four accumulators, as the
   kernel's named payloads over the point's input blocks and what the point before left. -/
module

public import proofs.«01_k».proof.Proof.Gen.KernelIdeal.Value
public import proofs.«01_k».proof.Proof.KPay
public import Idealize.ShloMosaic.Lib.Pipeline.ValueKit
public import Idealize.ShloMosaic.Lib.Pipeline.ReadBack

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ) (c : Dev nD)

/-- The query block of a point. -/
abbrev bq (t : Fin cfg0.N) : Vec Ideal S256x256 .bf16 := iblk m c 0 t
/-- The context key block of a point. -/
abbrev bkc (t : Fin cfg0.N) : Vec Ideal S256x256 .bf16 := iblk m c 1 t
/-- The latent key block of a point. -/
abbrev bkl (t : Fin cfg0.N) : Vec Ideal S2048x256 .bf16 := X0_2 m c t
/-- The context value block of a point. -/
abbrev bvc (t : Fin cfg0.N) : Vec Ideal S256x128 .bf16 := iblk m c 3 t
/-- The latent value block of a point. -/
abbrev bvl (t : Fin cfg0.N) : Vec Ideal S2048x128 .bf16 := X0_4 m c t
/-- The output gradient's block of a point. -/
abbrev bo (t : Fin cfg0.N) : Vec Ideal S256x128 .bf16 := iblk m c 5 t
/-- The point's scores against the context keys. -/
abbrev bs (t : Fin cfg0.N) : FVec Ideal S256x256 .f32 := k0_pay5 (bq m c t) (bkc m c t)
/-- The point's probability gradients at the context keys. -/
abbrev bp (t : Fin cfg0.N) : FVec Ideal S256x256 .f32 := k0_pay6 (bo m c t) (bvc m c t)
/-- The latent point's score gradients at the latent keys. -/
abbrev bds (t : Fin cfg0.N) : FVec Ideal S256x2048 .bf16 :=
  k0_pay21 (bq m c t) (bo m c t) (bs m c t) (bp m c t) (bkl m c t) (bvl m c t)
/-- The latent point's probabilities at the context keys. -/
abbrev bpc (t : Fin cfg0.N) : FVec Ideal S256x256 .f32 := k0_pay17 (bq m c t) (bs m c t) (bkl m c t)
/-- The latent point's probabilities at the latent keys. -/
abbrev bpl (t : Fin cfg0.N) : FVec Ideal S256x2048 .f32 := k0_pay18 (bq m c t) (bs m c t) (bkl m c t)
/-- The latent point's row sums. -/
abbrev bδ (t : Fin cfg0.N) : FVec Ideal S256x1 .f32 :=
  k0_pay20 (bq m c t) (bo m c t) (bs m c t) (bp m c t) (bkl m c t) (bvl m c t)
/-- The latent point's query gradient. -/
abbrev bdq (t : Fin cfg0.N) : FVec Ideal S256x256 .bf16 :=
  k0_pay7 (bds m c t) (k0_pay27 (bp m c t) (bpc m c t) (bδ m c t) (bkc m c t)) (bkl m c t)

/-- The query gradient at a first latent point. -/
theorem dq_A (t : Fin cfg0.N) (h0 : t.val % 9 = 0) (h1 : t.val % 9 ≤ 7) (h2 : ¬t.val % 9 = 8) :
    (outsAt0 m c t.val t.isLt).1 = bdq m c t := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The latent keys' accumulator after a first latent point. -/
theorem acc0_A (t : Fin cfg0.N) (h0 : t.val % 9 = 0) (h1 : t.val % 9 ≤ 7) (h2 : ¬t.val % 9 = 8) :
    (outsAt0 m c t.val t.isLt).2.2.2.2.2.1 = k0_pay22 (bq m c t) (bds m c t) (k0_pay1 (F := Ideal)) (constant S2048x256 .f32 0x00000000#32) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The context keys' accumulator after a first latent point. -/
theorem acc1_A (t : Fin cfg0.N) (h0 : t.val % 9 = 0) (h1 : t.val % 9 ≤ 7) (h2 : ¬t.val % 9 = 8) :
    (outsAt0 m c t.val t.isLt).2.2.2.2.2.2.1 = k0_pay25 (bq m c t) (bp m c t) (bpc m c t) (bδ m c t) (k0_pay2 (F := Ideal)) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The latent values' accumulator after a first latent point. -/
theorem acc2_A (t : Fin cfg0.N) (h0 : t.val % 9 = 0) (h1 : t.val % 9 ≤ 7) (h2 : ¬t.val % 9 = 8) :
    (outsAt0 m c t.val t.isLt).2.2.2.2.2.2.2.1 = k0_pay23 (bo m c t) (bpl m c t) (k0_pay3 (F := Ideal)) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The context values' accumulator after a first latent point. -/
theorem acc3_A (t : Fin cfg0.N) (h0 : t.val % 9 = 0) (h1 : t.val % 9 ≤ 7) (h2 : ¬t.val % 9 = 8) :
    (outsAt0 m c t.val t.isLt).2.2.2.2.2.2.2.2 = k0_pay26 (bo m c t) (bpc m c t) (k0_pay4 (F := Ideal)) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The query gradient at a later latent point. -/
theorem dq_B (t : Fin cfg0.N) (h0 : ¬t.val % 9 = 0) (h1 : t.val % 9 ≤ 7) (h2 : ¬t.val % 9 = 8) :
    (outsAt0 m c t.val t.isLt).1 = bdq m c t := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The latent keys' accumulator after a later latent point. -/
theorem acc0_B (t : Fin cfg0.N) (h0 : ¬t.val % 9 = 0) (h1 : t.val % 9 ≤ 7) (h2 : ¬t.val % 9 = 8) :
    (outsAt0 m c t.val t.isLt).2.2.2.2.2.1 = k0_pay22 (bq m c t) (bds m c t) (outsAt0 m c (t.val - 1) (Nat.lt_of_le_of_lt (Nat.sub_le _ _) t.isLt)).2.2.2.2.2.1 (constant S2048x256 .f32 0x00000000#32) := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The context keys' accumulator after a later latent point. -/
theorem acc1_B (t : Fin cfg0.N) (h0 : ¬t.val % 9 = 0) (h1 : t.val % 9 ≤ 7) (h2 : ¬t.val % 9 = 8) :
    (outsAt0 m c t.val t.isLt).2.2.2.2.2.2.1 = k0_pay25 (bq m c t) (bp m c t) (bpc m c t) (bδ m c t) (outsAt0 m c (t.val - 1) (Nat.lt_of_le_of_lt (Nat.sub_le _ _) t.isLt)).2.2.2.2.2.2.1 := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The latent values' accumulator after a later latent point. -/
theorem acc2_B (t : Fin cfg0.N) (h0 : ¬t.val % 9 = 0) (h1 : t.val % 9 ≤ 7) (h2 : ¬t.val % 9 = 8) :
    (outsAt0 m c t.val t.isLt).2.2.2.2.2.2.2.1 = k0_pay23 (bo m c t) (bpl m c t) (outsAt0 m c (t.val - 1) (Nat.lt_of_le_of_lt (Nat.sub_le _ _) t.isLt)).2.2.2.2.2.2.2.1 := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The context values' accumulator after a later latent point. -/
theorem acc3_B (t : Fin cfg0.N) (h0 : ¬t.val % 9 = 0) (h1 : t.val % 9 ≤ 7) (h2 : ¬t.val % 9 = 8) :
    (outsAt0 m c t.val t.isLt).2.2.2.2.2.2.2.2 = k0_pay26 (bo m c t) (bpc m c t) (outsAt0 m c (t.val - 1) (Nat.lt_of_le_of_lt (Nat.sub_le _ _) t.isLt)).2.2.2.2.2.2.2.2 := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The query gradient at the context point. -/
theorem dq_C (t : Fin cfg0.N) (h0 : ¬t.val % 9 = 0) (h1 : ¬t.val % 9 ≤ 7) (h2 : t.val % 9 = 8) :
    (outsAt0 m c t.val t.isLt).1 = k0_pay32 (bs m c t) (bp m c t) (bkc m c t) := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The latent keys' gradient the context point writes. -/
theorem dkl_C (t : Fin cfg0.N) (h0 : ¬t.val % 9 = 0) (h1 : ¬t.val % 9 ≤ 7) (h2 : t.val % 9 = 8) :
    (outsAt0 m c t.val t.isLt).2.1 = k0_pay8 (outsAt0 m c (t.val - 1) (Nat.lt_of_le_of_lt (Nat.sub_le _ _) t.isLt)).2.2.2.2.2.1 := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The context keys' gradient the context point writes. -/
theorem dkc_C (t : Fin cfg0.N) (h0 : ¬t.val % 9 = 0) (h1 : ¬t.val % 9 ≤ 7) (h2 : t.val % 9 = 8) :
    (outsAt0 m c t.val t.isLt).2.2.1 = k0_pay9 (k0_pay30 (bq m c t) (bs m c t) (bp m c t) (outsAt0 m c (t.val - 1) (Nat.lt_of_le_of_lt (Nat.sub_le _ _) t.isLt)).2.2.2.2.2.2.1) := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The latent values' gradient the context point writes. -/
theorem dvl_C (t : Fin cfg0.N) (h0 : ¬t.val % 9 = 0) (h1 : ¬t.val % 9 ≤ 7) (h2 : t.val % 9 = 8) :
    (outsAt0 m c t.val t.isLt).2.2.2.1 = k0_pay10 (outsAt0 m c (t.val - 1) (Nat.lt_of_le_of_lt (Nat.sub_le _ _) t.isLt)).2.2.2.2.2.2.2.1 := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The context values' gradient the context point writes. -/
theorem dvc_C (t : Fin cfg0.N) (h0 : ¬t.val % 9 = 0) (h1 : ¬t.val % 9 ≤ 7) (h2 : t.val % 9 = 8) :
    (outsAt0 m c t.val t.isLt).2.2.2.2.1 = k0_pay11 (k0_pay31 (bo m c t) (bs m c t) (outsAt0 m c (t.val - 1) (Nat.lt_of_le_of_lt (Nat.sub_le _ _) t.isLt)).2.2.2.2.2.2.2.2) := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

end Cert.Attn

end
-- ==== Proof.Target.lean ====
/- The gradients of the attention, entry by entry, over the extended reals: for each batch and head the scores of its
   queries, and what every query, key and value receives. Rows and columns are those of the two-dimensional arrays. -/
module

public import proofs.«01_k».proof.Proof.Model

@[expose] public section

noncomputable section

namespace Cert.Attn

open Idealize.ShloMosaic

/-- The row of a batch's latent token. -/
def rowL (b : Fin 2) (i : Fin 2048) : Fin 4608 := ⟨2048 * b.val + i.val, by omega⟩
/-- The row of a batch's context token. -/
def rowC (b : Fin 2) (i : Fin 256) : Fin 4608 := ⟨4096 + 256 * b.val + i.val, by omega⟩
/-- The latent token's row in an array of latent rows. -/
def rowL' (b : Fin 2) (i : Fin 2048) : Fin 4096 := ⟨2048 * b.val + i.val, by omega⟩
/-- The context token's row in an array of context rows. -/
def rowC' (b : Fin 2) (i : Fin 256) : Fin 512 := ⟨256 * b.val + i.val, by omega⟩
/-- The column of a head's query or key entry. -/
def colQ (h : Fin 8) (d : Fin 256) : Fin 2048 := ⟨256 * h.val + d.val, by omega⟩
/-- The column of a head's value entry among keys and values. -/
def colV (h : Fin 8) (d : Fin 128) : Fin 2048 := ⟨1024 + 128 * h.val + d.val, by omega⟩
/-- The column of a head's output entry. -/
def colO (h : Fin 8) (d : Fin 128) : Fin 1024 := ⟨128 * h.val + d.val, by omega⟩

/-- An array of two axes. -/
abbrev Arr (r c : ℕ) := (⟨2, ![r, c]⟩ : Shape).Idx → EReal

variable (q k kv : Arr 4608 2048) (o : Arr 4608 1024) (b : Fin 2) (h : Fin 8)

/-- A latent query's keys: the batch's context keys, then its latent keys. -/
def keys (d : Fin 256) : Fin 2304 → EReal :=
  cat (fun j => k (ix2 (rowC b j) (colQ h d))) (fun j => k (ix2 (rowL b j) (colQ h d)))
/-- A latent query's values, in the keys' order. -/
def vals (d : Fin 128) : Fin 2304 → EReal :=
  cat (fun j => kv (ix2 (rowC b j) (colV h d))) (fun j => kv (ix2 (rowL b j) (colV h d)))

/-- A latent query's scores. -/
def sL (i : Fin 2048) (j : Fin 2304) : EReal := (∑ d : Fin 256, q (ix2 (rowL b i) (colQ h d)) * keys k b h d j) * scale
/-- The gradient by a latent query's probabilities. -/
def pL (i : Fin 2048) (j : Fin 2304) : EReal := ∑ d : Fin 128, o (ix2 (rowL b i) (colO h d)) * vals kv b h d j
/-- A context query's scores. -/
def sC (i j : Fin 256) : EReal :=
  (∑ d : Fin 256, q (ix2 (rowC b i) (colQ h d)) * k (ix2 (rowC b j) (colQ h d))) * scale
/-- The gradient by a context query's probabilities. -/
def pC (i j : Fin 256) : EReal :=
  ∑ d : Fin 128, o (ix2 (rowC b i) (colO h d)) * kv (ix2 (rowC b j) (colV h d))

/-- The gradient by a latent query's scores. -/
def dsL (i : Fin 2048) : Fin 2304 → EReal := smD (sL q k b h i) (pL kv o b h i)
/-- The gradient by a context query's scores. -/
def dsC (i : Fin 256) : Fin 256 → EReal := smD (sC q k b h i) (pC kv o b h i)

/-- What a latent query adds to a key's gradient. -/
def tK (j : Fin 2304) (d : Fin 256) (i : Fin 2048) : EReal :=
  dsL q k kv o b h i j * q (ix2 (rowL b i) (colQ h d))
/-- What a latent query adds to a value's gradient. -/
def tV (j : Fin 2304) (d : Fin 128) (i : Fin 2048) : EReal :=
  smP (sL q k b h i) j * o (ix2 (rowL b i) (colO h d))

/-- The gradient by a latent query. -/
def gQL (i : Fin 2048) (d : Fin 256) : EReal := ∑ j, dsL q k kv o b h i j * keys k b h d j
/-- The gradient by a context query. -/
def gQC (i d : Fin 256) : EReal := ∑ j, dsC q k kv o b h i j * k (ix2 (rowC b j) (colQ h d))
/-- The gradient by a latent key. -/
def gKL (j : Fin 2048) (d : Fin 256) : EReal :=
  ∑ i, tK q k kv o b h (keyL j) d i
/-- The gradient by a context key: from the latent queries and from the context queries. -/
def gKC (j d : Fin 256) : EReal :=
  (∑ i, tK q k kv o b h (keyC j) d i)
    + ∑ i, dsC q k kv o b h i j * q (ix2 (rowC b i) (colQ h d))
/-- The gradient by a latent value. -/
def gVL (j : Fin 2048) (d : Fin 128) : EReal :=
  ∑ i, tV q k o b h (keyL j) d i
/-- The gradient by a context value: from the latent queries and from the context queries. -/
def gVC (j : Fin 256) (d : Fin 128) : EReal :=
  (∑ i, tV q k o b h (keyC j) d i)
    + ∑ i, smP (sC q k b h i) j * o (ix2 (rowC b i) (colO h d))

/-- A row of finite queries against finite keys has real scores. -/
theorem sL_real (hq : ∀ i, ∃ r : ℝ, q i = (r : EReal)) (hk : ∀ i, ∃ r : ℝ, k i = (r : EReal)) (i : Fin 2048)
    (j : Fin 2304) : ∃ r : ℝ, sL q k b h i j = (r : EReal) := by
  obtain ⟨x, hx⟩ := dot_real (fun d : Fin 256 => q (ix2 (rowL b i) (colQ h d))) (fun d => keys k b h d j)
    (fun d => hq _) (fun d => by unfold keys cat; split <;> exact hk _)
  obtain ⟨y, hy⟩ := scale_real
  exact ⟨x * y, by unfold sL; rw [hx, hy, EReal.coe_mul]⟩

theorem sC_real (hq : ∀ i, ∃ r : ℝ, q i = (r : EReal)) (hk : ∀ i, ∃ r : ℝ, k i = (r : EReal)) (i j : Fin 256) :
    ∃ r : ℝ, sC q k b h i j = (r : EReal) := by
  obtain ⟨x, hx⟩ := dot_real (fun d : Fin 256 => q (ix2 (rowC b i) (colQ h d)))
    (fun d => k (ix2 (rowC b j) (colQ h d))) (fun d => hq _) (fun d => hk _)
  obtain ⟨y, hy⟩ := scale_real
  exact ⟨x * y, by unfold sC; rw [hx, hy, EReal.coe_mul]⟩

/-- Every entry of an array of all tokens' rows is a latent token's or a context token's. -/
theorem forall_rows {n : ℕ} {P : (⟨2, ![4608, n]⟩ : Shape).Idx → Prop}
    (hl : ∀ b i x, P (ix2 (rowL b i) x)) (hc : ∀ b i x, P (ix2 (rowC b i) x)) (j) : P j := by
  obtain ⟨r, x, rfl⟩ : ∃ (r : Fin 4608) (x : Fin n), j = ix2 r x := ⟨j 0, j 1, eq_ix2 j⟩
  by_cases hr : r.val < 4096
  · have e : r = rowL ⟨r.val / 2048, by omega⟩ ⟨r.val % 2048, by omega⟩ := by
      apply Fin.ext; simp only [rowL]; omega
    rw [e]; exact hl _ _ _
  · have e : r = rowC ⟨(r.val - 4096) / 256, by omega⟩ ⟨(r.val - 4096) % 256, by omega⟩ := by
      apply Fin.ext; simp only [rowC]; omega
    rw [e]; exact hc _ _ _

theorem forall_rowL' {n : ℕ} {P : (⟨2, ![4096, n]⟩ : Shape).Idx → Prop} (hl : ∀ b i x, P (ix2 (rowL' b i) x)) (j) :
    P j := by
  obtain ⟨r, x, rfl⟩ : ∃ (r : Fin 4096) (x : Fin n), j = ix2 r x := ⟨j 0, j 1, eq_ix2 j⟩
  have e : r = rowL' ⟨r.val / 2048, by omega⟩ ⟨r.val % 2048, by omega⟩ := by
    apply Fin.ext; simp only [rowL']; omega
  rw [e]; exact hl _ _ _

theorem forall_rowC' {n : ℕ} {P : (⟨2, ![512, n]⟩ : Shape).Idx → Prop} (hc : ∀ b i x, P (ix2 (rowC' b i) x)) (j) :
    P j := by
  obtain ⟨r, x, rfl⟩ : ∃ (r : Fin 512) (x : Fin n), j = ix2 r x := ⟨j 0, j 1, eq_ix2 j⟩
  have e : r = rowC' ⟨r.val / 256, by omega⟩ ⟨r.val % 256, by omega⟩ := by
    apply Fin.ext; simp only [rowC']; omega
  rw [e]; exact hc _ _ _

theorem forall_colQ {P : Fin 2048 → Prop} (hq : ∀ h d, P (colQ h d)) (x) : P x := by
  have e : x = colQ ⟨x.val / 256, by omega⟩ ⟨x.val % 256, by omega⟩ := by
    apply Fin.ext; simp only [colQ]; omega
  rw [e]; exact hq _ _

theorem forall_colO {P : Fin 1024 → Prop} (hq : ∀ h d, P (colO h d)) (x) : P x := by
  have e : x = colO ⟨x.val / 128, by omega⟩ ⟨x.val % 128, by omega⟩ := by
    apply Fin.ext; simp only [colO]; omega
  rw [e]; exact hq _ _

/-- The index of a latent query's place within its block. -/
def qrow (s : Fin 8) (i : Fin 256) : Fin 2048 := ⟨256 * s.val + i.val, by omega⟩

theorem forall_qrow {P : Fin 2048 → Prop} (hq : ∀ s i, P (qrow s i)) (x) : P x := by
  have e : x = qrow ⟨x.val / 256, by omega⟩ ⟨x.val % 256, by omega⟩ := by
    apply Fin.ext; simp only [qrow]; omega
  rw [e]; exact hq _ _

/-- A row of 2048 entries, at any natural number. -/
def ext (f : Fin 2048 → EReal) (n : ℕ) : EReal := f ⟨n % 2048, by omega⟩

theorem sum_ext_full (f : Fin 2048 → EReal) : ∑ n ∈ Finset.range 2048, ext f n = ∑ i, f i := by
  rw [Finset.sum_range]
  refine Finset.sum_congr rfl fun i _ => ?_
  unfold ext
  congr 1
  apply Fin.ext
  simp only
  omega

/-- The next block of 256 entries enters the sum. -/
theorem sum_ext_step (f : Fin 2048 → EReal) (s : Fin 8) :
    ∑ n ∈ Finset.range (256 * (s.val + 1)), ext f n
      = ∑ n ∈ Finset.range (256 * s.val), ext f n + ∑ i : Fin 256, f (qrow s i) := by
  rw [mul_add, mul_one, Finset.sum_range_add, Finset.sum_range (n := 256)]
  congr 1
  refine Finset.sum_congr rfl fun i _ => ?_
  unfold ext
  congr 1
  apply Fin.ext
  simp only [qrow]
  omega

/-- The first block of 256 entries, over nothing. -/
theorem sum_ext_first (f : Fin 2048 → EReal) :
    ∑ n ∈ Finset.range (256 * (0 + 1)), ext f n = 0 + ∑ i : Fin 256, f (qrow 0 i) := by
  rw [← Finset.sum_range_zero (ext f)]
  exact sum_ext_step f 0

end Cert.Attn

end
-- ==== Proof.KBlocks.lean ====
/- The blocks of the attention's backward kernel at a grid point, and what the point leaves, over the argument arrays. -/
module

public import proofs.«01_k».proof.Proof.KPoint
public import proofs.«01_k».proof.Proof.Target

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ) (c : Dev nD)

/-- The queries. -/
abbrev aQ : Arr 4608 2048 := m ((c : Thread nD τ).loc main_arg0)
/-- The keys. -/
abbrev aK : Arr 4608 2048 := m ((c : Thread nD τ).loc main_arg1)
/-- The keys and values. -/
abbrev aV : Arr 4608 2048 := m ((c : Thread nD τ).loc main_arg2)
/-- The gradient by the attention's output. -/
abbrev aO : Arr 4608 1024 := m ((c : Thread nD τ).loc main_arg3)

/-- The windows' block indices at every point, the query row excepted. -/
theorem idxs : ∀ t : Fin cfg0.N,
    win0_1.index t = ![16 + t.val / 72, t.val / 9 % 8] ∧ win0_2.index t = ![t.val / 72, t.val / 9 % 8]
    ∧ win0_3.index t = ![16 + t.val / 72, 8 + t.val / 9 % 8] ∧ win0_4.index t = ![t.val / 72, 8 + t.val / 9 % 8]
    ∧ win0_7.index t = ![t.val / 72, t.val / 9 % 8] ∧ win0_8.index t = ![t.val / 72, t.val / 9 % 8]
    ∧ win0_9.index t = ![t.val / 72, t.val / 9 % 8] ∧ win0_10.index t = ![t.val / 72, t.val / 9 % 8] :=
  (by decide +kernel : ∀ t : Fin grid0.N, _)

/-- The query row's block index at a latent point. -/
theorem idx_lat : ∀ t : Fin cfg0.N, t.val % 9 < 8 →
    win0_0.index t = ![8 * (t.val / 72) + t.val % 9, t.val / 9 % 8]
    ∧ win0_5.index t = ![8 * (t.val / 72) + t.val % 9, t.val / 9 % 8]
    ∧ win0_6.index t = ![8 * (t.val / 72) + t.val % 9, t.val / 9 % 8] :=
  (by decide +kernel : ∀ t : Fin grid0.N, _)

/-- The query row's block index at a context point. -/
theorem idx_ctx : ∀ t : Fin cfg0.N, t.val % 9 = 8 →
    win0_0.index t = ![16 + t.val / 72, t.val / 9 % 8] ∧ win0_5.index t = ![16 + t.val / 72, t.val / 9 % 8]
    ∧ win0_6.index t = ![16 + t.val / 72, t.val / 9 % 8] :=
  (by decide +kernel : ∀ t : Fin grid0.N, _)

section blocks
variable (b : Fin 2) (h : Fin 8) (t : Fin cfg0.N)

theorem bkc_at (n : Fin 9) (ht : t.val = (b.val * 8 + h.val) * 9 + n.val) (j d : Fin 256) :
    bkc m c t (ix2 j d) = aK m c (ix2 (rowC b j) (colQ h d)) := by
  have e := (idxs t).1
  have h1 : t.val / 72 = b.val := by omega
  have h2 : t.val / 9 % 8 = h.val := by omega
  rw [h1, h2] at e
  unfold bkc rowC colQ
  blk_ext [iblk, V, e]

theorem bvc_at (n : Fin 9) (ht : t.val = (b.val * 8 + h.val) * 9 + n.val) (j : Fin 256) (d : Fin 128) :
    bvc m c t (ix2 j d) = aV m c (ix2 (rowC b j) (colV h d)) := by
  have e := (idxs t).2.2.1
  have h1 : t.val / 72 = b.val := by omega
  have h2 : t.val / 9 % 8 = h.val := by omega
  rw [h1, h2] at e
  unfold bvc rowC colV
  blk_ext [iblk, V, e]

theorem bkl_at (n : Fin 9) (ht : t.val = (b.val * 8 + h.val) * 9 + n.val) (j : Fin 2048) (d : Fin 256) :
    bkl m c t (ix2 j d) = aK m c (ix2 (rowL b j) (colQ h d)) := by
  have e := (idxs t).2.1
  have h1 : t.val / 72 = b.val := by omega
  have h2 : t.val / 9 % 8 = h.val := by omega
  rw [h1, h2] at e
  unfold bkl rowL colQ X0_2 Pipeline.Window.fill
  rw [dif_pos (moved0_2 t _)]
  blk_ext [iblk, V, e]

theorem bvl_at (n : Fin 9) (ht : t.val = (b.val * 8 + h.val) * 9 + n.val) (j : Fin 2048) (d : Fin 128) :
    bvl m c t (ix2 j d) = aV m c (ix2 (rowL b j) (colV h d)) := by
  have e := (idxs t).2.2.2.1
  have h1 : t.val / 72 = b.val := by omega
  have h2 : t.val / 9 % 8 = h.val := by omega
  rw [h1, h2] at e
  unfold bvl rowL colV X0_4 Pipeline.Window.fill
  rw [dif_pos (moved0_4 t _)]
  blk_ext [iblk, V, e]

theorem bq_lat (s : Fin 8) (ht : t.val = (b.val * 8 + h.val) * 9 + s.val) (i d : Fin 256) :
    bq m c t (ix2 i d) = aQ m c (ix2 (rowL b (qrow s i)) (colQ h d)) := by
  have e := (idx_lat t (by omega)).1
  have h1 : t.val / 72 = b.val := by omega
  have h2 : t.val / 9 % 8 = h.val := by omega
  have h3 : t.val % 9 = s.val := by omega
  rw [h1, h2, h3] at e
  unfold bq rowL colQ qrow
  blk_ext [iblk, V, e]

theorem bo_lat (s : Fin 8) (ht : t.val = (b.val * 8 + h.val) * 9 + s.val) (i : Fin 256) (d : Fin 128) :
    bo m c t (ix2 i d) = aO m c (ix2 (rowL b (qrow s i)) (colO h d)) := by
  have e := (idx_lat t (by omega)).2.1
  have h1 : t.val / 72 = b.val := by omega
  have h2 : t.val / 9 % 8 = h.val := by omega
  have h3 : t.val % 9 = s.val := by omega
  rw [h1, h2, h3] at e
  unfold bo rowL colO qrow
  blk_ext [iblk, V, e]

theorem bq_ctx (ht : t.val = (b.val * 8 + h.val) * 9 + 8) (i d : Fin 256) :
    bq m c t (ix2 i d) = aQ m c (ix2 (rowC b i) (colQ h d)) := by
  have e := (idx_ctx t (by omega)).1
  have h1 : t.val / 72 = b.val := by omega
  have h2 : t.val / 9 % 8 = h.val := by omega
  rw [h1, h2] at e
  unfold bq rowC colQ
  blk_ext [iblk, V, e]

theorem bo_ctx (ht : t.val = (b.val * 8 + h.val) * 9 + 8) (i : Fin 256) (d : Fin 128) :
    bo m c t (ix2 i d) = aO m c (ix2 (rowC b i) (colO h d)) := by
  have e := (idx_ctx t (by omega)).2.1
  have h1 : t.val / 72 = b.val := by omega
  have h2 : t.val / 9 % 8 = h.val := by omega
  rw [h1, h2] at e
  unfold bo rowC colO
  blk_ext [iblk, V, e]

end blocks

end Cert.Attn

end
-- ==== Proof.KRows.lean ====
/- What each grid point of the attention's backward kernel leaves, in the terms of the attention's gradients. -/
module

public import proofs.«01_k».proof.Proof.KBlocks

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ) (c : Dev nD)
variable (b : Fin 2) (h : Fin 8) (t : Fin cfg0.N)

/-- The 9 points of one batch and head are among the grid's. -/
theorem point_lt (n : ℕ) (hn : n < 9) : (b.val * 8 + h.val) * 9 + n < cfg0.N := by
  rw [show cfg0.N = 144 from N_0]
  omega

section lat
variable (s : Fin 8) (ht : t.val = (b.val * 8 + h.val) * 9 + s.val)
include ht

/-- A latent point's rows of scores. -/
theorem srow_s (i : Fin 256) :
    srow (bs m c t) (k0_pay12 (bq m c t) (bkl m c t)) i = sL (aQ m c) (aK m c) b h (qrow s i) := by
  funext j
  revert j
  refine forall_key (fun j => ?_) (fun j => ?_)
  · unfold srow sL keys bs
    simp only [cat_keyC]
    rw [pay5_apply]
    congr 1
    exact Finset.sum_congr rfl fun d _ => by
      rw [bq_lat m c b h t s ht, bkc_at m c b h t s.castSucc ht]
  · unfold srow sL keys
    simp only [cat_keyL]
    rw [pay12_apply]
    congr 1
    exact Finset.sum_congr rfl fun d _ => by
      rw [bq_lat m c b h t s ht, bkl_at m c b h t s.castSucc ht]

/-- A latent point's rows of probability gradients. -/
theorem srow_p (i : Fin 256) :
    srow (bp m c t) (k0_pay19 (bo m c t) (bvl m c t)) i = pL (aV m c) (aO m c) b h (qrow s i) := by
  funext j
  revert j
  refine forall_key (fun j => ?_) (fun j => ?_)
  · unfold srow pL vals bp
    simp only [cat_keyC]
    rw [pay6_apply]
    exact Finset.sum_congr rfl fun d _ => by
      rw [bo_lat m c b h t s ht, bvc_at m c b h t s.castSucc ht]
  · unfold srow pL vals
    simp only [cat_keyL]
    rw [pay19_apply]
    exact Finset.sum_congr rfl fun d _ => by
      rw [bo_lat m c b h t s ht, bvl_at m c b h t s.castSucc ht]

/-- A latent point's query gradient. -/
theorem bdq_at (i d : Fin 256) :
    bdq m c t (ix2 i d) = gQL (aQ m c) (aK m c) (aV m c) (aO m c) b h (qrow s i) d := by
  unfold bdq gQL dsL bds bpc bδ
  rw [pay7_apply, pay27_apply, sum_key]
  refine congrArg₂ (· + ·) (Finset.sum_congr rfl fun j _ => ?_) (Finset.sum_congr rfl fun j _ => ?_)
  · rw [pay24_apply, srow_s m c b h t s ht, srow_p m c b h t s ht, bkc_at m c b h t s.castSucc ht]
    unfold keys
    rw [cat_keyC]
  · rw [pay21_apply, srow_s m c b h t s ht, srow_p m c b h t s ht, bkl_at m c b h t s.castSucc ht]
    unfold keys
    rw [cat_keyL]

/-- What the point adds to a latent key's gradient. -/
theorem add0_at (a : Vec Ideal S2048x256 .f32) (j : Fin 2048) (d : Fin 256) :
    k0_pay22 (bq m c t) (bds m c t) a (constant S2048x256 .f32 0x00000000#32) (ix2 j d)
      = a (ix2 j d) + ∑ i : Fin 256, tK (aQ m c) (aK m c) (aV m c) (aO m c) b h (keyL j) d (qrow s i) := by
  unfold tK dsL bds
  rw [pay22_apply]
  refine congrArg (_ + ·) (Finset.sum_congr rfl fun i _ => ?_)
  rw [pay21_apply, srow_s m c b h t s ht, srow_p m c b h t s ht, bq_lat m c b h t s ht]

/-- What the point adds to a context key's gradient. -/
theorem add1_at (a : Vec Ideal S256x256 .f32) (j d : Fin 256) :
    k0_pay25 (bq m c t) (bp m c t) (bpc m c t) (bδ m c t) a (ix2 j d)
      = a (ix2 j d) + ∑ i : Fin 256, tK (aQ m c) (aK m c) (aV m c) (aO m c) b h (keyC j) d (qrow s i) := by
  unfold tK dsL bpc bδ
  rw [pay25_apply]
  refine congrArg (_ + ·) (Finset.sum_congr rfl fun i _ => ?_)
  rw [pay24_apply, srow_s m c b h t s ht, srow_p m c b h t s ht, bq_lat m c b h t s ht]

/-- What the point adds to a latent value's gradient. -/
theorem add2_at (a : Vec Ideal S2048x128 .f32) (j : Fin 2048) (d : Fin 128) :
    k0_pay23 (bo m c t) (bpl m c t) a (ix2 j d)
      = a (ix2 j d) + ∑ i : Fin 256, tV (aQ m c) (aK m c) (aO m c) b h (keyL j) d (qrow s i) := by
  unfold tV bpl
  rw [pay23_apply]
  refine congrArg (_ + ·) (Finset.sum_congr rfl fun i _ => ?_)
  rw [pay18_apply, srow_s m c b h t s ht, bo_lat m c b h t s ht]

/-- What the point adds to a context value's gradient. -/
theorem add3_at (a : Vec Ideal S256x128 .f32) (j : Fin 256) (d : Fin 128) :
    k0_pay26 (bo m c t) (bpc m c t) a (ix2 j d)
      = a (ix2 j d) + ∑ i : Fin 256, tV (aQ m c) (aK m c) (aO m c) b h (keyC j) d (qrow s i) := by
  unfold tV bpc
  rw [pay26_apply]
  refine congrArg (_ + ·) (Finset.sum_congr rfl fun i _ => ?_)
  rw [pay17_apply, srow_s m c b h t s ht, bo_lat m c b h t s ht]

end lat

section ctx
variable (ht : t.val = (b.val * 8 + h.val) * 9 + 8)
include ht

/-- A context point's rows of scores. -/
theorem row_s (i : Fin 256) : (fun j => bs m c t (ix2 i j)) = sC (aQ m c) (aK m c) b h i := by
  funext j
  unfold sC bs
  rw [pay5_apply]
  congr 1
  exact Finset.sum_congr rfl fun d _ => by
    rw [bq_ctx m c b h t ht, bkc_at m c b h t 8 ht]

/-- A context point's rows of probability gradients. -/
theorem row_p (i : Fin 256) : (fun j => bp m c t (ix2 i j)) = pC (aV m c) (aO m c) b h i := by
  funext j
  unfold pC bp
  rw [pay6_apply]
  exact Finset.sum_congr rfl fun d _ => by
    rw [bo_ctx m c b h t ht, bvc_at m c b h t 8 ht]

theorem ctx_dq (i d : Fin 256) :
    k0_pay32 (bs m c t) (bp m c t) (bkc m c t) (ix2 i d)
      = gQC (aQ m c) (aK m c) (aV m c) (aO m c) b h i d := by
  rw [pay32_apply]
  unfold gQC dsC
  refine Finset.sum_congr rfl fun j _ => ?_
  rw [pay29_apply, row_s m c b h t ht, row_p m c b h t ht, bkc_at m c b h t 8 ht]

theorem ctx_k (a : Vec Ideal S256x256 .f32) (j d : Fin 256) :
    k0_pay30 (bq m c t) (bs m c t) (bp m c t) a (ix2 j d)
      = a (ix2 j d) + ∑ i : Fin 256, dsC (aQ m c) (aK m c) (aV m c) (aO m c) b h i j
          * aQ m c (ix2 (rowC b i) (colQ h d)) := by
  unfold dsC
  rw [pay30_apply]
  refine congrArg (_ + ·) (Finset.sum_congr rfl fun i _ => ?_)
  rw [pay29_apply, row_s m c b h t ht, row_p m c b h t ht, bq_ctx m c b h t ht]

theorem ctx_v (a : Vec Ideal S256x128 .f32) (j : Fin 256) (d : Fin 128) :
    k0_pay31 (bo m c t) (bs m c t) a (ix2 j d)
      = a (ix2 j d) + ∑ i : Fin 256, smP (sC (aQ m c) (aK m c) b h i) j
          * aO m c (ix2 (rowC b i) (colO h d)) := by
  rw [pay31_apply]
  refine congrArg (_ + ·) (Finset.sum_congr rfl fun i _ => ?_)
  rw [pay28_apply, row_s m c b h t ht, bo_ctx m c b h t ht]

end ctx

/-- The four sums after a latent point: over all latent queries up to the point's. -/
def Sums (n : ℕ) (hn : n < cfg0.N) (s : ℕ) : Prop :=
  (∀ (j : Fin 2048) (d : Fin 256), (outsAt0 m c n hn).2.2.2.2.2.1 (ix2 j d)
    = ∑ i ∈ Finset.range (256 * (s + 1)), ext (tK (aQ m c) (aK m c) (aV m c) (aO m c) b h (keyL j) d) i)
  ∧ (∀ (j d : Fin 256), (outsAt0 m c n hn).2.2.2.2.2.2.1 (ix2 j d)
    = ∑ i ∈ Finset.range (256 * (s + 1)), ext (tK (aQ m c) (aK m c) (aV m c) (aO m c) b h (keyC j) d) i)
  ∧ (∀ (j : Fin 2048) (d : Fin 128), (outsAt0 m c n hn).2.2.2.2.2.2.2.1 (ix2 j d)
    = ∑ i ∈ Finset.range (256 * (s + 1)), ext (tV (aQ m c) (aK m c) (aO m c) b h (keyL j) d) i)
  ∧ (∀ (j : Fin 256) (d : Fin 128), (outsAt0 m c n hn).2.2.2.2.2.2.2.2 (ix2 j d)
    = ∑ i ∈ Finset.range (256 * (s + 1)), ext (tV (aQ m c) (aK m c) (aO m c) b h (keyC j) d) i)

/-- After each latent point the accumulators hold the sums over the latent queries seen. -/
theorem sums_at (s : ℕ) (hs : s < 8) : Sums m c b h ((b.val * 8 + h.val) * 9 + s) (point_lt b h s (by omega)) s := by
  induction s with
  | zero =>
      set u : Fin cfg0.N := ⟨(b.val * 8 + h.val) * 9 + 0, point_lt b h 0 (by omega)⟩ with hu
      have h0 : u.val % 9 = 0 := by simp only [hu]; omega
      have h1 : u.val % 9 ≤ 7 := by omega
      have h2 : ¬u.val % 9 = 8 := by omega
      have hv : u.val = (b.val * 8 + h.val) * 9 + (0 : Fin 8).val := rfl
      refine ⟨fun j d => ?_, fun j d => ?_, fun j d => ?_, fun j d => ?_⟩
      · rw [acc0_A m c u h0 h1 h2, add0_at m c b h u 0 hv, pay1_apply]
        exact (sum_ext_first _).symm
      · rw [acc1_A m c u h0 h1 h2, add1_at m c b h u 0 hv, pay2_apply]
        exact (sum_ext_first _).symm
      · rw [acc2_A m c u h0 h1 h2, add2_at m c b h u 0 hv, pay3_apply]
        exact (sum_ext_first _).symm
      · rw [acc3_A m c u h0 h1 h2, add3_at m c b h u 0 hv, pay4_apply]
        exact (sum_ext_first _).symm
  | succ s ih =>
      obtain ⟨i0, i1, i2, i3⟩ := ih (by omega)
      set u : Fin cfg0.N := ⟨(b.val * 8 + h.val) * 9 + (s + 1), point_lt b h (s + 1) (by omega)⟩ with hu
      have h0 : ¬u.val % 9 = 0 := by simp only [hu]; omega
      have h1 : u.val % 9 ≤ 7 := by simp only [hu]; omega
      have h2 : ¬u.val % 9 = 8 := by omega
      have hv : u.val = (b.val * 8 + h.val) * 9 + (⟨s + 1, hs⟩ : Fin 8).val := rfl
      refine ⟨fun j d => ?_, fun j d => ?_, fun j d => ?_, fun j d => ?_⟩
      · rw [acc0_B m c u h0 h1 h2, add0_at m c b h u ⟨s + 1, hs⟩ hv]
        exact (congrArg (· + _) (i0 j d)).trans (sum_ext_step _ ⟨s + 1, hs⟩).symm
      · rw [acc1_B m c u h0 h1 h2, add1_at m c b h u ⟨s + 1, hs⟩ hv]
        exact (congrArg (· + _) (i1 j d)).trans (sum_ext_step _ ⟨s + 1, hs⟩).symm
      · rw [acc2_B m c u h0 h1 h2, add2_at m c b h u ⟨s + 1, hs⟩ hv]
        exact (congrArg (· + _) (i2 j d)).trans (sum_ext_step _ ⟨s + 1, hs⟩).symm
      · rw [acc3_B m c u h0 h1 h2, add3_at m c b h u ⟨s + 1, hs⟩ hv]
        exact (congrArg (· + _) (i3 j d)).trans (sum_ext_step _ ⟨s + 1, hs⟩).symm

end Cert.Attn

end
-- ==== Proof.KArr.lean ====
/- The five arrays the attention's backward kernel leaves, entry by entry, as the attention's gradients. -/
module

public import proofs.«01_k».proof.Proof.KRows

@[expose] public section

set_option maxRecDepth 16384

noncomputable section

namespace Cert.Attn

open Idealize.ShloMosaic Cert.KernelIdeal Cert.KernelIdeal.Gen Idealize.ShloMosaic.TcCoe

variable (m : (ℓ : Loc nD τ sig) → Buf (Elt Ideal) ℓ) (c : Dev nD)

/-- Two context points with one batch and one head are one point. -/
theorem point_inj {w w' : Fin 2 → ℕ} {t t' : Fin cfg0.N} (hw : w = ![t.val / 72, t.val / 9 % 8])
    (hw' : w' = ![t'.val / 72, t'.val / 9 % 8]) (h8 : t.val % 9 = 8) (h8' : t'.val % 9 = 8) (e : w = w') : t = t' := by
  rw [hw, hw'] at e
  have e0 : t.val / 72 = t'.val / 72 := congrFun e 0
  have e1 : t.val / 9 % 8 = t'.val / 9 % 8 := congrFun e 1
  apply Fin.ext
  omega

theorem disj7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun e =>
    hne (point_inj (idxs t).2.2.2.2.1 (idxs t').2.2.2.2.1 ((flush0_7 t).mp hf) ((flush0_7 t').mp hf') e)

theorem disj8 : ∀ t t' : Fin cfg0.N, (cfg0.win 8).flush t = true → (cfg0.win 8).flush t' = true → t ≠ t' →
    Disjoint ((cfg0.win 8).blk t).view.set ((cfg0.win 8).blk t').view.set :=
  fun t t' hf hf' hne => (cfg0.win 8).disjoint_blk fun e =>
    hne (point_inj (idxs t).2.2.2.2.2.1 (idxs t').2.2.2.2.2.1 ((flush0_8 t).mp hf) ((flush0_8 t').mp hf') e)

theorem disj9 : ∀ t t' : Fin cfg0.N, (cfg0.win 9).flush t = true → (cfg0.win 9).flush t' = true → t ≠ t' →
    Disjoint ((cfg0.win 9).blk t).view.set ((cfg0.win 9).blk t').view.set :=
  fun t t' hf hf' hne => (cfg0.win 9).disjoint_blk fun e =>
    hne (point_inj (idxs t).2.2.2.2.2.2.1 (idxs t').2.2.2.2.2.2.1 ((flush0_9 t).mp hf) ((flush0_9 t').mp hf') e)

theorem disj10 : ∀ t t' : Fin cfg0.N, (cfg0.win 10).flush t = true → (cfg0.win 10).flush t' = true → t ≠ t' →
    Disjoint ((cfg0.win 10).blk t).view.set ((cfg0.win 10).blk t').view.set :=
  fun t t' hf hf' hne => (cfg0.win 10).disjoint_blk fun e =>
    hne (point_inj (idxs t).2.2.2.2.2.2.2 (idxs t').2.2.2.2.2.2.2 ((flush0_10 t).mp hf) ((flush0_10 t').mp hf') e)

section
variable (b : Fin 2) (h : Fin 8)

/-- A latent query's gradient in the kernel's array. -/
theorem arr6_lat (i : Fin 2048) (d : Fin 256) :
    ((dats m 0 c).arrAt 6 cfg0.N : Arr 4608 2048) (ix2 (rowL b i) (colQ h d))
      = gQL (aQ m c) (aK m c) (aV m c) (aO m c) b h i d := by
  revert i
  refine forall_qrow fun s i => ?_
  set t : Fin cfg0.N := ⟨(b.val * 8 + h.val) * 9 + s.val, point_lt b h s.val (by omega)⟩ with ht
  have hv : t.val = (b.val * 8 + h.val) * 9 + s.val := rfl
  have h1 : t.val % 9 ≤ 7 := by omega
  have h2 : ¬t.val % 9 = 8 := by omega
  have hb := congrFun (Value.blocks6 m c t (flush0_6 t)) (ix2 i d)
  rw [Value.flushed6] at hb
  have hd : (outsAt0 m c t.val t.isLt).1 = bdq m c t := by
    by_cases h0 : t.val % 9 = 0
    · exact dq_A m c t h0 h1 h2
    · exact dq_B m c t h0 h1 h2
  rw [hd] at hb
  refine Eq.trans ?_ (hb.trans ?_)
  · have e := (idx_lat t (by omega)).2.2
    have e1 : t.val / 72 = b.val := by omega
    have e2 : t.val / 9 % 8 = h.val := by omega
    have e3 : t.val % 9 = s.val := by omega
    rw [e1, e2, e3] at e
    unfold rowL colQ qrow
    blk_ext [e]
  · exact bdq_at m c b h t s hv i d

/-- A context query's gradient in the kernel's array. -/
theorem arr6_ctx (i d : Fin 256) :
    ((dats m 0 c).arrAt 6 cfg0.N : Arr 4608 2048) (ix2 (rowC b i) (colQ h d))
      = gQC (aQ m c) (aK m c) (aV m c) (aO m c) b h i d := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun (Value.blocks6 m c t (flush0_6 t)) (ix2 i d)
  rw [Value.flushed6, dq_C m c t h0 h1 h2] at hb
  refine Eq.trans ?_ (hb.trans ?_)
  · have e := (idx_ctx t h2).2.2
    have e1 : t.val / 72 = b.val := by omega
    have e2 : t.val / 9 % 8 = h.val := by omega
    rw [e1, e2] at e
    unfold rowC colQ
    blk_ext [e]
  · exact ctx_dq m c b h t hv i d

/-- A latent key's gradient in the kernel's array. -/
theorem arr7_at (j : Fin 2048) (d : Fin 256) :
    ((dats m 0 c).arrAt 7 cfg0.N : Arr 4096 2048) (ix2 (rowL' b j) (colQ h d))
      = gKL (aQ m c) (aK m c) (aV m c) (aO m c) b h j d := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 7 disj7 cfg0.N t t.isLt ((flush0_7 t).mpr h2)) (ix2 j d)
  rw [Value.flushed7, dkl_C m c t h0 h1 h2] at hb
  refine Eq.trans ?_ (hb.trans ?_)
  · have e := (idxs t).2.2.2.2.1
    have e1 : t.val / 72 = b.val := by omega
    have e2 : t.val / 9 % 8 = h.val := by omega
    rw [e1, e2] at e
    unfold rowL' colQ
    blk_ext [e]
  · unfold gKL
    rw [← sum_ext_full]
    exact (pay8_eq _ _).trans ((sums_at m c b h 7 (by omega)).1 j d)

/-- A context key's gradient in the kernel's array. -/
theorem arr8_at (j : Fin 256) (d : Fin 256) :
    ((dats m 0 c).arrAt 8 cfg0.N : Arr 512 2048) (ix2 (rowC' b j) (colQ h d))
      = gKC (aQ m c) (aK m c) (aV m c) (aO m c) b h j d := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 8 disj8 cfg0.N t t.isLt ((flush0_8 t).mpr h2)) (ix2 j d)
  rw [Value.flushed8, dkc_C m c t h0 h1 h2] at hb
  refine Eq.trans ?_ (hb.trans ?_)
  · have e := (idxs t).2.2.2.2.2.1
    have e1 : t.val / 72 = b.val := by omega
    have e2 : t.val / 9 % 8 = h.val := by omega
    rw [e1, e2] at e
    unfold rowC' colQ
    blk_ext [e]
  · unfold gKC
    rw [← sum_ext_full]
    refine (pay9_eq _ _).trans ((ctx_k m c b h t hv _ j d).trans ?_)
    exact congrArg (· + _) ((sums_at m c b h 7 (by omega)).2.1 j d)

/-- A latent value's gradient in the kernel's array. -/
theorem arr9_at (j : Fin 2048) (d : Fin 128) :
    ((dats m 0 c).arrAt 9 cfg0.N : Arr 4096 1024) (ix2 (rowL' b j) (colO h d))
      = gVL (aQ m c) (aK m c) (aO m c) b h j d := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 9 disj9 cfg0.N t t.isLt ((flush0_9 t).mpr h2)) (ix2 j d)
  rw [Value.flushed9, dvl_C m c t h0 h1 h2] at hb
  refine Eq.trans ?_ (hb.trans ?_)
  · have e := (idxs t).2.2.2.2.2.2.1
    have e1 : t.val / 72 = b.val := by omega
    have e2 : t.val / 9 % 8 = h.val := by omega
    rw [e1, e2] at e
    unfold rowL' colO
    blk_ext [e]
  · unfold gVL
    rw [← sum_ext_full]
    exact (pay10_eq _ _).trans ((sums_at m c b h 7 (by omega)).2.2.1 j d)

/-- A context value's gradient in the kernel's array. -/
theorem arr10_at (j : Fin 256) (d : Fin 128) :
    ((dats m 0 c).arrAt 10 cfg0.N : Arr 512 1024) (ix2 (rowC' b j) (colO h d))
      = gVC (aQ m c) (aK m c) (aO m c) b h j d := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 10 disj10 cfg0.N t t.isLt ((flush0_10 t).mpr h2)) (ix2 j d)
  rw [Value.flushed10, dvc_C m c t h0 h1 h2] at hb
  refine Eq.trans ?_ (hb.trans ?_)
  · have e := (idxs t).2.2.2.2.2.2.2
    have e1 : t.val / 72 = b.val := by omega
    have e2 : t.val / 9 % 8 = h.val := by omega
    rw [e1, e2] at e
    unfold rowC' colO
    blk_ext [e]
  · unfold gVC
    rw [← sum_ext_full]
    refine (pay11_eq _ _).trans ((ctx_v m c b h t hv _ j d).trans ?_)
    exact congrArg (· + _) ((sums_at m c b h 7 (by omega)).2.2.2 j d)

end

end Cert.Attn

end
-- ==== Proof.RefHeads.lean ====
/- The reference's heads: its queries, keys, values and output gradients, split by batch and head, at an index. -/
module

public import proofs.«01_k».proof.Proof.Gen.ReferenceIdeal.Read
public import proofs.«01_k».proof.Proof.Target
public import Idealize.ShloMosaic.Lib.Pointwise
public import Idealize.ShloMosaic.Lib.Pipeline.ValueKit

@[expose] public section

set_option maxRecDepth 16384

noncomputable section

namespace Cert.Attn

open Idealize.ShloMosaic Cert.ReferenceIdeal Cert.ReferenceIdeal.Gen Cert.ReferenceIdeal.Read

variable (q k kv : Arr 4608 2048) (o : Arr 4608 1024) (b : Fin 2) (h : Fin 8)

/-- The latent queries' heads. -/
theorem v11_at (i : Fin 2048) (d : Fin 256) : val_main_v11 (F := Ideal) q (ix4 b h i d) = q (ix2 (rowL b i) (colQ h d)) := by
  unfold val_main_v11 val_main_v10 val_main_v9 val_main_v0 rowL colQ
  pointwise
  blk_ext

/-- The context queries' heads. -/
theorem v14_at (i d : Fin 256) : val_main_v14 (F := Ideal) q (ix4 b h i d) = q (ix2 (rowC b i) (colQ h d)) := by
  unfold val_main_v14 val_main_v13 val_main_v12 val_main_v0 rowC colQ
  pointwise
  blk_ext

/-- The latent keys' heads. -/
theorem v16_at (i : Fin 2048) (d : Fin 256) : val_main_v16 (F := Ideal) k (ix4 b h i d) = k (ix2 (rowL b i) (colQ h d)) := by
  unfold val_main_v16 val_main_v15 val_main_v5 val_main_v1 rowL colQ
  pointwise
  blk_ext

/-- The context keys' heads. -/
theorem v18_at (i d : Fin 256) : val_main_v18 (F := Ideal) k (ix4 b h i d) = k (ix2 (rowC b i) (colQ h d)) := by
  unfold val_main_v18 val_main_v17 val_main_v6 val_main_v1 rowC colQ
  pointwise
  blk_ext

/-- The latent values' heads. -/
theorem v20_at (i : Fin 2048) (d : Fin 128) : val_main_v20 (F := Ideal) kv (ix4 b h i d) = kv (ix2 (rowL b i) (colV h d)) := by
  unfold val_main_v20 val_main_v19 val_main_v7 val_main_v4 val_main_v2 rowL colV
  pointwise
  blk_ext

/-- The context values' heads. -/
theorem v22_at (i : Fin 256) (d : Fin 128) : val_main_v22 (F := Ideal) kv (ix4 b h i d) = kv (ix2 (rowC b i) (colV h d)) := by
  unfold val_main_v22 val_main_v21 val_main_v8 val_main_v4 val_main_v2 rowC colV
  pointwise
  blk_ext

/-- The output gradient's heads at the context tokens. -/
theorem v97_at (i : Fin 256) (d : Fin 128) : val_main_v97 (F := Ideal) o (ix4 b h i d) = o (ix2 (rowC b i) (colO h d)) := by
  unfold val_main_v97 val_main_v96 val_main_v95 val_main_v3 rowC colO
  pointwise
  blk_ext

/-- The output gradient's heads at the latent tokens. -/
theorem v99_at (i : Fin 2048) (d : Fin 128) : val_main_v99 (F := Ideal) o (ix4 b h i d) = o (ix2 (rowL b i) (colO h d)) := by
  unfold val_main_v99 val_main_v98 val_main_v94 val_main_v3 rowL colO
  pointwise
  blk_ext

/-- The keys a latent query sees. -/
theorem v23_at (j : Fin 2304) (d : Fin 256) : val_main_v23 (F := Ideal) k (ix4 b h j d) = keys k b h d j := by
  unfold val_main_v23 keys cat
  pointwise
  simp only [v16_at, v18_at]

/-- The values a latent query sees. -/
theorem v24_at (j : Fin 2304) (d : Fin 128) : val_main_v24 (F := Ideal) kv (ix4 b h j d) = vals kv b h d j := by
  unfold val_main_v24 vals cat
  pointwise
  simp only [v20_at, v22_at]

end Cert.Attn

end
-- ==== Proof.RefScores.lean ====
/- The reference's scores, their exponentials, the weights and the gradient of the scores, at an index. -/
module

public import proofs.«01_k».proof.Proof.RefHeads

@[expose] public section

set_option maxRecDepth 16384

noncomputable section

namespace Cert.Attn

open Idealize.ShloMosaic Cert.ReferenceIdeal Cert.ReferenceIdeal.Gen Cert.ReferenceIdeal.Read

variable (q k kv : Arr 4608 2048) (o : Arr 4608 1024) (b : Fin 2) (h : Fin 8)

/-- The latent scores. -/
theorem v27_at (i : Fin 2048) (j : Fin 2304) : val_main_v27 (F := Ideal) q k (ix4 b h i j) = sL q k b h i j := by
  unfold val_main_v27 val_main_v26 val_main_v25 val_main_cst sL
  pointwise
  simp only [v11_at, v23_at]
  rfl

/-- The context scores. -/
theorem v59_at (i j : Fin 256) : val_main_v59 (F := Ideal) q k (ix4 b h i j) = sC q k b h i j := by
  unfold val_main_v59 val_main_v58 val_main_v57 val_main_cst_10 sC
  pointwise
  simp only [v14_at, v18_at]
  rfl

/-- The latent weights' gradient. -/
theorem v121_at (i : Fin 2048) (j : Fin 2304) : val_main_v121 (F := Ideal) kv o (ix4 b h i j) = pL kv o b h i j := by
  unfold val_main_v121 pL
  pointwise
  simp only [v99_at, v24_at]

/-- The context weights' gradient. -/
theorem v102_at (i j : Fin 256) : val_main_v102 (F := Ideal) kv o (ix4 b h i j) = pC kv o b h i j := by
  unfold val_main_v102 pC
  pointwise
  simp only [v97_at, v22_at]

/-- The reference's reduction by `max` from minus infinity, of the latent scores. -/
theorem v28_at (i : Fin 2048) : val_main_v28 (F := Ideal) q k (ix3 b h i) = rowMax (sL q k b h i) := by
  unfold val_main_v28 val_main_cst_0 rowMax
  pointwise
  rw [ofBits_ninf]
  refine congrArg (fun f => Finset.fold max ⊥ f Finset.univ) (funext fun j => ?_)
  exact v27_at q k b h i j

/-- The reference's second starting value of the latent maximum. -/
theorem v34_at (i : Fin 2048) : val_main_v34 (F := Ideal) (ix3 b h i) = ⊥ := by
  rw [val_main_v34_apply]
  exact ofBits_ninf

/-- The greatest latent score of a query. -/
theorem v35_at (i : Fin 2048) : val_main_v35 (F := Ideal) q k (ix3 b h i) = rowMax (sL q k b h i) := by
  rw [val_main_v35_apply, v34_at, v28_at]
  generalize rowMax (sL q k b h i) = x
  exact max_eq_right bot_le

/-- The exponentials of the latent scores. -/
theorem v48_at (i : Fin 2048) (j : Fin 2304) : val_main_v48 (F := Ideal) q k (ix4 b h i j) = smE (sL q k b h i) j := by
  unfold val_main_v48 val_main_v47 val_main_v46 val_main_v45 smE
  pointwise
  rw [v27_at, v35_at]

/-- Their sum. -/
theorem v49_at (i : Fin 2048) : val_main_v49 (F := Ideal) q k (ix3 b h i) = ∑ j, smE (sL q k b h i) j := by
  unfold val_main_v49 val_main_cst_8
  pointwise
  exact Finset.sum_congr rfl fun j _ => v48_at q k b h i j

/-- The reference's reduction by `max` from minus infinity, of the context scores. -/
theorem v60_at (i : Fin 256) : val_main_v60 (F := Ideal) q k (ix3 b h i) = rowMax (sC q k b h i) := by
  unfold val_main_v60 val_main_cst_11 rowMax
  pointwise
  rw [ofBits_ninf]
  refine congrArg (fun f => Finset.fold max ⊥ f Finset.univ) (funext fun j => ?_)
  exact v59_at q k b h i j

/-- The reference's second starting value of the context maximum. -/
theorem v66_at (i : Fin 256) : val_main_v66 (F := Ideal) (ix3 b h i) = ⊥ := by
  rw [val_main_v66_apply]
  exact ofBits_ninf

/-- The greatest context score of a query. -/
theorem v67_at (i : Fin 256) : val_main_v67 (F := Ideal) q k (ix3 b h i) = rowMax (sC q k b h i) := by
  rw [val_main_v67_apply, v66_at, v60_at]
  generalize rowMax (sC q k b h i) = x
  exact max_eq_right bot_le

/-- The exponentials of the context scores. -/
theorem v80_at (i j : Fin 256) : val_main_v80 (F := Ideal) q k (ix4 b h i j) = smE (sC q k b h i) j := by
  unfold val_main_v80 val_main_v79 val_main_v78 val_main_v77 smE
  pointwise
  rw [v59_at, v67_at]

/-- Their sum. -/
theorem v81_at (i : Fin 256) : val_main_v81 (F := Ideal) q k (ix3 b h i) = ∑ j, smE (sC q k b h i) j := by
  unfold val_main_v81 val_main_cst_19
  pointwise
  exact Finset.sum_congr rfl fun j _ => v80_at q k b h i j

variable (hq : ∀ x, ∃ r : ℝ, q x = r) (hk : ∀ x, ∃ r : ℝ, k x = r)

include hq hk in
/-- The latent weights. -/
theorem v52_at (i : Fin 2048) (j : Fin 2304) : val_main_v52 (F := Ideal) q k (ix4 b h i j) = smP (sL q k b h i) j := by
  rw [← div_eq_smP _ (sL_real q k b h hq hk i) j]
  unfold val_main_v52 val_main_v51 val_main_v50
  pointwise
  rw [v48_at, v49_at]

include hq hk in
/-- The context weights. -/
theorem v84_at (i j : Fin 256) : val_main_v84 (F := Ideal) q k (ix4 b h i j) = smP (sC q k b h i) j := by
  rw [← div_eq_smP _ (sC_real q k b h hq hk i) j]
  unfold val_main_v84 val_main_v83 val_main_v82
  pointwise
  rw [v80_at, v81_at]

/-- The sum the latent scores' gradient subtracts. -/
theorem v125_at (i : Fin 2048) : val_main_v125 (F := Ideal) q k kv o (ix3 b h i)
    = ∑ j, pL kv o b h i j * Ideal.div 1 ((∑ l, smE (sL q k b h i) l) * (∑ l, smE (sL q k b h i) l)) * smE (sL q k b h i) j := by
  unfold val_main_v125 val_main_cst_24 val_main_v124 val_main_v123 val_main_v122 val_main_v55 val_main_v54 val_main_cst_9 val_main_v53 val_main_v50
  pointwise
  refine Finset.sum_congr rfl fun j _ => ?_
  rw [v121_at, v48_at, v49_at]

/-- The sum the context scores' gradient subtracts. -/
theorem v106_at (i : Fin 256) : val_main_v106 (F := Ideal) q k kv o (ix3 b h i)
    = ∑ j, pC kv o b h i j * Ideal.div 1 ((∑ l, smE (sC q k b h i) l) * (∑ l, smE (sC q k b h i) l)) * smE (sC q k b h i) j := by
  unfold val_main_v106 val_main_cst_21 val_main_v105 val_main_v104 val_main_v103 val_main_v87 val_main_v86 val_main_cst_20 val_main_v85 val_main_v82
  pointwise
  refine Finset.sum_congr rfl fun j _ => ?_
  rw [v102_at, v80_at, v81_at]

include hq hk in
/-- The gradient of the latent scores. -/
theorem v135_at (i : Fin 2048) (j : Fin 2304) : val_main_v135 (F := Ideal) q k kv o (ix4 b h i j) = dsL q k kv o b h i j := by
  unfold dsL
  rw [← grad_eq_smD _ _ (sL_real q k b h hq hk i) j]
  unfold val_main_v135 val_main_v134 val_main_cst_26 val_main_v133 val_main_v132 val_main_v131 val_main_v130 val_main_cst_25 val_main_v129 val_main_v128 val_main_v127 val_main_v126 val_main_v50
  pointwise
  rw [v121_at, v48_at, v49_at, v125_at, Fin.sum_univ_one]
  rfl

include hq hk in
/-- The gradient of the context scores. -/
theorem v116_at (i j : Fin 256) : val_main_v116 (F := Ideal) q k kv o (ix4 b h i j) = dsC q k kv o b h i j := by
  unfold dsC
  rw [← grad_eq_smD _ _ (sC_real q k b h hq hk i) j]
  unfold val_main_v116 val_main_v115 val_main_cst_23 val_main_v114 val_main_v113 val_main_v112 val_main_v111 val_main_cst_22 val_main_v110 val_main_v109 val_main_v108 val_main_v107 val_main_v82
  pointwise
  rw [v102_at, v80_at, v81_at, v106_at, Fin.sum_univ_one]
  rfl

end Cert.Attn

end
-- ==== Proof.RefGrads.lean ====
/- The reference's five results, entry by entry. -/
module

public import proofs.«01_k».proof.Proof.RefScores
public import Idealize.ShloMosaic.Lib.KernelVsHost

@[expose] public section

set_option maxRecDepth 16384

noncomputable section

namespace Cert.Attn

open Idealize.ShloMosaic Cert.ReferenceIdeal Cert.ReferenceIdeal.Gen Cert.ReferenceIdeal.Read

variable (q k kv : Arr 4608 2048) (o : Arr 4608 1024) (b : Fin 2) (h : Fin 8)
variable (hq : ∀ x, ∃ r : ℝ, q x = r) (hk : ∀ x, ∃ r : ℝ, k x = r)

include hq hk

/-- What the latent queries send to the keys they see. -/
theorem v136_at (j : Fin 2304) (d : Fin 256) :
    val_main_v136 (F := Ideal) q k kv o (ix4 b h j d) = ∑ i, tK q k kv o b h j d i := by
  unfold val_main_v136 tK
  pointwise
  simp only [v135_at q k kv o b h hq hk, v11_at]

/-- What the context queries send to the context keys. -/
theorem v117_at (j d : Fin 256) :
    val_main_v117 (F := Ideal) q k kv o (ix4 b h j d) = ∑ i, dsC q k kv o b h i j * q (ix2 (rowC b i) (colQ h d)) := by
  unfold val_main_v117
  pointwise
  simp only [v116_at q k kv o b h hq hk, v14_at]

/-- The gradient of the latent queries' heads. -/
theorem v137_at (i : Fin 2048) (d : Fin 256) :
    val_main_v137 (F := Ideal) q k kv o (ix4 b h i d) = gQL q k kv o b h i d := by
  unfold val_main_v137 gQL
  pointwise
  simp only [v135_at q k kv o b h hq hk, v23_at]

/-- The gradient of the context queries' heads. -/
theorem v118_at (i d : Fin 256) :
    val_main_v118 (F := Ideal) q k kv o (ix4 b h i d) = gQC q k kv o b h i d := by
  unfold val_main_v118 gQC
  pointwise
  simp only [v116_at q k kv o b h hq hk, v18_at]

/-- What the latent queries send to the values they see. -/
theorem v120_at (j : Fin 2304) (d : Fin 128) :
    val_main_v120 (F := Ideal) q k o (ix4 b h j d) = ∑ i, tV q k o b h j d i := by
  unfold val_main_v120 val_main_v119 tV
  pointwise
  simp only [v52_at q k b h hq hk, v99_at]
  exact Finset.sum_congr rfl fun i _ => mul_comm _ _

/-- What the context queries send to the context values. -/
theorem v101_at (j : Fin 256) (d : Fin 128) :
    val_main_v101 (F := Ideal) q k o (ix4 b h j d) = ∑ i, smP (sC q k b h i) j * o (ix2 (rowC b i) (colO h d)) := by
  unfold val_main_v101 val_main_v100
  pointwise
  simp only [v84_at q k b h hq hk, v97_at]
  exact Finset.sum_congr rfl fun i _ => mul_comm _ _

/-- The latent keys' gradient. -/
theorem v160_at (j : Fin 2048) (d : Fin 256) :
    val_main_v160 (F := Ideal) q k kv o (ix2 (rowL' b j) (colQ h d)) = gKL q k kv o b h j d := by
  have e : val_main_v160 (F := Ideal) q k kv o (ix2 (rowL' b j) (colQ h d))
      = val_main_v136 (F := Ideal) q k kv o (ix4 b h (keyL j) d) := by
    unfold val_main_v160 val_main_v151 val_main_v150 val_main_v142 rowL' colQ keyL
    generalize val_main_v136 (F := Ideal) q k kv o = y
    pointwise
    blk_ext
  rw [e, v136_at q k kv o b h hq hk]
  rfl

/-- The context keys' gradient. -/
theorem v161_at (j d : Fin 256) :
    val_main_v161 (F := Ideal) q k kv o (ix2 (rowC' b j) (colQ h d)) = gKC q k kv o b h j d := by
  have e : val_main_v161 (F := Ideal) q k kv o (ix2 (rowC' b j) (colQ h d))
      = val_main_v143 (F := Ideal) q k kv o (ix4 b h j d) := by
    unfold val_main_v161 val_main_v149 val_main_v148 rowC' colQ
    generalize val_main_v143 (F := Ideal) q k kv o = y
    pointwise
    blk_ext
  have e' : val_main_v141 (F := Ideal) q k kv o (ix4 b h j d)
      = val_main_v136 (F := Ideal) q k kv o (ix4 b h (keyC j) d) := by
    unfold val_main_v141 keyC
    generalize val_main_v136 (F := Ideal) q k kv o = y
    pointwise
    blk_ext
  rw [e]
  unfold val_main_v143
  pointwise
  rw [e', v136_at q k kv o b h hq hk, v117_at q k kv o b h hq hk]
  exact add_comm _ _

/-- The latent values' gradient. -/
theorem v162_at (j : Fin 2048) (d : Fin 128) :
    val_main_v162 (F := Ideal) q k o (ix2 (rowL' b j) (colO h d)) = gVL q k o b h j d := by
  have e : val_main_v162 (F := Ideal) q k o (ix2 (rowL' b j) (colO h d))
      = val_main_v120 (F := Ideal) q k o (ix4 b h (keyL j) d) := by
    unfold val_main_v162 val_main_v147 val_main_v146 val_main_v139 rowL' colO keyL
    generalize val_main_v120 (F := Ideal) q k o = y
    pointwise
    blk_ext
  rw [e, v120_at q k o b h hq hk]
  rfl

/-- The context values' gradient. -/
theorem v163_at (j : Fin 256) (d : Fin 128) :
    val_main_v163 (F := Ideal) q k o (ix2 (rowC' b j) (colO h d)) = gVC q k o b h j d := by
  have e : val_main_v163 (F := Ideal) q k o (ix2 (rowC' b j) (colO h d))
      = val_main_v140 (F := Ideal) q k o (ix4 b h j d) := by
    unfold val_main_v163 val_main_v145 val_main_v144 rowC' colO
    generalize val_main_v140 (F := Ideal) q k o = y
    pointwise
    blk_ext
  have e' : val_main_v138 (F := Ideal) q k o (ix4 b h j d)
      = val_main_v120 (F := Ideal) q k o (ix4 b h (keyC j) d) := by
    unfold val_main_v138 keyC
    generalize val_main_v120 (F := Ideal) q k o = y
    pointwise
    blk_ext
  rw [e]
  unfold val_main_v140
  pointwise
  rw [e', v120_at q k o b h hq hk, v101_at q k o b h hq hk]
  exact add_comm _ _

/-- The latent queries' gradient as rows. -/
theorem v156_at (i : Fin 2048) (d : Fin 256) :
    val_main_v156 (F := Ideal) q k kv o (ix2 (rowL' b i) (colQ h d)) = gQL q k kv o b h i d := by
  rw [← v137_at q k kv o b h hq hk]
  unfold val_main_v156 val_main_v155 rowL' colQ
  generalize val_main_v137 (F := Ideal) q k kv o = y
  pointwise
  blk_ext

/-- The context queries' gradient as rows. -/
theorem v153_at (i : Fin 256) (d : Fin 256) :
    val_main_v153 (F := Ideal) q k kv o (ix2 (rowC' b i) (colQ h d)) = gQC q k kv o b h i d := by
  rw [← v118_at q k kv o b h hq hk]
  unfold val_main_v153 val_main_v152 rowC' colQ
  generalize val_main_v118 (F := Ideal) q k kv o = y
  pointwise
  blk_ext

omit hq hk in
/-- The padding is zero. -/
theorem pad_zero (i : S_.Idx) : val_main_cst_27 (F := Ideal) i = 0 ∧ val_main_cst_28 (F := Ideal) i = 0 :=
  ⟨Ideal.ofBits_zero_f32, Ideal.ofBits_zero_f32⟩

omit hq hk in
/-- The last result is the sum of the two padded gradients. -/
theorem v159_sum (x : S4608x2048.Idx) :
    val_main_v159 (F := Ideal) q k kv o x = val_main_v154 (F := Ideal) q k kv o x + val_main_v157 (F := Ideal) q k kv o x := rfl

/-- The latent rows of the queries' gradient. -/
theorem v159_lat (i : Fin 2048) (d : Fin 256) :
    val_main_v159 (F := Ideal) q k kv o (ix2 (rowL b i) (colQ h d)) = gQL q k kv o b h i d := by
  have e1 : val_main_v154 (F := Ideal) q k kv o (ix2 (rowL b i) (colQ h d)) = 0 := by
    unfold val_main_v154
    rw [pad_apply_of_not_inside _ _ _ _ _ _ _ _ (0 : Fin 2)]
    · exact (pad_zero _).1
    · rintro ⟨h0, -⟩
      have : 4096 ≤ 2048 * b.val + i.val := h0
      omega
  have e2 : val_main_v157 (F := Ideal) q k kv o (ix2 (rowL b i) (colQ h d))
      = val_main_v156 (F := Ideal) q k kv o (ix2 (rowL' b i) (colQ h d)) := by
    unfold val_main_v157
    refine pad_apply_of_inside _ _ _ _ _ _ _ _ _ fun a => ?_
    fin_cases a
    · show 2048 * b.val + i.val = 0 + (2048 * b.val + i.val) * (0 + 1)
      omega
    · show 256 * h.val + d.val = 0 + (256 * h.val + d.val) * (0 + 1)
      omega
  rw [v159_sum, e1, e2, v156_at q k kv o b h hq hk]
  exact zero_add _

/-- The context rows of the queries' gradient. -/
theorem v159_ctx (i : Fin 256) (d : Fin 256) :
    val_main_v159 (F := Ideal) q k kv o (ix2 (rowC b i) (colQ h d)) = gQC q k kv o b h i d := by
  have e1 : val_main_v157 (F := Ideal) q k kv o (ix2 (rowC b i) (colQ h d)) = 0 := by
    unfold val_main_v157
    rw [pad_apply_of_not_inside _ _ _ _ _ _ _ _ (0 : Fin 2)]
    · exact (pad_zero _).2
    · rintro ⟨-, -, h0⟩
      have : (4096 + 256 * b.val + i.val - 0) / (0 + 1) < 4096 := h0
      omega
  have e2 : val_main_v154 (F := Ideal) q k kv o (ix2 (rowC b i) (colQ h d))
      = val_main_v153 (F := Ideal) q k kv o (ix2 (rowC' b i) (colQ h d)) := by
    unfold val_main_v154
    refine pad_apply_of_inside _ _ _ _ _ _ _ _ _ fun a => ?_
    fin_cases a
    · show 4096 + 256 * b.val + i.val = 4096 + (256 * b.val + i.val) * (0 + 1)
      omega
    · show 256 * h.val + d.val = 0 + (256 * h.val + d.val) * (0 + 1)
      omega
  rw [v159_sum, e1, e2, v153_at q k kv o b h hq hk]
  exact add_zero _

end Cert.Attn

end
-- ==== Proof.Agree.lean ====
/- The kernel's five result arrays are the reference's. -/
module

public import proofs.«01_k».proof.Proof.KArr
public import proofs.«01_k».proof.Proof.RefGrads

@[expose] public section

set_option maxRecDepth 16384

noncomputable section

namespace Cert.Attn

open Idealize.ShloMosaic Cert.KernelIdeal Cert.KernelIdeal.Gen Cert.ReferenceIdeal.Read

variable (m : (ℓ : Loc Cert.KernelIdeal.nD Cert.KernelIdeal.τ Cert.KernelIdeal.sig) → Buf (Elt Ideal) ℓ) (c : Dev Cert.KernelIdeal.nD)
variable (hq : ∀ x, ∃ r : ℝ, aQ m c x = r) (hk : ∀ x, ∃ r : ℝ, aK m c x = r)

include hq hk

/-- The gradient of the queries. -/
theorem agree_q : ((dats m 0 c).arrAt 6 cfg0.N : Arr 4608 2048)
    = val_main_v159 (F := Ideal) (aQ m c) (aK m c) (aV m c) (aO m c) :=
  funext (forall_rows
    (fun b i => forall_colQ fun h d => (arr6_lat m c b h i d).trans (v159_lat _ _ _ _ b h hq hk i d).symm)
    (fun b i => forall_colQ fun h d => (arr6_ctx m c b h i d).trans (v159_ctx _ _ _ _ b h hq hk i d).symm))

/-- The gradient of the latent keys. -/
theorem agree_kl : ((dats m 0 c).arrAt 7 cfg0.N : Arr 4096 2048)
    = val_main_v160 (F := Ideal) (aQ m c) (aK m c) (aV m c) (aO m c) :=
  funext (forall_rowL' fun b j => forall_colQ fun h d =>
    (arr7_at m c b h j d).trans (v160_at _ _ _ _ b h hq hk j d).symm)

/-- The gradient of the context keys. -/
theorem agree_kc : ((dats m 0 c).arrAt 8 cfg0.N : Arr 512 2048)
    = val_main_v161 (F := Ideal) (aQ m c) (aK m c) (aV m c) (aO m c) :=
  funext (forall_rowC' fun b j => forall_colQ fun h d =>
    (arr8_at m c b h j d).trans (v161_at _ _ _ _ b h hq hk j d).symm)

/-- The gradient of the latent values. -/
theorem agree_vl : ((dats m 0 c).arrAt 9 cfg0.N : Arr 4096 1024)
    = val_main_v162 (F := Ideal) (aQ m c) (aK m c) (aO m c) :=
  funext (forall_rowL' fun b j => forall_colO fun h d =>
    (arr9_at m c b h j d).trans (v162_at _ _ _ b h hq hk j d).symm)

/-- The gradient of the context values. -/
theorem agree_vc : ((dats m 0 c).arrAt 10 cfg0.N : Arr 512 1024)
    = val_main_v163 (F := Ideal) (aQ m c) (aK m c) (aO m c) :=
  funext (forall_rowC' fun b j => forall_colO fun h d =>
    (arr10_at m c b h j d).trans (v163_at _ _ _ b h hq hk j d).symm)

end Cert.Attn

end
-- ==== Proof.Finite.lean ====
/- The precondition read at an index: every entry of the queries and of the keys is a real number. -/
module

public import proofs.«01_k».proof.Pre_scores_finite
public import proofs.«01_k».proof.Proof.Target
public import Idealize.ShloMosaic.Lib.Pointwise

@[expose] public section

noncomputable section

namespace Cert.Attn

open Idealize.ShloMosaic

/-- The precondition's one shape relation: a single number spreads over every array. -/
theorem preFacts : Cert.Pre_scores_finite.Facts := ⟨by decide⟩

/-- The bit pattern the precondition compares with is plus infinity. -/
theorem ofBits_inf : Ideal.ofBits .bf16 0x7F80#16 = ⊤ := by simp [Ideal.ofBits, Ideal.ieee]

/-- A number whose absolute value lies below plus infinity is real. -/
theorem real_of_abs_lt (x : EReal) (h : max x (-x) < ⊤) : ∃ r : ℝ, x = r := by
  induction x using EReal.rec with
  | bot => simp at h
  | coe r => exact ⟨r, rfl⟩
  | top => simp at h

/-- Two conditions whose conjunction, as bits, is one hold both. -/
theorem both_of_and (p q : Prop) [Decidable p] [Decidable q]
    (h : BitVec.ofBool (decide p) &&& BitVec.ofBool (decide q) = 1#1) : p ∧ q := by
  by_cases hp : p <;> by_cases hq : q <;> simp_all

attribute [local instance] preFacts in
/-- Where the precondition holds, the queries and the keys are real. -/
theorem real_of_pre (q k kv : Arr 4608 2048) (o : Arr 4608 1024)
    (h : Cert.Pre_scores_finite.fn (F := Ideal) q k kv o = fun _ => 1#1) :
    (∀ x, ∃ r : ℝ, q x = r) ∧ ∀ x, ∃ r : ℝ, k x = r := by
  have key : ∀ x, (∃ r : ℝ, q x = r) ∧ ∃ r : ℝ, k x = r := fun x => by
    have hx := congrFun h x
    unfold Cert.Pre_scores_finite.fn at hx
    dsimp only at hx
    pointwise at hx
    rw [ofBits_inf] at hx
    have hb := both_of_and _ _ hx
    exact ⟨real_of_abs_lt _ hb.1, real_of_abs_lt _ hb.2⟩
  exact ⟨fun x => (key x).1, fun x => (key x).2⟩

end Cert.Attn

end
-- ==== Proof.Gate.lean ====
/- The gate of a feed-forward block, number by number: the sigmoid, and the two ways of writing the gate's derivative. -/
module

public import Idealize.ShloMosaic.Lib.Pointwise
public import Idealize.ShloMosaic.Lib.ReduceAll
public import Idealize.ShloMosaic.Lib.Affine
public import proofs.«01_k».proof.Pre_dact_finite
public import proofs.«01_k».proof.Pre_up_finite
public import proofs.«01_k».proof.Proof.Finite

@[expose] public section

set_option maxRecDepth 16384

noncomputable section

namespace Cert.Gate

open Idealize.ShloMosaic

/-- Subtracting one from one leaves nothing. -/
theorem one_sub_one : (1 : EReal) - 1 = 0 := by
  rw [← EReal.coe_one, ← EReal.coe_sub, sub_self, EReal.coe_zero]

/-- A finite sum of real numbers, read as an extended real, term by term. -/
theorem coe_sum {n : ℕ} (p : Fin n → ℝ) : ((∑ k, p k : ℝ) : EReal) = ∑ k, (p k : EReal) :=
  map_sum (⟨⟨fun r => (r : EReal), rfl⟩, EReal.coe_add⟩ : ℝ →+ EReal) p Finset.univ

/-- The sigmoid as the host spells it, a quotient, is the sigmoid the kernel calls. -/
theorem sigmoid_eq (a : EReal) : Ideal.div 1 (1 + Ideal.exp (-a)) = Ideal.logistic a := rfl

/-- A sum of products of real numbers is real. -/
theorem real_sum {n : ℕ} (f g : Fin n → EReal) (hf : ∀ k, ∃ r : ℝ, f k = r) (hg : ∀ k, ∃ r : ℝ, g k = r) :
    ∃ r : ℝ, ∑ k, f k * g k = r := by
  choose p hp using hf
  choose q hq using hg
  refine ⟨∑ k, p k * q k, ?_⟩
  rw [coe_sum]
  exact Finset.sum_congr rfl fun k _ => by rw [hp, hq, EReal.coe_mul]

/-- The derivative of the gate in its first argument: the kernel's form is the one `jax.vjp` writes, whatever the
    argument of the sigmoid, when the linear argument is real. -/
theorem slope (a b : EReal) (hb : ∃ r : ℝ, b = r) :
    b * (Ideal.logistic a + a * Ideal.logistic a * (1 - Ideal.logistic a))
      = 1 * b * Ideal.logistic a + a * (1 * b) * (Ideal.logistic a * (1 - Ideal.logistic a)) := by
  obtain ⟨r, rfl⟩ := hb
  induction a using EReal.rec with
  | bot => simp
  | top => simp [one_sub_one]
  | coe x =>
    rw [Ideal.logistic_coe]
    norm_cast
    ring

/-- The gate's derivative against a cotangent: a cotangent multiplied on afterwards, or fed in before. -/
theorem slope_mul (a b d : EReal) (hb : ∃ r : ℝ, b = r) (hd : ∃ r : ℝ, d = r) :
    d * (1 * b * Ideal.logistic a + a * (1 * b) * (Ideal.logistic a * (1 - Ideal.logistic a)))
      = d * b * Ideal.logistic a + a * (d * b) * (Ideal.logistic a * (1 - Ideal.logistic a)) := by
  obtain ⟨r, rfl⟩ := hb
  obtain ⟨s, rfl⟩ := hd
  induction a using EReal.rec with
  | bot => simp
  | top => simp [one_sub_one]
  | coe x =>
    rw [Ideal.logistic_coe]
    norm_cast
    ring

/-- The shape relations of the precondition of the gate's two gradients. -/
theorem dactFacts : Cert.Pre_dact_finite.Facts := ⟨by decide, by decide, by decide, by decide, by decide⟩

/-- The shape relations of the precondition of the gate's forward call. -/
theorem upFacts : Cert.Pre_up_finite.Facts := ⟨by decide, by decide, by decide, by decide, by decide⟩

/-- An array all of whose entries were found below plus infinity in absolute value is real. -/
theorem real_of_all {s t u : Shape} {axes : List (Fin s.rank)} [Subsingleton t.Idx] (x : FVec Ideal s .bf16)
    {d : Fin (⟨0, ![]⟩ : Shape).rank → Fin s.rank} (hb : (⟨0, ![]⟩ : Shape).BroadcastsInDim s d) (init : u.Idx → BitVec 1)
    (h : s.ReducesTo axes t) (hu : 0 < u.numel) (j : t.Idx)
    (e : Host.reduce IntOp.andi (cmpf .olt (Host.absf x) (broadcastInDim s d hb (constant ⟨0, ![]⟩ .bf16 0x7F80#16)))
      init h hu j = 1#1) (i : s.Idx) : ∃ r : ℝ, x i = r := by
  have hi := Host.reduce_andi_all _ init h hu j e i
  change BitVec.ofBool (decide (max (x i) (-(x i)) < Ideal.ofBits .bf16 0x7F80#16)) = 1#1 at hi
  rw [Cert.Attn.ofBits_inf] at hi
  refine Cert.Attn.real_of_abs_lt _ ?_
  by_contra hn
  simp [hn] at hi

/-- An array of one number has one index. -/
instance : Subsingleton (⟨0, ![]⟩ : Shape).Idx := ⟨fun a b => funext fun k => k.elim0⟩

attribute [local instance] dactFacts in
/-- Where the precondition of the gate's gradients holds, four of the five arrays are real. -/
theorem real_of_dact (nx dy : Vec Ideal Cert.Pre_dact_finite.S4608x1024 .bf16)
    (w1 w3 w2 : Vec Ideal Cert.Pre_dact_finite.S2x2816x1024 .bf16)
    (h : Cert.Pre_dact_finite.fn (F := Ideal) nx dy w1 w3 w2 = fun _ => 1#1) :
    (∀ x, ∃ r : ℝ, nx x = r) ∧ (∀ x, ∃ r : ℝ, dy x = r) ∧ (∀ x, ∃ r : ℝ, w3 x = r) ∧ ∀ x, ∃ r : ℝ, w2 x = r := by
  have h0 := congrFun h ix0
  unfold Cert.Pre_dact_finite.fn Cert.Pre_dact_finite.fn_part1 at h0
  dsimp only at h0
  obtain ⟨h1, hw2⟩ := IntOp.andi_eq_one.1 h0
  obtain ⟨h2, hw3⟩ := IntOp.andi_eq_one.1 h1
  obtain ⟨hnx, hdy⟩ := IntOp.andi_eq_one.1 h2
  exact ⟨real_of_all nx _ _ _ _ _ hnx, real_of_all dy _ _ _ _ _ hdy, real_of_all w3 _ _ _ _ _ hw3,
    real_of_all w2 _ _ _ _ _ hw2⟩

attribute [local instance] upFacts in
/-- Where the precondition of the gate's forward call holds, the rows and the linear half's weights are real. -/
theorem real_of_up (nx : Vec Ideal Cert.Pre_up_finite.S4608x1024 .bf16)
    (w1 w3 : Vec Ideal Cert.Pre_up_finite.S2x2816x1024 .bf16)
    (h : Cert.Pre_up_finite.fn (F := Ideal) nx w1 w3 = fun _ => 1#1) :
    (∀ x, ∃ r : ℝ, nx x = r) ∧ ∀ x, ∃ r : ℝ, w3 x = r := by
  have h0 := congrFun h ix0
  unfold Cert.Pre_up_finite.fn at h0
  dsimp only at h0
  obtain ⟨hnx, hw3⟩ := IntOp.andi_eq_one.1 h0
  exact ⟨real_of_all nx _ _ _ _ _ hnx, real_of_all w3 _ _ _ _ _ hw3⟩

end Cert.Gate

end
-- ==== Proof.Up.lean ====
/- The forward call of a feed-forward block: the product of the two halves, and the gate's two slopes it saves. -/
module

public import proofs.«01_k».proof.Proof.Gen.Kernel5Ideal.Value
public import proofs.«01_k».proof.Proof.Gen.Reference5Ideal.Read
public import proofs.«01_k».proof.Proof.Gate
public import Idealize.ShloMosaic.Lib.Pipeline.ValueKit

@[expose] public section

set_option maxRecDepth 16384

noncomputable section

namespace Cert.Up

open Idealize.ShloMosaic Cert.Kernel5Ideal Cert.Kernel5Ideal.Gen Idealize.ShloMosaic.TcCoe
open Cert.Reference5Ideal.Read

variable (m : (ℓ : Loc nD τ sig) → Buf (Elt Ideal) ℓ) (c : Dev nD)

/-- The windows' block indices. -/
theorem idx : ∀ t : Fin cfg0.N, win0_0.index t = ![t.val / 11, 0] ∧ win0_1.index t = ![0, t.val % 11, 0]
    ∧ win0_2.index t = ![0, t.val % 11, 0] ∧ win0_3.index t = ![t.val / 11, t.val % 11]
    ∧ win0_4.index t = ![t.val / 11, t.val % 11] ∧ win0_5.index t = ![t.val / 11, t.val % 11] :=
  (by decide +kernel : ∀ t : Fin grid0.N, _)

/-- One entry of the rows against one slot of weights kept transposed. -/
def lin (x : Vec Ideal S4608x1024 .bf16) (w : Vec Ideal S2x2816x1024 .bf16) (r : Fin 4608) (f : Fin 2816) : EReal :=
  ∑ k : Fin 1024, x (ix2 r k) * w (ix3 (0 : Fin 2) f k)

/-- Real rows against real weights give real entries. -/
theorem real_lin (x : Vec Ideal S4608x1024 .bf16) (w : Vec Ideal S2x2816x1024 .bf16) (hx : ∀ i, ∃ r : ℝ, x i = r)
    (hw : ∀ i, ∃ r : ℝ, w i = r) (r : Fin 4608) (f : Fin 2816) : ∃ s : ℝ, lin x w r f = s :=
  Cert.Gate.real_sum _ _ (fun _ => hx _) fun _ => hw _

/-- The reference's argument of the sigmoid at an index. -/
theorem ref_a (x : Vec Ideal S4608x1024 .bf16) (w : Vec Ideal S2x2816x1024 .bf16) (i : S4608x2816.Idx) :
    val_main_v9 (F := Ideal) x w i = lin x w (i 0) (i 1) := by
  unfold val_main_v9 val_main_v7 val_main_v6 val_main_v2 val_main_v1 val_main_v0 lin
  pointwise

/-- The reference's linear half at an index. -/
theorem ref_b (x : Vec Ideal S4608x1024 .bf16) (w : Vec Ideal S2x2816x1024 .bf16) (i : S4608x2816.Idx) :
    val_main_v10 (F := Ideal) x w i = lin x w (i 0) (i 1) := by
  unfold val_main_v10 val_main_v8 val_main_v6 val_main_v5 val_main_v4 val_main_v3 lin
  pointwise

/-- The reference's sigmoid at an index. -/
theorem ref_s (x : Vec Ideal S4608x1024 .bf16) (w : Vec Ideal S2x2816x1024 .bf16) (i : S4608x2816.Idx) :
    val_main_v11_2 (F := Ideal) x w i = Ideal.logistic (lin x w (i 0) (i 1)) := by
  rw [← ref_a]
  unfold val_main_v11_2 val_main_call0_v4 val_main_call0_v3 val_main_call0_v2 val_main_call0_v1 val_main_call0_v0
    val_main_call0_cst_0 val_main_call0_cst
  generalize val_main_v9 (F := Ideal) x w = a
  pointwise
  rfl

/-- The reference's derivative of the sigmoid at an index. -/
theorem ref_ds (x : Vec Ideal S4608x1024 .bf16) (w : Vec Ideal S2x2816x1024 .bf16) (i : S4608x2816.Idx) :
    val_main_v11_1 (F := Ideal) x w i
      = Ideal.logistic (lin x w (i 0) (i 1)) * (1 - Ideal.logistic (lin x w (i 0) (i 1))) := by
  rw [← ref_s]
  unfold val_main_v11_1 val_main_call0_v7 val_main_call0_v6 val_main_call0_cst_1
  generalize val_main_v11_2 (F := Ideal) x w = a
  pointwise

/-- The reference's gate at an index. -/
theorem ref_silu (x : Vec Ideal S4608x1024 .bf16) (w : Vec Ideal S2x2816x1024 .bf16) (i : S4608x2816.Idx) :
    val_main_v11_0 (F := Ideal) x w i = lin x w (i 0) (i 1) * Ideal.logistic (lin x w (i 0) (i 1)) := by
  rw [← ref_s, ← ref_a]
  unfold val_main_v11_0
  generalize val_main_v11_2 (F := Ideal) x w = a
  generalize val_main_v9 (F := Ideal) x w = b
  pointwise

/-- The reference's slope in the sigmoid's argument, at an index. -/
theorem ref_ga (x : Vec Ideal S4608x1024 .bf16) (w1 w3 : Vec Ideal S2x2816x1024 .bf16) (i : S4608x2816.Idx) :
    val_main_v17 (F := Ideal) x w1 w3 i
      = 1 * lin x w3 (i 0) (i 1) * Ideal.logistic (lin x w1 (i 0) (i 1))
        + lin x w1 (i 0) (i 1) * (1 * lin x w3 (i 0) (i 1))
          * (Ideal.logistic (lin x w1 (i 0) (i 1)) * (1 - Ideal.logistic (lin x w1 (i 0) (i 1)))) := by
  rw [← ref_ds, ← ref_s, ← ref_a x w1, ← ref_b x w3]
  unfold val_main_v17 val_main_v16 val_main_call1_v2 val_main_call1_v1 val_main_call1_v0 val_main_v15 val_main_v13
    val_main_cst
  generalize val_main_v11_2 (F := Ideal) x w1 = a
  generalize val_main_v11_1 (F := Ideal) x w1 = d
  generalize val_main_v9 (F := Ideal) x w1 = b
  generalize val_main_v10 (F := Ideal) x w3 = e
  pointwise

/-- The same slope in the kernel's form, where the linear half is real. -/
theorem ref_ga_real (x : Vec Ideal S4608x1024 .bf16) (w1 w3 : Vec Ideal S2x2816x1024 .bf16) (i : S4608x2816.Idx)
    (hr : ∃ s : ℝ, lin x w3 (i 0) (i 1) = s) :
    val_main_v17 (F := Ideal) x w1 w3 i
      = lin x w3 (i 0) (i 1) * (Ideal.logistic (lin x w1 (i 0) (i 1))
        + lin x w1 (i 0) (i 1) * Ideal.logistic (lin x w1 (i 0) (i 1))
          * (1 - Ideal.logistic (lin x w1 (i 0) (i 1)))) := by
  rw [ref_ga, Cert.Gate.slope _ _ hr]

/-- The reference's slope in the linear half, at an index: the gate itself. -/
theorem ref_gb (x : Vec Ideal S4608x1024 .bf16) (w : Vec Ideal S2x2816x1024 .bf16) (i : S4608x2816.Idx) :
    val_main_v18 (F := Ideal) x w i = lin x w (i 0) (i 1) * Ideal.logistic (lin x w (i 0) (i 1)) := by
  rw [← ref_silu]
  unfold val_main_v18 val_main_v14 val_main_v13 val_main_cst
  generalize val_main_v11_0 (F := Ideal) x w = a
  pointwise

/-- The reference's product of the two halves, at an index. -/
theorem ref_act (x : Vec Ideal S4608x1024 .bf16) (w1 w3 : Vec Ideal S2x2816x1024 .bf16) (i : S4608x2816.Idx) :
    val_main_v19 (F := Ideal) x w1 w3 i
      = lin x w1 (i 0) (i 1) * Ideal.logistic (lin x w1 (i 0) (i 1)) * lin x w3 (i 0) (i 1) := by
  rw [← ref_silu, ← ref_b]
  unfold val_main_v19 val_main_v12
  generalize val_main_v11_0 (F := Ideal) x w1 = a
  generalize val_main_v10 (F := Ideal) x w3 = e
  pointwise

/-- One entry of a block of rows against a block of weights. -/
def blin (x : Vec Ideal S1536x1024 .bf16) (w : Vec Ideal S1x256x1024 .bf16) (r : Fin 1536) (f : Fin 256) : EReal :=
  ∑ k : Fin 1024, x (ix2 r k) * w (ix3 (0 : Fin 1) f k)

/-- The kernel's block of the sigmoid's argument. -/
theorem pay_a (x : Vec Ideal S1536x1024 .bf16) (w : Vec Ideal S1x256x1024 .bf16) (y : S1536x256.Idx) :
    k0_pay1 x w y = blin x w (y 0) (y 1) := by
  unfold k0_pay1 blin
  pointwise

/-- The kernel's block of the linear half. -/
theorem pay_b (x : Vec Ideal S1536x1024 .bf16) (w : Vec Ideal S1x256x1024 .bf16) (y : S1536x256.Idx) :
    k0_pay2 x w y = blin x w (y 0) (y 1) := by
  unfold k0_pay2 blin
  pointwise

/-- The kernel's block of the sigmoid. -/
theorem pay_s (x : Vec Ideal S1536x1024 .bf16) (w : Vec Ideal S1x256x1024 .bf16) (y : S1536x256.Idx) :
    k0_pay3 x w y = Ideal.logistic (blin x w (y 0) (y 1)) := by
  rw [← pay_a]
  unfold k0_pay3
  generalize k0_pay1 x w = a
  pointwise

/-- The kernel's block of the gate. -/
theorem pay_silu (x : Vec Ideal S1536x1024 .bf16) (w : Vec Ideal S1x256x1024 .bf16) (y : S1536x256.Idx) :
    k0_pay4 x w y = blin x w (y 0) (y 1) * Ideal.logistic (blin x w (y 0) (y 1)) := by
  rw [← pay_s, ← pay_a]
  unfold k0_pay4
  generalize k0_pay1 x w = a
  generalize k0_pay3 x w = b
  pointwise

/-- The kernel's block of the slope in the sigmoid's argument. -/
theorem pay_ga (x : Vec Ideal S1536x1024 .bf16) (w1 w3 : Vec Ideal S1x256x1024 .bf16) (y : S1536x256.Idx) :
    k0_pay5 x w1 w3 y
      = blin x w3 (y 0) (y 1) * (Ideal.logistic (blin x w1 (y 0) (y 1))
        + blin x w1 (y 0) (y 1) * Ideal.logistic (blin x w1 (y 0) (y 1))
          * (1 - Ideal.logistic (blin x w1 (y 0) (y 1)))) := by
  rw [← pay_silu, ← pay_s, ← pay_b]
  unfold k0_pay5
  generalize k0_pay2 x w3 = a
  generalize k0_pay3 x w1 = b
  generalize k0_pay4 x w1 = d
  pointwise

/-- The kernel's block of the slope in the linear half. -/
theorem pay_gb (x : Vec Ideal S1536x1024 .bf16) (w : Vec Ideal S1x256x1024 .bf16) (y : S1536x256.Idx) :
    k0_pay6 x w y = blin x w (y 0) (y 1) * Ideal.logistic (blin x w (y 0) (y 1)) := by
  rw [← pay_silu]
  unfold k0_pay6
  generalize k0_pay4 x w = d
  pointwise

/-- The kernel's block of the product. -/
theorem pay_act (x : Vec Ideal S1536x1024 .bf16) (w1 w3 : Vec Ideal S1x256x1024 .bf16) (y : S1536x256.Idx) :
    k0_pay7 x w1 w3 y
      = blin x w1 (y 0) (y 1) * Ideal.logistic (blin x w1 (y 0) (y 1)) * blin x w3 (y 0) (y 1) := by
  rw [← pay_silu, ← pay_b]
  unfold k0_pay7
  generalize k0_pay2 x w3 = a
  generalize k0_pay4 x w1 = d
  pointwise

/-- The kernel's product array is the reference's. -/
theorem final_act : (dats m 0 c).arrAt 5 cfg0.N
    = val_main_v19 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  frame_out
  rw [pay_act, ref_act]
  unfold blin lin
  blk_point [iblk, V, idx t]

/-- The kernel's array of the slope in the linear half is the reference's. -/
theorem final_gb : (dats m 0 c).arrAt 4 cfg0.N
    = val_main_v18 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  rw [pay_gb, ref_gb]
  unfold blin lin
  blk_point [iblk, V, idx t]

/-- Where the rows and the linear half's weights are real, the kernel's array of the slope in the sigmoid's argument is
    the reference's. -/
theorem final_ga (hr : ∀ r f, ∃ s : ℝ, lin (m ((c : Thread nD τ).loc main_arg0)) (m ((c : Thread nD τ).loc main_arg2)) r f = s) :
    (dats m 0 c).arrAt 3 cfg0.N
    = val_main_v17 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  rw [pay_ga, ref_ga_real _ _ _ _ (hr _ _)]
  unfold blin lin
  blk_point [iblk, V, idx t]

end Cert.Up

end
-- ==== Proof.Dact.lean ====
/- The gradient of a feed-forward block's gate: the cotangent through the last product, times the two saved slopes. -/
module

public import proofs.«01_k».proof.Proof.Gen.Kernel2Ideal.Value
public import proofs.«01_k».proof.Proof.Gen.Reference2Ideal.Read
public import proofs.«01_k».proof.Proof.Up
public import Idealize.ShloMosaic.Lib.Pipeline.ValueKit
public import Idealize.ShloMosaic.Lib.Claim

@[expose] public section

set_option maxRecDepth 16384

noncomputable section

namespace Cert.Dact

open Idealize.ShloMosaic Cert.Kernel2Ideal Cert.Kernel2Ideal.Gen Idealize.ShloMosaic.TcCoe
open Cert.Reference2Ideal.Read Cert.Up

variable (m : (ℓ : Loc nD τ sig) → Buf (Elt Ideal) ℓ) (c : Dev nD)

/-- The region finds the first saved slope as the forward lines leave it. -/
theorem entry_ga : V m c main_v17 = Cert.Reference5Ideal.Read.val_main_v17 (F := Ideal)
    (m ((c : Thread nD τ).loc main_arg0)) (m ((c : Thread nD τ).loc main_arg2)) (m ((c : Thread nD τ).loc main_arg3)) := by
  entry_read
  rfl

/-- The region finds the second saved slope as the forward lines leave it. -/
theorem entry_gb : V m c main_v18 = Cert.Reference5Ideal.Read.val_main_v18 (F := Ideal)
    (m ((c : Thread nD τ).loc main_arg0)) (m ((c : Thread nD τ).loc main_arg2)) := by
  entry_read
  rfl

/-- The windows' block indices. -/
theorem idx : ∀ t : Fin cfg0.N, win0_0.index t = ![t.val / 11, 0] ∧ win0_1.index t = ![0, t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

/-- The reference's cotangent of the product of the two halves, at an index. -/
theorem ref_d (dy : Vec Ideal S4608x1024 .bf16) (w2 : Vec Ideal S2x2816x1024 .bf16) (i : S4608x2816.Idx) :
    val_main_v18 (F := Ideal) dy w2 i = lin dy w2 (i 0) (i 1) := by
  unfold val_main_v18 val_main_v12 val_main_v9 val_main_v7 val_main_v6 lin
  pointwise

/-- The reference's linear half at an index. -/
theorem ref_b (x : Vec Ideal S4608x1024 .bf16) (w : Vec Ideal S2x2816x1024 .bf16) (i : S4608x2816.Idx) :
    val_main_v14 (F := Ideal) x w i = lin x w (i 0) (i 1) := Cert.Up.ref_b x w i

/-- The reference's argument of the sigmoid at an index. -/
theorem ref_a (x : Vec Ideal S4608x1024 .bf16) (w : Vec Ideal S2x2816x1024 .bf16) (i : S4608x2816.Idx) :
    val_main_v13 (F := Ideal) x w i = lin x w (i 0) (i 1) := Cert.Up.ref_a x w i

/-- The reference's sigmoid at an index. -/
theorem ref_s (x : Vec Ideal S4608x1024 .bf16) (w : Vec Ideal S2x2816x1024 .bf16) (i : S4608x2816.Idx) :
    val_main_v15_2 (F := Ideal) x w i = Ideal.logistic (lin x w (i 0) (i 1)) := Cert.Up.ref_s x w i

/-- The reference's derivative of the sigmoid at an index. -/
theorem ref_ds (x : Vec Ideal S4608x1024 .bf16) (w : Vec Ideal S2x2816x1024 .bf16) (i : S4608x2816.Idx) :
    val_main_v15_1 (F := Ideal) x w i
      = Ideal.logistic (lin x w (i 0) (i 1)) * (1 - Ideal.logistic (lin x w (i 0) (i 1))) := Cert.Up.ref_ds x w i

/-- The reference's gate at an index. -/
theorem ref_silu (x : Vec Ideal S4608x1024 .bf16) (w : Vec Ideal S2x2816x1024 .bf16) (i : S4608x2816.Idx) :
    val_main_v15_0 (F := Ideal) x w i = lin x w (i 0) (i 1) * Ideal.logistic (lin x w (i 0) (i 1)) :=
  Cert.Up.ref_silu x w i

/-- The reference's gradient in the sigmoid's argument, at an index. -/
theorem ref_da (x dy : Vec Ideal S4608x1024 .bf16) (w1 w3 w2 : Vec Ideal S2x2816x1024 .bf16) (i : S4608x2816.Idx) :
    val_main_v22 (F := Ideal) x dy w1 w3 w2 i
      = lin dy w2 (i 0) (i 1) * lin x w3 (i 0) (i 1) * Ideal.logistic (lin x w1 (i 0) (i 1))
        + lin x w1 (i 0) (i 1) * (lin dy w2 (i 0) (i 1) * lin x w3 (i 0) (i 1))
          * (Ideal.logistic (lin x w1 (i 0) (i 1)) * (1 - Ideal.logistic (lin x w1 (i 0) (i 1)))) := by
  rw [← ref_ds, ← ref_s, ← ref_a x w1, ← ref_b x w3, ← ref_d dy w2]
  unfold val_main_v22 val_main_v21 val_main_call1_v2 val_main_call1_v1 val_main_call1_v0 val_main_v20
  generalize val_main_v15_2 (F := Ideal) x w1 = a
  generalize val_main_v15_1 (F := Ideal) x w1 = d
  generalize val_main_v13 (F := Ideal) x w1 = b
  generalize val_main_v14 (F := Ideal) x w3 = e
  generalize val_main_v18 (F := Ideal) dy w2 = f
  pointwise

/-- The reference's gradient in the sigmoid's argument is the cotangent times the saved slope, where both are real. -/
theorem ref_da_real (x dy : Vec Ideal S4608x1024 .bf16) (w1 w3 w2 : Vec Ideal S2x2816x1024 .bf16) (i : S4608x2816.Idx)
    (hb : ∃ s : ℝ, lin x w3 (i 0) (i 1) = s) (hd : ∃ s : ℝ, lin dy w2 (i 0) (i 1) = s) :
    val_main_v22 (F := Ideal) x dy w1 w3 w2 i
      = lin dy w2 (i 0) (i 1) * Cert.Reference5Ideal.Read.val_main_v17 (F := Ideal) x w1 w3 i := by
  rw [ref_da, Cert.Up.ref_ga, Cert.Gate.slope_mul _ _ _ hb hd]

/-- The reference's gradient in the linear half is the cotangent times the gate. -/
theorem ref_db (x dy : Vec Ideal S4608x1024 .bf16) (w1 w2 : Vec Ideal S2x2816x1024 .bf16) (i : S4608x2816.Idx) :
    val_main_v23 (F := Ideal) x dy w1 w2 i
      = lin dy w2 (i 0) (i 1) * Cert.Reference5Ideal.Read.val_main_v18 (F := Ideal) x w1 i := by
  rw [Cert.Up.ref_gb, ← ref_silu, ← ref_d dy w2, mul_comm]
  unfold val_main_v23 val_main_v19
  generalize val_main_v15_0 (F := Ideal) x w1 = a
  generalize val_main_v18 (F := Ideal) dy w2 = f
  pointwise

/-- The kernel's block of the cotangent. -/
theorem pay_d (x : Vec Ideal S1536x1024 .bf16) (w : Vec Ideal S1x256x1024 .bf16) (y : S1536x256.Idx) :
    k0_pay1 x w y = blin x w (y 0) (y 1) := by
  unfold k0_pay1 blin
  pointwise

/-- The kernel's block of the first gradient. -/
theorem pay_da (x : Vec Ideal S1536x1024 .bf16) (w : Vec Ideal S1x256x1024 .bf16) (g : Vec Ideal S1536x256 .bf16)
    (y : S1536x256.Idx) : k0_pay2 x w g y = blin x w (y 0) (y 1) * g y := by
  rw [← pay_d]
  unfold k0_pay2
  generalize k0_pay1 x w = a
  pointwise

/-- The kernel's block of the second gradient. -/
theorem pay_db (x : Vec Ideal S1536x1024 .bf16) (w : Vec Ideal S1x256x1024 .bf16) (g : Vec Ideal S1536x256 .bf16)
    (y : S1536x256.Idx) : k0_pay3 x w g y = blin x w (y 0) (y 1) * g y := by
  rw [← pay_d]
  unfold k0_pay3
  generalize k0_pay1 x w = a
  pointwise

/-- The kernel's array of the second gradient is the reference's. -/
theorem final_db : (dats m 0 c).arrAt 5 cfg0.N
    = val_main_v23 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 5 _ (by decide +kernel) fun t _ y => ?_
  blk_simp
  rw [after0_5]
  frame_out
  rw [pay_db, ref_db, ← entry_gb]
  unfold blin lin
  blk_point [iblk, idx t]

/-- The kernel's array of the first gradient is the reference's, where the linear half and the cotangent are real. -/
theorem final_da
    (hb : ∀ r f, ∃ s : ℝ, lin (m ((c : Thread nD τ).loc main_arg0)) (m ((c : Thread nD τ).loc main_arg3)) r f = s)
    (hd : ∀ r f, ∃ s : ℝ, lin (m ((c : Thread nD τ).loc main_arg1)) (m ((c : Thread nD τ).loc main_arg4)) r f = s) :
    (dats m 0 c).arrAt 4 cfg0.N
    = val_main_v22 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 4 _ (by decide +kernel) fun t _ y => ?_
  blk_simp
  rw [after0_4]
  frame_out
  rw [pay_da, ref_da_real _ _ _ _ _ _ (hb _ _) (hd _ _), ← entry_ga]
  unfold blin lin
  blk_point [iblk, idx t]

end Cert.Dact

end
-- ==== Proof.Wgrad.lean ====
/- The gradient of a feed-forward block's weights: a product over the tokens, accumulated in three parts and written into
   the first slot of a buffer whose other slot is kept. -/
module

public import proofs.«01_k».proof.Proof.Gen.Kernel3Ideal.Value
public import proofs.«01_k».proof.Proof.Gen.Reference3Ideal.Read
public import Idealize.ShloMosaic.Lib.Pipeline.ValueKit
public import Idealize.ShloMosaic.Lib.Claim

@[expose] public section

set_option maxRecDepth 16384

noncomputable section

namespace Cert.Wgrad

open Idealize.ShloMosaic Cert.Kernel3Ideal Cert.Kernel3Ideal.Gen Idealize.ShloMosaic.TcCoe
open Cert.Reference3Ideal.Read

variable (m : (ℓ : Loc nD τ sig) → Buf (Elt Ideal) ℓ) (c : Dev nD)

/-- The windows' block indices. -/
theorem idx : ∀ t : Fin cfg0.N, win0_0.index t = ![t.val % 3, t.val / 3] ∧ win0_1.index t = ![t.val % 3, 0]
    ∧ win0_2.index t = ![0, t.val / 3, 0] :=
  (by decide +kernel : ∀ t : Fin grid0.N, _)

/-- The region finds the result's buffer holding the buffer the gradient is written into. -/
theorem entry_into : V m c main_v0 = m ((c : Thread nD τ).loc main_arg2) := by
  entry_read
  rfl

/-- One entry of the weights' gradient: the tokens' contraction. -/
def dw (x : Vec Ideal S4608x2816 .bf16) (dy : Vec Ideal S4608x1024 .bf16) (f : Fin 2816) (k : Fin 1024) : EReal :=
  ∑ r : Fin 4608, x (ix2 r f) * dy (ix2 r k)

/-- The reference's gradient at an index. -/
theorem ref_dw (x : Vec Ideal S4608x2816 .bf16) (dy : Vec Ideal S4608x1024 .bf16) (i : Cert.Reference3Ideal.S1x2816x1024.Idx) :
    val_main_v6 (F := Ideal) x dy i = dw x dy (i 1) (i 2) := by
  unfold val_main_v6 val_main_v5 val_main_v4 val_main_v1 val_main_v0 dw
  pointwise
  exact Finset.sum_congr rfl fun r _ => mul_comm _ _

/-- The reference at an index: the gradient in the first slot, the old contents in the other. -/
theorem ref_apply (x : Vec Ideal S4608x2816 .bf16) (dy : Vec Ideal S4608x1024 .bf16) (b : Vec Ideal S2x2816x1024 .f32)
    (i : S2x2816x1024.Idx) :
    val_main_v8 (F := Ideal) x dy b i = if (i 0 : ℕ) = 0 then dw x dy (i 1) (i 2) else b i := by
  unfold val_main_v8 val_main_v7
  have h6 := ref_dw x dy
  generalize val_main_v6 (F := Ideal) x dy = a at h6
  pointwise
  by_cases h : (i 0 : ℕ) = 0
  · rw [dif_pos (by omega), if_pos h, h6]
    rfl
  · rw [dif_neg (by omega), if_neg h]
    have hlt : (i 0 : ℕ) < 2 := (i 0).isLt
    exact congrArg b (funext fun q => by fin_cases q <;> apply Fin.ext <;> simp <;> omega)

/-- One product of a block of tokens. -/
theorem pay_part (x : Vec Ideal S1536x1408 .bf16) (dy : Vec Ideal S1536x1024 .bf16) (j : S1x1408x1024.Idx) :
    k0_pay2 x dy j = 0 + ∑ r : Fin 1536, x (ix2 r (j 1)) * dy (ix2 r (j 2)) := by
  rw [zero_add]
  unfold k0_pay2 k0_pay1
  pointwise

/-- The accumulating block: what it held and one product more. -/
theorem pay_acc (x : Vec Ideal S1536x1408 .bf16) (dy : Vec Ideal S1536x1024 .bf16) (a : Vec Ideal S1x1408x1024 .f32)
    (j : S1x1408x1024.Idx) :
    k0_pay3 x dy a j = a j + ∑ r : Fin 1536, x (ix2 r (j 1)) * dy (ix2 r (j 2)) := by
  unfold k0_pay3 k0_pay1
  pointwise

/-- The kernel's array: the gradient in the first slot, the old contents in the other. -/
theorem arr : (dats m 0 c).arrAt 2 cfg0.N = fun i : S2x2816x1024.Idx => if (i 0 : ℕ) = 0
    then dw (m ((c : Thread nD τ).loc main_arg0)) (m ((c : Thread nD τ).loc main_arg1)) (i 1) (i 2)
    else V m c main_v0 i := by
  refine (dats m 0 c).arrAt_eq_of_coversWhere 2 _ (fun β => β 0 = 0) (by decide +kernel) (fun t hf y => ?_)
    (fun j => by blk_simp [Pipeline.Window.cell_apply]; omega)
  blk_simp
  rw [after0_2, Pipeline.eq_sum_fin_of_reset_step_apply_of_flush (fun n h => outsAt0 m c n h) 3 (fun _ => 0) _
    (fun t h j => by rw [outsAt0_A m c t h (by omega)]; frame_out; rw [pay_part])
    (fun t h j => by rw [outsAt0_B m c t h (by omega)]; frame_out; rw [pay_acc]) t ((flush0_2 t).mp hf) _, zero_add]
  unfold dw
  refine Fin.sum_mul_add_congr fun s k hl => ?_
  blk_point [iblk, V, idx t, idx ⟨_, Pipeline.run_point_lt_of_flush t ((flush0_2 t).mp hf) s⟩]

/-- The kernel's array is the reference's. -/
theorem final : (dats m 0 c).arrAt 2 cfg0.N
    = val_main_v8 (F := Ideal) (m ((c : Thread nD τ).loc main_arg0)) (m ((c : Thread nD τ).loc main_arg1))
        (m ((c : Thread nD τ).loc main_arg2)) := by
  rw [arr, entry_into]
  exact funext fun i => (ref_apply _ _ _ i).symm

end Cert.Wgrad

end
-- ==== Proof.Dnx.lean ====
/- The gradient by the normalised rows of a feed-forward block: the kernel's array is the reference's. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.Dnx

open Idealize.ShloMosaic Cert.Kernel4Ideal Cert.Kernel4Ideal.Gen Idealize.ShloMosaic.TcCoe
open Cert.Reference4Ideal.Read

variable (m : (ℓ : Loc nD τ sig) → Buf (Elt Ideal) ℓ) (c : Dev nD)

/-- The windows' block indices. -/
theorem idx : ∀ t : Fin cfg0.N, win0_0.index t = ![t.val, 0] ∧ win0_1.index t = ![t.val, 0]
    ∧ win0_2.index t = ![0, 0, 0] ∧ win0_3.index t = ![0, 0, 0] ∧ win0_4.index t = ![t.val, 0] :=
  (by decide +kernel : ∀ t : Fin grid0.N, _)

/-- The reference at an index: the two products' contractions over the hidden width, added. -/
theorem ref_apply (da db : Vec Ideal S4608x2816 .bf16) (w1 w3 : Vec Ideal S2x2816x1024 .bf16) (i : S4608x1024.Idx) :
    val_main_v15 (F := Ideal) da db w1 w3 i
      = (∑ f : Fin 2816, db (ix2 (i 0) f) * w3 (ix3 (0 : Fin 2) f (i 1)))
        + ∑ f : Fin 2816, da (ix2 (i 0) f) * w1 (ix3 (0 : Fin 2) f (i 1)) := by
  unfold val_main_v15 val_main_v14 val_main_v13 val_main_v9 val_main_v8 val_main_v7 val_main_v6 val_main_v5 val_main_v4
    val_main_v3 val_main_v2 val_main_v1 val_main_v0
  pointwise

/-- The kernel's block at an index. -/
theorem pay_apply (x0 x1 : Vec Ideal S512x2816 .bf16) (w1 w3 : Vec Ideal S1x2816x1024 .bf16) (y : S512x1024.Idx) :
    k0_pay1 x0 w1 x1 w3 y
      = (∑ f : Fin 2816, x0 (ix2 (y 0) f) * w1 (ix3 (0 : Fin 1) f (y 1)))
        + ∑ f : Fin 2816, x1 (ix2 (y 0) f) * w3 (ix3 (0 : Fin 1) f (y 1)) := by
  unfold k0_pay1
  pointwise

/-- The kernel's array is the reference's. -/
theorem final : (dats m 0 c).arrAt 4 cfg0.N
    = val_main_v15 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [pay_apply, ref_apply, add_comm]
  blk_point [iblk, V, idx t]

end Cert.Dnx

end
-- ==== Proof.Ffn.lean ====
/- The claims about the feed-forward blocks: each reference's run and frame, and each kernel's arrays against them. -/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Dact
public import proofs.«01_k».proof.Proof.Wgrad
public import proofs.«01_k».proof.Proof.Dnx
public import proofs.«01_k».proof.Proof.Up
public import Idealize.ShloMosaic.Lib.Quiescent
public import Idealize.ShloMosaic.Adequacy
public import Idealize.ShloMosaic.Init

@[expose] public section

noncomputable section

namespace Cert.Proof

open Idealize.ShloMosaic Idealize.SL.Sem

open Cert.Reference2Ideal in
/-- The reference of the two gradients of a feed-forward block's gate runs, keeps its arguments, and has no counter to leave raised. -/
theorem frame_reference2
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run defs _ _).mono (fun r h => ⟨fun c => (h c).2.2, sem_eq_zero_of_no_sems (by decide) r.2⟩)
    (Cert.Reference2Ideal.Value.run (F := Ideal) m g)

open Cert.Reference2Ideal in
/-- The results of the reference of the two gradients of a feed-forward block's gate, as functions of its argument arrays. -/
theorem run_reference2
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v22) = Read.val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v23) = Read.val_main_v23 (F := Ideal) (m ((c.tc : Thread nD τ).loc main_arg0)) (m ((c.tc : Thread nD τ).loc main_arg1)) (m ((c.tc : Thread nD τ).loc main_arg2)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun r h c =>
    ⟨(h c).1.trans (Read.val_main_v22_eq (F := Ideal) _ _ _ _ _),
      (h c).2.1.trans (Read.val_main_v23_eq (F := Ideal) _ _ _ _),
      (h c).2.2⟩)
    (Cert.Reference2Ideal.Value.run (F := Ideal) m g)

attribute [local instance] Cert.Gate.dactFacts in
/-- Where the rows, the cotangent and the second and third weights are finite, the kernel of the two gradients of a feed-forward block's gate computes what its reference does. -/
theorem algebraic2 : Cert.algebraic_Kernel2Ideal_Reference2Ideal_pre_dact_finite := by
  intro m g m' g' hpre hagree
  refine ⟨fun c => (Cert.Kernel2Ideal.Gen.dats m 0 c).arrAt 4 Cert.Kernel2Ideal.cfg0.N,
    fun c => (Cert.Kernel2Ideal.Gen.dats m 0 c).arrAt 5 Cert.Kernel2Ideal.cfg0.N,
    Cert.Kernel2Ideal.Value.run_blocks (F := Ideal) m g, ?_⟩
  refine (θ_run Cert.Reference2Ideal.defs _ _).mono (fun r h c => ?_) (run_reference2 m' g')
  obtain ⟨hx, hy, hw3, hw2⟩ := Cert.Gate.real_of_dact _ _ _ _ _ (hpre c)
  obtain ⟨e0, e1, e2, e3, e4⟩ := hagree c
  obtain ⟨h0, h1, hargs⟩ := h c
  rw [e0, e1, e2, e3, e4] at h0
  rw [e0, e1, e2, e4] at h1
  exact ⟨h0.trans (Cert.Dact.final_da m c (Cert.Up.real_lin _ _ hx hw3) (Cert.Up.real_lin _ _ hy hw2)).symm, h1.trans (Cert.Dact.final_db m c).symm, hargs⟩

open Cert.Reference3Ideal in
/-- The reference of the gradient of a feed-forward weight runs, keeps its arguments, and has no counter to leave raised. -/
theorem frame_reference3
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩)
    (Cert.Reference3Ideal.Value.run (F := Ideal) m g)

open Cert.Reference3Ideal in
/-- The results of the reference of the gradient of a feed-forward weight, as functions of its argument arrays. -/
theorem run_reference3
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v8) = Read.val_main_v8 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v8_eq (F := Ideal) _ _ _),
      (h c).2⟩)
    (Cert.Reference3Ideal.Value.run (F := Ideal) m g)

/-- The kernel of the gradient of a feed-forward weight computes what its reference does. -/
theorem algebraic3 : Cert.algebraic_Kernel3Ideal_Reference3Ideal := by
  intro m g m' g' hpre hagree
  refine ⟨fun c => (Cert.Kernel3Ideal.Gen.dats m 0 c).arrAt 2 Cert.Kernel3Ideal.cfg0.N,
    Cert.Kernel3Ideal.Value.run_blocks (F := Ideal) m g, ?_⟩
  refine (θ_run Cert.Reference3Ideal.defs _ _).mono (fun r h c => ?_) (run_reference3 m' g')
  obtain ⟨e0, e1, e2⟩ := hagree c
  obtain ⟨h0, hargs⟩ := h c
  rw [e0, e1, e2] at h0
  exact ⟨h0.trans (Cert.Wgrad.final m c).symm, hargs⟩

open Cert.Reference4Ideal in
/-- The reference of the gradient of a feed-forward block's normalised rows runs, keeps its arguments, and has no counter to leave raised. -/
theorem frame_reference4
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2, sem_eq_zero_of_no_sems (by decide) r.2⟩)
    (Cert.Reference4Ideal.Value.run (F := Ideal) m g)

open Cert.Reference4Ideal in
/-- The results of the reference of the gradient of a feed-forward block's normalised rows, as functions of its argument arrays. -/
theorem run_reference4
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v15) = Read.val_main_v15 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c).1.trans (Read.val_main_v15_eq (F := Ideal) _ _ _ _),
      (h c).2⟩)
    (Cert.Reference4Ideal.Value.run (F := Ideal) m g)

/-- The kernel of the gradient of a feed-forward block's normalised rows computes what its reference does. -/
theorem algebraic4 : Cert.algebraic_Kernel4Ideal_Reference4Ideal := by
  intro m g m' g' hpre hagree
  refine ⟨fun c => (Cert.Kernel4Ideal.Gen.dats m 0 c).arrAt 4 Cert.Kernel4Ideal.cfg0.N,
    Cert.Kernel4Ideal.Value.run_blocks (F := Ideal) m g, ?_⟩
  refine (θ_run Cert.Reference4Ideal.defs _ _).mono (fun r h c => ?_) (run_reference4 m' g')
  obtain ⟨e0, e1, e2, e3⟩ := hagree c
  obtain ⟨h0, hargs⟩ := h c
  rw [e0, e1, e2, e3] at h0
  exact ⟨h0.trans (Cert.Dnx.final m c).symm, hargs⟩

open Cert.Reference5Ideal in
/-- The reference of a feed-forward block's gate and its two saved slopes runs, keeps its arguments, and has no counter to leave raised. -/
theorem frame_reference5
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2.2.2, sem_eq_zero_of_no_sems (by decide) r.2⟩)
    (Cert.Reference5Ideal.Value.run (F := Ideal) m g)

open Cert.Reference5Ideal in
/-- The results of the reference of a feed-forward block's gate and its two saved slopes, as functions of its argument arrays. -/
theorem run_reference5
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v17) = Read.val_main_v17 (F := Ideal) (m ((c.tc : Thread nD τ).loc main_arg0)) (m ((c.tc : Thread nD τ).loc main_arg1)) (m ((c.tc : Thread nD τ).loc main_arg2))
        ∧ r.2.mem ((c.tc : Thread nD τ).loc main_v18) = Read.val_main_v18 (F := Ideal) (m ((c.tc : Thread nD τ).loc main_arg0)) (m ((c.tc : Thread nD τ).loc main_arg1))
        ∧ r.2.mem ((c.tc : Thread nD τ).loc main_v19) = Read.val_main_v19 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v17_eq (F := Ideal) _ _ _),
      (h c).2.1.trans (Read.val_main_v18_eq (F := Ideal) _ _),
      (h c).2.2.1.trans (Read.val_main_v19_eq (F := Ideal) _ _ _),
      (h c).2.2.2⟩)
    (Cert.Reference5Ideal.Value.run (F := Ideal) m g)

attribute [local instance] Cert.Gate.upFacts in
/-- Where the rows and the linear half's weights are finite, the kernel of a feed-forward block's gate and its two saved slopes computes what its reference does. -/
theorem algebraic5 : Cert.algebraic_Kernel5Ideal_Reference5Ideal_pre_up_finite := by
  intro m g m' g' hpre hagree
  refine ⟨fun c => (Cert.Kernel5Ideal.Gen.dats m 0 c).arrAt 3 Cert.Kernel5Ideal.cfg0.N,
    fun c => (Cert.Kernel5Ideal.Gen.dats m 0 c).arrAt 4 Cert.Kernel5Ideal.cfg0.N,
    fun c => (Cert.Kernel5Ideal.Gen.dats m 0 c).arrAt 5 Cert.Kernel5Ideal.cfg0.N,
    Cert.Kernel5Ideal.Value.run_blocks (F := Ideal) m g, ?_⟩
  refine (θ_run Cert.Reference5Ideal.defs _ _).mono (fun r h c => ?_) (run_reference5 m' g')
  obtain ⟨hx, hw⟩ := Cert.Gate.real_of_up _ _ _ (hpre c)
  obtain ⟨e0, e1, e2⟩ := hagree c
  obtain ⟨h0, h1, h2, hargs⟩ := h c
  rw [e0, e1, e2] at h0
  rw [e0, e1] at h1
  rw [e0, e1, e2] at h2
  exact ⟨h0.trans (Cert.Up.final_ga m c (Cert.Up.real_lin _ _ hx hw)).symm, h1.trans (Cert.Up.final_gb m c).symm, h2.trans (Cert.Up.final_act m c).symm, hargs⟩

end Cert.Proof

end
-- ==== Proof.OutRows.lean ====
/- The gradient by the rows of a square projection: the kernel's array is the reference's. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Cert.OutRows

open Idealize.ShloMosaic Cert.Kernel8Ideal Cert.Kernel8Ideal.Gen Idealize.ShloMosaic.TcCoe
open Cert.Reference8Ideal.Read

variable (m : (ℓ : Loc nD τ sig) → Buf (Elt Ideal) ℓ) (c : Dev nD)

/-- The windows' block indices. -/
theorem idx : ∀ t : Fin cfg0.N, win0_0.index t = ![t.val, 0] ∧ win0_1.index t = ![0, 0] ∧ win0_2.index t = ![t.val, 0] :=
  (by decide +kernel : ∀ t : Fin grid0.N, _)

/-- The reference at an index: the contraction over the outputs. -/
theorem ref_apply (dy : Vec Ideal S4608x1024 .bf16) (w : Vec Ideal S1024x1024 .bf16) (i : S4608x1024.Idx) :
    val_main_v5 (F := Ideal) dy w i = ∑ k : Fin 1024, dy (ix2 (i 0) k) * w (ix2 (i 1) k) := by
  unfold val_main_v5 val_main_v4 val_main_v1 val_main_v0
  pointwise

/-- The kernel's block at an index. -/
theorem pay_apply (dy : Vec Ideal S1536x1024 .bf16) (w : Vec Ideal S1024x1024 .bf16) (y : S1536x1024.Idx) :
    k0_pay3 (k0_pay2 (k0_pay1 (F := Ideal)) dy w) y = ∑ k : Fin 1024, dy (ix2 (y 0) k) * w (ix2 (y 1) k) := by
  unfold k0_pay3 k0_pay2 k0_pay1
  pointwise

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay_apply, ref_apply]
  blk_point [iblk, V, idx t]

end Cert.OutRows

end
-- ==== Proof.OutWeight.lean ====
/- The gradient of a square projection: a product over the tokens, accumulated in three parts. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.OutWeight

open Idealize.ShloMosaic Cert.Kernel9Ideal Cert.Kernel9Ideal.Gen Idealize.ShloMosaic.TcCoe
open Cert.Reference9Ideal.Read

variable (m : (ℓ : Loc nD τ sig) → Buf (Elt Ideal) ℓ) (c : Dev nD)

/-- The windows' block indices. -/
theorem idx : ∀ t : Fin cfg0.N, win0_0.index t = ![t.val % 3, t.val / 3] ∧ win0_1.index t = ![t.val % 3, 0]
    ∧ win0_2.index t = ![t.val / 3, 0] :=
  (by decide +kernel : ∀ t : Fin grid0.N, _)

/-- The reference at an index: the contraction over the tokens. -/
theorem ref_apply (x : Vec Ideal S4608x1024 .bf16) (dy : Vec Ideal S4608x1024 .bf16) (i : S1024x1024.Idx) :
    val_main_v5 (F := Ideal) x dy i = ∑ r : Fin 4608, x (ix2 r (i 0)) * dy (ix2 r (i 1)) := by
  unfold val_main_v5 val_main_v4 val_main_v1 val_main_v0
  pointwise
  exact Finset.sum_congr rfl fun r _ => mul_comm _ _

/-- One product of a block of tokens. -/
theorem pay_part (x : Vec Ideal S1536x1024 .bf16) (dy : Vec Ideal S1536x1024 .bf16) (j : S1024x1024.Idx) :
    k0_pay1 x dy j = 0 + ∑ r : Fin 1536, x (ix2 r (j 0)) * dy (ix2 r (j 1)) := by
  rw [zero_add]
  unfold k0_pay1
  pointwise

/-- The accumulating block: what it held and one product more. -/
theorem pay_acc (x : Vec Ideal S1536x1024 .bf16) (dy : Vec Ideal S1536x1024 .bf16) (a : Vec Ideal S1024x1024 .f32)
    (j : S1024x1024.Idx) :
    k0_pay2 x dy a j = a j + ∑ r : Fin 1536, x (ix2 r (j 0)) * dy (ix2 r (j 1)) := by
  unfold k0_pay2 k0_pay1
  pointwise

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by have ht : t.val < 3 := t.isLt; rw [outsAt0_A m c t h (by omega)]; frame_out; rw [pay_part])
    (fun t h j => by rw [outsAt0_B m c t h (by omega)]; frame_out; rw [pay_acc]) t ((flush0_2 t).mp hf) _, zero_add,
    ref_apply]
  refine Fin.sum_mul_add_congr fun s k hl => ?_
  blk_point [iblk, V, idx t, idx ⟨_, Pipeline.run_point_lt_of_flush t ((flush0_2 t).mp hf) s⟩]

end Cert.OutWeight

end
-- ==== Proof.InRows.lean ====
/- The gradient of the short convolution's normed input: a product over the channels, accumulated in three parts. -/
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack

@[expose] public section

set_option maxRecDepth 16384

noncomputable section

namespace Cert.InRows

open Idealize.ShloMosaic Cert.Kernel10Ideal Cert.Kernel10Ideal.Gen Idealize.ShloMosaic.TcCoe
open Cert.Reference10Ideal.Read

variable (m : (ℓ : Loc nD τ sig) → Buf (Elt Ideal) ℓ) (c : Dev nD)

/-- The windows' block indices. -/
theorem idx : ∀ t : Fin cfg0.N, win0_0.index t = ![t.val / 3, t.val % 3] ∧ win0_1.index t = ![0, t.val % 3]
    ∧ win0_2.index t = ![t.val / 3, 0] :=
  (by decide +kernel : ∀ t : Fin grid0.N, _)

/-- The reference at an index: the contraction over the channels. -/
theorem ref_apply (x : Vec Ideal S4608x3072 .bf16) (w : Vec Ideal S1024x3072 .bf16) (i : S4608x1024.Idx) :
    val_main_v4 (F := Ideal) x w i = ∑ k : Fin 3072, x (ix2 (i 0) k) * w (ix2 (i 1) k) := by
  unfold val_main_v4 val_main_v1 val_main_v0
  pointwise

/-- The carried block: what it held and one product more. -/
theorem pay_acc (a : Vec Ideal S1536x1024 .f32) (x : Vec Ideal S1536x1024 .bf16) (w : Vec Ideal S1024x1024 .bf16)
    (j : S1536x1024.Idx) :
    k0_pay2 a x w j = a j + ∑ k : Fin 1024, x (ix2 (j 0) k) * w (ix2 (j 1) k) := by
  unfold k0_pay2
  pointwise

/-- The carried block starts at zero. -/
theorem pay_zero (j : S1536x1024.Idx) : k0_pay1 (F := Ideal) j = 0 := by
  unfold k0_pay1
  pointwise

/-- At the last part of a run the block written out is the carried one. -/
theorem out_eq (t : Fin cfg0.N) (h : t.val % 3 = 2) : (outsAt0 m c t.val t.isLt).1 = (outsAt0 m c t.val t.isLt).2 := by
  rw [outsAt0_C m c t (by omega) h]
  frame_out

/-- The kernel's array is the reference's. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 3 (fun _ => 0) _
    (fun t h j => by rw [outsAt0_A m c t h (by omega)]; frame_out; rw [pay_acc, pay_zero])
    (fun t h j => by
      by_cases h2 : t.val % 3 = 2
      · rw [outsAt0_C m c t h h2]; frame_out; simp only [read_unread_whole]; rw [pay_acc]
      · rw [outsAt0_B m c t h h2]; frame_out; simp only [read_unread_whole]; rw [pay_acc]) t ((flush0_2 t).mp hf) _, zero_add,
    ref_apply]
  refine Fin.sum_mul_add_congr fun s k hl => ?_
  blk_point [iblk, V, idx t, idx ⟨_, Pipeline.run_point_lt_of_flush t ((flush0_2 t).mp hf) s⟩]

end Cert.InRows

end
-- ==== Proof.InWeight.lean ====
/- The gradient of the short convolution's input projection: a product over the tokens, accumulated in parts. -/
module

public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Cert.InWeight

open Idealize.ShloMosaic Cert.Kernel11Ideal Cert.Kernel11Ideal.Gen Idealize.ShloMosaic.TcCoe
open Cert.Reference11Ideal.Read

variable (m : (ℓ : Loc nD τ sig) → Buf (Elt Ideal) ℓ) (c : Dev nD)

/-- The windows' block indices. -/
theorem idx : ∀ t : Fin cfg0.N, win0_0.index t = ![t.val % 6, t.val / 6] ∧ win0_1.index t = ![t.val % 6, 0]
    ∧ win0_2.index t = ![t.val / 6, 0] :=
  (by decide +kernel : ∀ t : Fin grid0.N, _)

/-- The reference at an index: the contraction over the tokens. -/
theorem ref_apply (x : Vec Ideal S4608x1024 .bf16) (dy : Vec Ideal S4608x3072 .bf16) (i : S1024x3072.Idx) :
    val_main_v5 (F := Ideal) x dy i = ∑ r : Fin 4608, x (ix2 r (i 0)) * dy (ix2 r (i 1)) := by
  unfold val_main_v5 val_main_v4 val_main_v1 val_main_v0
  pointwise
  exact Finset.sum_congr rfl fun r _ => mul_comm _ _

/-- One product of a block of tokens. -/
theorem pay_part (x : Vec Ideal S768x512 .bf16) (dy : Vec Ideal S768x3072 .bf16) (j : S512x3072.Idx) :
    k0_pay1 x dy j = 0 + ∑ r : Fin 768, x (ix2 r (j 0)) * dy (ix2 r (j 1)) := by
  rw [zero_add]
  unfold k0_pay1
  pointwise

/-- The accumulating block: what it held and one product more. -/
theorem pay_acc (x : Vec Ideal S768x512 .bf16) (dy : Vec Ideal S768x3072 .bf16) (a : Vec Ideal S512x3072 .f32)
    (j : S512x3072.Idx) :
    k0_pay2 x dy a j = a j + ∑ r : Fin 768, x (ix2 r (j 0)) * dy (ix2 r (j 1)) := by
  unfold k0_pay2 k0_pay1
  pointwise

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 6 (fun _ => 0) _
    (fun t h j => by rw [outsAt0_A m c t h (by omega)]; frame_out; rw [pay_part])
    (fun t h j => by rw [outsAt0_B m c t h (by omega)]; frame_out; rw [pay_acc]) t ((flush0_2 t).mp hf) _, zero_add,
    ref_apply]
  refine Fin.sum_mul_add_congr fun s k hl => ?_
  blk_point [iblk, V, idx t, idx ⟨_, Pipeline.run_point_lt_of_flush t ((flush0_2 t).mp hf) s⟩]

end Cert.InWeight

end
-- ==== Proof.Down.lean ====
/- The last product of a feed-forward block, added to the residual under its gate. -/
module

public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.Down

open Idealize.ShloMosaic Cert.Kernel12Ideal Cert.Kernel12Ideal.Gen Idealize.ShloMosaic.TcCoe
open Cert.Reference12Ideal.Read

variable (m : (ℓ : Loc nD τ sig) → Buf (Elt Ideal) ℓ) (c : Dev nD)

/-- The windows' block indices. -/
theorem idx : ∀ t : Fin cfg0.N, win0_0.index t = ![t.val, 0] ∧ win0_1.index t = ![0, 0, 0]
    ∧ win0_2.index t = ![t.val, 0] ∧ win0_3.index t = ![min (t.val / 4) 2, 2, 0, 0] ∧ win0_4.index t = ![t.val, 0]
    ∧ win0_5.index t = ![t.val, 0] :=
  (by decide +kernel : ∀ t : Fin grid0.N, _)

/-- The product at a row and a column. -/
def prod (a : Vec Ideal S4608x2816 .bf16) (w : Vec Ideal S2x2816x1024 .bf16) (r : Fin 4608) (j : Fin 1024) : EReal :=
  ∑ k : Fin 2816, a (ix2 r k) * w (ix3 0 k j)

/-- The reference's product at an index. -/
theorem ref_prod (a : Vec Ideal S4608x2816 .bf16) (w : Vec Ideal S2x2816x1024 .bf16) (i : S4608x1024.Idx) :
    val_main_v4 (F := Ideal) a w i = prod a w (i 0) (i 1) := by
  unfold val_main_v4 val_main_v3 val_main_v2 val_main_v1 val_main_v0 prod
  pointwise

/-- The reference's second result is the product. -/
theorem ref_y (a : Vec Ideal S4608x2816 .bf16) (w : Vec Ideal S2x2816x1024 .bf16) (i : S4608x1024.Idx) :
    val_main_v19 (F := Ideal) a w i = prod a w (i 0) (i 1) := by
  rw [← ref_prod]
  unfold val_main_v19
  generalize val_main_v4 (F := Ideal) a w = y
  pointwise

/-- The stream's modulation row of a token. -/
def stream (r : Fin 4608) : Fin 3 := ⟨min (r.val / 2048) 2, by omega⟩

/-- The reference's gate at an index: the row of the token's stream. -/
theorem ref_gate (g : Vec Ideal S3x9x1x1024 .f32) (i : S4608x1024.Idx) :
    val_main_v14 (F := Ideal) g i = g (ix4 (stream (i 0)) 2 0 (i 1)) := by
  unfold val_main_v14 val_main_v13 val_main_v12 val_main_v11 val_main_v10 val_main_v9 val_main_v8 val_main_v7
    val_main_v6 val_main_v5 stream
  pointwise
  have h := (i 0).isLt
  by_cases h1 : (i 0).val < 2048
  · rw [dif_pos h1]; congr 2; exact Fin.ext (by show 0 = min ((i 0).val / 2048) 2; omega)
  · by_cases h2 : (i 0).val - 2048 < 2048
    · rw [dif_neg h1, dif_pos h2]; congr 2; exact Fin.ext (by show 1 = min ((i 0).val / 2048) 2; omega)
    · rw [dif_neg h1, dif_neg h2]; congr 2; exact Fin.ext (by show 2 = min ((i 0).val / 2048) 2; omega)

/-- The reference's first result at an index. -/
theorem ref_h (a : Vec Ideal S4608x2816 .bf16) (w : Vec Ideal S2x2816x1024 .bf16) (h : Vec Ideal S4608x1024 .f32)
    (g : Vec Ideal S3x9x1x1024 .f32) (i : S4608x1024.Idx) :
    val_main_v18 (F := Ideal) a w h g i
      = h i + Ideal.ofBits FTy.f32 0x3F000000#32 * g (ix4 (stream (i 0)) 2 0 (i 1)) * prod a w (i 0) (i 1) := by
  rw [← ref_prod, ← ref_gate g i]
  unfold val_main_v18 val_main_v17 val_main_v16 val_main_v15 val_main_cst
  generalize val_main_v4 (F := Ideal) a w = y
  generalize val_main_v14 (F := Ideal) g = z
  pointwise

/-- The kernel's block of the product. -/
theorem pay_prod (a : Vec Ideal S512x2816 .bf16) (w : Vec Ideal S1x2816x1024 .bf16) (j : S512x1024.Idx) :
    k0_pay1 a w j = ∑ k : Fin 2816, a (ix2 (j 0) k) * w (ix3 0 k (j 1)) := by
  unfold k0_pay1
  pointwise

/-- The kernel's block of the second result. -/
theorem pay_y (a : Vec Ideal S512x2816 .bf16) (w : Vec Ideal S1x2816x1024 .bf16) (j : S512x1024.Idx) :
    k0_pay2 a w j = ∑ k : Fin 2816, a (ix2 (j 0) k) * w (ix3 0 k (j 1)) := by
  rw [← pay_prod]
  unfold k0_pay2
  generalize k0_pay1 a w = y
  pointwise

/-- The kernel's block of the first result. -/
theorem pay_h (a : Vec Ideal S512x2816 .bf16) (w : Vec Ideal S1x2816x1024 .bf16) (h : Vec Ideal S512x1024 .f32)
    (g : Vec Ideal S1x1x1x1024 .f32) (j : S512x1024.Idx) :
    k0_pay3 a w h g j = h j + Ideal.ofBits FTy.f32 0x3F000000#32 * g (ix4 0 0 0 (j 1))
      * ∑ k : Fin 2816, a (ix2 (j 0) k) * w (ix3 0 k (j 1)) := by
  rw [← pay_prod]
  unfold k0_pay3
  generalize k0_pay1 a w = y
  pointwise

/-- The kernel's first array is the reference's. -/
theorem final_h : (dats m 0 c).arrAt 4 cfg0.N
    = val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [pay_h, ref_h]
  unfold prod stream
  blk_point [iblk, V, idx t]

/-- The kernel's second array is the reference's. -/
theorem final_y : (dats m 0 c).arrAt 5 cfg0.N
    = val_main_v19 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  rw [pay_y, ref_y]
  unfold prod
  blk_point [iblk, V, idx t]

end Cert.Down

end
-- ==== Proof.Mixer.lean ====
/- The claims about the products around the token mixers and the last one of the feed-forward blocks: each reference's run and frame, and each kernel's arrays against them. -/
module

public import proofs.«01_k».proof.Defs
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.OutRows
public import proofs.«01_k».proof.Proof.OutWeight
public import proofs.«01_k».proof.Proof.InRows
public import proofs.«01_k».proof.Proof.InWeight
public import proofs.«01_k».proof.Proof.Down
public import Idealize.ShloMosaic.Lib.Quiescent
public import Idealize.ShloMosaic.Adequacy
public import Idealize.ShloMosaic.Init

@[expose] public section

noncomputable section

namespace Cert.Proof

open Idealize.ShloMosaic Idealize.SL.Sem

open Cert.Reference8Ideal in
/-- The reference of the rows' gradient of a square projection runs, keeps its arguments, and has no counter to leave raised. -/
theorem frame_reference8
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference8Ideal.Value.run (F := Ideal) m g)

open Cert.Reference8Ideal in
/-- The results of the reference of the rows' gradient of a square projection, as functions of its argument arrays. -/
theorem run_reference8
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference8Ideal.Value.run (F := Ideal) m g)

/-- The kernel of the rows' gradient of a square projection computes what its reference does. -/
theorem algebraic8 : Cert.algebraic_Kernel8Ideal_Reference8Ideal := by
  intro m g m' g' hpre hagree
  refine ⟨fun c => (Cert.Kernel8Ideal.Gen.dats m 0 c).arrAt 2 Cert.Kernel8Ideal.cfg0.N,
    Cert.Kernel8Ideal.Value.run_blocks (F := Ideal) m g, ?_⟩
  refine (θ_run Cert.Reference8Ideal.defs _ _).mono (fun r h c => ?_) (run_reference8 m' g')
  obtain ⟨e0, e1⟩ := hagree c
  obtain ⟨h0, hargs⟩ := h c
  rw [e0, e1] at h0
  exact ⟨h0.trans (Cert.OutRows.final m c).symm, hargs⟩

open Cert.Reference9Ideal in
/-- The reference of the gradient of a square projection runs, keeps its arguments, and has no counter to leave raised. -/
theorem frame_reference9
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference9Ideal.Value.run (F := Ideal) m g)

open Cert.Reference9Ideal in
/-- The results of the reference of the gradient of a square projection, as functions of its argument arrays. -/
theorem run_reference9
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference9Ideal.Value.run (F := Ideal) m g)

/-- The kernel of the gradient of a square projection computes what its reference does. -/
theorem algebraic9 : Cert.algebraic_Kernel9Ideal_Reference9Ideal := by
  intro m g m' g' hpre hagree
  refine ⟨fun c => (Cert.Kernel9Ideal.Gen.dats m 0 c).arrAt 2 Cert.Kernel9Ideal.cfg0.N,
    Cert.Kernel9Ideal.Value.run_blocks (F := Ideal) m g, ?_⟩
  refine (θ_run Cert.Reference9Ideal.defs _ _).mono (fun r h c => ?_) (run_reference9 m' g')
  obtain ⟨e0, e1⟩ := hagree c
  obtain ⟨h0, hargs⟩ := h c
  rw [e0, e1] at h0
  exact ⟨h0.trans (Cert.OutWeight.final m c).symm, hargs⟩

open Cert.Reference10Ideal in
/-- The reference of the gradient of the short convolution's normalised rows runs, keeps its arguments, and has no counter to leave raised. -/
theorem frame_reference10
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference10Ideal.Value.run (F := Ideal) m g)

open Cert.Reference10Ideal in
/-- The results of the reference of the gradient of the short convolution's normalised rows, as functions of its argument arrays. -/
theorem run_reference10
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v4) = Read.val_main_v4 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v4_eq (F := Ideal) _ _),
      (h c).2⟩)
    (Cert.Reference10Ideal.Value.run (F := Ideal) m g)

/-- The kernel of the gradient of the short convolution's normalised rows computes what its reference does. -/
theorem algebraic10 : Cert.algebraic_Kernel10Ideal_Reference10Ideal := by
  intro m g m' g' hpre hagree
  refine ⟨fun c => (Cert.Kernel10Ideal.Gen.dats m 0 c).arrAt 2 Cert.Kernel10Ideal.cfg0.N,
    Cert.Kernel10Ideal.Value.run_blocks (F := Ideal) m g, ?_⟩
  refine (θ_run Cert.Reference10Ideal.defs _ _).mono (fun r h c => ?_) (run_reference10 m' g')
  obtain ⟨e0, e1⟩ := hagree c
  obtain ⟨h0, hargs⟩ := h c
  rw [e0, e1] at h0
  exact ⟨h0.trans (Cert.InRows.final m c).symm, hargs⟩

open Cert.Reference11Ideal in
/-- The reference of the gradient of the short convolution's input projection runs, keeps its arguments, and has no counter to leave raised. -/
theorem frame_reference11
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference11Ideal.Value.run (F := Ideal) m g)

open Cert.Reference11Ideal in
/-- The results of the reference of the gradient of the short convolution's input projection, as functions of its argument arrays. -/
theorem run_reference11
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference11Ideal.Value.run (F := Ideal) m g)

/-- The kernel of the gradient of the short convolution's input projection computes what its reference does. -/
theorem algebraic11 : Cert.algebraic_Kernel11Ideal_Reference11Ideal := by
  intro m g m' g' hpre hagree
  refine ⟨fun c => (Cert.Kernel11Ideal.Gen.dats m 0 c).arrAt 2 Cert.Kernel11Ideal.cfg0.N,
    Cert.Kernel11Ideal.Value.run_blocks (F := Ideal) m g, ?_⟩
  refine (θ_run Cert.Reference11Ideal.defs _ _).mono (fun r h c => ?_) (run_reference11 m' g')
  obtain ⟨e0, e1⟩ := hagree c
  obtain ⟨h0, hargs⟩ := h c
  rw [e0, e1] at h0
  exact ⟨h0.trans (Cert.InWeight.final m c).symm, hargs⟩

open Cert.Reference12Ideal in
/-- The reference of the last product of a feed-forward block runs, keeps its arguments, and has no counter to leave raised. -/
theorem frame_reference12
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2, sem_eq_zero_of_no_sems (by decide) r.2⟩)
    (Cert.Reference12Ideal.Value.run (F := Ideal) m g)

open Cert.Reference12Ideal in
/-- The results of the reference of the last product of a feed-forward block, as functions of its argument arrays. -/
theorem run_reference12
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v18) = Read.val_main_v18 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v19) = Read.val_main_v19 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c).1.trans (Read.val_main_v18_eq (F := Ideal) _ _ _ _),
      (h c).2.1.trans (Read.val_main_v19_eq (F := Ideal) _ _),
      (h c).2.2⟩)
    (Cert.Reference12Ideal.Value.run (F := Ideal) m g)

/-- The kernel of the last product of a feed-forward block computes what its reference does. -/
theorem algebraic12 : Cert.algebraic_Kernel12Ideal_Reference12Ideal := by
  intro m g m' g' hpre hagree
  refine ⟨fun c => (Cert.Kernel12Ideal.Gen.dats m 0 c).arrAt 4 Cert.Kernel12Ideal.cfg0.N,
    fun c => (Cert.Kernel12Ideal.Gen.dats m 0 c).arrAt 5 Cert.Kernel12Ideal.cfg0.N,
    Cert.Kernel12Ideal.Value.run_blocks (F := Ideal) m g, ?_⟩
  refine (θ_run Cert.Reference12Ideal.defs _ _).mono (fun r h c => ?_) (run_reference12 m' g')
  obtain ⟨e0, e1, e2, e3⟩ := hagree c
  obtain ⟨h0, h1, hargs⟩ := h c
  rw [e0, e1, e2, e3] at h0
  rw [e0, e1] at h1
  exact ⟨h0.trans (Cert.Down.final_h m c).symm, h1.trans (Cert.Down.final_y m c).symm, hargs⟩

end Cert.Proof

end
-- ==== Proof.LastPoint.lean ====
/- What one grid point of the last layer's attention backward kernel leaves: its output blocks and its four accumulators, as the
   kernel's named payloads over the point's input blocks and what the point before left. -/
module

public import proofs.«01_k».proof.Proof.Gen.Kernel6Ideal.Value
public import proofs.«01_k».proof.Proof.KPay
public import Idealize.ShloMosaic.Lib.Pipeline.ValueKit
public import Idealize.ShloMosaic.Lib.Pipeline.ReadBack

@[expose] public section

set_option maxRecDepth 16384

noncomputable section

namespace Cert.Last

open Idealize.ShloMosaic Cert.Kernel6Ideal Cert.Attn Idealize.ShloMosaic.TcCoe
open Cert.KernelIdeal.Gen (k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27)
open Cert.Kernel6Ideal.Gen hiding k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28

variable (m : (ℓ : Loc nD τ sig) → Buf (Elt Ideal) ℓ) (c : Dev nD)

/-- The query block of a point. -/
abbrev bq (t : Fin cfg0.N) : Vec Ideal S256x256 .bf16 := iblk m c 0 t
/-- The context key block of a point. -/
abbrev bkc (t : Fin cfg0.N) : Vec Ideal S256x256 .bf16 := iblk m c 1 t
/-- The latent key block of a point. -/
abbrev bkl (t : Fin cfg0.N) : Vec Ideal S2048x256 .bf16 := X0_2 m c t
/-- The context value block of a point. -/
abbrev bvc (t : Fin cfg0.N) : Vec Ideal S256x128 .bf16 := iblk m c 3 t
/-- The latent value block of a point. -/
abbrev bvl (t : Fin cfg0.N) : Vec Ideal S2048x128 .bf16 := X0_4 m c t
/-- The output gradient's block of a point. -/
abbrev bo (t : Fin cfg0.N) : Vec Ideal S256x128 .bf16 := iblk m c 5 t
/-- The point's scores against the context keys. -/
abbrev bs (t : Fin cfg0.N) : FVec Ideal S256x256 .f32 := k0_pay5 (bq m c t) (bkc m c t)
/-- The point's probability gradients at the context keys. -/
abbrev bp (t : Fin cfg0.N) : FVec Ideal S256x256 .f32 := k0_pay6 (bo m c t) (bvc m c t)
/-- The latent point's score gradients at the latent keys. -/
abbrev bds (t : Fin cfg0.N) : FVec Ideal S256x2048 .bf16 :=
  k0_pay21 (bq m c t) (bo m c t) (bs m c t) (bp m c t) (bkl m c t) (bvl m c t)
/-- The latent point's probabilities at the context keys. -/
abbrev bpc (t : Fin cfg0.N) : FVec Ideal S256x256 .f32 := k0_pay17 (bq m c t) (bs m c t) (bkl m c t)
/-- The latent point's probabilities at the latent keys. -/
abbrev bpl (t : Fin cfg0.N) : FVec Ideal S256x2048 .f32 := k0_pay18 (bq m c t) (bs m c t) (bkl m c t)
/-- The latent point's row sums. -/
abbrev bδ (t : Fin cfg0.N) : FVec Ideal S256x1 .f32 :=
  k0_pay20 (bq m c t) (bo m c t) (bs m c t) (bp m c t) (bkl m c t) (bvl m c t)
/-- The latent point's query gradient. -/
abbrev bdq (t : Fin cfg0.N) : FVec Ideal S256x256 .bf16 :=
  k0_pay7 (bds m c t) (k0_pay27 (bp m c t) (bpc m c t) (bδ m c t) (bkc m c t)) (bkl m c t)

/-- The query gradient at a first latent point. -/
theorem dq_A (t : Fin cfg0.N) (h0 : t.val % 9 = 0) (h1 : t.val % 9 ≤ 7) (h2 : ¬t.val % 9 = 8) :
    (outsAt0 m c t.val t.isLt).1 = bdq m c t := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The latent keys' accumulator after a first latent point. -/
theorem acc0_A (t : Fin cfg0.N) (h0 : t.val % 9 = 0) (h1 : t.val % 9 ≤ 7) (h2 : ¬t.val % 9 = 8) :
    (outsAt0 m c t.val t.isLt).2.2.2.2.2.1 = k0_pay22 (bq m c t) (bds m c t) (k0_pay1 (F := Ideal)) (constant S2048x256 .f32 0x00000000#32) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The context keys' accumulator after a first latent point. -/
theorem acc1_A (t : Fin cfg0.N) (h0 : t.val % 9 = 0) (h1 : t.val % 9 ≤ 7) (h2 : ¬t.val % 9 = 8) :
    (outsAt0 m c t.val t.isLt).2.2.2.2.2.2.1 = k0_pay25 (bq m c t) (bp m c t) (bpc m c t) (bδ m c t) (k0_pay2 (F := Ideal)) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The latent values' accumulator after a first latent point. -/
theorem acc2_A (t : Fin cfg0.N) (h0 : t.val % 9 = 0) (h1 : t.val % 9 ≤ 7) (h2 : ¬t.val % 9 = 8) :
    (outsAt0 m c t.val t.isLt).2.2.2.2.2.2.2.1 = k0_pay23 (bo m c t) (bpl m c t) (k0_pay3 (F := Ideal)) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The context values' accumulator after a first latent point. -/
theorem acc3_A (t : Fin cfg0.N) (h0 : t.val % 9 = 0) (h1 : t.val % 9 ≤ 7) (h2 : ¬t.val % 9 = 8) :
    (outsAt0 m c t.val t.isLt).2.2.2.2.2.2.2.2 = k0_pay26 (bo m c t) (bpc m c t) (k0_pay4 (F := Ideal)) := by
  rw [outsAt0_A m c t h0 h1 h2]
  dsimp only
  frame_open
  simp (disch := decide) only [↓ View.readCov_skip, ↓ View.readCov_cons_toLoadRect, ↓ View.readCov_fill]
  frame_out
  try simp only [read_unread_whole]
  try rfl

/-- The query gradient at a later latent point. -/
theorem dq_B (t : Fin cfg0.N) (h0 : ¬t.val % 9 = 0) (h1 : t.val % 9 ≤ 7) (h2 : ¬t.val % 9 = 8) :
    (outsAt0 m c t.val t.isLt).1 = bdq m c t := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The latent keys' accumulator after a later latent point. -/
theorem acc0_B (t : Fin cfg0.N) (h0 : ¬t.val % 9 = 0) (h1 : t.val % 9 ≤ 7) (h2 : ¬t.val % 9 = 8) :
    (outsAt0 m c t.val t.isLt).2.2.2.2.2.1 = k0_pay22 (bq m c t) (bds m c t) (outsAt0 m c (t.val - 1) (Nat.lt_of_le_of_lt (Nat.sub_le _ _) t.isLt)).2.2.2.2.2.1 (constant S2048x256 .f32 0x00000000#32) := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The context keys' accumulator after a later latent point. -/
theorem acc1_B (t : Fin cfg0.N) (h0 : ¬t.val % 9 = 0) (h1 : t.val % 9 ≤ 7) (h2 : ¬t.val % 9 = 8) :
    (outsAt0 m c t.val t.isLt).2.2.2.2.2.2.1 = k0_pay25 (bq m c t) (bp m c t) (bpc m c t) (bδ m c t) (outsAt0 m c (t.val - 1) (Nat.lt_of_le_of_lt (Nat.sub_le _ _) t.isLt)).2.2.2.2.2.2.1 := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The latent values' accumulator after a later latent point. -/
theorem acc2_B (t : Fin cfg0.N) (h0 : ¬t.val % 9 = 0) (h1 : t.val % 9 ≤ 7) (h2 : ¬t.val % 9 = 8) :
    (outsAt0 m c t.val t.isLt).2.2.2.2.2.2.2.1 = k0_pay23 (bo m c t) (bpl m c t) (outsAt0 m c (t.val - 1) (Nat.lt_of_le_of_lt (Nat.sub_le _ _) t.isLt)).2.2.2.2.2.2.2.1 := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The context values' accumulator after a later latent point. -/
theorem acc3_B (t : Fin cfg0.N) (h0 : ¬t.val % 9 = 0) (h1 : t.val % 9 ≤ 7) (h2 : ¬t.val % 9 = 8) :
    (outsAt0 m c t.val t.isLt).2.2.2.2.2.2.2.2 = k0_pay26 (bo m c t) (bpc m c t) (outsAt0 m c (t.val - 1) (Nat.lt_of_le_of_lt (Nat.sub_le _ _) t.isLt)).2.2.2.2.2.2.2.2 := by
  rw [outsAt0_B m c t h0 h1 h2]
  dsimp only
  frame_open
  simp (disch := decide) only [↓ View.readCov_skip, ↓ View.readCov_cons_toLoadRect, ↓ View.readCov_fill]
  frame_out
  try simp only [read_unread_whole]
  try rfl

/-- The query gradient at the context point. -/
theorem dq_C (t : Fin cfg0.N) (h0 : ¬t.val % 9 = 0) (h1 : ¬t.val % 9 ≤ 7) (h2 : t.val % 9 = 8) :
    (outsAt0 m c t.val t.isLt).1 = Cert.Kernel6Ideal.Gen.k0_pay8 (F := Ideal) := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The latent keys' gradient the context point writes. -/
theorem dkl_C (t : Fin cfg0.N) (h0 : ¬t.val % 9 = 0) (h1 : ¬t.val % 9 ≤ 7) (h2 : t.val % 9 = 8) :
    (outsAt0 m c t.val t.isLt).2.1 = k0_pay8 (outsAt0 m c (t.val - 1) (Nat.lt_of_le_of_lt (Nat.sub_le _ _) t.isLt)).2.2.2.2.2.1 := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The context keys' gradient the context point writes. -/
theorem dkc_C (t : Fin cfg0.N) (h0 : ¬t.val % 9 = 0) (h1 : ¬t.val % 9 ≤ 7) (h2 : t.val % 9 = 8) :
    (outsAt0 m c t.val t.isLt).2.2.1 = k0_pay9 (outsAt0 m c (t.val - 1) (Nat.lt_of_le_of_lt (Nat.sub_le _ _) t.isLt)).2.2.2.2.2.2.1 := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The latent values' gradient the context point writes. -/
theorem dvl_C (t : Fin cfg0.N) (h0 : ¬t.val % 9 = 0) (h1 : ¬t.val % 9 ≤ 7) (h2 : t.val % 9 = 8) :
    (outsAt0 m c t.val t.isLt).2.2.2.1 = k0_pay10 (outsAt0 m c (t.val - 1) (Nat.lt_of_le_of_lt (Nat.sub_le _ _) t.isLt)).2.2.2.2.2.2.2.1 := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

/-- The context values' gradient the context point writes. -/
theorem dvc_C (t : Fin cfg0.N) (h0 : ¬t.val % 9 = 0) (h1 : ¬t.val % 9 ≤ 7) (h2 : t.val % 9 = 8) :
    (outsAt0 m c t.val t.isLt).2.2.2.2.1 = k0_pay11 (outsAt0 m c (t.val - 1) (Nat.lt_of_le_of_lt (Nat.sub_le _ _) t.isLt)).2.2.2.2.2.2.2.2 := by
  rw [outsAt0_C m c t h0 h1 h2]
  dsimp only
  frame_open
  simp (disch := decide) only [↓ View.readCov_skip, ↓ View.readCov_cons_toLoadRect, ↓ View.readCov_fill]
  frame_out
  try simp only [read_unread_whole]
  try rfl

end Cert.Last

end
-- ==== Proof.LastBlocks.lean ====
/- The blocks of the last layer's attention backward kernel at a grid point, and what the point leaves, over the argument arrays. -/
module

public import proofs.«01_k».proof.Proof.LastPoint
public import proofs.«01_k».proof.Proof.Target

@[expose] public section

set_option maxRecDepth 16384

noncomputable section

namespace Cert.Last

open Idealize.ShloMosaic Cert.Kernel6Ideal Cert.Attn Idealize.ShloMosaic.TcCoe
open Cert.KernelIdeal.Gen (k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27)
open Cert.Kernel6Ideal.Gen hiding k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28

variable (m : (ℓ : Loc nD τ sig) → Buf (Elt Ideal) ℓ) (c : Dev nD)

/-- The queries. -/
abbrev aQ : Arr 4608 2048 := m ((c : Thread nD τ).loc main_arg0)
/-- The keys. -/
abbrev aK : Arr 4608 2048 := m ((c : Thread nD τ).loc main_arg1)
/-- The keys and values. -/
abbrev aV : Arr 4608 2048 := m ((c : Thread nD τ).loc main_arg2)
/-- The gradient by the attention's output. -/
abbrev aO : Arr 4608 1024 := m ((c : Thread nD τ).loc main_arg3)

/-- The windows' block indices at every point, the query row excepted. -/
theorem idxs : ∀ t : Fin cfg0.N,
    win0_1.index t = ![16 + t.val / 72, t.val / 9 % 8] ∧ win0_2.index t = ![t.val / 72, t.val / 9 % 8]
    ∧ win0_3.index t = ![16 + t.val / 72, 8 + t.val / 9 % 8] ∧ win0_4.index t = ![t.val / 72, 8 + t.val / 9 % 8]
    ∧ win0_7.index t = ![t.val / 72, t.val / 9 % 8] ∧ win0_8.index t = ![t.val / 72, t.val / 9 % 8]
    ∧ win0_9.index t = ![t.val / 72, t.val / 9 % 8] ∧ win0_10.index t = ![t.val / 72, t.val / 9 % 8] :=
  (by decide +kernel : ∀ t : Fin grid0.N, _)

/-- The query row's block index at a latent point. -/
theorem idx_lat : ∀ t : Fin cfg0.N, t.val % 9 < 8 →
    win0_0.index t = ![8 * (t.val / 72) + t.val % 9, t.val / 9 % 8]
    ∧ win0_5.index t = ![8 * (t.val / 72) + t.val % 9, t.val / 9 % 8]
    ∧ win0_6.index t = ![8 * (t.val / 72) + t.val % 9, t.val / 9 % 8] :=
  (by decide +kernel : ∀ t : Fin grid0.N, _)

/-- The query gradient's block index at a context point. -/
theorem idx_ctx : ∀ t : Fin cfg0.N, t.val % 9 = 8 →
    win0_6.index t = ![16 + t.val / 72, t.val / 9 % 8] :=
  (by decide +kernel : ∀ t : Fin grid0.N, _)

section blocks
variable (b : Fin 2) (h : Fin 8) (t : Fin cfg0.N)

theorem bkc_at (n : Fin 9) (ht : t.val = (b.val * 8 + h.val) * 9 + n.val) (j d : Fin 256) :
    bkc m c t (ix2 j d) = aK m c (ix2 (rowC b j) (colQ h d)) := by
  have e := (idxs t).1
  have h1 : t.val / 72 = b.val := by omega
  have h2 : t.val / 9 % 8 = h.val := by omega
  rw [h1, h2] at e
  unfold bkc rowC colQ
  blk_ext [iblk, V, e]

theorem bvc_at (n : Fin 9) (ht : t.val = (b.val * 8 + h.val) * 9 + n.val) (j : Fin 256) (d : Fin 128) :
    bvc m c t (ix2 j d) = aV m c (ix2 (rowC b j) (colV h d)) := by
  have e := (idxs t).2.2.1
  have h1 : t.val / 72 = b.val := by omega
  have h2 : t.val / 9 % 8 = h.val := by omega
  rw [h1, h2] at e
  unfold bvc rowC colV
  blk_ext [iblk, V, e]

theorem bkl_at (n : Fin 9) (ht : t.val = (b.val * 8 + h.val) * 9 + n.val) (j : Fin 2048) (d : Fin 256) :
    bkl m c t (ix2 j d) = aK m c (ix2 (rowL b j) (colQ h d)) := by
  have e := (idxs t).2.1
  have h1 : t.val / 72 = b.val := by omega
  have h2 : t.val / 9 % 8 = h.val := by omega
  rw [h1, h2] at e
  unfold bkl rowL colQ X0_2 Pipeline.Window.fill
  rw [dif_pos (moved0_2 t _)]
  blk_ext [iblk, V, e]

theorem bvl_at (n : Fin 9) (ht : t.val = (b.val * 8 + h.val) * 9 + n.val) (j : Fin 2048) (d : Fin 128) :
    bvl m c t (ix2 j d) = aV m c (ix2 (rowL b j) (colV h d)) := by
  have e := (idxs t).2.2.2.1
  have h1 : t.val / 72 = b.val := by omega
  have h2 : t.val / 9 % 8 = h.val := by omega
  rw [h1, h2] at e
  unfold bvl rowL colV X0_4 Pipeline.Window.fill
  rw [dif_pos (moved0_4 t _)]
  blk_ext [iblk, V, e]

theorem bq_lat (s : Fin 8) (ht : t.val = (b.val * 8 + h.val) * 9 + s.val) (i d : Fin 256) :
    bq m c t (ix2 i d) = aQ m c (ix2 (rowL b (qrow s i)) (colQ h d)) := by
  have e := (idx_lat t (by omega)).1
  have h1 : t.val / 72 = b.val := by omega
  have h2 : t.val / 9 % 8 = h.val := by omega
  have h3 : t.val % 9 = s.val := by omega
  rw [h1, h2, h3] at e
  unfold bq rowL colQ qrow
  blk_ext [iblk, V, e]

theorem bo_lat (s : Fin 8) (ht : t.val = (b.val * 8 + h.val) * 9 + s.val) (i : Fin 256) (d : Fin 128) :
    bo m c t (ix2 i d) = aO m c (ix2 (rowL b (qrow s i)) (colO h d)) := by
  have e := (idx_lat t (by omega)).2.1
  have h1 : t.val / 72 = b.val := by omega
  have h2 : t.val / 9 % 8 = h.val := by omega
  have h3 : t.val % 9 = s.val := by omega
  rw [h1, h2, h3] at e
  unfold bo rowL colO qrow
  blk_ext [iblk, V, e]

end blocks

end Cert.Last

end
-- ==== Proof.LastRows.lean ====
/- What each grid point of the last layer's attention backward kernel leaves, in the terms of the attention's gradients. -/
module

public import proofs.«01_k».proof.Proof.LastBlocks

@[expose] public section

set_option maxRecDepth 16384

noncomputable section

namespace Cert.Last

open Idealize.ShloMosaic Cert.Kernel6Ideal Cert.Attn Idealize.ShloMosaic.TcCoe
open Cert.KernelIdeal.Gen (k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27)
open Cert.Kernel6Ideal.Gen hiding k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28

variable (m : (ℓ : Loc nD τ sig) → Buf (Elt Ideal) ℓ) (c : Dev nD)
variable (b : Fin 2) (h : Fin 8) (t : Fin cfg0.N)

/-- The 9 points of one batch and head are among the grid's. -/
theorem point_lt (n : ℕ) (hn : n < 9) : (b.val * 8 + h.val) * 9 + n < cfg0.N := by
  rw [show cfg0.N = 144 from N_0]
  omega

section lat
variable (s : Fin 8) (ht : t.val = (b.val * 8 + h.val) * 9 + s.val)
include ht

/-- A latent point's rows of scores. -/
theorem srow_s (i : Fin 256) :
    srow (bs m c t) (k0_pay12 (bq m c t) (bkl m c t)) i = sL (aQ m c) (aK m c) b h (qrow s i) := by
  funext j
  revert j
  refine forall_key (fun j => ?_) (fun j => ?_)
  · unfold srow sL keys bs
    simp only [cat_keyC]
    rw [pay5_apply]
    congr 1
    exact Finset.sum_congr rfl fun d _ => by
      rw [bq_lat m c b h t s ht, bkc_at m c b h t s.castSucc ht]
  · unfold srow sL keys
    simp only [cat_keyL]
    rw [pay12_apply]
    congr 1
    exact Finset.sum_congr rfl fun d _ => by
      rw [bq_lat m c b h t s ht, bkl_at m c b h t s.castSucc ht]

/-- A latent point's rows of probability gradients. -/
theorem srow_p (i : Fin 256) :
    srow (bp m c t) (k0_pay19 (bo m c t) (bvl m c t)) i = pL (aV m c) (aO m c) b h (qrow s i) := by
  funext j
  revert j
  refine forall_key (fun j => ?_) (fun j => ?_)
  · unfold srow pL vals bp
    simp only [cat_keyC]
    rw [pay6_apply]
    exact Finset.sum_congr rfl fun d _ => by
      rw [bo_lat m c b h t s ht, bvc_at m c b h t s.castSucc ht]
  · unfold srow pL vals
    simp only [cat_keyL]
    rw [pay19_apply]
    exact Finset.sum_congr rfl fun d _ => by
      rw [bo_lat m c b h t s ht, bvl_at m c b h t s.castSucc ht]

/-- A latent point's query gradient. -/
theorem bdq_at (i d : Fin 256) :
    bdq m c t (ix2 i d) = gQL (aQ m c) (aK m c) (aV m c) (aO m c) b h (qrow s i) d := by
  unfold bdq gQL dsL bds bpc bδ
  rw [pay7_apply, pay27_apply, sum_key]
  refine congrArg₂ (· + ·) (Finset.sum_congr rfl fun j _ => ?_) (Finset.sum_congr rfl fun j _ => ?_)
  · rw [pay24_apply, srow_s m c b h t s ht, srow_p m c b h t s ht, bkc_at m c b h t s.castSucc ht]
    unfold keys
    rw [cat_keyC]
  · rw [pay21_apply, srow_s m c b h t s ht, srow_p m c b h t s ht, bkl_at m c b h t s.castSucc ht]
    unfold keys
    rw [cat_keyL]

/-- What the point adds to a latent key's gradient. -/
theorem add0_at (a : Vec Ideal S2048x256 .f32) (j : Fin 2048) (d : Fin 256) :
    k0_pay22 (bq m c t) (bds m c t) a (constant S2048x256 .f32 0x00000000#32) (ix2 j d)
      = a (ix2 j d) + ∑ i : Fin 256, tK (aQ m c) (aK m c) (aV m c) (aO m c) b h (keyL j) d (qrow s i) := by
  unfold tK dsL bds
  rw [pay22_apply]
  refine congrArg (_ + ·) (Finset.sum_congr rfl fun i _ => ?_)
  rw [pay21_apply, srow_s m c b h t s ht, srow_p m c b h t s ht, bq_lat m c b h t s ht]

/-- What the point adds to a context key's gradient. -/
theorem add1_at (a : Vec Ideal S256x256 .f32) (j d : Fin 256) :
    k0_pay25 (bq m c t) (bp m c t) (bpc m c t) (bδ m c t) a (ix2 j d)
      = a (ix2 j d) + ∑ i : Fin 256, tK (aQ m c) (aK m c) (aV m c) (aO m c) b h (keyC j) d (qrow s i) := by
  unfold tK dsL bpc bδ
  rw [pay25_apply]
  refine congrArg (_ + ·) (Finset.sum_congr rfl fun i _ => ?_)
  rw [pay24_apply, srow_s m c b h t s ht, srow_p m c b h t s ht, bq_lat m c b h t s ht]

/-- What the point adds to a latent value's gradient. -/
theorem add2_at (a : Vec Ideal S2048x128 .f32) (j : Fin 2048) (d : Fin 128) :
    k0_pay23 (bo m c t) (bpl m c t) a (ix2 j d)
      = a (ix2 j d) + ∑ i : Fin 256, tV (aQ m c) (aK m c) (aO m c) b h (keyL j) d (qrow s i) := by
  unfold tV bpl
  rw [pay23_apply]
  refine congrArg (_ + ·) (Finset.sum_congr rfl fun i _ => ?_)
  rw [pay18_apply, srow_s m c b h t s ht, bo_lat m c b h t s ht]

/-- What the point adds to a context value's gradient. -/
theorem add3_at (a : Vec Ideal S256x128 .f32) (j : Fin 256) (d : Fin 128) :
    k0_pay26 (bo m c t) (bpc m c t) a (ix2 j d)
      = a (ix2 j d) + ∑ i : Fin 256, tV (aQ m c) (aK m c) (aO m c) b h (keyC j) d (qrow s i) := by
  unfold tV bpc
  rw [pay26_apply]
  refine congrArg (_ + ·) (Finset.sum_congr rfl fun i _ => ?_)
  rw [pay17_apply, srow_s m c b h t s ht, bo_lat m c b h t s ht]

end lat

/-- The four sums after a latent point: over all latent queries up to the point's. -/
def Sums (n : ℕ) (hn : n < cfg0.N) (s : ℕ) : Prop :=
  (∀ (j : Fin 2048) (d : Fin 256), (outsAt0 m c n hn).2.2.2.2.2.1 (ix2 j d)
    = ∑ i ∈ Finset.range (256 * (s + 1)), ext (tK (aQ m c) (aK m c) (aV m c) (aO m c) b h (keyL j) d) i)
  ∧ (∀ (j d : Fin 256), (outsAt0 m c n hn).2.2.2.2.2.2.1 (ix2 j d)
    = ∑ i ∈ Finset.range (256 * (s + 1)), ext (tK (aQ m c) (aK m c) (aV m c) (aO m c) b h (keyC j) d) i)
  ∧ (∀ (j : Fin 2048) (d : Fin 128), (outsAt0 m c n hn).2.2.2.2.2.2.2.1 (ix2 j d)
    = ∑ i ∈ Finset.range (256 * (s + 1)), ext (tV (aQ m c) (aK m c) (aO m c) b h (keyL j) d) i)
  ∧ (∀ (j : Fin 256) (d : Fin 128), (outsAt0 m c n hn).2.2.2.2.2.2.2.2 (ix2 j d)
    = ∑ i ∈ Finset.range (256 * (s + 1)), ext (tV (aQ m c) (aK m c) (aO m c) b h (keyC j) d) i)

/-- After each latent point the accumulators hold the sums over the latent queries seen. -/
theorem sums_at (s : ℕ) (hs : s < 8) : Sums m c b h ((b.val * 8 + h.val) * 9 + s) (point_lt b h s (by omega)) s := by
  induction s with
  | zero =>
      set u : Fin cfg0.N := ⟨(b.val * 8 + h.val) * 9 + 0, point_lt b h 0 (by omega)⟩ with hu
      have h0 : u.val % 9 = 0 := by simp only [hu]; omega
      have h1 : u.val % 9 ≤ 7 := by omega
      have h2 : ¬u.val % 9 = 8 := by omega
      have hv : u.val = (b.val * 8 + h.val) * 9 + (0 : Fin 8).val := rfl
      refine ⟨fun j d => ?_, fun j d => ?_, fun j d => ?_, fun j d => ?_⟩
      · rw [acc0_A m c u h0 h1 h2, add0_at m c b h u 0 hv, pay1_apply]
        exact (sum_ext_first _).symm
      · rw [acc1_A m c u h0 h1 h2, add1_at m c b h u 0 hv, pay2_apply]
        exact (sum_ext_first _).symm
      · rw [acc2_A m c u h0 h1 h2, add2_at m c b h u 0 hv, pay3_apply]
        exact (sum_ext_first _).symm
      · rw [acc3_A m c u h0 h1 h2, add3_at m c b h u 0 hv, pay4_apply]
        exact (sum_ext_first _).symm
  | succ s ih =>
      obtain ⟨i0, i1, i2, i3⟩ := ih (by omega)
      set u : Fin cfg0.N := ⟨(b.val * 8 + h.val) * 9 + (s + 1), point_lt b h (s + 1) (by omega)⟩ with hu
      have h0 : ¬u.val % 9 = 0 := by simp only [hu]; omega
      have h1 : u.val % 9 ≤ 7 := by simp only [hu]; omega
      have h2 : ¬u.val % 9 = 8 := by omega
      have hv : u.val = (b.val * 8 + h.val) * 9 + (⟨s + 1, hs⟩ : Fin 8).val := rfl
      refine ⟨fun j d => ?_, fun j d => ?_, fun j d => ?_, fun j d => ?_⟩
      · rw [acc0_B m c u h0 h1 h2, add0_at m c b h u ⟨s + 1, hs⟩ hv]
        exact (congrArg (· + _) (i0 j d)).trans (sum_ext_step _ ⟨s + 1, hs⟩).symm
      · rw [acc1_B m c u h0 h1 h2, add1_at m c b h u ⟨s + 1, hs⟩ hv]
        exact (congrArg (· + _) (i1 j d)).trans (sum_ext_step _ ⟨s + 1, hs⟩).symm
      · rw [acc2_B m c u h0 h1 h2, add2_at m c b h u ⟨s + 1, hs⟩ hv]
        exact (congrArg (· + _) (i2 j d)).trans (sum_ext_step _ ⟨s + 1, hs⟩).symm
      · rw [acc3_B m c u h0 h1 h2, add3_at m c b h u ⟨s + 1, hs⟩ hv]
        exact (congrArg (· + _) (i3 j d)).trans (sum_ext_step _ ⟨s + 1, hs⟩).symm

end Cert.Last

end
-- ==== Proof.LastArr.lean ====
/- The five arrays the last layer's attention backward kernel leaves, entry by entry, as the attention's gradients. -/
module

public import proofs.«01_k».proof.Proof.LastRows

@[expose] public section

set_option maxRecDepth 16384

noncomputable section

namespace Cert.Last

open Idealize.ShloMosaic Cert.Kernel6Ideal Cert.Attn Idealize.ShloMosaic.TcCoe
open Cert.KernelIdeal.Gen (k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27)
open Cert.Kernel6Ideal.Gen hiding k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28

variable (m : (ℓ : Loc nD τ sig) → Buf (Elt Ideal) ℓ) (c : Dev nD)

/-- Two context points with one batch and one head are one point. -/
theorem point_inj {w w' : Fin 2 → ℕ} {t t' : Fin cfg0.N} (hw : w = ![t.val / 72, t.val / 9 % 8])
    (hw' : w' = ![t'.val / 72, t'.val / 9 % 8]) (h8 : t.val % 9 = 8) (h8' : t'.val % 9 = 8) (e : w = w') : t = t' := by
  rw [hw, hw'] at e
  have e0 : t.val / 72 = t'.val / 72 := congrFun e 0
  have e1 : t.val / 9 % 8 = t'.val / 9 % 8 := congrFun e 1
  apply Fin.ext
  omega

theorem disj7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun e =>
    hne (point_inj (idxs t).2.2.2.2.1 (idxs t').2.2.2.2.1 ((flush0_7 t).mp hf) ((flush0_7 t').mp hf') e)

theorem disj8 : ∀ t t' : Fin cfg0.N, (cfg0.win 8).flush t = true → (cfg0.win 8).flush t' = true → t ≠ t' →
    Disjoint ((cfg0.win 8).blk t).view.set ((cfg0.win 8).blk t').view.set :=
  fun t t' hf hf' hne => (cfg0.win 8).disjoint_blk fun e =>
    hne (point_inj (idxs t).2.2.2.2.2.1 (idxs t').2.2.2.2.2.1 ((flush0_8 t).mp hf) ((flush0_8 t').mp hf') e)

theorem disj9 : ∀ t t' : Fin cfg0.N, (cfg0.win 9).flush t = true → (cfg0.win 9).flush t' = true → t ≠ t' →
    Disjoint ((cfg0.win 9).blk t).view.set ((cfg0.win 9).blk t').view.set :=
  fun t t' hf hf' hne => (cfg0.win 9).disjoint_blk fun e =>
    hne (point_inj (idxs t).2.2.2.2.2.2.1 (idxs t').2.2.2.2.2.2.1 ((flush0_9 t).mp hf) ((flush0_9 t').mp hf') e)

theorem disj10 : ∀ t t' : Fin cfg0.N, (cfg0.win 10).flush t = true → (cfg0.win 10).flush t' = true → t ≠ t' →
    Disjoint ((cfg0.win 10).blk t).view.set ((cfg0.win 10).blk t').view.set :=
  fun t t' hf hf' hne => (cfg0.win 10).disjoint_blk fun e =>
    hne (point_inj (idxs t).2.2.2.2.2.2.2 (idxs t').2.2.2.2.2.2.2 ((flush0_10 t).mp hf) ((flush0_10 t').mp hf') e)

section
variable (b : Fin 2) (h : Fin 8)

/-- A latent query's gradient in the kernel's array. -/
theorem arr6_lat (i : Fin 2048) (d : Fin 256) :
    ((dats m 0 c).arrAt 6 cfg0.N : Arr 4608 2048) (ix2 (rowL b i) (colQ h d))
      = gQL (aQ m c) (aK m c) (aV m c) (aO m c) b h i d := by
  revert i
  refine forall_qrow fun s i => ?_
  set t : Fin cfg0.N := ⟨(b.val * 8 + h.val) * 9 + s.val, point_lt b h s.val (by omega)⟩ with ht
  have hv : t.val = (b.val * 8 + h.val) * 9 + s.val := rfl
  have h1 : t.val % 9 ≤ 7 := by omega
  have h2 : ¬t.val % 9 = 8 := by omega
  have hb := congrFun (Value.blocks6 m c t (flush0_6 t)) (ix2 i d)
  rw [Value.flushed6] at hb
  have hd : (outsAt0 m c t.val t.isLt).1 = bdq m c t := by
    by_cases h0 : t.val % 9 = 0
    · exact dq_A m c t h0 h1 h2
    · exact dq_B m c t h0 h1 h2
  rw [hd] at hb
  refine Eq.trans ?_ (hb.trans ?_)
  · have e := (idx_lat t (by omega)).2.2
    have e1 : t.val / 72 = b.val := by omega
    have e2 : t.val / 9 % 8 = h.val := by omega
    have e3 : t.val % 9 = s.val := by omega
    rw [e1, e2, e3] at e
    unfold rowL colQ qrow
    blk_ext [e]
  · exact bdq_at m c b h t s hv i d

/-- A context query's gradient in the kernel's array. -/
theorem arr6_ctx (i d : Fin 256) :
    ((dats m 0 c).arrAt 6 cfg0.N : Arr 4608 2048) (ix2 (rowC b i) (colQ h d))
      = (0 : EReal) := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun (Value.blocks6 m c t (flush0_6 t)) (ix2 i d)
  rw [Value.flushed6, dq_C m c t h0 h1 h2] at hb
  refine Eq.trans ?_ (hb.trans ?_)
  · have e := idx_ctx t h2
    have e1 : t.val / 72 = b.val := by omega
    have e2 : t.val / 9 % 8 = h.val := by omega
    rw [e1, e2] at e
    unfold rowC colQ
    blk_ext [e]
  · exact Ideal.ofBits_zero_bf16

/-- A latent key's gradient in the kernel's array. -/
theorem arr7_at (j : Fin 2048) (d : Fin 256) :
    ((dats m 0 c).arrAt 7 cfg0.N : Arr 4096 2048) (ix2 (rowL' b j) (colQ h d))
      = gKL (aQ m c) (aK m c) (aV m c) (aO m c) b h j d := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 7 disj7 cfg0.N t t.isLt ((flush0_7 t).mpr h2)) (ix2 j d)
  rw [Value.flushed7, dkl_C m c t h0 h1 h2] at hb
  refine Eq.trans ?_ (hb.trans ?_)
  · have e := (idxs t).2.2.2.2.1
    have e1 : t.val / 72 = b.val := by omega
    have e2 : t.val / 9 % 8 = h.val := by omega
    rw [e1, e2] at e
    unfold rowL' colQ
    blk_ext [e]
  · unfold gKL
    rw [← sum_ext_full]
    exact (pay8_eq _ _).trans ((sums_at m c b h 7 (by omega)).1 j d)

/-- A context key's gradient in the kernel's array. -/
theorem arr8_at (j : Fin 256) (d : Fin 256) :
    ((dats m 0 c).arrAt 8 cfg0.N : Arr 512 2048) (ix2 (rowC' b j) (colQ h d))
      = ∑ i, tK (aQ m c) (aK m c) (aV m c) (aO m c) b h (keyC j) d i := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 8 disj8 cfg0.N t t.isLt ((flush0_8 t).mpr h2)) (ix2 j d)
  rw [Value.flushed8, dkc_C m c t h0 h1 h2] at hb
  refine Eq.trans ?_ (hb.trans ?_)
  · have e := (idxs t).2.2.2.2.2.1
    have e1 : t.val / 72 = b.val := by omega
    have e2 : t.val / 9 % 8 = h.val := by omega
    rw [e1, e2] at e
    unfold rowC' colQ
    blk_ext [e]
  · rw [← sum_ext_full]
    exact (pay9_eq _ _).trans ((sums_at m c b h 7 (by omega)).2.1 j d)

/-- A latent value's gradient in the kernel's array. -/
theorem arr9_at (j : Fin 2048) (d : Fin 128) :
    ((dats m 0 c).arrAt 9 cfg0.N : Arr 4096 1024) (ix2 (rowL' b j) (colO h d))
      = gVL (aQ m c) (aK m c) (aO m c) b h j d := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 9 disj9 cfg0.N t t.isLt ((flush0_9 t).mpr h2)) (ix2 j d)
  rw [Value.flushed9, dvl_C m c t h0 h1 h2] at hb
  refine Eq.trans ?_ (hb.trans ?_)
  · have e := (idxs t).2.2.2.2.2.2.1
    have e1 : t.val / 72 = b.val := by omega
    have e2 : t.val / 9 % 8 = h.val := by omega
    rw [e1, e2] at e
    unfold rowL' colO
    blk_ext [e]
  · unfold gVL
    rw [← sum_ext_full]
    exact (pay10_eq _ _).trans ((sums_at m c b h 7 (by omega)).2.2.1 j d)

/-- A context value's gradient in the kernel's array. -/
theorem arr10_at (j : Fin 256) (d : Fin 128) :
    ((dats m 0 c).arrAt 10 cfg0.N : Arr 512 1024) (ix2 (rowC' b j) (colO h d))
      = ∑ i, tV (aQ m c) (aK m c) (aO m c) b h (keyC j) d i := by
  set t : Fin cfg0.N := ⟨(b.val * 8 + h.val) * 9 + 8, point_lt b h 8 (by omega)⟩ with ht
  have hv : t.val = (b.val * 8 + h.val) * 9 + 8 := rfl
  have h0 : ¬t.val % 9 = 0 := by omega
  have h1 : ¬t.val % 9 ≤ 7 := by omega
  have h2 : t.val % 9 = 8 := by omega
  have hb := congrFun ((dats m 0 c).read_blk_arrAt_eq_flushed 10 disj10 cfg0.N t t.isLt ((flush0_10 t).mpr h2)) (ix2 j d)
  rw [Value.flushed10, dvc_C m c t h0 h1 h2] at hb
  refine Eq.trans ?_ (hb.trans ?_)
  · have e := (idxs t).2.2.2.2.2.2.2
    have e1 : t.val / 72 = b.val := by omega
    have e2 : t.val / 9 % 8 = h.val := by omega
    rw [e1, e2] at e
    unfold rowC' colO
    blk_ext [e]
  · rw [← sum_ext_full]
    exact (pay11_eq _ _).trans ((sums_at m c b h 7 (by omega)).2.2.2 j d)

end

end Cert.Last

end
-- ==== Proof.LastRef.lean ====
/- The last layer's reference gradients, entry by entry. Its context queries have no part in the result, so what remains
   is what the latent queries send to the keys and values they see; those stages are the attention's own. -/
module

public import proofs.«01_k».proof.Proof.RefGrads
public import proofs.«01_k».proof.Proof.Gen.Reference6Ideal.Read

@[expose] public section

set_option maxRecDepth 16384

noncomputable section

namespace Cert.Last

open Idealize.ShloMosaic Cert.Attn

variable (q k kv : Arr 4608 2048) (o : Arr 4608 1024)

/-- The latent keys' gradient is the attention's. -/
theorem keys_lat : Cert.Reference6Ideal.Read.val_main_v94 (F := Ideal) q k kv o
    = Cert.ReferenceIdeal.Read.val_main_v160 (F := Ideal) q k kv o := rfl

/-- The latent values' gradient is the attention's. -/
theorem vals_lat : Cert.Reference6Ideal.Read.val_main_v96 (F := Ideal) q k o
    = Cert.ReferenceIdeal.Read.val_main_v162 (F := Ideal) q k o := rfl

/-- The queries' gradient is the attention's latent part, padded. -/
theorem queries : Cert.Reference6Ideal.Read.val_main_v93 (F := Ideal) q k kv o
    = Cert.ReferenceIdeal.Read.val_main_v157 (F := Ideal) q k kv o := rfl

/-- The context keys' gradient is a slice of what the latent queries send to the keys they see. -/
theorem keys_ctx : Cert.Reference6Ideal.Read.val_main_v76 (F := Ideal) q k kv o
    = Cert.ReferenceIdeal.Read.val_main_v136 (F := Ideal) q k kv o := rfl

/-- The context values' gradient is a slice of what the latent queries send to the values they see. -/
theorem vals_ctx : Cert.Reference6Ideal.Read.val_main_v60 (F := Ideal) q k o
    = Cert.ReferenceIdeal.Read.val_main_v120 (F := Ideal) q k o := rfl

variable (b : Fin 2) (h : Fin 8)

/-- The context rows of the queries' gradient are zero. -/
theorem v93_ctx (i d : Fin 256) :
    Cert.Reference6Ideal.Read.val_main_v93 (F := Ideal) q k kv o (ix2 (rowC b i) (colQ h d)) = 0 := by
  rw [queries]
  unfold Cert.ReferenceIdeal.Read.val_main_v157
  rw [pad_apply_of_not_inside _ _ _ _ _ _ _ _ (0 : Fin 2)]
  · exact (pad_zero _).2
  · rintro ⟨-, -, h0⟩
    have : (4096 + 256 * b.val + i.val - 0) / (0 + 1) < 4096 := h0
    omega

variable (hq : ∀ x, ∃ r : ℝ, q x = r) (hk : ∀ x, ∃ r : ℝ, k x = r)

include hq hk

/-- The latent rows of the queries' gradient. -/
theorem v93_lat (i : Fin 2048) (d : Fin 256) :
    Cert.Reference6Ideal.Read.val_main_v93 (F := Ideal) q k kv o (ix2 (rowL b i) (colQ h d)) = gQL q k kv o b h i d := by
  rw [queries, ← v156_at q k kv o b h hq hk]
  unfold Cert.ReferenceIdeal.Read.val_main_v157
  refine pad_apply_of_inside _ _ _ _ _ _ _ _ _ fun a => ?_
  fin_cases a
  · show 2048 * b.val + i.val = 0 + (2048 * b.val + i.val) * (0 + 1)
    omega
  · show 256 * h.val + d.val = 0 + (256 * h.val + d.val) * (0 + 1)
    omega

/-- The context keys' gradient. -/
theorem v95_at (j d : Fin 256) :
    Cert.Reference6Ideal.Read.val_main_v95 (F := Ideal) q k kv o (ix2 (rowC' b j) (colQ h d))
      = ∑ i, tK q k kv o b h (keyC j) d i := by
  rw [← v136_at q k kv o b h hq hk, ← keys_ctx]
  unfold Cert.Reference6Ideal.Read.val_main_v95 Cert.Reference6Ideal.Read.val_main_v87
    Cert.Reference6Ideal.Read.val_main_v86 Cert.Reference6Ideal.Read.val_main_v80 rowC' colQ keyC
  generalize Cert.Reference6Ideal.Read.val_main_v76 (F := Ideal) q k kv o = y
  pointwise
  blk_ext

/-- The context values' gradient. -/
theorem v97_at (j : Fin 256) (d : Fin 128) :
    Cert.Reference6Ideal.Read.val_main_v97 (F := Ideal) q k o (ix2 (rowC' b j) (colO h d))
      = ∑ i, tV q k o b h (keyC j) d i := by
  rw [← v120_at q k o b h hq hk, ← vals_ctx]
  unfold Cert.Reference6Ideal.Read.val_main_v97 Cert.Reference6Ideal.Read.val_main_v83
    Cert.Reference6Ideal.Read.val_main_v82 Cert.Reference6Ideal.Read.val_main_v78 rowC' colO keyC
  generalize Cert.Reference6Ideal.Read.val_main_v60 (F := Ideal) q k o = y
  pointwise
  blk_ext

end Cert.Last

end
-- ==== Proof.LastAgree.lean ====
/- The last layer's kernel leaves the reference's five gradients. -/
module

public import proofs.«01_k».proof.Proof.LastArr
public import proofs.«01_k».proof.Proof.LastRef

@[expose] public section

set_option maxRecDepth 16384

noncomputable section

namespace Cert.Last

open Idealize.ShloMosaic Cert.Kernel6Ideal Cert.Kernel6Ideal.Gen Cert.Reference6Ideal.Read Cert.Attn

variable (m : (ℓ : Loc Cert.Kernel6Ideal.nD Cert.Kernel6Ideal.τ Cert.Kernel6Ideal.sig) → Buf (Elt Ideal) ℓ) (c : Dev Cert.Kernel6Ideal.nD)
variable (hq : ∀ x, ∃ r : ℝ, aQ m c x = r) (hk : ∀ x, ∃ r : ℝ, aK m c x = r)

include hq hk

/-- The gradient of the queries. -/
theorem agree_q : ((dats m 0 c).arrAt 6 cfg0.N : Arr 4608 2048)
    = val_main_v93 (F := Ideal) (aQ m c) (aK m c) (aV m c) (aO m c) :=
  funext (forall_rows
    (fun b i => forall_colQ fun h d => (arr6_lat m c b h i d).trans (v93_lat _ _ _ _ b h hq hk i d).symm)
    (fun b i => forall_colQ fun h d => (arr6_ctx m c b h i d).trans (v93_ctx _ _ _ _ b h i d).symm))

/-- The gradient of the latent keys. -/
theorem agree_kl : ((dats m 0 c).arrAt 7 cfg0.N : Arr 4096 2048)
    = val_main_v94 (F := Ideal) (aQ m c) (aK m c) (aV m c) (aO m c) := by
  rw [keys_lat]
  exact funext (forall_rowL' fun b j => forall_colQ fun h d =>
    (arr7_at m c b h j d).trans (v160_at _ _ _ _ b h hq hk j d).symm)

/-- The gradient of the context keys. -/
theorem agree_kc : ((dats m 0 c).arrAt 8 cfg0.N : Arr 512 2048)
    = val_main_v95 (F := Ideal) (aQ m c) (aK m c) (aV m c) (aO m c) :=
  funext (forall_rowC' fun b j => forall_colQ fun h d =>
    (arr8_at m c b h j d).trans (v95_at _ _ _ _ b h hq hk j d).symm)

/-- The gradient of the latent values. -/
theorem agree_vl : ((dats m 0 c).arrAt 9 cfg0.N : Arr 4096 1024)
    = val_main_v96 (F := Ideal) (aQ m c) (aK m c) (aO m c) := by
  rw [vals_lat]
  exact funext (forall_rowL' fun b j => forall_colO fun h d =>
    (arr9_at m c b h j d).trans (v162_at _ _ _ b h hq hk j d).symm)

/-- The gradient of the context values. -/
theorem agree_vc : ((dats m 0 c).arrAt 10 cfg0.N : Arr 512 1024)
    = val_main_v97 (F := Ideal) (aQ m c) (aK m c) (aO m c) :=
  funext (forall_rowC' fun b j => forall_colO fun h d =>
    (arr10_at m c b h j d).trans (v97_at _ _ _ b h hq hk j d).symm)

end Cert.Last

end
-- ==== Proof.AttendFinite.lean ====
/- The forward attention's precondition read at an index: every entry of the queries and of the keys is a real number. -/
module

public import proofs.«01_k».proof.Pre_attend_finite
public import proofs.«01_k».proof.Proof.Finite

@[expose] public section

noncomputable section

namespace Cert.Fwd

open Idealize.ShloMosaic Cert.Attn

/-- The precondition's one shape relation: a single number spreads over every array. -/
theorem attendFacts : Cert.Pre_attend_finite.Facts := ⟨by decide⟩

attribute [local instance] attendFacts in
/-- Where the precondition holds, the queries and the keys are real. -/
theorem real_of_attend (q k kv : Arr 4608 2048)
    (h : Cert.Pre_attend_finite.fn (F := Ideal) q k kv = fun _ => 1#1) :
    (∀ x, ∃ r : ℝ, q x = r) ∧ ∀ x, ∃ r : ℝ, k x = r := by
  have key : ∀ x, (∃ r : ℝ, q x = r) ∧ ∃ r : ℝ, k x = r := fun x => by
    have hx := congrFun h x
    unfold Cert.Pre_attend_finite.fn at hx
    dsimp only at hx
    pointwise at hx
    rw [ofBits_inf] at hx
    have hb := both_of_and _ _ hx
    exact ⟨real_of_abs_lt _ hb.1, real_of_abs_lt _ hb.2⟩
  exact ⟨fun x => (key x).1, fun x => (key x).2⟩

end Cert.Fwd

end
-- ==== Proof.FwdModel.lean ====
/- The attention's output, entry by entry: the two ways in which a row of it is written. -/
module

public import proofs.«01_k».proof.Proof.KPay
public import proofs.«01_k».proof.Proof.RefScores
public import proofs.«01_k».proof.Proof.Gen.Kernel13Ideal.Skeleton
public import proofs.«01_k».proof.Proof.Gen.Kernel14Ideal.Skeleton

@[expose] public section

set_option maxRecDepth 16384

noncomputable section

namespace Cert.Fwd

open Idealize.ShloMosaic Cert.Attn

/-- Dividing the weighted sum by the weights' sum is weighting by the quotients. -/
theorem div_sum {n : ℕ} (hn : 0 < n) (s v : Fin n → EReal) (hs : ∀ k, ∃ r : ℝ, s k = (r : EReal)) :
    Ideal.div (∑ k, smE s k * v k) (∑ k, smE s k) = ∑ k, smP s k * v k := by
  obtain ⟨D, hD, hd⟩ := sum_smE_real hn s hs
  unfold smP
  rw [hd, Ideal.div_coe hD.ne', Ideal.div_coe hD.ne', one_mul, mul_comm, mul_sum_coe (one_div_pos.mpr hD).le]
  refine Finset.sum_congr rfl fun k _ => ?_
  ac_rfl

section pay
open Cert.KernelIdeal.Gen Cert.KernelIdeal
variable (q kc : Vec Ideal S256x256 .bf16) (kl : Vec Ideal S2048x256 .bf16) (vc : Vec Ideal S256x128 .bf16)
  (vl : Vec Ideal S2048x128 .bf16)

/-- What a latent point of the attention writes. -/
theorem lat_apply (i : Fin 256) (d : Fin 128) :
    Cert.Kernel13Ideal.Gen.k0_pay2 q kc kl vc vl (ix2 i d)
      = Ideal.div (∑ j, smE (srow (k0_pay5 q kc) (k0_pay12 q kl) i) j * cat (fun j => vc (ix2 j d)) (fun j => vl (ix2 j d)) j)
          (∑ j, smE (srow (k0_pay5 q kc) (k0_pay12 q kl) i) j) := by
  rw [sum_key, sum_key]
  simp only [cat_keyC, cat_keyL, ← pay14_apply, ← pay15_apply]
  unfold Cert.Kernel13Ideal.Gen.k0_pay2
  rw [show Cert.Kernel13Ideal.Gen.k0_pay1 q kc = k0_pay5 q kc from rfl]
  pointwise
  simp only [pay14_apply, pay15_apply, smE, rowMax_key, srow, cat_keyC, cat_keyL]
  simp only [pay12_apply, rowMax, scale, ofBits_ninf]

/-- The last layer's attention writes the same at a latent point. -/
theorem last_eq : Cert.Kernel14Ideal.Gen.k0_pay1 q kc kl vc vl = Cert.Kernel13Ideal.Gen.k0_pay2 q kc kl vc vl := rfl

/-- What the context point of the attention writes. -/
theorem ctx_apply (i : Fin 256) (d : Fin 128) :
    Cert.Kernel13Ideal.Gen.k0_pay3 q kc vc (ix2 i d)
      = Ideal.div (∑ j, smE (fun j => k0_pay5 q kc (ix2 i j)) j * vc (ix2 j d))
          (∑ j, smE (fun j => k0_pay5 q kc (ix2 i j)) j) := by
  unfold Cert.Kernel13Ideal.Gen.k0_pay3
  rw [show Cert.Kernel13Ideal.Gen.k0_pay1 q kc = k0_pay5 q kc from rfl]
  generalize k0_pay5 q kc = s
  pointwise
  rw [ofBits_ninf]
  rfl

end pay

/-- The output at a latent query. -/
def oL (q k kv : Arr 4608 2048) (b : Fin 2) (h : Fin 8) (i : Fin 2048) (d : Fin 128) : EReal :=
  ∑ j, smP (sL q k b h i) j * vals kv b h d j
/-- The output at a context query. -/
def oC (q k kv : Arr 4608 2048) (b : Fin 2) (h : Fin 8) (i : Fin 256) (d : Fin 128) : EReal :=
  ∑ j, smP (sC q k b h i) j * kv (ix2 (rowC b j) (colV h d))

section ref
open Cert.ReferenceIdeal.Read
variable (q k kv : Arr 4608 2048) (b : Fin 2) (h : Fin 8)
variable (hq : ∀ x, ∃ r : ℝ, q x = r) (hk : ∀ x, ∃ r : ℝ, k x = r)
include hq hk

/-- The reference's heads at the latent queries. -/
theorem v56_at (i : Fin 2048) (d : Fin 128) : val_main_v56 (F := Ideal) q k kv (ix4 b h i d) = oL q k kv b h i d := by
  unfold val_main_v56 oL
  pointwise
  simp only [v52_at q k b h hq hk, v24_at]

/-- The reference's heads at the context queries. -/
theorem v88_at (i : Fin 256) (d : Fin 128) : val_main_v88 (F := Ideal) q k kv (ix4 b h i d) = oC q k kv b h i d := by
  unfold val_main_v88 oC
  pointwise
  simp only [v84_at q k b h hq hk, v22_at]

end ref

end Cert.Fwd

end
-- ==== Proof.Fwd13.lean ====
/- The attention: the array its forward kernel leaves is the reference's. -/
module

public import proofs.«01_k».proof.Proof.Gen.Kernel13Ideal.Value
public import proofs.«01_k».proof.Proof.Gen.Reference13Ideal.Read
public import proofs.«01_k».proof.Proof.FwdModel
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Fwd13

open Idealize.ShloMosaic Cert.Kernel13Ideal Cert.Kernel13Ideal.Gen Cert.Attn Cert.Fwd Idealize.ShloMosaic.TcCoe

variable (m : (ℓ : Loc Cert.Kernel13Ideal.nD Cert.Kernel13Ideal.τ Cert.Kernel13Ideal.sig) → Buf (Elt Ideal) ℓ) (c : Dev Cert.Kernel13Ideal.nD)

/-- The queries. -/
abbrev aQ : Arr 4608 2048 := m ((c : Thread nD τ).loc main_arg0)
/-- The keys. -/
abbrev aK : Arr 4608 2048 := m ((c : Thread nD τ).loc main_arg1)
/-- The keys and values. -/
abbrev aV : Arr 4608 2048 := m ((c : Thread nD τ).loc main_arg2)

/-- The query block of a point. -/
abbrev bq (t : Fin cfg0.N) : Vec Ideal S256x256 .bf16 := iblk m c 0 t
/-- The context key block of a point. -/
abbrev bkc (t : Fin cfg0.N) : Vec Ideal S256x256 .bf16 := iblk m c 1 t
/-- The latent key block of a point. -/
abbrev bkl (t : Fin cfg0.N) : Vec Ideal S2048x256 .bf16 := X0_2 m c t
/-- The context value block of a point. -/
abbrev bvc (t : Fin cfg0.N) : Vec Ideal S256x128 .bf16 := iblk m c 3 t
/-- The latent value block of a point. -/
abbrev bvl (t : Fin cfg0.N) : Vec Ideal S2048x128 .bf16 := X0_4 m c t

/-- What a latent point writes. -/
theorem out_lat (t : Fin cfg0.N) (h0 : t.val % 9 ≤ 7) (h1 : ¬t.val % 9 = 8) :
    outsAt0 m c t.val t.isLt = Cert.Kernel13Ideal.Gen.k0_pay2 (bq m c t) (bkc m c t) (bkl m c t) (bvc m c t) (bvl m c t) := by
  rw [outsAt0_A m c t h0 h1]
  frame_out
  try simp only [read_unread_whole]
  try rfl

/-- What a context point writes. -/
theorem out_ctx (t : Fin cfg0.N) (h0 : ¬t.val % 9 ≤ 7) (h1 : t.val % 9 = 8) :
    outsAt0 m c t.val t.isLt = k0_pay3 (bq m c t) (bkc m c t) (bvc m c t) := by
  rw [outsAt0_B m c t h0 h1]
  frame_out
  try simp only [read_unread_whole]
  try rfl

/-- The key and value windows' block indices at every point. -/
theorem idxs : ∀ t : Fin cfg0.N,
    win0_1.index t = ![16 + t.val / 72, t.val / 9 % 8] ∧ win0_2.index t = ![t.val / 72, t.val / 9 % 8]
    ∧ win0_3.index t = ![16 + t.val / 72, 8 + t.val / 9 % 8] ∧ win0_4.index t = ![t.val / 72, 8 + t.val / 9 % 8] :=
  (by decide +kernel : ∀ t : Fin grid0.N, _)

/-- The query row's block index at a latent point. -/
theorem idx_lat : ∀ t : Fin cfg0.N, t.val % 9 < 8 →
    win0_0.index t = ![8 * (t.val / 72) + t.val % 9, t.val / 9 % 8]
    ∧ win0_5.index t = ![8 * (t.val / 72) + t.val % 9, t.val / 9 % 8] :=
  (by decide +kernel : ∀ t : Fin grid0.N, _)

/-- The query row's block index at a context point. -/
theorem idx_ctx : ∀ t : Fin cfg0.N, t.val % 9 = 8 →
    win0_0.index t = ![16 + t.val / 72, t.val / 9 % 8] ∧ win0_5.index t = ![16 + t.val / 72, t.val / 9 % 8] :=
  (by decide +kernel : ∀ t : Fin grid0.N, _)

variable (b : Fin 2) (h : Fin 8) (t : Fin cfg0.N)

/-- The 9 points of one batch and head are among the grid's. -/
theorem point_lt (n : ℕ) (hn : n < 9) : (b.val * 8 + h.val) * 9 + n < cfg0.N := by
  rw [show cfg0.N = 144 from N_0]
  omega

theorem bkc_at (n : Fin 9) (ht : t.val = (b.val * 8 + h.val) * 9 + n.val) (j d : Fin 256) :
    bkc m c t (ix2 j d) = aK m c (ix2 (rowC b j) (colQ h d)) := by
  have e := (idxs t).1
  have h1 : t.val / 72 = b.val := by omega
  have h2 : t.val / 9 % 8 = h.val := by omega
  rw [h1, h2] at e
  unfold bkc rowC colQ
  blk_ext [iblk, V, e]

theorem bvc_at (n : Fin 9) (ht : t.val = (b.val * 8 + h.val) * 9 + n.val) (j : Fin 256) (d : Fin 128) :
    bvc m c t (ix2 j d) = aV m c (ix2 (rowC b j) (colV h d)) := by
  have e := (idxs t).2.2.1
  have h1 : t.val / 72 = b.val := by omega
  have h2 : t.val / 9 % 8 = h.val := by omega
  rw [h1, h2] at e
  unfold bvc rowC colV
  blk_ext [iblk, V, e]

theorem bkl_at (n : Fin 9) (ht : t.val = (b.val * 8 + h.val) * 9 + n.val) (j : Fin 2048) (d : Fin 256) :
    bkl m c t (ix2 j d) = aK m c (ix2 (rowL b j) (colQ h d)) := by
  have e := (idxs t).2.1
  have h1 : t.val / 72 = b.val := by omega
  have h2 : t.val / 9 % 8 = h.val := by omega
  rw [h1, h2] at e
  unfold bkl rowL colQ X0_2 Pipeline.Window.fill
  rw [dif_pos (moved0_2 t _)]
  blk_ext [iblk, V, e]

theorem bvl_at (n : Fin 9) (ht : t.val = (b.val * 8 + h.val) * 9 + n.val) (j : Fin 2048) (d : Fin 128) :
    bvl m c t (ix2 j d) = aV m c (ix2 (rowL b j) (colV h d)) := by
  have e := (idxs t).2.2.2
  have h1 : t.val / 72 = b.val := by omega
  have h2 : t.val / 9 % 8 = h.val := by omega
  rw [h1, h2] at e
  unfold bvl rowL colV X0_4 Pipeline.Window.fill
  rw [dif_pos (moved0_4 t _)]
  blk_ext [iblk, V, e]

theorem bq_lat (s : Fin 8) (ht : t.val = (b.val * 8 + h.val) * 9 + s.val) (i d : Fin 256) :
    bq m c t (ix2 i d) = aQ m c (ix2 (rowL b (qrow s i)) (colQ h d)) := by
  have e := (idx_lat t (by omega)).1
  have h1 : t.val / 72 = b.val := by omega
  have h2 : t.val / 9 % 8 = h.val := by omega
  have h3 : t.val % 9 = s.val := by omega
  rw [h1, h2, h3] at e
  unfold bq rowL colQ qrow
  blk_ext [iblk, V, e]

theorem bq_ctx (ht : t.val = (b.val * 8 + h.val) * 9 + 8) (i d : Fin 256) :
    bq m c t (ix2 i d) = aQ m c (ix2 (rowC b i) (colQ h d)) := by
  have e := (idx_ctx t (by omega)).1
  have h1 : t.val / 72 = b.val := by omega
  have h2 : t.val / 9 % 8 = h.val := by omega
  rw [h1, h2] at e
  unfold bq rowC colQ
  blk_ext [iblk, V, e]

/-- A context point's rows of scores. -/
theorem row_s (ht : t.val = (b.val * 8 + h.val) * 9 + 8) (i : Fin 256) :
    (fun j => Cert.KernelIdeal.Gen.k0_pay5 (bq m c t) (bkc m c t) (ix2 i j)) = sC (aQ m c) (aK m c) b h i := by
  funext j
  unfold sC
  rw [pay5_apply]
  congr 1
  exact Finset.sum_congr rfl fun d _ => by
    rw [bq_ctx m c b h t ht, bkc_at m c b h t 8 ht]

/-- A latent point's rows of scores. -/
theorem srow_s (s : Fin 8) (ht : t.val = (b.val * 8 + h.val) * 9 + s.val) (i : Fin 256) :
    srow (Cert.KernelIdeal.Gen.k0_pay5 (bq m c t) (bkc m c t)) (Cert.KernelIdeal.Gen.k0_pay12 (bq m c t) (bkl m c t)) i
      = sL (aQ m c) (aK m c) b h (qrow s i) := by
  funext j
  revert j
  refine forall_key (fun j => ?_) (fun j => ?_)
  · unfold srow sL keys
    simp only [cat_keyC]
    rw [pay5_apply]
    congr 1
    exact Finset.sum_congr rfl fun d _ => by
      rw [bq_lat m c b h t s ht, bkc_at m c b h t s.castSucc ht]
  · unfold srow sL keys
    simp only [cat_keyL]
    rw [pay12_apply]
    congr 1
    exact Finset.sum_congr rfl fun d _ => by
      rw [bq_lat m c b h t s ht, bkl_at m c b h t s.castSucc ht]

/-- A latent point's values. -/
theorem vrow (s : Fin 8) (ht : t.val = (b.val * 8 + h.val) * 9 + s.val) (d : Fin 128) :
    cat (fun j => bvc m c t (ix2 j d)) (fun j => bvl m c t (ix2 j d)) = vals (aV m c) b h d := by
  unfold vals
  congr 1
  · funext j
    exact bvc_at m c b h t s.castSucc ht j d
  · funext j
    exact bvl_at m c b h t s.castSucc ht j d

section
variable (hq : ∀ x, ∃ r : ℝ, aQ m c x = r) (hk : ∀ x, ∃ r : ℝ, aK m c x = r)

include hq hk in
/-- A latent query's output in the kernel's array. -/
theorem arr_lat (i : Fin 2048) (d : Fin 128) :
    ((dats m 0 c).arrAt 5 cfg0.N : Arr 4608 1024) (ix2 (rowL b i) (colO h d))
      = oL (aQ m c) (aK m c) (aV m c) b h i d := by
  revert i
  refine forall_qrow fun s i => ?_
  set t : Fin cfg0.N := ⟨(b.val * 8 + h.val) * 9 + s.val, point_lt b h s.val (by omega)⟩ with ht
  have hv : t.val = (b.val * 8 + h.val) * 9 + s.val := rfl
  have hb := congrFun (Value.blocks5 m c t (flush0_5 t)) (ix2 i d)
  rw [Value.flushed5, out_lat m c t (by omega) (by omega)] at hb
  refine Eq.trans ?_ (hb.trans ?_)
  · have e := (idx_lat t (by omega)).2
    have e1 : t.val / 72 = b.val := by omega
    have e2 : t.val / 9 % 8 = h.val := by omega
    have e3 : t.val % 9 = s.val := by omega
    rw [e1, e2, e3] at e
    unfold rowL colO qrow
    blk_ext [e]
  · refine (lat_apply _ _ _ _ _ i d).trans ?_
    rw [srow_s m c b h t s hv, vrow m c b h t s hv]
    exact div_sum (by omega) _ _ (sL_real _ _ b h hq hk _)

include hq hk in
/-- A context query's output in the kernel's array. -/
theorem arr_ctx (i : Fin 256) (d : Fin 128) :
    ((dats m 0 c).arrAt 5 cfg0.N : Arr 4608 1024) (ix2 (rowC b i) (colO h d))
      = oC (aQ m c) (aK m c) (aV m c) b h i d := by
  set t : Fin cfg0.N := ⟨(b.val * 8 + h.val) * 9 + 8, point_lt b h 8 (by omega)⟩ with ht
  have hv : t.val = (b.val * 8 + h.val) * 9 + 8 := rfl
  have h8 : t.val % 9 = 8 := by omega
  have hb := congrFun (Value.blocks5 m c t (flush0_5 t)) (ix2 i d)
  rw [Value.flushed5, out_ctx m c t (by omega) h8] at hb
  refine Eq.trans ?_ (hb.trans ?_)
  · have e := (idx_ctx t h8).2
    have e1 : t.val / 72 = b.val := by omega
    have e2 : t.val / 9 % 8 = h.val := by omega
    rw [e1, e2] at e
    unfold rowC colO
    blk_ext [e]
  · refine (ctx_apply _ _ _ i d).trans ?_
    rw [row_s m c b h t hv]
    refine (div_sum (by omega) _ _ (sC_real _ _ b h hq hk i)).trans ?_
    unfold oC
    exact Finset.sum_congr rfl fun j _ => by rw [bvc_at m c b h t 8 hv]

end

section ref
variable (q k kv : Arr 4608 2048)

/-- The reference's output is the one whose gradient the attention's backward takes. -/
theorem ref_lat : Cert.Reference13Ideal.Read.val_main_v55 (F := Ideal) q k kv
    = Cert.ReferenceIdeal.Read.val_main_v90 (F := Ideal) q k kv := rfl

theorem ref_ctx : Cert.Reference13Ideal.Read.val_main_v57 (F := Ideal) q k kv
    = Cert.ReferenceIdeal.Read.val_main_v92 (F := Ideal) q k kv := rfl

variable (hq : ∀ x, ∃ r : ℝ, q x = r) (hk : ∀ x, ∃ r : ℝ, k x = r)
include hq hk

/-- The reference's latent rows. -/
theorem v55_at (i : Fin 2048) (d : Fin 128) :
    Cert.Reference13Ideal.Read.val_main_v55 (F := Ideal) q k kv (ix2 (rowL' b i) (colO h d)) = oL q k kv b h i d := by
  rw [ref_lat, ← v56_at q k kv b h hq hk]
  unfold Cert.ReferenceIdeal.Read.val_main_v90 Cert.ReferenceIdeal.Read.val_main_v89 rowL' colO
  generalize Cert.ReferenceIdeal.Read.val_main_v56 (F := Ideal) q k kv = y
  pointwise
  blk_ext

/-- The reference's context rows. -/
theorem v57_at (i : Fin 256) (d : Fin 128) :
    Cert.Reference13Ideal.Read.val_main_v57 (F := Ideal) q k kv (ix2 (rowC' b i) (colO h d)) = oC q k kv b h i d := by
  rw [ref_ctx, ← v88_at q k kv b h hq hk]
  unfold Cert.ReferenceIdeal.Read.val_main_v92 Cert.ReferenceIdeal.Read.val_main_v91 rowC' colO
  generalize Cert.ReferenceIdeal.Read.val_main_v88 (F := Ideal) q k kv = y
  pointwise
  blk_ext

theorem v59_lat (i : Fin 2048) (d : Fin 128) :
    Cert.Reference13Ideal.Read.val_main_v59 (F := Ideal) q k kv (ix2 (rowL b i) (colO h d)) = oL q k kv b h i d := by
  rw [← v55_at b h q k kv hq hk]
  unfold Cert.Reference13Ideal.Read.val_main_v59 Cert.Reference13Ideal.Read.val_main_v58
  generalize Cert.Reference13Ideal.Read.val_main_v55 (F := Ideal) q k kv = y
  generalize Cert.Reference13Ideal.Read.val_main_v57 (F := Ideal) q k kv = z
  pointwise
  rw [dif_pos (show (rowL b i).val < 4096 by simp only [rowL]; omega)]
  rfl

theorem v59_ctx (i : Fin 256) (d : Fin 128) :
    Cert.Reference13Ideal.Read.val_main_v59 (F := Ideal) q k kv (ix2 (rowC b i) (colO h d)) = oC q k kv b h i d := by
  rw [← v57_at b h q k kv hq hk]
  unfold Cert.Reference13Ideal.Read.val_main_v59 Cert.Reference13Ideal.Read.val_main_v58
  generalize Cert.Reference13Ideal.Read.val_main_v55 (F := Ideal) q k kv = y
  generalize Cert.Reference13Ideal.Read.val_main_v57 (F := Ideal) q k kv = z
  pointwise
  rw [dif_neg (show ¬(rowC b i).val < 4096 by simp only [rowC]; omega)]
  refine congrArg z (congrArg (fun r => ix2 r (colO h d)) (Fin.ext ?_))
  show 4096 + 256 * b.val + i.val - 4096 = 256 * b.val + i.val
  omega

end ref

variable (hq : ∀ x, ∃ r : ℝ, aQ m c x = r) (hk : ∀ x, ∃ r : ℝ, aK m c x = r)
include hq hk

/-- The kernel's array is the reference's. -/
theorem final : ((dats m 0 c).arrAt 5 cfg0.N : Arr 4608 1024)
    = Cert.Reference13Ideal.Read.val_main_v59 (F := Ideal) (aQ m c) (aK m c) (aV m c) :=
  funext (forall_rows
    (fun b i => forall_colO fun h d => (arr_lat m c b h hq hk i d).trans (v59_lat b h _ _ _ hq hk i d).symm)
    (fun b i => forall_colO fun h d => (arr_ctx m c b h hq hk i d).trans (v59_ctx b h _ _ _ hq hk i d).symm))

end Cert.Fwd13

end
-- ==== Proof.Fwd14.lean ====
/- The attention's last layer: the array its forward kernel leaves is the reference's. -/
module

public import proofs.«01_k».proof.Proof.Gen.Kernel14Ideal.Value
public import proofs.«01_k».proof.Proof.Gen.Reference14Ideal.Read
public import proofs.«01_k».proof.Proof.FwdModel
public import Idealize.ShloMosaic.Lib.Pipeline.ValueKit
public import Idealize.ShloMosaic.Lib.Pipeline.ReadBack
public import Idealize.ShloMosaic.Lib.KernelVsHost

@[expose] public section

set_option maxRecDepth 16384

noncomputable section

namespace Cert.Fwd14

open Idealize.ShloMosaic Cert.Kernel14Ideal Cert.Kernel14Ideal.Gen Cert.Attn Cert.Fwd Idealize.ShloMosaic.TcCoe

variable (m : (ℓ : Loc Cert.Kernel14Ideal.nD Cert.Kernel14Ideal.τ Cert.Kernel14Ideal.sig) → Buf (Elt Ideal) ℓ) (c : Dev Cert.Kernel14Ideal.nD)

/-- The queries. -/
abbrev aQ : Arr 4608 2048 := m ((c : Thread nD τ).loc main_arg0)
/-- The keys. -/
abbrev aK : Arr 4608 2048 := m ((c : Thread nD τ).loc main_arg1)
/-- The keys and values. -/
abbrev aV : Arr 4608 2048 := m ((c : Thread nD τ).loc main_arg2)

/-- The query block of a point. -/
abbrev bq (t : Fin cfg0.N) : Vec Ideal S256x256 .bf16 := iblk m c 0 t
/-- The context key block of a point. -/
abbrev bkc (t : Fin cfg0.N) : Vec Ideal S256x256 .bf16 := iblk m c 1 t
/-- The latent key block of a point. -/
abbrev bkl (t : Fin cfg0.N) : Vec Ideal S2048x256 .bf16 := X0_2 m c t
/-- The context value block of a point. -/
abbrev bvc (t : Fin cfg0.N) : Vec Ideal S256x128 .bf16 := iblk m c 3 t
/-- The latent value block of a point. -/
abbrev bvl (t : Fin cfg0.N) : Vec Ideal S2048x128 .bf16 := X0_4 m c t

/-- What a latent point writes. -/
theorem out_lat (t : Fin cfg0.N) (h0 : t.val % 9 ≤ 7) (h1 : ¬t.val % 9 = 8) :
    outsAt0 m c t.val t.isLt = Cert.Kernel13Ideal.Gen.k0_pay2 (bq m c t) (bkc m c t) (bkl m c t) (bvc m c t) (bvl m c t) := by
  rw [outsAt0_A m c t h0 h1]
  frame_out
  try simp only [read_unread_whole]
  try rfl

/-- What a context point writes. -/
theorem out_ctx (t : Fin cfg0.N) (h0 : ¬t.val % 9 ≤ 7) (h1 : t.val % 9 = 8) :
    outsAt0 m c t.val t.isLt = k0_pay2 (F := Ideal) := by
  rw [outsAt0_B m c t h0 h1]
  frame_out
  try simp only [read_unread_whole]
  try rfl

/-- The key and value windows' block indices at every point. -/
theorem idxs : ∀ t : Fin cfg0.N,
    win0_1.index t = ![16 + t.val / 72, t.val / 9 % 8] ∧ win0_2.index t = ![t.val / 72, t.val / 9 % 8]
    ∧ win0_3.index t = ![16 + t.val / 72, 8 + t.val / 9 % 8] ∧ win0_4.index t = ![t.val / 72, 8 + t.val / 9 % 8] :=
  (by decide +kernel : ∀ t : Fin grid0.N, _)

/-- The query row's block index at a latent point. -/
theorem idx_lat : ∀ t : Fin cfg0.N, t.val % 9 < 8 →
    win0_0.index t = ![8 * (t.val / 72) + t.val % 9, t.val / 9 % 8]
    ∧ win0_5.index t = ![8 * (t.val / 72) + t.val % 9, t.val / 9 % 8] :=
  (by decide +kernel : ∀ t : Fin grid0.N, _)

/-- The query row's block index at a context point. -/
theorem idx_ctx : ∀ t : Fin cfg0.N, t.val % 9 = 8 →
    win0_0.index t = ![16 + t.val / 72, t.val / 9 % 8] ∧ win0_5.index t = ![16 + t.val / 72, t.val / 9 % 8] :=
  (by decide +kernel : ∀ t : Fin grid0.N, _)

variable (b : Fin 2) (h : Fin 8) (t : Fin cfg0.N)

/-- The 9 points of one batch and head are among the grid's. -/
theorem point_lt (n : ℕ) (hn : n < 9) : (b.val * 8 + h.val) * 9 + n < cfg0.N := by
  rw [show cfg0.N = 144 from N_0]
  omega

theorem bkc_at (n : Fin 9) (ht : t.val = (b.val * 8 + h.val) * 9 + n.val) (j d : Fin 256) :
    bkc m c t (ix2 j d) = aK m c (ix2 (rowC b j) (colQ h d)) := by
  have e := (idxs t).1
  have h1 : t.val / 72 = b.val := by omega
  have h2 : t.val / 9 % 8 = h.val := by omega
  rw [h1, h2] at e
  unfold bkc rowC colQ
  blk_ext [iblk, V, e]

theorem bvc_at (n : Fin 9) (ht : t.val = (b.val * 8 + h.val) * 9 + n.val) (j : Fin 256) (d : Fin 128) :
    bvc m c t (ix2 j d) = aV m c (ix2 (rowC b j) (colV h d)) := by
  have e := (idxs t).2.2.1
  have h1 : t.val / 72 = b.val := by omega
  have h2 : t.val / 9 % 8 = h.val := by omega
  rw [h1, h2] at e
  unfold bvc rowC colV
  blk_ext [iblk, V, e]

theorem bkl_at (n : Fin 9) (ht : t.val = (b.val * 8 + h.val) * 9 + n.val) (j : Fin 2048) (d : Fin 256) :
    bkl m c t (ix2 j d) = aK m c (ix2 (rowL b j) (colQ h d)) := by
  have e := (idxs t).2.1
  have h1 : t.val / 72 = b.val := by omega
  have h2 : t.val / 9 % 8 = h.val := by omega
  rw [h1, h2] at e
  unfold bkl rowL colQ X0_2 Pipeline.Window.fill
  rw [dif_pos (moved0_2 t _)]
  blk_ext [iblk, V, e]

theorem bvl_at (n : Fin 9) (ht : t.val = (b.val * 8 + h.val) * 9 + n.val) (j : Fin 2048) (d : Fin 128) :
    bvl m c t (ix2 j d) = aV m c (ix2 (rowL b j) (colV h d)) := by
  have e := (idxs t).2.2.2
  have h1 : t.val / 72 = b.val := by omega
  have h2 : t.val / 9 % 8 = h.val := by omega
  rw [h1, h2] at e
  unfold bvl rowL colV X0_4 Pipeline.Window.fill
  rw [dif_pos (moved0_4 t _)]
  blk_ext [iblk, V, e]

theorem bq_lat (s : Fin 8) (ht : t.val = (b.val * 8 + h.val) * 9 + s.val) (i d : Fin 256) :
    bq m c t (ix2 i d) = aQ m c (ix2 (rowL b (qrow s i)) (colQ h d)) := by
  have e := (idx_lat t (by omega)).1
  have h1 : t.val / 72 = b.val := by omega
  have h2 : t.val / 9 % 8 = h.val := by omega
  have h3 : t.val % 9 = s.val := by omega
  rw [h1, h2, h3] at e
  unfold bq rowL colQ qrow
  blk_ext [iblk, V, e]

/-- A latent point's rows of scores. -/
theorem srow_s (s : Fin 8) (ht : t.val = (b.val * 8 + h.val) * 9 + s.val) (i : Fin 256) :
    srow (Cert.KernelIdeal.Gen.k0_pay5 (bq m c t) (bkc m c t)) (Cert.KernelIdeal.Gen.k0_pay12 (bq m c t) (bkl m c t)) i
      = sL (aQ m c) (aK m c) b h (qrow s i) := by
  funext j
  revert j
  refine forall_key (fun j => ?_) (fun j => ?_)
  · unfold srow sL keys
    simp only [cat_keyC]
    rw [pay5_apply]
    congr 1
    exact Finset.sum_congr rfl fun d _ => by
      rw [bq_lat m c b h t s ht, bkc_at m c b h t s.castSucc ht]
  · unfold srow sL keys
    simp only [cat_keyL]
    rw [pay12_apply]
    congr 1
    exact Finset.sum_congr rfl fun d _ => by
      rw [bq_lat m c b h t s ht, bkl_at m c b h t s.castSucc ht]

/-- A latent point's values. -/
theorem vrow (s : Fin 8) (ht : t.val = (b.val * 8 + h.val) * 9 + s.val) (d : Fin 128) :
    cat (fun j => bvc m c t (ix2 j d)) (fun j => bvl m c t (ix2 j d)) = vals (aV m c) b h d := by
  unfold vals
  congr 1
  · funext j
    exact bvc_at m c b h t s.castSucc ht j d
  · funext j
    exact bvl_at m c b h t s.castSucc ht j d

section
variable (hq : ∀ x, ∃ r : ℝ, aQ m c x = r) (hk : ∀ x, ∃ r : ℝ, aK m c x = r)

include hq hk in
/-- A latent query's output in the kernel's array. -/
theorem arr_lat (i : Fin 2048) (d : Fin 128) :
    ((dats m 0 c).arrAt 5 cfg0.N : Arr 4608 1024) (ix2 (rowL b i) (colO h d))
      = oL (aQ m c) (aK m c) (aV m c) b h i d := by
  revert i
  refine forall_qrow fun s i => ?_
  set t : Fin cfg0.N := ⟨(b.val * 8 + h.val) * 9 + s.val, point_lt b h s.val (by omega)⟩ with ht
  have hv : t.val = (b.val * 8 + h.val) * 9 + s.val := rfl
  have hb := congrFun (Value.blocks5 m c t (flush0_5 t)) (ix2 i d)
  rw [Value.flushed5, out_lat m c t (by omega) (by omega)] at hb
  refine Eq.trans ?_ (hb.trans ?_)
  · have e := (idx_lat t (by omega)).2
    have e1 : t.val / 72 = b.val := by omega
    have e2 : t.val / 9 % 8 = h.val := by omega
    have e3 : t.val % 9 = s.val := by omega
    rw [e1, e2, e3] at e
    unfold rowL colO qrow
    blk_ext [e]
  · refine (lat_apply _ _ _ _ _ i d).trans ?_
    rw [srow_s m c b h t s hv, vrow m c b h t s hv]
    exact div_sum (by omega) _ _ (sL_real _ _ b h hq hk _)

/-- A context query's output in the kernel's array. -/
theorem arr_ctx (i : Fin 256) (d : Fin 128) :
    ((dats m 0 c).arrAt 5 cfg0.N : Arr 4608 1024) (ix2 (rowC b i) (colO h d))
      = (0 : EReal) := by
  set t : Fin cfg0.N := ⟨(b.val * 8 + h.val) * 9 + 8, point_lt b h 8 (by omega)⟩ with ht
  have hv : t.val = (b.val * 8 + h.val) * 9 + 8 := rfl
  have h8 : t.val % 9 = 8 := by omega
  have hb := congrFun (Value.blocks5 m c t (flush0_5 t)) (ix2 i d)
  rw [Value.flushed5, out_ctx m c t (by omega) h8] at hb
  refine Eq.trans ?_ (hb.trans ?_)
  · have e := (idx_ctx t h8).2
    have e1 : t.val / 72 = b.val := by omega
    have e2 : t.val / 9 % 8 = h.val := by omega
    rw [e1, e2] at e
    unfold rowC colO
    blk_ext [e]
  · exact Ideal.ofBits_zero_bf16

end

section ref
variable (q k kv : Arr 4608 2048)

/-- The reference's latent rows are the attention's. -/
theorem ref_lat : Cert.Reference14Ideal.Read.val_main_v37 (F := Ideal) q k kv
    = Cert.ReferenceIdeal.Read.val_main_v90 (F := Ideal) q k kv := rfl

theorem v40_ctx (i : Fin 256) (d : Fin 128) :
    Cert.Reference14Ideal.Read.val_main_v40 (F := Ideal) q k kv (ix2 (rowC b i) (colO h d)) = (0 : EReal) := by
  unfold Cert.Reference14Ideal.Read.val_main_v40 Cert.Reference14Ideal.Read.val_main_v39
    Cert.Reference14Ideal.Read.val_main_v38 Cert.Reference14Ideal.Read.val_main_cst_3
  generalize Cert.Reference14Ideal.Read.val_main_v37 (F := Ideal) q k kv = y
  pointwise
  rw [dif_neg (show ¬(rowC b i).val < 4096 by simp only [rowC]; omega)]

variable (hq : ∀ x, ∃ r : ℝ, q x = r) (hk : ∀ x, ∃ r : ℝ, k x = r)
include hq hk

/-- The reference's latent rows. -/
theorem v37_at (i : Fin 2048) (d : Fin 128) :
    Cert.Reference14Ideal.Read.val_main_v37 (F := Ideal) q k kv (ix2 (rowL' b i) (colO h d)) = oL q k kv b h i d := by
  rw [ref_lat, ← v56_at q k kv b h hq hk]
  unfold Cert.ReferenceIdeal.Read.val_main_v90 Cert.ReferenceIdeal.Read.val_main_v89 rowL' colO
  generalize Cert.ReferenceIdeal.Read.val_main_v56 (F := Ideal) q k kv = y
  pointwise
  blk_ext

theorem v40_lat (i : Fin 2048) (d : Fin 128) :
    Cert.Reference14Ideal.Read.val_main_v40 (F := Ideal) q k kv (ix2 (rowL b i) (colO h d)) = oL q k kv b h i d := by
  rw [← v37_at b h q k kv hq hk]
  unfold Cert.Reference14Ideal.Read.val_main_v40 Cert.Reference14Ideal.Read.val_main_v39
  generalize Cert.Reference14Ideal.Read.val_main_v37 (F := Ideal) q k kv = y
  generalize Cert.Reference14Ideal.Read.val_main_v38 (F := Ideal) = z
  pointwise
  rw [dif_pos (show (rowL b i).val < 4096 by simp only [rowL]; omega)]
  rfl

end ref

variable (hq : ∀ x, ∃ r : ℝ, aQ m c x = r) (hk : ∀ x, ∃ r : ℝ, aK m c x = r)
include hq hk

/-- The kernel's array is the reference's. -/
theorem final : ((dats m 0 c).arrAt 5 cfg0.N : Arr 4608 1024)
    = Cert.Reference14Ideal.Read.val_main_v40 (F := Ideal) (aQ m c) (aK m c) (aV m c) :=
  funext (forall_rows
    (fun b i => forall_colO fun h d => (arr_lat m c b h hq hk i d).trans (v40_lat b h _ _ _ hq hk i d).symm)
    (fun b i => forall_colO fun h d => (arr_ctx m c b h i d).trans (v40_ctx b h _ _ _ i d).symm))

end Cert.Fwd14

end
-- ==== Proof.Heads.lean ====
/- The claims about the last layer's attention and about the attention itself: each reference's run and frame, and each kernel's arrays against them. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.LastAgree
public import proofs.«01_k».proof.Proof.Finite
public import proofs.«01_k».proof.Proof.AttendFinite
public import proofs.«01_k».proof.Proof.Fwd13
public import proofs.«01_k».proof.Proof.Fwd14
public import Idealize.ShloMosaic.Lib.Quiescent
public import Idealize.ShloMosaic.Adequacy
public import Idealize.ShloMosaic.Init

@[expose] public section

noncomputable section

namespace Cert.Proof

open Idealize.ShloMosaic Idealize.SL.Sem

open Cert.Reference6Ideal in
/-- The reference of the gradients of the last layer's attention runs, keeps its arguments, and has no counter to leave raised. -/
theorem frame_reference6
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2.2.2, sem_eq_zero_of_no_sems (by decide) r.2⟩)
    (Cert.Reference6Ideal.Value.run (F := Ideal) m g)

open Cert.Reference6Ideal in
/-- The results of the reference of the gradients of the last layer's attention, as functions of its argument arrays. -/
theorem run_reference6
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v93) = Read.val_main_v93 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v94) = Read.val_main_v94 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v95) = Read.val_main_v95 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v96) = Read.val_main_v96 (F := Ideal) (m ((c.tc : Thread nD τ).loc main_arg0)) (m ((c.tc : Thread nD τ).loc main_arg1)) (m ((c.tc : Thread nD τ).loc main_arg3))
        ∧ r.2.mem ((c.tc : Thread nD τ).loc main_v97) = Read.val_main_v97 (F := Ideal) (m ((c.tc : Thread nD τ).loc main_arg0)) (m ((c.tc : Thread nD τ).loc main_arg1)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c).1.trans (Read.val_main_v93_eq (F := Ideal) _ _),
      (h c).2.1.trans (Read.val_main_v94_eq (F := Ideal) _ _),
      (h c).2.2.1.trans (Read.val_main_v95_eq (F := Ideal) _ _),
      (h c).2.2.2.1.trans (Read.val_main_v96_eq (F := Ideal) _ _),
      (h c).2.2.2.2.1.trans (Read.val_main_v97_eq (F := Ideal) _ _),
      (h c).2.2.2.2.2⟩)
    (Cert.Reference6Ideal.Value.run (F := Ideal) m g)

attribute [local instance] Cert.Attn.preFacts in
/-- Where the queries and the keys are finite, the kernel of the gradients of the last layer's attention computes what its reference does. -/
theorem algebraic6 : Cert.algebraic_Kernel6Ideal_Reference6Ideal_pre_scores_finite := by
  intro m g m' g' hpre hagree
  refine ⟨fun c => (Cert.Kernel6Ideal.Gen.dats m 0 c).arrAt 6 Cert.Kernel6Ideal.cfg0.N,
    fun c => (Cert.Kernel6Ideal.Gen.dats m 0 c).arrAt 7 Cert.Kernel6Ideal.cfg0.N,
    fun c => (Cert.Kernel6Ideal.Gen.dats m 0 c).arrAt 8 Cert.Kernel6Ideal.cfg0.N,
    fun c => (Cert.Kernel6Ideal.Gen.dats m 0 c).arrAt 9 Cert.Kernel6Ideal.cfg0.N,
    fun c => (Cert.Kernel6Ideal.Gen.dats m 0 c).arrAt 10 Cert.Kernel6Ideal.cfg0.N,
    Cert.Kernel6Ideal.Value.run_blocks (F := Ideal) m g, ?_⟩
  refine (θ_run Cert.Reference6Ideal.defs _ _).mono (fun r h c => ?_) (run_reference6 m' g')
  obtain ⟨hq, hk⟩ := Cert.Attn.real_of_pre _ _ _ _ (hpre c)
  obtain ⟨e0, e1, e2, e3⟩ := hagree c
  obtain ⟨h0, h1, h2, h3, h4, hargs⟩ := h c
  rw [e0, e1, e2, e3] at h0
  rw [e0, e1, e2, e3] at h1
  rw [e0, e1, e2, e3] at h2
  rw [e0, e1, e3] at h3
  rw [e0, e1, e3] at h4
  exact ⟨h0.trans (Cert.Last.agree_q m c hq hk).symm, h1.trans (Cert.Last.agree_kl m c hq hk).symm, h2.trans (Cert.Last.agree_kc m c hq hk).symm, h3.trans (Cert.Last.agree_vl m c hq hk).symm, h4.trans (Cert.Last.agree_vc m c hq hk).symm, hargs⟩

open Cert.Reference13Ideal in
/-- The reference of the attention runs, keeps its arguments, and has no counter to leave raised. -/
theorem frame_reference13
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩)
    (Cert.Reference13Ideal.Value.run (F := Ideal) m g)

open Cert.Reference13Ideal in
/-- The results of the reference of the attention, as functions of its argument arrays. -/
theorem run_reference13
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v59) = Read.val_main_v59 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v59_eq (F := Ideal) _ _),
      (h c).2⟩)
    (Cert.Reference13Ideal.Value.run (F := Ideal) m g)

attribute [local instance] Cert.Fwd.attendFacts in
/-- Where the queries and the keys are finite, the kernel of the attention computes what its reference does. -/
theorem algebraic13 : Cert.algebraic_Kernel13Ideal_Reference13Ideal_pre_attend_finite := by
  intro m g m' g' hpre hagree
  refine ⟨fun c => (Cert.Kernel13Ideal.Gen.dats m 0 c).arrAt 5 Cert.Kernel13Ideal.cfg0.N,
    Cert.Kernel13Ideal.Value.run_blocks (F := Ideal) m g, ?_⟩
  refine (θ_run Cert.Reference13Ideal.defs _ _).mono (fun r h c => ?_) (run_reference13 m' g')
  obtain ⟨hq, hk⟩ := Cert.Fwd.real_of_attend _ _ _ (hpre c)
  obtain ⟨e0, e1, e2⟩ := hagree c
  obtain ⟨h0, hargs⟩ := h c
  rw [e0, e1, e2] at h0
  exact ⟨h0.trans (Cert.Fwd13.final m c hq hk).symm, hargs⟩

open Cert.Reference14Ideal in
/-- The reference of the last layer's attention runs, keeps its arguments, and has no counter to leave raised. -/
theorem frame_reference14
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩)
    (Cert.Reference14Ideal.Value.run (F := Ideal) m g)

open Cert.Reference14Ideal in
/-- The results of the reference of the last layer's attention, as functions of its argument arrays. -/
theorem run_reference14
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v40) = Read.val_main_v40 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v40_eq (F := Ideal) _ _),
      (h c).2⟩)
    (Cert.Reference14Ideal.Value.run (F := Ideal) m g)

attribute [local instance] Cert.Fwd.attendFacts in
/-- Where the queries and the keys are finite, the kernel of the last layer's attention computes what its reference does. -/
theorem algebraic14 : Cert.algebraic_Kernel14Ideal_Reference14Ideal_pre_attend_finite := by
  intro m g m' g' hpre hagree
  refine ⟨fun c => (Cert.Kernel14Ideal.Gen.dats m 0 c).arrAt 5 Cert.Kernel14Ideal.cfg0.N,
    Cert.Kernel14Ideal.Value.run_blocks (F := Ideal) m g, ?_⟩
  refine (θ_run Cert.Reference14Ideal.defs _ _).mono (fun r h c => ?_) (run_reference14 m' g')
  obtain ⟨hq, hk⟩ := Cert.Fwd.real_of_attend _ _ _ (hpre c)
  obtain ⟨e0, e1, e2⟩ := hagree c
  obtain ⟨h0, hargs⟩ := h c
  rw [e0, e1, e2] at h0
  exact ⟨h0.trans (Cert.Fwd14.final m c hq hk).symm, hargs⟩

end Cert.Proof

end
-- ==== Proof.ConvModel.lean ====
/- The gradient of the gated short convolution: the arrays in plain terms, token by token and channel by channel. -/
module

public import Idealize.ShloMosaic.Lib.Pipeline.ValueKit

@[expose] public section

noncomputable section

namespace Cert.Conv

open Idealize.ShloMosaic

/-- The projection's array: for every 256 channels the gate, then the second gate, then the values. -/
abbrev Proj := (⟨2, ![4608, 3072]⟩ : Shape).Idx → EReal
/-- An array of rows of channels. -/
abbrev Rows := (⟨2, ![4608, 1024]⟩ : Shape).Idx → EReal
/-- The three taps. -/
abbrev Taps := (⟨2, ![3, 1024]⟩ : Shape).Idx → EReal

/-- The projection's column of part `n` of a channel. -/
def col (n : Fin 3) (ch : Fin 1024) : Fin 3072 := ⟨768 * (ch.val / 256) + 256 * n.val + ch.val % 256, by omega⟩

/-- A row is the first of its stream. -/
def First (r : ℕ) : Prop := r = 0 ∨ r = 2048 ∨ r = 4096 ∨ r = 4352
/-- A row is the last of its stream. -/
def Last (r : ℕ) : Prop := r = 2047 ∨ r = 4095 ∨ r = 4351 ∨ r = 4607

instance (r : ℕ) : Decidable (First r) := by unfold First; infer_instance
instance (r : ℕ) : Decidable (Last r) := by unfold Last; infer_instance

/-- The value of the row before, zero on the first row of a stream. -/
def prv (g : Fin 4608 → EReal) (r : Fin 4608) : EReal := if First r.val then 0 else g ⟨r.val - 1, by omega⟩
/-- The value of the row after, zero on the last row of a stream. -/
def nxt (g : Fin 4608 → EReal) (r : Fin 4608) : EReal :=
  if h : Last r.val then 0 else g ⟨r.val + 1, by unfold Last at h; omega⟩

/-- What is convolved: the second gate times the values. -/
def pr (x : Proj) (ch : Fin 1024) (r : Fin 4608) : EReal := x (ix2 r (col 1 ch)) * x (ix2 r (col 2 ch))
/-- The gradient of the convolution's result: the cotangent times the gate. -/
def dq (x : Proj) (d : Rows) (ch : Fin 1024) (r : Fin 4608) : EReal := d (ix2 r ch) * x (ix2 r (col 0 ch))

/-- The convolution. -/
def conv (x : Proj) (w : Taps) (ch : Fin 1024) (r : Fin 4608) : EReal :=
  w (ix2 0 ch) * prv (pr x ch) r + w (ix2 1 ch) * pr x ch r + w (ix2 2 ch) * nxt (pr x ch) r
/-- The gradient of what is convolved: the convolution turned around. -/
def dp (x : Proj) (d : Rows) (w : Taps) (ch : Fin 1024) (r : Fin 4608) : EReal :=
  w (ix2 0 ch) * nxt (dq x d ch) r + w (ix2 1 ch) * dq x d ch r + w (ix2 2 ch) * prv (dq x d ch) r

/-- The gradient of the projection's array, by part. -/
def dproj (x : Proj) (d : Rows) (w : Taps) (n : Fin 3) (ch : Fin 1024) (r : Fin 4608) : EReal :=
  match n with
  | 0 => d (ix2 r ch) * conv x w ch r
  | 1 => dp x d w ch r * x (ix2 r (col 2 ch))
  | 2 => dp x d w ch r * x (ix2 r (col 1 ch))

/-- One row's part of the gradient of a tap. -/
def dtap (x : Proj) (d : Rows) (k : Fin 3) (ch : Fin 1024) (r : Fin 4608) : EReal :=
  match k with
  | 0 => dq x d ch r * prv (pr x ch) r
  | 1 => dq x d ch r * pr x ch r
  | 2 => dq x d ch r * nxt (pr x ch) r

end Cert.Conv

end
-- ==== Proof.ConvPoint.lean ====
/- The convolution's gradient: the kernel's blocks read at an index. -/
module

public import proofs.«01_k».proof.Proof.Gen.Kernel7Ideal.Value
public import proofs.«01_k».proof.Proof.ConvModel

@[expose] public section

set_option maxRecDepth 16384

noncomputable section

namespace Cert.Conv

open Idealize.ShloMosaic Cert.Kernel7Ideal Cert.Kernel7Ideal.Gen Idealize.ShloMosaic.TcCoe

variable (m : (ℓ : Loc nD τ sig) → Buf (Elt Ideal) ℓ) (c : Dev nD)

/-- The windows' block indices. -/
theorem idx : ∀ t : Fin cfg0.N, win0_0.index t = ![t.val % 18, t.val / 18] ∧ win0_1.index t = ![t.val % 18 * 16 - 1, t.val / 18]
    ∧ win0_2.index t = ![min ((t.val % 18 + 1) * 16) 287, t.val / 18] ∧ win0_3.index t = ![t.val % 18, t.val / 18]
    ∧ win0_4.index t = ![t.val % 18 * 16 - 1, t.val / 18] ∧ win0_5.index t = ![min ((t.val % 18 + 1) * 16) 287, t.val / 18]
    ∧ win0_6.index t = ![0, t.val / 18] ∧ win0_7.index t = ![t.val % 18, t.val / 18] ∧ win0_8.index t = ![0, t.val / 18] :=
  (by decide +kernel : ∀ t : Fin grid0.N, _)

/-- The projection's array as a block of it is read. -/
theorem blk0 (t : Fin cfg0.N) (a : Fin 256) (b : Fin 768) (r : Fin 4608) (q : Fin 3072)
    (hr : r.val = 256 * (t.val % 18) + a.val) (hq : q.val = 768 * (t.val / 18) + b.val) :
    iblk m c 0 t (ix2 a b) = m ((c : Thread nD τ).loc main_arg0) (ix2 r q) := by
  blk_ext [iblk, V, idx t]

/-- The rows before a block of the projection's array. -/
theorem blk1 (t : Fin cfg0.N) (b : Fin 768) (r : Fin 4608) (q : Fin 3072) (h0 : t.val % 18 ≠ 0)
    (hr : r.val + 1 = 256 * (t.val % 18)) (hq : q.val = 768 * (t.val / 18) + b.val) :
    iblk m c 1 t (ix2 15 b) = m ((c : Thread nD τ).loc main_arg0) (ix2 r q) := by
  blk_ext [iblk, V, idx t]

/-- The rows after a block of the projection's array. -/
theorem blk2 (t : Fin cfg0.N) (b : Fin 768) (r : Fin 4608) (q : Fin 3072) (h0 : t.val % 18 ≠ 17)
    (hr : r.val = 256 * (t.val % 18) + 256) (hq : q.val = 768 * (t.val / 18) + b.val) :
    iblk m c 2 t (ix2 0 b) = m ((c : Thread nD τ).loc main_arg0) (ix2 r q) := by
  blk_ext [iblk, V, idx t]

/-- The cotangent as a block of it is read. -/
theorem blk3 (t : Fin cfg0.N) (a : Fin 256) (b : Fin 256) (r : Fin 4608) (q : Fin 1024)
    (hr : r.val = 256 * (t.val % 18) + a.val) (hq : q.val = 256 * (t.val / 18) + b.val) :
    iblk m c 3 t (ix2 a b) = m ((c : Thread nD τ).loc main_arg1) (ix2 r q) := by
  blk_ext [iblk, V, idx t]

/-- The rows before a block of the cotangent. -/
theorem blk4 (t : Fin cfg0.N) (b : Fin 256) (r : Fin 4608) (q : Fin 1024) (h0 : t.val % 18 ≠ 0)
    (hr : r.val + 1 = 256 * (t.val % 18)) (hq : q.val = 256 * (t.val / 18) + b.val) :
    iblk m c 4 t (ix2 15 b) = m ((c : Thread nD τ).loc main_arg1) (ix2 r q) := by
  blk_ext [iblk, V, idx t]

/-- The rows after a block of the cotangent. -/
theorem blk5 (t : Fin cfg0.N) (b : Fin 256) (r : Fin 4608) (q : Fin 1024) (h0 : t.val % 18 ≠ 17)
    (hr : r.val = 256 * (t.val % 18) + 256) (hq : q.val = 256 * (t.val / 18) + b.val) :
    iblk m c 5 t (ix2 0 b) = m ((c : Thread nD τ).loc main_arg1) (ix2 r q) := by
  blk_ext [iblk, V, idx t]

/-- The taps as a block of them is read. -/
theorem blk6 (t : Fin cfg0.N) (k : Fin 3) (b : Fin 256) (q : Fin 1024) (hq : q.val = 256 * (t.val / 18) + b.val) :
    iblk m c 6 t (ix2 k b) = m ((c : Thread nD τ).loc main_arg2) (ix2 k q) := by
  blk_ext [iblk, V, idx t]

/-- A choice between two values by a bit. -/
theorem select_bit {α : Type} (b : BitVec 1) (x y : α) : Scalar.select b x y = if b = 1#1 then x else y := rfl

/-- The bit that marks the first row of a block. -/
theorem bit_first : ∀ a : Fin 256, IntOp.cmpi .eq (BitVec.ofNat 32 a.val) 0#32 = 1#1 ↔ a.val = 0 := by decide +kernel
/-- The bit that marks the last row of a block. -/
theorem bit_last : ∀ a : Fin 256, IntOp.cmpi .eq (BitVec.ofNat 32 a.val) 255#32 = 1#1 ↔ a.val = 255 := by decide +kernel

/-- The rows of a block moved down by one, another row in front. -/
theorem pay10_apply (p : FVec Ideal S256x256 .f32) (e : FVec Ideal S1x256 .f32) (a b : Fin 256) :
    k0_pay10 p e (ix2 a b) = if a.val = 0 then e (ix2 0 b) else p (ix2 ⟨a.val - 1, by omega⟩ b) := by
  unfold k0_pay10
  pointwise
  rw [select_bit]
  by_cases h : a.val = 0
  · rw [if_pos ((bit_first a).mpr h), if_pos h]
  · rw [if_neg (fun e => h ((bit_first a).mp e)), if_neg h]
    refine congrArg p (congrArg (fun r => ix2 r b) (Fin.ext ?_))
    show (a.val + 256 - 1) % 256 = a.val - 1
    omega

/-- The rows of a block moved up by one, another row behind, or zero. -/
theorem pay11_apply (l : BitVec 1) (p : FVec Ideal S256x256 .f32) (e : FVec Ideal S1x256 .f32) (a b : Fin 256) :
    k0_pay11 l p e (ix2 a b)
      = if h : a.val = 255 then (if l = 1#1 then 0 else e (ix2 0 b)) else p (ix2 ⟨a.val + 1, by omega⟩ b) := by
  unfold k0_pay11
  pointwise
  rw [select_bit, select_bit]
  by_cases h : a.val = 255
  · rw [if_pos ((bit_last a).mpr h), dif_pos h]
  · rw [if_neg (fun e => h ((bit_last a).mp e)), dif_neg h]
    refine congrArg p (congrArg (fun r => ix2 r b) (Fin.ext ?_))
    show (a.val + 256 - 255) % 256 = a.val + 1
    omega

/-- The product on the row before a block, or zero. -/
theorem pay9_apply (f : BitVec 1) (x y : Vec Ideal S1x256 .bf16) (j : S1x256.Idx) :
    k0_pay9 f x y j = if f = 1#1 then 0 else x j * y j := by
  unfold k0_pay9
  pointwise
  exact select_bit _ _ _

/-- The product on the row before a block, or zero: the same operations on the gradients. -/
theorem pay16_apply (f : BitVec 1) (x y : Vec Ideal S1x256 .bf16) (j : S1x256.Idx) :
    k0_pay16 f x y j = if f = 1#1 then 0 else x j * y j := pay9_apply f x y j

/-- The product on the row behind a block. -/
theorem pay8_apply (x y : Vec Ideal S1x256 .bf16) (j : S1x256.Idx) : k0_pay8 x y j = x j * y j := by
  unfold k0_pay8
  pointwise

/-- The same operations on the gradients. -/
theorem pay15_apply (x y : Vec Ideal S1x256 .bf16) (j : S1x256.Idx) : k0_pay15 x y j = x j * y j := pay8_apply x y j

/-- What is convolved. -/
theorem pay7_apply (x y : Vec Ideal S256x256 .bf16) (j : S256x256.Idx) : k0_pay7 x y j = x j * y j := by
  unfold k0_pay7 k0_pay5 k0_pay6
  pointwise

/-- The gradient of the convolution's result. -/
theorem pay14_apply (x y : Vec Ideal S256x256 .bf16) (j : S256x256.Idx) : k0_pay14 (k0_pay4 x) y j = y j * x j := by
  unfold k0_pay14 k0_pay13 k0_pay4
  pointwise

/-- The convolution turned around. -/
theorem pay17_apply (l : BitVec 1) (w : Vec Ideal S3x256 .f32) (p : FVec Ideal S256x256 .f32) (e g : FVec Ideal S1x256 .f32)
    (a b : Fin 256) : k0_pay17 l w p e g (ix2 a b) = w (ix2 0 b) * k0_pay11 l p e (ix2 a b) + w (ix2 1 b) * p (ix2 a b)
      + w (ix2 2 b) * k0_pay10 p g (ix2 a b) := by
  unfold k0_pay17 k0_pay11 k0_pay10
  pointwise

/-- The convolution. -/
theorem pay12_apply (l : BitVec 1) (p : FVec Ideal S256x256 .f32) (e g : FVec Ideal S1x256 .f32) (w : Vec Ideal S3x256 .f32)
    (a b : Fin 256) : k0_pay12 l p e g w (ix2 a b) = w (ix2 0 b) * k0_pay10 p g (ix2 a b) + w (ix2 1 b) * p (ix2 a b)
      + w (ix2 2 b) * k0_pay11 l p e (ix2 a b) := by
  unfold k0_pay12
  generalize k0_pay11 l p e = u
  generalize k0_pay10 p g = v
  pointwise

/-- The first stored block: the cotangent times the convolution. -/
theorem pay18_apply (q : FVec Ideal S256x256 .f32) (d : Vec Ideal S256x256 .bf16) (j : S256x256.Idx) :
    k0_pay18 q (k0_pay13 d) j = d j * q j := by
  unfold k0_pay18 k0_pay13
  pointwise

/-- The second stored block: the convolution turned around, times the values. -/
theorem pay19_apply (l : BitVec 1) (u : Vec Ideal S256x256 .bf16) (w : Vec Ideal S3x256 .f32) (p : FVec Ideal S256x256 .f32)
    (e g : FVec Ideal S1x256 .f32) (j : S256x256.Idx) :
    k0_pay19 l (k0_pay6 u) w p e g j = k0_pay17 l w p e g j * u j := by
  unfold k0_pay19
  generalize k0_pay17 l w p e g = z
  unfold k0_pay6
  pointwise

/-- The third stored block: the convolution turned around, times the second gate. -/
theorem pay20_apply (l : BitVec 1) (u : Vec Ideal S256x256 .bf16) (w : Vec Ideal S3x256 .f32) (p : FVec Ideal S256x256 .f32)
    (e g : FVec Ideal S1x256 .f32) (j : S256x256.Idx) :
    k0_pay20 l (k0_pay5 u) w p e g j = k0_pay17 l w p e g j * u j := by
  unfold k0_pay20
  generalize k0_pay17 l w p e g = z
  unfold k0_pay5
  pointwise

/-- The accumulated row of the first tap. -/
theorem pay1_apply (z : Vec Ideal S1x256 .f32) (p q : FVec Ideal S256x256 .f32) (j : S1x256.Idx) :
    k0_pay1 (k0_pay22 z) (k0_pay23 q p) j = z j + ∑ a : Fin 256, p (ix2 a (j 1)) * q (ix2 a (j 1)) := by
  unfold k0_pay1 k0_pay22 k0_pay23
  pointwise

/-- The accumulated row of the second tap. -/
theorem pay2_apply (z : Vec Ideal S1x256 .f32) (p q : FVec Ideal S256x256 .f32) (j : S1x256.Idx) :
    k0_pay2 q p z j = z j + ∑ a : Fin 256, p (ix2 a (j 1)) * q (ix2 a (j 1)) := by
  unfold k0_pay2
  pointwise

/-- The accumulated row of the third tap. -/
theorem pay3_apply (z : Vec Ideal S1x256 .f32) (p q : FVec Ideal S256x256 .f32) (j : S1x256.Idx) :
    k0_pay3 q p z j = z j + ∑ a : Fin 256, p (ix2 a (j 1)) * q (ix2 a (j 1)) := by
  unfold k0_pay3
  pointwise

end Cert.Conv

end
-- ==== Proof.ConvRows.lean ====
/- The convolution's gradient: what a grid point computes, at the rows of the arrays it stands for. -/
module

public import proofs.«01_k».proof.Proof.ConvPoint

@[expose] public section

set_option maxRecDepth 16384

noncomputable section

namespace Cert.Conv

open Idealize.ShloMosaic Cert.Kernel7Ideal Cert.Kernel7Ideal.Gen Idealize.ShloMosaic.TcCoe

/-- The bit by which a grid point knows that its block begins a stream. -/
def firstBit (i : grid0.Coords) : BitVec 1 :=
  Scalar.select (Scalar.cmpi .slt (Scalar.muli (BitVec.ofNat 32 (i 1).val) 256#32) 4096#32)
    (Scalar.cmpi .eq (Scalar.select
      (Scalar.andi (Scalar.xori (Scalar.cmpi .slt (Scalar.remsi (Scalar.muli (BitVec.ofNat 32 (i 1).val) 256#32) 2048#32) 0#32) 0#1)
        (Scalar.cmpi .ne (Scalar.remsi (Scalar.muli (BitVec.ofNat 32 (i 1).val) 256#32) 2048#32) 0#32))
      (Scalar.addi (Scalar.remsi (Scalar.muli (BitVec.ofNat 32 (i 1).val) 256#32) 2048#32) 2048#32)
      (Scalar.remsi (Scalar.muli (BitVec.ofNat 32 (i 1).val) 256#32) 2048#32)) 0#32)
    (Scalar.cmpi .eq (Scalar.select
      (Scalar.andi (Scalar.xori (Scalar.cmpi .slt (Scalar.remsi (Scalar.subi (Scalar.muli (BitVec.ofNat 32 (i 1).val) 256#32) 4096#32) 256#32) 0#32) 0#1)
        (Scalar.cmpi .ne (Scalar.remsi (Scalar.subi (Scalar.muli (BitVec.ofNat 32 (i 1).val) 256#32) 4096#32) 256#32) 0#32))
      (Scalar.addi (Scalar.remsi (Scalar.subi (Scalar.muli (BitVec.ofNat 32 (i 1).val) 256#32) 4096#32) 256#32) 256#32)
      (Scalar.remsi (Scalar.subi (Scalar.muli (BitVec.ofNat 32 (i 1).val) 256#32) 4096#32) 256#32)) 0#32)

/-- The bit by which a grid point knows that its block ends a stream. -/
def lastBit (i : grid0.Coords) : BitVec 1 :=
  Scalar.select (Scalar.cmpi .slt (Scalar.muli (BitVec.ofNat 32 (i 1).val) 256#32) 4096#32)
    (Scalar.cmpi .eq (Scalar.select
      (Scalar.andi (Scalar.xori (Scalar.cmpi .slt (Scalar.remsi (Scalar.addi (Scalar.muli (BitVec.ofNat 32 (i 1).val) 256#32) 256#32) 2048#32) 0#32) 0#1)
        (Scalar.cmpi .ne (Scalar.remsi (Scalar.addi (Scalar.muli (BitVec.ofNat 32 (i 1).val) 256#32) 256#32) 2048#32) 0#32))
      (Scalar.addi (Scalar.remsi (Scalar.addi (Scalar.muli (BitVec.ofNat 32 (i 1).val) 256#32) 256#32) 2048#32) 2048#32)
      (Scalar.remsi (Scalar.addi (Scalar.muli (BitVec.ofNat 32 (i 1).val) 256#32) 256#32) 2048#32)) 0#32)
    (Scalar.cmpi .eq (Scalar.select
      (Scalar.andi (Scalar.xori (Scalar.cmpi .slt (Scalar.remsi (Scalar.subi (Scalar.addi (Scalar.muli (BitVec.ofNat 32 (i 1).val) 256#32) 256#32) 4096#32) 256#32) 0#32) 0#1)
        (Scalar.cmpi .ne (Scalar.remsi (Scalar.subi (Scalar.addi (Scalar.muli (BitVec.ofNat 32 (i 1).val) 256#32) 256#32) 4096#32) 256#32) 0#32))
      (Scalar.addi (Scalar.remsi (Scalar.subi (Scalar.addi (Scalar.muli (BitVec.ofNat 32 (i 1).val) 256#32) 256#32) 4096#32) 256#32) 256#32)
      (Scalar.remsi (Scalar.subi (Scalar.addi (Scalar.muli (BitVec.ofNat 32 (i 1).val) 256#32) 256#32) 4096#32) 256#32)) 0#32)

/-- The first bit is set exactly where the block's first row is the first of its stream. -/
theorem firstBit_iff : ∀ t : Fin cfg0.N, firstBit (grid0.coords t) = 1#1 ↔ First (256 * (t.val % 18)) :=
  (by decide +kernel : ∀ t : Fin grid0.N, _)
/-- The last bit is set exactly where the block's last row is the last of its stream. -/
theorem lastBit_iff : ∀ t : Fin cfg0.N, lastBit (grid0.coords t) = 1#1 ↔ Last (256 * (t.val % 18) + 255) :=
  (by decide +kernel : ∀ t : Fin grid0.N, _)

/-- A block moved down by one, the row before it in front, holds the rows before. -/
theorem down_rows (t : Fin cfg0.N) (f : BitVec 1) (hf : f = 1#1 ↔ First (256 * (t.val % 18))) (g : Fin 4608 → EReal)
    (p : FVec Ideal S256x256 .f32) (e : FVec Ideal S1x256 .f32) (z : EReal) (b : Fin 256)
    (hp : ∀ (a : Fin 256) (r : Fin 4608), r.val = 256 * (t.val % 18) + a.val → p (ix2 a b) = g r)
    (he : e (ix2 0 b) = if f = 1#1 then 0 else z)
    (hz : ∀ r : Fin 4608, t.val % 18 ≠ 0 → r.val + 1 = 256 * (t.val % 18) → z = g r)
    (a : Fin 256) (r : Fin 4608) (hr : r.val = 256 * (t.val % 18) + a.val) : k0_pay10 p e (ix2 a b) = prv g r := by
  rw [pay10_apply]
  unfold prv
  by_cases h : a.val = 0
  · have hr' : r.val = 256 * (t.val % 18) := by omega
    simp only [if_pos h, he, hr']
    by_cases k : f = 1#1
    · rw [if_pos k, if_pos (hf.mp k)]
    · have k' : ¬ First (256 * (t.val % 18)) := fun e => k (hf.mpr e)
      have h0 : t.val % 18 ≠ 0 := fun e => k' (by unfold First; omega)
      rw [if_neg k, if_neg k']
      exact hz _ h0 (by show 256 * (t.val % 18) - 1 + 1 = _; omega)
  · rw [if_neg h, if_neg (by unfold First; omega)]
    exact hp _ _ (by show r.val - 1 = 256 * (t.val % 18) + (a.val - 1); omega)

/-- A block moved up by one, the row after it behind, holds the rows after. -/
theorem up_rows (t : Fin cfg0.N) (l : BitVec 1) (hl : l = 1#1 ↔ Last (256 * (t.val % 18) + 255)) (g : Fin 4608 → EReal)
    (p : FVec Ideal S256x256 .f32) (e : FVec Ideal S1x256 .f32) (b : Fin 256)
    (hp : ∀ (a : Fin 256) (r : Fin 4608), r.val = 256 * (t.val % 18) + a.val → p (ix2 a b) = g r)
    (he : ∀ r : Fin 4608, t.val % 18 ≠ 17 → r.val = 256 * (t.val % 18) + 256 → e (ix2 0 b) = g r)
    (a : Fin 256) (r : Fin 4608) (hr : r.val = 256 * (t.val % 18) + a.val) : k0_pay11 l p e (ix2 a b) = nxt g r := by
  rw [pay11_apply]
  unfold nxt
  by_cases h : a.val = 255
  · have hr' : r.val = 256 * (t.val % 18) + 255 := by omega
    rw [dif_pos h]
    by_cases k : l = 1#1
    · rw [if_pos k, dif_pos (by rw [hr']; exact hl.mp k)]
    · have k' : ¬ Last r.val := fun e => k (hl.mpr (by rw [← hr']; exact e))
      have h0 : t.val % 18 ≠ 17 := fun e => k' (by unfold Last; omega)
      rw [if_neg k, dif_neg k']
      exact he _ h0 (by show r.val + 1 = _; omega)
  · rw [dif_neg h, dif_neg (by unfold Last; omega)]
    exact hp _ _ (by show r.val + 1 = 256 * (t.val % 18) + (a.val + 1); omega)

variable (m : (ℓ : Loc nD τ sig) → Buf (Elt Ideal) ℓ) (c : Dev nD)

/-- The projection's array of the claim. -/
abbrev xA : Proj := m ((c : Thread nD τ).loc main_arg0)
/-- The cotangent of the claim. -/
abbrev dA : Rows := m ((c : Thread nD τ).loc main_arg1)
/-- The taps of the claim. -/
abbrev wA : Taps := m ((c : Thread nD τ).loc main_arg2)

/-- A point's block of the gate. -/
abbrev gateB (t : Fin cfg0.N) := View.ld (iblk m c 0 t) (Rect.unit ![0, 0] ![256, 256] inb_S256x768_S256x256_0_0)
/-- A point's block of the second gate. -/
abbrev gateC (t : Fin cfg0.N) := View.ld (iblk m c 0 t) (Rect.unit ![0, 256] ![256, 256] inb_S256x768_S256x256_0_256)
/-- A point's block of the values. -/
abbrev valU (t : Fin cfg0.N) := View.ld (iblk m c 0 t) (Rect.unit ![0, 512] ![256, 256] inb_S256x768_S256x256_0_512)
/-- What is convolved, at a point. -/
abbrev prT (t : Fin cfg0.N) := k0_pay7 (gateC m c t) (valU m c t)
/-- The row before it. -/
abbrev prB (t : Fin cfg0.N) (f : BitVec 1) := k0_pay9 f (View.ld (iblk m c 1 t) (Rect.unit ![15, 256] ![1, 256] inb_S16x768_S1x256_15_256))
  (View.ld (iblk m c 1 t) (Rect.unit ![15, 512] ![1, 256] inb_S16x768_S1x256_15_512))
/-- The row after it. -/
abbrev prE (t : Fin cfg0.N) := k0_pay8 (View.ld (iblk m c 2 t) (Rect.unit ![0, 256] ![1, 256] inb_S16x768_S1x256_0_256))
  (View.ld (iblk m c 2 t) (Rect.unit ![0, 512] ![1, 256] inb_S16x768_S1x256_0_512))
/-- The gradient of the convolution's result, at a point. -/
abbrev dqT (t : Fin cfg0.N) := k0_pay14 (k0_pay4 (gateB m c t)) (iblk m c 3 t)
/-- The row before it. -/
abbrev dqB (t : Fin cfg0.N) (f : BitVec 1) := k0_pay16 f (View.ld (iblk m c 4 t) (Rect.unit ![15, 0] ![1, 256] inb_S16x256_S1x256_15_0))
  (View.ld (iblk m c 1 t) (Rect.unit ![15, 0] ![1, 256] inb_S16x768_S1x256_15_0))
/-- The row after it. -/
abbrev dqE (t : Fin cfg0.N) := k0_pay15 (View.ld (iblk m c 5 t) (Rect.unit ![0, 0] ![1, 256] inb_S16x256_S1x256_0_0))
  (View.ld (iblk m c 2 t) (Rect.unit ![0, 0] ![1, 256] inb_S16x768_S1x256_0_0))

section
variable (t : Fin cfg0.N) (a b : Fin 256) (r : Fin 4608) (ch : Fin 1024) (hr : r.val = 256 * (t.val % 18) + a.val)
  (hc : ch.val = 256 * (t.val / 18) + b.val)
include hr hc

/-- The gate's block at an index. -/
theorem gateB_at : gateB m c t (ix2 a b) = xA m c (ix2 r (col 0 ch)) := by
  unfold gateB
  pointwise
  exact blk0 m c t _ _ _ _ hr (by show 768 * (ch.val / 256) + 256 * 0 + ch.val % 256 = _ + b.val; omega)
/-- The second gate's block at an index. -/
theorem gateC_at : gateC m c t (ix2 a b) = xA m c (ix2 r (col 1 ch)) := by
  unfold gateC
  pointwise
  exact blk0 m c t _ _ _ _ hr (by show 768 * (ch.val / 256) + 256 * 1 + ch.val % 256 = _ + (256 + b.val); omega)
/-- The values' block at an index. -/
theorem valU_at : valU m c t (ix2 a b) = xA m c (ix2 r (col 2 ch)) := by
  unfold valU
  pointwise
  exact blk0 m c t _ _ _ _ hr (by show 768 * (ch.val / 256) + 256 * 2 + ch.val % 256 = _ + (512 + b.val); omega)
/-- The cotangent's block at an index. -/
theorem dyc_at : iblk m c 3 t (ix2 a b) = dA m c (ix2 r ch) := blk3 m c t _ _ _ _ hr hc

/-- What is convolved. -/
theorem prT_at : prT m c t (ix2 a b) = pr (xA m c) ch r := by
  unfold prT
  rw [pay7_apply, gateC_at m c t a b r ch hr hc, valU_at m c t a b r ch hr hc]
  rfl
/-- The gradient of the convolution's result. -/
theorem dqT_at : dqT m c t (ix2 a b) = dq (xA m c) (dA m c) ch r := by
  unfold dqT
  rw [pay14_apply, gateB_at m c t a b r ch hr hc, dyc_at m c t a b r ch hr hc]
  rfl

/-- What is convolved, a row before. -/
theorem pr_down (f : BitVec 1) (hf : f = 1#1 ↔ First (256 * (t.val % 18))) :
    k0_pay10 (prT m c t) (prB m c t f) (ix2 a b) = prv (pr (xA m c) ch) r := by
  refine down_rows t f hf _ _ _ _ b (fun a r hr => prT_at m c t a b r ch hr hc) (pay9_apply _ _ _ _) (fun s h0 hs => ?_) a r hr
  pointwise
  unfold pr
  rw [blk1 m c t _ s (col 1 ch) h0 hs (by show 768 * (ch.val / 256) + 256 * 1 + ch.val % 256 = _ + (256 + b.val); omega),
    blk1 m c t _ s (col 2 ch) h0 hs (by show 768 * (ch.val / 256) + 256 * 2 + ch.val % 256 = _ + (512 + b.val); omega)]
/-- What is convolved, a row after. -/
theorem pr_up (l : BitVec 1) (hl : l = 1#1 ↔ Last (256 * (t.val % 18) + 255)) :
    k0_pay11 l (prT m c t) (prE m c t) (ix2 a b) = nxt (pr (xA m c) ch) r := by
  refine up_rows t l hl _ _ _ b (fun a r hr => prT_at m c t a b r ch hr hc) (fun s h0 hs => ?_) a r hr
  unfold prE
  rw [pay8_apply]
  pointwise
  unfold pr
  rw [blk2 m c t _ s (col 1 ch) h0 hs (by show 768 * (ch.val / 256) + 256 * 1 + ch.val % 256 = _ + (256 + b.val); omega),
    blk2 m c t _ s (col 2 ch) h0 hs (by show 768 * (ch.val / 256) + 256 * 2 + ch.val % 256 = _ + (512 + b.val); omega)]
/-- The gradient of the convolution's result, a row before. -/
theorem dq_down (f : BitVec 1) (hf : f = 1#1 ↔ First (256 * (t.val % 18))) :
    k0_pay10 (dqT m c t) (dqB m c t f) (ix2 a b) = prv (dq (xA m c) (dA m c) ch) r := by
  refine down_rows t f hf _ _ _ _ b (fun a r hr => dqT_at m c t a b r ch hr hc) (pay16_apply _ _ _ _) (fun s h0 hs => ?_) a r hr
  pointwise
  unfold dq
  rw [blk4 m c t _ s ch h0 hs hc,
    blk1 m c t _ s (col 0 ch) h0 hs (by show 768 * (ch.val / 256) + 256 * 0 + ch.val % 256 = _ + b.val; omega)]
/-- The gradient of the convolution's result, a row after. -/
theorem dq_up (l : BitVec 1) (hl : l = 1#1 ↔ Last (256 * (t.val % 18) + 255)) :
    k0_pay11 l (dqT m c t) (dqE m c t) (ix2 a b) = nxt (dq (xA m c) (dA m c) ch) r := by
  refine up_rows t l hl _ _ _ b (fun a r hr => dqT_at m c t a b r ch hr hc) (fun s h0 hs => ?_) a r hr
  unfold dqE
  rw [pay15_apply]
  pointwise
  unfold dq
  rw [blk5 m c t _ s ch h0 hs hc,
    blk2 m c t _ s (col 0 ch) h0 hs (by show 768 * (ch.val / 256) + 256 * 0 + ch.val % 256 = _ + b.val; omega)]

/-- The first stored block. -/
theorem out_gate (f l : BitVec 1) (hf : f = 1#1 ↔ First (256 * (t.val % 18))) (hl : l = 1#1 ↔ Last (256 * (t.val % 18) + 255)) :
    k0_pay18 (k0_pay12 l (prT m c t) (prE m c t) (prB m c t f) (iblk m c 6 t)) (k0_pay13 (iblk m c 3 t)) (ix2 a b)
      = dproj (xA m c) (dA m c) (wA m c) 0 ch r := by
  rw [pay18_apply, pay12_apply, pr_down m c t a b r ch hr hc f hf, pr_up m c t a b r ch hr hc l hl,
    prT_at m c t a b r ch hr hc, dyc_at m c t a b r ch hr hc, blk6 m c t 0 b ch hc, blk6 m c t 1 b ch hc, blk6 m c t 2 b ch hc]
  rfl
/-- The convolution turned around. -/
theorem turned (f l : BitVec 1) (hf : f = 1#1 ↔ First (256 * (t.val % 18))) (hl : l = 1#1 ↔ Last (256 * (t.val % 18) + 255)) :
    k0_pay17 l (iblk m c 6 t) (dqT m c t) (dqE m c t) (dqB m c t f) (ix2 a b) = dp (xA m c) (dA m c) (wA m c) ch r := by
  rw [pay17_apply, dq_down m c t a b r ch hr hc f hf, dq_up m c t a b r ch hr hc l hl,
    dqT_at m c t a b r ch hr hc, blk6 m c t 0 b ch hc, blk6 m c t 1 b ch hc, blk6 m c t 2 b ch hc]
  rfl
/-- The second stored block. -/
theorem out_second (f l : BitVec 1) (hf : f = 1#1 ↔ First (256 * (t.val % 18))) (hl : l = 1#1 ↔ Last (256 * (t.val % 18) + 255)) :
    k0_pay19 l (k0_pay6 (valU m c t)) (iblk m c 6 t) (dqT m c t) (dqE m c t) (dqB m c t f) (ix2 a b)
      = dproj (xA m c) (dA m c) (wA m c) 1 ch r := by
  rw [pay19_apply, turned m c t a b r ch hr hc f l hf hl, valU_at m c t a b r ch hr hc]
  rfl
/-- The third stored block. -/
theorem out_third (f l : BitVec 1) (hf : f = 1#1 ↔ First (256 * (t.val % 18))) (hl : l = 1#1 ↔ Last (256 * (t.val % 18) + 255)) :
    k0_pay20 l (k0_pay5 (gateC m c t)) (iblk m c 6 t) (dqT m c t) (dqE m c t) (dqB m c t f) (ix2 a b)
      = dproj (xA m c) (dA m c) (wA m c) 2 ch r := by
  rw [pay20_apply, turned m c t a b r ch hr hc f l hf hl, gateC_at m c t a b r ch hr hc]
  rfl

end

/-- A row of an array, by block and row within it. -/
abbrev row (t : Fin cfg0.N) (a : Fin 256) : Fin 4608 := ⟨256 * (t.val % 18) + a.val, by omega⟩

/-- A channel, by tile and lane within it. -/
abbrev chan (t : Fin cfg0.N) (b : Fin 256) : Fin 1024 :=
  ⟨256 * (t.val / 18) + b.val, by have : t.val < 72 := t.isLt; omega⟩

/-- The first tap's row after a block. -/
theorem tap_before (t : Fin cfg0.N) (f : BitVec 1) (hf : f = 1#1 ↔ First (256 * (t.val % 18))) (z : Vec Ideal S1x256 .f32)
    (x : S1x256.Idx) (ch : Fin 1024) (hc : ch.val = 256 * (t.val / 18) + (x 1).val) :
    k0_pay1 (k0_pay22 z) (k0_pay23 (k0_pay10 (prT m c t) (prB m c t f)) (dqT m c t)) x
      = z x + ∑ a : Fin 256, dtap (xA m c) (dA m c) 0 ch (row t a) := by
  rw [pay1_apply]
  refine congrArg _ (Finset.sum_congr rfl fun a _ => ?_)
  rw [pr_down m c t a (x 1) (row t a) ch rfl hc f hf, dqT_at m c t a (x 1) (row t a) ch rfl hc]
  rfl
/-- The second tap's row after a block. -/
theorem tap_here (t : Fin cfg0.N) (z : Vec Ideal S1x256 .f32)
    (x : S1x256.Idx) (ch : Fin 1024) (hc : ch.val = 256 * (t.val / 18) + (x 1).val) :
    k0_pay2 (prT m c t) (dqT m c t) z x = z x + ∑ a : Fin 256, dtap (xA m c) (dA m c) 1 ch (row t a) := by
  rw [pay2_apply]
  refine congrArg _ (Finset.sum_congr rfl fun a _ => ?_)
  rw [prT_at m c t a (x 1) (row t a) ch rfl hc, dqT_at m c t a (x 1) (row t a) ch rfl hc]
  rfl
/-- The third tap's row after a block. -/
theorem tap_after (t : Fin cfg0.N) (l : BitVec 1) (hl : l = 1#1 ↔ Last (256 * (t.val % 18) + 255)) (z : Vec Ideal S1x256 .f32)
    (x : S1x256.Idx) (ch : Fin 1024) (hc : ch.val = 256 * (t.val / 18) + (x 1).val) :
    k0_pay3 (k0_pay11 l (prT m c t) (prE m c t)) (dqT m c t) z x
      = z x + ∑ a : Fin 256, dtap (xA m c) (dA m c) 2 ch (row t a) := by
  rw [pay3_apply]
  refine congrArg _ (Finset.sum_congr rfl fun a _ => ?_)
  rw [pr_up m c t a (x 1) (row t a) ch rfl hc l hl, dqT_at m c t a (x 1) (row t a) ch rfl hc]
  rfl

end Cert.Conv

end
-- ==== Proof.ConvOut.lean ====
/- The convolution's gradient: what a grid point leaves in its two output blocks. -/
module

public import proofs.«01_k».proof.Proof.ConvRows
public import Idealize.ShloMosaic.Lib.Pipeline.ReadBack

@[expose] public section

set_option maxRecDepth 16384

noncomputable section

namespace Cert.Conv

open Idealize.ShloMosaic Cert.Kernel7Ideal Cert.Kernel7Ideal.Gen Idealize.ShloMosaic.TcCoe

variable (m : (ℓ : Loc nD τ sig) → Buf (Elt Ideal) ℓ) (c : Dev nD)

/-- A row of the taps' block. -/
theorem ld_row0 (o : Vec Ideal S3x256 .f32) (x : S1x256.Idx) (y : S3x256.Idx) (h0 : (y 0).val = 0 + (x 0).val)
    (h1 : (y 1).val = (x 1).val) : View.ld o (Rect.unit ![0, 0] ![1, 256] inb_S3x256_S1x256_0_0) x = o y := by
  pointwise
  rw [← ix2_eta y]
  exact congrArg₂ (fun p q => o (ix2 p q)) (Fin.ext (by simp at h0 ⊢; omega)) (Fin.ext h1.symm)
/-- A row of the taps' block. -/
theorem ld_row1 (o : Vec Ideal S3x256 .f32) (x : S1x256.Idx) (y : S3x256.Idx) (h0 : (y 0).val = 1 + (x 0).val)
    (h1 : (y 1).val = (x 1).val) : View.ld o (Rect.unit ![1, 0] ![1, 256] inb_S3x256_S1x256_1_0) x = o y := by
  pointwise
  rw [← ix2_eta y]
  exact congrArg₂ (fun p q => o (ix2 p q)) (Fin.ext (by simp at h0 ⊢; omega)) (Fin.ext h1.symm)
/-- A row of the taps' block. -/
theorem ld_row2 (o : Vec Ideal S3x256 .f32) (x : S1x256.Idx) (y : S3x256.Idx) (h0 : (y 0).val = 2 + (x 0).val)
    (h1 : (y 1).val = (x 1).val) : View.ld o (Rect.unit ![2, 0] ![1, 256] inb_S3x256_S1x256_2_0) x = o y := by
  pointwise
  rw [← ix2_eta y]
  exact congrArg₂ (fun p q => o (ix2 p q)) (Fin.ext (by simp at h0 ⊢; omega)) (Fin.ext h1.symm)
/-- The zero fill, however read. -/
theorem ld_fill (r : Rect S3x256) (x : r.shape.Idx) : View.ld (Val := Elt Ideal) (e' := .f32) (k0_pay21 (F := Ideal)) r x = (0 : EReal) := by
  show k0_pay21 (F := Ideal) (r.emb x) = _
  unfold k0_pay21
  pointwise

/-- What a point leaves in the block of the projection's gradient. -/
theorem outs_proj (t : Fin cfg0.N) (n : Fin 3) (a b : Fin 256) (r : Fin 4608) (ch : Fin 1024)
    (hr : r.val = 256 * (t.val % 18) + a.val) (hc : ch.val = 256 * (t.val / 18) + b.val) (y : S256x768.Idx)
    (e0 : (y 0).val = a.val) (e1 : (y 1).val = 256 * n.val + b.val) :
    (outsAt0 m c t.val t.isLt).1 y = dproj (xA m c) (dA m c) (wA m c) n ch r := by
  by_cases h : t.val % 18 = 0
  · rw [outsAt0_A m c t h]
    frame_out
    canon_tiles x h
    · obtain rfl : n = 2 := Fin.ext (by show n.val = 2; omega)
      obtain rfl : a = x 0 := Fin.ext (by omega)
      obtain rfl : b = x 1 := Fin.ext (by simp at h1; omega)
      rw [← ix2_eta x]
      exact out_third m c t _ _ r ch hr hc _ _ (firstBit_iff t) (lastBit_iff t)
    · obtain rfl : n = 1 := Fin.ext (by show n.val = 1; omega)
      obtain rfl : a = x 0 := Fin.ext (by omega)
      obtain rfl : b = x 1 := Fin.ext (by simp at h1; omega)
      rw [← ix2_eta x]
      exact out_second m c t _ _ r ch hr hc _ _ (firstBit_iff t) (lastBit_iff t)
    · obtain rfl : n = 0 := Fin.ext (by show n.val = 0; omega)
      obtain rfl : a = x 0 := Fin.ext (by omega)
      obtain rfl : b = x 1 := Fin.ext (by simp at h1; omega)
      rw [← ix2_eta x]
      exact out_gate m c t _ _ r ch hr hc _ _ (firstBit_iff t) (lastBit_iff t)
  · rw [outsAt0_B m c t h]
    frame_out
    canon_tiles x h
    · obtain rfl : n = 2 := Fin.ext (by show n.val = 2; omega)
      obtain rfl : a = x 0 := Fin.ext (by omega)
      obtain rfl : b = x 1 := Fin.ext (by simp at h1; omega)
      rw [← ix2_eta x]
      exact out_third m c t _ _ r ch hr hc _ _ (firstBit_iff t) (lastBit_iff t)
    · obtain rfl : n = 1 := Fin.ext (by show n.val = 1; omega)
      obtain rfl : a = x 0 := Fin.ext (by omega)
      obtain rfl : b = x 1 := Fin.ext (by simp at h1; omega)
      rw [← ix2_eta x]
      exact out_second m c t _ _ r ch hr hc _ _ (firstBit_iff t) (lastBit_iff t)
    · obtain rfl : n = 0 := Fin.ext (by show n.val = 0; omega)
      obtain rfl : a = x 0 := Fin.ext (by omega)
      obtain rfl : b = x 1 := Fin.ext (by simp at h1; omega)
      rw [← ix2_eta x]
      exact out_gate m c t _ _ r ch hr hc _ _ (firstBit_iff t) (lastBit_iff t)

/-- The sum over a block's rows depends on the tap and the lane alone. -/
theorem rows_congr (t : Fin cfg0.N) (k k' : Fin 3) (b b' : Fin 256) (hk : k.val = k'.val) (hb : b.val = b'.val) :
    0 + ∑ a : Fin 256, dtap (xA m c) (dA m c) k (chan t b) (row t a)
      = 0 + ∑ a : Fin 256, dtap (xA m c) (dA m c) k' (chan t b') (row t a) := by
  obtain rfl := Fin.ext hk
  obtain rfl := Fin.ext hb
  rfl

/-- What the first point of a channel tile leaves in the block of the taps' gradient. -/
theorem outs_taps_first (t : Fin cfg0.N) (h : t.val % 18 = 0) (y : S3x256.Idx) :
    (outsAt0 m c t.val t.isLt).2 y
      = 0 + ∑ a : Fin 256, dtap (xA m c) (dA m c) (y 0) (chan t (y 1)) (row t a) := by
  rw [outsAt0_A m c t h]
  frame_open
  simp (disch := decide) only [↓ View.readCov_skip, ↓ View.readCov_cons_toLoadRect, ↓ View.readCov_fill]
  frame_out
  refine View.canon_append_of_piecesOf (Val := Elt Ideal) (e := .f32)
    (fun y : S3x256.Idx => 0 + ∑ a : Fin 256, dtap (xA m c) (dA m c) (y 0) (chan t (y 1)) (row t a))
    [_] [_, _, _] ⟨fun x => ?_, fun x => ?_, fun x => ?_, trivial⟩ y ?_
  · refine (tap_after m c t _ (lastBit_iff t) _ x (chan t (x 1)) rfl).trans ?_
    rw [ld_fill]
    exact rows_congr m c t _ _ _ _ (by show 2 = _; simp) (by simp)
  · refine (tap_here m c t _ x (chan t (x 1)) rfl).trans ?_
    rw [ld_fill]
    exact rows_congr m c t _ _ _ _ (by show 1 = _; simp) (by simp)
  · refine (tap_before m c t _ (firstBit_iff t) _ x (chan t (x 1)) rfl).trans ?_
    rw [ld_fill]
    exact rows_congr m c t _ _ _ _ (by show 0 = _; simp) (by simp)
  · exact View.cover_of_tiledL (Val := Elt Ideal) (s := S3x256) (e := .f32) [_, _, _] S1x256.size (by sl_kernel_rfl) y

/-- What a later point leaves there: what it held and one block of rows more. -/
theorem outs_taps_next (t : Fin cfg0.N) (h : ¬ t.val % 18 = 0) (y : S3x256.Idx) :
    (outsAt0 m c t.val t.isLt).2 y
      = (outsAt0 m c (t.val - 1) (by omega)).2 y + ∑ a : Fin 256, dtap (xA m c) (dA m c) (y 0) (chan t (y 1)) (row t a) := by
  rw [outsAt0_B m c t h]
  frame_out
  canon_tiles x h
  · have k : y 0 = (2 : Fin 3) := Fin.ext (by show (y 0).val = 2; omega)
    rw [k]
    refine (tap_after m c t _ (lastBit_iff t) _ x (chan t (y 1)) (by show _ + (y 1).val = _; omega)).trans (congrArg (· + _) (ld_row2 _ _ _ h0 h1))
  · have k : y 0 = (1 : Fin 3) := Fin.ext (by show (y 0).val = 1; omega)
    rw [k]
    refine (tap_here m c t _ x (chan t (y 1)) (by show _ + (y 1).val = _; omega)).trans (congrArg (· + _) (ld_row1 _ _ _ h0 h1))
  · have k : y 0 = (0 : Fin 3) := Fin.ext (by show (y 0).val = 0; omega)
    rw [k]
    refine (tap_before m c t _ (firstBit_iff t) _ x (chan t (y 1)) (by show _ + (y 1).val = _; omega)).trans (congrArg (· + _) (ld_row0 _ _ _ (by omega) h1))

end Cert.Conv

end
-- ==== Proof.ConvStreams.lean ====
/- The streams of the short convolution: their first and last rows. -/
module

public import proofs.«01_k».proof.Proof.ConvModel

@[expose] public section

noncomputable section

namespace Cert.Conv

open Idealize.ShloMosaic

/-- A row of a latent stream. -/
def rowL (b : Fin 2) (s : Fin 2048) : Fin 4608 := ⟨2048 * b.val + s.val, by omega⟩
/-- A row of a context stream. -/
def rowC (b : Fin 2) (s : Fin 256) : Fin 4608 := ⟨4096 + 256 * b.val + s.val, by omega⟩

/-- The row before, where there is none. -/
theorem prv_first (g : Fin 4608 → EReal) (r : Fin 4608) (h : First r.val) : prv g r = 0 := if_pos h
/-- The row before, where there is one. -/
theorem prv_next (g : Fin 4608 → EReal) (r q : Fin 4608) (h : ¬ First r.val) (e : q.val + 1 = r.val) : prv g r = g q := by
  unfold prv
  rw [if_neg h]
  exact congrArg g (Fin.ext (by show r.val - 1 = q.val; omega))
/-- The row after, where there is none. -/
theorem nxt_last (g : Fin 4608 → EReal) (r : Fin 4608) (h : Last r.val) : nxt g r = 0 := dif_pos h
/-- The row after, where there is one. -/
theorem nxt_next (g : Fin 4608 → EReal) (r q : Fin 4608) (h : ¬ Last r.val) (e : q.val = r.val + 1) : nxt g r = g q := by
  unfold nxt
  rw [dif_neg h]
  exact congrArg g (Fin.ext e.symm)
/-- A latent stream begins at its first row. -/
theorem first_L (b : Fin 2) (s : Fin 2048) : First (rowL b s).val ↔ s.val = 0 := by
  unfold First rowL; show (2048 * b.val + s.val = 0 ∨ _) ↔ _; simp only; omega
/-- A context stream begins at its first row. -/
theorem first_C (b : Fin 2) (s : Fin 256) : First (rowC b s).val ↔ s.val = 0 := by
  unfold First rowC; simp only; omega
/-- A latent stream ends at its last row. -/
theorem last_L (b : Fin 2) (s : Fin 2048) : Last (rowL b s).val ↔ s.val = 2047 := by
  unfold Last rowL; simp only; omega
/-- A context stream ends at its last row. -/
theorem last_C (b : Fin 2) (s : Fin 256) : Last (rowC b s).val ↔ s.val = 255 := by
  unfold Last rowC; simp only; omega

/-- A row belongs to a latent stream or to a context stream. -/
theorem row_cases (r : Fin 4608) :
    (∃ (b : Fin 2) (s : Fin 2048), r = rowL b s) ∨ ∃ (b : Fin 2) (s : Fin 256), r = rowC b s := by
  by_cases h : r.val < 4096
  · exact .inl ⟨⟨r.val / 2048, by omega⟩, ⟨r.val % 2048, by omega⟩, Fin.ext (by unfold rowL; simp only; omega)⟩
  · exact .inr ⟨⟨(r.val - 4096) / 256, by omega⟩, ⟨(r.val - 4096) % 256, by omega⟩, Fin.ext (by unfold rowC; simp only; omega)⟩

end Cert.Conv

end
-- ==== Proof.ConvRef.lean ====
/- The convolution's gradient by the reference: its stages, row by row and channel by channel. -/
module

public import proofs.«01_k».proof.Proof.ConvStreams
public import proofs.«01_k».proof.Proof.Gen.Reference7Ideal.Read

@[expose] public section

set_option maxRecDepth 16384

noncomputable section

namespace Cert.Conv

open Idealize.ShloMosaic Cert.Reference7Ideal Cert.Reference7Ideal.Read

variable (x : Proj) (d : Rows) (w : Taps)

/-- The gate. -/
theorem v4_at (r : Fin 4608) (ch : Fin 1024) : val_main_v4 (F := Ideal) x (ix2 r ch) = x (ix2 r (col 0 ch)) := by
  unfold val_main_v4 val_main_v3 val_main_v2 val_main_v1 val_main_v0
  pointwise
  refine congrArg x (congrArg₂ ix2 (Fin.ext ?_) (Fin.ext ?_))
  · show _ = r.val; simp
  · show _ = 768 * (ch.val / 256) + 256 * 0 + ch.val % 256
    simp; omega
/-- The second gate. -/
theorem v7_at (r : Fin 4608) (ch : Fin 1024) : val_main_v7 (F := Ideal) x (ix2 r ch) = x (ix2 r (col 1 ch)) := by
  unfold val_main_v7 val_main_v6 val_main_v5 val_main_v1 val_main_v0
  pointwise
  refine congrArg x (congrArg₂ ix2 (Fin.ext ?_) (Fin.ext ?_))
  · show _ = r.val; simp
  · show _ = 768 * (ch.val / 256) + 256 * 1 + ch.val % 256
    simp; omega
/-- The values. -/
theorem v10_at (r : Fin 4608) (ch : Fin 1024) : val_main_v10 (F := Ideal) x (ix2 r ch) = x (ix2 r (col 2 ch)) := by
  unfold val_main_v10 val_main_v9 val_main_v8 val_main_v1 val_main_v0
  pointwise
  refine congrArg x (congrArg₂ ix2 (Fin.ext ?_) (Fin.ext ?_))
  · show _ = r.val; simp
  · show _ = 768 * (ch.val / 256) + 256 * 2 + ch.val % 256
    simp; omega
/-- What is convolved. -/
theorem v11_at (r : Fin 4608) (ch : Fin 1024) : val_main_v11 (F := Ideal) x (ix2 r ch) = pr x ch r := by
  rw [val_main_v11_apply, v7_at, v10_at]
  rfl
/-- The gradient of the convolution's result. -/
theorem v71_at (r : Fin 4608) (ch : Fin 1024) : val_main_v71 (F := Ideal) x d (ix2 r ch) = dq x d ch r := by
  rw [val_main_v71_apply, v4_at]
  exact mul_comm _ _

/-- The latent rows of what is convolved. -/
theorem v13_at (b : Fin 2) (s : Fin 2048) (ch : Fin 1024) :
    val_main_v13 (F := Ideal) x (ix3 b s ch) = pr x ch (rowL b s) := by
  rw [← v11_at]
  unfold val_main_v13 val_main_v12
  generalize val_main_v11 (F := Ideal) x = z
  pointwise
  refine congrArg z (congrArg₂ ix2 (Fin.ext ?_) (Fin.ext ?_))
  · show _ = 2048 * b.val + s.val; simp; omega
  · show _ = ch.val; simp
/-- The context's. -/
theorem v15_at (b : Fin 2) (s : Fin 256) (ch : Fin 1024) :
    val_main_v15 (F := Ideal) x (ix3 b s ch) = pr x ch (rowC b s) := by
  rw [← v11_at]
  unfold val_main_v15 val_main_v14
  generalize val_main_v11 (F := Ideal) x = z
  pointwise
  refine congrArg z (congrArg₂ ix2 (Fin.ext ?_) (Fin.ext ?_))
  · show _ = 4096 + 256 * b.val + s.val; simp; omega
  · show _ = ch.val; simp

/-- The row before, in a latent stream. -/
theorem v19_at (b : Fin 2) (s : Fin 2048) (ch : Fin 1024) :
    val_main_v19 (F := Ideal) x (ix3 b s ch) = prv (pr x ch) (rowL b s) := by
  unfold val_main_v19 val_main_v18 val_main_v17 val_main_cst
  have e := v13_at x
  generalize val_main_v13 (F := Ideal) x = z at *
  pointwise
  by_cases h : s.val < 1
  · rw [dif_pos h, prv_first _ _ ((first_L b s).mpr (by omega))]
  · rw [dif_neg h, prv_next _ _ (rowL b ⟨s.val - 1, by omega⟩) (fun k => h (by have := (first_L b s).mp k; omega))
      (by unfold rowL; simp only; omega)]
    exact e b ⟨s.val - 1, by omega⟩ ch
/-- The row after, in a latent stream. -/
theorem v22_at (b : Fin 2) (s : Fin 2048) (ch : Fin 1024) :
    val_main_v22 (F := Ideal) x (ix3 b s ch) = nxt (pr x ch) (rowL b s) := by
  unfold val_main_v22 val_main_v21 val_main_v17 val_main_cst
  have e := v13_at x
  generalize val_main_v13 (F := Ideal) x = z at *
  pointwise
  by_cases h : s.val < 2047
  · rw [dif_pos h, nxt_next _ _ (rowL b ⟨s.val + 1, by omega⟩) (fun k => by have := (last_L b s).mp k; omega)
      (by unfold rowL; simp only; omega)]
    refine Eq.trans (congrArg z ?_) (e b ⟨s.val + 1, by omega⟩ ch)
    exact congrArg (fun q => ix3 b q ch) (Fin.ext (Nat.add_comm _ _))
  · rw [dif_neg h, nxt_last _ _ ((last_L b s).mpr (by omega))]
/-- A tap, on every row. -/
theorem v27_at (b : Fin 2) (s : Fin 2048) (ch : Fin 1024) : val_main_v27 (F := Ideal) w (ix3 b s ch) = w (ix2 0 ch) := by
  unfold val_main_v27 val_main_v26 val_main_v25 val_main_v24
  pointwise
/-- A tap, on every row. -/
theorem v32_at (b : Fin 2) (s : Fin 2048) (ch : Fin 1024) : val_main_v32 (F := Ideal) w (ix3 b s ch) = w (ix2 1 ch) := by
  unfold val_main_v32 val_main_v31 val_main_v30 val_main_v29
  pointwise
/-- A tap, on every row. -/
theorem v38_at (b : Fin 2) (s : Fin 2048) (ch : Fin 1024) : val_main_v38 (F := Ideal) w (ix3 b s ch) = w (ix2 2 ch) := by
  unfold val_main_v38 val_main_v37 val_main_v36 val_main_v35
  pointwise
/-- The convolution of a latent stream. -/
theorem v40_at (b : Fin 2) (s : Fin 2048) (ch : Fin 1024) :
    val_main_v40 (F := Ideal) x w (ix3 b s ch) = conv x w ch (rowL b s) := by
  rw [val_main_v40_apply, val_main_v34_apply, val_main_v28_apply, val_main_v33_apply, val_main_v39_apply, v19_at, v13_at, v22_at, v27_at,
    v32_at, v38_at]
  rfl

/-- The row before, in a context stream. -/
theorem v45_at (b : Fin 2) (s : Fin 256) (ch : Fin 1024) :
    val_main_v45 (F := Ideal) x (ix3 b s ch) = prv (pr x ch) (rowC b s) := by
  unfold val_main_v45 val_main_v44 val_main_v43 val_main_cst_2
  have e := v15_at x
  generalize val_main_v15 (F := Ideal) x = z at *
  pointwise
  by_cases h : s.val < 1
  · rw [dif_pos h, prv_first _ _ ((first_C b s).mpr (by omega))]
  · rw [dif_neg h, prv_next _ _ (rowC b ⟨s.val - 1, by omega⟩) (fun k => h (by have := (first_C b s).mp k; omega))
      (by unfold rowC; simp only; omega)]
    exact e b ⟨s.val - 1, by omega⟩ ch
/-- The row after, in a context stream. -/
theorem v48_at (b : Fin 2) (s : Fin 256) (ch : Fin 1024) :
    val_main_v48 (F := Ideal) x (ix3 b s ch) = nxt (pr x ch) (rowC b s) := by
  unfold val_main_v48 val_main_v47 val_main_v43 val_main_cst_2
  have e := v15_at x
  generalize val_main_v15 (F := Ideal) x = z at *
  pointwise
  by_cases h : s.val < 255
  · rw [dif_pos h, nxt_next _ _ (rowC b ⟨s.val + 1, by omega⟩) (fun k => by have := (last_C b s).mp k; omega)
      (by unfold rowC; simp only; omega)]
    refine Eq.trans (congrArg z ?_) (e b ⟨s.val + 1, by omega⟩ ch)
    exact congrArg (fun q => ix3 b q ch) (Fin.ext (Nat.add_comm _ _))
  · rw [dif_neg h, nxt_last _ _ ((last_C b s).mpr (by omega))]
/-- A tap, on every row. -/
theorem v53_at (b : Fin 2) (s : Fin 256) (ch : Fin 1024) : val_main_v53 (F := Ideal) w (ix3 b s ch) = w (ix2 0 ch) := by
  unfold val_main_v53 val_main_v52 val_main_v51 val_main_v50
  pointwise
/-- A tap, on every row. -/
theorem v58_at (b : Fin 2) (s : Fin 256) (ch : Fin 1024) : val_main_v58 (F := Ideal) w (ix3 b s ch) = w (ix2 1 ch) := by
  unfold val_main_v58 val_main_v57 val_main_v56 val_main_v55
  pointwise
/-- A tap, on every row. -/
theorem v64_at (b : Fin 2) (s : Fin 256) (ch : Fin 1024) : val_main_v64 (F := Ideal) w (ix3 b s ch) = w (ix2 2 ch) := by
  unfold val_main_v64 val_main_v63 val_main_v62 val_main_v61
  pointwise
/-- The convolution of a context stream. -/
theorem v66_at (b : Fin 2) (s : Fin 256) (ch : Fin 1024) :
    val_main_v66 (F := Ideal) x w (ix3 b s ch) = conv x w ch (rowC b s) := by
  rw [val_main_v66_apply, val_main_v60_apply, val_main_v54_apply, val_main_v59_apply, val_main_v65_apply, v45_at, v15_at, v48_at, v53_at,
    v58_at, v64_at]
  rfl

/-- The convolution. -/
theorem v68_at (r : Fin 4608) (ch : Fin 1024) : val_main_v68 (F := Ideal) x w (ix2 r ch) = conv x w ch r := by
  unfold val_main_v68 val_main_v41 val_main_v67
  have e := v40_at x w
  have f := v66_at x w
  generalize val_main_v40 (F := Ideal) x w = z at *
  generalize val_main_v66 (F := Ideal) x w = y at *
  pointwise
  by_cases h : r.val < 4096
  · rw [dif_pos h]
    exact (e _ _ _).trans (congrArg _ (Fin.ext (by unfold rowL; simp only; omega)))
  · rw [dif_neg h]
    exact (f _ _ _).trans (congrArg _ (Fin.ext (by unfold rowC; simp only; omega)))

/-- The cotangent times the convolution. -/
theorem v72_at (r : Fin 4608) (ch : Fin 1024) :
    val_main_v72 (F := Ideal) x d w (ix2 r ch) = d (ix2 r ch) * conv x w ch r := by
  rw [val_main_v72_apply, v68_at]
  rfl

/-- The latent rows of the gradient of the convolution's result. -/
theorem v110_at (b : Fin 2) (s : Fin 2048) (ch : Fin 1024) :
    val_main_v110 (F := Ideal) x d (ix3 b s ch) = dq x d ch (rowL b s) := by
  rw [← v71_at]
  unfold val_main_v110 val_main_v73
  generalize val_main_v71 (F := Ideal) x d = z
  pointwise
  refine congrArg z (congrArg₂ ix2 (Fin.ext ?_) (Fin.ext ?_))
  · show _ = 2048 * b.val + s.val; simp; omega
  · show _ = ch.val; simp
/-- A tap, on every row. -/
theorem v111_at (b : Fin 2) (s : Fin 2048) (ch : Fin 1024) : val_main_v111 (F := Ideal) w (ix3 b s ch) = w (ix2 2 ch) := by
  unfold val_main_v111 val_main_v37 val_main_v36 val_main_v35
  pointwise
/-- A tap, on every row. -/
theorem v120_at (b : Fin 2) (s : Fin 2048) (ch : Fin 1024) : val_main_v120 (F := Ideal) w (ix3 b s ch) = w (ix2 1 ch) := by
  unfold val_main_v120 val_main_v31 val_main_v30 val_main_v29
  pointwise
/-- A tap, on every row. -/
theorem v129_at (b : Fin 2) (s : Fin 2048) (ch : Fin 1024) : val_main_v129 (F := Ideal) w (ix3 b s ch) = w (ix2 0 ch) := by
  unfold val_main_v129 val_main_v26 val_main_v25 val_main_v24
  pointwise
/-- The third tap times the row before. -/
theorem v140_at (b : Fin 2) (s : Fin 2048) (ch : Fin 1024) :
    val_main_v140 (F := Ideal) x d w (ix3 b s ch) = w (ix2 2 ch) * prv (dq x d ch) (rowL b s) := by
  have e : ∀ b s ch, val_main_v112 (F := Ideal) x d w (ix3 b s ch) = w (ix2 2 ch) * dq x d ch (rowL b s) := fun b s ch => by
    rw [val_main_v112_apply, v111_at, v110_at]; rfl
  unfold val_main_v140 val_main_v138 val_main_cst_25
  generalize val_main_v112 (F := Ideal) x d w = z at *
  pointwise
  by_cases h : s.val = 0
  · rw [dif_neg (by omega), prv_first _ _ ((first_L b s).mpr h), mul_zero]
  · rw [dif_pos ⟨by omega, by omega⟩, prv_next _ _ (rowL b ⟨s.val - 1, by omega⟩) (fun k => h ((first_L b s).mp k))
      (by unfold rowL; simp only; omega)]
    exact e b ⟨s.val - 1, by omega⟩ ch
/-- The first tap times the row after. -/
theorem v144_at (b : Fin 2) (s : Fin 2048) (ch : Fin 1024) :
    val_main_v144 (F := Ideal) x d w (ix3 b s ch) = w (ix2 0 ch) * nxt (dq x d ch) (rowL b s) := by
  have e : ∀ b s ch, val_main_v130 (F := Ideal) x d w (ix3 b s ch) = w (ix2 0 ch) * dq x d ch (rowL b s) := fun b s ch => by
    rw [val_main_v130_apply, v129_at, v110_at]; rfl
  unfold val_main_v144 val_main_v143 val_main_cst_26
  generalize val_main_v130 (F := Ideal) x d w = z at *
  pointwise
  by_cases h : s.val < 2047
  · rw [dif_pos h, nxt_next _ _ (rowL b ⟨s.val + 1, by omega⟩) (fun k => by have := (last_L b s).mp k; omega)
      (by unfold rowL; simp only; omega)]
    refine Eq.trans (congrArg z ?_) (e b ⟨s.val + 1, by omega⟩ ch)
    exact congrArg (fun q => ix3 b q ch) (Fin.ext (Nat.add_comm _ _))
  · rw [dif_neg h, nxt_last _ _ ((last_L b s).mpr (by omega)), mul_zero]
/-- The latent rows of the convolution turned around. -/
theorem v145_at (b : Fin 2) (s : Fin 2048) (ch : Fin 1024) :
    val_main_v145 (F := Ideal) x d w (ix3 b s ch) = dp x d w ch (rowL b s) := by
  rw [val_main_v145_apply, val_main_v141_apply, val_main_v121_apply, v140_at, v144_at, v120_at, v110_at]
  unfold dp
  show _ + _ + _ = (_ : EReal)
  rw [add_comm, ← add_assoc]
  rfl
/-- The context rows of the gradient of the convolution's result. -/
theorem v75_at (b : Fin 2) (s : Fin 256) (ch : Fin 1024) :
    val_main_v75 (F := Ideal) x d (ix3 b s ch) = dq x d ch (rowC b s) := by
  rw [← v71_at]
  unfold val_main_v75 val_main_v74
  generalize val_main_v71 (F := Ideal) x d = z
  pointwise
  refine congrArg z (congrArg₂ ix2 (Fin.ext ?_) (Fin.ext ?_))
  · show _ = 4096 + 256 * b.val + s.val; simp; omega
  · show _ = ch.val; simp
/-- A tap, on every row. -/
theorem v76_at (b : Fin 2) (s : Fin 256) (ch : Fin 1024) : val_main_v76 (F := Ideal) w (ix3 b s ch) = w (ix2 2 ch) := by
  unfold val_main_v76 val_main_v63 val_main_v62 val_main_v61
  pointwise
/-- A tap, on every row. -/
theorem v84_at (b : Fin 2) (s : Fin 256) (ch : Fin 1024) : val_main_v84 (F := Ideal) w (ix3 b s ch) = w (ix2 1 ch) := by
  unfold val_main_v84 val_main_v57 val_main_v56 val_main_v55
  pointwise
/-- A tap, on every row. -/
theorem v93_at (b : Fin 2) (s : Fin 256) (ch : Fin 1024) : val_main_v93 (F := Ideal) w (ix3 b s ch) = w (ix2 0 ch) := by
  unfold val_main_v93 val_main_v52 val_main_v51 val_main_v50
  pointwise
/-- The third tap times the row before. -/
theorem v104_at (b : Fin 2) (s : Fin 256) (ch : Fin 1024) :
    val_main_v104 (F := Ideal) x d w (ix3 b s ch) = w (ix2 2 ch) * prv (dq x d ch) (rowC b s) := by
  have e : ∀ b s ch, val_main_v77 (F := Ideal) x d w (ix3 b s ch) = w (ix2 2 ch) * dq x d ch (rowC b s) := fun b s ch => by
    rw [val_main_v77_apply, v76_at, v75_at]; rfl
  unfold val_main_v104 val_main_v102 val_main_cst_14
  generalize val_main_v77 (F := Ideal) x d w = z at *
  pointwise
  by_cases h : s.val = 0
  · rw [dif_neg (by omega), prv_first _ _ ((first_C b s).mpr h), mul_zero]
  · rw [dif_pos ⟨by omega, by omega⟩, prv_next _ _ (rowC b ⟨s.val - 1, by omega⟩) (fun k => h ((first_C b s).mp k))
      (by unfold rowC; simp only; omega)]
    exact e b ⟨s.val - 1, by omega⟩ ch
/-- The first tap times the row after. -/
theorem v108_at (b : Fin 2) (s : Fin 256) (ch : Fin 1024) :
    val_main_v108 (F := Ideal) x d w (ix3 b s ch) = w (ix2 0 ch) * nxt (dq x d ch) (rowC b s) := by
  have e : ∀ b s ch, val_main_v94 (F := Ideal) x d w (ix3 b s ch) = w (ix2 0 ch) * dq x d ch (rowC b s) := fun b s ch => by
    rw [val_main_v94_apply, v93_at, v75_at]; rfl
  unfold val_main_v108 val_main_v107 val_main_cst_15
  generalize val_main_v94 (F := Ideal) x d w = z at *
  pointwise
  by_cases h : s.val < 255
  · rw [dif_pos h, nxt_next _ _ (rowC b ⟨s.val + 1, by omega⟩) (fun k => by have := (last_C b s).mp k; omega)
      (by unfold rowC; simp only; omega)]
    refine Eq.trans (congrArg z ?_) (e b ⟨s.val + 1, by omega⟩ ch)
    exact congrArg (fun q => ix3 b q ch) (Fin.ext (Nat.add_comm _ _))
  · rw [dif_neg h, nxt_last _ _ ((last_C b s).mpr (by omega)), mul_zero]
/-- The context rows of the convolution turned around. -/
theorem v109_at (b : Fin 2) (s : Fin 256) (ch : Fin 1024) :
    val_main_v109 (F := Ideal) x d w (ix3 b s ch) = dp x d w ch (rowC b s) := by
  rw [val_main_v109_apply, val_main_v105_apply, val_main_v85_apply, v104_at, v108_at, v84_at, v75_at]
  unfold dp
  show _ + _ + _ = (_ : EReal)
  rw [add_comm, ← add_assoc]
  rfl

/-- The turned convolution's latent rows, among zeros. -/
theorem v149_at (r : Fin 4608) (ch : Fin 1024) :
    val_main_v149 (F := Ideal) x d w (ix2 r ch) = if r.val < 4096 then dp x d w ch r else 0 := by
  have e := v145_at x d w
  unfold val_main_v149 val_main_v148 val_main_cst_28
  generalize val_main_v145 (F := Ideal) x d w = z at *
  pointwise
  by_cases h : r.val < 4096
  · rw [dif_pos h, if_pos h]
    exact (e _ _ _).trans (congrArg _ (Fin.ext (by unfold rowL; simp only; omega)))
  · rw [dif_neg h, if_neg h]
set_option maxRecDepth 131072 in
/-- The turned convolution's context rows, among zeros. -/
theorem v147_at (r : Fin 4608) (ch : Fin 1024) :
    val_main_v147 (F := Ideal) x d w (ix2 r ch) = if r.val < 4096 then 0 else dp x d w ch r := by
  have e := v109_at x d w
  unfold val_main_v147 val_main_v146 val_main_cst_27
  generalize val_main_v109 (F := Ideal) x d w = z at *
  pointwise
  by_cases h : r.val < 4096
  · rw [if_pos h, dif_neg (by omega)]
  · rw [if_neg h, dif_pos ⟨by omega, by omega⟩]
    exact (e _ _ _).trans (congrArg _ (Fin.ext (by unfold rowC; simp only; omega)))
/-- The convolution turned around. -/
theorem v150_at (r : Fin 4608) (ch : Fin 1024) : val_main_v150 (F := Ideal) x d w (ix2 r ch) = dp x d w ch r := by
  rw [val_main_v150_apply, v147_at, v149_at]
  show (_ + _ : EReal) = _
  split
  · exact zero_add _
  · exact add_zero _

/-- The gradient of the projection's array. -/
theorem v165_at (n : Fin 3) (r : Fin 4608) (ch : Fin 1024) :
    val_main_v165 (F := Ideal) x d w (ix2 r (col n ch)) = dproj x d w n ch r := by
  have e : ∀ r ch, val_main_v151 (F := Ideal) x d w (ix2 r ch) = dp x d w ch r * x (ix2 r (col 1 ch)) := fun r ch => by
    rw [val_main_v151_apply, v7_at, v150_at]; exact mul_comm _ _
  have f : ∀ r ch, val_main_v152 (F := Ideal) x d w (ix2 r ch) = dp x d w ch r * x (ix2 r (col 2 ch)) := fun r ch => by
    rw [val_main_v152_apply, v10_at, v150_at]; rfl
  have g := v72_at x d w
  unfold val_main_v165 val_main_v164 val_main_v163 val_main_v162 val_main_v161 val_main_v160 val_main_v159 val_main_v158 val_main_v157 val_main_v156
    val_main_v155 val_main_v154 val_main_v153 val_main_cst_29 val_main_cst_30 val_main_cst_31
  generalize val_main_v151 (F := Ideal) x d w = z1 at *
  generalize val_main_v152 (F := Ideal) x d w = z2 at *
  generalize val_main_v72 (F := Ideal) x d w = z3 at *
  pointwise
  have h1 : (col n ch).val / 768 = ch.val / 256 := by unfold col; simp only; omega
  have h2 : (col n ch).val / 256 % 3 = n.val := by unfold col; simp only; omega
  have h3 : (col n ch).val % 256 = ch.val % 256 := by unfold col; simp only; omega
  have k : ∀ p, (⟨(col n ch).val / 768 * 256 + (col n ch).val % 256, p⟩ : Fin 1024) = ch := fun p =>
    Fin.ext (by show _ = ch.val; simp only; omega)
  simp only [k, h2]
  obtain rfl | rfl | rfl : n = 0 ∨ n = 1 ∨ n = 2 := by omega
  · rw [dif_neg (by simp), dif_neg (by simp), dif_pos (by simp; omega), zero_add, zero_add, g]
    rfl
  · rw [dif_neg (by simp), dif_pos (by simp; omega), dif_neg (by simp), zero_add, add_zero, f]
    rfl
  · rw [dif_pos (by simp; omega), dif_neg (by simp), dif_neg (by simp), add_zero, add_zero, e]
    rfl

end Cert.Conv

end
-- ==== Proof.ConvTaps.lean ====
/- The gradient of the convolution's taps by the reference: sums over all rows of all streams. -/
module

public import proofs.«01_k».proof.Proof.ConvRef
public import Idealize.ShloMosaic.Lib.Pipeline.ValueKit

@[expose] public section

set_option maxRecDepth 16384

noncomputable section

namespace Cert.Conv

open Idealize.ShloMosaic Cert.Reference7Ideal Cert.Reference7Ideal.Read

/-- The indices that a sum over two leading axes gathers. -/
theorem rows_fiber {n0 n1 : Nat} (h : (⟨3, ![n0, n1, 1024]⟩ : Shape).ReducesTo [0, 1] S1024) (j : S1024.Idx)
    (i : (⟨3, ![n0, n1, 1024]⟩ : Shape).Idx) : h.drop i = j ↔ ∃ k : Fin n0 × Fin n1, ix3 k.1 k.2 (j 0) = i := by
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    refine funext fun b => Fin.ext ?_
    match b with
    | ⟨0, _⟩ => rfl

/-- The host's sum over two leading axes. -/
theorem reduce_rows {n0 n1 : Nat} (h : (⟨3, ![n0, n1, 1024]⟩ : Shape).ReducesTo [0, 1] S1024)
    (v : (⟨3, ![n0, n1, 1024]⟩ : Shape).Idx → EReal) (z : EReal) (j : S1024.Idx) :
    Ideal.hostReduceAdd h v z j = z + ∑ b : Fin n0, ∑ s : Fin n1, v (ix3 b s (j 0)) := by
  classical
  have key := Finset.sum_filter_eq_sum_of_fiber (fun i => h.drop i = j) (fun k : Fin n0 × Fin n1 => ix3 k.1 k.2 (j 0))
    (fun _ _ e => Prod.ext (congrFun e 0) (congrFun e 1)) (rows_fiber h j) v
  rw [Fintype.sum_prod_type] at key
  refine congrArg (z + ·) ?_
  convert key

/-- A sum over all rows, stream by stream. -/
theorem sum_rows (f : Fin 4608 → EReal) :
    (∑ b : Fin 2, ∑ s : Fin 256, f (rowC b s)) + (∑ b : Fin 2, ∑ s : Fin 2048, f (rowL b s)) = ∑ r : Fin 4608, f r := by
  have e1 : (∑ b : Fin 2, ∑ s : Fin 2048, f (rowL b s)) = ∑ r : Fin 4096, f (Fin.castAdd 512 r) :=
    Fin.sum_mul_add_congr fun b s h => congrArg f (Fin.ext (by show 2048 * b.val + s.val = b.val * 2048 + s.val; omega))
  have e2 : (∑ b : Fin 2, ∑ s : Fin 256, f (rowC b s)) = ∑ r : Fin 512, f (Fin.natAdd 4096 r) :=
    Fin.sum_mul_add_congr fun b s h => congrArg f
      (Fin.ext (by show 4096 + 256 * b.val + s.val = 4096 + (b.val * 256 + s.val); omega))
  rw [e1, e2, add_comm]
  exact (Fin.sum_univ_add (a := 4096) (b := 512) f).symm

variable (x : Proj) (d : Rows)

/-- The context streams' part of a tap's gradient, among zeros. -/
theorem v83_at (k : Fin 3) (ch : Fin 1024) : val_main_v83 (F := Ideal) x d (ix2 k ch)
    = if k = 2 then ∑ b : Fin 2, ∑ s : Fin 256, dtap x d 2 ch (rowC b s) else 0 := by
  have e : ∀ b s ch, val_main_v78 (F := Ideal) x d (ix3 b s ch) = dtap x d 2 ch (rowC b s) := fun b s ch => by
    rw [val_main_v78_apply, v75_at, v48_at]; rfl
  unfold val_main_v83 val_main_v82 val_main_v81 val_main_v80 val_main_v79 val_main_cst_5 val_main_cst_6 val_main_cst_7
  generalize val_main_v78 (F := Ideal) x d = z at *
  pointwise [reduce_rows]
  by_cases h : k = 2
  · rw [if_pos h, dif_pos (by have := congrArg Fin.val h; simp at this; omega)]
    rw [Fin.sum_univ_one, Fin.sum_univ_one]
    exact Finset.sum_congr rfl fun b _ => Finset.sum_congr rfl fun s _ => e b s ch
  · rw [if_neg h, dif_neg (fun q => h (Fin.ext (by show k.val = 2; omega)))]

/-- The context streams' part of a tap's gradient, among zeros. -/
theorem v91_at (k : Fin 3) (ch : Fin 1024) : val_main_v91 (F := Ideal) x d (ix2 k ch)
    = if k = 1 then ∑ b : Fin 2, ∑ s : Fin 256, dtap x d 1 ch (rowC b s) else 0 := by
  have e : ∀ b s ch, val_main_v86 (F := Ideal) x d (ix3 b s ch) = dtap x d 1 ch (rowC b s) := fun b s ch => by
    rw [val_main_v86_apply, v75_at, v15_at]; rfl
  unfold val_main_v91 val_main_v90 val_main_v89 val_main_v88 val_main_v87 val_main_cst_8 val_main_cst_9 val_main_cst_10
  generalize val_main_v86 (F := Ideal) x d = z at *
  pointwise [reduce_rows]
  by_cases h : k = 1
  · rw [if_pos h, dif_pos (by have := congrArg Fin.val h; simp at this; omega)]
    rw [Fin.sum_univ_one, Fin.sum_univ_one]
    exact Finset.sum_congr rfl fun b _ => Finset.sum_congr rfl fun s _ => e b s ch
  · rw [if_neg h, dif_neg (fun q => h (Fin.ext (by show k.val = 1; omega)))]

/-- The context streams' part of a tap's gradient, among zeros. -/
theorem v100_at (k : Fin 3) (ch : Fin 1024) : val_main_v100 (F := Ideal) x d (ix2 k ch)
    = if k = 0 then ∑ b : Fin 2, ∑ s : Fin 256, dtap x d 0 ch (rowC b s) else 0 := by
  have e : ∀ b s ch, val_main_v95 (F := Ideal) x d (ix3 b s ch) = dtap x d 0 ch (rowC b s) := fun b s ch => by
    rw [val_main_v95_apply, v75_at, v45_at]; rfl
  unfold val_main_v100 val_main_v99 val_main_v98 val_main_v97 val_main_v96 val_main_cst_11 val_main_cst_12 val_main_cst_13
  generalize val_main_v95 (F := Ideal) x d = z at *
  pointwise [reduce_rows]
  by_cases h : k = 0
  · rw [if_pos h, dif_pos (by have := congrArg Fin.val h; simp at this; omega)]
    rw [Fin.sum_univ_one, Fin.sum_univ_one]
    exact Finset.sum_congr rfl fun b _ => Finset.sum_congr rfl fun s _ => e b s ch
  · rw [if_neg h, dif_neg (fun q => h (Fin.ext (by show k.val = 0; omega)))]

/-- The latent streams' part of a tap's gradient, among zeros. -/
theorem v118_at (k : Fin 3) (ch : Fin 1024) : val_main_v118 (F := Ideal) x d (ix2 k ch)
    = if k = 2 then ∑ b : Fin 2, ∑ s : Fin 2048, dtap x d 2 ch (rowL b s) else 0 := by
  have e : ∀ b s ch, val_main_v113 (F := Ideal) x d (ix3 b s ch) = dtap x d 2 ch (rowL b s) := fun b s ch => by
    rw [val_main_v113_apply, v110_at, v22_at]; rfl
  unfold val_main_v118 val_main_v117 val_main_v116 val_main_v115 val_main_v114 val_main_cst_16 val_main_cst_17 val_main_cst_18
  generalize val_main_v113 (F := Ideal) x d = z at *
  pointwise [reduce_rows]
  by_cases h : k = 2
  · rw [if_pos h, dif_pos (by have := congrArg Fin.val h; simp at this; omega)]
    rw [Fin.sum_univ_one, Fin.sum_univ_one]
    exact Finset.sum_congr rfl fun b _ => Finset.sum_congr rfl fun s _ => e b s ch
  · rw [if_neg h, dif_neg (fun q => h (Fin.ext (by show k.val = 2; omega)))]

/-- The latent streams' part of a tap's gradient, among zeros. -/
theorem v127_at (k : Fin 3) (ch : Fin 1024) : val_main_v127 (F := Ideal) x d (ix2 k ch)
    = if k = 1 then ∑ b : Fin 2, ∑ s : Fin 2048, dtap x d 1 ch (rowL b s) else 0 := by
  have e : ∀ b s ch, val_main_v122 (F := Ideal) x d (ix3 b s ch) = dtap x d 1 ch (rowL b s) := fun b s ch => by
    rw [val_main_v122_apply, v110_at, v13_at]; rfl
  unfold val_main_v127 val_main_v126 val_main_v125 val_main_v124 val_main_v123 val_main_cst_19 val_main_cst_20 val_main_cst_21
  generalize val_main_v122 (F := Ideal) x d = z at *
  pointwise [reduce_rows]
  by_cases h : k = 1
  · rw [if_pos h, dif_pos (by have := congrArg Fin.val h; simp at this; omega)]
    rw [Fin.sum_univ_one, Fin.sum_univ_one]
    exact Finset.sum_congr rfl fun b _ => Finset.sum_congr rfl fun s _ => e b s ch
  · rw [if_neg h, dif_neg (fun q => h (Fin.ext (by show k.val = 1; omega)))]

/-- The latent streams' part of a tap's gradient, among zeros. -/
theorem v136_at (k : Fin 3) (ch : Fin 1024) : val_main_v136 (F := Ideal) x d (ix2 k ch)
    = if k = 0 then ∑ b : Fin 2, ∑ s : Fin 2048, dtap x d 0 ch (rowL b s) else 0 := by
  have e : ∀ b s ch, val_main_v131 (F := Ideal) x d (ix3 b s ch) = dtap x d 0 ch (rowL b s) := fun b s ch => by
    rw [val_main_v131_apply, v110_at, v19_at]; rfl
  unfold val_main_v136 val_main_v135 val_main_v134 val_main_v133 val_main_v132 val_main_cst_22 val_main_cst_23 val_main_cst_24
  generalize val_main_v131 (F := Ideal) x d = z at *
  pointwise [reduce_rows]
  by_cases h : k = 0
  · rw [if_pos h, dif_pos (by have := congrArg Fin.val h; simp at this; omega)]
    rw [Fin.sum_univ_one, Fin.sum_univ_one]
    exact Finset.sum_congr rfl fun b _ => Finset.sum_congr rfl fun s _ => e b s ch
  · rw [if_neg h, dif_neg (fun q => h (Fin.ext (by show k.val = 0; omega)))]

/-- The gradient of the taps. -/
theorem v137_at (k : Fin 3) (ch : Fin 1024) :
    val_main_v137 (F := Ideal) x d (ix2 k ch) = ∑ r : Fin 4608, dtap x d k ch r := by
  rw [val_main_v137_apply, val_main_v128_apply, val_main_v119_apply, val_main_v101_apply, val_main_v92_apply,
    v83_at, v91_at, v100_at, v118_at, v127_at, v136_at]
  show (_ + _ + _ + _ + _ + _ : EReal) = _
  rw [← sum_rows]
  obtain rfl | rfl | rfl : k = 0 ∨ k = 1 ∨ k = 2 := by omega
  all_goals simp

end Cert.Conv

end
-- ==== Proof.ConvFinal.lean ====
/- The convolution's gradient: the kernel's arrays are the reference's. -/
module

public import proofs.«01_k».proof.Proof.ConvOut
public import proofs.«01_k».proof.Proof.ConvTaps

@[expose] public section

set_option maxRecDepth 16384

noncomputable section

namespace Cert.Conv

open Idealize.ShloMosaic Cert.Kernel7Ideal Cert.Kernel7Ideal.Gen Idealize.ShloMosaic.TcCoe
open Cert.Reference7Ideal.Read

variable (m : (ℓ : Loc nD τ sig) → Buf (Elt Ideal) ℓ) (c : Dev nD)

/-- The projection's gradient. -/
theorem final_proj : (dats m 0 c).arrAt 7 cfg0.N
    = val_main_v165 (F := Ideal) (m ((c : Thread nD τ).loc main_arg0)) (m ((c : Thread nD τ).loc main_arg1))
        (m ((c : Thread nD τ).loc main_arg2)) := by
  refine (dats m 0 c).arrAt_eq_of_covers 7 _ (by decide +kernel) fun t hf y => ?_
  blk_simp
  rw [after0_7]
  have hy0 : (y 0).val < 256 := (y 0).isLt
  have hy1 : (y 1).val < 768 := (y 1).isLt
  have ht : t.val < 72 := t.isLt
  have e : (win0_7.blk t).view.emb y = ix2 (⟨256 * (t.val % 18) + (y 0).val, by omega⟩ : Fin 4608)
      (col ⟨(y 1).val / 256, by omega⟩ ⟨256 * (t.val / 18) + (y 1).val % 256, by omega⟩) := by
    blk_ext [idx t]
    unfold col
    simp only
    omega
  rw [e, v165_at]
  exact outs_proj m c t _ ⟨(y 0).val, hy0⟩ ⟨(y 1).val % 256, by omega⟩ _ _ rfl rfl y rfl (by show (y 1).val = 256 * ((y 1).val / 256) + (y 1).val % 256; omega)

/-- The taps' gradient. -/
theorem final_taps : (dats m 0 c).arrAt 8 cfg0.N
    = val_main_v137 (F := Ideal) (m ((c : Thread nD τ).loc main_arg0)) (m ((c : Thread nD τ).loc main_arg1)) := by
  refine (dats m 0 c).arrAt_eq_of_covers 8 _ (by decide +kernel) fun t hf y => ?_
  blk_simp
  rw [after0_8, Pipeline.eq_sum_fin_of_reset_step_apply_of_flush (fun n h => (outsAt0 m c n h).2) 18 (fun _ => 0) _
    (fun t h j => outs_taps_first m c t h j) (fun t h j => outs_taps_next m c t h j) t ((flush0_8 t).mp hf) _, zero_add]
  have hy1 : (y 1).val < 256 := (y 1).isLt
  have ht : t.val < 72 := t.isLt
  have e : (win0_8.blk t).view.emb y = ix2 (y 0 : Fin 3) (⟨256 * (t.val / 18) + (y 1).val, by omega⟩ : Fin 1024) := by
    blk_ext [idx t]
  rw [e]
  refine Eq.trans ?_ (v137_at _ _ (y 0 : Fin 3) _).symm
  refine Fin.sum_mul_add_congr fun s k hl => ?_
  refine congrArg₂ (dtap _ _ _) (Fin.ext ?_) (Fin.ext ?_)
  · show 256 * ((18 * (t.val / 18) + s.val) / 18) + (y 1).val = 256 * (t.val / 18) + (y 1).val
    omega
  · show 256 * ((18 * (t.val / 18) + s.val) % 18) + k.val = s.val * 256 + k.val
    omega

end Cert.Conv

end
-- ==== Proof.Conv.lean ====
/- The claims about the short convolution's gradient: each reference's run and frame, and each kernel's arrays against them. -/
module

public import proofs.«01_k».proof.Defs
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.ConvFinal
public import Idealize.ShloMosaic.Lib.Quiescent
public import Idealize.ShloMosaic.Adequacy
public import Idealize.ShloMosaic.Init

@[expose] public section

noncomputable section

namespace Cert.Proof

open Idealize.ShloMosaic Idealize.SL.Sem

open Cert.Reference7Ideal in
/-- The reference of the gradient of the short convolution runs, keeps its arguments, and has no counter to leave raised. -/
theorem frame_reference7
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2.2, sem_eq_zero_of_no_sems (by decide) r.2⟩)
    (Cert.Reference7Ideal.Value.run (F := Ideal) m g)

open Cert.Reference7Ideal in
/-- The results of the reference of the gradient of the short convolution, as functions of its argument arrays. -/
theorem run_reference7
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v165) = Read.val_main_v165 (F := Ideal) (m ((c.tc : Thread nD τ).loc main_arg0)) (m ((c.tc : Thread nD τ).loc main_arg1)) (m ((c.tc : Thread nD τ).loc main_arg2))
        ∧ r.2.mem ((c.tc : Thread nD τ).loc main_v137) = Read.val_main_v137 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v165_eq (F := Ideal) _),
      (h c).2.1.trans (Read.val_main_v137_eq (F := Ideal) _),
      (h c).2.2⟩)
    (Cert.Reference7Ideal.Value.run (F := Ideal) m g)

/-- The kernel of the gradient of the short convolution computes what its reference does. -/
theorem algebraic7 : Cert.algebraic_Kernel7Ideal_Reference7Ideal := by
  intro m g m' g' hpre hagree
  refine ⟨fun c => (Cert.Kernel7Ideal.Gen.dats m 0 c).arrAt 7 Cert.Kernel7Ideal.cfg0.N,
    fun c => (Cert.Kernel7Ideal.Gen.dats m 0 c).arrAt 8 Cert.Kernel7Ideal.cfg0.N,
    Cert.Kernel7Ideal.Value.run_blocks (F := Ideal) m g, ?_⟩
  refine (θ_run Cert.Reference7Ideal.defs _ _).mono (fun r h c => ?_) (run_reference7 m' g')
  obtain ⟨e0, e1, e2⟩ := hagree c
  obtain ⟨h0, h1, hargs⟩ := h c
  rw [e0, e1, e2] at h0
  rw [e0, e1] at h1
  exact ⟨h0.trans (Cert.Conv.final_proj m c).symm, h1.trans (Cert.Conv.final_taps m c).symm, hargs⟩

end Cert.Proof

end
-- ==== Proof.QueryRows.lean ====
/- The gradient of the normalised query latents: a product over the heads, accumulated in two parts. -/
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack

@[expose] public section

set_option maxRecDepth 16384

noncomputable section

namespace Cert.QueryRows

open Idealize.ShloMosaic Cert.Kernel15Ideal Cert.Kernel15Ideal.Gen Idealize.ShloMosaic.TcCoe
open Cert.Reference15Ideal.Read

variable (m : (ℓ : Loc nD τ sig) → Buf (Elt Ideal) ℓ) (c : Dev nD)

/-- The windows' block indices. -/
theorem idx : ∀ t : Fin cfg0.N, win0_0.index t = ![t.val / 2, t.val % 2]
    ∧ win0_1.index t = ![0, t.val % 2]
    ∧ win0_2.index t = ![t.val / 2, 0] :=
  (by decide +kernel : ∀ t : Fin grid0.N, _)

/-- The reference at an index: the contraction over the outputs. -/
theorem ref_apply (dy : Vec Ideal S4608x2048 .bf16) (w : Vec Ideal S256x2048 .bf16) (i : S4608x256.Idx) :
    val_main_v5 (F := Ideal) dy w i = ∑ k : Fin 2048, dy (ix2 (i 0) k) * w (ix2 (i 1) k) := by
  unfold val_main_v5 val_main_v4 val_main_v1 val_main_v0
  pointwise

/-- The carried block: what it held and one product more. -/
theorem pay_acc (a : Vec Ideal S1536x256 .f32) (x : Vec Ideal S1536x1024 .bf16) (w : Vec Ideal S256x1024 .bf16)
    (j : S1536x256.Idx) :
    k0_pay2 a x w j = a j + ∑ k : Fin 1024, x (ix2 (j 0) k) * w (ix2 (j 1) k) := by
  unfold k0_pay2
  pointwise

/-- The carried block starts at zero. -/
theorem pay_zero (j : S1536x256.Idx) : k0_pay1 (F := Ideal) j = 0 := by
  unfold k0_pay1
  pointwise

/-- The block written out is the carried one. -/
theorem pay_out (a : Vec Ideal S1536x256 .f32) : k0_pay3 (F := Ideal) a = a := by
  funext j
  unfold k0_pay3
  pointwise

/-- At the last part of a run the block written out is the carried one. -/
theorem out_eq (t : Fin cfg0.N) (h : t.val % 2 = 1) : (outsAt0 m c t.val t.isLt).1 = (outsAt0 m c t.val t.isLt).2 := by
  rw [outsAt0_B m c t (by omega) h]
  frame_out
  rw [pay_out]

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 2 (fun _ => 0) _
    (fun t h j => by rw [outsAt0_A m c t h (by omega)]; frame_out; rw [pay_acc, pay_zero])
    (fun t h j => by rw [outsAt0_B m c t h (by omega)]; frame_out; simp only [read_unread_whole]; rw [pay_acc])
    t ((flush0_2 t).mp hf) _, zero_add, ref_apply]
  refine Fin.sum_mul_add_congr fun s k hl => ?_
  blk_point [iblk, V, idx t, idx ⟨_, Pipeline.run_point_lt_of_flush t ((flush0_2 t).mp hf) s⟩]

end Cert.QueryRows

end
-- ==== Proof.QueryWeight.lean ====
/- The gradient of the queries' projection: a product over the tokens, accumulated in three parts. -/
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack

@[expose] public section

set_option maxRecDepth 16384

noncomputable section

namespace Cert.QueryWeight

open Idealize.ShloMosaic Cert.Kernel16Ideal Cert.Kernel16Ideal.Gen Idealize.ShloMosaic.TcCoe
open Cert.Reference16Ideal.Read

variable (m : (ℓ : Loc nD τ sig) → Buf (Elt Ideal) ℓ) (c : Dev nD)

/-- The windows' block indices. -/
theorem idx : ∀ t : Fin cfg0.N, win0_0.index t = ![t.val % 3, t.val / 3]
    ∧ win0_1.index t = ![t.val % 3, 0]
    ∧ win0_2.index t = ![t.val / 3, 0] :=
  (by decide +kernel : ∀ t : Fin grid0.N, _)

/-- The reference at an index: the contraction over the tokens. -/
theorem ref_apply (x : Vec Ideal S4608x256 .bf16) (dy : Vec Ideal S4608x2048 .bf16) (i : S256x2048.Idx) :
    val_main_v5 (F := Ideal) x dy i = ∑ r : Fin 4608, x (ix2 r (i 0)) * dy (ix2 r (i 1)) := by
  unfold val_main_v5 val_main_v4 val_main_v1 val_main_v0
  pointwise
  exact Finset.sum_congr rfl fun r _ => mul_comm _ _

/-- One product of a block of tokens. -/
theorem pay_part (x : Vec Ideal S1536x256 .bf16) (dy : Vec Ideal S1536x2048 .bf16) (j : S256x2048.Idx) :
    k0_pay1 x dy j = 0 + ∑ r : Fin 1536, x (ix2 r (j 0)) * dy (ix2 r (j 1)) := by
  rw [zero_add]
  unfold k0_pay1
  pointwise

/-- The accumulating block: what it held and one product more. -/
theorem pay_acc (x : Vec Ideal S1536x256 .bf16) (dy : Vec Ideal S1536x2048 .bf16) (a : Vec Ideal S256x2048 .f32)
    (j : S256x2048.Idx) :
    k0_pay2 x dy a j = a j + ∑ r : Fin 1536, x (ix2 r (j 0)) * dy (ix2 r (j 1)) := by
  unfold k0_pay2 k0_pay1
  pointwise

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by have ht : t.val < 3 := t.isLt; rw [outsAt0_A m c t h (by omega)]; frame_out; rw [pay_part])
    (fun t h j => by rw [outsAt0_B m c t h (by omega)]; frame_out; rw [pay_acc]) t ((flush0_2 t).mp hf) _, zero_add,
    ref_apply]
  refine Fin.sum_mul_add_congr fun s k hl => ?_
  blk_point [iblk, V, idx t, idx ⟨_, Pipeline.run_point_lt_of_flush t ((flush0_2 t).mp hf) s⟩]

end Cert.QueryWeight

end
-- ==== Proof.KeyRows.lean ====
/- The gradient of the normalised key and value latents: a product over the heads, accumulated in two parts. -/
module

public import proofs.«01_k».proof.Proof.Gen.Kernel17Ideal.Value
public import proofs.«01_k».proof.Proof.Gen.Reference17Ideal.Read
public import Idealize.ShloMosaic.Lib.Pipeline.ValueKit
public import Idealize.ShloMosaic.Lib.Pipeline.ReadBack

@[expose] public section

set_option maxRecDepth 16384

noncomputable section

namespace Cert.KeyRows

open Idealize.ShloMosaic Cert.Kernel17Ideal Cert.Kernel17Ideal.Gen Idealize.ShloMosaic.TcCoe
open Cert.Reference17Ideal.Read

variable (m : (ℓ : Loc nD τ sig) → Buf (Elt Ideal) ℓ) (c : Dev nD)

/-- The windows' block indices. -/
theorem idx : ∀ t : Fin cfg0.N, win0_0.index t = ![t.val / 2, t.val % 2]
    ∧ win0_1.index t = ![0, t.val % 2]
    ∧ win0_2.index t = ![t.val / 2, 0] :=
  (by decide +kernel : ∀ t : Fin grid0.N, _)

/-- The reference at an index: the contraction over the outputs. -/
theorem ref_apply (dy : Vec Ideal S4608x2048 .bf16) (w : Vec Ideal S128x2048 .bf16) (i : S4608x128.Idx) :
    val_main_v5 (F := Ideal) dy w i = ∑ k : Fin 2048, dy (ix2 (i 0) k) * w (ix2 (i 1) k) := by
  unfold val_main_v5 val_main_v4 val_main_v1 val_main_v0
  pointwise

/-- The carried block: what it held and one product more. -/
theorem pay_acc (a : Vec Ideal S1536x128 .f32) (x : Vec Ideal S1536x1024 .bf16) (w : Vec Ideal S128x1024 .bf16)
    (j : S1536x128.Idx) :
    k0_pay2 a x w j = a j + ∑ k : Fin 1024, x (ix2 (j 0) k) * w (ix2 (j 1) k) := by
  unfold k0_pay2
  pointwise

/-- The carried block starts at zero. -/
theorem pay_zero (j : S1536x128.Idx) : k0_pay1 (F := Ideal) j = 0 := by
  unfold k0_pay1
  pointwise

/-- The block written out is the carried one. -/
theorem pay_out (a : Vec Ideal S1536x128 .f32) : k0_pay3 (F := Ideal) a = a := by
  funext j
  unfold k0_pay3
  pointwise

/-- At the last part of a run the block written out is the carried one. -/
theorem out_eq (t : Fin cfg0.N) (h : t.val % 2 = 1) : (outsAt0 m c t.val t.isLt).1 = (outsAt0 m c t.val t.isLt).2 := by
  rw [outsAt0_B m c t (by omega) h]
  frame_out
  rw [pay_out]

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf),
    Pipeline.eq_sum_fin_of_reset_step_apply_of_flush (fun n h => (outsAt0 m c n h).2) 2 (fun _ => 0) _
    (fun t h j => by rw [outsAt0_A m c t h (by omega)]; frame_out; rw [pay_acc, pay_zero])
    (fun t h j => by rw [outsAt0_B m c t h (by omega)]; frame_out; simp only [read_unread_whole]; rw [pay_acc])
    t ((flush0_2 t).mp hf) _, zero_add, ref_apply]
  refine Fin.sum_mul_add_congr fun s k hl => ?_
  blk_point [iblk, V, idx t, idx ⟨_, Pipeline.run_point_lt_of_flush t ((flush0_2 t).mp hf) s⟩]

end Cert.KeyRows

end
-- ==== Proof.KeyWeight.lean ====
/- The gradient of the keys' and values' projection: a product over the tokens, accumulated in three parts. -/
module

public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack

@[expose] public section

set_option maxRecDepth 16384

noncomputable section

namespace Cert.KeyWeight

open Idealize.ShloMosaic Cert.Kernel18Ideal Cert.Kernel18Ideal.Gen Idealize.ShloMosaic.TcCoe
open Cert.Reference18Ideal.Read

variable (m : (ℓ : Loc nD τ sig) → Buf (Elt Ideal) ℓ) (c : Dev nD)

/-- The windows' block indices. -/
theorem idx : ∀ t : Fin cfg0.N, win0_0.index t = ![t.val % 3, t.val / 3]
    ∧ win0_1.index t = ![t.val % 3, 0]
    ∧ win0_2.index t = ![t.val / 3, 0] :=
  (by decide +kernel : ∀ t : Fin grid0.N, _)

/-- The reference at an index: the contraction over the tokens. -/
theorem ref_apply (x : Vec Ideal S4608x128 .bf16) (dy : Vec Ideal S4608x2048 .bf16) (i : S128x2048.Idx) :
    val_main_v5 (F := Ideal) x dy i = ∑ r : Fin 4608, x (ix2 r (i 0)) * dy (ix2 r (i 1)) := by
  unfold val_main_v5 val_main_v4 val_main_v1 val_main_v0
  pointwise
  exact Finset.sum_congr rfl fun r _ => mul_comm _ _

/-- One product of a block of tokens. -/
theorem pay_part (x : Vec Ideal S1536x128 .bf16) (dy : Vec Ideal S1536x2048 .bf16) (j : S128x2048.Idx) :
    k0_pay1 x dy j = 0 + ∑ r : Fin 1536, x (ix2 r (j 0)) * dy (ix2 r (j 1)) := by
  rw [zero_add]
  unfold k0_pay1
  pointwise

/-- The accumulating block: what it held and one product more. -/
theorem pay_acc (x : Vec Ideal S1536x128 .bf16) (dy : Vec Ideal S1536x2048 .bf16) (a : Vec Ideal S128x2048 .f32)
    (j : S128x2048.Idx) :
    k0_pay2 x dy a j = a j + ∑ r : Fin 1536, x (ix2 r (j 0)) * dy (ix2 r (j 1)) := by
  unfold k0_pay2 k0_pay1
  pointwise

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by have ht : t.val < 3 := t.isLt; rw [outsAt0_A m c t h (by omega)]; frame_out; rw [pay_part])
    (fun t h j => by rw [outsAt0_B m c t h (by omega)]; frame_out; rw [pay_acc]) t ((flush0_2 t).mp hf) _, zero_add,
    ref_apply]
  refine Fin.sum_mul_add_congr fun s k hl => ?_
  blk_point [iblk, V, idx t, idx ⟨_, Pipeline.run_point_lt_of_flush t ((flush0_2 t).mp hf) s⟩]

end Cert.KeyWeight

end
-- ==== Proof.LatentRows.lean ====
/- The gradient of the attention's normalised rows: a product over the latents. -/
module

public import proofs.«01_k».proof.Proof.Gen.Kernel19Ideal.Value
public import proofs.«01_k».proof.Proof.Gen.Reference19Ideal.Read
public import Idealize.ShloMosaic.Lib.Pipeline.ValueKit
public import Idealize.ShloMosaic.Lib.Pipeline.ReadBack

@[expose] public section

set_option maxRecDepth 16384

noncomputable section

namespace Cert.LatentRows

open Idealize.ShloMosaic Cert.Kernel19Ideal Cert.Kernel19Ideal.Gen Idealize.ShloMosaic.TcCoe
open Cert.Reference19Ideal.Read

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![t.val, 0] :=
  (by decide +kernel : ∀ t : Fin grid0.N, _)

/-- The reference at an index: the contraction over the outputs. -/
theorem ref_apply (dy : Vec Ideal S4608x512 .bf16) (w : Vec Ideal S1024x512 .bf16) (i : S4608x1024.Idx) :
    val_main_v4 (F := Ideal) dy w i = ∑ k : Fin 512, dy (ix2 (i 0) k) * w (ix2 (i 1) k) := by
  unfold val_main_v4 val_main_v1 val_main_v0
  pointwise

/-- The kernel's block at an index. -/
theorem pay_apply (dy : Vec Ideal S1536x512 .bf16) (w : Vec Ideal S1024x512 .bf16) (y : S1536x1024.Idx) :
    k0_pay2 (k0_pay1 (F := Ideal)) dy w y = ∑ k : Fin 512, dy (ix2 (y 0) k) * w (ix2 (y 1) k) := by
  unfold k0_pay2 k0_pay1
  pointwise

/-- The kernel's array is the reference's. -/
theorem final : (dats m 0 c).arrAt 2 cfg0.N
    = val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay_apply, ref_apply]
  blk_point [iblk, V, idx t]

end Cert.LatentRows

end
-- ==== Proof.LatentWeight.lean ====
/- The gradient of the latents' projection: a product over the tokens, accumulated in three parts. -/
module

public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack

@[expose] public section

set_option maxRecDepth 16384

noncomputable section

namespace Cert.LatentWeight

open Idealize.ShloMosaic Cert.Kernel20Ideal Cert.Kernel20Ideal.Gen Idealize.ShloMosaic.TcCoe
open Cert.Reference20Ideal.Read

variable (m : (ℓ : Loc nD τ sig) → Buf (Elt Ideal) ℓ) (c : Dev nD)

/-- The windows' block indices. -/
theorem idx : ∀ t : Fin cfg0.N, win0_0.index t = ![t.val % 3, t.val / 3]
    ∧ win0_1.index t = ![t.val % 3, 0]
    ∧ win0_2.index t = ![t.val / 3, 0] :=
  (by decide +kernel : ∀ t : Fin grid0.N, _)

/-- The reference at an index: the contraction over the tokens. -/
theorem ref_apply (x : Vec Ideal S4608x1024 .bf16) (dy : Vec Ideal S4608x512 .bf16) (i : S1024x512.Idx) :
    val_main_v5 (F := Ideal) x dy i = ∑ r : Fin 4608, x (ix2 r (i 0)) * dy (ix2 r (i 1)) := by
  unfold val_main_v5 val_main_v4 val_main_v1 val_main_v0
  pointwise
  exact Finset.sum_congr rfl fun r _ => mul_comm _ _

/-- One product of a block of tokens. -/
theorem pay_part (x : Vec Ideal S1536x1024 .bf16) (dy : Vec Ideal S1536x512 .bf16) (j : S1024x512.Idx) :
    k0_pay1 x dy j = 0 + ∑ r : Fin 1536, x (ix2 r (j 0)) * dy (ix2 r (j 1)) := by
  rw [zero_add]
  unfold k0_pay1
  pointwise

/-- The accumulating block: what it held and one product more. -/
theorem pay_acc (x : Vec Ideal S1536x1024 .bf16) (dy : Vec Ideal S1536x512 .bf16) (a : Vec Ideal S1024x512 .f32)
    (j : S1024x512.Idx) :
    k0_pay2 x dy a j = a j + ∑ r : Fin 1536, x (ix2 r (j 0)) * dy (ix2 r (j 1)) := by
  unfold k0_pay2 k0_pay1
  pointwise

/-- The kernel's array is the reference's. -/
theorem final : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 3 (fun _ => 0) _
    (fun t h j => by have ht : t.val < 3 := t.isLt; rw [outsAt0_A m c t h (by omega)]; frame_out; rw [pay_part])
    (fun t h j => by rw [outsAt0_B m c t h (by omega)]; frame_out; rw [pay_acc]) t ((flush0_2 t).mp hf) _, zero_add,
    ref_apply]
  refine Fin.sum_mul_add_congr fun s k hl => ?_
  blk_point [iblk, V, idx t, idx ⟨_, Pipeline.run_point_lt_of_flush t ((flush0_2 t).mp hf) s⟩]

end Cert.LatentWeight

end
-- ==== Proof.InProduct.lean ====
/- The short convolution's input projection. -/
module

public import proofs.«01_k».proof.Proof.Gen.Kernel21Ideal.Value
public import proofs.«01_k».proof.Proof.Gen.Reference21Ideal.Read
public import Idealize.ShloMosaic.Lib.Pipeline.ValueKit
public import Idealize.ShloMosaic.Lib.Pipeline.ReadBack

@[expose] public section

set_option maxRecDepth 16384

noncomputable section

namespace Cert.InProduct

open Idealize.ShloMosaic Cert.Kernel21Ideal Cert.Kernel21Ideal.Gen Idealize.ShloMosaic.TcCoe
open Cert.Reference21Ideal.Read

variable (m : (ℓ : Loc nD τ sig) → Buf (Elt Ideal) ℓ) (c : Dev nD)

/-- The windows' block indices. -/
theorem idx : ∀ t : Fin cfg0.N, win0_0.index t = ![t.val / 3, 0]
    ∧ win0_1.index t = ![0, t.val % 3]
    ∧ win0_2.index t = ![t.val / 3, t.val % 3] :=
  (by decide +kernel : ∀ t : Fin grid0.N, _)

/-- The reference at an index: the row times the column. -/
theorem ref_apply (x : Vec Ideal S4608x1024 .bf16) (w : Vec Ideal S1024x3072 .bf16) (i : S4608x3072.Idx) :
    val_main_v3 (F := Ideal) x w i = ∑ k : Fin 1024, x (ix2 (i 0) k) * w (ix2 k (i 1)) := by
  unfold val_main_v3 val_main_v2 val_main_v1 val_main_v0
  pointwise

/-- The kernel's block at an index. -/
theorem pay_apply (x : Vec Ideal S1536x1024 .bf16) (w : Vec Ideal S1024x1024 .bf16) (y : S1536x1024.Idx) :
    k0_pay3 (k0_pay2 (k0_pay1 (F := Ideal)) x w) y = ∑ k : Fin 1024, x (ix2 (y 0) k) * w (ix2 k (y 1)) := by
  unfold k0_pay3 k0_pay2 k0_pay1
  pointwise

/-- The kernel's array is the reference's. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay_apply, ref_apply]
  blk_point [iblk, V, idx t]

end Cert.InProduct

end
-- ==== Proof.LatentProduct.lean ====
/- The latents' projection. -/
module

public import proofs.«01_k».proof.Proof.Gen.Kernel22Ideal.Value
public import proofs.«01_k».proof.Proof.Gen.Reference22Ideal.Read
public import Idealize.ShloMosaic.Lib.Pipeline.ValueKit
public import Idealize.ShloMosaic.Lib.Pipeline.ReadBack

@[expose] public section

set_option maxRecDepth 16384

noncomputable section

namespace Cert.LatentProduct

open Idealize.ShloMosaic Cert.Kernel22Ideal Cert.Kernel22Ideal.Gen Idealize.ShloMosaic.TcCoe
open Cert.Reference22Ideal.Read

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![t.val, 0] :=
  (by decide +kernel : ∀ t : Fin grid0.N, _)

/-- The reference at an index: the row times the column. -/
theorem ref_apply (x : Vec Ideal S4608x1024 .bf16) (w : Vec Ideal S1024x512 .bf16) (i : S4608x512.Idx) :
    val_main_v2 (F := Ideal) x w i = ∑ k : Fin 1024, x (ix2 (i 0) k) * w (ix2 k (i 1)) := by
  unfold val_main_v2 val_main_v1 val_main_v0
  pointwise

/-- The kernel's block at an index. -/
theorem pay_apply (x : Vec Ideal S1536x1024 .bf16) (w : Vec Ideal S1024x512 .bf16) (y : S1536x512.Idx) :
    k0_pay2 (k0_pay1 (F := Ideal)) x w y = ∑ k : Fin 1024, x (ix2 (y 0) k) * w (ix2 k (y 1)) := by
  unfold k0_pay2 k0_pay1
  pointwise

/-- The kernel's array is the reference's. -/
theorem final : (dats m 0 c).arrAt 2 cfg0.N
    = val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay_apply, ref_apply]
  blk_point [iblk, V, idx t]

end Cert.LatentProduct

end
-- ==== Proof.QueryProduct.lean ====
/- The queries' projection. -/
module

public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack

@[expose] public section

set_option maxRecDepth 16384

noncomputable section

namespace Cert.QueryProduct

open Idealize.ShloMosaic Cert.Kernel23Ideal Cert.Kernel23Ideal.Gen Idealize.ShloMosaic.TcCoe
open Cert.Reference23Ideal.Read

variable (m : (ℓ : Loc nD τ sig) → Buf (Elt Ideal) ℓ) (c : Dev nD)

/-- The windows' block indices. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The reference at an index: the row times the column. -/
theorem ref_apply (x : Vec Ideal S4608x256 .bf16) (w : Vec Ideal S256x2048 .bf16) (i : S4608x2048.Idx) :
    val_main_v3 (F := Ideal) x w i = ∑ k : Fin 256, x (ix2 (i 0) k) * w (ix2 k (i 1)) := by
  unfold val_main_v3 val_main_v2 val_main_v1 val_main_v0
  pointwise

/-- The kernel's block at an index. -/
theorem pay_apply (x : Vec Ideal S1536x256 .bf16) (w : Vec Ideal S256x1024 .bf16) (y : S1536x1024.Idx) :
    k0_pay3 (k0_pay2 (k0_pay1 (F := Ideal)) x w) y = ∑ k : Fin 256, x (ix2 (y 0) k) * w (ix2 k (y 1)) := by
  unfold k0_pay3 k0_pay2 k0_pay1
  pointwise

/-- The kernel's array is the reference's. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay_apply, ref_apply]
  blk_point [iblk, V, idx t]

end Cert.QueryProduct

end
-- ==== Proof.KeyProduct.lean ====
/- The keys' and values' projection. -/
module

public import proofs.«01_k».proof.Proof.Gen.Kernel24Ideal.Value
public import proofs.«01_k».proof.Proof.Gen.Reference24Ideal.Read
public import Idealize.ShloMosaic.Lib.Pipeline.ValueKit
public import Idealize.ShloMosaic.Lib.Pipeline.ReadBack

@[expose] public section

set_option maxRecDepth 16384

noncomputable section

namespace Cert.KeyProduct

open Idealize.ShloMosaic Cert.Kernel24Ideal Cert.Kernel24Ideal.Gen Idealize.ShloMosaic.TcCoe
open Cert.Reference24Ideal.Read

variable (m : (ℓ : Loc nD τ sig) → Buf (Elt Ideal) ℓ) (c : Dev nD)

/-- The windows' block indices. -/
theorem idx : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The reference at an index: the row times the column. -/
theorem ref_apply (x : Vec Ideal S4608x128 .bf16) (w : Vec Ideal S128x2048 .bf16) (i : S4608x2048.Idx) :
    val_main_v3 (F := Ideal) x w i = ∑ k : Fin 128, x (ix2 (i 0) k) * w (ix2 k (i 1)) := by
  unfold val_main_v3 val_main_v2 val_main_v1 val_main_v0
  pointwise

/-- The kernel's block at an index. -/
theorem pay_apply (x : Vec Ideal S1536x128 .bf16) (w : Vec Ideal S128x1024 .bf16) (y : S1536x1024.Idx) :
    k0_pay3 (k0_pay2 (k0_pay1 (F := Ideal)) x w) y = ∑ k : Fin 128, x (ix2 (y 0) k) * w (ix2 k (y 1)) := by
  unfold k0_pay3 k0_pay2 k0_pay1
  pointwise

/-- The kernel's array is the reference's. -/
theorem final : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  rw [pay_apply, ref_apply]
  blk_point [iblk, V, idx t]

end Cert.KeyProduct

end
-- ==== Proof.OutProduct.lean ====
/- The output projection of a token mixer, added to the residual under its gate. -/
module

public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ReadBack

@[expose] public section

set_option maxRecDepth 16384

noncomputable section

namespace Cert.OutProduct

open Idealize.ShloMosaic Cert.Kernel25Ideal Cert.Kernel25Ideal.Gen Idealize.ShloMosaic.TcCoe
open Cert.Reference25Ideal.Read

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![t.val, 0]
    ∧ win0_3.index t = ![min (t.val / 4) 2, 5, 0, 0]
    ∧ win0_4.index t = ![t.val, 0]
    ∧ win0_5.index t = ![t.val, 0] :=
  (by decide +kernel : ∀ t : Fin grid0.N, _)

/-- The product at a row and a column. -/
def prod (x : Vec Ideal S4608x1024 .bf16) (w : Vec Ideal S1024x1024 .bf16) (r : Fin 4608) (j : Fin 1024) : EReal :=
  ∑ k : Fin 1024, x (ix2 r k) * w (ix2 k j)

/-- The reference's product at an index. -/
theorem ref_prod (x : Vec Ideal S4608x1024 .bf16) (w : Vec Ideal S1024x1024 .bf16) (i : S4608x1024.Idx) :
    val_main_v2 (F := Ideal) x w i = prod x w (i 0) (i 1) := by
  unfold val_main_v2 val_main_v1 val_main_v0 prod
  pointwise

/-- The reference's second result is the product. -/
theorem ref_y (x : Vec Ideal S4608x1024 .bf16) (w : Vec Ideal S1024x1024 .bf16) (i : S4608x1024.Idx) :
    val_main_v15 (F := Ideal) x w i = prod x w (i 0) (i 1) := by
  rw [← ref_prod]
  unfold val_main_v15
  generalize val_main_v2 (F := Ideal) x w = y
  pointwise

/-- The stream's modulation row of a token. -/
def stream (r : Fin 4608) : Fin 3 := ⟨min (r.val / 2048) 2, by omega⟩

/-- The reference's gate at an index: the row of the token's stream. -/
theorem ref_gate (g : Vec Ideal S3x9x1x1024 .f32) (i : S4608x1024.Idx) :
    val_main_v12 (F := Ideal) g i = g (ix4 (stream (i 0)) 5 0 (i 1)) := by
  unfold val_main_v12 val_main_v11 val_main_v10 val_main_v9 val_main_v8 val_main_v7 val_main_v6 val_main_v5 val_main_v4
    val_main_v3 stream
  pointwise
  have h := (i 0).isLt
  by_cases h1 : (i 0).val < 2048
  · rw [dif_pos h1]; congr 2; exact Fin.ext (by show 0 = min ((i 0).val / 2048) 2; omega)
  · by_cases h2 : (i 0).val - 2048 < 2048
    · rw [dif_neg h1, dif_pos h2]; congr 2; exact Fin.ext (by show 1 = min ((i 0).val / 2048) 2; omega)
    · rw [dif_neg h1, dif_neg h2]; congr 2; exact Fin.ext (by show 2 = min ((i 0).val / 2048) 2; omega)

/-- The reference's first result at an index. -/
theorem ref_h (x : Vec Ideal S4608x1024 .bf16) (w : Vec Ideal S1024x1024 .bf16) (h : Vec Ideal S4608x1024 .f32)
    (g : Vec Ideal S3x9x1x1024 .f32) (i : S4608x1024.Idx) :
    val_main_v14 (F := Ideal) x w h g i = h i + g (ix4 (stream (i 0)) 5 0 (i 1)) * prod x w (i 0) (i 1) := by
  rw [← ref_prod, ← ref_gate g i]
  unfold val_main_v14 val_main_v13
  generalize val_main_v2 (F := Ideal) x w = y
  generalize val_main_v12 (F := Ideal) g = z
  pointwise

/-- The kernel's block of the product. -/
theorem pay_prod (x : Vec Ideal S512x1024 .bf16) (w : Vec Ideal S1024x1024 .bf16) (j : S512x1024.Idx) :
    k0_pay2 (k0_pay1 (F := Ideal)) x w j = ∑ k : Fin 1024, x (ix2 (j 0) k) * w (ix2 k (j 1)) := by
  unfold k0_pay2 k0_pay1
  pointwise

/-- The kernel's block of the second result. -/
theorem pay_y (x : Vec Ideal S512x1024 .bf16) (w : Vec Ideal S1024x1024 .bf16) (j : S512x1024.Idx) :
    k0_pay3 (k0_pay2 (k0_pay1 (F := Ideal)) x w) j = ∑ k : Fin 1024, x (ix2 (j 0) k) * w (ix2 k (j 1)) := by
  rw [← pay_prod]
  generalize k0_pay2 (k0_pay1 (F := Ideal)) x w = y
  unfold k0_pay3
  pointwise

/-- The kernel's block of the first result. -/
theorem pay_h (x : Vec Ideal S512x1024 .bf16) (w : Vec Ideal S1024x1024 .bf16) (h : Vec Ideal S512x1024 .f32)
    (g : Vec Ideal S1x1x1x1024 .f32) (j : S512x1024.Idx) :
    k0_pay4 (k0_pay2 (k0_pay1 (F := Ideal)) x w) h g j
      = h j + g (ix4 0 0 0 (j 1)) * ∑ k : Fin 1024, x (ix2 (j 0) k) * w (ix2 k (j 1)) := by
  rw [← pay_prod]
  generalize k0_pay2 (k0_pay1 (F := Ideal)) x w = y
  unfold k0_pay4
  pointwise

/-- The kernel's first array is the reference's. -/
theorem final_h : (dats m 0 c).arrAt 4 cfg0.N
    = val_main_v14 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  unfold outsAt0
  frame_out
  rw [pay_h, ref_h]
  unfold prod stream
  blk_point [iblk, V, idx t]

/-- The kernel's second array is the reference's. -/
theorem final_y : (dats m 0 c).arrAt 5 cfg0.N
    = val_main_v15 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  unfold outsAt0
  frame_out
  rw [pay_y, ref_y]
  unfold prod
  blk_point [iblk, V, idx t]

end Cert.OutProduct

end
-- ==== Proof.Products.lean ====
/- The claims about the products by the latent projections and the forward products of the token mixers: each reference's run and frame, and each kernel's arrays against them. -/
module

public import proofs.«01_k».proof.Defs
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.QueryRows
public import proofs.«01_k».proof.Proof.QueryWeight
public import proofs.«01_k».proof.Proof.KeyRows
public import proofs.«01_k».proof.Proof.KeyWeight
public import proofs.«01_k».proof.Proof.LatentRows
public import proofs.«01_k».proof.Proof.LatentWeight
public import proofs.«01_k».proof.Proof.InProduct
public import proofs.«01_k».proof.Proof.LatentProduct
public import proofs.«01_k».proof.Proof.QueryProduct
public import proofs.«01_k».proof.Proof.KeyProduct
public import proofs.«01_k».proof.Proof.OutProduct
public import Idealize.ShloMosaic.Lib.Quiescent
public import Idealize.ShloMosaic.Adequacy
public import Idealize.ShloMosaic.Init

@[expose] public section

noncomputable section

namespace Cert.Proof

open Idealize.ShloMosaic Idealize.SL.Sem

open Cert.Reference15Ideal in
/-- The reference of the gradient of the normalised query latents runs, keeps its arguments, and has no counter to leave raised. -/
theorem frame_reference15
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference15Ideal.Value.run (F := Ideal) m g)

open Cert.Reference15Ideal in
/-- The results of the reference of the gradient of the normalised query latents, as functions of its argument arrays. -/
theorem run_reference15
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference15Ideal.Value.run (F := Ideal) m g)

/-- The kernel of the gradient of the normalised query latents computes what its reference does. -/
theorem algebraic15 : Cert.algebraic_Kernel15Ideal_Reference15Ideal := by
  intro m g m' g' hpre hagree
  refine ⟨fun c => (Cert.Kernel15Ideal.Gen.dats m 0 c).arrAt 2 Cert.Kernel15Ideal.cfg0.N,
    Cert.Kernel15Ideal.Value.run_blocks (F := Ideal) m g, ?_⟩
  refine (θ_run Cert.Reference15Ideal.defs _ _).mono (fun r h c => ?_) (run_reference15 m' g')
  obtain ⟨e0, e1⟩ := hagree c
  obtain ⟨h0, hargs⟩ := h c
  rw [e0, e1] at h0
  exact ⟨h0.trans (Cert.QueryRows.final m c).symm, hargs⟩

open Cert.Reference16Ideal in
/-- The reference of the gradient of the queries' projection runs, keeps its arguments, and has no counter to leave raised. -/
theorem frame_reference16
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference16Ideal.Value.run (F := Ideal) m g)

open Cert.Reference16Ideal in
/-- The results of the reference of the gradient of the queries' projection, as functions of its argument arrays. -/
theorem run_reference16
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference16Ideal.Value.run (F := Ideal) m g)

/-- The kernel of the gradient of the queries' projection computes what its reference does. -/
theorem algebraic16 : Cert.algebraic_Kernel16Ideal_Reference16Ideal := by
  intro m g m' g' hpre hagree
  refine ⟨fun c => (Cert.Kernel16Ideal.Gen.dats m 0 c).arrAt 2 Cert.Kernel16Ideal.cfg0.N,
    Cert.Kernel16Ideal.Value.run_blocks (F := Ideal) m g, ?_⟩
  refine (θ_run Cert.Reference16Ideal.defs _ _).mono (fun r h c => ?_) (run_reference16 m' g')
  obtain ⟨e0, e1⟩ := hagree c
  obtain ⟨h0, hargs⟩ := h c
  rw [e0, e1] at h0
  exact ⟨h0.trans (Cert.QueryWeight.final m c).symm, hargs⟩

open Cert.Reference17Ideal in
/-- The reference of the gradient of the normalised key and value latents runs, keeps its arguments, and has no counter to leave raised. -/
theorem frame_reference17
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference17Ideal.Value.run (F := Ideal) m g)

open Cert.Reference17Ideal in
/-- The results of the reference of the gradient of the normalised key and value latents, as functions of its argument arrays. -/
theorem run_reference17
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference17Ideal.Value.run (F := Ideal) m g)

/-- The kernel of the gradient of the normalised key and value latents computes what its reference does. -/
theorem algebraic17 : Cert.algebraic_Kernel17Ideal_Reference17Ideal := by
  intro m g m' g' hpre hagree
  refine ⟨fun c => (Cert.Kernel17Ideal.Gen.dats m 0 c).arrAt 2 Cert.Kernel17Ideal.cfg0.N,
    Cert.Kernel17Ideal.Value.run_blocks (F := Ideal) m g, ?_⟩
  refine (θ_run Cert.Reference17Ideal.defs _ _).mono (fun r h c => ?_) (run_reference17 m' g')
  obtain ⟨e0, e1⟩ := hagree c
  obtain ⟨h0, hargs⟩ := h c
  rw [e0, e1] at h0
  exact ⟨h0.trans (Cert.KeyRows.final m c).symm, hargs⟩

open Cert.Reference18Ideal in
/-- The reference of the gradient of the keys' and values' projection runs, keeps its arguments, and has no counter to leave raised. -/
theorem frame_reference18
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference18Ideal.Value.run (F := Ideal) m g)

open Cert.Reference18Ideal in
/-- The results of the reference of the gradient of the keys' and values' projection, as functions of its argument arrays. -/
theorem run_reference18
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference18Ideal.Value.run (F := Ideal) m g)

/-- The kernel of the gradient of the keys' and values' projection computes what its reference does. -/
theorem algebraic18 : Cert.algebraic_Kernel18Ideal_Reference18Ideal := by
  intro m g m' g' hpre hagree
  refine ⟨fun c => (Cert.Kernel18Ideal.Gen.dats m 0 c).arrAt 2 Cert.Kernel18Ideal.cfg0.N,
    Cert.Kernel18Ideal.Value.run_blocks (F := Ideal) m g, ?_⟩
  refine (θ_run Cert.Reference18Ideal.defs _ _).mono (fun r h c => ?_) (run_reference18 m' g')
  obtain ⟨e0, e1⟩ := hagree c
  obtain ⟨h0, hargs⟩ := h c
  rw [e0, e1] at h0
  exact ⟨h0.trans (Cert.KeyWeight.final m c).symm, hargs⟩

open Cert.Reference19Ideal in
/-- The reference of the gradient of the attention's normalised rows runs, keeps its arguments, and has no counter to leave raised. -/
theorem frame_reference19
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference19Ideal.Value.run (F := Ideal) m g)

open Cert.Reference19Ideal in
/-- The results of the reference of the gradient of the attention's normalised rows, as functions of its argument arrays. -/
theorem run_reference19
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v4) = Read.val_main_v4 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v4_eq (F := Ideal) _ _),
      (h c).2⟩)
    (Cert.Reference19Ideal.Value.run (F := Ideal) m g)

/-- The kernel of the gradient of the attention's normalised rows computes what its reference does. -/
theorem algebraic19 : Cert.algebraic_Kernel19Ideal_Reference19Ideal := by
  intro m g m' g' hpre hagree
  refine ⟨fun c => (Cert.Kernel19Ideal.Gen.dats m 0 c).arrAt 2 Cert.Kernel19Ideal.cfg0.N,
    Cert.Kernel19Ideal.Value.run_blocks (F := Ideal) m g, ?_⟩
  refine (θ_run Cert.Reference19Ideal.defs _ _).mono (fun r h c => ?_) (run_reference19 m' g')
  obtain ⟨e0, e1⟩ := hagree c
  obtain ⟨h0, hargs⟩ := h c
  rw [e0, e1] at h0
  exact ⟨h0.trans (Cert.LatentRows.final m c).symm, hargs⟩

open Cert.Reference20Ideal in
/-- The reference of the gradient of the latents' projection runs, keeps its arguments, and has no counter to leave raised. -/
theorem frame_reference20
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference20Ideal.Value.run (F := Ideal) m g)

open Cert.Reference20Ideal in
/-- The results of the reference of the gradient of the latents' projection, as functions of its argument arrays. -/
theorem run_reference20
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v5) = Read.val_main_v5 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v5_eq (F := Ideal) _ _),
      (h c).2⟩)
    (Cert.Reference20Ideal.Value.run (F := Ideal) m g)

/-- The kernel of the gradient of the latents' projection computes what its reference does. -/
theorem algebraic20 : Cert.algebraic_Kernel20Ideal_Reference20Ideal := by
  intro m g m' g' hpre hagree
  refine ⟨fun c => (Cert.Kernel20Ideal.Gen.dats m 0 c).arrAt 2 Cert.Kernel20Ideal.cfg0.N,
    Cert.Kernel20Ideal.Value.run_blocks (F := Ideal) m g, ?_⟩
  refine (θ_run Cert.Reference20Ideal.defs _ _).mono (fun r h c => ?_) (run_reference20 m' g')
  obtain ⟨e0, e1⟩ := hagree c
  obtain ⟨h0, hargs⟩ := h c
  rw [e0, e1] at h0
  exact ⟨h0.trans (Cert.LatentWeight.final m c).symm, hargs⟩

open Cert.Reference21Ideal in
/-- The reference of the short convolution's input projection runs, keeps its arguments, and has no counter to leave raised. -/
theorem frame_reference21
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference21Ideal.Value.run (F := Ideal) m g)

open Cert.Reference21Ideal in
/-- The results of the reference of the short convolution's input projection, as functions of its argument arrays. -/
theorem run_reference21
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v3) = Read.val_main_v3 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v3_eq (F := Ideal) _ _),
      (h c).2⟩)
    (Cert.Reference21Ideal.Value.run (F := Ideal) m g)

/-- The kernel of the short convolution's input projection computes what its reference does. -/
theorem algebraic21 : Cert.algebraic_Kernel21Ideal_Reference21Ideal := by
  intro m g m' g' hpre hagree
  refine ⟨fun c => (Cert.Kernel21Ideal.Gen.dats m 0 c).arrAt 2 Cert.Kernel21Ideal.cfg0.N,
    Cert.Kernel21Ideal.Value.run_blocks (F := Ideal) m g, ?_⟩
  refine (θ_run Cert.Reference21Ideal.defs _ _).mono (fun r h c => ?_) (run_reference21 m' g')
  obtain ⟨e0, e1⟩ := hagree c
  obtain ⟨h0, hargs⟩ := h c
  rw [e0, e1] at h0
  exact ⟨h0.trans (Cert.InProduct.final m c).symm, hargs⟩

open Cert.Reference22Ideal in
/-- The reference of the latents' projection runs, keeps its arguments, and has no counter to leave raised. -/
theorem frame_reference22
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference22Ideal.Value.run (F := Ideal) m g)

open Cert.Reference22Ideal in
/-- The results of the reference of the latents' projection, as functions of its argument arrays. -/
theorem run_reference22
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v2) = Read.val_main_v2 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v2_eq (F := Ideal) _ _),
      (h c).2⟩)
    (Cert.Reference22Ideal.Value.run (F := Ideal) m g)

/-- The kernel of the latents' projection computes what its reference does. -/
theorem algebraic22 : Cert.algebraic_Kernel22Ideal_Reference22Ideal := by
  intro m g m' g' hpre hagree
  refine ⟨fun c => (Cert.Kernel22Ideal.Gen.dats m 0 c).arrAt 2 Cert.Kernel22Ideal.cfg0.N,
    Cert.Kernel22Ideal.Value.run_blocks (F := Ideal) m g, ?_⟩
  refine (θ_run Cert.Reference22Ideal.defs _ _).mono (fun r h c => ?_) (run_reference22 m' g')
  obtain ⟨e0, e1⟩ := hagree c
  obtain ⟨h0, hargs⟩ := h c
  rw [e0, e1] at h0
  exact ⟨h0.trans (Cert.LatentProduct.final m c).symm, hargs⟩

open Cert.Reference23Ideal in
/-- The reference of the queries' projection runs, keeps its arguments, and has no counter to leave raised. -/
theorem frame_reference23
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference23Ideal.Value.run (F := Ideal) m g)

open Cert.Reference23Ideal in
/-- The results of the reference of the queries' projection, as functions of its argument arrays. -/
theorem run_reference23
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v3) = Read.val_main_v3 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v3_eq (F := Ideal) _ _),
      (h c).2⟩)
    (Cert.Reference23Ideal.Value.run (F := Ideal) m g)

/-- The kernel of the queries' projection computes what its reference does. -/
theorem algebraic23 : Cert.algebraic_Kernel23Ideal_Reference23Ideal := by
  intro m g m' g' hpre hagree
  refine ⟨fun c => (Cert.Kernel23Ideal.Gen.dats m 0 c).arrAt 2 Cert.Kernel23Ideal.cfg0.N,
    Cert.Kernel23Ideal.Value.run_blocks (F := Ideal) m g, ?_⟩
  refine (θ_run Cert.Reference23Ideal.defs _ _).mono (fun r h c => ?_) (run_reference23 m' g')
  obtain ⟨e0, e1⟩ := hagree c
  obtain ⟨h0, hargs⟩ := h c
  rw [e0, e1] at h0
  exact ⟨h0.trans (Cert.QueryProduct.final m c).symm, hargs⟩

open Cert.Reference24Ideal in
/-- The reference of the keys' and values' projection runs, keeps its arguments, and has no counter to leave raised. -/
theorem frame_reference24
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference24Ideal.Value.run (F := Ideal) m g)

open Cert.Reference24Ideal in
/-- The results of the reference of the keys' and values' projection, as functions of its argument arrays. -/
theorem run_reference24
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v3) = Read.val_main_v3 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v3_eq (F := Ideal) _ _),
      (h c).2⟩)
    (Cert.Reference24Ideal.Value.run (F := Ideal) m g)

/-- The kernel of the keys' and values' projection computes what its reference does. -/
theorem algebraic24 : Cert.algebraic_Kernel24Ideal_Reference24Ideal := by
  intro m g m' g' hpre hagree
  refine ⟨fun c => (Cert.Kernel24Ideal.Gen.dats m 0 c).arrAt 2 Cert.Kernel24Ideal.cfg0.N,
    Cert.Kernel24Ideal.Value.run_blocks (F := Ideal) m g, ?_⟩
  refine (θ_run Cert.Reference24Ideal.defs _ _).mono (fun r h c => ?_) (run_reference24 m' g')
  obtain ⟨e0, e1⟩ := hagree c
  obtain ⟨h0, hargs⟩ := h c
  rw [e0, e1] at h0
  exact ⟨h0.trans (Cert.KeyProduct.final m c).symm, hargs⟩

open Cert.Reference25Ideal in
/-- The reference of the output projection of a token mixer runs, keeps its arguments, and has no counter to leave raised. -/
theorem frame_reference25
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2, sem_eq_zero_of_no_sems (by decide) r.2⟩)
    (Cert.Reference25Ideal.Value.run (F := Ideal) m g)

open Cert.Reference25Ideal in
/-- The results of the reference of the output projection of a token mixer, as functions of its argument arrays. -/
theorem run_reference25
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v14) = Read.val_main_v14 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v15) = Read.val_main_v15 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c).1.trans (Read.val_main_v14_eq (F := Ideal) _ _ _ _),
      (h c).2.1.trans (Read.val_main_v15_eq (F := Ideal) _ _),
      (h c).2.2⟩)
    (Cert.Reference25Ideal.Value.run (F := Ideal) m g)

/-- The kernel of the output projection of a token mixer computes what its reference does. -/
theorem algebraic25 : Cert.algebraic_Kernel25Ideal_Reference25Ideal := by
  intro m g m' g' hpre hagree
  refine ⟨fun c => (Cert.Kernel25Ideal.Gen.dats m 0 c).arrAt 4 Cert.Kernel25Ideal.cfg0.N,
    fun c => (Cert.Kernel25Ideal.Gen.dats m 0 c).arrAt 5 Cert.Kernel25Ideal.cfg0.N,
    Cert.Kernel25Ideal.Value.run_blocks (F := Ideal) m g, ?_⟩
  refine (θ_run Cert.Reference25Ideal.defs _ _).mono (fun r h c => ?_) (run_reference25 m' g')
  obtain ⟨e0, e1, e2, e3⟩ := hagree c
  obtain ⟨h0, h1, hargs⟩ := h c
  rw [e0, e1, e2, e3] at h0
  rw [e0, e1] at h1
  exact ⟨h0.trans (Cert.OutProduct.final_h m c).symm, h1.trans (Cert.OutProduct.final_y m c).symm, hargs⟩

end Cert.Proof

end
-- ==== Proof.SecondUp.lean ====
/- The forward call of the second feed-forward block of a layer: the product of the two halves, and the gate's two slopes it saves. -/
module

public import proofs.«01_k».proof.Proof.Gen.Kernel29Ideal.Value
public import proofs.«01_k».proof.Proof.Gen.Reference29Ideal.Read
public import proofs.«01_k».proof.Proof.Gate
public import Idealize.ShloMosaic.Lib.Pipeline.ValueKit

@[expose] public section

set_option maxRecDepth 16384

noncomputable section

namespace Cert.SecondUp

open Idealize.ShloMosaic Cert.Kernel29Ideal Cert.Kernel29Ideal.Gen Idealize.ShloMosaic.TcCoe
open Cert.Reference29Ideal.Read

variable (m : (ℓ : Loc nD τ sig) → Buf (Elt Ideal) ℓ) (c : Dev nD)

/-- The windows' block indices. -/
theorem idx : ∀ t : Fin cfg0.N, win0_0.index t = ![t.val / 11, 0] ∧ win0_1.index t = ![1, t.val % 11, 0]
    ∧ win0_2.index t = ![1, t.val % 11, 0] ∧ win0_3.index t = ![t.val / 11, t.val % 11]
    ∧ win0_4.index t = ![t.val / 11, t.val % 11] ∧ win0_5.index t = ![t.val / 11, t.val % 11] :=
  (by decide +kernel : ∀ t : Fin grid0.N, _)

/-- One entry of the rows against one slot of weights kept transposed. -/
def lin (x : Vec Ideal S4608x1024 .bf16) (w : Vec Ideal S2x2816x1024 .bf16) (r : Fin 4608) (f : Fin 2816) : EReal :=
  ∑ k : Fin 1024, x (ix2 r k) * w (ix3 (1 : Fin 2) f k)

/-- Real rows against real weights give real entries. -/
theorem real_lin (x : Vec Ideal S4608x1024 .bf16) (w : Vec Ideal S2x2816x1024 .bf16) (hx : ∀ i, ∃ r : ℝ, x i = r)
    (hw : ∀ i, ∃ r : ℝ, w i = r) (r : Fin 4608) (f : Fin 2816) : ∃ s : ℝ, lin x w r f = s :=
  Cert.Gate.real_sum _ _ (fun _ => hx _) fun _ => hw _

/-- The reference's argument of the sigmoid at an index. -/
theorem ref_a (x : Vec Ideal S4608x1024 .bf16) (w : Vec Ideal S2x2816x1024 .bf16) (i : S4608x2816.Idx) :
    val_main_v9 (F := Ideal) x w i = lin x w (i 0) (i 1) := by
  unfold val_main_v9 val_main_v7 val_main_v6 val_main_v2 val_main_v1 val_main_v0 lin
  pointwise

/-- The reference's linear half at an index. -/
theorem ref_b (x : Vec Ideal S4608x1024 .bf16) (w : Vec Ideal S2x2816x1024 .bf16) (i : S4608x2816.Idx) :
    val_main_v10 (F := Ideal) x w i = lin x w (i 0) (i 1) := by
  unfold val_main_v10 val_main_v8 val_main_v6 val_main_v5 val_main_v4 val_main_v3 lin
  pointwise

/-- The reference's sigmoid at an index. -/
theorem ref_s (x : Vec Ideal S4608x1024 .bf16) (w : Vec Ideal S2x2816x1024 .bf16) (i : S4608x2816.Idx) :
    val_main_v11_2 (F := Ideal) x w i = Ideal.logistic (lin x w (i 0) (i 1)) := by
  rw [← ref_a]
  unfold val_main_v11_2 val_main_call0_v4 val_main_call0_v3 val_main_call0_v2 val_main_call0_v1 val_main_call0_v0
    val_main_call0_cst_0 val_main_call0_cst
  generalize val_main_v9 (F := Ideal) x w = a
  pointwise
  rfl

/-- The reference's derivative of the sigmoid at an index. -/
theorem ref_ds (x : Vec Ideal S4608x1024 .bf16) (w : Vec Ideal S2x2816x1024 .bf16) (i : S4608x2816.Idx) :
    val_main_v11_1 (F := Ideal) x w i
      = Ideal.logistic (lin x w (i 0) (i 1)) * (1 - Ideal.logistic (lin x w (i 0) (i 1))) := by
  rw [← ref_s]
  unfold val_main_v11_1 val_main_call0_v7 val_main_call0_v6 val_main_call0_cst_1
  generalize val_main_v11_2 (F := Ideal) x w = a
  pointwise

/-- The reference's gate at an index. -/
theorem ref_silu (x : Vec Ideal S4608x1024 .bf16) (w : Vec Ideal S2x2816x1024 .bf16) (i : S4608x2816.Idx) :
    val_main_v11_0 (F := Ideal) x w i = lin x w (i 0) (i 1) * Ideal.logistic (lin x w (i 0) (i 1)) := by
  rw [← ref_s, ← ref_a]
  unfold val_main_v11_0
  generalize val_main_v11_2 (F := Ideal) x w = a
  generalize val_main_v9 (F := Ideal) x w = b
  pointwise

/-- The reference's slope in the sigmoid's argument, at an index. -/
theorem ref_ga (x : Vec Ideal S4608x1024 .bf16) (w1 w3 : Vec Ideal S2x2816x1024 .bf16) (i : S4608x2816.Idx) :
    val_main_v17 (F := Ideal) x w1 w3 i
      = 1 * lin x w3 (i 0) (i 1) * Ideal.logistic (lin x w1 (i 0) (i 1))
        + lin x w1 (i 0) (i 1) * (1 * lin x w3 (i 0) (i 1))
          * (Ideal.logistic (lin x w1 (i 0) (i 1)) * (1 - Ideal.logistic (lin x w1 (i 0) (i 1)))) := by
  rw [← ref_ds, ← ref_s, ← ref_a x w1, ← ref_b x w3]
  unfold val_main_v17 val_main_v16 val_main_call1_v2 val_main_call1_v1 val_main_call1_v0 val_main_v15 val_main_v13
    val_main_cst
  generalize val_main_v11_2 (F := Ideal) x w1 = a
  generalize val_main_v11_1 (F := Ideal) x w1 = d
  generalize val_main_v9 (F := Ideal) x w1 = b
  generalize val_main_v10 (F := Ideal) x w3 = e
  pointwise

/-- The same slope in the kernel's form, where the linear half is real. -/
theorem ref_ga_real (x : Vec Ideal S4608x1024 .bf16) (w1 w3 : Vec Ideal S2x2816x1024 .bf16) (i : S4608x2816.Idx)
    (hr : ∃ s : ℝ, lin x w3 (i 0) (i 1) = s) :
    val_main_v17 (F := Ideal) x w1 w3 i
      = lin x w3 (i 0) (i 1) * (Ideal.logistic (lin x w1 (i 0) (i 1))
        + lin x w1 (i 0) (i 1) * Ideal.logistic (lin x w1 (i 0) (i 1))
          * (1 - Ideal.logistic (lin x w1 (i 0) (i 1)))) := by
  rw [ref_ga, Cert.Gate.slope _ _ hr]

/-- The reference's slope in the linear half, at an index: the gate itself. -/
theorem ref_gb (x : Vec Ideal S4608x1024 .bf16) (w : Vec Ideal S2x2816x1024 .bf16) (i : S4608x2816.Idx) :
    val_main_v18 (F := Ideal) x w i = lin x w (i 0) (i 1) * Ideal.logistic (lin x w (i 0) (i 1)) := by
  rw [← ref_silu]
  unfold val_main_v18 val_main_v14 val_main_v13 val_main_cst
  generalize val_main_v11_0 (F := Ideal) x w = a
  pointwise

/-- The reference's product of the two halves, at an index. -/
theorem ref_act (x : Vec Ideal S4608x1024 .bf16) (w1 w3 : Vec Ideal S2x2816x1024 .bf16) (i : S4608x2816.Idx) :
    val_main_v19 (F := Ideal) x w1 w3 i
      = lin x w1 (i 0) (i 1) * Ideal.logistic (lin x w1 (i 0) (i 1)) * lin x w3 (i 0) (i 1) := by
  rw [← ref_silu, ← ref_b]
  unfold val_main_v19 val_main_v12
  generalize val_main_v11_0 (F := Ideal) x w1 = a
  generalize val_main_v10 (F := Ideal) x w3 = e
  pointwise

/-- One entry of a block of rows against a block of weights. -/
def blin (x : Vec Ideal S1536x1024 .bf16) (w : Vec Ideal S1x256x1024 .bf16) (r : Fin 1536) (f : Fin 256) : EReal :=
  ∑ k : Fin 1024, x (ix2 r k) * w (ix3 (0 : Fin 1) f k)

/-- The kernel's block of the sigmoid's argument. -/
theorem pay_a (x : Vec Ideal S1536x1024 .bf16) (w : Vec Ideal S1x256x1024 .bf16) (y : S1536x256.Idx) :
    k0_pay1 x w y = blin x w (y 0) (y 1) := by
  unfold k0_pay1 blin
  pointwise

/-- The kernel's block of the linear half. -/
theorem pay_b (x : Vec Ideal S1536x1024 .bf16) (w : Vec Ideal S1x256x1024 .bf16) (y : S1536x256.Idx) :
    k0_pay2 x w y = blin x w (y 0) (y 1) := by
  unfold k0_pay2 blin
  pointwise

/-- The kernel's block of the sigmoid. -/
theorem pay_s (x : Vec Ideal S1536x1024 .bf16) (w : Vec Ideal S1x256x1024 .bf16) (y : S1536x256.Idx) :
    k0_pay3 x w y = Ideal.logistic (blin x w (y 0) (y 1)) := by
  rw [← pay_a]
  unfold k0_pay3
  generalize k0_pay1 x w = a
  pointwise

/-- The kernel's block of the gate. -/
theorem pay_silu (x : Vec Ideal S1536x1024 .bf16) (w : Vec Ideal S1x256x1024 .bf16) (y : S1536x256.Idx) :
    k0_pay4 x w y = blin x w (y 0) (y 1) * Ideal.logistic (blin x w (y 0) (y 1)) := by
  rw [← pay_s, ← pay_a]
  unfold k0_pay4
  generalize k0_pay1 x w = a
  generalize k0_pay3 x w = b
  pointwise

/-- The kernel's block of the slope in the sigmoid's argument. -/
theorem pay_ga (x : Vec Ideal S1536x1024 .bf16) (w1 w3 : Vec Ideal S1x256x1024 .bf16) (y : S1536x256.Idx) :
    k0_pay5 x w1 w3 y
      = blin x w3 (y 0) (y 1) * (Ideal.logistic (blin x w1 (y 0) (y 1))
        + blin x w1 (y 0) (y 1) * Ideal.logistic (blin x w1 (y 0) (y 1))
          * (1 - Ideal.logistic (blin x w1 (y 0) (y 1)))) := by
  rw [← pay_silu, ← pay_s, ← pay_b]
  unfold k0_pay5
  generalize k0_pay2 x w3 = a
  generalize k0_pay3 x w1 = b
  generalize k0_pay4 x w1 = d
  pointwise

/-- The kernel's block of the slope in the linear half. -/
theorem pay_gb (x : Vec Ideal S1536x1024 .bf16) (w : Vec Ideal S1x256x1024 .bf16) (y : S1536x256.Idx) :
    k0_pay6 x w y = blin x w (y 0) (y 1) * Ideal.logistic (blin x w (y 0) (y 1)) := by
  rw [← pay_silu]
  unfold k0_pay6
  generalize k0_pay4 x w = d
  pointwise

/-- The kernel's block of the product. -/
theorem pay_act (x : Vec Ideal S1536x1024 .bf16) (w1 w3 : Vec Ideal S1x256x1024 .bf16) (y : S1536x256.Idx) :
    k0_pay7 x w1 w3 y
      = blin x w1 (y 0) (y 1) * Ideal.logistic (blin x w1 (y 0) (y 1)) * blin x w3 (y 0) (y 1) := by
  rw [← pay_silu, ← pay_b]
  unfold k0_pay7
  generalize k0_pay2 x w3 = a
  generalize k0_pay4 x w1 = d
  pointwise

/-- The kernel's product array is the reference's. -/
theorem final_act : (dats m 0 c).arrAt 5 cfg0.N
    = val_main_v19 (F := Ideal) (m ((c : Thread nD τ).loc main_arg0)) (m ((c : Thread nD τ).loc main_arg1))
        (m ((c : Thread nD τ).loc main_arg2)) := by
  refine (dats m 0 c).arrAt_eq_of_covers 5 _ (by decide +kernel) fun t _ y => ?_
  blk_simp
  rw [after0_5]
  frame_out
  rw [pay_act, ref_act]
  unfold blin lin
  blk_point [iblk, V, idx t]

/-- The kernel's array of the slope in the linear half is the reference's. -/
theorem final_gb : (dats m 0 c).arrAt 4 cfg0.N
    = val_main_v18 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  frame_out
  rw [pay_gb, ref_gb]
  unfold blin lin
  blk_point [iblk, V, idx t]

/-- Where the rows and the linear half's weights are real, the kernel's array of the slope in the sigmoid's argument is
    the reference's. -/
theorem final_ga (hr : ∀ r f, ∃ s : ℝ, lin (m ((c : Thread nD τ).loc main_arg0)) (m ((c : Thread nD τ).loc main_arg2)) r f = s) :
    (dats m 0 c).arrAt 3 cfg0.N
    = val_main_v17 (F := Ideal) (m ((c : Thread nD τ).loc main_arg0)) (m ((c : Thread nD τ).loc main_arg1))
        (m ((c : Thread nD τ).loc main_arg2)) := by
  refine (dats m 0 c).arrAt_eq_of_covers 3 _ (by decide +kernel) fun t _ y => ?_
  blk_simp
  rw [after0_3]
  frame_out
  rw [pay_ga, ref_ga_real _ _ _ _ (hr _ _)]
  unfold blin lin
  blk_point [iblk, V, idx t]

end Cert.SecondUp

end
-- ==== Proof.SecondDact.lean ====
/- The gradient of the second feed-forward block's gate: the cotangent through the last product, times the two saved slopes. -/
module

public import proofs.«01_k».proof.Proof.Gen.Kernel26Ideal.Value
public import proofs.«01_k».proof.Proof.Gen.Reference26Ideal.Read
public import proofs.«01_k».proof.Proof.SecondUp
public import Idealize.ShloMosaic.Lib.Pipeline.ValueKit
public import Idealize.ShloMosaic.Lib.Claim

@[expose] public section

set_option maxRecDepth 16384

noncomputable section

namespace Cert.SecondDact

open Idealize.ShloMosaic Cert.Kernel26Ideal Cert.Kernel26Ideal.Gen Idealize.ShloMosaic.TcCoe
open Cert.Reference26Ideal.Read Cert.SecondUp

variable (m : (ℓ : Loc nD τ sig) → Buf (Elt Ideal) ℓ) (c : Dev nD)

/-- The region finds the first saved slope as the forward lines leave it. -/
theorem entry_ga : V m c main_v17 = Cert.Reference29Ideal.Read.val_main_v17 (F := Ideal)
    (m ((c : Thread nD τ).loc main_arg0)) (m ((c : Thread nD τ).loc main_arg2)) (m ((c : Thread nD τ).loc main_arg3)) := by
  entry_read
  rfl

/-- The region finds the second saved slope as the forward lines leave it. -/
theorem entry_gb : V m c main_v18 = Cert.Reference29Ideal.Read.val_main_v18 (F := Ideal)
    (m ((c : Thread nD τ).loc main_arg0)) (m ((c : Thread nD τ).loc main_arg2)) := by
  entry_read
  rfl

/-- The windows' block indices. -/
theorem idx : ∀ t : Fin cfg0.N, win0_0.index t = ![t.val / 11, 0] ∧ win0_1.index t = ![1, t.val % 11, 0]
    ∧ win0_2.index t = ![t.val / 11, t.val % 11] ∧ win0_3.index t = ![t.val / 11, t.val % 11]
    ∧ win0_4.index t = ![t.val / 11, t.val % 11] ∧ win0_5.index t = ![t.val / 11, t.val % 11] :=
  (by decide +kernel : ∀ t : Fin grid0.N, _)

/-- The reference's cotangent of the product of the two halves, at an index. -/
theorem ref_d (dy : Vec Ideal S4608x1024 .bf16) (w2 : Vec Ideal S2x2816x1024 .bf16) (i : S4608x2816.Idx) :
    val_main_v18 (F := Ideal) dy w2 i = lin dy w2 (i 0) (i 1) := by
  unfold val_main_v18 val_main_v12 val_main_v9 val_main_v7 val_main_v6 lin
  pointwise

/-- The reference's linear half at an index. -/
theorem ref_b (x : Vec Ideal S4608x1024 .bf16) (w : Vec Ideal S2x2816x1024 .bf16) (i : S4608x2816.Idx) :
    val_main_v14 (F := Ideal) x w i = lin x w (i 0) (i 1) := Cert.SecondUp.ref_b x w i

/-- The reference's argument of the sigmoid at an index. -/
theorem ref_a (x : Vec Ideal S4608x1024 .bf16) (w : Vec Ideal S2x2816x1024 .bf16) (i : S4608x2816.Idx) :
    val_main_v13 (F := Ideal) x w i = lin x w (i 0) (i 1) := Cert.SecondUp.ref_a x w i

/-- The reference's sigmoid at an index. -/
theorem ref_s (x : Vec Ideal S4608x1024 .bf16) (w : Vec Ideal S2x2816x1024 .bf16) (i : S4608x2816.Idx) :
    val_main_v15_2 (F := Ideal) x w i = Ideal.logistic (lin x w (i 0) (i 1)) := Cert.SecondUp.ref_s x w i

/-- The reference's derivative of the sigmoid at an index. -/
theorem ref_ds (x : Vec Ideal S4608x1024 .bf16) (w : Vec Ideal S2x2816x1024 .bf16) (i : S4608x2816.Idx) :
    val_main_v15_1 (F := Ideal) x w i
      = Ideal.logistic (lin x w (i 0) (i 1)) * (1 - Ideal.logistic (lin x w (i 0) (i 1))) := Cert.SecondUp.ref_ds x w i

/-- The reference's gate at an index. -/
theorem ref_silu (x : Vec Ideal S4608x1024 .bf16) (w : Vec Ideal S2x2816x1024 .bf16) (i : S4608x2816.Idx) :
    val_main_v15_0 (F := Ideal) x w i = lin x w (i 0) (i 1) * Ideal.logistic (lin x w (i 0) (i 1)) :=
  Cert.SecondUp.ref_silu x w i

/-- The reference's gradient in the sigmoid's argument, at an index. -/
theorem ref_da (x dy : Vec Ideal S4608x1024 .bf16) (w1 w3 w2 : Vec Ideal S2x2816x1024 .bf16) (i : S4608x2816.Idx) :
    val_main_v22 (F := Ideal) x dy w1 w3 w2 i
      = lin dy w2 (i 0) (i 1) * lin x w3 (i 0) (i 1) * Ideal.logistic (lin x w1 (i 0) (i 1))
        + lin x w1 (i 0) (i 1) * (lin dy w2 (i 0) (i 1) * lin x w3 (i 0) (i 1))
          * (Ideal.logistic (lin x w1 (i 0) (i 1)) * (1 - Ideal.logistic (lin x w1 (i 0) (i 1)))) := by
  rw [← ref_ds, ← ref_s, ← ref_a x w1, ← ref_b x w3, ← ref_d dy w2]
  unfold val_main_v22 val_main_v21 val_main_call1_v2 val_main_call1_v1 val_main_call1_v0 val_main_v20
  generalize val_main_v15_2 (F := Ideal) x w1 = a
  generalize val_main_v15_1 (F := Ideal) x w1 = d
  generalize val_main_v13 (F := Ideal) x w1 = b
  generalize val_main_v14 (F := Ideal) x w3 = e
  generalize val_main_v18 (F := Ideal) dy w2 = f
  pointwise

/-- The reference's gradient in the sigmoid's argument is the cotangent times the saved slope, where both are real. -/
theorem ref_da_real (x dy : Vec Ideal S4608x1024 .bf16) (w1 w3 w2 : Vec Ideal S2x2816x1024 .bf16) (i : S4608x2816.Idx)
    (hb : ∃ s : ℝ, lin x w3 (i 0) (i 1) = s) (hd : ∃ s : ℝ, lin dy w2 (i 0) (i 1) = s) :
    val_main_v22 (F := Ideal) x dy w1 w3 w2 i
      = lin dy w2 (i 0) (i 1) * Cert.Reference29Ideal.Read.val_main_v17 (F := Ideal) x w1 w3 i := by
  rw [ref_da, Cert.SecondUp.ref_ga, Cert.Gate.slope_mul _ _ _ hb hd]

/-- The reference's gradient in the linear half is the cotangent times the gate. -/
theorem ref_db (x dy : Vec Ideal S4608x1024 .bf16) (w1 w2 : Vec Ideal S2x2816x1024 .bf16) (i : S4608x2816.Idx) :
    val_main_v23 (F := Ideal) x dy w1 w2 i
      = lin dy w2 (i 0) (i 1) * Cert.Reference29Ideal.Read.val_main_v18 (F := Ideal) x w1 i := by
  rw [Cert.SecondUp.ref_gb, ← ref_silu, ← ref_d dy w2, mul_comm]
  unfold val_main_v23 val_main_v19
  generalize val_main_v15_0 (F := Ideal) x w1 = a
  generalize val_main_v18 (F := Ideal) dy w2 = f
  pointwise

/-- The kernel's block of the cotangent. -/
theorem pay_d (x : Vec Ideal S1536x1024 .bf16) (w : Vec Ideal S1x256x1024 .bf16) (y : S1536x256.Idx) :
    k0_pay1 x w y = blin x w (y 0) (y 1) := by
  unfold k0_pay1 blin
  pointwise

/-- The kernel's block of the first gradient. -/
theorem pay_da (x : Vec Ideal S1536x1024 .bf16) (w : Vec Ideal S1x256x1024 .bf16) (g : Vec Ideal S1536x256 .bf16)
    (y : S1536x256.Idx) : k0_pay2 x w g y = blin x w (y 0) (y 1) * g y := by
  rw [← pay_d]
  unfold k0_pay2
  generalize k0_pay1 x w = a
  pointwise

/-- The kernel's block of the second gradient. -/
theorem pay_db (x : Vec Ideal S1536x1024 .bf16) (w : Vec Ideal S1x256x1024 .bf16) (g : Vec Ideal S1536x256 .bf16)
    (y : S1536x256.Idx) : k0_pay3 x w g y = blin x w (y 0) (y 1) * g y := by
  rw [← pay_d]
  unfold k0_pay3
  generalize k0_pay1 x w = a
  pointwise

/-- The kernel's array of the second gradient is the reference's. -/
theorem final_db : (dats m 0 c).arrAt 5 cfg0.N
    = val_main_v23 (F := Ideal) (m ((c : Thread nD τ).loc main_arg0)) (m ((c : Thread nD τ).loc main_arg1))
        (m ((c : Thread nD τ).loc main_arg2)) (m ((c : Thread nD τ).loc main_arg4)) := by
  refine (dats m 0 c).arrAt_eq_of_covers 5 _ (by decide +kernel) fun t _ y => ?_
  blk_simp
  rw [after0_5]
  frame_out
  rw [pay_db, ref_db, ← entry_gb]
  unfold blin lin
  blk_point [iblk, idx t]

/-- The kernel's array of the first gradient is the reference's, where the linear half and the cotangent are real. -/
theorem final_da
    (hb : ∀ r f, ∃ s : ℝ, lin (m ((c : Thread nD τ).loc main_arg0)) (m ((c : Thread nD τ).loc main_arg3)) r f = s)
    (hd : ∀ r f, ∃ s : ℝ, lin (m ((c : Thread nD τ).loc main_arg1)) (m ((c : Thread nD τ).loc main_arg4)) r f = s) :
    (dats m 0 c).arrAt 4 cfg0.N
    = val_main_v22 (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) := by
  refine (dats m 0 c).arrAt_eq_of_covers 4 _ (by decide +kernel) fun t _ y => ?_
  blk_simp
  rw [after0_4]
  frame_out
  rw [pay_da, ref_da_real _ _ _ _ _ _ (hb _ _) (hd _ _), ← entry_ga]
  unfold blin lin
  blk_point [iblk, idx t]

end Cert.SecondDact

end
-- ==== Proof.SecondDnx.lean ====
/- The gradient by the normalised rows of the second feed-forward block: the kernel's array is the reference's. -/
module

public import proofs.«01_k».proof.Proof.Gen.Kernel28Ideal.Value
public import proofs.«01_k».proof.Proof.Gen.Reference28Ideal.Read
public import Idealize.ShloMosaic.Lib.Pipeline.ValueKit

@[expose] public section

set_option maxRecDepth 16384

noncomputable section

namespace Cert.SecondDnx

open Idealize.ShloMosaic Cert.Kernel28Ideal Cert.Kernel28Ideal.Gen Idealize.ShloMosaic.TcCoe
open Cert.Reference28Ideal.Read

variable (m : (ℓ : Loc nD τ sig) → Buf (Elt Ideal) ℓ) (c : Dev nD)

/-- The windows' block indices. -/
theorem idx : ∀ t : Fin cfg0.N, win0_0.index t = ![t.val, 0] ∧ win0_1.index t = ![t.val, 0]
    ∧ win0_2.index t = ![1, 0, 0] ∧ win0_3.index t = ![1, 0, 0] ∧ win0_4.index t = ![t.val, 0] :=
  (by decide +kernel : ∀ t : Fin grid0.N, _)

/-- The reference at an index: the two products' contractions over the hidden width, added. -/
theorem ref_apply (da db : Vec Ideal S4608x2816 .bf16) (w1 w3 : Vec Ideal S2x2816x1024 .bf16) (i : S4608x1024.Idx) :
    val_main_v15 (F := Ideal) da db w1 w3 i
      = (∑ f : Fin 2816, db (ix2 (i 0) f) * w3 (ix3 (1 : Fin 2) f (i 1)))
        + ∑ f : Fin 2816, da (ix2 (i 0) f) * w1 (ix3 (1 : Fin 2) f (i 1)) := by
  unfold val_main_v15 val_main_v14 val_main_v13 val_main_v9 val_main_v8 val_main_v7 val_main_v6 val_main_v5 val_main_v4
    val_main_v3 val_main_v2 val_main_v1 val_main_v0
  pointwise

/-- The kernel's block at an index. -/
theorem pay_apply (x0 x1 : Vec Ideal S512x2816 .bf16) (w1 w3 : Vec Ideal S1x2816x1024 .bf16) (y : S512x1024.Idx) :
    k0_pay1 x0 w1 x1 w3 y
      = (∑ f : Fin 2816, x0 (ix2 (y 0) f) * w1 (ix3 (0 : Fin 1) f (y 1)))
        + ∑ f : Fin 2816, x1 (ix2 (y 0) f) * w3 (ix3 (0 : Fin 1) f (y 1)) := by
  unfold k0_pay1
  pointwise

/-- The kernel's array is the reference's. -/
theorem final : (dats m 0 c).arrAt 4 cfg0.N
    = val_main_v15 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [pay_apply, ref_apply, add_comm]
  blk_point [iblk, V, idx t]

end Cert.SecondDnx

end
-- ==== Proof.SecondWgrad.lean ====
/- The gradient of the second feed-forward block's weights: a product over the tokens, accumulated in three parts and written into
   the second slot of a buffer whose other slot is kept. -/
module

public import proofs.«01_k».proof.Proof.Gen.Kernel27Ideal.Value
public import proofs.«01_k».proof.Proof.Gen.Reference27Ideal.Read
public import Idealize.ShloMosaic.Lib.Pipeline.ValueKit
public import Idealize.ShloMosaic.Lib.Claim

@[expose] public section

set_option maxRecDepth 16384

noncomputable section

namespace Cert.SecondWgrad

open Idealize.ShloMosaic Cert.Kernel27Ideal Cert.Kernel27Ideal.Gen Idealize.ShloMosaic.TcCoe
open Cert.Reference27Ideal.Read

variable (m : (ℓ : Loc nD τ sig) → Buf (Elt Ideal) ℓ) (c : Dev nD)

/-- The windows' block indices. -/
theorem idx : ∀ t : Fin cfg0.N, win0_0.index t = ![t.val % 3, t.val / 3] ∧ win0_1.index t = ![t.val % 3, 0]
    ∧ win0_2.index t = ![1, t.val / 3, 0] :=
  (by decide +kernel : ∀ t : Fin grid0.N, _)

/-- The region finds the result's buffer holding the buffer the gradient is written into. -/
theorem entry_into : V m c main_v0 = m ((c : Thread nD τ).loc main_arg2) := by
  entry_read
  rfl

/-- One entry of the weights' gradient: the tokens' contraction. -/
def dw (x : Vec Ideal S4608x2816 .bf16) (dy : Vec Ideal S4608x1024 .bf16) (f : Fin 2816) (k : Fin 1024) : EReal :=
  ∑ r : Fin 4608, x (ix2 r f) * dy (ix2 r k)

/-- The reference's gradient at an index. -/
theorem ref_dw (x : Vec Ideal S4608x2816 .bf16) (dy : Vec Ideal S4608x1024 .bf16) (i : Cert.Reference27Ideal.S1x2816x1024.Idx) :
    val_main_v7 (F := Ideal) x dy i = dw x dy (i 1) (i 2) := by
  unfold val_main_v7 val_main_v5 val_main_v4 val_main_v1 val_main_v0 dw
  pointwise
  exact Finset.sum_congr rfl fun r _ => mul_comm _ _

/-- The reference at an index: the gradient in the second slot, the old contents in the other. -/
theorem ref_apply (x : Vec Ideal S4608x2816 .bf16) (dy : Vec Ideal S4608x1024 .bf16) (b : Vec Ideal S2x2816x1024 .f32)
    (i : S2x2816x1024.Idx) :
    val_main_v8 (F := Ideal) x dy b i = if (i 0 : ℕ) = 1 then dw x dy (i 1) (i 2) else b i := by
  unfold val_main_v8 val_main_v6
  have h6 := ref_dw x dy
  generalize val_main_v7 (F := Ideal) x dy = a at h6
  pointwise
  by_cases h : (i 0 : ℕ) = 1
  · rw [dif_neg (by omega), if_pos h, h6]
    rfl
  · have hlt : (i 0 : ℕ) < 2 := (i 0).isLt
    rw [dif_pos (by omega), if_neg h]

/-- One product of a block of tokens. -/
theorem pay_part (x : Vec Ideal S1536x1408 .bf16) (dy : Vec Ideal S1536x1024 .bf16) (j : S1x1408x1024.Idx) :
    k0_pay2 x dy j = 0 + ∑ r : Fin 1536, x (ix2 r (j 1)) * dy (ix2 r (j 2)) := by
  rw [zero_add]
  unfold k0_pay2 k0_pay1
  pointwise

/-- The accumulating block: what it held and one product more. -/
theorem pay_acc (x : Vec Ideal S1536x1408 .bf16) (dy : Vec Ideal S1536x1024 .bf16) (a : Vec Ideal S1x1408x1024 .f32)
    (j : S1x1408x1024.Idx) :
    k0_pay3 x dy a j = a j + ∑ r : Fin 1536, x (ix2 r (j 1)) * dy (ix2 r (j 2)) := by
  unfold k0_pay3 k0_pay1
  pointwise

/-- The kernel's array: the gradient in the second slot, the old contents in the other. -/
theorem arr : (dats m 0 c).arrAt 2 cfg0.N = fun i : S2x2816x1024.Idx => if (i 0 : ℕ) = 1
    then dw (m ((c : Thread nD τ).loc main_arg0)) (m ((c : Thread nD τ).loc main_arg1)) (i 1) (i 2)
    else V m c main_v0 i := by
  refine (dats m 0 c).arrAt_eq_of_coversWhere 2 _ (fun β => β 0 = 1) (by decide +kernel) (fun t hf y => ?_)
    (fun j => by blk_simp [Pipeline.Window.cell_apply]; omega)
  blk_simp
  rw [after0_2, Pipeline.eq_sum_fin_of_reset_step_apply_of_flush (fun n h => outsAt0 m c n h) 3 (fun _ => 0) _
    (fun t h j => by rw [outsAt0_A m c t h (by omega)]; frame_out; rw [pay_part])
    (fun t h j => by rw [outsAt0_B m c t h (by omega)]; frame_out; rw [pay_acc]) t ((flush0_2 t).mp hf) _, zero_add]
  unfold dw
  refine Fin.sum_mul_add_congr fun s k hl => ?_
  blk_point [iblk, V, idx t, idx ⟨_, Pipeline.run_point_lt_of_flush t ((flush0_2 t).mp hf) s⟩]

/-- The kernel's array is the reference's. -/
theorem final : (dats m 0 c).arrAt 2 cfg0.N
    = val_main_v8 (F := Ideal) (m ((c : Thread nD τ).loc main_arg0)) (m ((c : Thread nD τ).loc main_arg1))
        (m ((c : Thread nD τ).loc main_arg2)) := by
  rw [arr, entry_into]
  exact funext fun i => (ref_apply _ _ _ i).symm

end Cert.SecondWgrad

end
-- ==== Proof.SecondDown.lean ====
/- The last product of the second feed-forward block, added to the residual under its gate. -/
module

public import proofs.«01_k».proof.Proof.Gen.Kernel30Ideal.Value
public import proofs.«01_k».proof.Proof.Gen.Reference30Ideal.Read
public import Idealize.ShloMosaic.Lib.Pipeline.ValueKit

@[expose] public section

set_option maxRecDepth 16384

noncomputable section

namespace Cert.SecondDown

open Idealize.ShloMosaic Cert.Kernel30Ideal Cert.Kernel30Ideal.Gen Idealize.ShloMosaic.TcCoe
open Cert.Reference30Ideal.Read

variable (m : (ℓ : Loc nD τ sig) → Buf (Elt Ideal) ℓ) (c : Dev nD)

/-- The windows' block indices. -/
theorem idx : ∀ t : Fin cfg0.N, win0_0.index t = ![t.val, 0] ∧ win0_1.index t = ![1, 0, 0]
    ∧ win0_2.index t = ![t.val, 0] ∧ win0_3.index t = ![min (t.val / 4) 2, 8, 0, 0] ∧ win0_4.index t = ![t.val, 0]
    ∧ win0_5.index t = ![t.val, 0] :=
  (by decide +kernel : ∀ t : Fin grid0.N, _)

/-- The product at a row and a column. -/
def prod (a : Vec Ideal S4608x2816 .bf16) (w : Vec Ideal S2x2816x1024 .bf16) (r : Fin 4608) (j : Fin 1024) : EReal :=
  ∑ k : Fin 2816, a (ix2 r k) * w (ix3 1 k j)

/-- The reference's product at an index. -/
theorem ref_prod (a : Vec Ideal S4608x2816 .bf16) (w : Vec Ideal S2x2816x1024 .bf16) (i : S4608x1024.Idx) :
    val_main_v4 (F := Ideal) a w i = prod a w (i 0) (i 1) := by
  unfold val_main_v4 val_main_v3 val_main_v2 val_main_v1 val_main_v0 prod
  pointwise

/-- The reference's second result is the product. -/
theorem ref_y (a : Vec Ideal S4608x2816 .bf16) (w : Vec Ideal S2x2816x1024 .bf16) (i : S4608x1024.Idx) :
    val_main_v19 (F := Ideal) a w i = prod a w (i 0) (i 1) := by
  rw [← ref_prod]
  unfold val_main_v19
  generalize val_main_v4 (F := Ideal) a w = y
  pointwise

/-- The stream's modulation row of a token. -/
def stream (r : Fin 4608) : Fin 3 := ⟨min (r.val / 2048) 2, by omega⟩

/-- The reference's gate at an index: the row of the token's stream. -/
theorem ref_gate (g : Vec Ideal S3x9x1x1024 .f32) (i : S4608x1024.Idx) :
    val_main_v14 (F := Ideal) g i = g (ix4 (stream (i 0)) 8 0 (i 1)) := by
  unfold val_main_v14 val_main_v13 val_main_v12 val_main_v11 val_main_v10 val_main_v9 val_main_v8 val_main_v7
    val_main_v6 val_main_v5 stream
  pointwise
  have h := (i 0).isLt
  by_cases h1 : (i 0).val < 2048
  · rw [dif_pos h1]; congr 2; exact Fin.ext (by show 0 = min ((i 0).val / 2048) 2; omega)
  · by_cases h2 : (i 0).val - 2048 < 2048
    · rw [dif_neg h1, dif_pos h2]; congr 2; exact Fin.ext (by show 1 = min ((i 0).val / 2048) 2; omega)
    · rw [dif_neg h1, dif_neg h2]; congr 2; exact Fin.ext (by show 2 = min ((i 0).val / 2048) 2; omega)

/-- The reference's first result at an index. -/
theorem ref_h (a : Vec Ideal S4608x2816 .bf16) (w : Vec Ideal S2x2816x1024 .bf16) (h : Vec Ideal S4608x1024 .f32)
    (g : Vec Ideal S3x9x1x1024 .f32) (i : S4608x1024.Idx) :
    val_main_v18 (F := Ideal) a w h g i
      = h i + Ideal.ofBits FTy.f32 0x3F000000#32 * g (ix4 (stream (i 0)) 8 0 (i 1)) * prod a w (i 0) (i 1) := by
  rw [← ref_prod, ← ref_gate g i]
  unfold val_main_v18 val_main_v17 val_main_v16 val_main_v15 val_main_cst
  generalize val_main_v4 (F := Ideal) a w = y
  generalize val_main_v14 (F := Ideal) g = z
  pointwise

/-- The kernel's block of the product. -/
theorem pay_prod (a : Vec Ideal S512x2816 .bf16) (w : Vec Ideal S1x2816x1024 .bf16) (j : S512x1024.Idx) :
    k0_pay1 a w j = ∑ k : Fin 2816, a (ix2 (j 0) k) * w (ix3 0 k (j 1)) := by
  unfold k0_pay1
  pointwise

/-- The kernel's block of the second result. -/
theorem pay_y (a : Vec Ideal S512x2816 .bf16) (w : Vec Ideal S1x2816x1024 .bf16) (j : S512x1024.Idx) :
    k0_pay2 a w j = ∑ k : Fin 2816, a (ix2 (j 0) k) * w (ix3 0 k (j 1)) := by
  rw [← pay_prod]
  unfold k0_pay2
  generalize k0_pay1 a w = y
  pointwise

/-- The kernel's block of the first result. -/
theorem pay_h (a : Vec Ideal S512x2816 .bf16) (w : Vec Ideal S1x2816x1024 .bf16) (h : Vec Ideal S512x1024 .f32)
    (g : Vec Ideal S1x1x1x1024 .f32) (j : S512x1024.Idx) :
    k0_pay3 a w h g j = h j + Ideal.ofBits FTy.f32 0x3F000000#32 * g (ix4 0 0 0 (j 1))
      * ∑ k : Fin 2816, a (ix2 (j 0) k) * w (ix3 0 k (j 1)) := by
  rw [← pay_prod]
  unfold k0_pay3
  generalize k0_pay1 a w = y
  pointwise

/-- The kernel's first array is the reference's. -/
theorem final_h : (dats m 0 c).arrAt 4 cfg0.N
    = val_main_v18 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  frame_out
  rw [pay_h, ref_h]
  unfold prod stream
  blk_point [iblk, V, idx t]

/-- The kernel's second array is the reference's. -/
theorem final_y : (dats m 0 c).arrAt 5 cfg0.N
    = val_main_v19 (F := Ideal) (m ((c : Thread nD τ).loc main_arg0)) (m ((c : Thread nD τ).loc main_arg1)) := by
  refine (dats m 0 c).arrAt_eq_of_covers 5 _ (by decide +kernel) fun t _ y => ?_
  blk_simp
  rw [after0_5]
  frame_out
  rw [pay_y, ref_y]
  unfold prod
  blk_point [iblk, V, idx t]

end Cert.SecondDown

end
-- ==== Proof.SecondFfn.lean ====
/- The claims about the second feed-forward block of a layer: each reference's run and frame, and each kernel's arrays against them. -/
module

public import proofs.«01_k».proof.Defs
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Frame
public import proofs.«01_k».proof.Proof.Gen.Kernel30Ideal
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.SecondUp
public import proofs.«01_k».proof.Proof.SecondDact
public import proofs.«01_k».proof.Proof.SecondDnx
public import proofs.«01_k».proof.Proof.SecondWgrad
public import proofs.«01_k».proof.Proof.SecondDown
public import proofs.«01_k».proof.Proof.Gate
public import Idealize.ShloMosaic.Lib.Quiescent
public import Idealize.ShloMosaic.Adequacy
public import Idealize.ShloMosaic.Init

@[expose] public section

noncomputable section

namespace Cert.Proof

open Idealize.ShloMosaic Idealize.SL.Sem

open Cert.Reference26Ideal in
/-- The reference of the two gradients of the second block's gate runs, keeps its arguments, and has no counter to leave raised. -/
theorem frame_reference26
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run defs _ _).mono (fun r h => ⟨fun c => (h c).2.2, sem_eq_zero_of_no_sems (by decide) r.2⟩)
    (Cert.Reference26Ideal.Value.run (F := Ideal) m g)

open Cert.Reference26Ideal in
/-- The results of the reference of the two gradients of the second block's gate, as functions of its argument arrays. -/
theorem run_reference26
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v22) = Read.val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_v23) = Read.val_main_v23 (F := Ideal) (m ((c.tc : Thread nD τ).loc main_arg0)) (m ((c.tc : Thread nD τ).loc main_arg1)) (m ((c.tc : Thread nD τ).loc main_arg2)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun r h c =>
    ⟨(h c).1.trans (Read.val_main_v22_eq (F := Ideal) _ _ _ _ _),
      (h c).2.1.trans (Read.val_main_v23_eq (F := Ideal) _ _ _ _),
      (h c).2.2⟩)
    (Cert.Reference26Ideal.Value.run (F := Ideal) m g)

attribute [local instance] Cert.Gate.dactFacts in
/-- Where the rows, the cotangent and the second and third weights are finite, the kernel of the two gradients of the second block's gate computes what its reference does. -/
theorem algebraic26 : Cert.algebraic_Kernel26Ideal_Reference26Ideal_pre_dact_finite := by
  intro m g m' g' hpre hagree
  refine ⟨fun c => (Cert.Kernel26Ideal.Gen.dats m 0 c).arrAt 4 Cert.Kernel26Ideal.cfg0.N,
    fun c => (Cert.Kernel26Ideal.Gen.dats m 0 c).arrAt 5 Cert.Kernel26Ideal.cfg0.N,
    Cert.Kernel26Ideal.Value.run_blocks (F := Ideal) m g, ?_⟩
  refine (θ_run Cert.Reference26Ideal.defs _ _).mono (fun r h c => ?_) (run_reference26 m' g')
  obtain ⟨hx, hy, hw3, hw2⟩ := Cert.Gate.real_of_dact _ _ _ _ _ (hpre c)
  obtain ⟨e0, e1, e2, e3, e4⟩ := hagree c
  obtain ⟨h0, h1, hargs⟩ := h c
  rw [e0, e1, e2, e3, e4] at h0
  rw [e0, e1, e2, e4] at h1
  exact ⟨h0.trans (Cert.SecondDact.final_da m c (Cert.SecondUp.real_lin _ _ hx hw3) (Cert.SecondUp.real_lin _ _ hy hw2)).symm, h1.trans (Cert.SecondDact.final_db m c).symm, hargs⟩

open Cert.Reference27Ideal in
/-- The reference of the gradient of the second block's weight runs, keeps its arguments, and has no counter to leave raised. -/
theorem frame_reference27
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩)
    (Cert.Reference27Ideal.Value.run (F := Ideal) m g)

open Cert.Reference27Ideal in
/-- The results of the reference of the gradient of the second block's weight, as functions of its argument arrays. -/
theorem run_reference27
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v8) = Read.val_main_v8 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v8_eq (F := Ideal) _ _ _),
      (h c).2⟩)
    (Cert.Reference27Ideal.Value.run (F := Ideal) m g)

/-- The kernel of the gradient of the second block's weight computes what its reference does. -/
theorem algebraic27 : Cert.algebraic_Kernel27Ideal_Reference27Ideal := by
  intro m g m' g' hpre hagree
  refine ⟨fun c => (Cert.Kernel27Ideal.Gen.dats m 0 c).arrAt 2 Cert.Kernel27Ideal.cfg0.N,
    Cert.Kernel27Ideal.Value.run_blocks (F := Ideal) m g, ?_⟩
  refine (θ_run Cert.Reference27Ideal.defs _ _).mono (fun r h c => ?_) (run_reference27 m' g')
  obtain ⟨e0, e1, e2⟩ := hagree c
  obtain ⟨h0, hargs⟩ := h c
  rw [e0, e1, e2] at h0
  exact ⟨h0.trans (Cert.SecondWgrad.final m c).symm, hargs⟩

open Cert.Reference28Ideal in
/-- The reference of the gradient of the second block's normalised rows runs, keeps its arguments, and has no counter to leave raised. -/
theorem frame_reference28
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2, sem_eq_zero_of_no_sems (by decide) r.2⟩)
    (Cert.Reference28Ideal.Value.run (F := Ideal) m g)

open Cert.Reference28Ideal in
/-- The results of the reference of the gradient of the second block's normalised rows, as functions of its argument arrays. -/
theorem run_reference28
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v15) = Read.val_main_v15 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c).1.trans (Read.val_main_v15_eq (F := Ideal) _ _ _ _),
      (h c).2⟩)
    (Cert.Reference28Ideal.Value.run (F := Ideal) m g)

/-- The kernel of the gradient of the second block's normalised rows computes what its reference does. -/
theorem algebraic28 : Cert.algebraic_Kernel28Ideal_Reference28Ideal := by
  intro m g m' g' hpre hagree
  refine ⟨fun c => (Cert.Kernel28Ideal.Gen.dats m 0 c).arrAt 4 Cert.Kernel28Ideal.cfg0.N,
    Cert.Kernel28Ideal.Value.run_blocks (F := Ideal) m g, ?_⟩
  refine (θ_run Cert.Reference28Ideal.defs _ _).mono (fun r h c => ?_) (run_reference28 m' g')
  obtain ⟨e0, e1, e2, e3⟩ := hagree c
  obtain ⟨h0, hargs⟩ := h c
  rw [e0, e1, e2, e3] at h0
  exact ⟨h0.trans (Cert.SecondDnx.final m c).symm, hargs⟩

open Cert.Reference29Ideal in
/-- The reference of the second block's gate and its two saved slopes runs, keeps its arguments, and has no counter to leave raised. -/
theorem frame_reference29
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2.2.2, sem_eq_zero_of_no_sems (by decide) r.2⟩)
    (Cert.Reference29Ideal.Value.run (F := Ideal) m g)

open Cert.Reference29Ideal in
/-- The results of the reference of the second block's gate and its two saved slopes, as functions of its argument arrays. -/
theorem run_reference29
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v17) = Read.val_main_v17 (F := Ideal) (m ((c.tc : Thread nD τ).loc main_arg0)) (m ((c.tc : Thread nD τ).loc main_arg1)) (m ((c.tc : Thread nD τ).loc main_arg2))
        ∧ r.2.mem ((c.tc : Thread nD τ).loc main_v18) = Read.val_main_v18 (F := Ideal) (m ((c.tc : Thread nD τ).loc main_arg0)) (m ((c.tc : Thread nD τ).loc main_arg1))
        ∧ r.2.mem ((c.tc : Thread nD τ).loc main_v19) = Read.val_main_v19 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v17_eq (F := Ideal) _ _ _),
      (h c).2.1.trans (Read.val_main_v18_eq (F := Ideal) _ _),
      (h c).2.2.1.trans (Read.val_main_v19_eq (F := Ideal) _ _ _),
      (h c).2.2.2⟩)
    (Cert.Reference29Ideal.Value.run (F := Ideal) m g)

attribute [local instance] Cert.Gate.upFacts in
/-- Where the rows and the linear half's weights are finite, the kernel of the second block's gate and its two saved slopes computes what its reference does. -/
theorem algebraic29 : Cert.algebraic_Kernel29Ideal_Reference29Ideal_pre_up_finite := by
  intro m g m' g' hpre hagree
  refine ⟨fun c => (Cert.Kernel29Ideal.Gen.dats m 0 c).arrAt 3 Cert.Kernel29Ideal.cfg0.N,
    fun c => (Cert.Kernel29Ideal.Gen.dats m 0 c).arrAt 4 Cert.Kernel29Ideal.cfg0.N,
    fun c => (Cert.Kernel29Ideal.Gen.dats m 0 c).arrAt 5 Cert.Kernel29Ideal.cfg0.N,
    Cert.Kernel29Ideal.Value.run_blocks (F := Ideal) m g, ?_⟩
  refine (θ_run Cert.Reference29Ideal.defs _ _).mono (fun r h c => ?_) (run_reference29 m' g')
  obtain ⟨hx, hw⟩ := Cert.Gate.real_of_up _ _ _ (hpre c)
  obtain ⟨e0, e1, e2⟩ := hagree c
  obtain ⟨h0, h1, h2, hargs⟩ := h c
  rw [e0, e1, e2] at h0
  rw [e0, e1] at h1
  rw [e0, e1, e2] at h2
  exact ⟨h0.trans (Cert.SecondUp.final_ga m c (Cert.SecondUp.real_lin _ _ hx hw)).symm, h1.trans (Cert.SecondUp.final_gb m c).symm, h2.trans (Cert.SecondUp.final_act m c).symm, hargs⟩

open Cert.Reference30Ideal in
/-- The reference of the last product of the second block runs, keeps its arguments, and has no counter to leave raised. -/
theorem frame_reference30
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2, sem_eq_zero_of_no_sems (by decide) r.2⟩)
    (Cert.Reference30Ideal.Value.run (F := Ideal) m g)

open Cert.Reference30Ideal in
/-- The results of the reference of the last product of the second block, as functions of its argument arrays. -/
theorem run_reference30
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v18) = Read.val_main_v18 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v19) = Read.val_main_v19 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c).1.trans (Read.val_main_v18_eq (F := Ideal) _ _ _ _),
      (h c).2.1.trans (Read.val_main_v19_eq (F := Ideal) _ _),
      (h c).2.2⟩)
    (Cert.Reference30Ideal.Value.run (F := Ideal) m g)

/-- The kernel of the last product of the second block computes what its reference does. -/
theorem algebraic30 : Cert.algebraic_Kernel30Ideal_Reference30Ideal := by
  intro m g m' g' hpre hagree
  refine ⟨fun c => (Cert.Kernel30Ideal.Gen.dats m 0 c).arrAt 4 Cert.Kernel30Ideal.cfg0.N,
    fun c => (Cert.Kernel30Ideal.Gen.dats m 0 c).arrAt 5 Cert.Kernel30Ideal.cfg0.N,
    Cert.Kernel30Ideal.Value.run_blocks (F := Ideal) m g, ?_⟩
  refine (θ_run Cert.Reference30Ideal.defs _ _).mono (fun r h c => ?_) (run_reference30 m' g')
  obtain ⟨e0, e1, e2, e3⟩ := hagree c
  obtain ⟨h0, h1, hargs⟩ := h c
  rw [e0, e1, e2, e3] at h0
  rw [e0, e1] at h1
  exact ⟨h0.trans (Cert.SecondDown.final_h m c).symm, h1.trans (Cert.SecondDown.final_y m c).symm, hargs⟩

end Cert.Proof

end
-- ==== Proof.Norm.lean ====
/- The normalisation of a row and its gradient, number by number: the two ways of writing the gradient agree, whatever the
   row, as the inverse root of a positive number is a real number. -/
module

public import Idealize.ShloMosaic.Lib.Pointwise

@[expose] public section

set_option maxRecDepth 16384

noncomputable section

namespace Cert.Norm

open Idealize.ShloMosaic

/-- The small number added to the mean square. -/
def eps : EReal := Ideal.ofBits .f32 0x358637BD#32

/-- It is a positive real number. -/
theorem eps_pos : ∃ e : ℝ, 0 < e ∧ eps = e := by
  refine ⟨8796093 * 2 ^ (-43 : ℤ), by positivity, ?_⟩
  unfold eps
  simp [Ideal.ofBits, Ideal.ieee, -EReal.coe_mul]

/-- The literal 256. -/
theorem bits_256 : Ideal.ofBits .f32 0x43800000#32 = ((256 : ℝ) : EReal) := by
  simp [Ideal.ofBits, Ideal.ieee, -EReal.coe_mul]; norm_num
/-- The literal 128. -/
theorem bits_128 : Ideal.ofBits .f32 0x43000000#32 = ((128 : ℝ) : EReal) := by
  simp [Ideal.ofBits, Ideal.ieee, -EReal.coe_mul]; norm_num
/-- The literal minus one half. -/
theorem bits_neg_half : Ideal.ofBits .f32 0xBF000000#32 = ((-(1 / 2) : ℝ) : EReal) := by
  simp [Ideal.ofBits, Ideal.ieee, -EReal.coe_mul, -EReal.coe_neg]; norm_num

/-- Division by a positive real number. -/
theorem div_pos (x : EReal) (n : ℝ) (hn : 0 < n) : Ideal.div x n = x * ((n⁻¹ : ℝ) : EReal) := by
  unfold Ideal.div
  rw [if_neg (by exact_mod_cast hn.ne')]
  rw [EReal.coe_inv]

/-- A square is not negative. -/
theorem sq_nonneg (x : EReal) : 0 ≤ x * x := by
  induction x using EReal.rec with
  | bot => simp
  | top => simp
  | coe r => exact_mod_cast mul_self_nonneg r

/-- The mean square of a row, and the small number. -/
def var {n : ℕ} (d : ℝ) (x : Fin n → EReal) : EReal := Ideal.div (∑ k, x k * x k) d + eps

/-- It is positive. -/
theorem var_pos {n : ℕ} (d : ℝ) (hd : 0 < d) (x : Fin n → EReal) : 0 < var d x := by
  obtain ⟨e, he, h⟩ := eps_pos
  unfold var
  rw [h, div_pos _ d hd]
  refine lt_of_lt_of_le (show (0 : EReal) < e by exact_mod_cast he) (le_add_of_nonneg_left ?_)
  exact mul_nonneg (Finset.sum_nonneg fun k _ => sq_nonneg _) (by exact_mod_cast (inv_pos.mpr hd).le)

/-- The inverse root of a positive number is a real number that is not negative, and divided by the number it is its cube. -/
theorem rsqrt_real (v : EReal) (hv : 0 < v) :
    ∃ ρ : ℝ, 0 ≤ ρ ∧ Ideal.rsqrt v = ρ ∧ Ideal.div (Ideal.rsqrt v) v = ((ρ * ρ * ρ : ℝ) : EReal) := by
  induction v using EReal.rec with
  | bot => simp at hv
  | top => exact ⟨0, le_refl _, by simp, by simp [Ideal.div]⟩
  | coe r =>
    have hr : 0 < r := by exact_mod_cast hv
    refine ⟨(Real.sqrt r)⁻¹, by positivity, ?_, ?_⟩
    · rw [Ideal.rsqrt_coe, if_neg hr.not_gt, if_neg hr.ne']
    · rw [Ideal.rsqrt_coe, if_neg hr.not_gt, if_neg hr.ne', div_pos _ r hr, ← EReal.coe_mul]
      congr 1
      have h : (Real.sqrt r)⁻¹ * (Real.sqrt r)⁻¹ = r⁻¹ := by rw [← mul_inv, Real.mul_self_sqrt hr.le]
      rw [h, mul_comm]

/-- A real factor that is not negative comes out of a sum. -/
theorem mul_sum {n : ℕ} (ρ : ℝ) (hρ : 0 ≤ ρ) (f : Fin n → EReal) : ∑ k, (ρ : EReal) * f k = ρ * ∑ k, f k :=
  (map_sum (⟨⟨fun y => (ρ : EReal) * y, mul_zero _⟩, EReal.left_distrib_of_nonneg_of_ne_top (by exact_mod_cast hρ)
    (EReal.coe_ne_top ρ)⟩ : EReal →+ EReal) f Finset.univ).symm

/-- Two halves of a multiple. -/
theorem two_halves (y : EReal) (q : ℝ) (hq : 0 ≤ q) :
    y * ((-(q / 2) : ℝ) : EReal) + y * ((-(q / 2) : ℝ) : EReal) = -(y * q) := by
  induction y using EReal.rec with
  | coe r => norm_cast; ring
  | top =>
    rcases hq.eq_or_lt with rfl | h
    · simp
    · rw [EReal.top_mul_coe_of_neg (by linarith), EReal.top_mul_coe_of_pos h]; rfl
  | bot =>
    rcases hq.eq_or_lt with rfl | h
    · simp
    · rw [EReal.bot_mul_coe_of_neg (by linarith), EReal.bot_mul_coe_of_pos h]; rfl

/-- The gradient of a normalised row: the kernel's form, with the mean against the normalised row, is the one that
    `jax.vjp` writes, with the derivative of the inverse root. -/
theorem grad {n : ℕ} (d : ℝ) (hd : 0 < d) (x u : Fin n → EReal) (i : Fin n) :
    Ideal.rsqrt (var d x) * (u i - x i * Ideal.rsqrt (var d x)
        * Ideal.div (∑ k, u k * (x k * Ideal.rsqrt (var d x))) d)
      = u i * Ideal.rsqrt (var d x)
        + x i * Ideal.div ((∑ k, x k * u k) * (((-(1 / 2) : ℝ) : EReal) * Ideal.div (Ideal.rsqrt (var d x)) (var d x))) d
        + Ideal.div ((∑ k, x k * u k) * (((-(1 / 2) : ℝ) : EReal) * Ideal.div (Ideal.rsqrt (var d x)) (var d x))) d
          * x i := by
  obtain ⟨ρ, hρ, e1, e2⟩ := rsqrt_real _ (var_pos d hd x)
  rw [e2, e1, div_pos _ d hd, div_pos _ d hd]
  have hs : ∑ k, u k * (x k * (ρ : EReal)) = ρ * ∑ k, x k * u k := by
    rw [← mul_sum ρ hρ]
    exact Finset.sum_congr rfl fun k _ => by rw [mul_comm (u k), mul_comm (x k) (ρ : EReal), mul_assoc]
  rw [hs]
  generalize (∑ k, x k * u k) = S
  have hq : 0 ≤ ρ * ρ * ρ * d⁻¹ := by positivity
  have h2 := two_halves (x i * S) _ hq
  have hl : (ρ : EReal) * (x i * ρ * (ρ * S * ((d⁻¹ : ℝ) : EReal))) = x i * S * ((ρ * ρ * ρ * d⁻¹ : ℝ) : EReal) := by
    push_cast
    ac_rfl
  have hr : x i * (S * (((-(1 / 2) : ℝ) : EReal) * ((ρ * ρ * ρ : ℝ) : EReal)) * ((d⁻¹ : ℝ) : EReal))
      = x i * S * ((-(ρ * ρ * ρ * d⁻¹ / 2) : ℝ) : EReal) := by
    rw [show (-(ρ * ρ * ρ * d⁻¹ / 2) : ℝ) = -(1 / 2) * (ρ * ρ * ρ) * d⁻¹ by ring, EReal.coe_mul, EReal.coe_mul]
    ac_rfl
  rw [mul_comm _ (x i), hr, add_assoc, h2, sub_eq_add_neg,
    EReal.left_distrib_of_nonneg_of_ne_top (by exact_mod_cast hρ) (EReal.coe_ne_top ρ), mul_neg, hl, mul_comm (ρ : EReal)]

end Cert.Norm

end
-- ==== Proof.LatentPoint.lean ====
/- The gradient of the latents' normalisation: the kernel's blocks read at an index. -/
module

public import proofs.«01_k».proof.Proof.Gen.Kernel31Ideal.Value
public import proofs.«01_k».proof.Proof.Norm
public import Idealize.ShloMosaic.Lib.Pipeline.ValueKit

@[expose] public section

set_option maxRecDepth 16384

noncomputable section

namespace Cert.Latent

open Idealize.ShloMosaic Cert.Kernel31Ideal Cert.Kernel31Ideal.Gen Idealize.ShloMosaic.TcCoe Cert.Norm

/-- The inverse root of a query latent's mean square. -/
theorem pay5_apply (x : Vec Ideal S512x256 .f32) (j : S512x1.Idx) :
    k0_pay5 x j = Ideal.rsqrt (var 256 fun k : Fin 256 => x (ix2 (j 0) k)) := by
  unfold k0_pay5 var eps
  rw [← bits_256]
  pointwise

/-- The normalised query latents. -/
theorem pay6_apply (x : Vec Ideal S512x256 .f32) (a : Fin 512) (b : Fin 256) :
    k0_pay6 x (ix2 a b) = x (ix2 a b) * Ideal.rsqrt (var 256 fun k : Fin 256 => x (ix2 a k)) := by
  have e : ∀ j, k0_pay5 x j = Ideal.rsqrt (var 256 fun k : Fin 256 => x (ix2 (j 0) k)) := pay5_apply x
  unfold k0_pay6
  generalize k0_pay5 x = r at *
  pointwise
  rw [e]
  rfl

/-- The gradient of the query latents. -/
theorem pay7_apply (x : Vec Ideal S512x256 .f32) (d : Vec Ideal S512x256 .bf16) (g : Vec Ideal S1x256 .f32) (a : Fin 512)
    (b : Fin 256) : k0_pay7 x d g (ix2 a b) = Ideal.rsqrt (var 256 fun k : Fin 256 => x (ix2 a k))
      * (d (ix2 a b) * g (ix2 0 b) - x (ix2 a b) * Ideal.rsqrt (var 256 fun k : Fin 256 => x (ix2 a k))
        * Ideal.div (∑ k : Fin 256, d (ix2 a k) * g (ix2 0 k)
          * (x (ix2 a k) * Ideal.rsqrt (var 256 fun k : Fin 256 => x (ix2 a k)))) ((256 : ℝ) : EReal)) := by
  have e : ∀ j, k0_pay5 x j = Ideal.rsqrt (var 256 fun k : Fin 256 => x (ix2 (j 0) k)) := pay5_apply x
  have e6 := pay6_apply x
  unfold k0_pay7 k0_pay4
  generalize k0_pay5 x = r at *
  generalize k0_pay6 x = z at *
  rw [← bits_256]
  pointwise
  simp only [e, e6]
  rfl

/-- The accumulated gradient of the queries' gain. -/
theorem pay8_apply (x : Vec Ideal S512x256 .f32) (d : Vec Ideal S512x256 .bf16) (o : Vec Ideal S1x256 .f32) (b : Fin 256) :
    k0_pay8 x d o (ix2 0 b) = o (ix2 0 b) + ∑ a : Fin 512, d (ix2 a b) * (x (ix2 a b) * Ideal.rsqrt (var 256 fun k : Fin 256 => x (ix2 a k))) := by
  have e6 := pay6_apply x
  unfold k0_pay8 k0_pay4
  generalize k0_pay6 x = z at *
  pointwise
  simp only [e6]

/-- The inverse root of a key and value latent's mean square. -/
theorem pay10_apply (x : Vec Ideal S512x128 .f32) (j : S512x1.Idx) :
    k0_pay10 x j = Ideal.rsqrt (var 128 fun k : Fin 128 => x (ix2 (j 0) k)) := by
  unfold k0_pay10 var eps
  rw [← bits_128]
  pointwise

/-- The normalised key and value latents. -/
theorem pay11_apply (x : Vec Ideal S512x128 .f32) (a : Fin 512) (b : Fin 128) :
    k0_pay11 x (ix2 a b) = x (ix2 a b) * Ideal.rsqrt (var 128 fun k : Fin 128 => x (ix2 a k)) := by
  have e : ∀ j, k0_pay10 x j = Ideal.rsqrt (var 128 fun k : Fin 128 => x (ix2 (j 0) k)) := pay10_apply x
  unfold k0_pay11
  generalize k0_pay10 x = r at *
  pointwise
  rw [e]
  rfl

/-- The gradient of the key and value latents. -/
theorem pay12_apply (x : Vec Ideal S512x128 .f32) (d : Vec Ideal S512x128 .bf16) (g : Vec Ideal S1x128 .f32) (a : Fin 512)
    (b : Fin 128) : k0_pay12 x d g (ix2 a b) = Ideal.rsqrt (var 128 fun k : Fin 128 => x (ix2 a k))
      * (d (ix2 a b) * g (ix2 0 b) - x (ix2 a b) * Ideal.rsqrt (var 128 fun k : Fin 128 => x (ix2 a k))
        * Ideal.div (∑ k : Fin 128, d (ix2 a k) * g (ix2 0 k)
          * (x (ix2 a k) * Ideal.rsqrt (var 128 fun k : Fin 128 => x (ix2 a k)))) ((128 : ℝ) : EReal)) := by
  have e : ∀ j, k0_pay10 x j = Ideal.rsqrt (var 128 fun k : Fin 128 => x (ix2 (j 0) k)) := pay10_apply x
  have e6 := pay11_apply x
  unfold k0_pay12 k0_pay9
  generalize k0_pay10 x = r at *
  generalize k0_pay11 x = z at *
  rw [← bits_128]
  pointwise
  simp only [e, e6]
  rfl

/-- The accumulated gradient of the keys' and values' gain. -/
theorem pay13_apply (x : Vec Ideal S512x128 .f32) (d : Vec Ideal S512x128 .bf16) (o : Vec Ideal S1x128 .f32) (b : Fin 128) :
    k0_pay13 x d o (ix2 0 b) = o (ix2 0 b) + ∑ a : Fin 512, d (ix2 a b) * (x (ix2 a b) * Ideal.rsqrt (var 128 fun k : Fin 128 => x (ix2 a k))) := by
  have e6 := pay11_apply x
  unfold k0_pay13 k0_pay9
  generalize k0_pay11 x = z at *
  pointwise
  simp only [e6]

end Cert.Latent

end
-- ==== Proof.LatentRef.lean ====
/- The gradient of the latents' normalisation by the reference, read at an index. -/
module

public import proofs.«01_k».proof.Proof.Gen.Reference31Ideal.Read
public import proofs.«01_k».proof.Proof.Norm
public import Idealize.ShloMosaic.Lib.Pipeline.ValueKit

@[expose] public section

set_option maxRecDepth 16384

noncomputable section

namespace Cert.Latent

open Idealize.ShloMosaic Cert.Reference31Ideal Cert.Reference31Ideal.Read Cert.Norm

/-- A row's query latents. -/
def rowQ (x : Vec Ideal S4608x512 .f32) (r : Fin 4608) (k : Fin 256) : EReal := x (ix2 r ⟨k.val, by omega⟩)
/-- A row's key and value latents. -/
def rowK (x : Vec Ideal S4608x512 .f32) (r : Fin 4608) (k : Fin 128) : EReal := x (ix2 r ⟨256 + k.val, by omega⟩)

/-- The gradient of a normalised row, as the mean against the normalised row writes it. -/
def back {n : ℕ} (d : ℝ) (x u : Fin n → EReal) (i : Fin n) : EReal :=
  Ideal.rsqrt (var d x) * (u i - x i * Ideal.rsqrt (var d x) * Ideal.div (∑ k, u k * (x k * Ideal.rsqrt (var d x))) (d : EReal))

section

variable (x : Vec Ideal S4608x512 .f32)

/-- The query latents. -/
theorem v2_at (r : Fin 4608) (j : Fin 256) : val_main_v2 (F := Ideal) x (ix2 r j) = rowQ x r j := by
  unfold val_main_v2 rowQ
  pointwise
/-- The query latents' mean square and the small number. -/
theorem v11_at (r : Fin 4608) (z : Fin 1) : val_main_v11 (F := Ideal) x (ix2 r z) = var 256 (rowQ x r) := by
  unfold var eps
  rw [← bits_256]
  simp only [← v2_at]
  unfold val_main_v11 val_main_v10 val_main_v9 val_main_v8 val_main_v7 val_main_v6 val_main_v5 val_main_cst val_main_cst_0 val_main_cst_1
  generalize val_main_v2 (F := Ideal) x = y
  pointwise
/-- Its inverse root. -/
theorem v12_at (r : Fin 4608) (z : Fin 1) : val_main_v12 (F := Ideal) x (ix2 r z) = Ideal.rsqrt (var 256 (rowQ x r)) := by
  rw [← v11_at x r z]
  rfl
/-- The normalised query latents. -/
theorem v17_at (r : Fin 4608) (j : Fin 256) : val_main_v17 (F := Ideal) x (ix2 r j)
    = rowQ x r j * Ideal.rsqrt (var 256 (rowQ x r)) := by
  rw [← v2_at, ← v12_at x r 0]
  unfold val_main_v17 val_main_v16
  generalize val_main_v2 (F := Ideal) x = y
  generalize val_main_v12 (F := Ideal) x = z
  pointwise
/-- The slope of the inverse root. -/
theorem v15_at (r : Fin 4608) (z : Fin 1) : val_main_v15 (F := Ideal) x (ix2 r z)
    = ((-(1 / 2) : ℝ) : EReal) * Ideal.div (Ideal.rsqrt (var 256 (rowQ x r))) (var 256 (rowQ x r)) := by
  rw [← bits_neg_half, ← v12_at x r z, ← v11_at x r z]
  unfold val_main_v15 val_main_v14 val_main_v13 val_main_cst_2
  generalize val_main_v12 (F := Ideal) x = y
  generalize val_main_v11 (F := Ideal) x = z
  pointwise

variable (g : Vec Ideal S1x256 .f32) (d : Vec Ideal S4608x256 .bf16)

/-- The gradient of the normalised query latents. -/
theorem v58_at (r : Fin 4608) (j : Fin 256) : val_main_v58 (F := Ideal) g d (ix2 r j) = d (ix2 r j) * g (ix2 0 j) := by
  unfold val_main_v58 val_main_v57 val_main_v0
  pointwise
/-- The gradient of the mean square, to each of the row's query latents. -/
theorem v68_at (r : Fin 4608) (j : Fin 256) : val_main_v68 (F := Ideal) x g d (ix2 r j)
    = Ideal.div ((∑ k : Fin 256, rowQ x r k * (d (ix2 r k) * g (ix2 0 k)))
      * (((-(1 / 2) : ℝ) : EReal) * Ideal.div (Ideal.rsqrt (var 256 (rowQ x r))) (var 256 (rowQ x r)))) ((256 : ℝ) : EReal) := by
  rw [← bits_256, ← v15_at x r 0]
  simp only [← v2_at, ← v58_at g d]
  unfold val_main_v68 val_main_v67 val_main_v66 val_main_v65 val_main_v64 val_main_v61 val_main_v60 val_main_v59 val_main_cst_12 val_main_cst_13 val_main_cst_14
  generalize val_main_v2 (F := Ideal) x = y
  generalize val_main_v58 (F := Ideal) g d = u
  generalize val_main_v15 (F := Ideal) x = z
  pointwise
  simp
/-- The gradient of the query latents. -/
theorem v72_at (r : Fin 4608) (j : Fin 256) : val_main_v72 (F := Ideal) x g d (ix2 r j)
    = back 256 (rowQ x r) (fun k => d (ix2 r k) * g (ix2 0 k)) j := by
  refine Eq.trans ?_ (grad 256 (by norm_num) (rowQ x r) (fun k => d (ix2 r k) * g (ix2 0 k)) j).symm
  simp only
  rw [← v68_at x g d r j, ← v12_at x r 0, ← v58_at, ← v2_at]
  unfold val_main_v72 val_main_v71 val_main_v70 val_main_v69 val_main_v63 val_main_v62
  generalize val_main_v2 (F := Ideal) x = y
  generalize val_main_v58 (F := Ideal) g d = u
  generalize val_main_v68 (F := Ideal) x g d = z
  generalize val_main_v12 (F := Ideal) x = q
  pointwise
/-- The gradient of the query latents' gain. -/
theorem v56_at (j : Fin 256) : val_main_v56 (F := Ideal) x d (ix2 0 j)
    = ∑ r : Fin 4608, d (ix2 r j) * (rowQ x r j * Ideal.rsqrt (var 256 (rowQ x r))) := by
  simp only [← v17_at]
  unfold val_main_v56 val_main_v55 val_main_v54 val_main_v0 val_main_cst_11
  generalize val_main_v17 (F := Ideal) x = y
  pointwise
  simp [mul_comm]

end

section

variable (x : Vec Ideal S4608x512 .f32)

/-- The key and value latents. -/
theorem v3_at (r : Fin 4608) (j : Fin 128) : val_main_v3 (F := Ideal) x (ix2 r j) = rowK x r j := by
  unfold val_main_v3 rowK
  pointwise
/-- The key and value latents' mean square and the small number. -/
theorem v26_at (r : Fin 4608) (z : Fin 1) : val_main_v26 (F := Ideal) x (ix2 r z) = var 128 (rowK x r) := by
  unfold var eps
  rw [← bits_128]
  simp only [← v3_at]
  unfold val_main_v26 val_main_v25 val_main_v24 val_main_v23 val_main_v22 val_main_v21 val_main_v20 val_main_cst_3 val_main_cst_4 val_main_cst_5
  generalize val_main_v3 (F := Ideal) x = y
  pointwise
/-- Its inverse root. -/
theorem v27_at (r : Fin 4608) (z : Fin 1) : val_main_v27 (F := Ideal) x (ix2 r z) = Ideal.rsqrt (var 128 (rowK x r)) := by
  rw [← v26_at x r z]
  rfl
/-- The normalised key and value latents. -/
theorem v32_at (r : Fin 4608) (j : Fin 128) : val_main_v32 (F := Ideal) x (ix2 r j)
    = rowK x r j * Ideal.rsqrt (var 128 (rowK x r)) := by
  rw [← v3_at, ← v27_at x r 0]
  unfold val_main_v32 val_main_v31
  generalize val_main_v3 (F := Ideal) x = y
  generalize val_main_v27 (F := Ideal) x = z
  pointwise
/-- The slope of the inverse root. -/
theorem v30_at (r : Fin 4608) (z : Fin 1) : val_main_v30 (F := Ideal) x (ix2 r z)
    = ((-(1 / 2) : ℝ) : EReal) * Ideal.div (Ideal.rsqrt (var 128 (rowK x r))) (var 128 (rowK x r)) := by
  rw [← bits_neg_half, ← v27_at x r z, ← v26_at x r z]
  unfold val_main_v30 val_main_v29 val_main_v28 val_main_cst_6
  generalize val_main_v27 (F := Ideal) x = y
  generalize val_main_v26 (F := Ideal) x = z
  pointwise

variable (g : Vec Ideal S1x128 .f32) (d : Vec Ideal S4608x128 .bf16)

/-- The gradient of the normalised key and value latents. -/
theorem v39_at (r : Fin 4608) (j : Fin 128) : val_main_v39 (F := Ideal) g d (ix2 r j) = d (ix2 r j) * g (ix2 0 j) := by
  unfold val_main_v39 val_main_v38 val_main_v1
  pointwise
/-- The gradient of the mean square, to each of the row's key and value latents. -/
theorem v49_at (r : Fin 4608) (j : Fin 128) : val_main_v49 (F := Ideal) x g d (ix2 r j)
    = Ideal.div ((∑ k : Fin 128, rowK x r k * (d (ix2 r k) * g (ix2 0 k)))
      * (((-(1 / 2) : ℝ) : EReal) * Ideal.div (Ideal.rsqrt (var 128 (rowK x r))) (var 128 (rowK x r)))) ((128 : ℝ) : EReal) := by
  rw [← bits_128, ← v30_at x r 0]
  simp only [← v3_at, ← v39_at g d]
  unfold val_main_v49 val_main_v48 val_main_v47 val_main_v46 val_main_v45 val_main_v42 val_main_v41 val_main_v40 val_main_cst_8 val_main_cst_9 val_main_cst_10
  generalize val_main_v3 (F := Ideal) x = y
  generalize val_main_v39 (F := Ideal) g d = u
  generalize val_main_v30 (F := Ideal) x = z
  pointwise
  simp
/-- The gradient of the key and value latents. -/
theorem v53_at (r : Fin 4608) (j : Fin 128) : val_main_v53 (F := Ideal) x g d (ix2 r j)
    = back 128 (rowK x r) (fun k => d (ix2 r k) * g (ix2 0 k)) j := by
  refine Eq.trans ?_ (grad 128 (by norm_num) (rowK x r) (fun k => d (ix2 r k) * g (ix2 0 k)) j).symm
  simp only
  rw [← v49_at x g d r j, ← v27_at x r 0, ← v39_at, ← v3_at]
  unfold val_main_v53 val_main_v52 val_main_v51 val_main_v50 val_main_v44 val_main_v43
  generalize val_main_v3 (F := Ideal) x = y
  generalize val_main_v39 (F := Ideal) g d = u
  generalize val_main_v49 (F := Ideal) x g d = z
  generalize val_main_v27 (F := Ideal) x = q
  pointwise
/-- The gradient of the key and value latents' gain. -/
theorem v37_at (j : Fin 128) : val_main_v37 (F := Ideal) x d (ix2 0 j)
    = ∑ r : Fin 4608, d (ix2 r j) * (rowK x r j * Ideal.rsqrt (var 128 (rowK x r))) := by
  simp only [← v32_at]
  unfold val_main_v37 val_main_v36 val_main_v35 val_main_v1 val_main_cst_7
  generalize val_main_v32 (F := Ideal) x = y
  pointwise
  simp [mul_comm]

end

end Cert.Latent

end
-- ==== Proof.LatentGrad.lean ====
/- The gradient of the latents' normalisation: the kernel's arrays are the reference's. -/
module

public import proofs.«01_k».proof.Proof.LatentPoint
public import proofs.«01_k».proof.Proof.LatentRef
public import Idealize.ShloMosaic.Lib.Pipeline.ReadBack

@[expose] public section

set_option maxRecDepth 16384

noncomputable section

namespace Cert.Latent

open Idealize.ShloMosaic Cert.Kernel31Ideal Cert.Kernel31Ideal.Gen Idealize.ShloMosaic.TcCoe
open Cert.Reference31Ideal.Read Cert.Norm

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0]
    ∧ win0_5.index t = ![t.val, 0]
    ∧ win0_6.index t = ![t.val, 0]
    ∧ win0_7.index t = ![0, 0]
    ∧ win0_8.index t = ![0, 0] :=
  (by decide +kernel : ∀ t : Fin grid0.N, _)

/-- The latents, before their normalisation. -/
abbrev xA : Vec Ideal S4608x512 .f32 := m ((c : Thread nD τ).loc main_arg0)
/-- The queries' gain. -/
abbrev gQ : Vec Ideal S1x256 .f32 := m ((c : Thread nD τ).loc main_arg1)
/-- The keys' and values' gain. -/
abbrev gK : Vec Ideal S1x128 .f32 := m ((c : Thread nD τ).loc main_arg2)
/-- The gradient of the normalised query latents. -/
abbrev dQ : Vec Ideal S4608x256 .bf16 := m ((c : Thread nD τ).loc main_arg3)
/-- The gradient of the normalised key and value latents. -/
abbrev dK : Vec Ideal S4608x128 .bf16 := m ((c : Thread nD τ).loc main_arg4)
/-- The gradient of the shared rotary keys. -/
abbrev dR : Vec Ideal S4608x128 .f32 := m ((c : Thread nD τ).loc main_arg5)

/-- The row of the array a row of a block is. -/
def row (t : Fin cfg0.N) (a : Fin 512) : Fin 4608 := ⟨512 * t.val + a.val, by have : t.val < 9 := t.isLt; omega⟩

/-- The query latents of a block's rows. -/
theorem blk_q (t : Fin cfg0.N) (a : Fin 512) (k : Fin 256) :
    View.ld (iblk m c 0 t) (Rect.unit ![0, 0] ![512, 256] inb_S512x512_S512x256_0_0) (ix2 a k) = rowQ (xA m c) (row t a) k := by
  pointwise
  unfold rowQ row
  blk_point [iblk, V, idx t]
/-- The key and value latents of a block's rows. -/
theorem blk_k (t : Fin cfg0.N) (a : Fin 512) (k : Fin 128) :
    View.ld (iblk m c 0 t) (Rect.unit ![0, 256] ![512, 128] inb_S512x512_S512x128_0_256) (ix2 a k) = rowK (xA m c) (row t a) k := by
  pointwise
  unfold rowK row
  blk_point [iblk, V, idx t]
/-- The queries' gain, as a point reads it. -/
theorem blk_gq (t : Fin cfg0.N) (k : Fin 256) : (iblk m c 1 t : Vec Ideal S1x256 .f32) (ix2 0 k) = gQ m c (ix2 0 k) := by
  blk_point [iblk, V, idx t]
/-- The keys' and values' gain, as a point reads it. -/
theorem blk_gk (t : Fin cfg0.N) (k : Fin 128) : (iblk m c 2 t : Vec Ideal S1x128 .f32) (ix2 0 k) = gK m c (ix2 0 k) := by
  blk_point [iblk, V, idx t]
/-- The gradient of the normalised query latents, as a point reads it. -/
theorem blk_dq (t : Fin cfg0.N) (a : Fin 512) (k : Fin 256) :
    (iblk m c 3 t : Vec Ideal S512x256 .bf16) (ix2 a k) = dQ m c (ix2 (row t a) k) := by
  unfold row
  blk_point [iblk, V, idx t]
/-- The gradient of the normalised key and value latents, as a point reads it. -/
theorem blk_dk (t : Fin cfg0.N) (a : Fin 512) (k : Fin 128) :
    (iblk m c 4 t : Vec Ideal S512x128 .bf16) (ix2 a k) = dK m c (ix2 (row t a) k) := by
  unfold row
  blk_point [iblk, V, idx t]
/-- The gradient of the shared rotary keys, as a point reads it. -/
theorem blk_dr (t : Fin cfg0.N) (a : Fin 512) (k : Fin 128) :
    (iblk m c 5 t : Vec Ideal S512x128 .f32) (ix2 a k) = dR m c (ix2 (row t a) k) := by
  unfold row
  blk_point [iblk, V, idx t]

/-- The gradient of the query latents, as a point computes it. -/
theorem point_q (t : Fin cfg0.N) (a : Fin 512) (j : Fin 256) :
    k0_pay7 (View.ld (iblk m c 0 t) (Rect.unit ![0, 0] ![512, 256] inb_S512x512_S512x256_0_0)) (iblk m c 3 t) (iblk m c 1 t) (ix2 a j)
      = val_main_v72 (F := Ideal) (xA m c) (gQ m c) (dQ m c) (ix2 (row t a) j) := by
  rw [pay7_apply, v72_at]
  simp only [blk_q, blk_gq, blk_dq]
  rfl
/-- The gradient of the key and value latents, as a point computes it. -/
theorem point_k (t : Fin cfg0.N) (a : Fin 512) (j : Fin 128) :
    k0_pay12 (View.ld (iblk m c 0 t) (Rect.unit ![0, 256] ![512, 128] inb_S512x512_S512x128_0_256)) (iblk m c 4 t) (iblk m c 2 t) (ix2 a j)
      = val_main_v53 (F := Ideal) (xA m c) (gK m c) (dK m c) (ix2 (row t a) j) := by
  rw [pay12_apply, v53_at]
  simp only [blk_k, blk_gk, blk_dk]
  rfl
/-- The gradient of the shared rotary keys, as a point passes it on. -/
theorem point_r (t : Fin cfg0.N) (a : Fin 512) (j : Fin 128) :
    k0_pay1 (iblk m c 5 t : Vec Ideal S512x128 .f32) (ix2 a j) = dR m c (ix2 (row t a) j) := by
  rw [← blk_dr]
  unfold k0_pay1
  pointwise

/-- The reference's joined gradient: the query latents' columns. -/
theorem ref_q (r : Fin 4608) (j : Fin 512) (h : j.val < 256) :
    val_main_v74 (F := Ideal) (xA m c) (gQ m c) (gK m c) (dQ m c) (dK m c) (dR m c) (ix2 r j)
      = val_main_v72 (F := Ideal) (xA m c) (gQ m c) (dQ m c) (ix2 r ⟨j.val, h⟩) := by
  unfold val_main_v74 val_main_v73
  generalize val_main_v72 (F := Ideal) _ _ _ = p
  generalize val_main_v53 (F := Ideal) _ _ _ = q
  pointwise
  rw [dif_pos h]
/-- The reference's joined gradient: the key and value latents' columns. -/
theorem ref_k (r : Fin 4608) (j : Fin 512) (h : ¬ j.val < 256) (h' : j.val - 256 < 128) :
    val_main_v74 (F := Ideal) (xA m c) (gQ m c) (gK m c) (dQ m c) (dK m c) (dR m c) (ix2 r j)
      = val_main_v53 (F := Ideal) (xA m c) (gK m c) (dK m c) (ix2 r ⟨j.val - 256, h'⟩) := by
  unfold val_main_v74 val_main_v73
  generalize val_main_v72 (F := Ideal) _ _ _ = p
  generalize val_main_v53 (F := Ideal) _ _ _ = q
  pointwise
  rw [dif_neg h, dif_pos h']
/-- The reference's joined gradient: the shared rotary keys' columns. -/
theorem ref_r (r : Fin 4608) (j : Fin 512) (h : ¬ j.val < 256) (h' : ¬ j.val - 256 < 128) :
    val_main_v74 (F := Ideal) (xA m c) (gQ m c) (gK m c) (dQ m c) (dK m c) (dR m c) (ix2 r j)
      = dR m c (ix2 r ⟨j.val - 256 - 128, by omega⟩) := by
  unfold val_main_v74 val_main_v73
  generalize val_main_v72 (F := Ideal) _ _ _ = p
  generalize val_main_v53 (F := Ideal) _ _ _ = q
  pointwise
  rw [dif_neg h, dif_neg h']

/-- The query latents' columns of a point's block. -/
theorem tile_q (t : Fin cfg0.N) (x : S512x256.Idx) (y : S512x512.Idx) (e0 : (y 0).val = (x 0).val) (e1 : (y 1).val = (x 1).val) :
    k0_pay7 (View.ld (iblk m c 0 t) (Rect.unit ![0, 0] ![512, 256] inb_S512x512_S512x256_0_0)) (iblk m c 3 t) (iblk m c 1 t) x
      = val_main_v74 (F := Ideal) (xA m c) (gQ m c) (gK m c) (dQ m c) (dK m c) (dR m c) (ix2 (row t (y 0)) (y 1)) := by
  have hx : (x 1).val < 256 := (x 1).isLt
  rw [← ix2_eta x]
  refine (point_q m c t (x 0) (x 1)).trans (Eq.trans ?_ (ref_q m c (row t (y 0)) (y 1) (by omega)).symm)
  refine congrArg _ (congrArg₂ ix2 (congrArg (row t) (Fin.ext e0.symm)) (Fin.ext ?_))
  show (x 1).val = _
  simp only
  omega

/-- The key and value latents' columns of a point's block. -/
theorem tile_k (t : Fin cfg0.N) (x : S512x128.Idx) (y : S512x512.Idx) (e0 : (y 0).val = (x 0).val) (e1 : (y 1).val = 256 + (x 1).val) :
    k0_pay12 (View.ld (iblk m c 0 t) (Rect.unit ![0, 256] ![512, 128] inb_S512x512_S512x128_0_256)) (iblk m c 4 t) (iblk m c 2 t) x
      = val_main_v74 (F := Ideal) (xA m c) (gQ m c) (gK m c) (dQ m c) (dK m c) (dR m c) (ix2 (row t (y 0)) (y 1)) := by
  have hx : (x 1).val < 128 := (x 1).isLt
  rw [← ix2_eta x]
  refine (point_k m c t (x 0) (x 1)).trans (Eq.trans ?_ (ref_k m c (row t (y 0)) (y 1) (by omega) (by omega)).symm)
  refine congrArg _ (congrArg₂ ix2 (congrArg (row t) (Fin.ext e0.symm)) (Fin.ext ?_))
  show (x 1).val = _
  simp only
  omega

/-- The shared rotary keys' columns of a point's block. -/
theorem tile_r (t : Fin cfg0.N) (x : S512x128.Idx) (y : S512x512.Idx) (e0 : (y 0).val = (x 0).val) (e1 : (y 1).val = 384 + (x 1).val) :
    k0_pay1 (iblk m c 5 t : Vec Ideal S512x128 .f32) x
      = val_main_v74 (F := Ideal) (xA m c) (gQ m c) (gK m c) (dQ m c) (dK m c) (dR m c) (ix2 (row t (y 0)) (y 1)) := by
  have hx : (x 1).val < 128 := (x 1).isLt
  rw [← ix2_eta x]
  refine (point_r m c t (x 0) (x 1)).trans (Eq.trans ?_ (ref_r m c (row t (y 0)) (y 1) (by omega) (by omega)).symm)
  refine congrArg _ (congrArg₂ ix2 (congrArg (row t) (Fin.ext e0.symm)) (Fin.ext ?_))
  show (x 1).val = _
  simp only
  omega

/-- What a point leaves in the block of the latents' gradient. -/
theorem outs_lat (t : Fin cfg0.N) (y : S512x512.Idx) :
    (outsAt0 m c t.val t.isLt).1 y = val_main_v74 (F := Ideal) (xA m c) (gQ m c) (gK m c) (dQ m c) (dK m c) (dR m c)
      (ix2 (row t (y 0)) (y 1)) := by
  by_cases h : t.val % 9 = 0
  · rw [outsAt0_A m c t h]
    frame_out
    canon_tiles x h using (View.cover_of_tiledBy _ ![512, 128] (by sl_kernel_rfl) _)
    · exact tile_r m c t x y h0 h1
    · exact tile_k m c t x y h0 h1
    · exact tile_q m c t x y h0 h1
  · rw [outsAt0_B m c t h]
    frame_out
    canon_tiles x h using (View.cover_of_tiledBy _ ![512, 128] (by sl_kernel_rfl) _)
    · exact tile_r m c t x y h0 h1
    · exact tile_k m c t x y h0 h1
    · exact tile_q m c t x y h0 h1

/-- The latents' gradient. -/
theorem final_lat : (dats m 0 c).arrAt 6 cfg0.N
    = val_main_v74 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  blk_simp
  rw [after0_6]
  refine (outs_lat m c t y).trans (congrArg _ ?_)
  unfold row
  symm
  blk_ext [idx t]

/-- What one block of rows adds to the queries' gain's gradient. -/
theorem add_gq (t : Fin cfg0.N) (o : Vec Ideal S1x256 .f32) (y : S1x256.Idx) :
    k0_pay8 (View.ld (iblk m c 0 t) (Rect.unit ![0, 0] ![512, 256] inb_S512x512_S512x256_0_0)) (iblk m c 3 t) o y = o y + ∑ a : Fin 512, dQ m c (ix2 (row t a) (y 1))
      * (rowQ (xA m c) (row t a) (y 1) * Ideal.rsqrt (var 256 (rowQ (xA m c) (row t a)))) := by
  obtain ⟨p, q, rfl⟩ : ∃ p q, y = ix2 p q := ⟨_, _, (ix2_eta y).symm⟩
  obtain rfl : p = 0 := Subsingleton.elim _ _
  rw [pay8_apply]
  simp only [blk_q, blk_dq]
  rfl
/-- What the first point leaves in the block of the queries' gain's gradient. -/
theorem first_gq (t : Fin cfg0.N) (h : t.val % 9 = 0) (y : S1x256.Idx) :
    (outsAt0 m c t.val t.isLt).2.1 y = 0 + ∑ a : Fin 512, dQ m c (ix2 (row t a) (y 1))
      * (rowQ (xA m c) (row t a) (y 1) * Ideal.rsqrt (var 256 (rowQ (xA m c) (row t a)))) := by
  rw [outsAt0_A m c t h]
  frame_open
  simp (disch := decide) only [↓ View.readCov_skip, ↓ View.readCov_cons_toLoadRect, ↓ View.readCov_fill]
  frame_out
  refine (add_gq m c t _ y).trans (congrArg (· + _) ?_)
  unfold k0_pay2
  pointwise
/-- What a later point leaves there. -/
theorem next_gq (t : Fin cfg0.N) (h : ¬ t.val % 9 = 0) (y : S1x256.Idx) :
    (outsAt0 m c t.val t.isLt).2.1 y = (outsAt0 m c (t.val - 1) (by omega)).2.1 y + ∑ a : Fin 512, dQ m c (ix2 (row t a) (y 1))
      * (rowQ (xA m c) (row t a) (y 1) * Ideal.rsqrt (var 256 (rowQ (xA m c) (row t a)))) := by
  rw [outsAt0_B m c t h]
  frame_out
  exact add_gq m c t _ y

/-- The gradient of the queries' gain. -/
theorem final_gq : (dats m 0 c).arrAt 7 cfg0.N
    = val_main_v56 (F := Ideal) (m ((c : Thread nD τ).loc main_arg0)) (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.1) 9 (fun _ => 0) _
    (fun t h j => first_gq m c t h j) (fun t h j => next_gq m c t h j) t ((flush0_7 t).mp hf) _, zero_add]
  have ht : t.val < 9 := t.isLt
  have e : (win0_7.blk t).view.emb y = ix2 (0 : Fin 1) (y 1 : Fin 256) := by
    blk_ext [idx t]
  rw [e]
  refine Eq.trans ?_ (v56_at _ _ _).symm
  refine Fin.sum_mul_add_congr fun s k hl => ?_
  have h9 : 9 * (t.val / 9) + s.val < 9 := by omega
  have e : row ⟨9 * (t.val / 9) + s.val, h9⟩ k = ⟨s.val * 512 + k.val, by omega⟩ := Fin.ext (by unfold row; simp only; omega)
  rw [e]

/-- What one block of rows adds to the keys' and values' gain's gradient. -/
theorem add_gk (t : Fin cfg0.N) (o : Vec Ideal S1x128 .f32) (y : S1x128.Idx) :
    k0_pay13 (View.ld (iblk m c 0 t) (Rect.unit ![0, 256] ![512, 128] inb_S512x512_S512x128_0_256)) (iblk m c 4 t) o y = o y + ∑ a : Fin 512, dK m c (ix2 (row t a) (y 1))
      * (rowK (xA m c) (row t a) (y 1) * Ideal.rsqrt (var 128 (rowK (xA m c) (row t a)))) := by
  obtain ⟨p, q, rfl⟩ : ∃ p q, y = ix2 p q := ⟨_, _, (ix2_eta y).symm⟩
  obtain rfl : p = 0 := Subsingleton.elim _ _
  rw [pay13_apply]
  simp only [blk_k, blk_dk]
  rfl
/-- What the first point leaves in the block of the keys' and values' gain's gradient. -/
theorem first_gk (t : Fin cfg0.N) (h : t.val % 9 = 0) (y : S1x128.Idx) :
    (outsAt0 m c t.val t.isLt).2.2 y = 0 + ∑ a : Fin 512, dK m c (ix2 (row t a) (y 1))
      * (rowK (xA m c) (row t a) (y 1) * Ideal.rsqrt (var 128 (rowK (xA m c) (row t a)))) := by
  rw [outsAt0_A m c t h]
  frame_open
  simp (disch := decide) only [↓ View.readCov_skip, ↓ View.readCov_cons_toLoadRect, ↓ View.readCov_fill]
  frame_out
  refine (add_gk m c t _ y).trans (congrArg (· + _) ?_)
  unfold k0_pay3
  pointwise
/-- What a later point leaves there. -/
theorem next_gk (t : Fin cfg0.N) (h : ¬ t.val % 9 = 0) (y : S1x128.Idx) :
    (outsAt0 m c t.val t.isLt).2.2 y = (outsAt0 m c (t.val - 1) (by omega)).2.2 y + ∑ a : Fin 512, dK m c (ix2 (row t a) (y 1))
      * (rowK (xA m c) (row t a) (y 1) * Ideal.rsqrt (var 128 (rowK (xA m c) (row t a)))) := by
  rw [outsAt0_B m c t h]
  frame_out
  exact add_gk m c t _ y

/-- The gradient of the keys' and values' gain. -/
theorem final_gk : (dats m 0 c).arrAt 8 cfg0.N
    = val_main_v37 (F := Ideal) (m ((c : Thread nD τ).loc main_arg0)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2) 9 (fun _ => 0) _
    (fun t h j => first_gk m c t h j) (fun t h j => next_gk m c t h j) t ((flush0_8 t).mp hf) _, zero_add]
  have ht : t.val < 9 := t.isLt
  have e : (win0_8.blk t).view.emb y = ix2 (0 : Fin 1) (y 1 : Fin 128) := by
    blk_ext [idx t]
  rw [e]
  refine Eq.trans ?_ (v37_at _ _ _).symm
  refine Fin.sum_mul_add_congr fun s k hl => ?_
  have h9 : 9 * (t.val / 9) + s.val < 9 := by omega
  have e : row ⟨9 * (t.val / 9) + s.val, h9⟩ k = ⟨s.val * 512 + k.val, by omega⟩ := Fin.ext (by unfold row; simp only; omega)
  rw [e]

end Cert.Latent

end
-- ==== Proof.ConvForwardRef.lean ====
/- The gated short convolution by the reference: its stages, row by row and channel by channel. -/
module

public import proofs.«01_k».proof.Proof.ConvStreams
public import proofs.«01_k».proof.Proof.Gen.Reference32Ideal.Read

@[expose] public section

set_option maxRecDepth 16384

noncomputable section

namespace Cert.ConvForward

open Idealize.ShloMosaic Cert.Reference32Ideal Cert.Reference32Ideal.Read Cert.Conv

variable (x : Proj) (w : Taps)

/-- The gate. -/
theorem v4_at (r : Fin 4608) (ch : Fin 1024) : val_main_v4 (F := Ideal) x (ix2 r ch) = x (ix2 r (col 0 ch)) := by
  unfold val_main_v4 val_main_v3 val_main_v2 val_main_v1 val_main_v0
  pointwise
  refine congrArg x (congrArg₂ ix2 (Fin.ext ?_) (Fin.ext ?_))
  · show _ = r.val; simp
  · show _ = 768 * (ch.val / 256) + 256 * 0 + ch.val % 256
    simp; omega
/-- The second gate. -/
theorem v7_at (r : Fin 4608) (ch : Fin 1024) : val_main_v7 (F := Ideal) x (ix2 r ch) = x (ix2 r (col 1 ch)) := by
  unfold val_main_v7 val_main_v6 val_main_v5 val_main_v1 val_main_v0
  pointwise
  refine congrArg x (congrArg₂ ix2 (Fin.ext ?_) (Fin.ext ?_))
  · show _ = r.val; simp
  · show _ = 768 * (ch.val / 256) + 256 * 1 + ch.val % 256
    simp; omega
/-- The values. -/
theorem v10_at (r : Fin 4608) (ch : Fin 1024) : val_main_v10 (F := Ideal) x (ix2 r ch) = x (ix2 r (col 2 ch)) := by
  unfold val_main_v10 val_main_v9 val_main_v8 val_main_v1 val_main_v0
  pointwise
  refine congrArg x (congrArg₂ ix2 (Fin.ext ?_) (Fin.ext ?_))
  · show _ = r.val; simp
  · show _ = 768 * (ch.val / 256) + 256 * 2 + ch.val % 256
    simp; omega
/-- What is convolved. -/
theorem v11_at (r : Fin 4608) (ch : Fin 1024) : val_main_v11 (F := Ideal) x (ix2 r ch) = pr x ch r := by
  rw [val_main_v11_apply, v7_at, v10_at]
  rfl
/-- The latent rows of what is convolved. -/
theorem v13_at (b : Fin 2) (s : Fin 2048) (ch : Fin 1024) :
    val_main_v13 (F := Ideal) x (ix3 b s ch) = pr x ch (rowL b s) := by
  rw [← v11_at]
  unfold val_main_v13 val_main_v12
  generalize val_main_v11 (F := Ideal) x = z
  pointwise
  refine congrArg z (congrArg₂ ix2 (Fin.ext ?_) (Fin.ext ?_))
  · show _ = 2048 * b.val + s.val; simp; omega
  · show _ = ch.val; simp
/-- The context's. -/
theorem v15_at (b : Fin 2) (s : Fin 256) (ch : Fin 1024) :
    val_main_v15 (F := Ideal) x (ix3 b s ch) = pr x ch (rowC b s) := by
  rw [← v11_at]
  unfold val_main_v15 val_main_v14
  generalize val_main_v11 (F := Ideal) x = z
  pointwise
  refine congrArg z (congrArg₂ ix2 (Fin.ext ?_) (Fin.ext ?_))
  · show _ = 4096 + 256 * b.val + s.val; simp; omega
  · show _ = ch.val; simp
/-- The row before, in a latent stream. -/
theorem v19_at (b : Fin 2) (s : Fin 2048) (ch : Fin 1024) :
    val_main_v19 (F := Ideal) x (ix3 b s ch) = prv (pr x ch) (rowL b s) := by
  unfold val_main_v19 val_main_v18 val_main_v17 val_main_cst
  have e := v13_at x
  generalize val_main_v13 (F := Ideal) x = z at *
  pointwise
  by_cases h : s.val < 1
  · rw [dif_pos h, prv_first _ _ ((first_L b s).mpr (by omega))]
  · rw [dif_neg h, prv_next _ _ (rowL b ⟨s.val - 1, by omega⟩) (fun k => h (by have := (first_L b s).mp k; omega))
      (by unfold rowL; simp only; omega)]
    exact e b ⟨s.val - 1, by omega⟩ ch
/-- The row after, in a latent stream. -/
theorem v21_at (b : Fin 2) (s : Fin 2048) (ch : Fin 1024) :
    val_main_v21 (F := Ideal) x (ix3 b s ch) = nxt (pr x ch) (rowL b s) := by
  unfold val_main_v21 val_main_v20 val_main_v17 val_main_cst
  have e := v13_at x
  generalize val_main_v13 (F := Ideal) x = z at *
  pointwise
  by_cases h : s.val < 2047
  · rw [dif_pos h, nxt_next _ _ (rowL b ⟨s.val + 1, by omega⟩) (fun k => by have := (last_L b s).mp k; omega)
      (by unfold rowL; simp only; omega)]
    refine Eq.trans (congrArg z ?_) (e b ⟨s.val + 1, by omega⟩ ch)
    exact congrArg (fun q => ix3 b q ch) (Fin.ext (Nat.add_comm _ _))
  · rw [dif_neg h, nxt_last _ _ ((last_L b s).mpr (by omega))]
/-- A tap, on every row. -/
theorem v25_at (b : Fin 2) (s : Fin 2048) (ch : Fin 1024) : val_main_v25 (F := Ideal) w (ix3 b s ch) = w (ix2 0 ch) := by
  unfold val_main_v25 val_main_v24 val_main_v23 val_main_v22
  pointwise
/-- A tap, on every row. -/
theorem v30_at (b : Fin 2) (s : Fin 2048) (ch : Fin 1024) : val_main_v30 (F := Ideal) w (ix3 b s ch) = w (ix2 1 ch) := by
  unfold val_main_v30 val_main_v29 val_main_v28 val_main_v27
  pointwise
/-- A tap, on every row. -/
theorem v36_at (b : Fin 2) (s : Fin 2048) (ch : Fin 1024) : val_main_v36 (F := Ideal) w (ix3 b s ch) = w (ix2 2 ch) := by
  unfold val_main_v36 val_main_v35 val_main_v34 val_main_v33
  pointwise
/-- The convolution of a latent stream. -/
theorem v38_at (b : Fin 2) (s : Fin 2048) (ch : Fin 1024) :
    val_main_v38 (F := Ideal) x w (ix3 b s ch) = conv x w ch (rowL b s) := by
  rw [val_main_v38_apply, val_main_v32_apply, val_main_v26_apply, val_main_v31_apply, val_main_v37_apply, v19_at, v13_at, v21_at, v25_at,
    v30_at, v36_at]
  rfl
/-- The row before, in a context stream. -/
theorem v43_at (b : Fin 2) (s : Fin 256) (ch : Fin 1024) :
    val_main_v43 (F := Ideal) x (ix3 b s ch) = prv (pr x ch) (rowC b s) := by
  unfold val_main_v43 val_main_v42 val_main_v41 val_main_cst_0
  have e := v15_at x
  generalize val_main_v15 (F := Ideal) x = z at *
  pointwise
  by_cases h : s.val < 1
  · rw [dif_pos h, prv_first _ _ ((first_C b s).mpr (by omega))]
  · rw [dif_neg h, prv_next _ _ (rowC b ⟨s.val - 1, by omega⟩) (fun k => h (by have := (first_C b s).mp k; omega))
      (by unfold rowC; simp only; omega)]
    exact e b ⟨s.val - 1, by omega⟩ ch
/-- The row after, in a context stream. -/
theorem v45_at (b : Fin 2) (s : Fin 256) (ch : Fin 1024) :
    val_main_v45 (F := Ideal) x (ix3 b s ch) = nxt (pr x ch) (rowC b s) := by
  unfold val_main_v45 val_main_v44 val_main_v41 val_main_cst_0
  have e := v15_at x
  generalize val_main_v15 (F := Ideal) x = z at *
  pointwise
  by_cases h : s.val < 255
  · rw [dif_pos h, nxt_next _ _ (rowC b ⟨s.val + 1, by omega⟩) (fun k => by have := (last_C b s).mp k; omega)
      (by unfold rowC; simp only; omega)]
    refine Eq.trans (congrArg z ?_) (e b ⟨s.val + 1, by omega⟩ ch)
    exact congrArg (fun q => ix3 b q ch) (Fin.ext (Nat.add_comm _ _))
  · rw [dif_neg h, nxt_last _ _ ((last_C b s).mpr (by omega))]
/-- A tap, on every row. -/
theorem v49_at (b : Fin 2) (s : Fin 256) (ch : Fin 1024) : val_main_v49 (F := Ideal) w (ix3 b s ch) = w (ix2 0 ch) := by
  unfold val_main_v49 val_main_v48 val_main_v47 val_main_v46
  pointwise
/-- A tap, on every row. -/
theorem v54_at (b : Fin 2) (s : Fin 256) (ch : Fin 1024) : val_main_v54 (F := Ideal) w (ix3 b s ch) = w (ix2 1 ch) := by
  unfold val_main_v54 val_main_v53 val_main_v52 val_main_v51
  pointwise
/-- A tap, on every row. -/
theorem v60_at (b : Fin 2) (s : Fin 256) (ch : Fin 1024) : val_main_v60 (F := Ideal) w (ix3 b s ch) = w (ix2 2 ch) := by
  unfold val_main_v60 val_main_v59 val_main_v58 val_main_v57
  pointwise
/-- The convolution of a context stream. -/
theorem v62_at (b : Fin 2) (s : Fin 256) (ch : Fin 1024) :
    val_main_v62 (F := Ideal) x w (ix3 b s ch) = conv x w ch (rowC b s) := by
  rw [val_main_v62_apply, val_main_v56_apply, val_main_v50_apply, val_main_v55_apply, val_main_v61_apply, v43_at, v15_at, v45_at, v49_at,
    v54_at, v60_at]
  rfl
/-- The convolution. -/
theorem v64_at (r : Fin 4608) (ch : Fin 1024) : val_main_v64 (F := Ideal) x w (ix2 r ch) = conv x w ch r := by
  unfold val_main_v64 val_main_v39 val_main_v63
  have e := v38_at x w
  have f := v62_at x w
  generalize val_main_v38 (F := Ideal) x w = z at *
  generalize val_main_v62 (F := Ideal) x w = y at *
  pointwise
  by_cases h : r.val < 4096
  · rw [dif_pos h]
    exact (e _ _ _).trans (congrArg _ (Fin.ext (by unfold rowL; simp only; omega)))
  · rw [dif_neg h]
    exact (f _ _ _).trans (congrArg _ (Fin.ext (by unfold rowC; simp only; omega)))
/-- The gate times the convolution. -/
theorem v66_at (r : Fin 4608) (ch : Fin 1024) :
    val_main_v66 (F := Ideal) x w (ix2 r ch) = x (ix2 r (col 0 ch)) * conv x w ch r := by
  rw [← v4_at x, ← v64_at]
  unfold val_main_v66 val_main_v65
  generalize val_main_v4 (F := Ideal) x = y
  generalize val_main_v64 (F := Ideal) x w = z
  pointwise

end Cert.ConvForward

end
-- ==== Proof.ConvForward.lean ====
/- The gated short convolution: the kernel's array is the reference's. -/
module

public import proofs.«01_k».proof.Proof.Gen.Kernel32Ideal.Value
public import proofs.«01_k».proof.Proof.ConvForwardRef
public import Idealize.ShloMosaic.Lib.Pipeline.ReadBack

@[expose] public section

set_option maxRecDepth 16384

noncomputable section

namespace Cert.ConvForward

open Idealize.ShloMosaic Cert.Kernel32Ideal Cert.Kernel32Ideal.Gen Idealize.ShloMosaic.TcCoe Cert.Conv
open Cert.Reference32Ideal.Read

/-- The remainder as a grid point computes it, moved into the divisor's sign. -/
def rem (v n : BitVec 32) : BitVec 32 :=
  Scalar.select
    (Scalar.andi (Scalar.xori (Scalar.cmpi .slt (Scalar.remsi v (Scalar.select (Scalar.cmpi .eq n 0#32) 1#32 n)) 0#32)
        (Scalar.cmpi .slt (Scalar.select (Scalar.cmpi .eq n 0#32) 1#32 n) 0#32))
      (Scalar.cmpi .ne (Scalar.remsi v (Scalar.select (Scalar.cmpi .eq n 0#32) 1#32 n)) 0#32))
    (Scalar.addi (Scalar.remsi v (Scalar.select (Scalar.cmpi .eq n 0#32) 1#32 n)) (Scalar.select (Scalar.cmpi .eq n 0#32) 1#32 n))
    (Scalar.remsi v (Scalar.select (Scalar.cmpi .eq n 0#32) 1#32 n))

/-- The bit by which a grid point knows that its block begins a stream. -/
def firstBit (i : grid0.Coords) : BitVec 1 :=
  Scalar.select (Scalar.cmpi .slt (Scalar.muli (BitVec.ofNat 32 (i 1).val) 256#32) 4096#32)
    (Scalar.cmpi .eq (rem (Scalar.muli (BitVec.ofNat 32 (i 1).val) 256#32) 2048#32) 0#32)
    (Scalar.cmpi .eq (rem (Scalar.subi (Scalar.muli (BitVec.ofNat 32 (i 1).val) 256#32) 4096#32) 256#32) 0#32)
/-- The bit by which a grid point knows that its block ends a stream. -/
def lastBit (i : grid0.Coords) : BitVec 1 :=
  Scalar.select (Scalar.cmpi .slt (Scalar.muli (BitVec.ofNat 32 (i 1).val) 256#32) 4096#32)
    (Scalar.cmpi .eq (rem (Scalar.addi (Scalar.muli (BitVec.ofNat 32 (i 1).val) 256#32) 256#32) 2048#32) 0#32)
    (Scalar.cmpi .eq (rem (Scalar.subi (Scalar.addi (Scalar.muli (BitVec.ofNat 32 (i 1).val) 256#32) 256#32) 4096#32) 256#32) 0#32)
/-- The first bit is set exactly where the block's first row is the first of its stream. -/
theorem firstBit_iff : ∀ t : Fin cfg0.N, firstBit (grid0.coords t) = 1#1 ↔ First (256 * (t.val % 18)) :=
  (by decide +kernel : ∀ t : Fin grid0.N, _)
/-- The last bit is set exactly where the block's last row is the last of its stream. -/
theorem lastBit_iff : ∀ t : Fin cfg0.N, lastBit (grid0.coords t) = 1#1 ↔ Last (256 * (t.val % 18) + 255) :=
  (by decide +kernel : ∀ t : Fin grid0.N, _)

/-- The windows' block indices. -/
theorem idx : ∀ t : Fin cfg0.N, win0_0.index t = ![t.val % 18, t.val / 18]
    ∧ win0_1.index t = ![t.val % 18 * 16 - 1, t.val / 18]
    ∧ win0_2.index t = ![min ((t.val % 18 + 1) * 16) 287, t.val / 18]
    ∧ win0_3.index t = ![0, t.val / 18]
    ∧ win0_4.index t = ![t.val % 18, t.val / 18] :=
  (by decide +kernel : ∀ t : Fin grid0.N, _)

/-- A choice between two values by a bit. -/
theorem select_bit {α : Type} (b : BitVec 1) (x y : α) : Scalar.select b x y = if b = 1#1 then x else y := rfl
/-- The bit that marks the first row of a block. -/
theorem bit_first : ∀ a : Fin 256, IntOp.cmpi .eq (BitVec.ofNat 32 a.val) 0#32 = 1#1 ↔ a.val = 0 := by decide +kernel
/-- The bit that marks the last row of a block. -/
theorem bit_last : ∀ a : Fin 256, IntOp.cmpi .eq (BitVec.ofNat 32 a.val) 255#32 = 1#1 ↔ a.val = 255 := by decide +kernel

/-- The value of the row before an index of a block: in the block, or the row in front of it. -/
def above (p : Fin 256 → EReal) (e : EReal) (a : Fin 256) : EReal := if a.val = 0 then e else p ⟨a.val - 1, by omega⟩
/-- The value of the row after an index of a block: in the block, or the row behind it, or zero. -/
def below (l : BitVec 1) (p : Fin 256 → EReal) (e : EReal) (a : Fin 256) : EReal :=
  if h : a.val = 255 then (if l = 1#1 then 0 else e) else p ⟨a.val + 1, by omega⟩

/-- The stored block. -/
theorem pay1_apply (l : BitVec 1) (g p : FVec Ideal S256x256 .f32) (e f : FVec Ideal S1x256 .f32) (w : Vec Ideal S3x256 .f32)
    (a b : Fin 256) : k0_pay1 l g p e f w (ix2 a b) = g (ix2 a b) * (w (ix2 0 b) * above (fun s => p (ix2 s b)) (f (ix2 0 b)) a
      + w (ix2 1 b) * p (ix2 a b) + w (ix2 2 b) * below l (fun s => p (ix2 s b)) (e (ix2 0 b)) a) := by
  unfold k0_pay1 above below
  pointwise
  simp only [select_bit]
  refine congrArg₂ (fun u v => g (ix2 a b) * (w (ix2 0 b) * u + w (ix2 1 b) * p (ix2 a b) + w (ix2 2 b) * v)) ?_ ?_
  · by_cases h : a.val = 0
    · rw [if_pos ((bit_first a).mpr h), if_pos h]
    · rw [if_neg (fun e => h ((bit_first a).mp e)), if_neg h]
      refine congrArg p (congrArg (fun r => ix2 r b) (Fin.ext ?_))
      show (a.val + 256 - 1) % 256 = a.val - 1
      omega
  · by_cases h : a.val = 255
    · rw [if_pos ((bit_last a).mpr h), dif_pos h]
    · rw [if_neg (fun e => h ((bit_last a).mp e)), dif_neg h]
      refine congrArg p (congrArg (fun r => ix2 r b) (Fin.ext ?_))
      show (a.val + 256 - 255) % 256 = a.val + 1
      omega
/-- The gate, widened. -/
theorem pay2_apply (x : Vec Ideal S256x256 .bf16) (j : S256x256.Idx) : k0_pay2 x j = x j := by
  unfold k0_pay2
  pointwise
/-- What is convolved. -/
theorem pay3_apply (x y : Vec Ideal S256x256 .bf16) (j : S256x256.Idx) : k0_pay3 x y j = x j * y j := by
  unfold k0_pay3
  pointwise
/-- The product on the row behind a block. -/
theorem pay4_apply (x y : Vec Ideal S1x256 .bf16) (j : S1x256.Idx) : k0_pay4 x y j = x j * y j := by
  unfold k0_pay4
  pointwise
/-- The product on the row before a block, or zero. -/
theorem pay5_apply (f : BitVec 1) (x y : Vec Ideal S1x256 .bf16) (j : S1x256.Idx) :
    k0_pay5 f x y j = if f = 1#1 then 0 else x j * y j := by
  unfold k0_pay5
  pointwise
  exact select_bit _ _ _

/-- The rows before a block's rows. -/
theorem above_rows (n : ℕ) (f : BitVec 1) (hf : f = 1#1 ↔ First (256 * n)) (g : Fin 4608 → EReal) (p : Fin 256 → EReal) (z : EReal)
    (hp : ∀ (a : Fin 256) (r : Fin 4608), r.val = 256 * n + a.val → p a = g r)
    (hz : ∀ r : Fin 4608, n ≠ 0 → r.val + 1 = 256 * n → z = g r)
    (a : Fin 256) (r : Fin 4608) (hr : r.val = 256 * n + a.val) : above p (if f = 1#1 then 0 else z) a = prv g r := by
  unfold above prv
  by_cases h : a.val = 0
  · have hr' : r.val = 256 * n := by omega
    simp only [if_pos h, hr']
    by_cases k : f = 1#1
    · rw [if_pos k, if_pos (hf.mp k)]
    · have k' : ¬ First (256 * n) := fun e => k (hf.mpr e)
      have h0 : n ≠ 0 := fun e => k' (by unfold First; omega)
      rw [if_neg k, if_neg k']
      exact hz _ h0 (by show 256 * n - 1 + 1 = _; omega)
  · rw [if_neg h, if_neg (by unfold First; omega)]
    exact hp _ _ (by show r.val - 1 = 256 * n + (a.val - 1); omega)
/-- The rows after a block's rows. -/
theorem below_rows (n : ℕ) (l : BitVec 1) (hl : l = 1#1 ↔ Last (256 * n + 255)) (g : Fin 4608 → EReal) (p : Fin 256 → EReal)
    (e : EReal) (hp : ∀ (a : Fin 256) (r : Fin 4608), r.val = 256 * n + a.val → p a = g r)
    (he : ∀ r : Fin 4608, n ≠ 17 → r.val = 256 * n + 256 → e = g r)
    (a : Fin 256) (r : Fin 4608) (hr : r.val = 256 * n + a.val) : below l p e a = nxt g r := by
  unfold below nxt
  by_cases h : a.val = 255
  · have hr' : r.val = 256 * n + 255 := by omega
    rw [dif_pos h]
    by_cases k : l = 1#1
    · rw [if_pos k, dif_pos (by rw [hr']; exact hl.mp k)]
    · have k' : ¬ Last r.val := fun e => k (hl.mpr (by rw [← hr']; exact e))
      have h0 : n ≠ 17 := fun e => k' (by unfold Last; omega)
      rw [if_neg k, dif_neg k']
      exact he _ h0 (by show r.val + 1 = _; omega)
  · rw [dif_neg h, dif_neg (by unfold Last; omega)]
    exact hp _ _ (by show r.val + 1 = 256 * n + (a.val + 1); omega)

variable (m : (ℓ : Loc nD τ sig) → Buf (Elt Ideal) ℓ) (c : Dev nD)

/-- The projection's array of the claim. -/
abbrev xA : Proj := m ((c : Thread nD τ).loc main_arg0)
/-- The taps of the claim. -/
abbrev wA : Taps := m ((c : Thread nD τ).loc main_arg1)

/-- The projection's array as a block of it is read. -/
theorem blk0 (t : Fin cfg0.N) (a : Fin 256) (b : Fin 768) (r : Fin 4608) (q : Fin 3072)
    (hr : r.val = 256 * (t.val % 18) + a.val) (hq : q.val = 768 * (t.val / 18) + b.val) :
    iblk m c 0 t (ix2 a b) = xA m c (ix2 r q) := by
  blk_ext [iblk, V, idx t]
/-- The rows before a block of the projection's array. -/
theorem blk1 (t : Fin cfg0.N) (b : Fin 768) (r : Fin 4608) (q : Fin 3072) (h0 : t.val % 18 ≠ 0)
    (hr : r.val + 1 = 256 * (t.val % 18)) (hq : q.val = 768 * (t.val / 18) + b.val) :
    iblk m c 1 t (ix2 15 b) = xA m c (ix2 r q) := by
  blk_ext [iblk, V, idx t]
/-- The rows after a block of the projection's array. -/
theorem blk2 (t : Fin cfg0.N) (b : Fin 768) (r : Fin 4608) (q : Fin 3072) (h0 : t.val % 18 ≠ 17)
    (hr : r.val = 256 * (t.val % 18) + 256) (hq : q.val = 768 * (t.val / 18) + b.val) :
    iblk m c 2 t (ix2 0 b) = xA m c (ix2 r q) := by
  blk_ext [iblk, V, idx t]
/-- The taps as a block of them is read. -/
theorem blk3 (t : Fin cfg0.N) (k : Fin 3) (b : Fin 256) (q : Fin 1024) (hq : q.val = 256 * (t.val / 18) + b.val) :
    iblk m c 3 t (ix2 k b) = wA m c (ix2 k q) := by
  blk_ext [iblk, V, idx t]

/-- What a grid point stores, at the rows of the arrays it stands for. -/
theorem point (t : Fin cfg0.N) (a b : Fin 256) (r : Fin 4608) (ch : Fin 1024) (hr : r.val = 256 * (t.val % 18) + a.val)
    (hc : ch.val = 256 * (t.val / 18) + b.val) (f l : BitVec 1) (hf : f = 1#1 ↔ First (256 * (t.val % 18)))
    (hl : l = 1#1 ↔ Last (256 * (t.val % 18) + 255)) :
    k0_pay1 l (k0_pay2 (View.ld (iblk m c 0 t) (Rect.unit ![0, 0] ![256, 256] inb_S256x768_S256x256_0_0)))
      (k0_pay3 (View.ld (iblk m c 0 t) (Rect.unit ![0, 256] ![256, 256] inb_S256x768_S256x256_0_256))
        (View.ld (iblk m c 0 t) (Rect.unit ![0, 512] ![256, 256] inb_S256x768_S256x256_0_512)))
      (k0_pay4 (View.ld (iblk m c 2 t) (Rect.unit ![0, 256] ![1, 256] inb_S16x768_S1x256_0_256))
        (View.ld (iblk m c 2 t) (Rect.unit ![0, 512] ![1, 256] inb_S16x768_S1x256_0_512)))
      (k0_pay5 f (View.ld (iblk m c 1 t) (Rect.unit ![15, 256] ![1, 256] inb_S16x768_S1x256_15_256))
        (View.ld (iblk m c 1 t) (Rect.unit ![15, 512] ![1, 256] inb_S16x768_S1x256_15_512))) (iblk m c 3 t) (ix2 a b)
      = xA m c (ix2 r (col 0 ch)) * conv (xA m c) (wA m c) ch r := by
  have hp : ∀ (a : Fin 256) (r : Fin 4608), r.val = 256 * (t.val % 18) + a.val →
      k0_pay3 (View.ld (iblk m c 0 t) (Rect.unit ![0, 256] ![256, 256] inb_S256x768_S256x256_0_256))
        (View.ld (iblk m c 0 t) (Rect.unit ![0, 512] ![256, 256] inb_S256x768_S256x256_0_512)) (ix2 a b) = pr (xA m c) ch r := by
    intro a r hr
    rw [pay3_apply]
    pointwise
    unfold pr
    rw [blk0 m c t a _ r (col 1 ch) hr (by show 768 * (ch.val / 256) + 256 * 1 + ch.val % 256 = _ + (256 + b.val); omega),
      blk0 m c t a _ r (col 2 ch) hr (by show 768 * (ch.val / 256) + 256 * 2 + ch.val % 256 = _ + (512 + b.val); omega)]
  rw [pay1_apply, pay2_apply, pay5_apply, hp a r hr, blk3 m c t 0 b ch hc, blk3 m c t 1 b ch hc, blk3 m c t 2 b ch hc,
    above_rows (t.val % 18) f hf (pr (xA m c) ch) _ _ hp ?_ a r hr, below_rows (t.val % 18) l hl (pr (xA m c) ch) _ _ hp ?_ a r hr]
  · unfold conv
    refine congrArg (· * _) ?_
    pointwise
    exact blk0 m c t a _ r (col 0 ch) hr (by show 768 * (ch.val / 256) + 256 * 0 + ch.val % 256 = _ + b.val; omega)
  · intro s h0 hs
    rw [pay4_apply]
    pointwise
    unfold pr
    rw [blk2 m c t _ s (col 1 ch) h0 hs (by show 768 * (ch.val / 256) + 256 * 1 + ch.val % 256 = _ + (256 + b.val); omega),
      blk2 m c t _ s (col 2 ch) h0 hs (by show 768 * (ch.val / 256) + 256 * 2 + ch.val % 256 = _ + (512 + b.val); omega)]
  · intro s h0 hs
    pointwise
    unfold pr
    rw [blk1 m c t _ s (col 1 ch) h0 hs (by show 768 * (ch.val / 256) + 256 * 1 + ch.val % 256 = _ + (256 + b.val); omega),
      blk1 m c t _ s (col 2 ch) h0 hs (by show 768 * (ch.val / 256) + 256 * 2 + ch.val % 256 = _ + (512 + b.val); omega)]

/-- The kernel's array is the reference's. -/
theorem final : (dats m 0 c).arrAt 4 cfg0.N
    = val_main_v66 (F := Ideal) (m ((c : Thread nD τ).loc main_arg0)) (m ((c : Thread nD τ).loc main_arg1)) := by
  refine (dats m 0 c).arrAt_eq_of_covers 4 _ (by decide +kernel) fun t _ y => ?_
  blk_simp
  rw [after0_4]
  unfold out0_4
  frame_out
  obtain ⟨p, q, rfl⟩ : ∃ p q, y = ix2 p q := ⟨_, _, (ix2_eta y).symm⟩
  have ht : t.val < 72 := t.isLt
  have hp : p.val < 256 := p.isLt
  have hq : q.val < 256 := q.isLt
  have e : (win0_4.blk t).view.emb (ix2 p q) = ix2 (⟨256 * (t.val % 18) + p.val, by omega⟩ : Fin 4608)
      (⟨256 * (t.val / 18) + q.val, by omega⟩ : Fin 1024) := by
    blk_ext [idx t]
  rw [e, v66_at]
  exact point m c t p q _ _ rfl rfl _ _ (firstBit_iff t) (lastBit_iff t)

end Cert.ConvForward

end
-- ==== Proof.PreFirst.lean ====
/- The normalisation and modulation before the first feed-forward block. -/
module

public import proofs.«01_k».proof.Proof.Gen.Kernel33Ideal.Value
public import proofs.«01_k».proof.Proof.Gen.Reference33Ideal.Read
public import Idealize.ShloMosaic.Lib.Pipeline.ValueKit
public import Idealize.ShloMosaic.Lib.Pipeline.ReadBack

@[expose] public section

set_option maxRecDepth 16384

noncomputable section

namespace Cert.PreFirst

open Idealize.ShloMosaic Cert.Kernel33Ideal Cert.Kernel33Ideal.Gen Idealize.ShloMosaic.TcCoe
open Cert.Reference33Ideal.Read

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![min (t.val / 4) 2, 0, 0, 0]
    ∧ win0_3.index t = ![min (t.val / 4) 2, 1, 0, 0]
    ∧ win0_4.index t = ![t.val, 0] :=
  (by decide +kernel : ∀ t : Fin grid0.N, _)

/-- The token's stream of modulation rows. -/
def stream (r : Fin 4608) : Fin 3 := ⟨min (r.val / 2048) 2, by omega⟩

/-- A row's mean square and the small number. -/
def var (x : Fin 1024 → EReal) : EReal :=
  Ideal.div (∑ k, x k * x k) (Ideal.ofBits .f32 0x44800000#32) + Ideal.ofBits .f32 0x358637BD#32

/-- A normalised number of a row, with its gain, its scale and its shift. -/
def pre (x : Fin 1024 → EReal) (j : Fin 1024) (g a b : EReal) : EReal :=
  x j * Ideal.rsqrt (var x) * g * (Ideal.ofBits .f32 0x3F800000#32 + a) + b

/-- The reference's shift at an index: the row of the token's stream. -/
theorem ref_shift (q : Vec Ideal S3x9x1x1024 .f32) (r : Fin 4608) (j : Fin 1024) :
    val_main_v9 (F := Ideal) q (ix2 r j) = q (ix4 (stream r) 0 0 j) := by
  unfold val_main_v9 val_main_v8 val_main_v7 val_main_v6 val_main_v5 val_main_v4 val_main_v3 val_main_v2 val_main_v1 val_main_v0 stream
  pointwise
  by_cases h1 : r.val < 2048
  · rw [dif_pos h1]; congr 2; exact Fin.ext (by show 0 = min (r.val / 2048) 2; omega)
  · by_cases h2 : r.val - 2048 < 2048
    · rw [dif_neg h1, dif_pos h2]; congr 2; exact Fin.ext (by show 1 = min (r.val / 2048) 2; omega)
    · rw [dif_neg h1, dif_neg h2]; congr 2; exact Fin.ext (by show 2 = min (r.val / 2048) 2; omega)

/-- The reference's scale at an index: the row of the token's stream. -/
theorem ref_scale (q : Vec Ideal S3x9x1x1024 .f32) (r : Fin 4608) (j : Fin 1024) :
    val_main_v19 (F := Ideal) q (ix2 r j) = q (ix4 (stream r) 1 0 j) := by
  unfold val_main_v19 val_main_v18 val_main_v17 val_main_v16 val_main_v15 val_main_v14 val_main_v13 val_main_v12 val_main_v11 val_main_v10 stream
  pointwise
  by_cases h1 : r.val < 2048
  · rw [dif_pos h1]; congr 2; exact Fin.ext (by show 0 = min (r.val / 2048) 2; omega)
  · by_cases h2 : r.val - 2048 < 2048
    · rw [dif_neg h1, dif_pos h2]; congr 2; exact Fin.ext (by show 1 = min (r.val / 2048) 2; omega)
    · rw [dif_neg h1, dif_neg h2]; congr 2; exact Fin.ext (by show 2 = min (r.val / 2048) 2; omega)

/-- The reference's normalised rows, before the modulation. -/
theorem ref_norm (h : Vec Ideal S4608x1024 .f32) (g : Vec Ideal S1x1024 .f32) (r : Fin 4608) (j : Fin 1024) :
    val_main_v31 (F := Ideal) h g (ix2 r j) = h (ix2 r j) * Ideal.rsqrt (var fun k => h (ix2 r k)) * g (ix2 0 j) := by
  unfold val_main_v31 val_main_v30 val_main_v29 val_main_v28 val_main_v27 val_main_v26 val_main_v25 val_main_v24 val_main_v23
    val_main_v22 val_main_v21 val_main_v20 val_main_cst val_main_cst_0 val_main_cst_1 var
  pointwise

/-- The reference's result at an index. -/
theorem ref_pre (h : Vec Ideal S4608x1024 .f32) (g : Vec Ideal S1x1024 .f32) (q : Vec Ideal S3x9x1x1024 .f32) (r : Fin 4608)
    (j : Fin 1024) : val_main_v36 (F := Ideal) h g q (ix2 r j)
      = pre (fun k => h (ix2 r k)) j (g (ix2 0 j)) (q (ix4 (stream r) 1 0 j)) (q (ix4 (stream r) 0 0 j)) := by
  unfold pre
  rw [← ref_norm, ← ref_scale q, ← ref_shift q]
  unfold val_main_v36 val_main_v35 val_main_v34 val_main_v33 val_main_v32 val_main_cst_2
  generalize val_main_v31 (F := Ideal) h g = y
  generalize val_main_v19 (F := Ideal) q = z
  generalize val_main_v9 (F := Ideal) q = w
  pointwise

/-- The kernel's block at an index. -/
theorem pay_pre (h : Vec Ideal S512x1024 .f32) (g : Vec Ideal S1x1024 .f32) (a b : Vec Ideal S1x1x1x1024 .f32) (r : Fin 512)
    (j : Fin 1024) : k0_pay1 h g a b (ix2 r j)
      = pre (fun k => h (ix2 r k)) j (g (ix2 0 j)) (a (ix4 0 0 0 j)) (b (ix4 0 0 0 j)) := by
  unfold k0_pay1 pre var
  pointwise

/-- The kernel's array is the reference's. -/
theorem final : (dats m 0 c).arrAt 4 cfg0.N
    = val_main_v36 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  unfold out0_4
  frame_out
  obtain ⟨p, q, rfl⟩ : ∃ p q, y = ix2 p q := ⟨_, _, (ix2_eta y).symm⟩
  have ht : t.val < 9 := t.isLt
  have hp : p.val < 512 := p.isLt
  have e : (win0_4.blk t).view.emb (ix2 p q) = ix2 (⟨512 * t.val + p.val, by omega⟩ : Fin 4608) (q : Fin 1024) := by
    blk_ext [idx t]
  rw [e, pay_pre, ref_pre]
  unfold stream
  blk_point [iblk, V, idx t]

end Cert.PreFirst

end
-- ==== Proof.PreMixer.lean ====
/- The normalisation and modulation before the token mixer. -/
module

public import proofs.«01_k».proof.Proof.Gen.Kernel34Ideal.Value
public import proofs.«01_k».proof.Proof.Gen.Reference34Ideal.Read
public import Idealize.ShloMosaic.Lib.Pipeline.ValueKit
public import Idealize.ShloMosaic.Lib.Pipeline.ReadBack

@[expose] public section

set_option maxRecDepth 16384

noncomputable section

namespace Cert.PreMixer

open Idealize.ShloMosaic Cert.Kernel34Ideal Cert.Kernel34Ideal.Gen Idealize.ShloMosaic.TcCoe
open Cert.Reference34Ideal.Read

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![min (t.val / 4) 2, 3, 0, 0]
    ∧ win0_3.index t = ![min (t.val / 4) 2, 4, 0, 0]
    ∧ win0_4.index t = ![t.val, 0] :=
  (by decide +kernel : ∀ t : Fin grid0.N, _)

/-- The token's stream of modulation rows. -/
def stream (r : Fin 4608) : Fin 3 := ⟨min (r.val / 2048) 2, by omega⟩

/-- A row's mean square and the small number. -/
def var (x : Fin 1024 → EReal) : EReal :=
  Ideal.div (∑ k, x k * x k) (Ideal.ofBits .f32 0x44800000#32) + Ideal.ofBits .f32 0x358637BD#32

/-- A normalised number of a row, with its gain, its scale and its shift. -/
def pre (x : Fin 1024 → EReal) (j : Fin 1024) (g a b : EReal) : EReal :=
  x j * Ideal.rsqrt (var x) * g * (Ideal.ofBits .f32 0x3F800000#32 + a) + b

/-- The reference's shift at an index: the row of the token's stream. -/
theorem ref_shift (q : Vec Ideal S3x9x1x1024 .f32) (r : Fin 4608) (j : Fin 1024) :
    val_main_v9 (F := Ideal) q (ix2 r j) = q (ix4 (stream r) 3 0 j) := by
  unfold val_main_v9 val_main_v8 val_main_v7 val_main_v6 val_main_v5 val_main_v4 val_main_v3 val_main_v2 val_main_v1 val_main_v0 stream
  pointwise
  by_cases h1 : r.val < 2048
  · rw [dif_pos h1]; congr 2; exact Fin.ext (by show 0 = min (r.val / 2048) 2; omega)
  · by_cases h2 : r.val - 2048 < 2048
    · rw [dif_neg h1, dif_pos h2]; congr 2; exact Fin.ext (by show 1 = min (r.val / 2048) 2; omega)
    · rw [dif_neg h1, dif_neg h2]; congr 2; exact Fin.ext (by show 2 = min (r.val / 2048) 2; omega)

/-- The reference's scale at an index: the row of the token's stream. -/
theorem ref_scale (q : Vec Ideal S3x9x1x1024 .f32) (r : Fin 4608) (j : Fin 1024) :
    val_main_v19 (F := Ideal) q (ix2 r j) = q (ix4 (stream r) 4 0 j) := by
  unfold val_main_v19 val_main_v18 val_main_v17 val_main_v16 val_main_v15 val_main_v14 val_main_v13 val_main_v12 val_main_v11 val_main_v10 stream
  pointwise
  by_cases h1 : r.val < 2048
  · rw [dif_pos h1]; congr 2; exact Fin.ext (by show 0 = min (r.val / 2048) 2; omega)
  · by_cases h2 : r.val - 2048 < 2048
    · rw [dif_neg h1, dif_pos h2]; congr 2; exact Fin.ext (by show 1 = min (r.val / 2048) 2; omega)
    · rw [dif_neg h1, dif_neg h2]; congr 2; exact Fin.ext (by show 2 = min (r.val / 2048) 2; omega)

/-- The reference's normalised rows, before the modulation. -/
theorem ref_norm (h : Vec Ideal S4608x1024 .f32) (g : Vec Ideal S1x1024 .f32) (r : Fin 4608) (j : Fin 1024) :
    val_main_v31 (F := Ideal) h g (ix2 r j) = h (ix2 r j) * Ideal.rsqrt (var fun k => h (ix2 r k)) * g (ix2 0 j) := by
  unfold val_main_v31 val_main_v30 val_main_v29 val_main_v28 val_main_v27 val_main_v26 val_main_v25 val_main_v24 val_main_v23
    val_main_v22 val_main_v21 val_main_v20 val_main_cst val_main_cst_0 val_main_cst_1 var
  pointwise

/-- The reference's result at an index. -/
theorem ref_pre (h : Vec Ideal S4608x1024 .f32) (g : Vec Ideal S1x1024 .f32) (q : Vec Ideal S3x9x1x1024 .f32) (r : Fin 4608)
    (j : Fin 1024) : val_main_v36 (F := Ideal) h g q (ix2 r j)
      = pre (fun k => h (ix2 r k)) j (g (ix2 0 j)) (q (ix4 (stream r) 4 0 j)) (q (ix4 (stream r) 3 0 j)) := by
  unfold pre
  rw [← ref_norm, ← ref_scale q, ← ref_shift q]
  unfold val_main_v36 val_main_v35 val_main_v34 val_main_v33 val_main_v32 val_main_cst_2
  generalize val_main_v31 (F := Ideal) h g = y
  generalize val_main_v19 (F := Ideal) q = z
  generalize val_main_v9 (F := Ideal) q = w
  pointwise

/-- The kernel's block at an index. -/
theorem pay_pre (h : Vec Ideal S512x1024 .f32) (g : Vec Ideal S1x1024 .f32) (a b : Vec Ideal S1x1x1x1024 .f32) (r : Fin 512)
    (j : Fin 1024) : k0_pay1 h g a b (ix2 r j)
      = pre (fun k => h (ix2 r k)) j (g (ix2 0 j)) (a (ix4 0 0 0 j)) (b (ix4 0 0 0 j)) := by
  unfold k0_pay1 pre var
  pointwise

/-- The kernel's array is the reference's. -/
theorem final : (dats m 0 c).arrAt 4 cfg0.N
    = val_main_v36 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  unfold out0_4
  frame_out
  obtain ⟨p, q, rfl⟩ : ∃ p q, y = ix2 p q := ⟨_, _, (ix2_eta y).symm⟩
  have ht : t.val < 9 := t.isLt
  have hp : p.val < 512 := p.isLt
  have e : (win0_4.blk t).view.emb (ix2 p q) = ix2 (⟨512 * t.val + p.val, by omega⟩ : Fin 4608) (q : Fin 1024) := by
    blk_ext [idx t]
  rw [e, pay_pre, ref_pre]
  unfold stream
  blk_point [iblk, V, idx t]

end Cert.PreMixer

end
-- ==== Proof.PreSecond.lean ====
/- The normalisation and modulation before the second feed-forward block. -/
module

public import proofs.«01_k».proof.Proof.Gen.Kernel35Ideal.Value
public import proofs.«01_k».proof.Proof.Gen.Reference35Ideal.Read
public import Idealize.ShloMosaic.Lib.Pipeline.ValueKit
public import Idealize.ShloMosaic.Lib.Pipeline.ReadBack

@[expose] public section

set_option maxRecDepth 16384

noncomputable section

namespace Cert.PreSecond

open Idealize.ShloMosaic Cert.Kernel35Ideal Cert.Kernel35Ideal.Gen Idealize.ShloMosaic.TcCoe
open Cert.Reference35Ideal.Read

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![min (t.val / 4) 2, 6, 0, 0]
    ∧ win0_3.index t = ![min (t.val / 4) 2, 7, 0, 0]
    ∧ win0_4.index t = ![t.val, 0] :=
  (by decide +kernel : ∀ t : Fin grid0.N, _)

/-- The token's stream of modulation rows. -/
def stream (r : Fin 4608) : Fin 3 := ⟨min (r.val / 2048) 2, by omega⟩

/-- A row's mean square and the small number. -/
def var (x : Fin 1024 → EReal) : EReal :=
  Ideal.div (∑ k, x k * x k) (Ideal.ofBits .f32 0x44800000#32) + Ideal.ofBits .f32 0x358637BD#32

/-- A normalised number of a row, with its gain, its scale and its shift. -/
def pre (x : Fin 1024 → EReal) (j : Fin 1024) (g a b : EReal) : EReal :=
  x j * Ideal.rsqrt (var x) * g * (Ideal.ofBits .f32 0x3F800000#32 + a) + b

/-- The reference's shift at an index: the row of the token's stream. -/
theorem ref_shift (q : Vec Ideal S3x9x1x1024 .f32) (r : Fin 4608) (j : Fin 1024) :
    val_main_v9 (F := Ideal) q (ix2 r j) = q (ix4 (stream r) 6 0 j) := by
  unfold val_main_v9 val_main_v8 val_main_v7 val_main_v6 val_main_v5 val_main_v4 val_main_v3 val_main_v2 val_main_v1 val_main_v0 stream
  pointwise
  by_cases h1 : r.val < 2048
  · rw [dif_pos h1]; congr 2; exact Fin.ext (by show 0 = min (r.val / 2048) 2; omega)
  · by_cases h2 : r.val - 2048 < 2048
    · rw [dif_neg h1, dif_pos h2]; congr 2; exact Fin.ext (by show 1 = min (r.val / 2048) 2; omega)
    · rw [dif_neg h1, dif_neg h2]; congr 2; exact Fin.ext (by show 2 = min (r.val / 2048) 2; omega)

/-- The reference's scale at an index: the row of the token's stream. -/
theorem ref_scale (q : Vec Ideal S3x9x1x1024 .f32) (r : Fin 4608) (j : Fin 1024) :
    val_main_v19 (F := Ideal) q (ix2 r j) = q (ix4 (stream r) 7 0 j) := by
  unfold val_main_v19 val_main_v18 val_main_v17 val_main_v16 val_main_v15 val_main_v14 val_main_v13 val_main_v12 val_main_v11 val_main_v10 stream
  pointwise
  by_cases h1 : r.val < 2048
  · rw [dif_pos h1]; congr 2; exact Fin.ext (by show 0 = min (r.val / 2048) 2; omega)
  · by_cases h2 : r.val - 2048 < 2048
    · rw [dif_neg h1, dif_pos h2]; congr 2; exact Fin.ext (by show 1 = min (r.val / 2048) 2; omega)
    · rw [dif_neg h1, dif_neg h2]; congr 2; exact Fin.ext (by show 2 = min (r.val / 2048) 2; omega)

/-- The reference's normalised rows, before the modulation. -/
theorem ref_norm (h : Vec Ideal S4608x1024 .f32) (g : Vec Ideal S1x1024 .f32) (r : Fin 4608) (j : Fin 1024) :
    val_main_v31 (F := Ideal) h g (ix2 r j) = h (ix2 r j) * Ideal.rsqrt (var fun k => h (ix2 r k)) * g (ix2 0 j) := by
  unfold val_main_v31 val_main_v30 val_main_v29 val_main_v28 val_main_v27 val_main_v26 val_main_v25 val_main_v24 val_main_v23
    val_main_v22 val_main_v21 val_main_v20 val_main_cst val_main_cst_0 val_main_cst_1 var
  pointwise

/-- The reference's result at an index. -/
theorem ref_pre (h : Vec Ideal S4608x1024 .f32) (g : Vec Ideal S1x1024 .f32) (q : Vec Ideal S3x9x1x1024 .f32) (r : Fin 4608)
    (j : Fin 1024) : val_main_v36 (F := Ideal) h g q (ix2 r j)
      = pre (fun k => h (ix2 r k)) j (g (ix2 0 j)) (q (ix4 (stream r) 7 0 j)) (q (ix4 (stream r) 6 0 j)) := by
  unfold pre
  rw [← ref_norm, ← ref_scale q, ← ref_shift q]
  unfold val_main_v36 val_main_v35 val_main_v34 val_main_v33 val_main_v32 val_main_cst_2
  generalize val_main_v31 (F := Ideal) h g = y
  generalize val_main_v19 (F := Ideal) q = z
  generalize val_main_v9 (F := Ideal) q = w
  pointwise

/-- The kernel's block at an index. -/
theorem pay_pre (h : Vec Ideal S512x1024 .f32) (g : Vec Ideal S1x1024 .f32) (a b : Vec Ideal S1x1x1x1024 .f32) (r : Fin 512)
    (j : Fin 1024) : k0_pay1 h g a b (ix2 r j)
      = pre (fun k => h (ix2 r k)) j (g (ix2 0 j)) (a (ix4 0 0 0 j)) (b (ix4 0 0 0 j)) := by
  unfold k0_pay1 pre var
  pointwise

/-- The kernel's array is the reference's. -/
theorem final : (dats m 0 c).arrAt 4 cfg0.N
    = val_main_v36 (F := Ideal) (m ((c : Thread nD τ).loc main_arg0)) (m ((c : Thread nD τ).loc main_arg1))
        (m ((c : Thread nD τ).loc main_arg2)) := by
  refine (dats m 0 c).arrAt_eq_of_covers 4 _ (by decide +kernel) fun t _ y => ?_
  blk_simp
  rw [after0_4]
  unfold out0_4
  frame_out
  obtain ⟨p, q, rfl⟩ : ∃ p q, y = ix2 p q := ⟨_, _, (ix2_eta y).symm⟩
  have ht : t.val < 9 := t.isLt
  have hp : p.val < 512 := p.isLt
  have e : (win0_4.blk t).view.emb (ix2 p q) = ix2 (⟨512 * t.val + p.val, by omega⟩ : Fin 4608) (q : Fin 1024) := by
    blk_ext [idx t]
  rw [e, pay_pre, ref_pre]
  unfold stream
  blk_point [iblk, V, idx t]

end Cert.PreSecond

end
-- ==== Proof.LatentNorm.lean ====
/- The normalisation of the latents. -/
module

public import proofs.«01_k».proof.Proof.Gen.Kernel36Ideal.Value
public import proofs.«01_k».proof.Proof.Gen.Reference36Ideal.Read
public import Idealize.ShloMosaic.Lib.Pipeline.ValueKit
public import Idealize.ShloMosaic.Lib.Pipeline.ReadBack

@[expose] public section

set_option maxRecDepth 16384

noncomputable section

namespace Cert.LatentNorm

open Idealize.ShloMosaic Cert.Kernel36Ideal Cert.Kernel36Ideal.Gen Idealize.ShloMosaic.TcCoe
open Cert.Reference36Ideal.Read

variable (m : (ℓ : Loc nD τ sig) → Buf (Elt Ideal) ℓ) (c : Dev nD)

/-- The windows' block indices. -/
theorem idx : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- A number of a row over the root of the row's mean square, with its gain: the row's length is the literal of bits `d`. -/
def norm {n : ℕ} (d : BitVec 32) (x : Fin n → EReal) (j : Fin n) (g : EReal) : EReal :=
  x j * Ideal.rsqrt (Ideal.div (∑ k, x k * x k) (Ideal.ofBits .f32 d) + Ideal.ofBits .f32 0x358637BD#32) * g

/-- The query latents of a row. -/
def row_q (x : Vec Ideal S4608x512 .f32) (r : Fin 4608) (k : Fin 256) : EReal := x (ix2 r ⟨k.val, by omega⟩)
/-- The reference's query latents. -/
theorem ref_q (x : Vec Ideal S4608x512 .f32) (g : Vec Ideal S1x256 .f32) (r : Fin 4608) (j : Fin 256) :
    val_main_v27 (F := Ideal) x g (ix2 r j) = norm 0x43800000#32 (row_q x r) j (g (ix2 0 j)) := by
  have e : ∀ r k, val_main_v0 (F := Ideal) x (ix2 r k) = row_q x r k := by
    intro r k
    unfold val_main_v0 row_q
    pointwise
  unfold norm
  simp only [← e]
  unfold val_main_v27 val_main_v14 val_main_v13 val_main_v12 val_main_v11 val_main_v10 val_main_v9 val_main_v8 val_main_v7 val_main_v6 val_main_v5 val_main_v4 val_main_v3 val_main_cst val_main_cst_0 val_main_cst_1
  generalize val_main_v0 (F := Ideal) x = y
  pointwise
/-- The kernel's query latents. -/
theorem pay_q (x : Vec Ideal S512x256 .f32) (g : Vec Ideal S1x256 .f32) (r : Fin 512) (j : Fin 256) :
    k0_pay1 x g (ix2 r j) = norm 0x43800000#32 (fun k => x (ix2 r k)) j (g (ix2 0 j)) := by
  unfold k0_pay1 norm
  pointwise
/-- The kernel's query latents are the reference's. -/
theorem final_q : (dats m 0 c).arrAt 3 cfg0.N
    = val_main_v27 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  frame_out
  obtain ⟨p, q, rfl⟩ : ∃ p q, y = ix2 p q := ⟨_, _, (ix2_eta y).symm⟩
  have ht : t.val < 9 := t.isLt
  have hp : p.val < 512 := p.isLt
  have e : (win0_3.blk t).view.emb (ix2 p q) = ix2 (⟨512 * t.val + p.val, by omega⟩ : Fin 4608) (q : Fin 256) := by
    blk_ext [idx t]
  rw [e, pay_q, ref_q]
  have ex : ∀ k : Fin 256, View.ld (iblk m c 0 t) (Rect.unit ![0, 0] ![512, 256] inb_S512x512_S512x256_0_0) (ix2 p k)
      = row_q (m ((c : Thread nD τ).loc main_arg0)) ⟨512 * t.val + p.val, by omega⟩ k := by
    intro k
    pointwise
    unfold row_q
    blk_point [iblk, V, idx t]
  have eg : (iblk m c 1 t : Vec Ideal S1x256 .f32) (ix2 0 q) = m ((c : Thread nD τ).loc main_arg1) (ix2 0 q) := by
    blk_point [iblk, V, idx t]
  exact congrArg₂ (fun f => norm 0x43800000#32 f q) (funext ex) eg

/-- The key and value latents of a row. -/
def row_k (x : Vec Ideal S4608x512 .f32) (r : Fin 4608) (k : Fin 128) : EReal := x (ix2 r ⟨256 + k.val, by omega⟩)
/-- The reference's key and value latents. -/
theorem ref_k (x : Vec Ideal S4608x512 .f32) (g : Vec Ideal S1x128 .f32) (r : Fin 4608) (j : Fin 128) :
    val_main_v28 (F := Ideal) x g (ix2 r j) = norm 0x43000000#32 (row_k x r) j (g (ix2 0 j)) := by
  have e : ∀ r k, val_main_v1 (F := Ideal) x (ix2 r k) = row_k x r k := by
    intro r k
    unfold val_main_v1 row_k
    pointwise
  unfold norm
  simp only [← e]
  unfold val_main_v28 val_main_v26 val_main_v25 val_main_v24 val_main_v23 val_main_v22 val_main_v21 val_main_v20 val_main_v19 val_main_v18 val_main_v17 val_main_v16 val_main_v15 val_main_cst_2 val_main_cst_3 val_main_cst_4
  generalize val_main_v1 (F := Ideal) x = y
  pointwise
/-- The kernel's key and value latents. -/
theorem pay_k (x : Vec Ideal S512x128 .f32) (g : Vec Ideal S1x128 .f32) (r : Fin 512) (j : Fin 128) :
    k0_pay2 x g (ix2 r j) = norm 0x43000000#32 (fun k => x (ix2 r k)) j (g (ix2 0 j)) := by
  unfold k0_pay2 norm
  pointwise
/-- The kernel's key and value latents are the reference's. -/
theorem final_k : (dats m 0 c).arrAt 4 cfg0.N
    = val_main_v28 (F := Ideal) (m ((c : Thread nD τ).loc main_arg0)) (m ((c : Thread nD τ).loc main_arg2)) := by
  refine (dats m 0 c).arrAt_eq_of_covers 4 _ (by decide +kernel) fun t _ y => ?_
  blk_simp
  rw [after0_4]
  unfold out0_4
  frame_out
  obtain ⟨p, q, rfl⟩ : ∃ p q, y = ix2 p q := ⟨_, _, (ix2_eta y).symm⟩
  have ht : t.val < 9 := t.isLt
  have hp : p.val < 512 := p.isLt
  have e : (win0_4.blk t).view.emb (ix2 p q) = ix2 (⟨512 * t.val + p.val, by omega⟩ : Fin 4608) (q : Fin 128) := by
    blk_ext [idx t]
  rw [e, pay_k, ref_k]
  have ex : ∀ k : Fin 128, View.ld (iblk m c 0 t) (Rect.unit ![0, 256] ![512, 128] inb_S512x512_S512x128_0_256) (ix2 p k)
      = row_k (m ((c : Thread nD τ).loc main_arg0)) ⟨512 * t.val + p.val, by omega⟩ k := by
    intro k
    pointwise
    unfold row_k
    blk_point [iblk, V, idx t]
  have eg : (iblk m c 2 t : Vec Ideal S1x128 .f32) (ix2 0 q) = m ((c : Thread nD τ).loc main_arg2) (ix2 0 q) := by
    blk_point [iblk, V, idx t]
  exact congrArg₂ (fun f => norm 0x43000000#32 f q) (funext ex) eg

end Cert.LatentNorm

end
-- ==== Proof.Norms.lean ====
/- The claims about the norms and the short convolution: each reference's run and frame, and each kernel's arrays against them. -/
module

public import proofs.«01_k».proof.Defs
public import proofs.«01_k».proof.Proof.Gen.Kernel31
public import proofs.«01_k».proof.Proof.Gen.Kernel31.Frame
public import proofs.«01_k».proof.Proof.Gen.Kernel31Ideal
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Frame
public import proofs.«01_k».proof.Proof.Gen.Kernel32Ideal
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Kernel33
public import proofs.«01_k».proof.Proof.Gen.Kernel33.Frame
public import proofs.«01_k».proof.Proof.Gen.Kernel33Ideal
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.Gen.Kernel34
public import proofs.«01_k».proof.Proof.Gen.Kernel34.Frame
public import proofs.«01_k».proof.Proof.Gen.Kernel34Ideal
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.Gen.Kernel35
public import proofs.«01_k».proof.Proof.Gen.Kernel35.Frame
public import proofs.«01_k».proof.Proof.Gen.Kernel35Ideal
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.Gen.Kernel36
public import proofs.«01_k».proof.Proof.Gen.Kernel36.Frame
public import proofs.«01_k».proof.Proof.Gen.Kernel36Ideal
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.LatentGrad
public import proofs.«01_k».proof.Proof.ConvForward
public import proofs.«01_k».proof.Proof.PreFirst
public import proofs.«01_k».proof.Proof.PreMixer
public import proofs.«01_k».proof.Proof.PreSecond
public import proofs.«01_k».proof.Proof.LatentNorm
public import Idealize.ShloMosaic.Lib.Quiescent
public import Idealize.ShloMosaic.Adequacy
public import Idealize.ShloMosaic.Init

@[expose] public section

noncomputable section

namespace Cert.Proof

open Idealize.ShloMosaic Idealize.SL.Sem

open Cert.Reference31Ideal in
/-- The reference of the gradient of the latents' norms runs, keeps its arguments, and has no counter to leave raised. -/
theorem frame_reference31
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
        ∧ r.2.sem = fun _ => 0) :=
  (θ_run defs _ _).mono (fun r h => ⟨fun c => (h c).2.2.2, sem_eq_zero_of_no_sems (by decide) r.2⟩)
    (Cert.Reference31Ideal.Value.run (F := Ideal) m g)

open Cert.Reference31Ideal in
/-- The results of the reference of the gradient of the latents' norms, as functions of its argument arrays. -/
theorem run_reference31
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v74) = Read.val_main_v74 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_v56) = Read.val_main_v56 (F := Ideal) (m ((c.tc : Thread nD τ).loc main_arg0)) (m ((c.tc : Thread nD τ).loc main_arg3))
        ∧ r.2.mem ((c.tc : Thread nD τ).loc main_v37) = Read.val_main_v37 (F := Ideal) (m ((c.tc : Thread nD τ).loc main_arg0)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun r h c =>
    ⟨(h c).1.trans (Read.val_main_v74_eq (F := Ideal) _ _),
      (h c).2.1.trans (Read.val_main_v56_eq (F := Ideal) _ _),
      (h c).2.2.1.trans (Read.val_main_v37_eq (F := Ideal) _ _),
      (h c).2.2.2⟩)
    (Cert.Reference31Ideal.Value.run (F := Ideal) m g)

/-- The kernel of the gradient of the latents' norms computes what its reference does. -/
theorem algebraic31 : Cert.algebraic_Kernel31Ideal_Reference31Ideal := by
  intro m g m' g' hpre hagree
  refine ⟨fun c => (Cert.Kernel31Ideal.Gen.dats m 0 c).arrAt 6 Cert.Kernel31Ideal.cfg0.N,
    fun c => (Cert.Kernel31Ideal.Gen.dats m 0 c).arrAt 7 Cert.Kernel31Ideal.cfg0.N,
    fun c => (Cert.Kernel31Ideal.Gen.dats m 0 c).arrAt 8 Cert.Kernel31Ideal.cfg0.N,
    Cert.Kernel31Ideal.Value.run_blocks (F := Ideal) m g, ?_⟩
  refine (θ_run Cert.Reference31Ideal.defs _ _).mono (fun r h c => ?_) (run_reference31 m' g')
  obtain ⟨e0, e1, e2, e3, e4, e5⟩ := hagree c
  obtain ⟨h0, h1, h2, hargs⟩ := h c
  rw [e0, e1, e2, e3, e4, e5] at h0
  rw [e0, e3] at h1
  rw [e0, e4] at h2
  exact ⟨h0.trans (Cert.Latent.final_lat m c).symm, h1.trans (Cert.Latent.final_gq m c).symm, h2.trans (Cert.Latent.final_gk m c).symm, hargs⟩

open Cert.Reference32Ideal in
/-- The reference of the gated short convolution runs, keeps its arguments, and has no counter to leave raised. -/
theorem frame_reference32
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1))
        ∧ r.2.sem = fun _ => 0) :=
  (θ_run defs _ _).mono (fun r h => ⟨fun c => (h c).2, sem_eq_zero_of_no_sems (by decide) r.2⟩)
    (Cert.Reference32Ideal.Value.run (F := Ideal) m g)

open Cert.Reference32Ideal in
/-- The results of the reference of the gated short convolution, as functions of its argument arrays. -/
theorem run_reference32
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v66) = Read.val_main_v66 (F := Ideal) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun r h c =>
    ⟨(h c).1.trans (Read.val_main_v66_eq (F := Ideal) _ _),
      (h c).2⟩)
    (Cert.Reference32Ideal.Value.run (F := Ideal) m g)

/-- The kernel of the gated short convolution computes what its reference does. -/
theorem algebraic32 : Cert.algebraic_Kernel32Ideal_Reference32Ideal := by
  intro m g m' g' hpre hagree
  refine ⟨fun c => (Cert.Kernel32Ideal.Gen.dats m 0 c).arrAt 4 Cert.Kernel32Ideal.cfg0.N,
    Cert.Kernel32Ideal.Value.run_blocks (F := Ideal) m g, ?_⟩
  refine (θ_run Cert.Reference32Ideal.defs _ _).mono (fun r h c => ?_) (run_reference32 m' g')
  obtain ⟨e0, e1⟩ := hagree c
  obtain ⟨h0, hargs⟩ := h c
  rw [e0, e1] at h0
  exact ⟨h0.trans (Cert.ConvForward.final m c).symm, hargs⟩

open Cert.Reference33Ideal in
/-- The reference of the modulated norm in front of the first feed-forward block runs, keeps its arguments, and has no counter to leave raised. -/
theorem frame_reference33
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩)
    (Cert.Reference33Ideal.Value.run (F := Ideal) m g)

open Cert.Reference33Ideal in
/-- The results of the reference of the modulated norm in front of the first feed-forward block, as functions of its argument arrays. -/
theorem run_reference33
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v36) = Read.val_main_v36 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v36_eq (F := Ideal) _ _ _),
      (h c).2⟩)
    (Cert.Reference33Ideal.Value.run (F := Ideal) m g)

/-- The kernel of the modulated norm in front of the first feed-forward block computes what its reference does. -/
theorem algebraic33 : Cert.algebraic_Kernel33Ideal_Reference33Ideal := by
  intro m g m' g' hpre hagree
  refine ⟨fun c => (Cert.Kernel33Ideal.Gen.dats m 0 c).arrAt 4 Cert.Kernel33Ideal.cfg0.N,
    Cert.Kernel33Ideal.Value.run_blocks (F := Ideal) m g, ?_⟩
  refine (θ_run Cert.Reference33Ideal.defs _ _).mono (fun r h c => ?_) (run_reference33 m' g')
  obtain ⟨e0, e1, e2⟩ := hagree c
  obtain ⟨h0, hargs⟩ := h c
  rw [e0, e1, e2] at h0
  exact ⟨h0.trans (Cert.PreFirst.final m c).symm, hargs⟩

open Cert.Reference34Ideal in
/-- The reference of the modulated norm in front of the token mixer runs, keeps its arguments, and has no counter to leave raised. -/
theorem frame_reference34
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩)
    (Cert.Reference34Ideal.Value.run (F := Ideal) m g)

open Cert.Reference34Ideal in
/-- The results of the reference of the modulated norm in front of the token mixer, as functions of its argument arrays. -/
theorem run_reference34
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v36) = Read.val_main_v36 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v36_eq (F := Ideal) _ _ _),
      (h c).2⟩)
    (Cert.Reference34Ideal.Value.run (F := Ideal) m g)

/-- The kernel of the modulated norm in front of the token mixer computes what its reference does. -/
theorem algebraic34 : Cert.algebraic_Kernel34Ideal_Reference34Ideal := by
  intro m g m' g' hpre hagree
  refine ⟨fun c => (Cert.Kernel34Ideal.Gen.dats m 0 c).arrAt 4 Cert.Kernel34Ideal.cfg0.N,
    Cert.Kernel34Ideal.Value.run_blocks (F := Ideal) m g, ?_⟩
  refine (θ_run Cert.Reference34Ideal.defs _ _).mono (fun r h c => ?_) (run_reference34 m' g')
  obtain ⟨e0, e1, e2⟩ := hagree c
  obtain ⟨h0, hargs⟩ := h c
  rw [e0, e1, e2] at h0
  exact ⟨h0.trans (Cert.PreMixer.final m c).symm, hargs⟩

open Cert.Reference35Ideal in
/-- The reference of the modulated norm in front of the second feed-forward block runs, keeps its arguments, and has no counter to leave raised. -/
theorem frame_reference35
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2, sem_eq_zero_of_no_sems (by decide) r.2⟩)
    (Cert.Reference35Ideal.Value.run (F := Ideal) m g)

open Cert.Reference35Ideal in
/-- The results of the reference of the modulated norm in front of the second feed-forward block, as functions of its argument arrays. -/
theorem run_reference35
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v36) = Read.val_main_v36 (F := Ideal) (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v36_eq (F := Ideal) _ _ _),
      (h c).2⟩)
    (Cert.Reference35Ideal.Value.run (F := Ideal) m g)

/-- The kernel of the modulated norm in front of the second feed-forward block computes what its reference does. -/
theorem algebraic35 : Cert.algebraic_Kernel35Ideal_Reference35Ideal := by
  intro m g m' g' hpre hagree
  refine ⟨fun c => (Cert.Kernel35Ideal.Gen.dats m 0 c).arrAt 4 Cert.Kernel35Ideal.cfg0.N,
    Cert.Kernel35Ideal.Value.run_blocks (F := Ideal) m g, ?_⟩
  refine (θ_run Cert.Reference35Ideal.defs _ _).mono (fun r h c => ?_) (run_reference35 m' g')
  obtain ⟨e0, e1, e2⟩ := hagree c
  obtain ⟨h0, hargs⟩ := h c
  rw [e0, e1, e2] at h0
  exact ⟨h0.trans (Cert.PreSecond.final m c).symm, hargs⟩

open Cert.Reference36Ideal in
/-- The reference of the latents' norms runs, keeps its arguments, and has no counter to leave raised. -/
theorem frame_reference36
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
        ∧ r.2.sem = fun _ => 0) :=
  (θ_run defs _ _).mono (fun r h => ⟨fun c => (h c).2.2, sem_eq_zero_of_no_sems (by decide) r.2⟩)
    (Cert.Reference36Ideal.Value.run (F := Ideal) m g)

open Cert.Reference36Ideal in
/-- The results of the reference of the latents' norms, as functions of its argument arrays. -/
theorem run_reference36
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v27) = Read.val_main_v27 (F := Ideal) (m ((c.tc : Thread nD τ).loc main_arg0)) (m ((c.tc : Thread nD τ).loc main_arg1))
        ∧ r.2.mem ((c.tc : Thread nD τ).loc main_v28) = Read.val_main_v28 (F := Ideal) (m ((c.tc : Thread nD τ).loc main_arg0)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run defs _ _).mono (fun r h c =>
    ⟨(h c).1.trans (Read.val_main_v27_eq (F := Ideal) _ _),
      (h c).2.1.trans (Read.val_main_v28_eq (F := Ideal) _ _),
      (h c).2.2⟩)
    (Cert.Reference36Ideal.Value.run (F := Ideal) m g)

/-- The kernel of the latents' norms computes what its reference does. -/
theorem algebraic36 : Cert.algebraic_Kernel36Ideal_Reference36Ideal := by
  intro m g m' g' hpre hagree
  refine ⟨fun c => (Cert.Kernel36Ideal.Gen.dats m 0 c).arrAt 3 Cert.Kernel36Ideal.cfg0.N,
    fun c => (Cert.Kernel36Ideal.Gen.dats m 0 c).arrAt 4 Cert.Kernel36Ideal.cfg0.N,
    Cert.Kernel36Ideal.Value.run_blocks (F := Ideal) m g, ?_⟩
  refine (θ_run Cert.Reference36Ideal.defs _ _).mono (fun r h c => ?_) (run_reference36 m' g')
  obtain ⟨e0, e1, e2⟩ := hagree c
  obtain ⟨h0, h1, hargs⟩ := h c
  rw [e0, e1] at h0
  rw [e0, e2] at h1
  exact ⟨h0.trans (Cert.LatentNorm.final_q m c).symm, h1.trans (Cert.LatentNorm.final_k m c).symm, hargs⟩

end Cert.Proof

end
-- ==== Proof.Turn.lean ====
/- One head of the queries or of the keys, number by number: its norm, and the rotary turn of its second half. -/
module

public import proofs.«01_k».proof.Proof.Norm
public import Idealize.ShloMosaic.Lib.Pointwise

@[expose] public section

set_option maxRecDepth 16384

noncomputable section

namespace Cert.Turn

open Idealize.ShloMosaic

/-- A number per lane. -/
abbrev Lanes := Fin 128 → EReal
/-- A number per pair of lanes that turns. -/
abbrev Pairs := Fin 32 → EReal

/-- The inverse root of a head's mean square, both halves summed. -/
def invRoot (n r : Lanes) : EReal :=
  Ideal.rsqrt ((∑ k, n k * n k + ∑ k, r k * r k) * Ideal.ofBits .f32 0x3BAAAAAB#32 + Norm.eps)
/-- The half without turn, normalised. -/
def flat (n r g : Lanes) (k : Fin 128) : EReal := n k * invRoot n r * g k
/-- The half that turns, normalised. -/
def unturned (n r g : Lanes) (k : Fin 128) : EReal := r k * invRoot n r * g k
/-- The turn of the first 64 lanes, lane k with lane 32 + k; the other lanes are zero. -/
def turn (y : Lanes) (c s : Pairs) (k : Fin 128) : EReal :=
  if h : k.val < 32 then y k * c ⟨k.val, h⟩ - y ⟨32 + k.val, by omega⟩ * s ⟨k.val, h⟩
  else if h' : k.val - 32 < 32 then y ⟨k.val - 32, by omega⟩ * s ⟨k.val - 32, h'⟩ + y k * c ⟨k.val - 32, h'⟩
  else 0

/-- The two halves of a table, one after the other, and zeros. -/
def table (u v : Pairs) (k : Fin 128) : EReal :=
  if h : k.val < 32 then u ⟨k.val, h⟩ else if h' : k.val - 32 < 32 then v ⟨k.val - 32, h'⟩ else 0

/-- The turn as the lanes times one table and the lanes rotated by 32 times the other. -/
theorem turn_eq (y : Lanes) (c s : Pairs) (k : Fin 128) (z : EReal)
    (h0 : ∀ h : k.val < 32, z = y ⟨32 + k.val, by omega⟩) (h1 : ∀ h : ¬ k.val < 32, z = y ⟨k.val - 32, by omega⟩) :
    y k * table c c k + z * table (fun i => -s i) s k = turn y c s k := by
  unfold turn table
  split
  · next h => rw [h0 h, mul_neg, sub_eq_add_neg]
  · next h =>
    split
    · rw [h1 h, add_comm]
    · simp

end Cert.Turn

end
-- ==== Proof.QueriesPoint.lean ====
/- The queries' norm and rotary turn: the kernel's payloads read at an index. -/
module

public import proofs.«01_k».proof.Proof.Gen.Kernel37Ideal.Value
public import proofs.«01_k».proof.Proof.Turn
public import Idealize.ShloMosaic.Lib.Pipeline.ValueKit

@[expose] public section

set_option maxRecDepth 16384

noncomputable section

namespace Cert.Queries

open Idealize.ShloMosaic Cert.Kernel37Ideal Cert.Kernel37Ideal.Gen Idealize.ShloMosaic.TcCoe Cert.Turn

/-- A row of a block. -/
abbrev rowB (x : S512x128.Idx → EReal) (a : Fin 512) : Lanes := fun k => x (ix2 a k)
/-- A gain. -/
abbrev gain (g : Vec Ideal S1x128 .f32) : Lanes := fun k => g (ix2 0 k)

variable (x xr : Vec Ideal S512x128 .bf16) (g : Vec Ideal S1x128 .f32)

/-- The inverse root. -/
theorem pay16_apply (j : S512x1.Idx) : k0_pay16 x xr j = invRoot (rowB x (j 0)) (rowB xr (j 0)) := by
  unfold k0_pay16 k0_pay14 k0_pay15 invRoot Norm.eps
  pointwise

/-- The half without turn. -/
theorem pay17_apply (a : Fin 512) (b : Fin 128) : k0_pay17 g x xr (ix2 a b) = flat (rowB x a) (rowB xr a) (gain g) b := by
  have e := pay16_apply x xr
  unfold k0_pay17 k0_pay14 flat
  generalize k0_pay16 x xr = r at *
  pointwise
  simp only [e]
  rfl

/-- The mask of the first 32 lanes is set there. -/
theorem low : ∀ b : Fin 128, b.val < 32 → IntOp.cmpi CmpIPredicate.slt (BitVec.ofNat 32 b.val) 32#32 = 1#1 := by decide +kernel
/-- It is not set beyond. -/
theorem high : ∀ b : Fin 128, ¬ b.val < 32 → IntOp.cmpi CmpIPredicate.slt (BitVec.ofNat 32 b.val) 32#32 = 0#1 := by decide +kernel
/-- The half that turns. -/
theorem pay18_apply (cv sv : Vec Ideal S512x128 .f32) (c s : Pairs) (a : Fin 512) (b : Fin 128)
    (hc : cv (ix2 a b) = table c c b) (hs : sv (ix2 a b) = table (fun i => -s i) s b) :
    k0_pay18 (k0_pay3 cv) (k0_pay4 sv) g x xr (ix2 a b) = turn (unturned (rowB x a) (rowB xr a) (gain g)) c s b := by
  have e := pay16_apply x xr
  refine Eq.trans ?_ (turn_eq (unturned (rowB x a) (rowB xr a) (gain g)) c s b
    (Scalar.select (IntOp.cmpi CmpIPredicate.slt (BitVec.ofNat 32 b.val) 32#32)
      (unturned (rowB x a) (rowB xr a) (gain g) ⟨(b.val + 128 - 96) % 128, by omega⟩)
      (unturned (rowB x a) (rowB xr a) (gain g) ⟨(b.val + 128 - 32) % 128, by omega⟩)) ?_ ?_)
  · rw [← hc, ← hs]
    unfold k0_pay18 k0_pay15 k0_pay3 k0_pay4 unturned
    generalize k0_pay16 x xr = r at *
    pointwise
    simp only [e]
    rfl
  · intro h
    rw [low b h]
    exact congrArg (unturned _ _ _) (Fin.ext (by simp only; omega))
  · intro h
    rw [high b h]
    exact congrArg (unturned _ _ _) (Fin.ext (by simp only; omega))

end Cert.Queries

end
-- ==== Proof.QueriesRef.lean ====
/- The queries' norm and rotary turn by the reference, read at an index. -/
module

public import proofs.«01_k».proof.Proof.Gen.Reference37Ideal.Read
public import proofs.«01_k».proof.Proof.Turn
public import Idealize.ShloMosaic.Lib.Pipeline.ValueKit

@[expose] public section

set_option maxRecDepth 16384

noncomputable section

namespace Cert.Queries

open Idealize.ShloMosaic Cert.Reference37Ideal Cert.Reference37Ideal.Read Cert.Turn

/-- A head's lanes without turn. -/
def rowN (x : Vec Ideal S4608x2048 .bf16) (r : Fin 4608) (h : Fin 8) (k : Fin 128) : EReal :=
  x (ix2 r ⟨h.val * 128 + k.val, by omega⟩)
/-- A head's lanes that turn. -/
def rowR (x : Vec Ideal S4608x2048 .bf16) (r : Fin 4608) (h : Fin 8) (k : Fin 128) : EReal :=
  x (ix2 r ⟨1024 + (h.val * 128 + k.val), by omega⟩)
/-- A gain. -/
abbrev gain' (g : Vec Ideal S1x128 .f32) : Lanes := fun k => g (ix2 0 k)
/-- A row of the cosines or of the sines. -/
abbrev rowP (x : Vec Ideal S4608x32 .f32) (r : Fin 4608) : Pairs := fun k => x (ix2 r k)

variable (x : Vec Ideal S4608x2048 .bf16)

/-- The first half of a head. -/
theorem v3_at (r : Fin 4608) (h : Fin 8) (k : Fin 128) : val_main_v3 (F := Ideal) x (ix3 r h k) = rowN x r h k := by
  unfold val_main_v3 val_main_v1 val_main_v0 rowN
  pointwise
/-- The second half of a head. -/
theorem v4_at (r : Fin 4608) (h : Fin 8) (k : Fin 128) : val_main_v4 (F := Ideal) x (ix3 r h k) = rowR x r h k := by
  unfold val_main_v4 val_main_v2 val_main_v0 rowR
  pointwise
/-- A head, its halves joined. -/
theorem v5_n (r : Fin 4608) (h : Fin 8) (k : Fin 128) : val_main_v5 (F := Ideal) x (ix3 r h ⟨k.val, by omega⟩) = rowN x r h k := by
  rw [← v3_at]
  unfold val_main_v5
  generalize val_main_v3 (F := Ideal) x = y
  generalize val_main_v4 (F := Ideal) x = z
  pointwise
/-- A head, its halves joined. -/
theorem v5_r (r : Fin 4608) (h : Fin 8) (k : Fin 128) : val_main_v5 (F := Ideal) x (ix3 r h ⟨128 + k.val, by omega⟩) = rowR x r h k := by
  rw [← v4_at]
  unfold val_main_v5
  generalize val_main_v3 (F := Ideal) x = y
  generalize val_main_v4 (F := Ideal) x = z
  pointwise
/-- The inverse root of a head's mean square. -/
theorem v13_at (r : Fin 4608) (h : Fin 8) (z : Fin 1) : val_main_v13 (F := Ideal) x (ix3 r h z) = invRoot (rowN x r h) (rowR x r h) := by
  have e : ∑ k : Fin 256, val_main_v5 (F := Ideal) x (ix3 r h k) * val_main_v5 (F := Ideal) x (ix3 r h k)
      = ∑ k, rowN x r h k * rowN x r h k + ∑ k, rowR x r h k * rowR x r h k := by
    refine (Fin.sum_univ_add (a := 128) (b := 128) _).trans (congrArg₂ _ ?_ ?_)
    · exact Finset.sum_congr rfl fun k _ => by rw [← v5_n]; rfl
    · exact Finset.sum_congr rfl fun k _ => by rw [← v5_r]; rfl
  unfold invRoot Norm.eps
  rw [← e]
  unfold val_main_v13 val_main_v12 val_main_v11 val_main_v10 val_main_v9 val_main_v8 val_main_v7 val_main_v6 val_main_cst val_main_cst_0 val_main_cst_1
  generalize val_main_v5 (F := Ideal) x = y
  pointwise

variable (g gr : Vec Ideal S1x128 .f32)

/-- A head's first half, normalised. -/
theorem v20_at (r : Fin 4608) (h : Fin 8) (k : Fin 128) :
    val_main_v20 (F := Ideal) x g gr (ix3 r h k) = flat (rowN x r h) (rowR x r h) (gain' g) k := by
  unfold flat
  rw [← v5_n, ← v13_at x r h 0]
  unfold val_main_v20 val_main_v19 val_main_v15 val_main_v14 val_main_v18 val_main_v17 val_main_v16
  generalize val_main_v5 (F := Ideal) x = y
  generalize val_main_v13 (F := Ideal) x = z
  pointwise
/-- A head's second half, normalised. -/
theorem v21_at (r : Fin 4608) (h : Fin 8) (k : Fin 128) :
    val_main_v21 (F := Ideal) x g gr (ix3 r h k) = unturned (rowN x r h) (rowR x r h) (gain' gr) k := by
  unfold unturned
  rw [← v5_r, ← v13_at x r h 0]
  unfold val_main_v21 val_main_v19 val_main_v15 val_main_v14 val_main_v18 val_main_v17 val_main_v16
  generalize val_main_v5 (F := Ideal) x = y
  generalize val_main_v13 (F := Ideal) x = z
  pointwise

variable (c s : Vec Ideal S4608x32 .f32)

/-- A head's second half, turned. -/
theorem v38_at (r : Fin 4608) (h : Fin 8) (k : Fin 128) :
    val_main_v38 (F := Ideal) x g gr c s (ix3 r h k) = turn (unturned (rowN x r h) (rowR x r h) (gain' gr)) (rowP c r) (rowP s r) k := by
  have e : unturned (rowN x r h) (rowR x r h) (gain' gr) = fun k => val_main_v21 (F := Ideal) x g gr (ix3 r h k) :=
    funext fun k => (v21_at x g gr r h k).symm
  rw [e]
  unfold val_main_v38 val_main_v37 val_main_cst_2 val_main_v36 val_main_v35 val_main_v34 val_main_v33 val_main_v32 val_main_v31 val_main_v30 val_main_v29 val_main_v28 val_main_v27 val_main_v25 val_main_v24 val_main_v23 val_main_v22
  generalize val_main_v21 (F := Ideal) x g gr = y
  unfold turn rowP
  pointwise
  split
  · rfl
  · next h =>
    split
    · refine congrArg (_ + ·) (congrArg (y · * _) (congrArg (ix3 r _) (Fin.ext ?_)))
      simp only
      omega
    · rfl

/-- The reference's result: the columns without turn. -/
theorem v41_n (r : Fin 4608) (h : Fin 8) (k : Fin 128) : val_main_v41 (F := Ideal) x g gr c s (ix2 r ⟨256 * h.val + k.val, by omega⟩)
    = flat (rowN x r h) (rowR x r h) (gain' g) k := by
  rw [← v20_at x g gr]
  unfold val_main_v41 val_main_v40 val_main_v39
  generalize val_main_v20 (F := Ideal) x g gr = y
  generalize val_main_v38 (F := Ideal) x g gr c s = z
  pointwise
  have hk := k.isLt
  have e : (256 * h.val + k.val) % 256 = k.val := by omega
  rw [dif_pos (by omega)]
  exact congrArg y (congrArg (ix3 r h) (Fin.ext e))
/-- The reference's result: the columns that turn. -/
theorem v41_r (r : Fin 4608) (h : Fin 8) (k : Fin 128) : val_main_v41 (F := Ideal) x g gr c s (ix2 r ⟨256 * h.val + (128 + k.val), by omega⟩)
    = turn (unturned (rowN x r h) (rowR x r h) (gain' gr)) (rowP c r) (rowP s r) k := by
  rw [← v38_at x g gr]
  unfold val_main_v41 val_main_v40 val_main_v39
  generalize val_main_v20 (F := Ideal) x g gr = y
  generalize val_main_v38 (F := Ideal) x g gr c s = z
  pointwise
  have hk := k.isLt
  have e : (256 * h.val + (128 + k.val)) % 256 - 128 = k.val := by omega
  rw [dif_neg (by omega)]
  exact congrArg z (congrArg (ix3 r h) (Fin.ext e))

end Cert.Queries

end
-- ==== Proof.Queries.lean ====
/- The queries' norm and rotary turn: the kernel's array is the reference's. -/
module

public import proofs.«01_k».proof.Proof.QueriesPoint
public import proofs.«01_k».proof.Proof.QueriesRef
public import Idealize.ShloMosaic.Lib.Pipeline.ReadBack
public import Idealize.ShloMosaic.Lib.StableHlo.ReadAt

@[expose] public section

set_option maxRecDepth 16384

noncomputable section

namespace Cert.Queries

open Idealize.ShloMosaic Cert.Kernel37Ideal Cert.Kernel37Ideal.Gen Idealize.ShloMosaic.TcCoe
open Cert.Reference37Ideal.Read Cert.Turn

variable (m : (ℓ : Loc nD τ sig) → Buf (Elt Ideal) ℓ) (c : Dev nD)

/-- The windows' block indices. -/
theorem idx : ∀ t : Fin cfg0.N, win0_0.index t = ![t.val, 0]
    ∧ win0_1.index t = ![t.val, 1]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

/-- The queries. -/
abbrev xA : Vec Ideal S4608x2048 .bf16 := m ((c : Thread nD τ).loc main_arg0)
/-- The gain of the lanes without turn. -/
abbrev gN : Vec Ideal S1x128 .f32 := m ((c : Thread nD τ).loc main_arg1)
/-- The gain of the lanes that turn. -/
abbrev gR : Vec Ideal S1x128 .f32 := m ((c : Thread nD τ).loc main_arg2)
/-- The cosines. -/
abbrev cA : Vec Ideal S4608x32 .f32 := m ((c : Thread nD τ).loc main_arg3)
/-- The sines. -/
abbrev sA : Vec Ideal S4608x32 .f32 := m ((c : Thread nD τ).loc main_arg4)

/-- The row of the array a row of a block is. -/
def row (t : Fin cfg0.N) (a : Fin 512) : Fin 4608 := ⟨512 * t.val + a.val, by have : t.val < 9 := t.isLt; omega⟩

/-- A head's lanes without turn, as a point reads them. -/
theorem blk_n (t : Fin cfg0.N) (h : Fin 8) (o : ℕ) (ho : o = 128 * h.val) (i) (a : Fin 512) :
    rowB (View.ld (iblk m c 0 t) (Rect.unit (s := S512x1024) ![0, o] ![512, 128] i)) a = rowN (xA m c) (row t a) h := by
  subst ho
  funext k
  unfold rowB rowN row
  pointwise
  blk_point [iblk, V, idx t]
/-- A head's lanes that turn, as a point reads them. -/
theorem blk_r (t : Fin cfg0.N) (h : Fin 8) (o : ℕ) (ho : o = 128 * h.val) (i) (a : Fin 512) :
    rowB (View.ld (iblk m c 1 t) (Rect.unit (s := S512x1024) ![0, o] ![512, 128] i)) a = rowR (xA m c) (row t a) h := by
  subst ho
  funext k
  unfold rowB rowR row
  pointwise
  blk_point [iblk, V, idx t]
/-- The gain of the lanes without turn, as a point reads it. -/
theorem blk_gn (t : Fin cfg0.N) : gain (iblk m c 2 t) = gain' (gN m c) := by
  funext k
  unfold gain gain'
  blk_point [iblk, V, idx t]
/-- The gain of the lanes that turn, as a point reads it. -/
theorem blk_gr (t : Fin cfg0.N) : gain (iblk m c 3 t) = gain' (gR m c) := by
  funext k
  unfold gain gain'
  blk_point [iblk, V, idx t]

/-- The first table. -/
theorem tab_c (r : Fin 4608) (k : Fin 128) : (V m c main_v1 : Vec Ideal S4608x128 .f32) (ix2 r k) = table (rowP (cA m c) r) (rowP (cA m c) r) k := by
  unfold V
  after_reads_at
  after_reads_at
  rfl
/-- The second table. -/
theorem tab_s (r : Fin 4608) (k : Fin 128) : (V m c main_v3 : Vec Ideal S4608x128 .f32) (ix2 r k) = table (fun i => -rowP (sA m c) r i) (rowP (sA m c) r) k := by
  unfold V
  after_reads_at
  after_reads_at
  rfl
/-- The first table, as a point reads it. -/
theorem blk_c (t : Fin cfg0.N) (a : Fin 512) (k : Fin 128) :
    (iblk m c 4 t : Vec Ideal S512x128 .f32) (ix2 a k) = table (rowP (cA m c) (row t a)) (rowP (cA m c) (row t a)) k := by
  rw [← tab_c]
  unfold row
  blk_point [iblk, idx t]
/-- The second table, as a point reads it. -/
theorem blk_s (t : Fin cfg0.N) (a : Fin 512) (k : Fin 128) :
    (iblk m c 5 t : Vec Ideal S512x128 .f32) (ix2 a k) = table (fun i => -rowP (sA m c) (row t a) i) (rowP (sA m c) (row t a)) k := by
  rw [← tab_s]
  unfold row
  blk_point [iblk, idx t]

/-- The columns without turn of a head of a point's block. -/
theorem tile_n (t : Fin cfg0.N) (h : Fin 8) (o : ℕ) (ho : o = 128 * h.val) (i) (x : S512x128.Idx) (y : S512x2048.Idx)
    (e0 : (y 0).val = (x 0).val) (e1 : (y 1).val = 256 * h.val + (x 1).val) :
    k0_pay17 (iblk m c 2 t) (View.ld (iblk m c 0 t) (Rect.unit (s := S512x1024) ![0, o] ![512, 128] i))
        (View.ld (iblk m c 1 t) (Rect.unit (s := S512x1024) ![0, o] ![512, 128] i)) x
      = val_main_v41 (F := Ideal) (xA m c) (gN m c) (gR m c) (cA m c) (sA m c) (ix2 (row t (y 0)) (y 1)) := by
  obtain ⟨p, q, rfl⟩ : ∃ (p : Fin 512) (q : Fin 128), x = ix2 p q := ⟨_, _, (ix2_eta x).symm⟩
  refine (pay17_apply _ _ _ p q).trans ?_
  rw [blk_n m c t h o ho, blk_r m c t h o ho, blk_gn]
  refine (v41_n (xA m c) (gN m c) (gR m c) (cA m c) (sA m c) (row t p) h q).symm.trans ?_
  exact congrArg _ (congrArg₂ ix2 (congrArg (row t) (Fin.ext e0.symm)) (Fin.ext e1.symm))

/-- The columns that turn of a head of a point's block. -/
theorem tile_r (t : Fin cfg0.N) (h : Fin 8) (o : ℕ) (ho : o = 128 * h.val) (i) (x : S512x128.Idx) (y : S512x2048.Idx)
    (e0 : (y 0).val = (x 0).val) (e1 : (y 1).val = 256 * h.val + (128 + (x 1).val)) :
    k0_pay18 (k0_pay3 (iblk m c 4 t)) (k0_pay4 (iblk m c 5 t)) (iblk m c 3 t)
        (View.ld (iblk m c 0 t) (Rect.unit (s := S512x1024) ![0, o] ![512, 128] i))
        (View.ld (iblk m c 1 t) (Rect.unit (s := S512x1024) ![0, o] ![512, 128] i)) x
      = val_main_v41 (F := Ideal) (xA m c) (gN m c) (gR m c) (cA m c) (sA m c) (ix2 (row t (y 0)) (y 1)) := by
  obtain ⟨p, q, rfl⟩ : ∃ (p : Fin 512) (q : Fin 128), x = ix2 p q := ⟨_, _, (ix2_eta x).symm⟩
  refine (pay18_apply _ _ _ _ _ _ _ p q (blk_c m c t p q) (blk_s m c t p q)).trans ?_
  rw [blk_n m c t h o ho, blk_r m c t h o ho, blk_gr]
  refine (v41_r (xA m c) (gN m c) (gR m c) (cA m c) (sA m c) (row t p) h q).symm.trans ?_
  exact congrArg _ (congrArg₂ ix2 (congrArg (row t) (Fin.ext e0.symm)) (Fin.ext e1.symm))

/-- The array of the queries, normalised and turned. -/
theorem final : (dats m 0 c).arrAt 6 cfg0.N
    = val_main_v41 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  have e : (win0_6.blk t).view.emb y = ix2 (row t (y 0)) (y 1) := by
    unfold row
    blk_ext [idx t]
  rw [e]
  unfold_out out0_6
  frame_out
  canon_tiles x h using (View.cover_of_tiledBy _ ![512, 128] (by sl_kernel_rfl) _)
  · exact tile_r m c t 7 896 rfl _ x y h0 (h1.trans (by omega))
  · exact tile_n m c t 7 896 rfl _ x y h0 (h1.trans (by omega))
  · exact tile_r m c t 6 768 rfl _ x y h0 (h1.trans (by omega))
  · exact tile_n m c t 6 768 rfl _ x y h0 (h1.trans (by omega))
  · exact tile_r m c t 5 640 rfl _ x y h0 (h1.trans (by omega))
  · exact tile_n m c t 5 640 rfl _ x y h0 (h1.trans (by omega))
  · exact tile_r m c t 4 512 rfl _ x y h0 (h1.trans (by omega))
  · exact tile_n m c t 4 512 rfl _ x y h0 (h1.trans (by omega))
  · exact tile_r m c t 3 384 rfl _ x y h0 (h1.trans (by omega))
  · exact tile_n m c t 3 384 rfl _ x y h0 (h1.trans (by omega))
  · exact tile_r m c t 2 256 rfl _ x y h0 (h1.trans (by omega))
  · exact tile_n m c t 2 256 rfl _ x y h0 (h1.trans (by omega))
  · exact tile_r m c t 1 128 rfl _ x y h0 (h1.trans (by omega))
  · exact tile_n m c t 1 128 rfl _ x y h0 (h1.trans (by omega))
  · exact tile_r m c t 0 0 rfl _ x y h0 (h1.trans (by omega))
  · exact tile_n m c t 0 0 rfl _ x y h0 (h1.trans (by omega))

end Cert.Queries

end
-- ==== Proof.KeysPoint.lean ====
/- The keys' norm and rotary turn: the kernel's payloads read at an index. -/
module

public import proofs.«01_k».proof.Proof.Gen.Kernel38Ideal.Value
public import proofs.«01_k».proof.Proof.Turn
public import Idealize.ShloMosaic.Lib.Pipeline.ValueKit

@[expose] public section

set_option maxRecDepth 16384

noncomputable section

namespace Cert.Keys

open Idealize.ShloMosaic Cert.Kernel38Ideal Cert.Kernel38Ideal.Gen Idealize.ShloMosaic.TcCoe Cert.Turn

/-- A row of a block. -/
abbrev rowB (x : S512x128.Idx → EReal) (a : Fin 512) : Lanes := fun k => x (ix2 a k)
/-- A gain. -/
abbrev gain (g : Vec Ideal S1x128 .f32) : Lanes := fun k => g (ix2 0 k)

variable (x : Vec Ideal S512x128 .bf16) (xr : Vec Ideal S512x128 .f32) (g : Vec Ideal S1x128 .f32)

/-- The inverse root. -/
theorem pay14_apply (j : S512x1.Idx) : k0_pay14 x xr j = invRoot (rowB x (j 0)) (rowB xr (j 0)) := by
  unfold k0_pay14 k0_pay13 invRoot Norm.eps
  pointwise

/-- The half without turn. -/
theorem pay15_apply (a : Fin 512) (b : Fin 128) : k0_pay15 g x xr (ix2 a b) = flat (rowB x a) (rowB xr a) (gain g) b := by
  have e := pay14_apply x xr
  unfold k0_pay15 k0_pay13 flat
  generalize k0_pay14 x xr = r at *
  pointwise
  simp only [e]
  rfl

/-- The mask of the first 32 lanes is set there. -/
theorem low : ∀ b : Fin 128, b.val < 32 → IntOp.cmpi CmpIPredicate.slt (BitVec.ofNat 32 b.val) 32#32 = 1#1 := by decide +kernel
/-- It is not set beyond. -/
theorem high : ∀ b : Fin 128, ¬ b.val < 32 → IntOp.cmpi CmpIPredicate.slt (BitVec.ofNat 32 b.val) 32#32 = 0#1 := by decide +kernel
/-- The half that turns. -/
theorem pay16_apply (cv sv : Vec Ideal S512x128 .f32) (c s : Pairs) (a : Fin 512) (b : Fin 128)
    (hc : cv (ix2 a b) = table c c b) (hs : sv (ix2 a b) = table (fun i => -s i) s b) :
    k0_pay16 (k0_pay2 cv) (k0_pay3 sv) g x xr (ix2 a b) = turn (unturned (rowB x a) (rowB xr a) (gain g)) c s b := by
  have e := pay14_apply x xr
  refine Eq.trans ?_ (turn_eq (unturned (rowB x a) (rowB xr a) (gain g)) c s b
    (Scalar.select (IntOp.cmpi CmpIPredicate.slt (BitVec.ofNat 32 b.val) 32#32)
      (unturned (rowB x a) (rowB xr a) (gain g) ⟨(b.val + 128 - 96) % 128, by omega⟩)
      (unturned (rowB x a) (rowB xr a) (gain g) ⟨(b.val + 128 - 32) % 128, by omega⟩)) ?_ ?_)
  · rw [← hc, ← hs]
    unfold k0_pay16 k0_pay2 k0_pay3 unturned
    generalize k0_pay14 x xr = r at *
    pointwise
    simp only [e]
    rfl
  · intro h
    rw [low b h]
    exact congrArg (unturned _ _ _) (Fin.ext (by simp only; omega))
  · intro h
    rw [high b h]
    exact congrArg (unturned _ _ _) (Fin.ext (by simp only; omega))

end Cert.Keys

end
-- ==== Proof.KeysRef.lean ====
/- The keys' norm and rotary turn by the reference, read at an index. -/
module

public import proofs.«01_k».proof.Proof.Gen.Reference38Ideal.Read
public import proofs.«01_k».proof.Proof.Turn
public import Idealize.ShloMosaic.Lib.Pipeline.ValueKit

@[expose] public section

set_option maxRecDepth 16384

noncomputable section

namespace Cert.Keys

open Idealize.ShloMosaic Cert.Reference38Ideal Cert.Reference38Ideal.Read Cert.Turn

/-- A head's lanes without turn. -/
def rowN (x : Vec Ideal S4608x2048 .bf16) (r : Fin 4608) (h : Fin 8) (k : Fin 128) : EReal :=
  x (ix2 r ⟨h.val * 128 + k.val, by omega⟩)
/-- The lanes that turn, the same for every head. -/
def rowR (d : Vec Ideal S4608x512 .f32) (r : Fin 4608) (k : Fin 128) : EReal := d (ix2 r ⟨384 + k.val, by omega⟩)
/-- A gain. -/
abbrev gain' (g : Vec Ideal S1x128 .f32) : Lanes := fun k => g (ix2 0 k)
/-- A row of the cosines or of the sines. -/
abbrev rowP (x : Vec Ideal S4608x32 .f32) (r : Fin 4608) : Pairs := fun k => x (ix2 r k)

variable (x : Vec Ideal S4608x2048 .bf16) (d : Vec Ideal S4608x512 .f32)

/-- The first half of a head. -/
theorem v2_at (r : Fin 4608) (h : Fin 8) (k : Fin 128) : val_main_v2 (F := Ideal) x (ix3 r h k) = rowN x r h k := by
  unfold val_main_v2 val_main_v1 val_main_v0 rowN
  pointwise
/-- The second half of a head. -/
theorem v5_at (r : Fin 4608) (h : Fin 8) (k : Fin 128) : val_main_v5 (F := Ideal) d (ix3 r h k) = rowR d r k := by
  unfold val_main_v5 val_main_v4 val_main_v3 rowR
  pointwise
/-- A head, its halves joined. -/
theorem v6_n (r : Fin 4608) (h : Fin 8) (k : Fin 128) : val_main_v6 (F := Ideal) x d (ix3 r h ⟨k.val, by omega⟩) = rowN x r h k := by
  rw [← v2_at]
  unfold val_main_v6
  generalize val_main_v2 (F := Ideal) x = y
  generalize val_main_v5 (F := Ideal) d = z
  pointwise
/-- A head, its halves joined. -/
theorem v6_r (r : Fin 4608) (h : Fin 8) (k : Fin 128) : val_main_v6 (F := Ideal) x d (ix3 r h ⟨128 + k.val, by omega⟩) = rowR d r k := by
  rw [← v5_at d r h]
  unfold val_main_v6
  generalize val_main_v2 (F := Ideal) x = y
  generalize val_main_v5 (F := Ideal) d = z
  pointwise
/-- The inverse root of a head's mean square. -/
theorem v14_at (r : Fin 4608) (h : Fin 8) (z : Fin 1) : val_main_v14 (F := Ideal) x d (ix3 r h z) = invRoot (rowN x r h) (rowR d r) := by
  have e : ∑ k : Fin 256, val_main_v6 (F := Ideal) x d (ix3 r h k) * val_main_v6 (F := Ideal) x d (ix3 r h k)
      = ∑ k, rowN x r h k * rowN x r h k + ∑ k, rowR d r k * rowR d r k := by
    refine (Fin.sum_univ_add (a := 128) (b := 128) _).trans (congrArg₂ _ ?_ ?_)
    · exact Finset.sum_congr rfl fun k _ => by rw [← v6_n]; rfl
    · exact Finset.sum_congr rfl fun k _ => by rw [← v6_r x d r h]; rfl
  unfold invRoot Norm.eps
  rw [← e]
  unfold val_main_v14 val_main_v13 val_main_v12 val_main_v11 val_main_v10 val_main_v9 val_main_v8 val_main_v7 val_main_cst val_main_cst_0 val_main_cst_1
  generalize val_main_v6 (F := Ideal) x d = y
  pointwise

variable (g gr : Vec Ideal S1x128 .f32)

/-- A head's first half, normalised. -/
theorem v21_at (r : Fin 4608) (h : Fin 8) (k : Fin 128) :
    val_main_v21 (F := Ideal) x d g gr (ix3 r h k) = flat (rowN x r h) (rowR d r) (gain' g) k := by
  unfold flat
  rw [← v6_n, ← v14_at x d r h 0]
  unfold val_main_v21 val_main_v20 val_main_v16 val_main_v15 val_main_v19 val_main_v18 val_main_v17
  generalize val_main_v6 (F := Ideal) x d = y
  generalize val_main_v14 (F := Ideal) x d = z
  pointwise
/-- A head's second half, normalised. -/
theorem v22_at (r : Fin 4608) (h : Fin 8) (k : Fin 128) :
    val_main_v22 (F := Ideal) x d g gr (ix3 r h k) = unturned (rowN x r h) (rowR d r) (gain' gr) k := by
  unfold unturned
  rw [← v6_r x d r h, ← v14_at x d r h 0]
  unfold val_main_v22 val_main_v20 val_main_v16 val_main_v15 val_main_v19 val_main_v18 val_main_v17
  generalize val_main_v6 (F := Ideal) x d = y
  generalize val_main_v14 (F := Ideal) x d = z
  pointwise

variable (c s : Vec Ideal S4608x32 .f32)

/-- A head's second half, turned. -/
theorem v39_at (r : Fin 4608) (h : Fin 8) (k : Fin 128) :
    val_main_v39 (F := Ideal) x d g gr c s (ix3 r h k) = turn (unturned (rowN x r h) (rowR d r) (gain' gr)) (rowP c r) (rowP s r) k := by
  have e : unturned (rowN x r h) (rowR d r) (gain' gr) = fun k => val_main_v22 (F := Ideal) x d g gr (ix3 r h k) :=
    funext fun k => (v22_at x d g gr r h k).symm
  rw [e]
  unfold val_main_v39 val_main_v38 val_main_cst_2 val_main_v37 val_main_v36 val_main_v35 val_main_v34 val_main_v33 val_main_v32 val_main_v31 val_main_v30 val_main_v29 val_main_v28 val_main_v26 val_main_v25 val_main_v24 val_main_v23
  generalize val_main_v22 (F := Ideal) x d g gr = y
  unfold turn rowP
  pointwise
  split
  · rfl
  · next h =>
    split
    · refine congrArg (_ + ·) (congrArg (y · * _) (congrArg (ix3 r _) (Fin.ext ?_)))
      simp only
      omega
    · rfl

/-- The reference's result: the columns without turn. -/
theorem v42_n (r : Fin 4608) (h : Fin 8) (k : Fin 128) : val_main_v42 (F := Ideal) x d g gr c s (ix2 r ⟨256 * h.val + k.val, by omega⟩)
    = flat (rowN x r h) (rowR d r) (gain' g) k := by
  rw [← v21_at x d g gr]
  unfold val_main_v42 val_main_v41 val_main_v40
  generalize val_main_v21 (F := Ideal) x d g gr = y
  generalize val_main_v39 (F := Ideal) x d g gr c s = z
  pointwise
  have hk := k.isLt
  have e : (256 * h.val + k.val) % 256 = k.val := by omega
  rw [dif_pos (by omega)]
  exact congrArg y (congrArg (ix3 r h) (Fin.ext e))
/-- The reference's result: the columns that turn. -/
theorem v42_r (r : Fin 4608) (h : Fin 8) (k : Fin 128) : val_main_v42 (F := Ideal) x d g gr c s (ix2 r ⟨256 * h.val + (128 + k.val), by omega⟩)
    = turn (unturned (rowN x r h) (rowR d r) (gain' gr)) (rowP c r) (rowP s r) k := by
  rw [← v39_at x d g gr]
  unfold val_main_v42 val_main_v41 val_main_v40
  generalize val_main_v21 (F := Ideal) x d g gr = y
  generalize val_main_v39 (F := Ideal) x d g gr c s = z
  pointwise
  have hk := k.isLt
  have e : (256 * h.val + (128 + k.val)) % 256 - 128 = k.val := by omega
  rw [dif_neg (by omega)]
  exact congrArg z (congrArg (ix3 r h) (Fin.ext e))

end Cert.Keys

end
-- ==== Proof.Keys.lean ====
/- The keys' norm and rotary turn: the kernel's array is the reference's. -/
module

public import proofs.«01_k».proof.Proof.KeysPoint
public import proofs.«01_k».proof.Proof.KeysRef
public import Idealize.ShloMosaic.Lib.Pipeline.ReadBack
public import Idealize.ShloMosaic.Lib.StableHlo.ReadAt

@[expose] public section

set_option maxRecDepth 16384

noncomputable section

namespace Cert.Keys

open Idealize.ShloMosaic Cert.Kernel38Ideal Cert.Kernel38Ideal.Gen Idealize.ShloMosaic.TcCoe
open Cert.Reference38Ideal.Read Cert.Turn

variable (m : (ℓ : Loc nD τ sig) → Buf (Elt Ideal) ℓ) (c : Dev nD)

/-- The windows' block indices. -/
theorem idx : ∀ t : Fin cfg0.N, win0_0.index t = ![t.val, 0]
    ∧ win0_1.index t = ![t.val, 3]
    ∧ win0_2.index t = ![0, 0]
    ∧ win0_3.index t = ![0, 0]
    ∧ win0_4.index t = ![t.val, 0]
    ∧ win0_5.index t = ![t.val, 0]
    ∧ win0_6.index t = ![t.val, 0] :=
  (by decide +kernel : ∀ t : Fin grid0.N, _)

/-- The keys and values, expanded from their latents. -/
abbrev xA : Vec Ideal S4608x2048 .bf16 := m ((c : Thread nD τ).loc main_arg0)
/-- The latents, whose last lanes turn. -/
abbrev dA : Vec Ideal S4608x512 .f32 := m ((c : Thread nD τ).loc main_arg1)
/-- The gain of the lanes without turn. -/
abbrev gN : Vec Ideal S1x128 .f32 := m ((c : Thread nD τ).loc main_arg2)
/-- The gain of the lanes that turn. -/
abbrev gR : Vec Ideal S1x128 .f32 := m ((c : Thread nD τ).loc main_arg3)
/-- The cosines. -/
abbrev cA : Vec Ideal S4608x32 .f32 := m ((c : Thread nD τ).loc main_arg4)
/-- The sines. -/
abbrev sA : Vec Ideal S4608x32 .f32 := m ((c : Thread nD τ).loc main_arg5)

/-- The row of the array a row of a block is. -/
def row (t : Fin cfg0.N) (a : Fin 512) : Fin 4608 := ⟨512 * t.val + a.val, by have : t.val < 9 := t.isLt; omega⟩

/-- A head's lanes without turn, as a point reads them. -/
theorem blk_n (t : Fin cfg0.N) (h : Fin 8) (o : ℕ) (ho : o = 128 * h.val) (i) (a : Fin 512) :
    rowB (View.ld (iblk m c 0 t) (Rect.unit (s := S512x1024) ![0, o] ![512, 128] i)) a = rowN (xA m c) (row t a) h := by
  subst ho
  funext k
  unfold rowB rowN row
  pointwise
  blk_point [iblk, V, idx t]
/-- The lanes that turn, as a point reads them. -/
theorem blk_r (t : Fin cfg0.N) (a : Fin 512) : rowB (iblk m c 1 t : Vec Ideal S512x128 .f32) a = rowR (dA m c) (row t a) := by
  funext k
  unfold rowB rowR row
  blk_point [iblk, V, idx t]
/-- The gain of the lanes without turn, as a point reads it. -/
theorem blk_gn (t : Fin cfg0.N) : gain (iblk m c 2 t) = gain' (gN m c) := by
  funext k
  unfold gain gain'
  blk_point [iblk, V, idx t]
/-- The gain of the lanes that turn, as a point reads it. -/
theorem blk_gr (t : Fin cfg0.N) : gain (iblk m c 3 t) = gain' (gR m c) := by
  funext k
  unfold gain gain'
  blk_point [iblk, V, idx t]

/-- The first table. -/
theorem tab_c (r : Fin 4608) (k : Fin 128) : (V m c main_v1 : Vec Ideal S4608x128 .f32) (ix2 r k) = table (rowP (cA m c) r) (rowP (cA m c) r) k := by
  unfold V
  after_reads_at
  after_reads_at
  rfl
/-- The second table. -/
theorem tab_s (r : Fin 4608) (k : Fin 128) : (V m c main_v3 : Vec Ideal S4608x128 .f32) (ix2 r k) = table (fun i => -rowP (sA m c) r i) (rowP (sA m c) r) k := by
  unfold V
  after_reads_at
  after_reads_at
  rfl
/-- The first table, as a point reads it. -/
theorem blk_c (t : Fin cfg0.N) (a : Fin 512) (k : Fin 128) :
    (iblk m c 4 t : Vec Ideal S512x128 .f32) (ix2 a k) = table (rowP (cA m c) (row t a)) (rowP (cA m c) (row t a)) k := by
  rw [← tab_c]
  unfold row
  blk_point [iblk, idx t]
/-- The second table, as a point reads it. -/
theorem blk_s (t : Fin cfg0.N) (a : Fin 512) (k : Fin 128) :
    (iblk m c 5 t : Vec Ideal S512x128 .f32) (ix2 a k) = table (fun i => -rowP (sA m c) (row t a) i) (rowP (sA m c) (row t a)) k := by
  rw [← tab_s]
  unfold row
  blk_point [iblk, idx t]

/-- The columns without turn of a head of a point's block. -/
theorem tile_n (t : Fin cfg0.N) (h : Fin 8) (o : ℕ) (ho : o = 128 * h.val) (i) (x : S512x128.Idx) (y : S512x2048.Idx)
    (e0 : (y 0).val = (x 0).val) (e1 : (y 1).val = 256 * h.val + (x 1).val) :
    k0_pay15 (iblk m c 2 t) (View.ld (iblk m c 0 t) (Rect.unit (s := S512x1024) ![0, o] ![512, 128] i)) (iblk m c 1 t) x
      = val_main_v42 (F := Ideal) (xA m c) (dA m c) (gN m c) (gR m c) (cA m c) (sA m c) (ix2 (row t (y 0)) (y 1)) := by
  obtain ⟨p, q, rfl⟩ : ∃ (p : Fin 512) (q : Fin 128), x = ix2 p q := ⟨_, _, (ix2_eta x).symm⟩
  refine (pay15_apply _ _ _ p q).trans ?_
  rw [blk_n m c t h o ho, blk_r, blk_gn]
  refine (v42_n (xA m c) (dA m c) (gN m c) (gR m c) (cA m c) (sA m c) (row t p) h q).symm.trans ?_
  exact congrArg _ (congrArg₂ ix2 (congrArg (row t) (Fin.ext e0.symm)) (Fin.ext e1.symm))

/-- The columns that turn of a head of a point's block. -/
theorem tile_r (t : Fin cfg0.N) (h : Fin 8) (o : ℕ) (ho : o = 128 * h.val) (i) (x : S512x128.Idx) (y : S512x2048.Idx)
    (e0 : (y 0).val = (x 0).val) (e1 : (y 1).val = 256 * h.val + (128 + (x 1).val)) :
    k0_pay16 (k0_pay2 (iblk m c 4 t)) (k0_pay3 (iblk m c 5 t)) (iblk m c 3 t)
        (View.ld (iblk m c 0 t) (Rect.unit (s := S512x1024) ![0, o] ![512, 128] i)) (iblk m c 1 t) x
      = val_main_v42 (F := Ideal) (xA m c) (dA m c) (gN m c) (gR m c) (cA m c) (sA m c) (ix2 (row t (y 0)) (y 1)) := by
  obtain ⟨p, q, rfl⟩ : ∃ (p : Fin 512) (q : Fin 128), x = ix2 p q := ⟨_, _, (ix2_eta x).symm⟩
  refine (pay16_apply _ _ _ _ _ _ _ p q (blk_c m c t p q) (blk_s m c t p q)).trans ?_
  rw [blk_n m c t h o ho, blk_r, blk_gr]
  refine (v42_r (xA m c) (dA m c) (gN m c) (gR m c) (cA m c) (sA m c) (row t p) h q).symm.trans ?_
  exact congrArg _ (congrArg₂ ix2 (congrArg (row t) (Fin.ext e0.symm)) (Fin.ext e1.symm))

/-- The array of the keys, normalised and turned. -/
theorem final : (dats m 0 c).arrAt 6 cfg0.N
    = val_main_v42 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have e : (win0_6.blk t).view.emb y = ix2 (row t (y 0)) (y 1) := by
    unfold row
    blk_ext [idx t]
  rw [e]
  unfold_out out0_6
  frame_out
  canon_tiles x h using (View.cover_of_tiledBy _ ![512, 128] (by sl_kernel_rfl) _)
  · exact tile_r m c t 7 896 rfl _ x y h0 (h1.trans (by omega))
  · exact tile_n m c t 7 896 rfl _ x y h0 (h1.trans (by omega))
  · exact tile_r m c t 6 768 rfl _ x y h0 (h1.trans (by omega))
  · exact tile_n m c t 6 768 rfl _ x y h0 (h1.trans (by omega))
  · exact tile_r m c t 5 640 rfl _ x y h0 (h1.trans (by omega))
  · exact tile_n m c t 5 640 rfl _ x y h0 (h1.trans (by omega))
  · exact tile_r m c t 4 512 rfl _ x y h0 (h1.trans (by omega))
  · exact tile_n m c t 4 512 rfl _ x y h0 (h1.trans (by omega))
  · exact tile_r m c t 3 384 rfl _ x y h0 (h1.trans (by omega))
  · exact tile_n m c t 3 384 rfl _ x y h0 (h1.trans (by omega))
  · exact tile_r m c t 2 256 rfl _ x y h0 (h1.trans (by omega))
  · exact tile_n m c t 2 256 rfl _ x y h0 (h1.trans (by omega))
  · exact tile_r m c t 1 128 rfl _ x y h0 (h1.trans (by omega))
  · exact tile_n m c t 1 128 rfl _ x y h0 (h1.trans (by omega))
  · exact tile_r m c t 0 0 rfl _ x y h0 (h1.trans (by omega))
  · exact tile_n m c t 0 0 rfl _ x y h0 (h1.trans (by omega))

end Cert.Keys

end
-- ==== Proof.Turns.lean ====
/- The claims about the norms and rotary turns of the queries and the keys: each reference's run and frame, and each kernel's arrays against them. -/
module

public import proofs.«01_k».proof.Defs
public import proofs.«01_k».proof.Proof.Gen.Kernel37
public import proofs.«01_k».proof.Proof.Gen.Kernel37.Frame
public import proofs.«01_k».proof.Proof.Gen.Kernel37Ideal
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.Gen.Kernel38
public import proofs.«01_k».proof.Proof.Gen.Kernel38.Frame
public import proofs.«01_k».proof.Proof.Gen.Kernel38Ideal
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.Queries
public import proofs.«01_k».proof.Proof.Keys
public import Idealize.ShloMosaic.Lib.Quiescent
public import Idealize.ShloMosaic.Adequacy
public import Idealize.ShloMosaic.Init

@[expose] public section

noncomputable section

namespace Cert.Proof

open Idealize.ShloMosaic Idealize.SL.Sem

open Cert.Reference37Ideal in
/-- The reference of the queries' norm and rotary turn runs, keeps its arguments, and has no counter to leave raised. -/
theorem frame_reference37
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
        ∧ r.2.sem = fun _ => 0) :=
  (θ_run defs _ _).mono (fun r h => ⟨fun c => (h c).2, sem_eq_zero_of_no_sems (by decide) r.2⟩)
    (Cert.Reference37Ideal.Value.run (F := Ideal) m g)

open Cert.Reference37Ideal in
/-- The results of the reference of the queries' norm and rotary turn, as functions of its argument arrays. -/
theorem run_reference37
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v41) = Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) :=
  (θ_run defs _ _).mono (fun r h c =>
    ⟨(h c).1.trans (Read.val_main_v41_eq (F := Ideal) _ _),
      (h c).2⟩)
    (Cert.Reference37Ideal.Value.run (F := Ideal) m g)

/-- The kernel of the queries' norm and rotary turn computes what its reference does. -/
theorem algebraic37 : Cert.algebraic_Kernel37Ideal_Reference37Ideal := by
  intro m g m' g' hpre hagree
  refine ⟨fun c => (Cert.Kernel37Ideal.Gen.dats m 0 c).arrAt 6 Cert.Kernel37Ideal.cfg0.N,
    Cert.Kernel37Ideal.Value.run_blocks (F := Ideal) m g, ?_⟩
  refine (θ_run Cert.Reference37Ideal.defs _ _).mono (fun r h c => ?_) (run_reference37 m' g')
  obtain ⟨e0, e1, e2, e3, e4⟩ := hagree c
  obtain ⟨h0, hargs⟩ := h c
  rw [e0, e1, e2, e3, e4] at h0
  exact ⟨h0.trans (Cert.Queries.final m c).symm, hargs⟩

open Cert.Reference38Ideal in
/-- The reference of the keys' norm and rotary turn runs, keeps its arguments, and has no counter to leave raised. -/
theorem frame_reference38
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
        ∧ r.2.sem = fun _ => 0) :=
  (θ_run defs _ _).mono (fun r h => ⟨fun c => (h c).2, sem_eq_zero_of_no_sems (by decide) r.2⟩)
    (Cert.Reference38Ideal.Value.run (F := Ideal) m g)

open Cert.Reference38Ideal in
/-- The results of the reference of the keys' norm and rotary turn, as functions of its argument arrays. -/
theorem run_reference38
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v42) = Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)) :=
  (θ_run defs _ _).mono (fun r h c =>
    ⟨(h c).1.trans (Read.val_main_v42_eq (F := Ideal) _ _),
      (h c).2⟩)
    (Cert.Reference38Ideal.Value.run (F := Ideal) m g)

/-- The kernel of the keys' norm and rotary turn computes what its reference does. -/
theorem algebraic38 : Cert.algebraic_Kernel38Ideal_Reference38Ideal := by
  intro m g m' g' hpre hagree
  refine ⟨fun c => (Cert.Kernel38Ideal.Gen.dats m 0 c).arrAt 6 Cert.Kernel38Ideal.cfg0.N,
    Cert.Kernel38Ideal.Value.run_blocks (F := Ideal) m g, ?_⟩
  refine (θ_run Cert.Reference38Ideal.defs _ _).mono (fun r h c => ?_) (run_reference38 m' g')
  obtain ⟨e0, e1, e2, e3, e4, e5⟩ := hagree c
  obtain ⟨h0, hargs⟩ := h c
  rw [e0, e1, e2, e3, e4, e5] at h0
  exact ⟨h0.trans (Cert.Keys.final m c).symm, hargs⟩

end Cert.Proof

end
-- ==== Proof.Adamw.lean ====
/- The optimiser's step for the modulation's weights. -/
module

public import proofs.«01_k».proof.Proof.Gen.Kernel39Ideal.Value
public import proofs.«01_k».proof.Proof.Gen.Reference39Ideal.Read
public import Idealize.ShloMosaic.Lib.Pipeline.ValueKit
public import Idealize.ShloMosaic.Lib.StableHlo.ReadAt

@[expose] public section

set_option maxRecDepth 16384

noncomputable section

namespace Cert.Adamw

open Idealize.ShloMosaic Cert.Kernel39Ideal Cert.Kernel39Ideal.Gen Idealize.ShloMosaic.TcCoe
open Cert.Reference39Ideal.Read

/-- The first moment's next value. -/
def mom (g m : EReal) : EReal := Ideal.ofBits FTy.f32 0x3F666666#32 * m + Ideal.ofBits FTy.f32 0x3DCCCCCD#32 * g
/-- The second moment's next value. -/
def var (g v : EReal) : EReal := Ideal.ofBits FTy.f32 0x3F7FBE77#32 * v + Ideal.ofBits FTy.f32 0x3A83126F#32 * (g * g)
/-- The change of a weight, from its moments' next values. -/
def change (w m v : EReal) : EReal :=
  Ideal.ofBits FTy.f32 0xBA83126F#32 * (Ideal.div (m * Ideal.ofBits FTy.f32 0x3FC48605#32)
    (Ideal.sqrt (v * Ideal.ofBits FTy.f32 0x42C8E6D3#32) + Ideal.ofBits FTy.f32 0x322BCC77#32)
    + Ideal.ofBits FTy.f32 0x3C23D70A#32 * w)

/-- The entry of an array under a row of all its layers' rows, one layer after the other. -/
def at3 (a : Vec Ideal S4x1024x1152 .f32) (i : S4096x1152.Idx) : EReal :=
  a (ix3 ⟨(i 0).val / 1024, by have : (i 0).val < 4096 := (i 0).isLt; omega⟩ ⟨(i 0).val % 1024, by omega⟩ (i 1))

section ref
variable (w g m v : Vec Ideal S4x1024x1152 .f32)
/-- The reference's first moment at an index. -/
theorem v4_apply (j : S4x1024x1152.Idx) : val_main_v4 (F := Ideal) g m j = mom (g j) (m j) := by
  unfold val_main_v4 val_main_v3 val_main_v2 val_main_v1 val_main_v0 val_main_cst val_main_cst_0 mom
  pointwise
/-- The reference's second moment at an index. -/
theorem v10_apply (j : S4x1024x1152.Idx) : val_main_v10 (F := Ideal) g v j = var (g j) (v j) := by
  unfold val_main_v10 val_main_v9 val_main_v8 val_main_v7 val_main_v6 val_main_v5 val_main_cst_1 val_main_cst_2 var
  pointwise
/-- The reference's change at an index. -/
theorem v23_apply (j : S4x1024x1152.Idx) :
    val_main_v23 (F := Ideal) w g m v j = change (w j) (mom (g j) (m j)) (var (g j) (v j)) := by
  rw [← v4_apply, ← v10_apply]
  unfold val_main_v23 val_main_v22 val_main_v21 val_main_v20 val_main_v19 val_main_v18 val_main_v17 val_main_v16
    val_main_v15 val_main_v14 val_main_v13 val_main_v12 val_main_v11 val_main_cst_3 val_main_cst_4 val_main_cst_5
    val_main_cst_6 val_main_cst_7 change
  generalize val_main_v4 (F := Ideal) g m = a
  generalize val_main_v10 (F := Ideal) g v = b
  pointwise
/-- The reference's array of the first moment. -/
theorem v25_apply (i : S4096x1152.Idx) : val_main_v25 (F := Ideal) g m i = mom (at3 g i) (at3 m i) := by
  unfold at3
  rw [← v4_apply]
  unfold val_main_v25
  generalize val_main_v4 (F := Ideal) g m = y
  pointwise
/-- The reference's array of the second moment. -/
theorem v26_apply (i : S4096x1152.Idx) : val_main_v26 (F := Ideal) g v i = var (at3 g i) (at3 v i) := by
  unfold at3
  rw [← v10_apply]
  unfold val_main_v26
  generalize val_main_v10 (F := Ideal) g v = y
  pointwise
/-- The reference's array of the change. -/
theorem v24_apply (i : S4096x1152.Idx) :
    val_main_v24 (F := Ideal) w g m v i = change (at3 w i) (mom (at3 g i) (at3 m i)) (var (at3 g i) (at3 v i)) := by
  unfold at3
  rw [← v23_apply]
  unfold val_main_v24
  generalize val_main_v23 (F := Ideal) w g m v = y
  pointwise
end ref

section pay
variable (w g m v : Vec Ideal S512x1152 .f32)
/-- The kernel's first moment at an index. -/
theorem pay2_apply (j : S512x1152.Idx) : k0_pay2 g m j = mom (g j) (m j) := by
  unfold k0_pay2 k0_pay1 mom
  pointwise
/-- The kernel's second moment at an index. -/
theorem pay3_apply (j : S512x1152.Idx) : k0_pay3 g v j = var (g j) (v j) := by
  unfold k0_pay3 k0_pay1 var
  pointwise
/-- The kernel's change at an index. -/
theorem pay4_apply (j : S512x1152.Idx) : k0_pay4 g m v w j = change (w j) (mom (g j) (m j)) (var (g j) (v j)) := by
  rw [← pay2_apply, ← pay3_apply]
  unfold k0_pay4 change
  generalize k0_pay2 g m = a
  generalize k0_pay3 g v = b
  pointwise
end pay

variable (m : (ℓ : Loc nD τ sig) → Buf (Elt Ideal) ℓ) (c : Dev nD)

/-- The windows' block indices. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The rows of the weights. -/
theorem rows_w (i : S4096x1152.Idx) : (V m c main_v0 : Vec Ideal S4096x1152 .f32) i = at3 (m ((c : Thread nD τ).loc main_arg0)) i := by
  unfold V at3
  after_reads_at
/-- The rows of the gradient. -/
theorem rows_g (i : S4096x1152.Idx) : (V m c main_v1 : Vec Ideal S4096x1152 .f32) i = at3 (m ((c : Thread nD τ).loc main_arg1)) i := by
  unfold V at3
  after_reads_at
/-- The rows of the first moment. -/
theorem rows_m (i : S4096x1152.Idx) : (V m c main_v2 : Vec Ideal S4096x1152 .f32) i = at3 (m ((c : Thread nD τ).loc main_arg2)) i := by
  unfold V at3
  after_reads_at
/-- The rows of the second moment. -/
theorem rows_v (i : S4096x1152.Idx) : (V m c main_v3 : Vec Ideal S4096x1152 .f32) i = at3 (m ((c : Thread nD τ).loc main_arg3)) i := by
  unfold V at3
  after_reads_at

/-- The row of the array a row of a block is. -/
def row (t : Fin cfg0.N) (y : S512x1152.Idx) : S4096x1152.Idx :=
  ix2 ⟨512 * t.val + (y 0).val, by have : t.val < 8 := t.isLt; have : (y 0).val < 512 := (y 0).isLt; omega⟩ (y 1)

/-- The weights, as a point reads them. -/
theorem blk_w (t : Fin cfg0.N) (y : S512x1152.Idx) : (iblk m c 0 t : Vec Ideal S512x1152 .f32) y = at3 (m ((c : Thread nD τ).loc main_arg0)) (row t y) := by
  rw [← rows_w]
  unfold row
  blk_point [iblk, idx t]
/-- The gradient, as a point reads it. -/
theorem blk_g (t : Fin cfg0.N) (y : S512x1152.Idx) : (iblk m c 1 t : Vec Ideal S512x1152 .f32) y = at3 (m ((c : Thread nD τ).loc main_arg1)) (row t y) := by
  rw [← rows_g]
  unfold row
  blk_point [iblk, idx t]
/-- The first moment, as a point reads it. -/
theorem blk_m (t : Fin cfg0.N) (y : S512x1152.Idx) : (iblk m c 2 t : Vec Ideal S512x1152 .f32) y = at3 (m ((c : Thread nD τ).loc main_arg2)) (row t y) := by
  rw [← rows_m]
  unfold row
  blk_point [iblk, idx t]
/-- The second moment, as a point reads it. -/
theorem blk_v (t : Fin cfg0.N) (y : S512x1152.Idx) : (iblk m c 3 t : Vec Ideal S512x1152 .f32) y = at3 (m ((c : Thread nD τ).loc main_arg3)) (row t y) := by
  rw [← rows_v]
  unfold row
  blk_point [iblk, idx t]

/-- The array of the change. -/
theorem final_w : (dats m 0 c).arrAt 4 cfg0.N
    = val_main_v24 (F := Ideal) (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t _ y => ?_
  blk_simp
  rw [after0_4]
  have e : (win0_4.blk t).view.emb y = row t y := by
    unfold row
    blk_ext [idx t]
  rw [e]
  frame_out
  rw [pay4_apply, v24_apply, blk_w, blk_g, blk_m, blk_v]

/-- The array of the first moment. -/
theorem final_m : (dats m 0 c).arrAt 5 cfg0.N
    = val_main_v25 (F := Ideal) (m ((c : Thread nD τ).loc main_arg1)) (m ((c : Thread nD τ).loc main_arg2)) := by
  refine (dats m 0 c).arrAt_eq_of_covers 5 _ (by decide +kernel) fun t _ y => ?_
  blk_simp
  rw [after0_5]
  have e : (win0_5.blk t).view.emb y = row t y := by
    unfold row
    blk_ext [idx t]
  rw [e]
  frame_out
  rw [pay2_apply, v25_apply, blk_g, blk_m]

/-- The array of the second moment. -/
theorem final_v : (dats m 0 c).arrAt 6 cfg0.N
    = val_main_v26 (F := Ideal) (m ((c : Thread nD τ).loc main_arg1)) (m ((c : Thread nD τ).loc main_arg3)) := by
  refine (dats m 0 c).arrAt_eq_of_covers 6 _ (by decide +kernel) fun t _ y => ?_
  blk_simp
  rw [after0_6]
  have e : (win0_6.blk t).view.emb y = row t y := by
    unfold row
    blk_ext [idx t]
  rw [e]
  frame_out
  rw [pay3_apply, v26_apply, blk_g, blk_v]

end Cert.Adamw

end
-- ==== Proof.Optimiser.lean ====
/- The claims about the optimiser's step for the modulation's weights: each reference's run and frame, and each kernel's arrays against them. -/
module

public import proofs.«01_k».proof.Defs
public import proofs.«01_k».proof.Proof.Gen.Kernel39
public import proofs.«01_k».proof.Proof.Gen.Kernel39.Frame
public import proofs.«01_k».proof.Proof.Gen.Kernel39Ideal
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.Adamw
public import Idealize.ShloMosaic.Lib.Quiescent
public import Idealize.ShloMosaic.Adequacy
public import Idealize.ShloMosaic.Init

@[expose] public section

noncomputable section

namespace Cert.Proof

open Idealize.ShloMosaic Idealize.SL.Sem

open Cert.Reference39Ideal in
/-- The reference of the optimiser's step for the modulation's weights runs, keeps its arguments, and has no counter to leave raised. -/
theorem frame_reference39
    (m : (ℓ : Loc nD τ sig) → Buf (Elt Ideal) ℓ)
    (g : Dev nD → PrngReg) :
    θ_run (defs (F := Ideal)) (onTc (τ := τ) (main (F := Ideal)))
      ⟨m, fun _ => 0, g⟩ (fun r => (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
        ∧ r.2.sem = fun _ => 0) :=
  (θ_run defs _ _).mono (fun r h => ⟨fun c => (h c).2.2.2, sem_eq_zero_of_no_sems (by decide) r.2⟩)
    (Cert.Reference39Ideal.Value.run (F := Ideal) m g)

open Cert.Reference39Ideal in
/-- The results of the reference of the optimiser's step for the modulation's weights, as functions of its argument arrays. -/
theorem run_reference39
    (m : (ℓ : Loc nD τ sig) → Buf (Elt Ideal) ℓ)
    (g : Dev nD → PrngReg) :
    θ_run (defs (F := Ideal)) (onTc (τ := τ) (main (F := Ideal)))
      ⟨m, fun _ => 0, g⟩ (fun r => ∀ c : Dev nD,
        r.2.mem ((c.tc : Thread nD τ).loc main_v24) = Read.val_main_v24 (F := Ideal) (m ((c.tc : Thread nD τ).loc main_arg0)) (m ((c.tc : Thread nD τ).loc main_arg1)) (m ((c.tc : Thread nD τ).loc main_arg2)) (m ((c.tc : Thread nD τ).loc main_arg3))
        ∧ r.2.mem ((c.tc : Thread nD τ).loc main_v25) = Read.val_main_v25 (F := Ideal) (m ((c.tc : Thread nD τ).loc main_arg1)) (m ((c.tc : Thread nD τ).loc main_arg2))
        ∧ r.2.mem ((c.tc : Thread nD τ).loc main_v26) = Read.val_main_v26 (F := Ideal) (m ((c.tc : Thread nD τ).loc main_arg1)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run defs _ _).mono (fun r h c =>
    ⟨(h c).1.trans (Read.val_main_v24_eq (F := Ideal) _ _ _ _),
      (h c).2.1.trans (Read.val_main_v25_eq (F := Ideal) _ _),
      (h c).2.2.1.trans (Read.val_main_v26_eq (F := Ideal) _ _),
      (h c).2.2.2⟩)
    (Cert.Reference39Ideal.Value.run (F := Ideal) m g)

/-- The kernel of the optimiser's step for the modulation's weights computes what its reference does. -/
theorem algebraic39 : Cert.algebraic_Kernel39Ideal_Reference39Ideal := by
  intro m g m' g' hpre hagree
  refine ⟨fun c => (Cert.Kernel39Ideal.Gen.dats m 0 c).arrAt 4 Cert.Kernel39Ideal.cfg0.N,
    fun c => (Cert.Kernel39Ideal.Gen.dats m 0 c).arrAt 5 Cert.Kernel39Ideal.cfg0.N,
    fun c => (Cert.Kernel39Ideal.Gen.dats m 0 c).arrAt 6 Cert.Kernel39Ideal.cfg0.N,
    Cert.Kernel39Ideal.Value.run_blocks (F := Ideal) m g, ?_⟩
  refine (θ_run Cert.Reference39Ideal.defs _ _).mono (fun r h c => ?_) (run_reference39 m' g')
  obtain ⟨e0, e1, e2, e3⟩ := hagree c
  obtain ⟨h0, h1, h2, hargs⟩ := h c
  rw [e0, e1, e2, e3] at h0
  rw [e1, e2] at h1
  rw [e1, e3] at h2
  exact ⟨h0.trans (Cert.Adamw.final_w m c).symm, h1.trans (Cert.Adamw.final_m m c).symm, h2.trans (Cert.Adamw.final_v m c).symm, hargs⟩

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Agree
public import proofs.«01_k».proof.Proof.Finite
public import proofs.«01_k».proof.Proof.Ffn
public import proofs.«01_k».proof.Proof.Mixer
public import proofs.«01_k».proof.Proof.Heads
public import proofs.«01_k».proof.Proof.Conv
public import proofs.«01_k».proof.Proof.Products
public import proofs.«01_k».proof.Proof.SecondFfn
public import proofs.«01_k».proof.Proof.Norms
public import proofs.«01_k».proof.Proof.Turns
public import proofs.«01_k».proof.Proof.Optimiser
public import Idealize.ShloMosaic.Lib.Quiescent
public import Idealize.ShloMosaic.Adequacy
public import Idealize.ShloMosaic.Init

@[expose] public section

noncomputable section

namespace Cert.Proof

open Idealize.ShloMosaic Idealize.SL.Sem Cert.Attn

attribute [local instance] preFacts

/-- The reference runs, keeps its arguments, and has no counter to leave raised. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
        ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run (F := Ideal) m g)

/-- The reference's five results, as functions of its argument arrays. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v159) = Cert.ReferenceIdeal.Read.val_main_v159 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v160) = Cert.ReferenceIdeal.Read.val_main_v160 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v161) = Cert.ReferenceIdeal.Read.val_main_v161 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v162) = Cert.ReferenceIdeal.Read.val_main_v162 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_v163) = Cert.ReferenceIdeal.Read.val_main_v163 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono (fun r h c =>
    ⟨(h c).1.trans (Cert.ReferenceIdeal.Read.val_main_v159_eq (F := Ideal) (StableHlo.launchContents m c)),
      (h c).2.1.trans (Cert.ReferenceIdeal.Read.val_main_v160_eq (F := Ideal) (StableHlo.launchContents m c)),
      (h c).2.2.1.trans (Cert.ReferenceIdeal.Read.val_main_v161_eq (F := Ideal) (StableHlo.launchContents m c)),
      (h c).2.2.2.1.trans (Cert.ReferenceIdeal.Read.val_main_v162_eq (F := Ideal) (StableHlo.launchContents m c)),
      (h c).2.2.2.2.1.trans (Cert.ReferenceIdeal.Read.val_main_v163_eq (F := Ideal) (StableHlo.launchContents m c)),
      (h c).2.2.2.2.2⟩)
    (Cert.ReferenceIdeal.Value.run (F := Ideal) m g)

/-- Where the queries and the keys are finite, the kernel's five gradients are those of `jax.vjp` of the attention. -/
theorem algebraic : Cert.algebraic_KernelIdeal_ReferenceIdeal_pre_scores_finite := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N,
    fun c => (Cert.KernelIdeal.Gen.dats m 0 c).arrAt 8 Cert.KernelIdeal.cfg0.N,
    fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks (F := Ideal) m g, ?_⟩
  refine (θ_run Cert.ReferenceIdeal.defs _ _).mono (fun r h c => ?_) (run_reference m' g')
  obtain ⟨hq, hk⟩ := real_of_pre _ _ _ _ (hpre c)
  obtain ⟨e0, e1, e2, e3⟩ := hagree c
  obtain ⟨h0, h1, h2, h3, h4, hargs⟩ := h c
  rw [e0, e1, e2, e3] at h0 h1 h2
  rw [e0, e1, e3] at h3 h4
  exact ⟨h0.trans (agree_q m c hq hk).symm, h1.trans (agree_kl m c hq hk).symm, h2.trans (agree_kc m c hq hk).symm,
    h3.trans (agree_vl m c hq hk).symm, h4.trans (agree_vc m c hq hk).symm, hargs⟩

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Kernel27.Gen.facts, Cert.Kernel27Ideal.Gen.facts, Cert.Reference27Ideal.Gen.facts,
    Cert.Kernel28.Gen.facts, Cert.Kernel28Ideal.Gen.facts, Cert.Reference28Ideal.Gen.facts,
    Cert.Kernel29.Gen.facts, Cert.Kernel29Ideal.Gen.facts, Cert.Reference29Ideal.Gen.facts,
    Cert.Kernel30.Gen.facts, Cert.Kernel30Ideal.Gen.facts, Cert.Reference30Ideal.Gen.facts,
    Cert.Kernel31.Gen.facts, Cert.Kernel31Ideal.Gen.facts, Cert.Reference31Ideal.Gen.facts,
    Cert.Kernel32.Gen.facts, Cert.Kernel32Ideal.Gen.facts, Cert.Reference32Ideal.Gen.facts,
    Cert.Kernel33.Gen.facts, Cert.Kernel33Ideal.Gen.facts, Cert.Reference33Ideal.Gen.facts,
    Cert.Kernel34.Gen.facts, Cert.Kernel34Ideal.Gen.facts, Cert.Reference34Ideal.Gen.facts,
    Cert.Kernel35.Gen.facts, Cert.Kernel35Ideal.Gen.facts, Cert.Reference35Ideal.Gen.facts,
    Cert.Kernel36.Gen.facts, Cert.Kernel36Ideal.Gen.facts, Cert.Reference36Ideal.Gen.facts,
    Cert.Kernel37.Gen.facts, Cert.Kernel37Ideal.Gen.facts, Cert.Reference37Ideal.Gen.facts,
    Cert.Kernel38.Gen.facts, Cert.Kernel38Ideal.Gen.facts, Cert.Reference38Ideal.Gen.facts,
    Cert.Kernel39.Gen.facts, Cert.Kernel39Ideal.Gen.facts, Cert.Reference39Ideal.Gen.facts,
    preFacts, Cert.Gate.dactFacts, Cert.Gate.upFacts,
    Cert.Fwd.attendFacts,
    fun m g _ => Cert.Kernel.Gen.frame (F := Bits) m g,
    fun m g _ => Cert.KernelIdeal.Gen.frame (F := Ideal) m g,
    fun m g _ => Cert.KernelIdeal.Gen.frame (F := Ideal) m g,
    fun m g _ => frame_reference m g,
    fun m g _ => frame_reference m g,
    fun m g _ => Cert.Kernel2.Gen.frame (F := Bits) m g,
    fun m g _ => Cert.Kernel2Ideal.Gen.frame (F := Ideal) m g,
    fun m g _ => Cert.Kernel2Ideal.Gen.frame (F := Ideal) m g,
    fun m g _ => frame_reference2 m g,
    fun m g _ => frame_reference2 m g,
    fun m g _ => Cert.Kernel3.Gen.frame (F := Bits) m g,
    fun m g _ => Cert.Kernel3Ideal.Gen.frame (F := Ideal) m g,
    fun m g _ => frame_reference3 m g,
    fun m g _ => Cert.Kernel4.Gen.frame (F := Bits) m g,
    fun m g _ => Cert.Kernel4Ideal.Gen.frame (F := Ideal) m g,
    fun m g _ => frame_reference4 m g,
    fun m g _ => Cert.Kernel5.Gen.frame (F := Bits) m g,
    fun m g _ => Cert.Kernel5Ideal.Gen.frame (F := Ideal) m g,
    fun m g _ => Cert.Kernel5Ideal.Gen.frame (F := Ideal) m g,
    fun m g _ => frame_reference5 m g,
    fun m g _ => frame_reference5 m g,
    fun m g _ => Cert.Kernel6.Gen.frame (F := Bits) m g,
    fun m g _ => Cert.Kernel6Ideal.Gen.frame (F := Ideal) m g,
    fun m g _ => Cert.Kernel6Ideal.Gen.frame (F := Ideal) m g,
    fun m g _ => frame_reference6 m g,
    fun m g _ => frame_reference6 m g,
    fun m g _ => Cert.Kernel7.Gen.frame (F := Bits) m g,
    fun m g _ => Cert.Kernel7Ideal.Gen.frame (F := Ideal) m g,
    fun m g _ => frame_reference7 m g,
    fun m g _ => Cert.Kernel8.Gen.frame (F := Bits) m g,
    fun m g _ => Cert.Kernel8Ideal.Gen.frame (F := Ideal) m g,
    fun m g _ => frame_reference8 m g,
    fun m g _ => Cert.Kernel9.Gen.frame (F := Bits) m g,
    fun m g _ => Cert.Kernel9Ideal.Gen.frame (F := Ideal) m g,
    fun m g _ => frame_reference9 m g,
    fun m g _ => Cert.Kernel10.Gen.frame (F := Bits) m g,
    fun m g _ => Cert.Kernel10Ideal.Gen.frame (F := Ideal) m g,
    fun m g _ => frame_reference10 m g,
    fun m g _ => Cert.Kernel11.Gen.frame (F := Bits) m g,
    fun m g _ => Cert.Kernel11Ideal.Gen.frame (F := Ideal) m g,
    fun m g _ => frame_reference11 m g,
    fun m g _ => Cert.Kernel12.Gen.frame (F := Bits) m g,
    fun m g _ => Cert.Kernel12Ideal.Gen.frame (F := Ideal) m g,
    fun m g _ => frame_reference12 m g,
    fun m g _ => Cert.Kernel13.Gen.frame (F := Bits) m g,
    fun m g _ => Cert.Kernel13Ideal.Gen.frame (F := Ideal) m g,
    fun m g _ => Cert.Kernel13Ideal.Gen.frame (F := Ideal) m g,
    fun m g _ => frame_reference13 m g,
    fun m g _ => frame_reference13 m g,
    fun m g _ => Cert.Kernel14.Gen.frame (F := Bits) m g,
    fun m g _ => Cert.Kernel14Ideal.Gen.frame (F := Ideal) m g,
    fun m g _ => Cert.Kernel14Ideal.Gen.frame (F := Ideal) m g,
    fun m g _ => frame_reference14 m g,
    fun m g _ => frame_reference14 m g,
    fun m g _ => Cert.Kernel15.Gen.frame (F := Bits) m g,
    fun m g _ => Cert.Kernel15Ideal.Gen.frame (F := Ideal) m g,
    fun m g _ => frame_reference15 m g,
    fun m g _ => Cert.Kernel16.Gen.frame (F := Bits) m g,
    fun m g _ => Cert.Kernel16Ideal.Gen.frame (F := Ideal) m g,
    fun m g _ => frame_reference16 m g,
    fun m g _ => Cert.Kernel17.Gen.frame (F := Bits) m g,
    fun m g _ => Cert.Kernel17Ideal.Gen.frame (F := Ideal) m g,
    fun m g _ => frame_reference17 m g,
    fun m g _ => Cert.Kernel18.Gen.frame (F := Bits) m g,
    fun m g _ => Cert.Kernel18Ideal.Gen.frame (F := Ideal) m g,
    fun m g _ => frame_reference18 m g,
    fun m g _ => Cert.Kernel19.Gen.frame (F := Bits) m g,
    fun m g _ => Cert.Kernel19Ideal.Gen.frame (F := Ideal) m g,
    fun m g _ => frame_reference19 m g,
    fun m g _ => Cert.Kernel20.Gen.frame (F := Bits) m g,
    fun m g _ => Cert.Kernel20Ideal.Gen.frame (F := Ideal) m g,
    fun m g _ => frame_reference20 m g,
    fun m g _ => Cert.Kernel21.Gen.frame (F := Bits) m g,
    fun m g _ => Cert.Kernel21Ideal.Gen.frame (F := Ideal) m g,
    fun m g _ => frame_reference21 m g,
    fun m g _ => Cert.Kernel22.Gen.frame (F := Bits) m g,
    fun m g _ => Cert.Kernel22Ideal.Gen.frame (F := Ideal) m g,
    fun m g _ => frame_reference22 m g,
    fun m g _ => Cert.Kernel23.Gen.frame (F := Bits) m g,
    fun m g _ => Cert.Kernel23Ideal.Gen.frame (F := Ideal) m g,
    fun m g _ => frame_reference23 m g,
    fun m g _ => Cert.Kernel24.Gen.frame (F := Bits) m g,
    fun m g _ => Cert.Kernel24Ideal.Gen.frame (F := Ideal) m g,
    fun m g _ => frame_reference24 m g,
    fun m g _ => Cert.Kernel25.Gen.frame (F := Bits) m g,
    fun m g _ => Cert.Kernel25Ideal.Gen.frame (F := Ideal) m g,
    fun m g _ => frame_reference25 m g,
    fun m g _ => Cert.Kernel26.Gen.frame (F := Bits) m g,
    fun m g _ => Cert.Kernel26Ideal.Gen.frame (F := Ideal) m g,
    fun m g _ => Cert.Kernel26Ideal.Gen.frame (F := Ideal) m g,
    fun m g _ => frame_reference26 m g,
    fun m g _ => frame_reference26 m g,
    fun m g _ => Cert.Kernel27.Gen.frame (F := Bits) m g,
    fun m g _ => Cert.Kernel27Ideal.Gen.frame (F := Ideal) m g,
    fun m g _ => frame_reference27 m g,
    fun m g _ => Cert.Kernel28.Gen.frame (F := Bits) m g,
    fun m g _ => Cert.Kernel28Ideal.Gen.frame (F := Ideal) m g,
    fun m g _ => frame_reference28 m g,
    fun m g _ => Cert.Kernel29.Gen.frame (F := Bits) m g,
    fun m g _ => Cert.Kernel29Ideal.Gen.frame (F := Ideal) m g,
    fun m g _ => Cert.Kernel29Ideal.Gen.frame (F := Ideal) m g,
    fun m g _ => frame_reference29 m g,
    fun m g _ => frame_reference29 m g,
    fun m g _ => Cert.Kernel30.Gen.frame (F := Bits) m g,
    fun m g _ => Cert.Kernel30Ideal.Gen.frame (F := Ideal) m g,
    fun m g _ => frame_reference30 m g,
    fun m g _ => Cert.Kernel31.Gen.frame (F := Bits) m g,
    fun m g _ => Cert.Kernel31Ideal.Gen.frame (F := Ideal) m g,
    fun m g _ => frame_reference31 m g,
    fun m g _ => Cert.Kernel32.Gen.frame (F := Bits) m g,
    fun m g _ => Cert.Kernel32Ideal.Gen.frame (F := Ideal) m g,
    fun m g _ => frame_reference32 m g,
    fun m g _ => Cert.Kernel33.Gen.frame (F := Bits) m g,
    fun m g _ => Cert.Kernel33Ideal.Gen.frame (F := Ideal) m g,
    fun m g _ => frame_reference33 m g,
    fun m g _ => Cert.Kernel34.Gen.frame (F := Bits) m g,
    fun m g _ => Cert.Kernel34Ideal.Gen.frame (F := Ideal) m g,
    fun m g _ => frame_reference34 m g,
    fun m g _ => Cert.Kernel35.Gen.frame (F := Bits) m g,
    fun m g _ => Cert.Kernel35Ideal.Gen.frame (F := Ideal) m g,
    fun m g _ => frame_reference35 m g,
    fun m g _ => Cert.Kernel36.Gen.frame (F := Bits) m g,
    fun m g _ => Cert.Kernel36Ideal.Gen.frame (F := Ideal) m g,
    fun m g _ => frame_reference36 m g,
    fun m g _ => Cert.Kernel37.Gen.frame (F := Bits) m g,
    fun m g _ => Cert.Kernel37Ideal.Gen.frame (F := Ideal) m g,
    fun m g _ => frame_reference37 m g,
    fun m g _ => Cert.Kernel38.Gen.frame (F := Bits) m g,
    fun m g _ => Cert.Kernel38Ideal.Gen.frame (F := Ideal) m g,
    fun m g _ => frame_reference38 m g,
    fun m g _ => Cert.Kernel39.Gen.frame (F := Bits) m g,
    fun m g _ => Cert.Kernel39Ideal.Gen.frame (F := Ideal) m g,
    fun m g _ => frame_reference39 m g,
    trivial, algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25,
    trivial, algebraic26,
    trivial, algebraic27,
    trivial, algebraic28,
    trivial, algebraic29,
    trivial, algebraic30,
    trivial, algebraic31,
    trivial, algebraic32,
    trivial, algebraic33,
    trivial, algebraic34,
    trivial, algebraic35,
    trivial, algebraic36,
    trivial, algebraic37,
    trivial, algebraic38,
    trivial, algebraic39⟩

end Cert.Proof

end
